-- ==== Defs.lean ====
def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnGradIdeal (m : (ℓ : Loc Cert.FfnGradIdeal.nD Cert.FfnGradIdeal.τ Cert.FfnGradIdeal.sig) → Buf (Elt Ideal) ℓ) : Prop :=
  True

def Pre_FfnGradIdeal_ffn_finite [hPre_ffn_finite : Cert.Pre_ffn_finite.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnIdeal (m : (ℓ : Loc Cert.FfnIdeal.nD Cert.FfnIdeal.τ Cert.FfnIdeal.sig) → Buf (Elt Ideal) ℓ) : Prop :=
  True

def Pre_WinBwd (m : (ℓ : Loc Cert.WinBwd.nD Cert.WinBwd.τ Cert.WinBwd.sig) → Buf (Elt Bits) ℓ) : Prop :=
  True

def Pre_WinBwdIdeal (m : (ℓ : Loc Cert.WinBwdIdeal.nD Cert.WinBwdIdeal.τ Cert.WinBwdIdeal.sig) → Buf (Elt Ideal) ℓ) : Prop :=
  True

def Pre_WinGradIdeal (m : (ℓ : Loc Cert.WinGradIdeal.nD Cert.WinGradIdeal.τ Cert.WinGradIdeal.sig) → Buf (Elt Ideal) ℓ) : Prop :=
  True

def Pre_WoutBwd (m : (ℓ : Loc Cert.WoutBwd.nD Cert.WoutBwd.τ Cert.WoutBwd.sig) → Buf (Elt Bits) ℓ) : Prop :=
  True

def Pre_WoutBwdIdeal (m : (ℓ : Loc Cert.WoutBwdIdeal.nD Cert.WoutBwdIdeal.τ Cert.WoutBwdIdeal.sig) → Buf (Elt Ideal) ℓ) : Prop :=
  True

def Pre_WoutGradIdeal (m : (ℓ : Loc Cert.WoutGradIdeal.nD Cert.WoutGradIdeal.τ Cert.WoutGradIdeal.sig) → Buf (Elt Ideal) ℓ) : Prop :=
  True

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_InprojIdeal (m : (ℓ : Loc Cert.InprojIdeal.nD Cert.InprojIdeal.τ Cert.InprojIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixIdeal (m : (ℓ : Loc Cert.MixIdeal.nD Cert.MixIdeal.τ Cert.MixIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_mix_finite [hPre_mix_finite : Cert.Pre_mix_finite.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9))) = (fun _ => 1#1)

def Pre_MixGradIdeal (m : (ℓ : Loc Cert.MixGradIdeal.nD Cert.MixGradIdeal.τ Cert.MixGradIdeal.sig) → Buf (Elt Ideal) ℓ) : Prop :=
  True

def Pre_MixGradIdeal_mix_finite [hPre_mix_finite : Cert.Pre_mix_finite.Facts] (m : (ℓ : Loc Cert.MixGradIdeal.nD Cert.MixGradIdeal.τ Cert.MixGradIdeal.sig) → Buf (Elt Ideal) ℓ) : Prop :=
  ∀ c : Dev Cert.MixGradIdeal.nD,
    (Cert.Pre_mix_finite.fn (F := Ideal) (m ((c.tc : Thread Cert.MixGradIdeal.nD Cert.MixGradIdeal.τ).loc Cert.MixGradIdeal.main_arg0)) (m ((c.tc : Thread Cert.MixGradIdeal.nD Cert.MixGradIdeal.τ).loc Cert.MixGradIdeal.main_arg1)) (m ((c.tc : Thread Cert.MixGradIdeal.nD Cert.MixGradIdeal.τ).loc Cert.MixGradIdeal.main_arg2)) (m ((c.tc : Thread Cert.MixGradIdeal.nD Cert.MixGradIdeal.τ).loc Cert.MixGradIdeal.main_arg3)) (m ((c.tc : Thread Cert.MixGradIdeal.nD Cert.MixGradIdeal.τ).loc Cert.MixGradIdeal.main_arg4)) (m ((c.tc : Thread Cert.MixGradIdeal.nD Cert.MixGradIdeal.τ).loc Cert.MixGradIdeal.main_arg5)) (m ((c.tc : Thread Cert.MixGradIdeal.nD Cert.MixGradIdeal.τ).loc Cert.MixGradIdeal.main_arg6)) (m ((c.tc : Thread Cert.MixGradIdeal.nD Cert.MixGradIdeal.τ).loc Cert.MixGradIdeal.main_arg7)) (m ((c.tc : Thread Cert.MixGradIdeal.nD Cert.MixGradIdeal.τ).loc Cert.MixGradIdeal.main_arg8)) (m ((c.tc : Thread Cert.MixGradIdeal.nD Cert.MixGradIdeal.τ).loc Cert.MixGradIdeal.main_arg9))) = (fun _ => 1#1)

def Pre_TapsStep (m : (ℓ : Loc Cert.TapsStep.nD Cert.TapsStep.τ Cert.TapsStep.sig) → Buf (Elt Bits) ℓ) : Prop :=
  True

def Pre_TapsStepIdeal (m : (ℓ : Loc Cert.TapsStepIdeal.nD Cert.TapsStepIdeal.τ Cert.TapsStepIdeal.sig) → Buf (Elt Ideal) ℓ) : Prop :=
  True

def Pre_TapsIdeal (m : (ℓ : Loc Cert.TapsIdeal.nD Cert.TapsIdeal.τ Cert.TapsIdeal.sig) → Buf (Elt Ideal) ℓ) : Prop :=
  True

def Pre_WoutStep (m : (ℓ : Loc Cert.WoutStep.nD Cert.WoutStep.τ Cert.WoutStep.sig) → Buf (Elt Bits) ℓ) : Prop :=
  True

def Pre_WoutStepIdeal (m : (ℓ : Loc Cert.WoutStepIdeal.nD Cert.WoutStepIdeal.τ Cert.WoutStepIdeal.sig) → Buf (Elt Ideal) ℓ) : Prop :=
  True

def Pre_WoutIdeal (m : (ℓ : Loc Cert.WoutIdeal.nD Cert.WoutIdeal.τ Cert.WoutIdeal.sig) → Buf (Elt Ideal) ℓ) : Prop :=
  True

def Pre_WinStep (m : (ℓ : Loc Cert.WinStep.nD Cert.WinStep.τ Cert.WinStep.sig) → Buf (Elt Bits) ℓ) : Prop :=
  True

def Pre_WinStepIdeal (m : (ℓ : Loc Cert.WinStepIdeal.nD Cert.WinStepIdeal.τ Cert.WinStepIdeal.sig) → Buf (Elt Ideal) ℓ) : Prop :=
  True

def Pre_WinIdeal (m : (ℓ : Loc Cert.WinIdeal.nD Cert.WinIdeal.τ Cert.WinIdeal.sig) → Buf (Elt Ideal) ℓ) : Prop :=
  True

def Pre_WdownStep (m : (ℓ : Loc Cert.WdownStep.nD Cert.WdownStep.τ Cert.WdownStep.sig) → Buf (Elt Bits) ℓ) : Prop :=
  True

def Pre_WdownStepIdeal (m : (ℓ : Loc Cert.WdownStepIdeal.nD Cert.WdownStepIdeal.τ Cert.WdownStepIdeal.sig) → Buf (Elt Ideal) ℓ) : Prop :=
  True

def Pre_WdownIdeal (m : (ℓ : Loc Cert.WdownIdeal.nD Cert.WdownIdeal.τ Cert.WdownIdeal.sig) → Buf (Elt Ideal) ℓ) : Prop :=
  True

def Pre_WguStep (m : (ℓ : Loc Cert.WguStep.nD Cert.WguStep.τ Cert.WguStep.sig) → Buf (Elt Bits) ℓ) : Prop :=
  True

def Pre_WguStepIdeal (m : (ℓ : Loc Cert.WguStepIdeal.nD Cert.WguStepIdeal.τ Cert.WguStepIdeal.sig) → Buf (Elt Ideal) ℓ) : Prop :=
  True

def Pre_WguIdeal (m : (ℓ : Loc Cert.WguIdeal.nD Cert.WguIdeal.τ Cert.WguIdeal.sig) → Buf (Elt Ideal) ℓ) : Prop :=
  True

def Pre_SmallStep (m : (ℓ : Loc Cert.SmallStep.nD Cert.SmallStep.τ Cert.SmallStep.sig) → Buf (Elt Bits) ℓ) : Prop :=
  True

def Pre_SmallStepIdeal (m : (ℓ : Loc Cert.SmallStepIdeal.nD Cert.SmallStepIdeal.τ Cert.SmallStepIdeal.sig) → Buf (Elt Ideal) ℓ) : Prop :=
  True

def Pre_SmallIdeal (m : (ℓ : Loc Cert.SmallIdeal.nD Cert.SmallIdeal.τ Cert.SmallIdeal.sig) → Buf (Elt Ideal) ℓ) : Prop :=
  True

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_FfnGradIdeal_pre_ffn_finite [hFfnGradIdeal : Cert.FfnGradIdeal.Facts] [hPre_ffn_finite : Cert.Pre_ffn_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_ffn_finite m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_WinBwd [hWinBwd : Cert.WinBwd.Facts] : Prop :=
  ∀ (m : (ℓ : Loc Cert.WinBwd.nD Cert.WinBwd.τ Cert.WinBwd.sig) → Buf (Elt Bits) ℓ) (g : Dev Cert.WinBwd.nD → PrngReg), Pre_WinBwd m →
    θ_run (Cert.WinBwd.defs (F := Bits)) (onTc (τ := Cert.WinBwd.τ) (Cert.WinBwd.main (F := Bits))) ⟨m, fun _ => 0, g⟩ (fun r => (∀ c : Dev Cert.WinBwd.nD,
      r.2.mem ((c.tc : Thread Cert.WinBwd.nD Cert.WinBwd.τ).loc Cert.WinBwd.main_arg0) = m ((c.tc : Thread Cert.WinBwd.nD Cert.WinBwd.τ).loc Cert.WinBwd.main_arg0)
      ∧ r.2.mem ((c.tc : Thread Cert.WinBwd.nD Cert.WinBwd.τ).loc Cert.WinBwd.main_arg1) = m ((c.tc : Thread Cert.WinBwd.nD Cert.WinBwd.τ).loc Cert.WinBwd.main_arg1)
      ∧ r.2.mem ((c.tc : Thread Cert.WinBwd.nD Cert.WinBwd.τ).loc Cert.WinBwd.main_arg2) = m ((c.tc : Thread Cert.WinBwd.nD Cert.WinBwd.τ).loc Cert.WinBwd.main_arg2)
      ∧ r.2.mem ((c.tc : Thread Cert.WinBwd.nD Cert.WinBwd.τ).loc Cert.WinBwd.main_arg3) = m ((c.tc : Thread Cert.WinBwd.nD Cert.WinBwd.τ).loc Cert.WinBwd.main_arg3))
      ∧ r.2.sem = fun _ => 0)

def quiescent_WinBwdIdeal [hWinBwdIdeal : Cert.WinBwdIdeal.Facts] : Prop :=
  ∀ (m : (ℓ : Loc Cert.WinBwdIdeal.nD Cert.WinBwdIdeal.τ Cert.WinBwdIdeal.sig) → Buf (Elt Ideal) ℓ) (g : Dev Cert.WinBwdIdeal.nD → PrngReg), Pre_WinBwdIdeal m →
    θ_run (Cert.WinBwdIdeal.defs (F := Ideal)) (onTc (τ := Cert.WinBwdIdeal.τ) (Cert.WinBwdIdeal.main (F := Ideal))) ⟨m, fun _ => 0, g⟩ (fun r => (∀ c : Dev Cert.WinBwdIdeal.nD,
      r.2.mem ((c.tc : Thread Cert.WinBwdIdeal.nD Cert.WinBwdIdeal.τ).loc Cert.WinBwdIdeal.main_arg0) = m ((c.tc : Thread Cert.WinBwdIdeal.nD Cert.WinBwdIdeal.τ).loc Cert.WinBwdIdeal.main_arg0)
      ∧ r.2.mem ((c.tc : Thread Cert.WinBwdIdeal.nD Cert.WinBwdIdeal.τ).loc Cert.WinBwdIdeal.main_arg1) = m ((c.tc : Thread Cert.WinBwdIdeal.nD Cert.WinBwdIdeal.τ).loc Cert.WinBwdIdeal.main_arg1)
      ∧ r.2.mem ((c.tc : Thread Cert.WinBwdIdeal.nD Cert.WinBwdIdeal.τ).loc Cert.WinBwdIdeal.main_arg2) = m ((c.tc : Thread Cert.WinBwdIdeal.nD Cert.WinBwdIdeal.τ).loc Cert.WinBwdIdeal.main_arg2)
      ∧ r.2.mem ((c.tc : Thread Cert.WinBwdIdeal.nD Cert.WinBwdIdeal.τ).loc Cert.WinBwdIdeal.main_arg3) = m ((c.tc : Thread Cert.WinBwdIdeal.nD Cert.WinBwdIdeal.τ).loc Cert.WinBwdIdeal.main_arg3))
      ∧ r.2.sem = fun _ => 0)

def quiescent_WinGradIdeal [hWinGradIdeal : Cert.WinGradIdeal.Facts] : Prop :=
  ∀ (m : (ℓ : Loc Cert.WinGradIdeal.nD Cert.WinGradIdeal.τ Cert.WinGradIdeal.sig) → Buf (Elt Ideal) ℓ) (g : Dev Cert.WinGradIdeal.nD → PrngReg), Pre_WinGradIdeal m →
    θ_run (Cert.WinGradIdeal.defs (F := Ideal)) (onTc (τ := Cert.WinGradIdeal.τ) (Cert.WinGradIdeal.main (F := Ideal))) ⟨m, fun _ => 0, g⟩ (fun r => (∀ c : Dev Cert.WinGradIdeal.nD,
      r.2.mem ((c.tc : Thread Cert.WinGradIdeal.nD Cert.WinGradIdeal.τ).loc Cert.WinGradIdeal.main_arg0) = m ((c.tc : Thread Cert.WinGradIdeal.nD Cert.WinGradIdeal.τ).loc Cert.WinGradIdeal.main_arg0)
      ∧ r.2.mem ((c.tc : Thread Cert.WinGradIdeal.nD Cert.WinGradIdeal.τ).loc Cert.WinGradIdeal.main_arg1) = m ((c.tc : Thread Cert.WinGradIdeal.nD Cert.WinGradIdeal.τ).loc Cert.WinGradIdeal.main_arg1)
      ∧ r.2.mem ((c.tc : Thread Cert.WinGradIdeal.nD Cert.WinGradIdeal.τ).loc Cert.WinGradIdeal.main_arg2) = m ((c.tc : Thread Cert.WinGradIdeal.nD Cert.WinGradIdeal.τ).loc Cert.WinGradIdeal.main_arg2)
      ∧ r.2.mem ((c.tc : Thread Cert.WinGradIdeal.nD Cert.WinGradIdeal.τ).loc Cert.WinGradIdeal.main_arg3) = m ((c.tc : Thread Cert.WinGradIdeal.nD Cert.WinGradIdeal.τ).loc Cert.WinGradIdeal.main_arg3))
      ∧ r.2.sem = fun _ => 0)

def quiescent_WoutBwd [hWoutBwd : Cert.WoutBwd.Facts] : Prop :=
  ∀ (m : (ℓ : Loc Cert.WoutBwd.nD Cert.WoutBwd.τ Cert.WoutBwd.sig) → Buf (Elt Bits) ℓ) (g : Dev Cert.WoutBwd.nD → PrngReg), Pre_WoutBwd m →
    θ_run (Cert.WoutBwd.defs (F := Bits)) (onTc (τ := Cert.WoutBwd.τ) (Cert.WoutBwd.main (F := Bits))) ⟨m, fun _ => 0, g⟩ (fun r => (∀ c : Dev Cert.WoutBwd.nD,
      r.2.mem ((c.tc : Thread Cert.WoutBwd.nD Cert.WoutBwd.τ).loc Cert.WoutBwd.main_arg0) = m ((c.tc : Thread Cert.WoutBwd.nD Cert.WoutBwd.τ).loc Cert.WoutBwd.main_arg0)
      ∧ r.2.mem ((c.tc : Thread Cert.WoutBwd.nD Cert.WoutBwd.τ).loc Cert.WoutBwd.main_arg1) = m ((c.tc : Thread Cert.WoutBwd.nD Cert.WoutBwd.τ).loc Cert.WoutBwd.main_arg1)
      ∧ r.2.mem ((c.tc : Thread Cert.WoutBwd.nD Cert.WoutBwd.τ).loc Cert.WoutBwd.main_arg2) = m ((c.tc : Thread Cert.WoutBwd.nD Cert.WoutBwd.τ).loc Cert.WoutBwd.main_arg2))
      ∧ r.2.sem = fun _ => 0)

def quiescent_WoutBwdIdeal [hWoutBwdIdeal : Cert.WoutBwdIdeal.Facts] : Prop :=
  ∀ (m : (ℓ : Loc Cert.WoutBwdIdeal.nD Cert.WoutBwdIdeal.τ Cert.WoutBwdIdeal.sig) → Buf (Elt Ideal) ℓ) (g : Dev Cert.WoutBwdIdeal.nD → PrngReg), Pre_WoutBwdIdeal m →
    θ_run (Cert.WoutBwdIdeal.defs (F := Ideal)) (onTc (τ := Cert.WoutBwdIdeal.τ) (Cert.WoutBwdIdeal.main (F := Ideal))) ⟨m, fun _ => 0, g⟩ (fun r => (∀ c : Dev Cert.WoutBwdIdeal.nD,
      r.2.mem ((c.tc : Thread Cert.WoutBwdIdeal.nD Cert.WoutBwdIdeal.τ).loc Cert.WoutBwdIdeal.main_arg0) = m ((c.tc : Thread Cert.WoutBwdIdeal.nD Cert.WoutBwdIdeal.τ).loc Cert.WoutBwdIdeal.main_arg0)
      ∧ r.2.mem ((c.tc : Thread Cert.WoutBwdIdeal.nD Cert.WoutBwdIdeal.τ).loc Cert.WoutBwdIdeal.main_arg1) = m ((c.tc : Thread Cert.WoutBwdIdeal.nD Cert.WoutBwdIdeal.τ).loc Cert.WoutBwdIdeal.main_arg1)
      ∧ r.2.mem ((c.tc : Thread Cert.WoutBwdIdeal.nD Cert.WoutBwdIdeal.τ).loc Cert.WoutBwdIdeal.main_arg2) = m ((c.tc : Thread Cert.WoutBwdIdeal.nD Cert.WoutBwdIdeal.τ).loc Cert.WoutBwdIdeal.main_arg2))
      ∧ r.2.sem = fun _ => 0)

def quiescent_WoutGradIdeal [hWoutGradIdeal : Cert.WoutGradIdeal.Facts] : Prop :=
  ∀ (m : (ℓ : Loc Cert.WoutGradIdeal.nD Cert.WoutGradIdeal.τ Cert.WoutGradIdeal.sig) → Buf (Elt Ideal) ℓ) (g : Dev Cert.WoutGradIdeal.nD → PrngReg), Pre_WoutGradIdeal m →
    θ_run (Cert.WoutGradIdeal.defs (F := Ideal)) (onTc (τ := Cert.WoutGradIdeal.τ) (Cert.WoutGradIdeal.main (F := Ideal))) ⟨m, fun _ => 0, g⟩ (fun r => (∀ c : Dev Cert.WoutGradIdeal.nD,
      r.2.mem ((c.tc : Thread Cert.WoutGradIdeal.nD Cert.WoutGradIdeal.τ).loc Cert.WoutGradIdeal.main_arg0) = m ((c.tc : Thread Cert.WoutGradIdeal.nD Cert.WoutGradIdeal.τ).loc Cert.WoutGradIdeal.main_arg0)
      ∧ r.2.mem ((c.tc : Thread Cert.WoutGradIdeal.nD Cert.WoutGradIdeal.τ).loc Cert.WoutGradIdeal.main_arg1) = m ((c.tc : Thread Cert.WoutGradIdeal.nD Cert.WoutGradIdeal.τ).loc Cert.WoutGradIdeal.main_arg1)
      ∧ r.2.mem ((c.tc : Thread Cert.WoutGradIdeal.nD Cert.WoutGradIdeal.τ).loc Cert.WoutGradIdeal.main_arg2) = m ((c.tc : Thread Cert.WoutGradIdeal.nD Cert.WoutGradIdeal.τ).loc Cert.WoutGradIdeal.main_arg2))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2)
      ∧ r.2.mem ((c.tc : Thread Cert.InprojFwd.nD Cert.InprojFwd.τ).loc Cert.InprojFwd.main_arg3) = m ((c.tc : Thread Cert.InprojFwd.nD Cert.InprojFwd.τ).loc Cert.InprojFwd.main_arg3))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2)
      ∧ r.2.mem ((c.tc : Thread Cert.InprojFwdIdeal.nD Cert.InprojFwdIdeal.τ).loc Cert.InprojFwdIdeal.main_arg3) = m ((c.tc : Thread Cert.InprojFwdIdeal.nD Cert.InprojFwdIdeal.τ).loc Cert.InprojFwdIdeal.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9))
      ∧ r.2.sem = fun _ => 0)

def quiescent_MixBwdIdeal_pre_mix_finite [hMixBwdIdeal : Cert.MixBwdIdeal.Facts] [hPre_mix_finite : Cert.Pre_mix_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_mix_finite m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
      ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
      ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7)
      ∧ r.2.mem ((c.tc : Thread Cert.MixGradIdeal.nD Cert.MixGradIdeal.τ).loc Cert.MixGradIdeal.main_arg8) = m ((c.tc : Thread Cert.MixGradIdeal.nD Cert.MixGradIdeal.τ).loc Cert.MixGradIdeal.main_arg8)
      ∧ r.2.mem ((c.tc : Thread Cert.MixGradIdeal.nD Cert.MixGradIdeal.τ).loc Cert.MixGradIdeal.main_arg9) = m ((c.tc : Thread Cert.MixGradIdeal.nD Cert.MixGradIdeal.τ).loc Cert.MixGradIdeal.main_arg9))
      ∧ r.2.sem = fun _ => 0)

def quiescent_MixGradIdeal_pre_mix_finite [hMixGradIdeal : Cert.MixGradIdeal.Facts] [hPre_mix_finite : Cert.Pre_mix_finite.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal_mix_finite m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
      ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
      ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7)
      ∧ r.2.mem ((c.tc : Thread Cert.MixGradIdeal.nD Cert.MixGradIdeal.τ).loc Cert.MixGradIdeal.main_arg8) = m ((c.tc : Thread Cert.MixGradIdeal.nD Cert.MixGradIdeal.τ).loc Cert.MixGradIdeal.main_arg8)
      ∧ r.2.mem ((c.tc : Thread Cert.MixGradIdeal.nD Cert.MixGradIdeal.τ).loc Cert.MixGradIdeal.main_arg9) = m ((c.tc : Thread Cert.MixGradIdeal.nD Cert.MixGradIdeal.τ).loc Cert.MixGradIdeal.main_arg9))
      ∧ r.2.sem = fun _ => 0)

def quiescent_TapsStep [hTapsStep : Cert.TapsStep.Facts] : Prop :=
  ∀ (m : (ℓ : Loc Cert.TapsStep.nD Cert.TapsStep.τ Cert.TapsStep.sig) → Buf (Elt Bits) ℓ) (g : Dev Cert.TapsStep.nD → PrngReg), Pre_TapsStep m →
    θ_run (Cert.TapsStep.defs (F := Bits)) (onTc (τ := Cert.TapsStep.τ) (Cert.TapsStep.main (F := Bits))) ⟨m, fun _ => 0, g⟩ (fun r => (∀ c : Dev Cert.TapsStep.nD,
      r.2.mem ((c.tc : Thread Cert.TapsStep.nD Cert.TapsStep.τ).loc Cert.TapsStep.main_arg0) = m ((c.tc : Thread Cert.TapsStep.nD Cert.TapsStep.τ).loc Cert.TapsStep.main_arg0)
      ∧ r.2.mem ((c.tc : Thread Cert.TapsStep.nD Cert.TapsStep.τ).loc Cert.TapsStep.main_arg1) = m ((c.tc : Thread Cert.TapsStep.nD Cert.TapsStep.τ).loc Cert.TapsStep.main_arg1)
      ∧ r.2.mem ((c.tc : Thread Cert.TapsStep.nD Cert.TapsStep.τ).loc Cert.TapsStep.main_arg2) = m ((c.tc : Thread Cert.TapsStep.nD Cert.TapsStep.τ).loc Cert.TapsStep.main_arg2)
      ∧ r.2.mem ((c.tc : Thread Cert.TapsStep.nD Cert.TapsStep.τ).loc Cert.TapsStep.main_arg3) = m ((c.tc : Thread Cert.TapsStep.nD Cert.TapsStep.τ).loc Cert.TapsStep.main_arg3))
      ∧ r.2.sem = fun _ => 0)

def quiescent_TapsStepIdeal [hTapsStepIdeal : Cert.TapsStepIdeal.Facts] : Prop :=
  ∀ (m : (ℓ : Loc Cert.TapsStepIdeal.nD Cert.TapsStepIdeal.τ Cert.TapsStepIdeal.sig) → Buf (Elt Ideal) ℓ) (g : Dev Cert.TapsStepIdeal.nD → PrngReg), Pre_TapsStepIdeal m →
    θ_run (Cert.TapsStepIdeal.defs (F := Ideal)) (onTc (τ := Cert.TapsStepIdeal.τ) (Cert.TapsStepIdeal.main (F := Ideal))) ⟨m, fun _ => 0, g⟩ (fun r => (∀ c : Dev Cert.TapsStepIdeal.nD,
      r.2.mem ((c.tc : Thread Cert.TapsStepIdeal.nD Cert.TapsStepIdeal.τ).loc Cert.TapsStepIdeal.main_arg0) = m ((c.tc : Thread Cert.TapsStepIdeal.nD Cert.TapsStepIdeal.τ).loc Cert.TapsStepIdeal.main_arg0)
      ∧ r.2.mem ((c.tc : Thread Cert.TapsStepIdeal.nD Cert.TapsStepIdeal.τ).loc Cert.TapsStepIdeal.main_arg1) = m ((c.tc : Thread Cert.TapsStepIdeal.nD Cert.TapsStepIdeal.τ).loc Cert.TapsStepIdeal.main_arg1)
      ∧ r.2.mem ((c.tc : Thread Cert.TapsStepIdeal.nD Cert.TapsStepIdeal.τ).loc Cert.TapsStepIdeal.main_arg2) = m ((c.tc : Thread Cert.TapsStepIdeal.nD Cert.TapsStepIdeal.τ).loc Cert.TapsStepIdeal.main_arg2)
      ∧ r.2.mem ((c.tc : Thread Cert.TapsStepIdeal.nD Cert.TapsStepIdeal.τ).loc Cert.TapsStepIdeal.main_arg3) = m ((c.tc : Thread Cert.TapsStepIdeal.nD Cert.TapsStepIdeal.τ).loc Cert.TapsStepIdeal.main_arg3))
      ∧ r.2.sem = fun _ => 0)

def quiescent_TapsIdeal [hTapsIdeal : Cert.TapsIdeal.Facts] : Prop :=
  ∀ (m : (ℓ : Loc Cert.TapsIdeal.nD Cert.TapsIdeal.τ Cert.TapsIdeal.sig) → Buf (Elt Ideal) ℓ) (g : Dev Cert.TapsIdeal.nD → PrngReg), Pre_TapsIdeal m →
    θ_run (Cert.TapsIdeal.defs (F := Ideal)) (onTc (τ := Cert.TapsIdeal.τ) (Cert.TapsIdeal.main (F := Ideal))) ⟨m, fun _ => 0, g⟩ (fun r => (∀ c : Dev Cert.TapsIdeal.nD,
      r.2.mem ((c.tc : Thread Cert.TapsIdeal.nD Cert.TapsIdeal.τ).loc Cert.TapsIdeal.main_arg0) = m ((c.tc : Thread Cert.TapsIdeal.nD Cert.TapsIdeal.τ).loc Cert.TapsIdeal.main_arg0)
      ∧ r.2.mem ((c.tc : Thread Cert.TapsIdeal.nD Cert.TapsIdeal.τ).loc Cert.TapsIdeal.main_arg1) = m ((c.tc : Thread Cert.TapsIdeal.nD Cert.TapsIdeal.τ).loc Cert.TapsIdeal.main_arg1)
      ∧ r.2.mem ((c.tc : Thread Cert.TapsIdeal.nD Cert.TapsIdeal.τ).loc Cert.TapsIdeal.main_arg2) = m ((c.tc : Thread Cert.TapsIdeal.nD Cert.TapsIdeal.τ).loc Cert.TapsIdeal.main_arg2)
      ∧ r.2.mem ((c.tc : Thread Cert.TapsIdeal.nD Cert.TapsIdeal.τ).loc Cert.TapsIdeal.main_arg3) = m ((c.tc : Thread Cert.TapsIdeal.nD Cert.TapsIdeal.τ).loc Cert.TapsIdeal.main_arg3))
      ∧ r.2.sem = fun _ => 0)

def quiescent_WoutStep [hWoutStep : Cert.WoutStep.Facts] : Prop :=
  ∀ (m : (ℓ : Loc Cert.WoutStep.nD Cert.WoutStep.τ Cert.WoutStep.sig) → Buf (Elt Bits) ℓ) (g : Dev Cert.WoutStep.nD → PrngReg), Pre_WoutStep m →
    θ_run (Cert.WoutStep.defs (F := Bits)) (onTc (τ := Cert.WoutStep.τ) (Cert.WoutStep.main (F := Bits))) ⟨m, fun _ => 0, g⟩ (fun r => (∀ c : Dev Cert.WoutStep.nD,
      r.2.mem ((c.tc : Thread Cert.WoutStep.nD Cert.WoutStep.τ).loc Cert.WoutStep.main_arg0) = m ((c.tc : Thread Cert.WoutStep.nD Cert.WoutStep.τ).loc Cert.WoutStep.main_arg0)
      ∧ r.2.mem ((c.tc : Thread Cert.WoutStep.nD Cert.WoutStep.τ).loc Cert.WoutStep.main_arg1) = m ((c.tc : Thread Cert.WoutStep.nD Cert.WoutStep.τ).loc Cert.WoutStep.main_arg1)
      ∧ r.2.mem ((c.tc : Thread Cert.WoutStep.nD Cert.WoutStep.τ).loc Cert.WoutStep.main_arg2) = m ((c.tc : Thread Cert.WoutStep.nD Cert.WoutStep.τ).loc Cert.WoutStep.main_arg2)
      ∧ r.2.mem ((c.tc : Thread Cert.WoutStep.nD Cert.WoutStep.τ).loc Cert.WoutStep.main_arg3) = m ((c.tc : Thread Cert.WoutStep.nD Cert.WoutStep.τ).loc Cert.WoutStep.main_arg3)
      ∧ r.2.mem ((c.tc : Thread Cert.WoutStep.nD Cert.WoutStep.τ).loc Cert.WoutStep.main_arg4) = m ((c.tc : Thread Cert.WoutStep.nD Cert.WoutStep.τ).loc Cert.WoutStep.main_arg4)
      ∧ r.2.mem ((c.tc : Thread Cert.WoutStep.nD Cert.WoutStep.τ).loc Cert.WoutStep.main_arg5) = m ((c.tc : Thread Cert.WoutStep.nD Cert.WoutStep.τ).loc Cert.WoutStep.main_arg5)
      ∧ r.2.mem ((c.tc : Thread Cert.WoutStep.nD Cert.WoutStep.τ).loc Cert.WoutStep.main_arg6) = m ((c.tc : Thread Cert.WoutStep.nD Cert.WoutStep.τ).loc Cert.WoutStep.main_arg6))
      ∧ r.2.sem = fun _ => 0)

def quiescent_WoutStepIdeal [hWoutStepIdeal : Cert.WoutStepIdeal.Facts] : Prop :=
  ∀ (m : (ℓ : Loc Cert.WoutStepIdeal.nD Cert.WoutStepIdeal.τ Cert.WoutStepIdeal.sig) → Buf (Elt Ideal) ℓ) (g : Dev Cert.WoutStepIdeal.nD → PrngReg), Pre_WoutStepIdeal m →
    θ_run (Cert.WoutStepIdeal.defs (F := Ideal)) (onTc (τ := Cert.WoutStepIdeal.τ) (Cert.WoutStepIdeal.main (F := Ideal))) ⟨m, fun _ => 0, g⟩ (fun r => (∀ c : Dev Cert.WoutStepIdeal.nD,
      r.2.mem ((c.tc : Thread Cert.WoutStepIdeal.nD Cert.WoutStepIdeal.τ).loc Cert.WoutStepIdeal.main_arg0) = m ((c.tc : Thread Cert.WoutStepIdeal.nD Cert.WoutStepIdeal.τ).loc Cert.WoutStepIdeal.main_arg0)
      ∧ r.2.mem ((c.tc : Thread Cert.WoutStepIdeal.nD Cert.WoutStepIdeal.τ).loc Cert.WoutStepIdeal.main_arg1) = m ((c.tc : Thread Cert.WoutStepIdeal.nD Cert.WoutStepIdeal.τ).loc Cert.WoutStepIdeal.main_arg1)
      ∧ r.2.mem ((c.tc : Thread Cert.WoutStepIdeal.nD Cert.WoutStepIdeal.τ).loc Cert.WoutStepIdeal.main_arg2) = m ((c.tc : Thread Cert.WoutStepIdeal.nD Cert.WoutStepIdeal.τ).loc Cert.WoutStepIdeal.main_arg2)
      ∧ r.2.mem ((c.tc : Thread Cert.WoutStepIdeal.nD Cert.WoutStepIdeal.τ).loc Cert.WoutStepIdeal.main_arg3) = m ((c.tc : Thread Cert.WoutStepIdeal.nD Cert.WoutStepIdeal.τ).loc Cert.WoutStepIdeal.main_arg3)
      ∧ r.2.mem ((c.tc : Thread Cert.WoutStepIdeal.nD Cert.WoutStepIdeal.τ).loc Cert.WoutStepIdeal.main_arg4) = m ((c.tc : Thread Cert.WoutStepIdeal.nD Cert.WoutStepIdeal.τ).loc Cert.WoutStepIdeal.main_arg4)
      ∧ r.2.mem ((c.tc : Thread Cert.WoutStepIdeal.nD Cert.WoutStepIdeal.τ).loc Cert.WoutStepIdeal.main_arg5) = m ((c.tc : Thread Cert.WoutStepIdeal.nD Cert.WoutStepIdeal.τ).loc Cert.WoutStepIdeal.main_arg5)
      ∧ r.2.mem ((c.tc : Thread Cert.WoutStepIdeal.nD Cert.WoutStepIdeal.τ).loc Cert.WoutStepIdeal.main_arg6) = m ((c.tc : Thread Cert.WoutStepIdeal.nD Cert.WoutStepIdeal.τ).loc Cert.WoutStepIdeal.main_arg6))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
      ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
      ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4)
      ∧ r.2.mem ((c.tc : Thread Cert.WoutIdeal.nD Cert.WoutIdeal.τ).loc Cert.WoutIdeal.main_arg5) = m ((c.tc : Thread Cert.WoutIdeal.nD Cert.WoutIdeal.τ).loc Cert.WoutIdeal.main_arg5)
      ∧ r.2.mem ((c.tc : Thread Cert.WoutIdeal.nD Cert.WoutIdeal.τ).loc Cert.WoutIdeal.main_arg6) = m ((c.tc : Thread Cert.WoutIdeal.nD Cert.WoutIdeal.τ).loc Cert.WoutIdeal.main_arg6))
      ∧ r.2.sem = fun _ => 0)

def quiescent_WinStep [hWinStep : Cert.WinStep.Facts] : Prop :=
  ∀ (m : (ℓ : Loc Cert.WinStep.nD Cert.WinStep.τ Cert.WinStep.sig) → Buf (Elt Bits) ℓ) (g : Dev Cert.WinStep.nD → PrngReg), Pre_WinStep m →
    θ_run (Cert.WinStep.defs (F := Bits)) (onTc (τ := Cert.WinStep.τ) (Cert.WinStep.main (F := Bits))) ⟨m, fun _ => 0, g⟩ (fun r => (∀ c : Dev Cert.WinStep.nD,
      r.2.mem ((c.tc : Thread Cert.WinStep.nD Cert.WinStep.τ).loc Cert.WinStep.main_arg0) = m ((c.tc : Thread Cert.WinStep.nD Cert.WinStep.τ).loc Cert.WinStep.main_arg0)
      ∧ r.2.mem ((c.tc : Thread Cert.WinStep.nD Cert.WinStep.τ).loc Cert.WinStep.main_arg1) = m ((c.tc : Thread Cert.WinStep.nD Cert.WinStep.τ).loc Cert.WinStep.main_arg1)
      ∧ r.2.mem ((c.tc : Thread Cert.WinStep.nD Cert.WinStep.τ).loc Cert.WinStep.main_arg2) = m ((c.tc : Thread Cert.WinStep.nD Cert.WinStep.τ).loc Cert.WinStep.main_arg2)
      ∧ r.2.mem ((c.tc : Thread Cert.WinStep.nD Cert.WinStep.τ).loc Cert.WinStep.main_arg3) = m ((c.tc : Thread Cert.WinStep.nD Cert.WinStep.τ).loc Cert.WinStep.main_arg3)
      ∧ r.2.mem ((c.tc : Thread Cert.WinStep.nD Cert.WinStep.τ).loc Cert.WinStep.main_arg4) = m ((c.tc : Thread Cert.WinStep.nD Cert.WinStep.τ).loc Cert.WinStep.main_arg4)
      ∧ r.2.mem ((c.tc : Thread Cert.WinStep.nD Cert.WinStep.τ).loc Cert.WinStep.main_arg5) = m ((c.tc : Thread Cert.WinStep.nD Cert.WinStep.τ).loc Cert.WinStep.main_arg5)
      ∧ r.2.mem ((c.tc : Thread Cert.WinStep.nD Cert.WinStep.τ).loc Cert.WinStep.main_arg6) = m ((c.tc : Thread Cert.WinStep.nD Cert.WinStep.τ).loc Cert.WinStep.main_arg6))
      ∧ r.2.sem = fun _ => 0)

def quiescent_WinStepIdeal [hWinStepIdeal : Cert.WinStepIdeal.Facts] : Prop :=
  ∀ (m : (ℓ : Loc Cert.WinStepIdeal.nD Cert.WinStepIdeal.τ Cert.WinStepIdeal.sig) → Buf (Elt Ideal) ℓ) (g : Dev Cert.WinStepIdeal.nD → PrngReg), Pre_WinStepIdeal m →
    θ_run (Cert.WinStepIdeal.defs (F := Ideal)) (onTc (τ := Cert.WinStepIdeal.τ) (Cert.WinStepIdeal.main (F := Ideal))) ⟨m, fun _ => 0, g⟩ (fun r => (∀ c : Dev Cert.WinStepIdeal.nD,
      r.2.mem ((c.tc : Thread Cert.WinStepIdeal.nD Cert.WinStepIdeal.τ).loc Cert.WinStepIdeal.main_arg0) = m ((c.tc : Thread Cert.WinStepIdeal.nD Cert.WinStepIdeal.τ).loc Cert.WinStepIdeal.main_arg0)
      ∧ r.2.mem ((c.tc : Thread Cert.WinStepIdeal.nD Cert.WinStepIdeal.τ).loc Cert.WinStepIdeal.main_arg1) = m ((c.tc : Thread Cert.WinStepIdeal.nD Cert.WinStepIdeal.τ).loc Cert.WinStepIdeal.main_arg1)
      ∧ r.2.mem ((c.tc : Thread Cert.WinStepIdeal.nD Cert.WinStepIdeal.τ).loc Cert.WinStepIdeal.main_arg2) = m ((c.tc : Thread Cert.WinStepIdeal.nD Cert.WinStepIdeal.τ).loc Cert.WinStepIdeal.main_arg2)
      ∧ r.2.mem ((c.tc : Thread Cert.WinStepIdeal.nD Cert.WinStepIdeal.τ).loc Cert.WinStepIdeal.main_arg3) = m ((c.tc : Thread Cert.WinStepIdeal.nD Cert.WinStepIdeal.τ).loc Cert.WinStepIdeal.main_arg3)
      ∧ r.2.mem ((c.tc : Thread Cert.WinStepIdeal.nD Cert.WinStepIdeal.τ).loc Cert.WinStepIdeal.main_arg4) = m ((c.tc : Thread Cert.WinStepIdeal.nD Cert.WinStepIdeal.τ).loc Cert.WinStepIdeal.main_arg4)
      ∧ r.2.mem ((c.tc : Thread Cert.WinStepIdeal.nD Cert.WinStepIdeal.τ).loc Cert.WinStepIdeal.main_arg5) = m ((c.tc : Thread Cert.WinStepIdeal.nD Cert.WinStepIdeal.τ).loc Cert.WinStepIdeal.main_arg5)
      ∧ r.2.mem ((c.tc : Thread Cert.WinStepIdeal.nD Cert.WinStepIdeal.τ).loc Cert.WinStepIdeal.main_arg6) = m ((c.tc : Thread Cert.WinStepIdeal.nD Cert.WinStepIdeal.τ).loc Cert.WinStepIdeal.main_arg6))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5)
      ∧ r.2.mem ((c.tc : Thread Cert.WinIdeal.nD Cert.WinIdeal.τ).loc Cert.WinIdeal.main_arg6) = m ((c.tc : Thread Cert.WinIdeal.nD Cert.WinIdeal.τ).loc Cert.WinIdeal.main_arg6))
      ∧ r.2.sem = fun _ => 0)

def quiescent_WdownStep [hWdownStep : Cert.WdownStep.Facts] : Prop :=
  ∀ (m : (ℓ : Loc Cert.WdownStep.nD Cert.WdownStep.τ Cert.WdownStep.sig) → Buf (Elt Bits) ℓ) (g : Dev Cert.WdownStep.nD → PrngReg), Pre_WdownStep m →
    θ_run (Cert.WdownStep.defs (F := Bits)) (onTc (τ := Cert.WdownStep.τ) (Cert.WdownStep.main (F := Bits))) ⟨m, fun _ => 0, g⟩ (fun r => (∀ c : Dev Cert.WdownStep.nD,
      r.2.mem ((c.tc : Thread Cert.WdownStep.nD Cert.WdownStep.τ).loc Cert.WdownStep.main_arg0) = m ((c.tc : Thread Cert.WdownStep.nD Cert.WdownStep.τ).loc Cert.WdownStep.main_arg0)
      ∧ r.2.mem ((c.tc : Thread Cert.WdownStep.nD Cert.WdownStep.τ).loc Cert.WdownStep.main_arg1) = m ((c.tc : Thread Cert.WdownStep.nD Cert.WdownStep.τ).loc Cert.WdownStep.main_arg1)
      ∧ r.2.mem ((c.tc : Thread Cert.WdownStep.nD Cert.WdownStep.τ).loc Cert.WdownStep.main_arg2) = m ((c.tc : Thread Cert.WdownStep.nD Cert.WdownStep.τ).loc Cert.WdownStep.main_arg2)
      ∧ r.2.mem ((c.tc : Thread Cert.WdownStep.nD Cert.WdownStep.τ).loc Cert.WdownStep.main_arg3) = m ((c.tc : Thread Cert.WdownStep.nD Cert.WdownStep.τ).loc Cert.WdownStep.main_arg3)
      ∧ r.2.mem ((c.tc : Thread Cert.WdownStep.nD Cert.WdownStep.τ).loc Cert.WdownStep.main_arg4) = m ((c.tc : Thread Cert.WdownStep.nD Cert.WdownStep.τ).loc Cert.WdownStep.main_arg4)
      ∧ r.2.mem ((c.tc : Thread Cert.WdownStep.nD Cert.WdownStep.τ).loc Cert.WdownStep.main_arg5) = m ((c.tc : Thread Cert.WdownStep.nD Cert.WdownStep.τ).loc Cert.WdownStep.main_arg5)
      ∧ r.2.mem ((c.tc : Thread Cert.WdownStep.nD Cert.WdownStep.τ).loc Cert.WdownStep.main_arg6) = m ((c.tc : Thread Cert.WdownStep.nD Cert.WdownStep.τ).loc Cert.WdownStep.main_arg6))
      ∧ r.2.sem = fun _ => 0)

def quiescent_WdownStepIdeal [hWdownStepIdeal : Cert.WdownStepIdeal.Facts] : Prop :=
  ∀ (m : (ℓ : Loc Cert.WdownStepIdeal.nD Cert.WdownStepIdeal.τ Cert.WdownStepIdeal.sig) → Buf (Elt Ideal) ℓ) (g : Dev Cert.WdownStepIdeal.nD → PrngReg), Pre_WdownStepIdeal m →
    θ_run (Cert.WdownStepIdeal.defs (F := Ideal)) (onTc (τ := Cert.WdownStepIdeal.τ) (Cert.WdownStepIdeal.main (F := Ideal))) ⟨m, fun _ => 0, g⟩ (fun r => (∀ c : Dev Cert.WdownStepIdeal.nD,
      r.2.mem ((c.tc : Thread Cert.WdownStepIdeal.nD Cert.WdownStepIdeal.τ).loc Cert.WdownStepIdeal.main_arg0) = m ((c.tc : Thread Cert.WdownStepIdeal.nD Cert.WdownStepIdeal.τ).loc Cert.WdownStepIdeal.main_arg0)
      ∧ r.2.mem ((c.tc : Thread Cert.WdownStepIdeal.nD Cert.WdownStepIdeal.τ).loc Cert.WdownStepIdeal.main_arg1) = m ((c.tc : Thread Cert.WdownStepIdeal.nD Cert.WdownStepIdeal.τ).loc Cert.WdownStepIdeal.main_arg1)
      ∧ r.2.mem ((c.tc : Thread Cert.WdownStepIdeal.nD Cert.WdownStepIdeal.τ).loc Cert.WdownStepIdeal.main_arg2) = m ((c.tc : Thread Cert.WdownStepIdeal.nD Cert.WdownStepIdeal.τ).loc Cert.WdownStepIdeal.main_arg2)
      ∧ r.2.mem ((c.tc : Thread Cert.WdownStepIdeal.nD Cert.WdownStepIdeal.τ).loc Cert.WdownStepIdeal.main_arg3) = m ((c.tc : Thread Cert.WdownStepIdeal.nD Cert.WdownStepIdeal.τ).loc Cert.WdownStepIdeal.main_arg3)
      ∧ r.2.mem ((c.tc : Thread Cert.WdownStepIdeal.nD Cert.WdownStepIdeal.τ).loc Cert.WdownStepIdeal.main_arg4) = m ((c.tc : Thread Cert.WdownStepIdeal.nD Cert.WdownStepIdeal.τ).loc Cert.WdownStepIdeal.main_arg4)
      ∧ r.2.mem ((c.tc : Thread Cert.WdownStepIdeal.nD Cert.WdownStepIdeal.τ).loc Cert.WdownStepIdeal.main_arg5) = m ((c.tc : Thread Cert.WdownStepIdeal.nD Cert.WdownStepIdeal.τ).loc Cert.WdownStepIdeal.main_arg5)
      ∧ r.2.mem ((c.tc : Thread Cert.WdownStepIdeal.nD Cert.WdownStepIdeal.τ).loc Cert.WdownStepIdeal.main_arg6) = m ((c.tc : Thread Cert.WdownStepIdeal.nD Cert.WdownStepIdeal.τ).loc Cert.WdownStepIdeal.main_arg6))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1)
      ∧ r.2.mem ((c.tc : Thread Cert.WdownIdeal.nD Cert.WdownIdeal.τ).loc Cert.WdownIdeal.main_arg2) = m ((c.tc : Thread Cert.WdownIdeal.nD Cert.WdownIdeal.τ).loc Cert.WdownIdeal.main_arg2)
      ∧ r.2.mem ((c.tc : Thread Cert.WdownIdeal.nD Cert.WdownIdeal.τ).loc Cert.WdownIdeal.main_arg3) = m ((c.tc : Thread Cert.WdownIdeal.nD Cert.WdownIdeal.τ).loc Cert.WdownIdeal.main_arg3)
      ∧ r.2.mem ((c.tc : Thread Cert.WdownIdeal.nD Cert.WdownIdeal.τ).loc Cert.WdownIdeal.main_arg4) = m ((c.tc : Thread Cert.WdownIdeal.nD Cert.WdownIdeal.τ).loc Cert.WdownIdeal.main_arg4)
      ∧ r.2.mem ((c.tc : Thread Cert.WdownIdeal.nD Cert.WdownIdeal.τ).loc Cert.WdownIdeal.main_arg5) = m ((c.tc : Thread Cert.WdownIdeal.nD Cert.WdownIdeal.τ).loc Cert.WdownIdeal.main_arg5)
      ∧ r.2.mem ((c.tc : Thread Cert.WdownIdeal.nD Cert.WdownIdeal.τ).loc Cert.WdownIdeal.main_arg6) = m ((c.tc : Thread Cert.WdownIdeal.nD Cert.WdownIdeal.τ).loc Cert.WdownIdeal.main_arg6))
      ∧ r.2.sem = fun _ => 0)

def quiescent_WguStep [hWguStep : Cert.WguStep.Facts] : Prop :=
  ∀ (m : (ℓ : Loc Cert.WguStep.nD Cert.WguStep.τ Cert.WguStep.sig) → Buf (Elt Bits) ℓ) (g : Dev Cert.WguStep.nD → PrngReg), Pre_WguStep m →
    θ_run (Cert.WguStep.defs (F := Bits)) (onTc (τ := Cert.WguStep.τ) (Cert.WguStep.main (F := Bits))) ⟨m, fun _ => 0, g⟩ (fun r => (∀ c : Dev Cert.WguStep.nD,
      r.2.mem ((c.tc : Thread Cert.WguStep.nD Cert.WguStep.τ).loc Cert.WguStep.main_arg0) = m ((c.tc : Thread Cert.WguStep.nD Cert.WguStep.τ).loc Cert.WguStep.main_arg0)
      ∧ r.2.mem ((c.tc : Thread Cert.WguStep.nD Cert.WguStep.τ).loc Cert.WguStep.main_arg1) = m ((c.tc : Thread Cert.WguStep.nD Cert.WguStep.τ).loc Cert.WguStep.main_arg1)
      ∧ r.2.mem ((c.tc : Thread Cert.WguStep.nD Cert.WguStep.τ).loc Cert.WguStep.main_arg2) = m ((c.tc : Thread Cert.WguStep.nD Cert.WguStep.τ).loc Cert.WguStep.main_arg2)
      ∧ r.2.mem ((c.tc : Thread Cert.WguStep.nD Cert.WguStep.τ).loc Cert.WguStep.main_arg3) = m ((c.tc : Thread Cert.WguStep.nD Cert.WguStep.τ).loc Cert.WguStep.main_arg3)
      ∧ r.2.mem ((c.tc : Thread Cert.WguStep.nD Cert.WguStep.τ).loc Cert.WguStep.main_arg4) = m ((c.tc : Thread Cert.WguStep.nD Cert.WguStep.τ).loc Cert.WguStep.main_arg4)
      ∧ r.2.mem ((c.tc : Thread Cert.WguStep.nD Cert.WguStep.τ).loc Cert.WguStep.main_arg5) = m ((c.tc : Thread Cert.WguStep.nD Cert.WguStep.τ).loc Cert.WguStep.main_arg5)
      ∧ r.2.mem ((c.tc : Thread Cert.WguStep.nD Cert.WguStep.τ).loc Cert.WguStep.main_arg6) = m ((c.tc : Thread Cert.WguStep.nD Cert.WguStep.τ).loc Cert.WguStep.main_arg6))
      ∧ r.2.sem = fun _ => 0)

def quiescent_WguStepIdeal [hWguStepIdeal : Cert.WguStepIdeal.Facts] : Prop :=
  ∀ (m : (ℓ : Loc Cert.WguStepIdeal.nD Cert.WguStepIdeal.τ Cert.WguStepIdeal.sig) → Buf (Elt Ideal) ℓ) (g : Dev Cert.WguStepIdeal.nD → PrngReg), Pre_WguStepIdeal m →
    θ_run (Cert.WguStepIdeal.defs (F := Ideal)) (onTc (τ := Cert.WguStepIdeal.τ) (Cert.WguStepIdeal.main (F := Ideal))) ⟨m, fun _ => 0, g⟩ (fun r => (∀ c : Dev Cert.WguStepIdeal.nD,
      r.2.mem ((c.tc : Thread Cert.WguStepIdeal.nD Cert.WguStepIdeal.τ).loc Cert.WguStepIdeal.main_arg0) = m ((c.tc : Thread Cert.WguStepIdeal.nD Cert.WguStepIdeal.τ).loc Cert.WguStepIdeal.main_arg0)
      ∧ r.2.mem ((c.tc : Thread Cert.WguStepIdeal.nD Cert.WguStepIdeal.τ).loc Cert.WguStepIdeal.main_arg1) = m ((c.tc : Thread Cert.WguStepIdeal.nD Cert.WguStepIdeal.τ).loc Cert.WguStepIdeal.main_arg1)
      ∧ r.2.mem ((c.tc : Thread Cert.WguStepIdeal.nD Cert.WguStepIdeal.τ).loc Cert.WguStepIdeal.main_arg2) = m ((c.tc : Thread Cert.WguStepIdeal.nD Cert.WguStepIdeal.τ).loc Cert.WguStepIdeal.main_arg2)
      ∧ r.2.mem ((c.tc : Thread Cert.WguStepIdeal.nD Cert.WguStepIdeal.τ).loc Cert.WguStepIdeal.main_arg3) = m ((c.tc : Thread Cert.WguStepIdeal.nD Cert.WguStepIdeal.τ).loc Cert.WguStepIdeal.main_arg3)
      ∧ r.2.mem ((c.tc : Thread Cert.WguStepIdeal.nD Cert.WguStepIdeal.τ).loc Cert.WguStepIdeal.main_arg4) = m ((c.tc : Thread Cert.WguStepIdeal.nD Cert.WguStepIdeal.τ).loc Cert.WguStepIdeal.main_arg4)
      ∧ r.2.mem ((c.tc : Thread Cert.WguStepIdeal.nD Cert.WguStepIdeal.τ).loc Cert.WguStepIdeal.main_arg5) = m ((c.tc : Thread Cert.WguStepIdeal.nD Cert.WguStepIdeal.τ).loc Cert.WguStepIdeal.main_arg5)
      ∧ r.2.mem ((c.tc : Thread Cert.WguStepIdeal.nD Cert.WguStepIdeal.τ).loc Cert.WguStepIdeal.main_arg6) = m ((c.tc : Thread Cert.WguStepIdeal.nD Cert.WguStepIdeal.τ).loc Cert.WguStepIdeal.main_arg6))
      ∧ r.2.sem = fun _ => 0)

def quiescent_WguIdeal [hWguIdeal : Cert.WguIdeal.Facts] : Prop :=
  ∀ (m : (ℓ : Loc Cert.WguIdeal.nD Cert.WguIdeal.τ Cert.WguIdeal.sig) → Buf (Elt Ideal) ℓ) (g : Dev Cert.WguIdeal.nD → PrngReg), Pre_WguIdeal m →
    θ_run (Cert.WguIdeal.defs (F := Ideal)) (onTc (τ := Cert.WguIdeal.τ) (Cert.WguIdeal.main (F := Ideal))) ⟨m, fun _ => 0, g⟩ (fun r => (∀ c : Dev Cert.WguIdeal.nD,
      r.2.mem ((c.tc : Thread Cert.WguIdeal.nD Cert.WguIdeal.τ).loc Cert.WguIdeal.main_arg0) = m ((c.tc : Thread Cert.WguIdeal.nD Cert.WguIdeal.τ).loc Cert.WguIdeal.main_arg0)
      ∧ r.2.mem ((c.tc : Thread Cert.WguIdeal.nD Cert.WguIdeal.τ).loc Cert.WguIdeal.main_arg1) = m ((c.tc : Thread Cert.WguIdeal.nD Cert.WguIdeal.τ).loc Cert.WguIdeal.main_arg1)
      ∧ r.2.mem ((c.tc : Thread Cert.WguIdeal.nD Cert.WguIdeal.τ).loc Cert.WguIdeal.main_arg2) = m ((c.tc : Thread Cert.WguIdeal.nD Cert.WguIdeal.τ).loc Cert.WguIdeal.main_arg2)
      ∧ r.2.mem ((c.tc : Thread Cert.WguIdeal.nD Cert.WguIdeal.τ).loc Cert.WguIdeal.main_arg3) = m ((c.tc : Thread Cert.WguIdeal.nD Cert.WguIdeal.τ).loc Cert.WguIdeal.main_arg3)
      ∧ r.2.mem ((c.tc : Thread Cert.WguIdeal.nD Cert.WguIdeal.τ).loc Cert.WguIdeal.main_arg4) = m ((c.tc : Thread Cert.WguIdeal.nD Cert.WguIdeal.τ).loc Cert.WguIdeal.main_arg4)
      ∧ r.2.mem ((c.tc : Thread Cert.WguIdeal.nD Cert.WguIdeal.τ).loc Cert.WguIdeal.main_arg5) = m ((c.tc : Thread Cert.WguIdeal.nD Cert.WguIdeal.τ).loc Cert.WguIdeal.main_arg5)
      ∧ r.2.mem ((c.tc : Thread Cert.WguIdeal.nD Cert.WguIdeal.τ).loc Cert.WguIdeal.main_arg6) = m ((c.tc : Thread Cert.WguIdeal.nD Cert.WguIdeal.τ).loc Cert.WguIdeal.main_arg6))
      ∧ r.2.sem = fun _ => 0)

def quiescent_SmallStep [hSmallStep : Cert.SmallStep.Facts] : Prop :=
  ∀ (m : (ℓ : Loc Cert.SmallStep.nD Cert.SmallStep.τ Cert.SmallStep.sig) → Buf (Elt Bits) ℓ) (g : Dev Cert.SmallStep.nD → PrngReg), Pre_SmallStep m →
    θ_run (Cert.SmallStep.defs (F := Bits)) (onTc (τ := Cert.SmallStep.τ) (Cert.SmallStep.main (F := Bits))) ⟨m, fun _ => 0, g⟩ (fun r => (∀ c : Dev Cert.SmallStep.nD,
      r.2.mem ((c.tc : Thread Cert.SmallStep.nD Cert.SmallStep.τ).loc Cert.SmallStep.main_arg0) = m ((c.tc : Thread Cert.SmallStep.nD Cert.SmallStep.τ).loc Cert.SmallStep.main_arg0)
      ∧ r.2.mem ((c.tc : Thread Cert.SmallStep.nD Cert.SmallStep.τ).loc Cert.SmallStep.main_arg1) = m ((c.tc : Thread Cert.SmallStep.nD Cert.SmallStep.τ).loc Cert.SmallStep.main_arg1)
      ∧ r.2.mem ((c.tc : Thread Cert.SmallStep.nD Cert.SmallStep.τ).loc Cert.SmallStep.main_arg2) = m ((c.tc : Thread Cert.SmallStep.nD Cert.SmallStep.τ).loc Cert.SmallStep.main_arg2)
      ∧ r.2.mem ((c.tc : Thread Cert.SmallStep.nD Cert.SmallStep.τ).loc Cert.SmallStep.main_arg3) = m ((c.tc : Thread Cert.SmallStep.nD Cert.SmallStep.τ).loc Cert.SmallStep.main_arg3)
      ∧ r.2.mem ((c.tc : Thread Cert.SmallStep.nD Cert.SmallStep.τ).loc Cert.SmallStep.main_arg4) = m ((c.tc : Thread Cert.SmallStep.nD Cert.SmallStep.τ).loc Cert.SmallStep.main_arg4)
      ∧ r.2.mem ((c.tc : Thread Cert.SmallStep.nD Cert.SmallStep.τ).loc Cert.SmallStep.main_arg5) = m ((c.tc : Thread Cert.SmallStep.nD Cert.SmallStep.τ).loc Cert.SmallStep.main_arg5)
      ∧ r.2.mem ((c.tc : Thread Cert.SmallStep.nD Cert.SmallStep.τ).loc Cert.SmallStep.main_arg6) = m ((c.tc : Thread Cert.SmallStep.nD Cert.SmallStep.τ).loc Cert.SmallStep.main_arg6)
      ∧ r.2.mem ((c.tc : Thread Cert.SmallStep.nD Cert.SmallStep.τ).loc Cert.SmallStep.main_arg7) = m ((c.tc : Thread Cert.SmallStep.nD Cert.SmallStep.τ).loc Cert.SmallStep.main_arg7)
      ∧ r.2.mem ((c.tc : Thread Cert.SmallStep.nD Cert.SmallStep.τ).loc Cert.SmallStep.main_arg8) = m ((c.tc : Thread Cert.SmallStep.nD Cert.SmallStep.τ).loc Cert.SmallStep.main_arg8)
      ∧ r.2.mem ((c.tc : Thread Cert.SmallStep.nD Cert.SmallStep.τ).loc Cert.SmallStep.main_arg9) = m ((c.tc : Thread Cert.SmallStep.nD Cert.SmallStep.τ).loc Cert.SmallStep.main_arg9)
      ∧ r.2.mem ((c.tc : Thread Cert.SmallStep.nD Cert.SmallStep.τ).loc Cert.SmallStep.main_arg10) = m ((c.tc : Thread Cert.SmallStep.nD Cert.SmallStep.τ).loc Cert.SmallStep.main_arg10)
      ∧ r.2.mem ((c.tc : Thread Cert.SmallStep.nD Cert.SmallStep.τ).loc Cert.SmallStep.main_arg11) = m ((c.tc : Thread Cert.SmallStep.nD Cert.SmallStep.τ).loc Cert.SmallStep.main_arg11)
      ∧ r.2.mem ((c.tc : Thread Cert.SmallStep.nD Cert.SmallStep.τ).loc Cert.SmallStep.main_arg12) = m ((c.tc : Thread Cert.SmallStep.nD Cert.SmallStep.τ).loc Cert.SmallStep.main_arg12)
      ∧ r.2.mem ((c.tc : Thread Cert.SmallStep.nD Cert.SmallStep.τ).loc Cert.SmallStep.main_arg13) = m ((c.tc : Thread Cert.SmallStep.nD Cert.SmallStep.τ).loc Cert.SmallStep.main_arg13)
      ∧ r.2.mem ((c.tc : Thread Cert.SmallStep.nD Cert.SmallStep.τ).loc Cert.SmallStep.main_arg14) = m ((c.tc : Thread Cert.SmallStep.nD Cert.SmallStep.τ).loc Cert.SmallStep.main_arg14)
      ∧ r.2.mem ((c.tc : Thread Cert.SmallStep.nD Cert.SmallStep.τ).loc Cert.SmallStep.main_arg15) = m ((c.tc : Thread Cert.SmallStep.nD Cert.SmallStep.τ).loc Cert.SmallStep.main_arg15)
      ∧ r.2.mem ((c.tc : Thread Cert.SmallStep.nD Cert.SmallStep.τ).loc Cert.SmallStep.main_arg16) = m ((c.tc : Thread Cert.SmallStep.nD Cert.SmallStep.τ).loc Cert.SmallStep.main_arg16)
      ∧ r.2.mem ((c.tc : Thread Cert.SmallStep.nD Cert.SmallStep.τ).loc Cert.SmallStep.main_arg17) = m ((c.tc : Thread Cert.SmallStep.nD Cert.SmallStep.τ).loc Cert.SmallStep.main_arg17)
      ∧ r.2.mem ((c.tc : Thread Cert.SmallStep.nD Cert.SmallStep.τ).loc Cert.SmallStep.main_arg18) = m ((c.tc : Thread Cert.SmallStep.nD Cert.SmallStep.τ).loc Cert.SmallStep.main_arg18))
      ∧ r.2.sem = fun _ => 0)

def quiescent_SmallStepIdeal [hSmallStepIdeal : Cert.SmallStepIdeal.Facts] : Prop :=
  ∀ (m : (ℓ : Loc Cert.SmallStepIdeal.nD Cert.SmallStepIdeal.τ Cert.SmallStepIdeal.sig) → Buf (Elt Ideal) ℓ) (g : Dev Cert.SmallStepIdeal.nD → PrngReg), Pre_SmallStepIdeal m →
    θ_run (Cert.SmallStepIdeal.defs (F := Ideal)) (onTc (τ := Cert.SmallStepIdeal.τ) (Cert.SmallStepIdeal.main (F := Ideal))) ⟨m, fun _ => 0, g⟩ (fun r => (∀ c : Dev Cert.SmallStepIdeal.nD,
      r.2.mem ((c.tc : Thread Cert.SmallStepIdeal.nD Cert.SmallStepIdeal.τ).loc Cert.SmallStepIdeal.main_arg0) = m ((c.tc : Thread Cert.SmallStepIdeal.nD Cert.SmallStepIdeal.τ).loc Cert.SmallStepIdeal.main_arg0)
      ∧ r.2.mem ((c.tc : Thread Cert.SmallStepIdeal.nD Cert.SmallStepIdeal.τ).loc Cert.SmallStepIdeal.main_arg1) = m ((c.tc : Thread Cert.SmallStepIdeal.nD Cert.SmallStepIdeal.τ).loc Cert.SmallStepIdeal.main_arg1)
      ∧ r.2.mem ((c.tc : Thread Cert.SmallStepIdeal.nD Cert.SmallStepIdeal.τ).loc Cert.SmallStepIdeal.main_arg2) = m ((c.tc : Thread Cert.SmallStepIdeal.nD Cert.SmallStepIdeal.τ).loc Cert.SmallStepIdeal.main_arg2)
      ∧ r.2.mem ((c.tc : Thread Cert.SmallStepIdeal.nD Cert.SmallStepIdeal.τ).loc Cert.SmallStepIdeal.main_arg3) = m ((c.tc : Thread Cert.SmallStepIdeal.nD Cert.SmallStepIdeal.τ).loc Cert.SmallStepIdeal.main_arg3)
      ∧ r.2.mem ((c.tc : Thread Cert.SmallStepIdeal.nD Cert.SmallStepIdeal.τ).loc Cert.SmallStepIdeal.main_arg4) = m ((c.tc : Thread Cert.SmallStepIdeal.nD Cert.SmallStepIdeal.τ).loc Cert.SmallStepIdeal.main_arg4)
      ∧ r.2.mem ((c.tc : Thread Cert.SmallStepIdeal.nD Cert.SmallStepIdeal.τ).loc Cert.SmallStepIdeal.main_arg5) = m ((c.tc : Thread Cert.SmallStepIdeal.nD Cert.SmallStepIdeal.τ).loc Cert.SmallStepIdeal.main_arg5)
      ∧ r.2.mem ((c.tc : Thread Cert.SmallStepIdeal.nD Cert.SmallStepIdeal.τ).loc Cert.SmallStepIdeal.main_arg6) = m ((c.tc : Thread Cert.SmallStepIdeal.nD Cert.SmallStepIdeal.τ).loc Cert.SmallStepIdeal.main_arg6)
      ∧ r.2.mem ((c.tc : Thread Cert.SmallStepIdeal.nD Cert.SmallStepIdeal.τ).loc Cert.SmallStepIdeal.main_arg7) = m ((c.tc : Thread Cert.SmallStepIdeal.nD Cert.SmallStepIdeal.τ).loc Cert.SmallStepIdeal.main_arg7)
      ∧ r.2.mem ((c.tc : Thread Cert.SmallStepIdeal.nD Cert.SmallStepIdeal.τ).loc Cert.SmallStepIdeal.main_arg8) = m ((c.tc : Thread Cert.SmallStepIdeal.nD Cert.SmallStepIdeal.τ).loc Cert.SmallStepIdeal.main_arg8)
      ∧ r.2.mem ((c.tc : Thread Cert.SmallStepIdeal.nD Cert.SmallStepIdeal.τ).loc Cert.SmallStepIdeal.main_arg9) = m ((c.tc : Thread Cert.SmallStepIdeal.nD Cert.SmallStepIdeal.τ).loc Cert.SmallStepIdeal.main_arg9)
      ∧ r.2.mem ((c.tc : Thread Cert.SmallStepIdeal.nD Cert.SmallStepIdeal.τ).loc Cert.SmallStepIdeal.main_arg10) = m ((c.tc : Thread Cert.SmallStepIdeal.nD Cert.SmallStepIdeal.τ).loc Cert.SmallStepIdeal.main_arg10)
      ∧ r.2.mem ((c.tc : Thread Cert.SmallStepIdeal.nD Cert.SmallStepIdeal.τ).loc Cert.SmallStepIdeal.main_arg11) = m ((c.tc : Thread Cert.SmallStepIdeal.nD Cert.SmallStepIdeal.τ).loc Cert.SmallStepIdeal.main_arg11)
      ∧ r.2.mem ((c.tc : Thread Cert.SmallStepIdeal.nD Cert.SmallStepIdeal.τ).loc Cert.SmallStepIdeal.main_arg12) = m ((c.tc : Thread Cert.SmallStepIdeal.nD Cert.SmallStepIdeal.τ).loc Cert.SmallStepIdeal.main_arg12)
      ∧ r.2.mem ((c.tc : Thread Cert.SmallStepIdeal.nD Cert.SmallStepIdeal.τ).loc Cert.SmallStepIdeal.main_arg13) = m ((c.tc : Thread Cert.SmallStepIdeal.nD Cert.SmallStepIdeal.τ).loc Cert.SmallStepIdeal.main_arg13)
      ∧ r.2.mem ((c.tc : Thread Cert.SmallStepIdeal.nD Cert.SmallStepIdeal.τ).loc Cert.SmallStepIdeal.main_arg14) = m ((c.tc : Thread Cert.SmallStepIdeal.nD Cert.SmallStepIdeal.τ).loc Cert.SmallStepIdeal.main_arg14)
      ∧ r.2.mem ((c.tc : Thread Cert.SmallStepIdeal.nD Cert.SmallStepIdeal.τ).loc Cert.SmallStepIdeal.main_arg15) = m ((c.tc : Thread Cert.SmallStepIdeal.nD Cert.SmallStepIdeal.τ).loc Cert.SmallStepIdeal.main_arg15)
      ∧ r.2.mem ((c.tc : Thread Cert.SmallStepIdeal.nD Cert.SmallStepIdeal.τ).loc Cert.SmallStepIdeal.main_arg16) = m ((c.tc : Thread Cert.SmallStepIdeal.nD Cert.SmallStepIdeal.τ).loc Cert.SmallStepIdeal.main_arg16)
      ∧ r.2.mem ((c.tc : Thread Cert.SmallStepIdeal.nD Cert.SmallStepIdeal.τ).loc Cert.SmallStepIdeal.main_arg17) = m ((c.tc : Thread Cert.SmallStepIdeal.nD Cert.SmallStepIdeal.τ).loc Cert.SmallStepIdeal.main_arg17)
      ∧ r.2.mem ((c.tc : Thread Cert.SmallStepIdeal.nD Cert.SmallStepIdeal.τ).loc Cert.SmallStepIdeal.main_arg18) = m ((c.tc : Thread Cert.SmallStepIdeal.nD Cert.SmallStepIdeal.τ).loc Cert.SmallStepIdeal.main_arg18))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18))
      ∧ r.2.sem = fun _ => 0)

def preserves_FfnBwd_FfnBwdIdeal : Prop :=
  True

def algebraic_FfnBwdIdeal_FfnGradIdeal_pre_ffn_finite [hFfnBwdIdeal : Cert.FfnBwdIdeal.Facts] [hFfnGradIdeal : Cert.FfnGradIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnGradIdeal.nD Cert.FfnGradIdeal.τ Cert.FfnGradIdeal.sig) → Buf (Elt Ideal) ℓ) (g' : Dev Cert.FfnGradIdeal.nD → PrngReg), Pre_FfnBwdIdeal_ffn_finite m →
    (∀ c : Dev Cert.FfnBwdIdeal.nD,
      m' ((c.tc : Thread Cert.FfnGradIdeal.nD Cert.FfnGradIdeal.τ).loc Cert.FfnGradIdeal.main_arg0) = m ((c.tc : Thread Cert.FfnBwdIdeal.nD Cert.FfnBwdIdeal.τ).loc Cert.FfnBwdIdeal.main_arg0)
      ∧ m' ((c.tc : Thread Cert.FfnGradIdeal.nD Cert.FfnGradIdeal.τ).loc Cert.FfnGradIdeal.main_arg1) = m ((c.tc : Thread Cert.FfnBwdIdeal.nD Cert.FfnBwdIdeal.τ).loc Cert.FfnBwdIdeal.main_arg1)
      ∧ m' ((c.tc : Thread Cert.FfnGradIdeal.nD Cert.FfnGradIdeal.τ).loc Cert.FfnGradIdeal.main_arg2) = m ((c.tc : Thread Cert.FfnBwdIdeal.nD Cert.FfnBwdIdeal.τ).loc Cert.FfnBwdIdeal.main_arg2)
      ∧ m' ((c.tc : Thread Cert.FfnGradIdeal.nD Cert.FfnGradIdeal.τ).loc Cert.FfnGradIdeal.main_arg3) = m ((c.tc : Thread Cert.FfnBwdIdeal.nD Cert.FfnBwdIdeal.τ).loc Cert.FfnBwdIdeal.main_arg3)
      ∧ m' ((c.tc : Thread Cert.FfnGradIdeal.nD Cert.FfnGradIdeal.τ).loc Cert.FfnGradIdeal.main_arg4) = m ((c.tc : Thread Cert.FfnBwdIdeal.nD Cert.FfnBwdIdeal.τ).loc Cert.FfnBwdIdeal.main_arg4)
      ∧ m' ((c.tc : Thread Cert.FfnGradIdeal.nD Cert.FfnGradIdeal.τ).loc Cert.FfnGradIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v28_0)) (v1 : (c : Dev Cert.FfnBwdIdeal.nD) → Buf (Elt Ideal) ((c.tc : Thread Cert.FfnBwdIdeal.nD Cert.FfnBwdIdeal.τ).loc Cert.FfnBwdIdeal.main_v28_1)) (v2 : (c : Dev Cert.FfnBwdIdeal.nD) → Buf (Elt Ideal) ((c.tc : Thread Cert.FfnBwdIdeal.nD Cert.FfnBwdIdeal.τ).loc Cert.FfnBwdIdeal.main_v28_2)) (v3 : (c : Dev Cert.FfnBwdIdeal.nD) → Buf (Elt Ideal) ((c.tc : Thread Cert.FfnBwdIdeal.nD Cert.FfnBwdIdeal.τ).loc Cert.FfnBwdIdeal.main_v28_3)) (v4 : (c : Dev Cert.FfnBwdIdeal.nD) → Buf (Elt Ideal) ((c.tc : Thread Cert.FfnBwdIdeal.nD Cert.FfnBwdIdeal.τ).loc Cert.FfnBwdIdeal.main_v28_4)) (v5 : (c : Dev Cert.FfnBwdIdeal.nD) → Buf (Elt Ideal) ((c.tc : Thread Cert.FfnBwdIdeal.nD Cert.FfnBwdIdeal.τ).loc Cert.FfnBwdIdeal.main_v28_5)) (v6 : (c : Dev Cert.FfnBwdIdeal.nD) → Buf (Elt Ideal) ((c.tc : Thread Cert.FfnBwdIdeal.nD Cert.FfnBwdIdeal.τ).loc Cert.FfnBwdIdeal.main_v28_6)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v28_0) = v0 c
          ∧ r.2.mem ((c.tc : Thread Cert.FfnBwdIdeal.nD Cert.FfnBwdIdeal.τ).loc Cert.FfnBwdIdeal.main_v28_1) = v1 c
          ∧ r.2.mem ((c.tc : Thread Cert.FfnBwdIdeal.nD Cert.FfnBwdIdeal.τ).loc Cert.FfnBwdIdeal.main_v28_2) = v2 c
          ∧ r.2.mem ((c.tc : Thread Cert.FfnBwdIdeal.nD Cert.FfnBwdIdeal.τ).loc Cert.FfnBwdIdeal.main_v28_3) = v3 c
          ∧ r.2.mem ((c.tc : Thread Cert.FfnBwdIdeal.nD Cert.FfnBwdIdeal.τ).loc Cert.FfnBwdIdeal.main_v28_4) = v4 c
          ∧ r.2.mem ((c.tc : Thread Cert.FfnBwdIdeal.nD Cert.FfnBwdIdeal.τ).loc Cert.FfnBwdIdeal.main_v28_5) = v5 c
          ∧ r.2.mem ((c.tc : Thread Cert.FfnBwdIdeal.nD Cert.FfnBwdIdeal.τ).loc Cert.FfnBwdIdeal.main_v28_6) = v6 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnGradIdeal.defs (F := Ideal)) (onTc (τ := Cert.FfnGradIdeal.τ) (Cert.FfnGradIdeal.main (F := Ideal))) ⟨m', fun _ => 0, g'⟩ (fun r => ∀ c : Dev Cert.FfnGradIdeal.nD,
          r.2.mem ((c.tc : Thread Cert.FfnGradIdeal.nD Cert.FfnGradIdeal.τ).loc Cert.FfnGradIdeal.main_v86) = v0 c
          ∧ r.2.mem ((c.tc : Thread Cert.FfnGradIdeal.nD Cert.FfnGradIdeal.τ).loc Cert.FfnGradIdeal.main_v87) = v1 c
          ∧ r.2.mem ((c.tc : Thread Cert.FfnGradIdeal.nD Cert.FfnGradIdeal.τ).loc Cert.FfnGradIdeal.main_v90) = v2 c
          ∧ r.2.mem ((c.tc : Thread Cert.FfnGradIdeal.nD Cert.FfnGradIdeal.τ).loc Cert.FfnGradIdeal.main_v93) = v3 c
          ∧ r.2.mem ((c.tc : Thread Cert.FfnGradIdeal.nD Cert.FfnGradIdeal.τ).loc Cert.FfnGradIdeal.main_v94) = v4 c
          ∧ r.2.mem ((c.tc : Thread Cert.FfnGradIdeal.nD Cert.FfnGradIdeal.τ).loc Cert.FfnGradIdeal.main_v95) = v5 c
          ∧ r.2.mem ((c.tc : Thread Cert.FfnGradIdeal.nD Cert.FfnGradIdeal.τ).loc Cert.FfnGradIdeal.main_v96) = v6 c
          ∧ r.2.mem ((c.tc : Thread Cert.FfnGradIdeal.nD Cert.FfnGradIdeal.τ).loc Cert.FfnGradIdeal.main_arg0) = m' ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m' ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m' ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m' ((c.tc : Thread Cert.FfnGradIdeal.nD Cert.FfnGradIdeal.τ).loc Cert.FfnGradIdeal.main_arg3)
          ∧ r.2.mem ((c.tc : Thread Cert.FfnGradIdeal.nD Cert.FfnGradIdeal.τ).loc Cert.FfnGradIdeal.main_arg4) = m' ((c.tc : Thread Cert.FfnGradIdeal.nD Cert.FfnGradIdeal.τ).loc Cert.FfnGradIdeal.main_arg4)
          ∧ r.2.mem ((c.tc : Thread Cert.FfnGradIdeal.nD Cert.FfnGradIdeal.τ).loc Cert.FfnGradIdeal.main_arg5) = m' ((c.tc : Thread Cert.FfnGradIdeal.nD Cert.FfnGradIdeal.τ).loc Cert.FfnGradIdeal.main_arg5))

def preserves_FfnFwd_FfnFwdIdeal : Prop :=
  True

def algebraic_FfnFwdIdeal_FfnLossIdeal [hFfnFwdIdeal : Cert.FfnFwdIdeal.Facts] [hFfnLossIdeal : Cert.FfnLossIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnLossIdeal.nD Cert.FfnLossIdeal.τ Cert.FfnLossIdeal.sig) → Buf (Elt Ideal) ℓ) (g' : Dev Cert.FfnLossIdeal.nD → PrngReg), Pre_FfnFwdIdeal m →
    (∀ c : Dev Cert.FfnFwdIdeal.nD,
      m' ((c.tc : Thread Cert.FfnLossIdeal.nD Cert.FfnLossIdeal.τ).loc Cert.FfnLossIdeal.main_arg0) = m ((c.tc : Thread Cert.FfnFwdIdeal.nD Cert.FfnFwdIdeal.τ).loc Cert.FfnFwdIdeal.main_arg0)
      ∧ m' ((c.tc : Thread Cert.FfnLossIdeal.nD Cert.FfnLossIdeal.τ).loc Cert.FfnLossIdeal.main_arg1) = m ((c.tc : Thread Cert.FfnFwdIdeal.nD Cert.FfnFwdIdeal.τ).loc Cert.FfnFwdIdeal.main_arg1)
      ∧ m' ((c.tc : Thread Cert.FfnLossIdeal.nD Cert.FfnLossIdeal.τ).loc Cert.FfnLossIdeal.main_arg2) = m ((c.tc : Thread Cert.FfnFwdIdeal.nD Cert.FfnFwdIdeal.τ).loc Cert.FfnFwdIdeal.main_arg2)
      ∧ m' ((c.tc : Thread Cert.FfnLossIdeal.nD Cert.FfnLossIdeal.τ).loc Cert.FfnLossIdeal.main_arg3) = m ((c.tc : Thread Cert.FfnFwdIdeal.nD Cert.FfnFwdIdeal.τ).loc Cert.FfnFwdIdeal.main_arg3)
      ∧ m' ((c.tc : Thread Cert.FfnLossIdeal.nD Cert.FfnLossIdeal.τ).loc Cert.FfnLossIdeal.main_arg4) = m ((c.tc : Thread Cert.FfnFwdIdeal.nD Cert.FfnFwdIdeal.τ).loc Cert.FfnFwdIdeal.main_arg4)
      ∧ m' ((c.tc : Thread Cert.FfnLossIdeal.nD Cert.FfnLossIdeal.τ).loc Cert.FfnLossIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v6_0)) (v1 : (c : Dev Cert.FfnFwdIdeal.nD) → Buf (Elt Ideal) ((c.tc : Thread Cert.FfnFwdIdeal.nD Cert.FfnFwdIdeal.τ).loc Cert.FfnFwdIdeal.main_v6_1)) (v2 : (c : Dev Cert.FfnFwdIdeal.nD) → Buf (Elt Ideal) ((c.tc : Thread Cert.FfnFwdIdeal.nD Cert.FfnFwdIdeal.τ).loc Cert.FfnFwdIdeal.main_v6_2)) (v3 : (c : Dev Cert.FfnFwdIdeal.nD) → Buf (Elt Ideal) ((c.tc : Thread Cert.FfnFwdIdeal.nD Cert.FfnFwdIdeal.τ).loc Cert.FfnFwdIdeal.main_v6_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6_0) = v0 c
          ∧ r.2.mem ((c.tc : Thread Cert.FfnFwdIdeal.nD Cert.FfnFwdIdeal.τ).loc Cert.FfnFwdIdeal.main_v6_1) = v1 c
          ∧ r.2.mem ((c.tc : Thread Cert.FfnFwdIdeal.nD Cert.FfnFwdIdeal.τ).loc Cert.FfnFwdIdeal.main_v6_2) = v2 c
          ∧ r.2.mem ((c.tc : Thread Cert.FfnFwdIdeal.nD Cert.FfnFwdIdeal.τ).loc Cert.FfnFwdIdeal.main_v6_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnLossIdeal.defs (F := Ideal)) (onTc (τ := Cert.FfnLossIdeal.τ) (Cert.FfnLossIdeal.main (F := Ideal))) ⟨m', fun _ => 0, g'⟩ (fun r => ∀ c : Dev Cert.FfnLossIdeal.nD,
          r.2.mem ((c.tc : Thread Cert.FfnLossIdeal.nD Cert.FfnLossIdeal.τ).loc Cert.FfnLossIdeal.main_v47) = v0 c
          ∧ r.2.mem ((c.tc : Thread Cert.FfnLossIdeal.nD Cert.FfnLossIdeal.τ).loc Cert.FfnLossIdeal.main_v50) = v1 c
          ∧ r.2.mem ((c.tc : Thread Cert.FfnLossIdeal.nD Cert.FfnLossIdeal.τ).loc Cert.FfnLossIdeal.main_v18) = v2 c
          ∧ r.2.mem ((c.tc : Thread Cert.FfnLossIdeal.nD Cert.FfnLossIdeal.τ).loc Cert.FfnLossIdeal.main_v51) = v3 c
          ∧ r.2.mem ((c.tc : Thread Cert.FfnLossIdeal.nD Cert.FfnLossIdeal.τ).loc Cert.FfnLossIdeal.main_arg0) = m' ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m' ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m' ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m' ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m' ((c.tc : Thread Cert.FfnLossIdeal.nD Cert.FfnLossIdeal.τ).loc Cert.FfnLossIdeal.main_arg4)
          ∧ r.2.mem ((c.tc : Thread Cert.FfnLossIdeal.nD Cert.FfnLossIdeal.τ).loc Cert.FfnLossIdeal.main_arg5) = m' ((c.tc : Thread Cert.FfnLossIdeal.nD Cert.FfnLossIdeal.τ).loc Cert.FfnLossIdeal.main_arg5))

def preserves_FfnMid_FfnMidIdeal : Prop :=
  True

def algebraic_FfnMidIdeal_FfnIdeal [hFfnMidIdeal : Cert.FfnMidIdeal.Facts] [hFfnIdeal : Cert.FfnIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnIdeal.nD Cert.FfnIdeal.τ Cert.FfnIdeal.sig) → Buf (Elt Ideal) ℓ) (g' : Dev Cert.FfnIdeal.nD → PrngReg), Pre_FfnMidIdeal m →
    (∀ c : Dev Cert.FfnMidIdeal.nD,
      m' ((c.tc : Thread Cert.FfnIdeal.nD Cert.FfnIdeal.τ).loc Cert.FfnIdeal.main_arg0) = m ((c.tc : Thread Cert.FfnMidIdeal.nD Cert.FfnMidIdeal.τ).loc Cert.FfnMidIdeal.main_arg0)
      ∧ m' ((c.tc : Thread Cert.FfnIdeal.nD Cert.FfnIdeal.τ).loc Cert.FfnIdeal.main_arg1) = m ((c.tc : Thread Cert.FfnMidIdeal.nD Cert.FfnMidIdeal.τ).loc Cert.FfnMidIdeal.main_arg1)
      ∧ m' ((c.tc : Thread Cert.FfnIdeal.nD Cert.FfnIdeal.τ).loc Cert.FfnIdeal.main_arg2) = m ((c.tc : Thread Cert.FfnMidIdeal.nD Cert.FfnMidIdeal.τ).loc Cert.FfnMidIdeal.main_arg2)
      ∧ m' ((c.tc : Thread Cert.FfnIdeal.nD Cert.FfnIdeal.τ).loc Cert.FfnIdeal.main_arg3) = m ((c.tc : Thread Cert.FfnMidIdeal.nD Cert.FfnMidIdeal.τ).loc Cert.FfnMidIdeal.main_arg3)
      ∧ m' ((c.tc : Thread Cert.FfnIdeal.nD Cert.FfnIdeal.τ).loc Cert.FfnIdeal.main_arg4) = m ((c.tc : Thread Cert.FfnMidIdeal.nD Cert.FfnMidIdeal.τ).loc Cert.FfnMidIdeal.main_arg4)) →
    ∃ (v0 : (c : Dev Cert.FfnMidIdeal.nD) → Buf (Elt Ideal) ((c.tc : Thread Cert.FfnMidIdeal.nD Cert.FfnMidIdeal.τ).loc Cert.FfnMidIdeal.main_v6_0)) (v1 : (c : Dev Cert.FfnMidIdeal.nD) → Buf (Elt Ideal) ((c.tc : Thread Cert.FfnMidIdeal.nD Cert.FfnMidIdeal.τ).loc Cert.FfnMidIdeal.main_v6_1)) (v2 : (c : Dev Cert.FfnMidIdeal.nD) → Buf (Elt Ideal) ((c.tc : Thread Cert.FfnMidIdeal.nD Cert.FfnMidIdeal.τ).loc Cert.FfnMidIdeal.main_v6_2)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v6_0) = v0 c
          ∧ r.2.mem ((c.tc : Thread Cert.FfnMidIdeal.nD Cert.FfnMidIdeal.τ).loc Cert.FfnMidIdeal.main_v6_1) = v1 c
          ∧ r.2.mem ((c.tc : Thread Cert.FfnMidIdeal.nD Cert.FfnMidIdeal.τ).loc Cert.FfnMidIdeal.main_v6_2) = v2 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ θ_run (Cert.FfnIdeal.defs (F := Ideal)) (onTc (τ := Cert.FfnIdeal.τ) (Cert.FfnIdeal.main (F := Ideal))) ⟨m', fun _ => 0, g'⟩ (fun r => ∀ c : Dev Cert.FfnIdeal.nD,
          r.2.mem ((c.tc : Thread Cert.FfnIdeal.nD Cert.FfnIdeal.τ).loc Cert.FfnIdeal.main_v32) = v0 c
          ∧ r.2.mem ((c.tc : Thread Cert.FfnIdeal.nD Cert.FfnIdeal.τ).loc Cert.FfnIdeal.main_v35) = v1 c
          ∧ r.2.mem ((c.tc : Thread Cert.FfnIdeal.nD Cert.FfnIdeal.τ).loc Cert.FfnIdeal.main_v18) = v2 c
          ∧ r.2.mem ((c.tc : Thread Cert.FfnIdeal.nD Cert.FfnIdeal.τ).loc Cert.FfnIdeal.main_arg0) = m' ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m' ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m' ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m' ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m' ((c.tc : Thread Cert.FfnIdeal.nD Cert.FfnIdeal.τ).loc Cert.FfnIdeal.main_arg4))

def preserves_WinBwd_WinBwdIdeal : Prop :=
  True

def algebraic_WinBwdIdeal_WinGradIdeal [hWinBwdIdeal : Cert.WinBwdIdeal.Facts] [hWinGradIdeal : Cert.WinGradIdeal.Facts] : Prop :=
  ∀ (m : (ℓ : Loc Cert.WinBwdIdeal.nD Cert.WinBwdIdeal.τ Cert.WinBwdIdeal.sig) → Buf (Elt Ideal) ℓ) (g : Dev Cert.WinBwdIdeal.nD → PrngReg)
    (m' : (ℓ : Loc Cert.WinGradIdeal.nD Cert.WinGradIdeal.τ Cert.WinGradIdeal.sig) → Buf (Elt Ideal) ℓ) (g' : Dev Cert.WinGradIdeal.nD → PrngReg), Pre_WinBwdIdeal m →
    (∀ c : Dev Cert.WinBwdIdeal.nD,
      m' ((c.tc : Thread Cert.WinGradIdeal.nD Cert.WinGradIdeal.τ).loc Cert.WinGradIdeal.main_arg0) = m ((c.tc : Thread Cert.WinBwdIdeal.nD Cert.WinBwdIdeal.τ).loc Cert.WinBwdIdeal.main_arg0)
      ∧ m' ((c.tc : Thread Cert.WinGradIdeal.nD Cert.WinGradIdeal.τ).loc Cert.WinGradIdeal.main_arg1) = m ((c.tc : Thread Cert.WinBwdIdeal.nD Cert.WinBwdIdeal.τ).loc Cert.WinBwdIdeal.main_arg1)
      ∧ m' ((c.tc : Thread Cert.WinGradIdeal.nD Cert.WinGradIdeal.τ).loc Cert.WinGradIdeal.main_arg2) = m ((c.tc : Thread Cert.WinBwdIdeal.nD Cert.WinBwdIdeal.τ).loc Cert.WinBwdIdeal.main_arg2)
      ∧ m' ((c.tc : Thread Cert.WinGradIdeal.nD Cert.WinGradIdeal.τ).loc Cert.WinGradIdeal.main_arg3) = m ((c.tc : Thread Cert.WinBwdIdeal.nD Cert.WinBwdIdeal.τ).loc Cert.WinBwdIdeal.main_arg3)) →
    ∃ (v0 : (c : Dev Cert.WinBwdIdeal.nD) → Buf (Elt Ideal) ((c.tc : Thread Cert.WinBwdIdeal.nD Cert.WinBwdIdeal.τ).loc Cert.WinBwdIdeal.main_v16)),
      θ_run (Cert.WinBwdIdeal.defs (F := Ideal)) (onTc (τ := Cert.WinBwdIdeal.τ) (Cert.WinBwdIdeal.main (F := Ideal))) ⟨m, fun _ => 0, g⟩ (fun r => ∀ c : Dev Cert.WinBwdIdeal.nD,
          r.2.mem ((c.tc : Thread Cert.WinBwdIdeal.nD Cert.WinBwdIdeal.τ).loc Cert.WinBwdIdeal.main_v16) = v0 c
          ∧ r.2.mem ((c.tc : Thread Cert.WinBwdIdeal.nD Cert.WinBwdIdeal.τ).loc Cert.WinBwdIdeal.main_arg0) = m ((c.tc : Thread Cert.WinBwdIdeal.nD Cert.WinBwdIdeal.τ).loc Cert.WinBwdIdeal.main_arg0)
          ∧ r.2.mem ((c.tc : Thread Cert.WinBwdIdeal.nD Cert.WinBwdIdeal.τ).loc Cert.WinBwdIdeal.main_arg1) = m ((c.tc : Thread Cert.WinBwdIdeal.nD Cert.WinBwdIdeal.τ).loc Cert.WinBwdIdeal.main_arg1)
          ∧ r.2.mem ((c.tc : Thread Cert.WinBwdIdeal.nD Cert.WinBwdIdeal.τ).loc Cert.WinBwdIdeal.main_arg2) = m ((c.tc : Thread Cert.WinBwdIdeal.nD Cert.WinBwdIdeal.τ).loc Cert.WinBwdIdeal.main_arg2)
          ∧ r.2.mem ((c.tc : Thread Cert.WinBwdIdeal.nD Cert.WinBwdIdeal.τ).loc Cert.WinBwdIdeal.main_arg3) = m ((c.tc : Thread Cert.WinBwdIdeal.nD Cert.WinBwdIdeal.τ).loc Cert.WinBwdIdeal.main_arg3))
      ∧ θ_run (Cert.WinGradIdeal.defs (F := Ideal)) (onTc (τ := Cert.WinGradIdeal.τ) (Cert.WinGradIdeal.main (F := Ideal))) ⟨m', fun _ => 0, g'⟩ (fun r => ∀ c : Dev Cert.WinGradIdeal.nD,
          r.2.mem ((c.tc : Thread Cert.WinGradIdeal.nD Cert.WinGradIdeal.τ).loc Cert.WinGradIdeal.main_v16) = v0 c
          ∧ r.2.mem ((c.tc : Thread Cert.WinGradIdeal.nD Cert.WinGradIdeal.τ).loc Cert.WinGradIdeal.main_arg0) = m' ((c.tc : Thread Cert.WinGradIdeal.nD Cert.WinGradIdeal.τ).loc Cert.WinGradIdeal.main_arg0)
          ∧ r.2.mem ((c.tc : Thread Cert.WinGradIdeal.nD Cert.WinGradIdeal.τ).loc Cert.WinGradIdeal.main_arg1) = m' ((c.tc : Thread Cert.WinGradIdeal.nD Cert.WinGradIdeal.τ).loc Cert.WinGradIdeal.main_arg1)
          ∧ r.2.mem ((c.tc : Thread Cert.WinGradIdeal.nD Cert.WinGradIdeal.τ).loc Cert.WinGradIdeal.main_arg2) = m' ((c.tc : Thread Cert.WinGradIdeal.nD Cert.WinGradIdeal.τ).loc Cert.WinGradIdeal.main_arg2)
          ∧ r.2.mem ((c.tc : Thread Cert.WinGradIdeal.nD Cert.WinGradIdeal.τ).loc Cert.WinGradIdeal.main_arg3) = m' ((c.tc : Thread Cert.WinGradIdeal.nD Cert.WinGradIdeal.τ).loc Cert.WinGradIdeal.main_arg3))

def preserves_WoutBwd_WoutBwdIdeal : Prop :=
  True

def algebraic_WoutBwdIdeal_WoutGradIdeal [hWoutBwdIdeal : Cert.WoutBwdIdeal.Facts] [hWoutGradIdeal : Cert.WoutGradIdeal.Facts] : Prop :=
  ∀ (m : (ℓ : Loc Cert.WoutBwdIdeal.nD Cert.WoutBwdIdeal.τ Cert.WoutBwdIdeal.sig) → Buf (Elt Ideal) ℓ) (g : Dev Cert.WoutBwdIdeal.nD → PrngReg)
    (m' : (ℓ : Loc Cert.WoutGradIdeal.nD Cert.WoutGradIdeal.τ Cert.WoutGradIdeal.sig) → Buf (Elt Ideal) ℓ) (g' : Dev Cert.WoutGradIdeal.nD → PrngReg), Pre_WoutBwdIdeal m →
    (∀ c : Dev Cert.WoutBwdIdeal.nD,
      m' ((c.tc : Thread Cert.WoutGradIdeal.nD Cert.WoutGradIdeal.τ).loc Cert.WoutGradIdeal.main_arg0) = m ((c.tc : Thread Cert.WoutBwdIdeal.nD Cert.WoutBwdIdeal.τ).loc Cert.WoutBwdIdeal.main_arg0)
      ∧ m' ((c.tc : Thread Cert.WoutGradIdeal.nD Cert.WoutGradIdeal.τ).loc Cert.WoutGradIdeal.main_arg1) = m ((c.tc : Thread Cert.WoutBwdIdeal.nD Cert.WoutBwdIdeal.τ).loc Cert.WoutBwdIdeal.main_arg1)
      ∧ m' ((c.tc : Thread Cert.WoutGradIdeal.nD Cert.WoutGradIdeal.τ).loc Cert.WoutGradIdeal.main_arg2) = m ((c.tc : Thread Cert.WoutBwdIdeal.nD Cert.WoutBwdIdeal.τ).loc Cert.WoutBwdIdeal.main_arg2)) →
    ∃ (v0 : (c : Dev Cert.WoutBwdIdeal.nD) → Buf (Elt Ideal) ((c.tc : Thread Cert.WoutBwdIdeal.nD Cert.WoutBwdIdeal.τ).loc Cert.WoutBwdIdeal.main_v3)),
      θ_run (Cert.WoutBwdIdeal.defs (F := Ideal)) (onTc (τ := Cert.WoutBwdIdeal.τ) (Cert.WoutBwdIdeal.main (F := Ideal))) ⟨m, fun _ => 0, g⟩ (fun r => ∀ c : Dev Cert.WoutBwdIdeal.nD,
          r.2.mem ((c.tc : Thread Cert.WoutBwdIdeal.nD Cert.WoutBwdIdeal.τ).loc Cert.WoutBwdIdeal.main_v3) = v0 c
          ∧ r.2.mem ((c.tc : Thread Cert.WoutBwdIdeal.nD Cert.WoutBwdIdeal.τ).loc Cert.WoutBwdIdeal.main_arg0) = m ((c.tc : Thread Cert.WoutBwdIdeal.nD Cert.WoutBwdIdeal.τ).loc Cert.WoutBwdIdeal.main_arg0)
          ∧ r.2.mem ((c.tc : Thread Cert.WoutBwdIdeal.nD Cert.WoutBwdIdeal.τ).loc Cert.WoutBwdIdeal.main_arg1) = m ((c.tc : Thread Cert.WoutBwdIdeal.nD Cert.WoutBwdIdeal.τ).loc Cert.WoutBwdIdeal.main_arg1)
          ∧ r.2.mem ((c.tc : Thread Cert.WoutBwdIdeal.nD Cert.WoutBwdIdeal.τ).loc Cert.WoutBwdIdeal.main_arg2) = m ((c.tc : Thread Cert.WoutBwdIdeal.nD Cert.WoutBwdIdeal.τ).loc Cert.WoutBwdIdeal.main_arg2))
      ∧ θ_run (Cert.WoutGradIdeal.defs (F := Ideal)) (onTc (τ := Cert.WoutGradIdeal.τ) (Cert.WoutGradIdeal.main (F := Ideal))) ⟨m', fun _ => 0, g'⟩ (fun r => ∀ c : Dev Cert.WoutGradIdeal.nD,
          r.2.mem ((c.tc : Thread Cert.WoutGradIdeal.nD Cert.WoutGradIdeal.τ).loc Cert.WoutGradIdeal.main_v3) = v0 c
          ∧ r.2.mem ((c.tc : Thread Cert.WoutGradIdeal.nD Cert.WoutGradIdeal.τ).loc Cert.WoutGradIdeal.main_arg0) = m' ((c.tc : Thread Cert.WoutGradIdeal.nD Cert.WoutGradIdeal.τ).loc Cert.WoutGradIdeal.main_arg0)
          ∧ r.2.mem ((c.tc : Thread Cert.WoutGradIdeal.nD Cert.WoutGradIdeal.τ).loc Cert.WoutGradIdeal.main_arg1) = m' ((c.tc : Thread Cert.WoutGradIdeal.nD Cert.WoutGradIdeal.τ).loc Cert.WoutGradIdeal.main_arg1)
          ∧ r.2.mem ((c.tc : Thread Cert.WoutGradIdeal.nD Cert.WoutGradIdeal.τ).loc Cert.WoutGradIdeal.main_arg2) = m' ((c.tc : Thread Cert.WoutGradIdeal.nD Cert.WoutGradIdeal.τ).loc Cert.WoutGradIdeal.main_arg2))

def preserves_InprojFwd_InprojFwdIdeal : Prop :=
  True

def algebraic_InprojFwdIdeal_InprojIdeal [hInprojFwdIdeal : Cert.InprojFwdIdeal.Facts] [hInprojIdeal : Cert.InprojIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.InprojIdeal.nD Cert.InprojIdeal.τ Cert.InprojIdeal.sig) → Buf (Elt Ideal) ℓ) (g' : Dev Cert.InprojIdeal.nD → PrngReg), Pre_InprojFwdIdeal m →
    (∀ c : Dev Cert.InprojFwdIdeal.nD,
      m' ((c.tc : Thread Cert.InprojIdeal.nD Cert.InprojIdeal.τ).loc Cert.InprojIdeal.main_arg0) = m ((c.tc : Thread Cert.InprojFwdIdeal.nD Cert.InprojFwdIdeal.τ).loc Cert.InprojFwdIdeal.main_arg0)
      ∧ m' ((c.tc : Thread Cert.InprojIdeal.nD Cert.InprojIdeal.τ).loc Cert.InprojIdeal.main_arg1) = m ((c.tc : Thread Cert.InprojFwdIdeal.nD Cert.InprojFwdIdeal.τ).loc Cert.InprojFwdIdeal.main_arg1)
      ∧ m' ((c.tc : Thread Cert.InprojIdeal.nD Cert.InprojIdeal.τ).loc Cert.InprojIdeal.main_arg2) = m ((c.tc : Thread Cert.InprojFwdIdeal.nD Cert.InprojFwdIdeal.τ).loc Cert.InprojFwdIdeal.main_arg2)
      ∧ m' ((c.tc : Thread Cert.InprojIdeal.nD Cert.InprojIdeal.τ).loc Cert.InprojIdeal.main_arg3) = m ((c.tc : Thread Cert.InprojFwdIdeal.nD Cert.InprojFwdIdeal.τ).loc Cert.InprojFwdIdeal.main_arg3)) →
    ∃ (v0 : (c : Dev Cert.InprojFwdIdeal.nD) → Buf (Elt Ideal) ((c.tc : Thread Cert.InprojFwdIdeal.nD Cert.InprojFwdIdeal.τ).loc Cert.InprojFwdIdeal.main_v27_0)) (v1 : (c : Dev Cert.InprojFwdIdeal.nD) → Buf (Elt Ideal) ((c.tc : Thread Cert.InprojFwdIdeal.nD Cert.InprojFwdIdeal.τ).loc Cert.InprojFwdIdeal.main_v27_1)) (v2 : (c : Dev Cert.InprojFwdIdeal.nD) → Buf (Elt Ideal) ((c.tc : Thread Cert.InprojFwdIdeal.nD Cert.InprojFwdIdeal.τ).loc Cert.InprojFwdIdeal.main_v27_2)) (v3 : (c : Dev Cert.InprojFwdIdeal.nD) → Buf (Elt Ideal) ((c.tc : Thread Cert.InprojFwdIdeal.nD Cert.InprojFwdIdeal.τ).loc Cert.InprojFwdIdeal.main_v27_3)) (v4 : (c : Dev Cert.InprojFwdIdeal.nD) → Buf (Elt Ideal) ((c.tc : Thread Cert.InprojFwdIdeal.nD Cert.InprojFwdIdeal.τ).loc Cert.InprojFwdIdeal.main_v27_4)) (v5 : (c : Dev Cert.InprojFwdIdeal.nD) → Buf (Elt Ideal) ((c.tc : Thread Cert.InprojFwdIdeal.nD Cert.InprojFwdIdeal.τ).loc Cert.InprojFwdIdeal.main_v27_5)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v27_0) = v0 c
          ∧ r.2.mem ((c.tc : Thread Cert.InprojFwdIdeal.nD Cert.InprojFwdIdeal.τ).loc Cert.InprojFwdIdeal.main_v27_1) = v1 c
          ∧ r.2.mem ((c.tc : Thread Cert.InprojFwdIdeal.nD Cert.InprojFwdIdeal.τ).loc Cert.InprojFwdIdeal.main_v27_2) = v2 c
          ∧ r.2.mem ((c.tc : Thread Cert.InprojFwdIdeal.nD Cert.InprojFwdIdeal.τ).loc Cert.InprojFwdIdeal.main_v27_3) = v3 c
          ∧ r.2.mem ((c.tc : Thread Cert.InprojFwdIdeal.nD Cert.InprojFwdIdeal.τ).loc Cert.InprojFwdIdeal.main_v27_4) = v4 c
          ∧ r.2.mem ((c.tc : Thread Cert.InprojFwdIdeal.nD Cert.InprojFwdIdeal.τ).loc Cert.InprojFwdIdeal.main_v27_5) = v5 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2)
          ∧ r.2.mem ((c.tc : Thread Cert.InprojFwdIdeal.nD Cert.InprojFwdIdeal.τ).loc Cert.InprojFwdIdeal.main_arg3) = m ((c.tc : Thread Cert.InprojFwdIdeal.nD Cert.InprojFwdIdeal.τ).loc Cert.InprojFwdIdeal.main_arg3))
      ∧ θ_run (Cert.InprojIdeal.defs (F := Ideal)) (onTc (τ := Cert.InprojIdeal.τ) (Cert.InprojIdeal.main (F := Ideal))) ⟨m', fun _ => 0, g'⟩ (fun r => ∀ c : Dev Cert.InprojIdeal.nD,
          r.2.mem ((c.tc : Thread Cert.InprojIdeal.nD Cert.InprojIdeal.τ).loc Cert.InprojIdeal.main_v94) = v0 c
          ∧ r.2.mem ((c.tc : Thread Cert.InprojIdeal.nD Cert.InprojIdeal.τ).loc Cert.InprojIdeal.main_v95) = v1 c
          ∧ r.2.mem ((c.tc : Thread Cert.InprojIdeal.nD Cert.InprojIdeal.τ).loc Cert.InprojIdeal.main_v96) = v2 c
          ∧ r.2.mem ((c.tc : Thread Cert.InprojIdeal.nD Cert.InprojIdeal.τ).loc Cert.InprojIdeal.main_v97) = v3 c
          ∧ r.2.mem ((c.tc : Thread Cert.InprojIdeal.nD Cert.InprojIdeal.τ).loc Cert.InprojIdeal.main_v98) = v4 c
          ∧ r.2.mem ((c.tc : Thread Cert.InprojIdeal.nD Cert.InprojIdeal.τ).loc Cert.InprojIdeal.main_v99) = v5 c
          ∧ r.2.mem ((c.tc : Thread Cert.InprojIdeal.nD Cert.InprojIdeal.τ).loc Cert.InprojIdeal.main_arg0) = m' ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m' ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m' ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m' ((c.tc : Thread Cert.InprojIdeal.nD Cert.InprojIdeal.τ).loc Cert.InprojIdeal.main_arg3))

def preserves_MixFwd_MixFwdIdeal : Prop :=
  True

def algebraic_MixFwdIdeal_MixIdeal [hMixFwdIdeal : Cert.MixFwdIdeal.Facts] [hMixIdeal : Cert.MixIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixIdeal.nD Cert.MixIdeal.τ Cert.MixIdeal.sig) → Buf (Elt Ideal) ℓ) (g' : Dev Cert.MixIdeal.nD → PrngReg), Pre_MixFwdIdeal m →
    (∀ c : Dev Cert.MixFwdIdeal.nD,
      m' ((c.tc : Thread Cert.MixIdeal.nD Cert.MixIdeal.τ).loc Cert.MixIdeal.main_arg0) = m ((c.tc : Thread Cert.MixFwdIdeal.nD Cert.MixFwdIdeal.τ).loc Cert.MixFwdIdeal.main_arg0)
      ∧ m' ((c.tc : Thread Cert.MixIdeal.nD Cert.MixIdeal.τ).loc Cert.MixIdeal.main_arg1) = m ((c.tc : Thread Cert.MixFwdIdeal.nD Cert.MixFwdIdeal.τ).loc Cert.MixFwdIdeal.main_arg1)
      ∧ m' ((c.tc : Thread Cert.MixIdeal.nD Cert.MixIdeal.τ).loc Cert.MixIdeal.main_arg2) = m ((c.tc : Thread Cert.MixFwdIdeal.nD Cert.MixFwdIdeal.τ).loc Cert.MixFwdIdeal.main_arg2)
      ∧ m' ((c.tc : Thread Cert.MixIdeal.nD Cert.MixIdeal.τ).loc Cert.MixIdeal.main_arg3) = m ((c.tc : Thread Cert.MixFwdIdeal.nD Cert.MixFwdIdeal.τ).loc Cert.MixFwdIdeal.main_arg3)
      ∧ m' ((c.tc : Thread Cert.MixIdeal.nD Cert.MixIdeal.τ).loc Cert.MixIdeal.main_arg4) = m ((c.tc : Thread Cert.MixFwdIdeal.nD Cert.MixFwdIdeal.τ).loc Cert.MixFwdIdeal.main_arg4)
      ∧ m' ((c.tc : Thread Cert.MixIdeal.nD Cert.MixIdeal.τ).loc Cert.MixIdeal.main_arg5) = m ((c.tc : Thread Cert.MixFwdIdeal.nD Cert.MixFwdIdeal.τ).loc Cert.MixFwdIdeal.main_arg5)
      ∧ m' ((c.tc : Thread Cert.MixIdeal.nD Cert.MixIdeal.τ).loc Cert.MixIdeal.main_arg6) = m ((c.tc : Thread Cert.MixFwdIdeal.nD Cert.MixFwdIdeal.τ).loc Cert.MixFwdIdeal.main_arg6)
      ∧ m' ((c.tc : Thread Cert.MixIdeal.nD Cert.MixIdeal.τ).loc Cert.MixIdeal.main_arg7) = m ((c.tc : Thread Cert.MixFwdIdeal.nD Cert.MixFwdIdeal.τ).loc Cert.MixFwdIdeal.main_arg7)
      ∧ m' ((c.tc : Thread Cert.MixIdeal.nD Cert.MixIdeal.τ).loc Cert.MixIdeal.main_arg8) = m ((c.tc : Thread Cert.MixFwdIdeal.nD Cert.MixFwdIdeal.τ).loc Cert.MixFwdIdeal.main_arg8)
      ∧ m' ((c.tc : Thread Cert.MixIdeal.nD Cert.MixIdeal.τ).loc Cert.MixIdeal.main_arg9) = m ((c.tc : Thread Cert.MixFwdIdeal.nD Cert.MixFwdIdeal.τ).loc Cert.MixFwdIdeal.main_arg9)) →
    ∃ (v0 : (c : Dev Cert.MixFwdIdeal.nD) → Buf (Elt Ideal) ((c.tc : Thread Cert.MixFwdIdeal.nD Cert.MixFwdIdeal.τ).loc Cert.MixFwdIdeal.main_v7_0)) (v1 : (c : Dev Cert.MixFwdIdeal.nD) → Buf (Elt Ideal) ((c.tc : Thread Cert.MixFwdIdeal.nD Cert.MixFwdIdeal.τ).loc Cert.MixFwdIdeal.main_v7_1)) (v2 : (c : Dev Cert.MixFwdIdeal.nD) → Buf (Elt Ideal) ((c.tc : Thread Cert.MixFwdIdeal.nD Cert.MixFwdIdeal.τ).loc Cert.MixFwdIdeal.main_v7_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v7_0) = v0 c
          ∧ r.2.mem ((c.tc : Thread Cert.MixFwdIdeal.nD Cert.MixFwdIdeal.τ).loc Cert.MixFwdIdeal.main_v7_1) = v1 c
          ∧ r.2.mem ((c.tc : Thread Cert.MixFwdIdeal.nD Cert.MixFwdIdeal.τ).loc Cert.MixFwdIdeal.main_v7_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ θ_run (Cert.MixIdeal.defs (F := Ideal)) (onTc (τ := Cert.MixIdeal.τ) (Cert.MixIdeal.main (F := Ideal))) ⟨m', fun _ => 0, g'⟩ (fun r => ∀ c : Dev Cert.MixIdeal.nD,
          r.2.mem ((c.tc : Thread Cert.MixIdeal.nD Cert.MixIdeal.τ).loc Cert.MixIdeal.main_v66) = v0 c
          ∧ r.2.mem ((c.tc : Thread Cert.MixIdeal.nD Cert.MixIdeal.τ).loc Cert.MixIdeal.main_v68) = v1 c
          ∧ r.2.mem ((c.tc : Thread Cert.MixIdeal.nD Cert.MixIdeal.τ).loc Cert.MixIdeal.main_v69) = v2 c
          ∧ r.2.mem ((c.tc : Thread Cert.MixIdeal.nD Cert.MixIdeal.τ).loc Cert.MixIdeal.main_arg0) = m' ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m' ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m' ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m' ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m' ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m' ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m' ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m' ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m' ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m' ((c.tc : Thread Cert.MixIdeal.nD Cert.MixIdeal.τ).loc Cert.MixIdeal.main_arg9))

def preserves_MixBwd_MixBwdIdeal : Prop :=
  True

def algebraic_MixBwdIdeal_MixGradIdeal_pre_mix_finite [hMixBwdIdeal : Cert.MixBwdIdeal.Facts] [hMixGradIdeal : Cert.MixGradIdeal.Facts] [hPre_mix_finite : Cert.Pre_mix_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixGradIdeal.nD Cert.MixGradIdeal.τ Cert.MixGradIdeal.sig) → Buf (Elt Ideal) ℓ) (g' : Dev Cert.MixGradIdeal.nD → PrngReg), Pre_MixBwdIdeal_mix_finite m →
    (∀ c : Dev Cert.MixBwdIdeal.nD,
      m' ((c.tc : Thread Cert.MixGradIdeal.nD Cert.MixGradIdeal.τ).loc Cert.MixGradIdeal.main_arg0) = m ((c.tc : Thread Cert.MixBwdIdeal.nD Cert.MixBwdIdeal.τ).loc Cert.MixBwdIdeal.main_arg0)
      ∧ m' ((c.tc : Thread Cert.MixGradIdeal.nD Cert.MixGradIdeal.τ).loc Cert.MixGradIdeal.main_arg1) = m ((c.tc : Thread Cert.MixBwdIdeal.nD Cert.MixBwdIdeal.τ).loc Cert.MixBwdIdeal.main_arg1)
      ∧ m' ((c.tc : Thread Cert.MixGradIdeal.nD Cert.MixGradIdeal.τ).loc Cert.MixGradIdeal.main_arg2) = m ((c.tc : Thread Cert.MixBwdIdeal.nD Cert.MixBwdIdeal.τ).loc Cert.MixBwdIdeal.main_arg2)
      ∧ m' ((c.tc : Thread Cert.MixGradIdeal.nD Cert.MixGradIdeal.τ).loc Cert.MixGradIdeal.main_arg3) = m ((c.tc : Thread Cert.MixBwdIdeal.nD Cert.MixBwdIdeal.τ).loc Cert.MixBwdIdeal.main_arg3)
      ∧ m' ((c.tc : Thread Cert.MixGradIdeal.nD Cert.MixGradIdeal.τ).loc Cert.MixGradIdeal.main_arg4) = m ((c.tc : Thread Cert.MixBwdIdeal.nD Cert.MixBwdIdeal.τ).loc Cert.MixBwdIdeal.main_arg4)
      ∧ m' ((c.tc : Thread Cert.MixGradIdeal.nD Cert.MixGradIdeal.τ).loc Cert.MixGradIdeal.main_arg5) = m ((c.tc : Thread Cert.MixBwdIdeal.nD Cert.MixBwdIdeal.τ).loc Cert.MixBwdIdeal.main_arg5)
      ∧ m' ((c.tc : Thread Cert.MixGradIdeal.nD Cert.MixGradIdeal.τ).loc Cert.MixGradIdeal.main_arg6) = m ((c.tc : Thread Cert.MixBwdIdeal.nD Cert.MixBwdIdeal.τ).loc Cert.MixBwdIdeal.main_arg6)
      ∧ m' ((c.tc : Thread Cert.MixGradIdeal.nD Cert.MixGradIdeal.τ).loc Cert.MixGradIdeal.main_arg7) = m ((c.tc : Thread Cert.MixBwdIdeal.nD Cert.MixBwdIdeal.τ).loc Cert.MixBwdIdeal.main_arg7)
      ∧ m' ((c.tc : Thread Cert.MixGradIdeal.nD Cert.MixGradIdeal.τ).loc Cert.MixGradIdeal.main_arg8) = m ((c.tc : Thread Cert.MixBwdIdeal.nD Cert.MixBwdIdeal.τ).loc Cert.MixBwdIdeal.main_arg8)
      ∧ m' ((c.tc : Thread Cert.MixGradIdeal.nD Cert.MixGradIdeal.τ).loc Cert.MixGradIdeal.main_arg9) = m ((c.tc : Thread Cert.MixBwdIdeal.nD Cert.MixBwdIdeal.τ).loc Cert.MixBwdIdeal.main_arg9)) →
    ∃ (v0 : (c : Dev Cert.MixBwdIdeal.nD) → Buf (Elt Ideal) ((c.tc : Thread Cert.MixBwdIdeal.nD Cert.MixBwdIdeal.τ).loc Cert.MixBwdIdeal.main_v61_0)) (v1 : (c : Dev Cert.MixBwdIdeal.nD) → Buf (Elt Ideal) ((c.tc : Thread Cert.MixBwdIdeal.nD Cert.MixBwdIdeal.τ).loc Cert.MixBwdIdeal.main_v61_1)) (v2 : (c : Dev Cert.MixBwdIdeal.nD) → Buf (Elt Ideal) ((c.tc : Thread Cert.MixBwdIdeal.nD Cert.MixBwdIdeal.τ).loc Cert.MixBwdIdeal.main_v61_2)) (v3 : (c : Dev Cert.MixBwdIdeal.nD) → Buf (Elt Ideal) ((c.tc : Thread Cert.MixBwdIdeal.nD Cert.MixBwdIdeal.τ).loc Cert.MixBwdIdeal.main_v61_3)) (v4 : (c : Dev Cert.MixBwdIdeal.nD) → Buf (Elt Ideal) ((c.tc : Thread Cert.MixBwdIdeal.nD Cert.MixBwdIdeal.τ).loc Cert.MixBwdIdeal.main_v61_4)) (v5 : (c : Dev Cert.MixBwdIdeal.nD) → Buf (Elt Ideal) ((c.tc : Thread Cert.MixBwdIdeal.nD Cert.MixBwdIdeal.τ).loc Cert.MixBwdIdeal.main_v61_5)) (v6 : (c : Dev Cert.MixBwdIdeal.nD) → Buf (Elt Ideal) ((c.tc : Thread Cert.MixBwdIdeal.nD Cert.MixBwdIdeal.τ).loc Cert.MixBwdIdeal.main_v61_6)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v61_0) = v0 c
          ∧ r.2.mem ((c.tc : Thread Cert.MixBwdIdeal.nD Cert.MixBwdIdeal.τ).loc Cert.MixBwdIdeal.main_v61_1) = v1 c
          ∧ r.2.mem ((c.tc : Thread Cert.MixBwdIdeal.nD Cert.MixBwdIdeal.τ).loc Cert.MixBwdIdeal.main_v61_2) = v2 c
          ∧ r.2.mem ((c.tc : Thread Cert.MixBwdIdeal.nD Cert.MixBwdIdeal.τ).loc Cert.MixBwdIdeal.main_v61_3) = v3 c
          ∧ r.2.mem ((c.tc : Thread Cert.MixBwdIdeal.nD Cert.MixBwdIdeal.τ).loc Cert.MixBwdIdeal.main_v61_4) = v4 c
          ∧ r.2.mem ((c.tc : Thread Cert.MixBwdIdeal.nD Cert.MixBwdIdeal.τ).loc Cert.MixBwdIdeal.main_v61_5) = v5 c
          ∧ r.2.mem ((c.tc : Thread Cert.MixBwdIdeal.nD Cert.MixBwdIdeal.τ).loc Cert.MixBwdIdeal.main_v61_6) = v6 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9))
      ∧ θ_run (Cert.MixGradIdeal.defs (F := Ideal)) (onTc (τ := Cert.MixGradIdeal.τ) (Cert.MixGradIdeal.main (F := Ideal))) ⟨m', fun _ => 0, g'⟩ (fun r => ∀ c : Dev Cert.MixGradIdeal.nD,
          r.2.mem ((c.tc : Thread Cert.MixGradIdeal.nD Cert.MixGradIdeal.τ).loc Cert.MixGradIdeal.main_v140) = v0 c
          ∧ r.2.mem ((c.tc : Thread Cert.MixGradIdeal.nD Cert.MixGradIdeal.τ).loc Cert.MixGradIdeal.main_v137) = v1 c
          ∧ r.2.mem ((c.tc : Thread Cert.MixGradIdeal.nD Cert.MixGradIdeal.τ).loc Cert.MixGradIdeal.main_v141) = v2 c
          ∧ r.2.mem ((c.tc : Thread Cert.MixGradIdeal.nD Cert.MixGradIdeal.τ).loc Cert.MixGradIdeal.main_v142) = v3 c
          ∧ r.2.mem ((c.tc : Thread Cert.MixGradIdeal.nD Cert.MixGradIdeal.τ).loc Cert.MixGradIdeal.main_v143) = v4 c
          ∧ r.2.mem ((c.tc : Thread Cert.MixGradIdeal.nD Cert.MixGradIdeal.τ).loc Cert.MixGradIdeal.main_v144) = v5 c
          ∧ r.2.mem ((c.tc : Thread Cert.MixGradIdeal.nD Cert.MixGradIdeal.τ).loc Cert.MixGradIdeal.main_v145) = v6 c
          ∧ r.2.mem ((c.tc : Thread Cert.MixGradIdeal.nD Cert.MixGradIdeal.τ).loc Cert.MixGradIdeal.main_arg0) = m' ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m' ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m' ((c.tc : Thread Cert.MixGradIdeal.nD Cert.MixGradIdeal.τ).loc Cert.MixGradIdeal.main_arg2)
          ∧ r.2.mem ((c.tc : Thread Cert.MixGradIdeal.nD Cert.MixGradIdeal.τ).loc Cert.MixGradIdeal.main_arg3) = m' ((c.tc : Thread Cert.MixGradIdeal.nD Cert.MixGradIdeal.τ).loc Cert.MixGradIdeal.main_arg3)
          ∧ r.2.mem ((c.tc : Thread Cert.MixGradIdeal.nD Cert.MixGradIdeal.τ).loc Cert.MixGradIdeal.main_arg4) = m' ((c.tc : Thread Cert.MixGradIdeal.nD Cert.MixGradIdeal.τ).loc Cert.MixGradIdeal.main_arg4)
          ∧ r.2.mem ((c.tc : Thread Cert.MixGradIdeal.nD Cert.MixGradIdeal.τ).loc Cert.MixGradIdeal.main_arg5) = m' ((c.tc : Thread Cert.MixGradIdeal.nD Cert.MixGradIdeal.τ).loc Cert.MixGradIdeal.main_arg5)
          ∧ r.2.mem ((c.tc : Thread Cert.MixGradIdeal.nD Cert.MixGradIdeal.τ).loc Cert.MixGradIdeal.main_arg6) = m' ((c.tc : Thread Cert.MixGradIdeal.nD Cert.MixGradIdeal.τ).loc Cert.MixGradIdeal.main_arg6)
          ∧ r.2.mem ((c.tc : Thread Cert.MixGradIdeal.nD Cert.MixGradIdeal.τ).loc Cert.MixGradIdeal.main_arg7) = m' ((c.tc : Thread Cert.MixGradIdeal.nD Cert.MixGradIdeal.τ).loc Cert.MixGradIdeal.main_arg7)
          ∧ r.2.mem ((c.tc : Thread Cert.MixGradIdeal.nD Cert.MixGradIdeal.τ).loc Cert.MixGradIdeal.main_arg8) = m' ((c.tc : Thread Cert.MixGradIdeal.nD Cert.MixGradIdeal.τ).loc Cert.MixGradIdeal.main_arg8)
          ∧ r.2.mem ((c.tc : Thread Cert.MixGradIdeal.nD Cert.MixGradIdeal.τ).loc Cert.MixGradIdeal.main_arg9) = m' ((c.tc : Thread Cert.MixGradIdeal.nD Cert.MixGradIdeal.τ).loc Cert.MixGradIdeal.main_arg9))

def preserves_TapsStep_TapsStepIdeal : Prop :=
  True

def algebraic_TapsStepIdeal_TapsIdeal [hTapsStepIdeal : Cert.TapsStepIdeal.Facts] [hTapsIdeal : Cert.TapsIdeal.Facts] : Prop :=
  ∀ (m : (ℓ : Loc Cert.TapsStepIdeal.nD Cert.TapsStepIdeal.τ Cert.TapsStepIdeal.sig) → Buf (Elt Ideal) ℓ) (g : Dev Cert.TapsStepIdeal.nD → PrngReg)
    (m' : (ℓ : Loc Cert.TapsIdeal.nD Cert.TapsIdeal.τ Cert.TapsIdeal.sig) → Buf (Elt Ideal) ℓ) (g' : Dev Cert.TapsIdeal.nD → PrngReg), Pre_TapsStepIdeal m →
    (∀ c : Dev Cert.TapsStepIdeal.nD,
      m' ((c.tc : Thread Cert.TapsIdeal.nD Cert.TapsIdeal.τ).loc Cert.TapsIdeal.main_arg0) = m ((c.tc : Thread Cert.TapsStepIdeal.nD Cert.TapsStepIdeal.τ).loc Cert.TapsStepIdeal.main_arg0)
      ∧ m' ((c.tc : Thread Cert.TapsIdeal.nD Cert.TapsIdeal.τ).loc Cert.TapsIdeal.main_arg1) = m ((c.tc : Thread Cert.TapsStepIdeal.nD Cert.TapsStepIdeal.τ).loc Cert.TapsStepIdeal.main_arg1)
      ∧ m' ((c.tc : Thread Cert.TapsIdeal.nD Cert.TapsIdeal.τ).loc Cert.TapsIdeal.main_arg2) = m ((c.tc : Thread Cert.TapsStepIdeal.nD Cert.TapsStepIdeal.τ).loc Cert.TapsStepIdeal.main_arg2)
      ∧ m' ((c.tc : Thread Cert.TapsIdeal.nD Cert.TapsIdeal.τ).loc Cert.TapsIdeal.main_arg3) = m ((c.tc : Thread Cert.TapsStepIdeal.nD Cert.TapsStepIdeal.τ).loc Cert.TapsStepIdeal.main_arg3)) →
    ∃ (v0 : (c : Dev Cert.TapsStepIdeal.nD) → Buf (Elt Ideal) ((c.tc : Thread Cert.TapsStepIdeal.nD Cert.TapsStepIdeal.τ).loc Cert.TapsStepIdeal.main_v0_0)) (v1 : (c : Dev Cert.TapsStepIdeal.nD) → Buf (Elt Ideal) ((c.tc : Thread Cert.TapsStepIdeal.nD Cert.TapsStepIdeal.τ).loc Cert.TapsStepIdeal.main_v0_1)) (v2 : (c : Dev Cert.TapsStepIdeal.nD) → Buf (Elt Ideal) ((c.tc : Thread Cert.TapsStepIdeal.nD Cert.TapsStepIdeal.τ).loc Cert.TapsStepIdeal.main_v0_2)),
      θ_run (Cert.TapsStepIdeal.defs (F := Ideal)) (onTc (τ := Cert.TapsStepIdeal.τ) (Cert.TapsStepIdeal.main (F := Ideal))) ⟨m, fun _ => 0, g⟩ (fun r => ∀ c : Dev Cert.TapsStepIdeal.nD,
          r.2.mem ((c.tc : Thread Cert.TapsStepIdeal.nD Cert.TapsStepIdeal.τ).loc Cert.TapsStepIdeal.main_v0_0) = v0 c
          ∧ r.2.mem ((c.tc : Thread Cert.TapsStepIdeal.nD Cert.TapsStepIdeal.τ).loc Cert.TapsStepIdeal.main_v0_1) = v1 c
          ∧ r.2.mem ((c.tc : Thread Cert.TapsStepIdeal.nD Cert.TapsStepIdeal.τ).loc Cert.TapsStepIdeal.main_v0_2) = v2 c
          ∧ r.2.mem ((c.tc : Thread Cert.TapsStepIdeal.nD Cert.TapsStepIdeal.τ).loc Cert.TapsStepIdeal.main_arg0) = m ((c.tc : Thread Cert.TapsStepIdeal.nD Cert.TapsStepIdeal.τ).loc Cert.TapsStepIdeal.main_arg0)
          ∧ r.2.mem ((c.tc : Thread Cert.TapsStepIdeal.nD Cert.TapsStepIdeal.τ).loc Cert.TapsStepIdeal.main_arg1) = m ((c.tc : Thread Cert.TapsStepIdeal.nD Cert.TapsStepIdeal.τ).loc Cert.TapsStepIdeal.main_arg1)
          ∧ r.2.mem ((c.tc : Thread Cert.TapsStepIdeal.nD Cert.TapsStepIdeal.τ).loc Cert.TapsStepIdeal.main_arg2) = m ((c.tc : Thread Cert.TapsStepIdeal.nD Cert.TapsStepIdeal.τ).loc Cert.TapsStepIdeal.main_arg2)
          ∧ r.2.mem ((c.tc : Thread Cert.TapsStepIdeal.nD Cert.TapsStepIdeal.τ).loc Cert.TapsStepIdeal.main_arg3) = m ((c.tc : Thread Cert.TapsStepIdeal.nD Cert.TapsStepIdeal.τ).loc Cert.TapsStepIdeal.main_arg3))
      ∧ θ_run (Cert.TapsIdeal.defs (F := Ideal)) (onTc (τ := Cert.TapsIdeal.τ) (Cert.TapsIdeal.main (F := Ideal))) ⟨m', fun _ => 0, g'⟩ (fun r => ∀ c : Dev Cert.TapsIdeal.nD,
          r.2.mem ((c.tc : Thread Cert.TapsIdeal.nD Cert.TapsIdeal.τ).loc Cert.TapsIdeal.main_v23) = v0 c
          ∧ r.2.mem ((c.tc : Thread Cert.TapsIdeal.nD Cert.TapsIdeal.τ).loc Cert.TapsIdeal.main_v4) = v1 c
          ∧ r.2.mem ((c.tc : Thread Cert.TapsIdeal.nD Cert.TapsIdeal.τ).loc Cert.TapsIdeal.main_v10) = v2 c
          ∧ r.2.mem ((c.tc : Thread Cert.TapsIdeal.nD Cert.TapsIdeal.τ).loc Cert.TapsIdeal.main_arg0) = m' ((c.tc : Thread Cert.TapsIdeal.nD Cert.TapsIdeal.τ).loc Cert.TapsIdeal.main_arg0)
          ∧ r.2.mem ((c.tc : Thread Cert.TapsIdeal.nD Cert.TapsIdeal.τ).loc Cert.TapsIdeal.main_arg1) = m' ((c.tc : Thread Cert.TapsIdeal.nD Cert.TapsIdeal.τ).loc Cert.TapsIdeal.main_arg1)
          ∧ r.2.mem ((c.tc : Thread Cert.TapsIdeal.nD Cert.TapsIdeal.τ).loc Cert.TapsIdeal.main_arg2) = m' ((c.tc : Thread Cert.TapsIdeal.nD Cert.TapsIdeal.τ).loc Cert.TapsIdeal.main_arg2)
          ∧ r.2.mem ((c.tc : Thread Cert.TapsIdeal.nD Cert.TapsIdeal.τ).loc Cert.TapsIdeal.main_arg3) = m' ((c.tc : Thread Cert.TapsIdeal.nD Cert.TapsIdeal.τ).loc Cert.TapsIdeal.main_arg3))

def preserves_WoutStep_WoutStepIdeal : Prop :=
  True

def algebraic_WoutStepIdeal_WoutIdeal [hWoutStepIdeal : Cert.WoutStepIdeal.Facts] [hWoutIdeal : Cert.WoutIdeal.Facts] : Prop :=
  ∀ (m : (ℓ : Loc Cert.WoutStepIdeal.nD Cert.WoutStepIdeal.τ Cert.WoutStepIdeal.sig) → Buf (Elt Ideal) ℓ) (g : Dev Cert.WoutStepIdeal.nD → PrngReg)
    (m' : (ℓ : Loc Cert.WoutIdeal.nD Cert.WoutIdeal.τ Cert.WoutIdeal.sig) → Buf (Elt Ideal) ℓ) (g' : Dev Cert.WoutIdeal.nD → PrngReg), Pre_WoutStepIdeal m →
    (∀ c : Dev Cert.WoutStepIdeal.nD,
      m' ((c.tc : Thread Cert.WoutIdeal.nD Cert.WoutIdeal.τ).loc Cert.WoutIdeal.main_arg0) = m ((c.tc : Thread Cert.WoutStepIdeal.nD Cert.WoutStepIdeal.τ).loc Cert.WoutStepIdeal.main_arg0)
      ∧ m' ((c.tc : Thread Cert.WoutIdeal.nD Cert.WoutIdeal.τ).loc Cert.WoutIdeal.main_arg1) = m ((c.tc : Thread Cert.WoutStepIdeal.nD Cert.WoutStepIdeal.τ).loc Cert.WoutStepIdeal.main_arg1)
      ∧ m' ((c.tc : Thread Cert.WoutIdeal.nD Cert.WoutIdeal.τ).loc Cert.WoutIdeal.main_arg2) = m ((c.tc : Thread Cert.WoutStepIdeal.nD Cert.WoutStepIdeal.τ).loc Cert.WoutStepIdeal.main_arg2)
      ∧ m' ((c.tc : Thread Cert.WoutIdeal.nD Cert.WoutIdeal.τ).loc Cert.WoutIdeal.main_arg3) = m ((c.tc : Thread Cert.WoutStepIdeal.nD Cert.WoutStepIdeal.τ).loc Cert.WoutStepIdeal.main_arg3)
      ∧ m' ((c.tc : Thread Cert.WoutIdeal.nD Cert.WoutIdeal.τ).loc Cert.WoutIdeal.main_arg4) = m ((c.tc : Thread Cert.WoutStepIdeal.nD Cert.WoutStepIdeal.τ).loc Cert.WoutStepIdeal.main_arg4)
      ∧ m' ((c.tc : Thread Cert.WoutIdeal.nD Cert.WoutIdeal.τ).loc Cert.WoutIdeal.main_arg5) = m ((c.tc : Thread Cert.WoutStepIdeal.nD Cert.WoutStepIdeal.τ).loc Cert.WoutStepIdeal.main_arg5)
      ∧ m' ((c.tc : Thread Cert.WoutIdeal.nD Cert.WoutIdeal.τ).loc Cert.WoutIdeal.main_arg6) = m ((c.tc : Thread Cert.WoutStepIdeal.nD Cert.WoutStepIdeal.τ).loc Cert.WoutStepIdeal.main_arg6)) →
    ∃ (v0 : (c : Dev Cert.WoutStepIdeal.nD) → Buf (Elt Ideal) ((c.tc : Thread Cert.WoutStepIdeal.nD Cert.WoutStepIdeal.τ).loc Cert.WoutStepIdeal.main_v0_0)) (v1 : (c : Dev Cert.WoutStepIdeal.nD) → Buf (Elt Ideal) ((c.tc : Thread Cert.WoutStepIdeal.nD Cert.WoutStepIdeal.τ).loc Cert.WoutStepIdeal.main_v0_1)) (v2 : (c : Dev Cert.WoutStepIdeal.nD) → Buf (Elt Ideal) ((c.tc : Thread Cert.WoutStepIdeal.nD Cert.WoutStepIdeal.τ).loc Cert.WoutStepIdeal.main_v0_2)) (v3 : (c : Dev Cert.WoutStepIdeal.nD) → Buf (Elt Ideal) ((c.tc : Thread Cert.WoutStepIdeal.nD Cert.WoutStepIdeal.τ).loc Cert.WoutStepIdeal.main_v0_3)),
      θ_run (Cert.WoutStepIdeal.defs (F := Ideal)) (onTc (τ := Cert.WoutStepIdeal.τ) (Cert.WoutStepIdeal.main (F := Ideal))) ⟨m, fun _ => 0, g⟩ (fun r => ∀ c : Dev Cert.WoutStepIdeal.nD,
          r.2.mem ((c.tc : Thread Cert.WoutStepIdeal.nD Cert.WoutStepIdeal.τ).loc Cert.WoutStepIdeal.main_v0_0) = v0 c
          ∧ r.2.mem ((c.tc : Thread Cert.WoutStepIdeal.nD Cert.WoutStepIdeal.τ).loc Cert.WoutStepIdeal.main_v0_1) = v1 c
          ∧ r.2.mem ((c.tc : Thread Cert.WoutStepIdeal.nD Cert.WoutStepIdeal.τ).loc Cert.WoutStepIdeal.main_v0_2) = v2 c
          ∧ r.2.mem ((c.tc : Thread Cert.WoutStepIdeal.nD Cert.WoutStepIdeal.τ).loc Cert.WoutStepIdeal.main_v0_3) = v3 c
          ∧ r.2.mem ((c.tc : Thread Cert.WoutStepIdeal.nD Cert.WoutStepIdeal.τ).loc Cert.WoutStepIdeal.main_arg0) = m ((c.tc : Thread Cert.WoutStepIdeal.nD Cert.WoutStepIdeal.τ).loc Cert.WoutStepIdeal.main_arg0)
          ∧ r.2.mem ((c.tc : Thread Cert.WoutStepIdeal.nD Cert.WoutStepIdeal.τ).loc Cert.WoutStepIdeal.main_arg1) = m ((c.tc : Thread Cert.WoutStepIdeal.nD Cert.WoutStepIdeal.τ).loc Cert.WoutStepIdeal.main_arg1)
          ∧ r.2.mem ((c.tc : Thread Cert.WoutStepIdeal.nD Cert.WoutStepIdeal.τ).loc Cert.WoutStepIdeal.main_arg2) = m ((c.tc : Thread Cert.WoutStepIdeal.nD Cert.WoutStepIdeal.τ).loc Cert.WoutStepIdeal.main_arg2)
          ∧ r.2.mem ((c.tc : Thread Cert.WoutStepIdeal.nD Cert.WoutStepIdeal.τ).loc Cert.WoutStepIdeal.main_arg3) = m ((c.tc : Thread Cert.WoutStepIdeal.nD Cert.WoutStepIdeal.τ).loc Cert.WoutStepIdeal.main_arg3)
          ∧ r.2.mem ((c.tc : Thread Cert.WoutStepIdeal.nD Cert.WoutStepIdeal.τ).loc Cert.WoutStepIdeal.main_arg4) = m ((c.tc : Thread Cert.WoutStepIdeal.nD Cert.WoutStepIdeal.τ).loc Cert.WoutStepIdeal.main_arg4)
          ∧ r.2.mem ((c.tc : Thread Cert.WoutStepIdeal.nD Cert.WoutStepIdeal.τ).loc Cert.WoutStepIdeal.main_arg5) = m ((c.tc : Thread Cert.WoutStepIdeal.nD Cert.WoutStepIdeal.τ).loc Cert.WoutStepIdeal.main_arg5)
          ∧ r.2.mem ((c.tc : Thread Cert.WoutStepIdeal.nD Cert.WoutStepIdeal.τ).loc Cert.WoutStepIdeal.main_arg6) = m ((c.tc : Thread Cert.WoutStepIdeal.nD Cert.WoutStepIdeal.τ).loc Cert.WoutStepIdeal.main_arg6))
      ∧ θ_run (Cert.WoutIdeal.defs (F := Ideal)) (onTc (τ := Cert.WoutIdeal.τ) (Cert.WoutIdeal.main (F := Ideal))) ⟨m', fun _ => 0, g'⟩ (fun r => ∀ c : Dev Cert.WoutIdeal.nD,
          r.2.mem ((c.tc : Thread Cert.WoutIdeal.nD Cert.WoutIdeal.τ).loc Cert.WoutIdeal.main_v12) = v0 c
          ∧ r.2.mem ((c.tc : Thread Cert.WoutIdeal.nD Cert.WoutIdeal.τ).loc Cert.WoutIdeal.main_v36) = v1 c
          ∧ r.2.mem ((c.tc : Thread Cert.WoutIdeal.nD Cert.WoutIdeal.τ).loc Cert.WoutIdeal.main_v17) = v2 c
          ∧ r.2.mem ((c.tc : Thread Cert.WoutIdeal.nD Cert.WoutIdeal.τ).loc Cert.WoutIdeal.main_v23) = v3 c
          ∧ r.2.mem ((c.tc : Thread Cert.WoutIdeal.nD Cert.WoutIdeal.τ).loc Cert.WoutIdeal.main_arg0) = m' ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m' ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m' ((c.tc : Thread Cert.WoutIdeal.nD Cert.WoutIdeal.τ).loc Cert.WoutIdeal.main_arg2)
          ∧ r.2.mem ((c.tc : Thread Cert.WoutIdeal.nD Cert.WoutIdeal.τ).loc Cert.WoutIdeal.main_arg3) = m' ((c.tc : Thread Cert.WoutIdeal.nD Cert.WoutIdeal.τ).loc Cert.WoutIdeal.main_arg3)
          ∧ r.2.mem ((c.tc : Thread Cert.WoutIdeal.nD Cert.WoutIdeal.τ).loc Cert.WoutIdeal.main_arg4) = m' ((c.tc : Thread Cert.WoutIdeal.nD Cert.WoutIdeal.τ).loc Cert.WoutIdeal.main_arg4)
          ∧ r.2.mem ((c.tc : Thread Cert.WoutIdeal.nD Cert.WoutIdeal.τ).loc Cert.WoutIdeal.main_arg5) = m' ((c.tc : Thread Cert.WoutIdeal.nD Cert.WoutIdeal.τ).loc Cert.WoutIdeal.main_arg5)
          ∧ r.2.mem ((c.tc : Thread Cert.WoutIdeal.nD Cert.WoutIdeal.τ).loc Cert.WoutIdeal.main_arg6) = m' ((c.tc : Thread Cert.WoutIdeal.nD Cert.WoutIdeal.τ).loc Cert.WoutIdeal.main_arg6))

def preserves_WinStep_WinStepIdeal : Prop :=
  True

def algebraic_WinStepIdeal_WinIdeal [hWinStepIdeal : Cert.WinStepIdeal.Facts] [hWinIdeal : Cert.WinIdeal.Facts] : Prop :=
  ∀ (m : (ℓ : Loc Cert.WinStepIdeal.nD Cert.WinStepIdeal.τ Cert.WinStepIdeal.sig) → Buf (Elt Ideal) ℓ) (g : Dev Cert.WinStepIdeal.nD → PrngReg)
    (m' : (ℓ : Loc Cert.WinIdeal.nD Cert.WinIdeal.τ Cert.WinIdeal.sig) → Buf (Elt Ideal) ℓ) (g' : Dev Cert.WinIdeal.nD → PrngReg), Pre_WinStepIdeal m →
    (∀ c : Dev Cert.WinStepIdeal.nD,
      m' ((c.tc : Thread Cert.WinIdeal.nD Cert.WinIdeal.τ).loc Cert.WinIdeal.main_arg0) = m ((c.tc : Thread Cert.WinStepIdeal.nD Cert.WinStepIdeal.τ).loc Cert.WinStepIdeal.main_arg0)
      ∧ m' ((c.tc : Thread Cert.WinIdeal.nD Cert.WinIdeal.τ).loc Cert.WinIdeal.main_arg1) = m ((c.tc : Thread Cert.WinStepIdeal.nD Cert.WinStepIdeal.τ).loc Cert.WinStepIdeal.main_arg1)
      ∧ m' ((c.tc : Thread Cert.WinIdeal.nD Cert.WinIdeal.τ).loc Cert.WinIdeal.main_arg2) = m ((c.tc : Thread Cert.WinStepIdeal.nD Cert.WinStepIdeal.τ).loc Cert.WinStepIdeal.main_arg2)
      ∧ m' ((c.tc : Thread Cert.WinIdeal.nD Cert.WinIdeal.τ).loc Cert.WinIdeal.main_arg3) = m ((c.tc : Thread Cert.WinStepIdeal.nD Cert.WinStepIdeal.τ).loc Cert.WinStepIdeal.main_arg3)
      ∧ m' ((c.tc : Thread Cert.WinIdeal.nD Cert.WinIdeal.τ).loc Cert.WinIdeal.main_arg4) = m ((c.tc : Thread Cert.WinStepIdeal.nD Cert.WinStepIdeal.τ).loc Cert.WinStepIdeal.main_arg4)
      ∧ m' ((c.tc : Thread Cert.WinIdeal.nD Cert.WinIdeal.τ).loc Cert.WinIdeal.main_arg5) = m ((c.tc : Thread Cert.WinStepIdeal.nD Cert.WinStepIdeal.τ).loc Cert.WinStepIdeal.main_arg5)
      ∧ m' ((c.tc : Thread Cert.WinIdeal.nD Cert.WinIdeal.τ).loc Cert.WinIdeal.main_arg6) = m ((c.tc : Thread Cert.WinStepIdeal.nD Cert.WinStepIdeal.τ).loc Cert.WinStepIdeal.main_arg6)) →
    ∃ (v0 : (c : Dev Cert.WinStepIdeal.nD) → Buf (Elt Ideal) ((c.tc : Thread Cert.WinStepIdeal.nD Cert.WinStepIdeal.τ).loc Cert.WinStepIdeal.main_v0_0)) (v1 : (c : Dev Cert.WinStepIdeal.nD) → Buf (Elt Ideal) ((c.tc : Thread Cert.WinStepIdeal.nD Cert.WinStepIdeal.τ).loc Cert.WinStepIdeal.main_v0_1)) (v2 : (c : Dev Cert.WinStepIdeal.nD) → Buf (Elt Ideal) ((c.tc : Thread Cert.WinStepIdeal.nD Cert.WinStepIdeal.τ).loc Cert.WinStepIdeal.main_v0_2)) (v3 : (c : Dev Cert.WinStepIdeal.nD) → Buf (Elt Ideal) ((c.tc : Thread Cert.WinStepIdeal.nD Cert.WinStepIdeal.τ).loc Cert.WinStepIdeal.main_v0_3)),
      θ_run (Cert.WinStepIdeal.defs (F := Ideal)) (onTc (τ := Cert.WinStepIdeal.τ) (Cert.WinStepIdeal.main (F := Ideal))) ⟨m, fun _ => 0, g⟩ (fun r => ∀ c : Dev Cert.WinStepIdeal.nD,
          r.2.mem ((c.tc : Thread Cert.WinStepIdeal.nD Cert.WinStepIdeal.τ).loc Cert.WinStepIdeal.main_v0_0) = v0 c
          ∧ r.2.mem ((c.tc : Thread Cert.WinStepIdeal.nD Cert.WinStepIdeal.τ).loc Cert.WinStepIdeal.main_v0_1) = v1 c
          ∧ r.2.mem ((c.tc : Thread Cert.WinStepIdeal.nD Cert.WinStepIdeal.τ).loc Cert.WinStepIdeal.main_v0_2) = v2 c
          ∧ r.2.mem ((c.tc : Thread Cert.WinStepIdeal.nD Cert.WinStepIdeal.τ).loc Cert.WinStepIdeal.main_v0_3) = v3 c
          ∧ r.2.mem ((c.tc : Thread Cert.WinStepIdeal.nD Cert.WinStepIdeal.τ).loc Cert.WinStepIdeal.main_arg0) = m ((c.tc : Thread Cert.WinStepIdeal.nD Cert.WinStepIdeal.τ).loc Cert.WinStepIdeal.main_arg0)
          ∧ r.2.mem ((c.tc : Thread Cert.WinStepIdeal.nD Cert.WinStepIdeal.τ).loc Cert.WinStepIdeal.main_arg1) = m ((c.tc : Thread Cert.WinStepIdeal.nD Cert.WinStepIdeal.τ).loc Cert.WinStepIdeal.main_arg1)
          ∧ r.2.mem ((c.tc : Thread Cert.WinStepIdeal.nD Cert.WinStepIdeal.τ).loc Cert.WinStepIdeal.main_arg2) = m ((c.tc : Thread Cert.WinStepIdeal.nD Cert.WinStepIdeal.τ).loc Cert.WinStepIdeal.main_arg2)
          ∧ r.2.mem ((c.tc : Thread Cert.WinStepIdeal.nD Cert.WinStepIdeal.τ).loc Cert.WinStepIdeal.main_arg3) = m ((c.tc : Thread Cert.WinStepIdeal.nD Cert.WinStepIdeal.τ).loc Cert.WinStepIdeal.main_arg3)
          ∧ r.2.mem ((c.tc : Thread Cert.WinStepIdeal.nD Cert.WinStepIdeal.τ).loc Cert.WinStepIdeal.main_arg4) = m ((c.tc : Thread Cert.WinStepIdeal.nD Cert.WinStepIdeal.τ).loc Cert.WinStepIdeal.main_arg4)
          ∧ r.2.mem ((c.tc : Thread Cert.WinStepIdeal.nD Cert.WinStepIdeal.τ).loc Cert.WinStepIdeal.main_arg5) = m ((c.tc : Thread Cert.WinStepIdeal.nD Cert.WinStepIdeal.τ).loc Cert.WinStepIdeal.main_arg5)
          ∧ r.2.mem ((c.tc : Thread Cert.WinStepIdeal.nD Cert.WinStepIdeal.τ).loc Cert.WinStepIdeal.main_arg6) = m ((c.tc : Thread Cert.WinStepIdeal.nD Cert.WinStepIdeal.τ).loc Cert.WinStepIdeal.main_arg6))
      ∧ θ_run (Cert.WinIdeal.defs (F := Ideal)) (onTc (τ := Cert.WinIdeal.τ) (Cert.WinIdeal.main (F := Ideal))) ⟨m', fun _ => 0, g'⟩ (fun r => ∀ c : Dev Cert.WinIdeal.nD,
          r.2.mem ((c.tc : Thread Cert.WinIdeal.nD Cert.WinIdeal.τ).loc Cert.WinIdeal.main_v12) = v0 c
          ∧ r.2.mem ((c.tc : Thread Cert.WinIdeal.nD Cert.WinIdeal.τ).loc Cert.WinIdeal.main_v36) = v1 c
          ∧ r.2.mem ((c.tc : Thread Cert.WinIdeal.nD Cert.WinIdeal.τ).loc Cert.WinIdeal.main_v17) = v2 c
          ∧ r.2.mem ((c.tc : Thread Cert.WinIdeal.nD Cert.WinIdeal.τ).loc Cert.WinIdeal.main_v23) = v3 c
          ∧ r.2.mem ((c.tc : Thread Cert.WinIdeal.nD Cert.WinIdeal.τ).loc Cert.WinIdeal.main_arg0) = m' ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m' ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m' ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m' ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m' ((c.tc : Thread Cert.WinIdeal.nD Cert.WinIdeal.τ).loc Cert.WinIdeal.main_arg4)
          ∧ r.2.mem ((c.tc : Thread Cert.WinIdeal.nD Cert.WinIdeal.τ).loc Cert.WinIdeal.main_arg5) = m' ((c.tc : Thread Cert.WinIdeal.nD Cert.WinIdeal.τ).loc Cert.WinIdeal.main_arg5)
          ∧ r.2.mem ((c.tc : Thread Cert.WinIdeal.nD Cert.WinIdeal.τ).loc Cert.WinIdeal.main_arg6) = m' ((c.tc : Thread Cert.WinIdeal.nD Cert.WinIdeal.τ).loc Cert.WinIdeal.main_arg6))

def preserves_WdownStep_WdownStepIdeal : Prop :=
  True

def algebraic_WdownStepIdeal_WdownIdeal [hWdownStepIdeal : Cert.WdownStepIdeal.Facts] [hWdownIdeal : Cert.WdownIdeal.Facts] : Prop :=
  ∀ (m : (ℓ : Loc Cert.WdownStepIdeal.nD Cert.WdownStepIdeal.τ Cert.WdownStepIdeal.sig) → Buf (Elt Ideal) ℓ) (g : Dev Cert.WdownStepIdeal.nD → PrngReg)
    (m' : (ℓ : Loc Cert.WdownIdeal.nD Cert.WdownIdeal.τ Cert.WdownIdeal.sig) → Buf (Elt Ideal) ℓ) (g' : Dev Cert.WdownIdeal.nD → PrngReg), Pre_WdownStepIdeal m →
    (∀ c : Dev Cert.WdownStepIdeal.nD,
      m' ((c.tc : Thread Cert.WdownIdeal.nD Cert.WdownIdeal.τ).loc Cert.WdownIdeal.main_arg0) = m ((c.tc : Thread Cert.WdownStepIdeal.nD Cert.WdownStepIdeal.τ).loc Cert.WdownStepIdeal.main_arg0)
      ∧ m' ((c.tc : Thread Cert.WdownIdeal.nD Cert.WdownIdeal.τ).loc Cert.WdownIdeal.main_arg1) = m ((c.tc : Thread Cert.WdownStepIdeal.nD Cert.WdownStepIdeal.τ).loc Cert.WdownStepIdeal.main_arg1)
      ∧ m' ((c.tc : Thread Cert.WdownIdeal.nD Cert.WdownIdeal.τ).loc Cert.WdownIdeal.main_arg2) = m ((c.tc : Thread Cert.WdownStepIdeal.nD Cert.WdownStepIdeal.τ).loc Cert.WdownStepIdeal.main_arg2)
      ∧ m' ((c.tc : Thread Cert.WdownIdeal.nD Cert.WdownIdeal.τ).loc Cert.WdownIdeal.main_arg3) = m ((c.tc : Thread Cert.WdownStepIdeal.nD Cert.WdownStepIdeal.τ).loc Cert.WdownStepIdeal.main_arg3)
      ∧ m' ((c.tc : Thread Cert.WdownIdeal.nD Cert.WdownIdeal.τ).loc Cert.WdownIdeal.main_arg4) = m ((c.tc : Thread Cert.WdownStepIdeal.nD Cert.WdownStepIdeal.τ).loc Cert.WdownStepIdeal.main_arg4)
      ∧ m' ((c.tc : Thread Cert.WdownIdeal.nD Cert.WdownIdeal.τ).loc Cert.WdownIdeal.main_arg5) = m ((c.tc : Thread Cert.WdownStepIdeal.nD Cert.WdownStepIdeal.τ).loc Cert.WdownStepIdeal.main_arg5)
      ∧ m' ((c.tc : Thread Cert.WdownIdeal.nD Cert.WdownIdeal.τ).loc Cert.WdownIdeal.main_arg6) = m ((c.tc : Thread Cert.WdownStepIdeal.nD Cert.WdownStepIdeal.τ).loc Cert.WdownStepIdeal.main_arg6)) →
    ∃ (v0 : (c : Dev Cert.WdownStepIdeal.nD) → Buf (Elt Ideal) ((c.tc : Thread Cert.WdownStepIdeal.nD Cert.WdownStepIdeal.τ).loc Cert.WdownStepIdeal.main_v0_0)) (v1 : (c : Dev Cert.WdownStepIdeal.nD) → Buf (Elt Ideal) ((c.tc : Thread Cert.WdownStepIdeal.nD Cert.WdownStepIdeal.τ).loc Cert.WdownStepIdeal.main_v0_1)) (v2 : (c : Dev Cert.WdownStepIdeal.nD) → Buf (Elt Ideal) ((c.tc : Thread Cert.WdownStepIdeal.nD Cert.WdownStepIdeal.τ).loc Cert.WdownStepIdeal.main_v0_2)) (v3 : (c : Dev Cert.WdownStepIdeal.nD) → Buf (Elt Ideal) ((c.tc : Thread Cert.WdownStepIdeal.nD Cert.WdownStepIdeal.τ).loc Cert.WdownStepIdeal.main_v0_3)),
      θ_run (Cert.WdownStepIdeal.defs (F := Ideal)) (onTc (τ := Cert.WdownStepIdeal.τ) (Cert.WdownStepIdeal.main (F := Ideal))) ⟨m, fun _ => 0, g⟩ (fun r => ∀ c : Dev Cert.WdownStepIdeal.nD,
          r.2.mem ((c.tc : Thread Cert.WdownStepIdeal.nD Cert.WdownStepIdeal.τ).loc Cert.WdownStepIdeal.main_v0_0) = v0 c
          ∧ r.2.mem ((c.tc : Thread Cert.WdownStepIdeal.nD Cert.WdownStepIdeal.τ).loc Cert.WdownStepIdeal.main_v0_1) = v1 c
          ∧ r.2.mem ((c.tc : Thread Cert.WdownStepIdeal.nD Cert.WdownStepIdeal.τ).loc Cert.WdownStepIdeal.main_v0_2) = v2 c
          ∧ r.2.mem ((c.tc : Thread Cert.WdownStepIdeal.nD Cert.WdownStepIdeal.τ).loc Cert.WdownStepIdeal.main_v0_3) = v3 c
          ∧ r.2.mem ((c.tc : Thread Cert.WdownStepIdeal.nD Cert.WdownStepIdeal.τ).loc Cert.WdownStepIdeal.main_arg0) = m ((c.tc : Thread Cert.WdownStepIdeal.nD Cert.WdownStepIdeal.τ).loc Cert.WdownStepIdeal.main_arg0)
          ∧ r.2.mem ((c.tc : Thread Cert.WdownStepIdeal.nD Cert.WdownStepIdeal.τ).loc Cert.WdownStepIdeal.main_arg1) = m ((c.tc : Thread Cert.WdownStepIdeal.nD Cert.WdownStepIdeal.τ).loc Cert.WdownStepIdeal.main_arg1)
          ∧ r.2.mem ((c.tc : Thread Cert.WdownStepIdeal.nD Cert.WdownStepIdeal.τ).loc Cert.WdownStepIdeal.main_arg2) = m ((c.tc : Thread Cert.WdownStepIdeal.nD Cert.WdownStepIdeal.τ).loc Cert.WdownStepIdeal.main_arg2)
          ∧ r.2.mem ((c.tc : Thread Cert.WdownStepIdeal.nD Cert.WdownStepIdeal.τ).loc Cert.WdownStepIdeal.main_arg3) = m ((c.tc : Thread Cert.WdownStepIdeal.nD Cert.WdownStepIdeal.τ).loc Cert.WdownStepIdeal.main_arg3)
          ∧ r.2.mem ((c.tc : Thread Cert.WdownStepIdeal.nD Cert.WdownStepIdeal.τ).loc Cert.WdownStepIdeal.main_arg4) = m ((c.tc : Thread Cert.WdownStepIdeal.nD Cert.WdownStepIdeal.τ).loc Cert.WdownStepIdeal.main_arg4)
          ∧ r.2.mem ((c.tc : Thread Cert.WdownStepIdeal.nD Cert.WdownStepIdeal.τ).loc Cert.WdownStepIdeal.main_arg5) = m ((c.tc : Thread Cert.WdownStepIdeal.nD Cert.WdownStepIdeal.τ).loc Cert.WdownStepIdeal.main_arg5)
          ∧ r.2.mem ((c.tc : Thread Cert.WdownStepIdeal.nD Cert.WdownStepIdeal.τ).loc Cert.WdownStepIdeal.main_arg6) = m ((c.tc : Thread Cert.WdownStepIdeal.nD Cert.WdownStepIdeal.τ).loc Cert.WdownStepIdeal.main_arg6))
      ∧ θ_run (Cert.WdownIdeal.defs (F := Ideal)) (onTc (τ := Cert.WdownIdeal.τ) (Cert.WdownIdeal.main (F := Ideal))) ⟨m', fun _ => 0, g'⟩ (fun r => ∀ c : Dev Cert.WdownIdeal.nD,
          r.2.mem ((c.tc : Thread Cert.WdownIdeal.nD Cert.WdownIdeal.τ).loc Cert.WdownIdeal.main_v12) = v0 c
          ∧ r.2.mem ((c.tc : Thread Cert.WdownIdeal.nD Cert.WdownIdeal.τ).loc Cert.WdownIdeal.main_v36) = v1 c
          ∧ r.2.mem ((c.tc : Thread Cert.WdownIdeal.nD Cert.WdownIdeal.τ).loc Cert.WdownIdeal.main_v17) = v2 c
          ∧ r.2.mem ((c.tc : Thread Cert.WdownIdeal.nD Cert.WdownIdeal.τ).loc Cert.WdownIdeal.main_v23) = v3 c
          ∧ r.2.mem ((c.tc : Thread Cert.WdownIdeal.nD Cert.WdownIdeal.τ).loc Cert.WdownIdeal.main_arg0) = m' ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m' ((c.tc : Thread Cert.WdownIdeal.nD Cert.WdownIdeal.τ).loc Cert.WdownIdeal.main_arg1)
          ∧ r.2.mem ((c.tc : Thread Cert.WdownIdeal.nD Cert.WdownIdeal.τ).loc Cert.WdownIdeal.main_arg2) = m' ((c.tc : Thread Cert.WdownIdeal.nD Cert.WdownIdeal.τ).loc Cert.WdownIdeal.main_arg2)
          ∧ r.2.mem ((c.tc : Thread Cert.WdownIdeal.nD Cert.WdownIdeal.τ).loc Cert.WdownIdeal.main_arg3) = m' ((c.tc : Thread Cert.WdownIdeal.nD Cert.WdownIdeal.τ).loc Cert.WdownIdeal.main_arg3)
          ∧ r.2.mem ((c.tc : Thread Cert.WdownIdeal.nD Cert.WdownIdeal.τ).loc Cert.WdownIdeal.main_arg4) = m' ((c.tc : Thread Cert.WdownIdeal.nD Cert.WdownIdeal.τ).loc Cert.WdownIdeal.main_arg4)
          ∧ r.2.mem ((c.tc : Thread Cert.WdownIdeal.nD Cert.WdownIdeal.τ).loc Cert.WdownIdeal.main_arg5) = m' ((c.tc : Thread Cert.WdownIdeal.nD Cert.WdownIdeal.τ).loc Cert.WdownIdeal.main_arg5)
          ∧ r.2.mem ((c.tc : Thread Cert.WdownIdeal.nD Cert.WdownIdeal.τ).loc Cert.WdownIdeal.main_arg6) = m' ((c.tc : Thread Cert.WdownIdeal.nD Cert.WdownIdeal.τ).loc Cert.WdownIdeal.main_arg6))

def preserves_WguStep_WguStepIdeal : Prop :=
  True

def algebraic_WguStepIdeal_WguIdeal [hWguStepIdeal : Cert.WguStepIdeal.Facts] [hWguIdeal : Cert.WguIdeal.Facts] : Prop :=
  ∀ (m : (ℓ : Loc Cert.WguStepIdeal.nD Cert.WguStepIdeal.τ Cert.WguStepIdeal.sig) → Buf (Elt Ideal) ℓ) (g : Dev Cert.WguStepIdeal.nD → PrngReg)
    (m' : (ℓ : Loc Cert.WguIdeal.nD Cert.WguIdeal.τ Cert.WguIdeal.sig) → Buf (Elt Ideal) ℓ) (g' : Dev Cert.WguIdeal.nD → PrngReg), Pre_WguStepIdeal m →
    (∀ c : Dev Cert.WguStepIdeal.nD,
      m' ((c.tc : Thread Cert.WguIdeal.nD Cert.WguIdeal.τ).loc Cert.WguIdeal.main_arg0) = m ((c.tc : Thread Cert.WguStepIdeal.nD Cert.WguStepIdeal.τ).loc Cert.WguStepIdeal.main_arg0)
      ∧ m' ((c.tc : Thread Cert.WguIdeal.nD Cert.WguIdeal.τ).loc Cert.WguIdeal.main_arg1) = m ((c.tc : Thread Cert.WguStepIdeal.nD Cert.WguStepIdeal.τ).loc Cert.WguStepIdeal.main_arg1)
      ∧ m' ((c.tc : Thread Cert.WguIdeal.nD Cert.WguIdeal.τ).loc Cert.WguIdeal.main_arg2) = m ((c.tc : Thread Cert.WguStepIdeal.nD Cert.WguStepIdeal.τ).loc Cert.WguStepIdeal.main_arg2)
      ∧ m' ((c.tc : Thread Cert.WguIdeal.nD Cert.WguIdeal.τ).loc Cert.WguIdeal.main_arg3) = m ((c.tc : Thread Cert.WguStepIdeal.nD Cert.WguStepIdeal.τ).loc Cert.WguStepIdeal.main_arg3)
      ∧ m' ((c.tc : Thread Cert.WguIdeal.nD Cert.WguIdeal.τ).loc Cert.WguIdeal.main_arg4) = m ((c.tc : Thread Cert.WguStepIdeal.nD Cert.WguStepIdeal.τ).loc Cert.WguStepIdeal.main_arg4)
      ∧ m' ((c.tc : Thread Cert.WguIdeal.nD Cert.WguIdeal.τ).loc Cert.WguIdeal.main_arg5) = m ((c.tc : Thread Cert.WguStepIdeal.nD Cert.WguStepIdeal.τ).loc Cert.WguStepIdeal.main_arg5)
      ∧ m' ((c.tc : Thread Cert.WguIdeal.nD Cert.WguIdeal.τ).loc Cert.WguIdeal.main_arg6) = m ((c.tc : Thread Cert.WguStepIdeal.nD Cert.WguStepIdeal.τ).loc Cert.WguStepIdeal.main_arg6)) →
    ∃ (v0 : (c : Dev Cert.WguStepIdeal.nD) → Buf (Elt Ideal) ((c.tc : Thread Cert.WguStepIdeal.nD Cert.WguStepIdeal.τ).loc Cert.WguStepIdeal.main_v3_0)) (v1 : (c : Dev Cert.WguStepIdeal.nD) → Buf (Elt Ideal) ((c.tc : Thread Cert.WguStepIdeal.nD Cert.WguStepIdeal.τ).loc Cert.WguStepIdeal.main_v3_1)) (v2 : (c : Dev Cert.WguStepIdeal.nD) → Buf (Elt Ideal) ((c.tc : Thread Cert.WguStepIdeal.nD Cert.WguStepIdeal.τ).loc Cert.WguStepIdeal.main_v3_2)) (v3 : (c : Dev Cert.WguStepIdeal.nD) → Buf (Elt Ideal) ((c.tc : Thread Cert.WguStepIdeal.nD Cert.WguStepIdeal.τ).loc Cert.WguStepIdeal.main_v3_3)),
      θ_run (Cert.WguStepIdeal.defs (F := Ideal)) (onTc (τ := Cert.WguStepIdeal.τ) (Cert.WguStepIdeal.main (F := Ideal))) ⟨m, fun _ => 0, g⟩ (fun r => ∀ c : Dev Cert.WguStepIdeal.nD,
          r.2.mem ((c.tc : Thread Cert.WguStepIdeal.nD Cert.WguStepIdeal.τ).loc Cert.WguStepIdeal.main_v3_0) = v0 c
          ∧ r.2.mem ((c.tc : Thread Cert.WguStepIdeal.nD Cert.WguStepIdeal.τ).loc Cert.WguStepIdeal.main_v3_1) = v1 c
          ∧ r.2.mem ((c.tc : Thread Cert.WguStepIdeal.nD Cert.WguStepIdeal.τ).loc Cert.WguStepIdeal.main_v3_2) = v2 c
          ∧ r.2.mem ((c.tc : Thread Cert.WguStepIdeal.nD Cert.WguStepIdeal.τ).loc Cert.WguStepIdeal.main_v3_3) = v3 c
          ∧ r.2.mem ((c.tc : Thread Cert.WguStepIdeal.nD Cert.WguStepIdeal.τ).loc Cert.WguStepIdeal.main_arg0) = m ((c.tc : Thread Cert.WguStepIdeal.nD Cert.WguStepIdeal.τ).loc Cert.WguStepIdeal.main_arg0)
          ∧ r.2.mem ((c.tc : Thread Cert.WguStepIdeal.nD Cert.WguStepIdeal.τ).loc Cert.WguStepIdeal.main_arg1) = m ((c.tc : Thread Cert.WguStepIdeal.nD Cert.WguStepIdeal.τ).loc Cert.WguStepIdeal.main_arg1)
          ∧ r.2.mem ((c.tc : Thread Cert.WguStepIdeal.nD Cert.WguStepIdeal.τ).loc Cert.WguStepIdeal.main_arg2) = m ((c.tc : Thread Cert.WguStepIdeal.nD Cert.WguStepIdeal.τ).loc Cert.WguStepIdeal.main_arg2)
          ∧ r.2.mem ((c.tc : Thread Cert.WguStepIdeal.nD Cert.WguStepIdeal.τ).loc Cert.WguStepIdeal.main_arg3) = m ((c.tc : Thread Cert.WguStepIdeal.nD Cert.WguStepIdeal.τ).loc Cert.WguStepIdeal.main_arg3)
          ∧ r.2.mem ((c.tc : Thread Cert.WguStepIdeal.nD Cert.WguStepIdeal.τ).loc Cert.WguStepIdeal.main_arg4) = m ((c.tc : Thread Cert.WguStepIdeal.nD Cert.WguStepIdeal.τ).loc Cert.WguStepIdeal.main_arg4)
          ∧ r.2.mem ((c.tc : Thread Cert.WguStepIdeal.nD Cert.WguStepIdeal.τ).loc Cert.WguStepIdeal.main_arg5) = m ((c.tc : Thread Cert.WguStepIdeal.nD Cert.WguStepIdeal.τ).loc Cert.WguStepIdeal.main_arg5)
          ∧ r.2.mem ((c.tc : Thread Cert.WguStepIdeal.nD Cert.WguStepIdeal.τ).loc Cert.WguStepIdeal.main_arg6) = m ((c.tc : Thread Cert.WguStepIdeal.nD Cert.WguStepIdeal.τ).loc Cert.WguStepIdeal.main_arg6))
      ∧ θ_run (Cert.WguIdeal.defs (F := Ideal)) (onTc (τ := Cert.WguIdeal.τ) (Cert.WguIdeal.main (F := Ideal))) ⟨m', fun _ => 0, g'⟩ (fun r => ∀ c : Dev Cert.WguIdeal.nD,
          r.2.mem ((c.tc : Thread Cert.WguIdeal.nD Cert.WguIdeal.τ).loc Cert.WguIdeal.main_v38) = v0 c
          ∧ r.2.mem ((c.tc : Thread Cert.WguIdeal.nD Cert.WguIdeal.τ).loc Cert.WguIdeal.main_v39) = v1 c
          ∧ r.2.mem ((c.tc : Thread Cert.WguIdeal.nD Cert.WguIdeal.τ).loc Cert.WguIdeal.main_v40) = v2 c
          ∧ r.2.mem ((c.tc : Thread Cert.WguIdeal.nD Cert.WguIdeal.τ).loc Cert.WguIdeal.main_v41) = v3 c
          ∧ r.2.mem ((c.tc : Thread Cert.WguIdeal.nD Cert.WguIdeal.τ).loc Cert.WguIdeal.main_arg0) = m' ((c.tc : Thread Cert.WguIdeal.nD Cert.WguIdeal.τ).loc Cert.WguIdeal.main_arg0)
          ∧ r.2.mem ((c.tc : Thread Cert.WguIdeal.nD Cert.WguIdeal.τ).loc Cert.WguIdeal.main_arg1) = m' ((c.tc : Thread Cert.WguIdeal.nD Cert.WguIdeal.τ).loc Cert.WguIdeal.main_arg1)
          ∧ r.2.mem ((c.tc : Thread Cert.WguIdeal.nD Cert.WguIdeal.τ).loc Cert.WguIdeal.main_arg2) = m' ((c.tc : Thread Cert.WguIdeal.nD Cert.WguIdeal.τ).loc Cert.WguIdeal.main_arg2)
          ∧ r.2.mem ((c.tc : Thread Cert.WguIdeal.nD Cert.WguIdeal.τ).loc Cert.WguIdeal.main_arg3) = m' ((c.tc : Thread Cert.WguIdeal.nD Cert.WguIdeal.τ).loc Cert.WguIdeal.main_arg3)
          ∧ r.2.mem ((c.tc : Thread Cert.WguIdeal.nD Cert.WguIdeal.τ).loc Cert.WguIdeal.main_arg4) = m' ((c.tc : Thread Cert.WguIdeal.nD Cert.WguIdeal.τ).loc Cert.WguIdeal.main_arg4)
          ∧ r.2.mem ((c.tc : Thread Cert.WguIdeal.nD Cert.WguIdeal.τ).loc Cert.WguIdeal.main_arg5) = m' ((c.tc : Thread Cert.WguIdeal.nD Cert.WguIdeal.τ).loc Cert.WguIdeal.main_arg5)
          ∧ r.2.mem ((c.tc : Thread Cert.WguIdeal.nD Cert.WguIdeal.τ).loc Cert.WguIdeal.main_arg6) = m' ((c.tc : Thread Cert.WguIdeal.nD Cert.WguIdeal.τ).loc Cert.WguIdeal.main_arg6))

def preserves_SmallStep_SmallStepIdeal : Prop :=
  True

def algebraic_SmallStepIdeal_SmallIdeal [hSmallStepIdeal : Cert.SmallStepIdeal.Facts] [hSmallIdeal : Cert.SmallIdeal.Facts] : Prop :=
  ∀ (m : (ℓ : Loc Cert.SmallStepIdeal.nD Cert.SmallStepIdeal.τ Cert.SmallStepIdeal.sig) → Buf (Elt Ideal) ℓ) (g : Dev Cert.SmallStepIdeal.nD → PrngReg)
    (m' : (ℓ : Loc Cert.SmallIdeal.nD Cert.SmallIdeal.τ Cert.SmallIdeal.sig) → Buf (Elt Ideal) ℓ) (g' : Dev Cert.SmallIdeal.nD → PrngReg), Pre_SmallStepIdeal m →
    (∀ c : Dev Cert.SmallStepIdeal.nD,
      m' ((c.tc : Thread Cert.SmallIdeal.nD Cert.SmallIdeal.τ).loc Cert.SmallIdeal.main_arg0) = m ((c.tc : Thread Cert.SmallStepIdeal.nD Cert.SmallStepIdeal.τ).loc Cert.SmallStepIdeal.main_arg0)
      ∧ m' ((c.tc : Thread Cert.SmallIdeal.nD Cert.SmallIdeal.τ).loc Cert.SmallIdeal.main_arg1) = m ((c.tc : Thread Cert.SmallStepIdeal.nD Cert.SmallStepIdeal.τ).loc Cert.SmallStepIdeal.main_arg1)
      ∧ m' ((c.tc : Thread Cert.SmallIdeal.nD Cert.SmallIdeal.τ).loc Cert.SmallIdeal.main_arg2) = m ((c.tc : Thread Cert.SmallStepIdeal.nD Cert.SmallStepIdeal.τ).loc Cert.SmallStepIdeal.main_arg2)
      ∧ m' ((c.tc : Thread Cert.SmallIdeal.nD Cert.SmallIdeal.τ).loc Cert.SmallIdeal.main_arg3) = m ((c.tc : Thread Cert.SmallStepIdeal.nD Cert.SmallStepIdeal.τ).loc Cert.SmallStepIdeal.main_arg3)
      ∧ m' ((c.tc : Thread Cert.SmallIdeal.nD Cert.SmallIdeal.τ).loc Cert.SmallIdeal.main_arg4) = m ((c.tc : Thread Cert.SmallStepIdeal.nD Cert.SmallStepIdeal.τ).loc Cert.SmallStepIdeal.main_arg4)
      ∧ m' ((c.tc : Thread Cert.SmallIdeal.nD Cert.SmallIdeal.τ).loc Cert.SmallIdeal.main_arg5) = m ((c.tc : Thread Cert.SmallStepIdeal.nD Cert.SmallStepIdeal.τ).loc Cert.SmallStepIdeal.main_arg5)
      ∧ m' ((c.tc : Thread Cert.SmallIdeal.nD Cert.SmallIdeal.τ).loc Cert.SmallIdeal.main_arg6) = m ((c.tc : Thread Cert.SmallStepIdeal.nD Cert.SmallStepIdeal.τ).loc Cert.SmallStepIdeal.main_arg6)
      ∧ m' ((c.tc : Thread Cert.SmallIdeal.nD Cert.SmallIdeal.τ).loc Cert.SmallIdeal.main_arg7) = m ((c.tc : Thread Cert.SmallStepIdeal.nD Cert.SmallStepIdeal.τ).loc Cert.SmallStepIdeal.main_arg7)
      ∧ m' ((c.tc : Thread Cert.SmallIdeal.nD Cert.SmallIdeal.τ).loc Cert.SmallIdeal.main_arg8) = m ((c.tc : Thread Cert.SmallStepIdeal.nD Cert.SmallStepIdeal.τ).loc Cert.SmallStepIdeal.main_arg8)
      ∧ m' ((c.tc : Thread Cert.SmallIdeal.nD Cert.SmallIdeal.τ).loc Cert.SmallIdeal.main_arg9) = m ((c.tc : Thread Cert.SmallStepIdeal.nD Cert.SmallStepIdeal.τ).loc Cert.SmallStepIdeal.main_arg9)
      ∧ m' ((c.tc : Thread Cert.SmallIdeal.nD Cert.SmallIdeal.τ).loc Cert.SmallIdeal.main_arg10) = m ((c.tc : Thread Cert.SmallStepIdeal.nD Cert.SmallStepIdeal.τ).loc Cert.SmallStepIdeal.main_arg10)
      ∧ m' ((c.tc : Thread Cert.SmallIdeal.nD Cert.SmallIdeal.τ).loc Cert.SmallIdeal.main_arg11) = m ((c.tc : Thread Cert.SmallStepIdeal.nD Cert.SmallStepIdeal.τ).loc Cert.SmallStepIdeal.main_arg11)
      ∧ m' ((c.tc : Thread Cert.SmallIdeal.nD Cert.SmallIdeal.τ).loc Cert.SmallIdeal.main_arg12) = m ((c.tc : Thread Cert.SmallStepIdeal.nD Cert.SmallStepIdeal.τ).loc Cert.SmallStepIdeal.main_arg12)
      ∧ m' ((c.tc : Thread Cert.SmallIdeal.nD Cert.SmallIdeal.τ).loc Cert.SmallIdeal.main_arg13) = m ((c.tc : Thread Cert.SmallStepIdeal.nD Cert.SmallStepIdeal.τ).loc Cert.SmallStepIdeal.main_arg13)
      ∧ m' ((c.tc : Thread Cert.SmallIdeal.nD Cert.SmallIdeal.τ).loc Cert.SmallIdeal.main_arg14) = m ((c.tc : Thread Cert.SmallStepIdeal.nD Cert.SmallStepIdeal.τ).loc Cert.SmallStepIdeal.main_arg14)
      ∧ m' ((c.tc : Thread Cert.SmallIdeal.nD Cert.SmallIdeal.τ).loc Cert.SmallIdeal.main_arg15) = m ((c.tc : Thread Cert.SmallStepIdeal.nD Cert.SmallStepIdeal.τ).loc Cert.SmallStepIdeal.main_arg15)
      ∧ m' ((c.tc : Thread Cert.SmallIdeal.nD Cert.SmallIdeal.τ).loc Cert.SmallIdeal.main_arg16) = m ((c.tc : Thread Cert.SmallStepIdeal.nD Cert.SmallStepIdeal.τ).loc Cert.SmallStepIdeal.main_arg16)
      ∧ m' ((c.tc : Thread Cert.SmallIdeal.nD Cert.SmallIdeal.τ).loc Cert.SmallIdeal.main_arg17) = m ((c.tc : Thread Cert.SmallStepIdeal.nD Cert.SmallStepIdeal.τ).loc Cert.SmallStepIdeal.main_arg17)
      ∧ m' ((c.tc : Thread Cert.SmallIdeal.nD Cert.SmallIdeal.τ).loc Cert.SmallIdeal.main_arg18) = m ((c.tc : Thread Cert.SmallStepIdeal.nD Cert.SmallStepIdeal.τ).loc Cert.SmallStepIdeal.main_arg18)) →
    ∃ (v0 : (c : Dev Cert.SmallStepIdeal.nD) → Buf (Elt Ideal) ((c.tc : Thread Cert.SmallStepIdeal.nD Cert.SmallStepIdeal.τ).loc Cert.SmallStepIdeal.main_v0_0)) (v1 : (c : Dev Cert.SmallStepIdeal.nD) → Buf (Elt Ideal) ((c.tc : Thread Cert.SmallStepIdeal.nD Cert.SmallStepIdeal.τ).loc Cert.SmallStepIdeal.main_v0_1)) (v2 : (c : Dev Cert.SmallStepIdeal.nD) → Buf (Elt Ideal) ((c.tc : Thread Cert.SmallStepIdeal.nD Cert.SmallStepIdeal.τ).loc Cert.SmallStepIdeal.main_v0_2)) (v3 : (c : Dev Cert.SmallStepIdeal.nD) → Buf (Elt Ideal) ((c.tc : Thread Cert.SmallStepIdeal.nD Cert.SmallStepIdeal.τ).loc Cert.SmallStepIdeal.main_v0_3)) (v4 : (c : Dev Cert.SmallStepIdeal.nD) → Buf (Elt Ideal) ((c.tc : Thread Cert.SmallStepIdeal.nD Cert.SmallStepIdeal.τ).loc Cert.SmallStepIdeal.main_v0_4)) (v5 : (c : Dev Cert.SmallStepIdeal.nD) → Buf (Elt Ideal) ((c.tc : Thread Cert.SmallStepIdeal.nD Cert.SmallStepIdeal.τ).loc Cert.SmallStepIdeal.main_v0_5)) (v6 : (c : Dev Cert.SmallStepIdeal.nD) → Buf (Elt Ideal) ((c.tc : Thread Cert.SmallStepIdeal.nD Cert.SmallStepIdeal.τ).loc Cert.SmallStepIdeal.main_v0_6)) (v7 : (c : Dev Cert.SmallStepIdeal.nD) → Buf (Elt Ideal) ((c.tc : Thread Cert.SmallStepIdeal.nD Cert.SmallStepIdeal.τ).loc Cert.SmallStepIdeal.main_v0_7)) (v8 : (c : Dev Cert.SmallStepIdeal.nD) → Buf (Elt Ideal) ((c.tc : Thread Cert.SmallStepIdeal.nD Cert.SmallStepIdeal.τ).loc Cert.SmallStepIdeal.main_v0_8)) (v9 : (c : Dev Cert.SmallStepIdeal.nD) → Buf (Elt Ideal) ((c.tc : Thread Cert.SmallStepIdeal.nD Cert.SmallStepIdeal.τ).loc Cert.SmallStepIdeal.main_v0_9)) (v10 : (c : Dev Cert.SmallStepIdeal.nD) → Buf (Elt Ideal) ((c.tc : Thread Cert.SmallStepIdeal.nD Cert.SmallStepIdeal.τ).loc Cert.SmallStepIdeal.main_v0_10)) (v11 : (c : Dev Cert.SmallStepIdeal.nD) → Buf (Elt Ideal) ((c.tc : Thread Cert.SmallStepIdeal.nD Cert.SmallStepIdeal.τ).loc Cert.SmallStepIdeal.main_v0_11)) (v12 : (c : Dev Cert.SmallStepIdeal.nD) → Buf (Elt Ideal) ((c.tc : Thread Cert.SmallStepIdeal.nD Cert.SmallStepIdeal.τ).loc Cert.SmallStepIdeal.main_v0_12)) (v13 : (c : Dev Cert.SmallStepIdeal.nD) → Buf (Elt Ideal) ((c.tc : Thread Cert.SmallStepIdeal.nD Cert.SmallStepIdeal.τ).loc Cert.SmallStepIdeal.main_v0_13)) (v14 : (c : Dev Cert.SmallStepIdeal.nD) → Buf (Elt Ideal) ((c.tc : Thread Cert.SmallStepIdeal.nD Cert.SmallStepIdeal.τ).loc Cert.SmallStepIdeal.main_v0_14)) (v15 : (c : Dev Cert.SmallStepIdeal.nD) → Buf (Elt Ideal) ((c.tc : Thread Cert.SmallStepIdeal.nD Cert.SmallStepIdeal.τ).loc Cert.SmallStepIdeal.main_v0_15)) (v16 : (c : Dev Cert.SmallStepIdeal.nD) → Buf (Elt Ideal) ((c.tc : Thread Cert.SmallStepIdeal.nD Cert.SmallStepIdeal.τ).loc Cert.SmallStepIdeal.main_v0_16)) (v17 : (c : Dev Cert.SmallStepIdeal.nD) → Buf (Elt Ideal) ((c.tc : Thread Cert.SmallStepIdeal.nD Cert.SmallStepIdeal.τ).loc Cert.SmallStepIdeal.main_v0_17)) (v18 : (c : Dev Cert.SmallStepIdeal.nD) → Buf (Elt Ideal) ((c.tc : Thread Cert.SmallStepIdeal.nD Cert.SmallStepIdeal.τ).loc Cert.SmallStepIdeal.main_v0_18)) (v19 : (c : Dev Cert.SmallStepIdeal.nD) → Buf (Elt Ideal) ((c.tc : Thread Cert.SmallStepIdeal.nD Cert.SmallStepIdeal.τ).loc Cert.SmallStepIdeal.main_v0_19)) (v20 : (c : Dev Cert.SmallStepIdeal.nD) → Buf (Elt Ideal) ((c.tc : Thread Cert.SmallStepIdeal.nD Cert.SmallStepIdeal.τ).loc Cert.SmallStepIdeal.main_v0_20)) (v21 : (c : Dev Cert.SmallStepIdeal.nD) → Buf (Elt Ideal) ((c.tc : Thread Cert.SmallStepIdeal.nD Cert.SmallStepIdeal.τ).loc Cert.SmallStepIdeal.main_v0_21)) (v22 : (c : Dev Cert.SmallStepIdeal.nD) → Buf (Elt Ideal) ((c.tc : Thread Cert.SmallStepIdeal.nD Cert.SmallStepIdeal.τ).loc Cert.SmallStepIdeal.main_v0_22)) (v23 : (c : Dev Cert.SmallStepIdeal.nD) → Buf (Elt Ideal) ((c.tc : Thread Cert.SmallStepIdeal.nD Cert.SmallStepIdeal.τ).loc Cert.SmallStepIdeal.main_v0_23)) (v24 : (c : Dev Cert.SmallStepIdeal.nD) → Buf (Elt Ideal) ((c.tc : Thread Cert.SmallStepIdeal.nD Cert.SmallStepIdeal.τ).loc Cert.SmallStepIdeal.main_v0_24)) (v25 : (c : Dev Cert.SmallStepIdeal.nD) → Buf (Elt Ideal) ((c.tc : Thread Cert.SmallStepIdeal.nD Cert.SmallStepIdeal.τ).loc Cert.SmallStepIdeal.main_v0_25)),
      θ_run (Cert.SmallStepIdeal.defs (F := Ideal)) (onTc (τ := Cert.SmallStepIdeal.τ) (Cert.SmallStepIdeal.main (F := Ideal))) ⟨m, fun _ => 0, g⟩ (fun r => ∀ c : Dev Cert.SmallStepIdeal.nD,
          r.2.mem ((c.tc : Thread Cert.SmallStepIdeal.nD Cert.SmallStepIdeal.τ).loc Cert.SmallStepIdeal.main_v0_0) = v0 c
          ∧ r.2.mem ((c.tc : Thread Cert.SmallStepIdeal.nD Cert.SmallStepIdeal.τ).loc Cert.SmallStepIdeal.main_v0_1) = v1 c
          ∧ r.2.mem ((c.tc : Thread Cert.SmallStepIdeal.nD Cert.SmallStepIdeal.τ).loc Cert.SmallStepIdeal.main_v0_2) = v2 c
          ∧ r.2.mem ((c.tc : Thread Cert.SmallStepIdeal.nD Cert.SmallStepIdeal.τ).loc Cert.SmallStepIdeal.main_v0_3) = v3 c
          ∧ r.2.mem ((c.tc : Thread Cert.SmallStepIdeal.nD Cert.SmallStepIdeal.τ).loc Cert.SmallStepIdeal.main_v0_4) = v4 c
          ∧ r.2.mem ((c.tc : Thread Cert.SmallStepIdeal.nD Cert.SmallStepIdeal.τ).loc Cert.SmallStepIdeal.main_v0_5) = v5 c
          ∧ r.2.mem ((c.tc : Thread Cert.SmallStepIdeal.nD Cert.SmallStepIdeal.τ).loc Cert.SmallStepIdeal.main_v0_6) = v6 c
          ∧ r.2.mem ((c.tc : Thread Cert.SmallStepIdeal.nD Cert.SmallStepIdeal.τ).loc Cert.SmallStepIdeal.main_v0_7) = v7 c
          ∧ r.2.mem ((c.tc : Thread Cert.SmallStepIdeal.nD Cert.SmallStepIdeal.τ).loc Cert.SmallStepIdeal.main_v0_8) = v8 c
          ∧ r.2.mem ((c.tc : Thread Cert.SmallStepIdeal.nD Cert.SmallStepIdeal.τ).loc Cert.SmallStepIdeal.main_v0_9) = v9 c
          ∧ r.2.mem ((c.tc : Thread Cert.SmallStepIdeal.nD Cert.SmallStepIdeal.τ).loc Cert.SmallStepIdeal.main_v0_10) = v10 c
          ∧ r.2.mem ((c.tc : Thread Cert.SmallStepIdeal.nD Cert.SmallStepIdeal.τ).loc Cert.SmallStepIdeal.main_v0_11) = v11 c
          ∧ r.2.mem ((c.tc : Thread Cert.SmallStepIdeal.nD Cert.SmallStepIdeal.τ).loc Cert.SmallStepIdeal.main_v0_12) = v12 c
          ∧ r.2.mem ((c.tc : Thread Cert.SmallStepIdeal.nD Cert.SmallStepIdeal.τ).loc Cert.SmallStepIdeal.main_v0_13) = v13 c
          ∧ r.2.mem ((c.tc : Thread Cert.SmallStepIdeal.nD Cert.SmallStepIdeal.τ).loc Cert.SmallStepIdeal.main_v0_14) = v14 c
          ∧ r.2.mem ((c.tc : Thread Cert.SmallStepIdeal.nD Cert.SmallStepIdeal.τ).loc Cert.SmallStepIdeal.main_v0_15) = v15 c
          ∧ r.2.mem ((c.tc : Thread Cert.SmallStepIdeal.nD Cert.SmallStepIdeal.τ).loc Cert.SmallStepIdeal.main_v0_16) = v16 c
          ∧ r.2.mem ((c.tc : Thread Cert.SmallStepIdeal.nD Cert.SmallStepIdeal.τ).loc Cert.SmallStepIdeal.main_v0_17) = v17 c
          ∧ r.2.mem ((c.tc : Thread Cert.SmallStepIdeal.nD Cert.SmallStepIdeal.τ).loc Cert.SmallStepIdeal.main_v0_18) = v18 c
          ∧ r.2.mem ((c.tc : Thread Cert.SmallStepIdeal.nD Cert.SmallStepIdeal.τ).loc Cert.SmallStepIdeal.main_v0_19) = v19 c
          ∧ r.2.mem ((c.tc : Thread Cert.SmallStepIdeal.nD Cert.SmallStepIdeal.τ).loc Cert.SmallStepIdeal.main_v0_20) = v20 c
          ∧ r.2.mem ((c.tc : Thread Cert.SmallStepIdeal.nD Cert.SmallStepIdeal.τ).loc Cert.SmallStepIdeal.main_v0_21) = v21 c
          ∧ r.2.mem ((c.tc : Thread Cert.SmallStepIdeal.nD Cert.SmallStepIdeal.τ).loc Cert.SmallStepIdeal.main_v0_22) = v22 c
          ∧ r.2.mem ((c.tc : Thread Cert.SmallStepIdeal.nD Cert.SmallStepIdeal.τ).loc Cert.SmallStepIdeal.main_v0_23) = v23 c
          ∧ r.2.mem ((c.tc : Thread Cert.SmallStepIdeal.nD Cert.SmallStepIdeal.τ).loc Cert.SmallStepIdeal.main_v0_24) = v24 c
          ∧ r.2.mem ((c.tc : Thread Cert.SmallStepIdeal.nD Cert.SmallStepIdeal.τ).loc Cert.SmallStepIdeal.main_v0_25) = v25 c
          ∧ r.2.mem ((c.tc : Thread Cert.SmallStepIdeal.nD Cert.SmallStepIdeal.τ).loc Cert.SmallStepIdeal.main_arg0) = m ((c.tc : Thread Cert.SmallStepIdeal.nD Cert.SmallStepIdeal.τ).loc Cert.SmallStepIdeal.main_arg0)
          ∧ r.2.mem ((c.tc : Thread Cert.SmallStepIdeal.nD Cert.SmallStepIdeal.τ).loc Cert.SmallStepIdeal.main_arg1) = m ((c.tc : Thread Cert.SmallStepIdeal.nD Cert.SmallStepIdeal.τ).loc Cert.SmallStepIdeal.main_arg1)
          ∧ r.2.mem ((c.tc : Thread Cert.SmallStepIdeal.nD Cert.SmallStepIdeal.τ).loc Cert.SmallStepIdeal.main_arg2) = m ((c.tc : Thread Cert.SmallStepIdeal.nD Cert.SmallStepIdeal.τ).loc Cert.SmallStepIdeal.main_arg2)
          ∧ r.2.mem ((c.tc : Thread Cert.SmallStepIdeal.nD Cert.SmallStepIdeal.τ).loc Cert.SmallStepIdeal.main_arg3) = m ((c.tc : Thread Cert.SmallStepIdeal.nD Cert.SmallStepIdeal.τ).loc Cert.SmallStepIdeal.main_arg3)
          ∧ r.2.mem ((c.tc : Thread Cert.SmallStepIdeal.nD Cert.SmallStepIdeal.τ).loc Cert.SmallStepIdeal.main_arg4) = m ((c.tc : Thread Cert.SmallStepIdeal.nD Cert.SmallStepIdeal.τ).loc Cert.SmallStepIdeal.main_arg4)
          ∧ r.2.mem ((c.tc : Thread Cert.SmallStepIdeal.nD Cert.SmallStepIdeal.τ).loc Cert.SmallStepIdeal.main_arg5) = m ((c.tc : Thread Cert.SmallStepIdeal.nD Cert.SmallStepIdeal.τ).loc Cert.SmallStepIdeal.main_arg5)
          ∧ r.2.mem ((c.tc : Thread Cert.SmallStepIdeal.nD Cert.SmallStepIdeal.τ).loc Cert.SmallStepIdeal.main_arg6) = m ((c.tc : Thread Cert.SmallStepIdeal.nD Cert.SmallStepIdeal.τ).loc Cert.SmallStepIdeal.main_arg6)
          ∧ r.2.mem ((c.tc : Thread Cert.SmallStepIdeal.nD Cert.SmallStepIdeal.τ).loc Cert.SmallStepIdeal.main_arg7) = m ((c.tc : Thread Cert.SmallStepIdeal.nD Cert.SmallStepIdeal.τ).loc Cert.SmallStepIdeal.main_arg7)
          ∧ r.2.mem ((c.tc : Thread Cert.SmallStepIdeal.nD Cert.SmallStepIdeal.τ).loc Cert.SmallStepIdeal.main_arg8) = m ((c.tc : Thread Cert.SmallStepIdeal.nD Cert.SmallStepIdeal.τ).loc Cert.SmallStepIdeal.main_arg8)
          ∧ r.2.mem ((c.tc : Thread Cert.SmallStepIdeal.nD Cert.SmallStepIdeal.τ).loc Cert.SmallStepIdeal.main_arg9) = m ((c.tc : Thread Cert.SmallStepIdeal.nD Cert.SmallStepIdeal.τ).loc Cert.SmallStepIdeal.main_arg9)
          ∧ r.2.mem ((c.tc : Thread Cert.SmallStepIdeal.nD Cert.SmallStepIdeal.τ).loc Cert.SmallStepIdeal.main_arg10) = m ((c.tc : Thread Cert.SmallStepIdeal.nD Cert.SmallStepIdeal.τ).loc Cert.SmallStepIdeal.main_arg10)
          ∧ r.2.mem ((c.tc : Thread Cert.SmallStepIdeal.nD Cert.SmallStepIdeal.τ).loc Cert.SmallStepIdeal.main_arg11) = m ((c.tc : Thread Cert.SmallStepIdeal.nD Cert.SmallStepIdeal.τ).loc Cert.SmallStepIdeal.main_arg11)
          ∧ r.2.mem ((c.tc : Thread Cert.SmallStepIdeal.nD Cert.SmallStepIdeal.τ).loc Cert.SmallStepIdeal.main_arg12) = m ((c.tc : Thread Cert.SmallStepIdeal.nD Cert.SmallStepIdeal.τ).loc Cert.SmallStepIdeal.main_arg12)
          ∧ r.2.mem ((c.tc : Thread Cert.SmallStepIdeal.nD Cert.SmallStepIdeal.τ).loc Cert.SmallStepIdeal.main_arg13) = m ((c.tc : Thread Cert.SmallStepIdeal.nD Cert.SmallStepIdeal.τ).loc Cert.SmallStepIdeal.main_arg13)
          ∧ r.2.mem ((c.tc : Thread Cert.SmallStepIdeal.nD Cert.SmallStepIdeal.τ).loc Cert.SmallStepIdeal.main_arg14) = m ((c.tc : Thread Cert.SmallStepIdeal.nD Cert.SmallStepIdeal.τ).loc Cert.SmallStepIdeal.main_arg14)
          ∧ r.2.mem ((c.tc : Thread Cert.SmallStepIdeal.nD Cert.SmallStepIdeal.τ).loc Cert.SmallStepIdeal.main_arg15) = m ((c.tc : Thread Cert.SmallStepIdeal.nD Cert.SmallStepIdeal.τ).loc Cert.SmallStepIdeal.main_arg15)
          ∧ r.2.mem ((c.tc : Thread Cert.SmallStepIdeal.nD Cert.SmallStepIdeal.τ).loc Cert.SmallStepIdeal.main_arg16) = m ((c.tc : Thread Cert.SmallStepIdeal.nD Cert.SmallStepIdeal.τ).loc Cert.SmallStepIdeal.main_arg16)
          ∧ r.2.mem ((c.tc : Thread Cert.SmallStepIdeal.nD Cert.SmallStepIdeal.τ).loc Cert.SmallStepIdeal.main_arg17) = m ((c.tc : Thread Cert.SmallStepIdeal.nD Cert.SmallStepIdeal.τ).loc Cert.SmallStepIdeal.main_arg17)
          ∧ r.2.mem ((c.tc : Thread Cert.SmallStepIdeal.nD Cert.SmallStepIdeal.τ).loc Cert.SmallStepIdeal.main_arg18) = m ((c.tc : Thread Cert.SmallStepIdeal.nD Cert.SmallStepIdeal.τ).loc Cert.SmallStepIdeal.main_arg18))
      ∧ θ_run (Cert.SmallIdeal.defs (F := Ideal)) (onTc (τ := Cert.SmallIdeal.τ) (Cert.SmallIdeal.main (F := Ideal))) ⟨m', fun _ => 0, g'⟩ (fun r => ∀ c : Dev Cert.SmallIdeal.nD,
          r.2.mem ((c.tc : Thread Cert.SmallIdeal.nD Cert.SmallIdeal.τ).loc Cert.SmallIdeal.main_v3) = v0 c
          ∧ r.2.mem ((c.tc : Thread Cert.SmallIdeal.nD Cert.SmallIdeal.τ).loc Cert.SmallIdeal.main_v37) = v1 c
          ∧ r.2.mem ((c.tc : Thread Cert.SmallIdeal.nD Cert.SmallIdeal.τ).loc Cert.SmallIdeal.main_v18) = v2 c
          ∧ r.2.mem ((c.tc : Thread Cert.SmallIdeal.nD Cert.SmallIdeal.τ).loc Cert.SmallIdeal.main_v24) = v3 c
          ∧ r.2.mem ((c.tc : Thread Cert.SmallIdeal.nD Cert.SmallIdeal.τ).loc Cert.SmallIdeal.main_v5) = v4 c
          ∧ r.2.mem ((c.tc : Thread Cert.SmallIdeal.nD Cert.SmallIdeal.τ).loc Cert.SmallIdeal.main_v61) = v5 c
          ∧ r.2.mem ((c.tc : Thread Cert.SmallIdeal.nD Cert.SmallIdeal.τ).loc Cert.SmallIdeal.main_v42) = v6 c
          ∧ r.2.mem ((c.tc : Thread Cert.SmallIdeal.nD Cert.SmallIdeal.τ).loc Cert.SmallIdeal.main_v48) = v7 c
          ∧ r.2.mem ((c.tc : Thread Cert.SmallIdeal.nD Cert.SmallIdeal.τ).loc Cert.SmallIdeal.main_v7) = v8 c
          ∧ r.2.mem ((c.tc : Thread Cert.SmallIdeal.nD Cert.SmallIdeal.τ).loc Cert.SmallIdeal.main_v85) = v9 c
          ∧ r.2.mem ((c.tc : Thread Cert.SmallIdeal.nD Cert.SmallIdeal.τ).loc Cert.SmallIdeal.main_v66) = v10 c
          ∧ r.2.mem ((c.tc : Thread Cert.SmallIdeal.nD Cert.SmallIdeal.τ).loc Cert.SmallIdeal.main_v72) = v11 c
          ∧ r.2.mem ((c.tc : Thread Cert.SmallIdeal.nD Cert.SmallIdeal.τ).loc Cert.SmallIdeal.main_v9) = v12 c
          ∧ r.2.mem ((c.tc : Thread Cert.SmallIdeal.nD Cert.SmallIdeal.τ).loc Cert.SmallIdeal.main_v109) = v13 c
          ∧ r.2.mem ((c.tc : Thread Cert.SmallIdeal.nD Cert.SmallIdeal.τ).loc Cert.SmallIdeal.main_v90) = v14 c
          ∧ r.2.mem ((c.tc : Thread Cert.SmallIdeal.nD Cert.SmallIdeal.τ).loc Cert.SmallIdeal.main_v96) = v15 c
          ∧ r.2.mem ((c.tc : Thread Cert.SmallIdeal.nD Cert.SmallIdeal.τ).loc Cert.SmallIdeal.main_v11) = v16 c
          ∧ r.2.mem ((c.tc : Thread Cert.SmallIdeal.nD Cert.SmallIdeal.τ).loc Cert.SmallIdeal.main_v133) = v17 c
          ∧ r.2.mem ((c.tc : Thread Cert.SmallIdeal.nD Cert.SmallIdeal.τ).loc Cert.SmallIdeal.main_v114) = v18 c
          ∧ r.2.mem ((c.tc : Thread Cert.SmallIdeal.nD Cert.SmallIdeal.τ).loc Cert.SmallIdeal.main_v120) = v19 c
          ∧ r.2.mem ((c.tc : Thread Cert.SmallIdeal.nD Cert.SmallIdeal.τ).loc Cert.SmallIdeal.main_v13) = v20 c
          ∧ r.2.mem ((c.tc : Thread Cert.SmallIdeal.nD Cert.SmallIdeal.τ).loc Cert.SmallIdeal.main_v157) = v21 c
          ∧ r.2.mem ((c.tc : Thread Cert.SmallIdeal.nD Cert.SmallIdeal.τ).loc Cert.SmallIdeal.main_v138) = v22 c
          ∧ r.2.mem ((c.tc : Thread Cert.SmallIdeal.nD Cert.SmallIdeal.τ).loc Cert.SmallIdeal.main_v144) = v23 c
          ∧ r.2.mem ((c.tc : Thread Cert.SmallIdeal.nD Cert.SmallIdeal.τ).loc Cert.SmallIdeal.main_v167) = v24 c
          ∧ r.2.mem ((c.tc : Thread Cert.SmallIdeal.nD Cert.SmallIdeal.τ).loc Cert.SmallIdeal.main_v169) = v25 c
          ∧ r.2.mem ((c.tc : Thread Cert.SmallIdeal.nD Cert.SmallIdeal.τ).loc Cert.SmallIdeal.main_arg0) = m' ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m' ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m' ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m' ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m' ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m' ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m' ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m' ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m' ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m' ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m' ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m' ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m' ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m' ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m' ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m' ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m' ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m' ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m' ((c.tc : Thread Cert.SmallIdeal.nD Cert.SmallIdeal.τ).loc Cert.SmallIdeal.main_arg18))

def Claim : Prop :=
  ∃ (hFfnBwd : Cert.FfnBwd.Facts) (hFfnBwdIdeal : Cert.FfnBwdIdeal.Facts) (hFfnGradIdeal : Cert.FfnGradIdeal.Facts) (hFfnFwd : Cert.FfnFwd.Facts) (hFfnFwdIdeal : Cert.FfnFwdIdeal.Facts) (hFfnLossIdeal : Cert.FfnLossIdeal.Facts) (hFfnMid : Cert.FfnMid.Facts) (hFfnMidIdeal : Cert.FfnMidIdeal.Facts) (hFfnIdeal : Cert.FfnIdeal.Facts) (hWinBwd : Cert.WinBwd.Facts) (hWinBwdIdeal : Cert.WinBwdIdeal.Facts) (hWinGradIdeal : Cert.WinGradIdeal.Facts) (hWoutBwd : Cert.WoutBwd.Facts) (hWoutBwdIdeal : Cert.WoutBwdIdeal.Facts) (hWoutGradIdeal : Cert.WoutGradIdeal.Facts) (hInprojFwd : Cert.InprojFwd.Facts) (hInprojFwdIdeal : Cert.InprojFwdIdeal.Facts) (hInprojIdeal : Cert.InprojIdeal.Facts) (hMixFwd : Cert.MixFwd.Facts) (hMixFwdIdeal : Cert.MixFwdIdeal.Facts) (hMixIdeal : Cert.MixIdeal.Facts) (hMixBwd : Cert.MixBwd.Facts) (hMixBwdIdeal : Cert.MixBwdIdeal.Facts) (hMixGradIdeal : Cert.MixGradIdeal.Facts) (hTapsStep : Cert.TapsStep.Facts) (hTapsStepIdeal : Cert.TapsStepIdeal.Facts) (hTapsIdeal : Cert.TapsIdeal.Facts) (hWoutStep : Cert.WoutStep.Facts) (hWoutStepIdeal : Cert.WoutStepIdeal.Facts) (hWoutIdeal : Cert.WoutIdeal.Facts) (hWinStep : Cert.WinStep.Facts) (hWinStepIdeal : Cert.WinStepIdeal.Facts) (hWinIdeal : Cert.WinIdeal.Facts) (hWdownStep : Cert.WdownStep.Facts) (hWdownStepIdeal : Cert.WdownStepIdeal.Facts) (hWdownIdeal : Cert.WdownIdeal.Facts) (hWguStep : Cert.WguStep.Facts) (hWguStepIdeal : Cert.WguStepIdeal.Facts) (hWguIdeal : Cert.WguIdeal.Facts) (hSmallStep : Cert.SmallStep.Facts) (hSmallStepIdeal : Cert.SmallStepIdeal.Facts) (hSmallIdeal : Cert.SmallIdeal.Facts) (hPre_ffn_finite : Cert.Pre_ffn_finite.Facts) (hPre_mix_finite : Cert.Pre_mix_finite.Facts),
    quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnGradIdeal (hFfnGradIdeal := hFfnGradIdeal)
    ∧ quiescent_FfnGradIdeal_pre_ffn_finite (hFfnGradIdeal := hFfnGradIdeal) (hPre_ffn_finite := hPre_ffn_finite)
    ∧ quiescent_FfnFwd (hFfnFwd := hFfnFwd)
    ∧ quiescent_FfnFwdIdeal (hFfnFwdIdeal := hFfnFwdIdeal)
    ∧ quiescent_FfnLossIdeal (hFfnLossIdeal := hFfnLossIdeal)
    ∧ quiescent_FfnMid (hFfnMid := hFfnMid)
    ∧ quiescent_FfnMidIdeal (hFfnMidIdeal := hFfnMidIdeal)
    ∧ quiescent_FfnIdeal (hFfnIdeal := hFfnIdeal)
    ∧ quiescent_WinBwd (hWinBwd := hWinBwd)
    ∧ quiescent_WinBwdIdeal (hWinBwdIdeal := hWinBwdIdeal)
    ∧ quiescent_WinGradIdeal (hWinGradIdeal := hWinGradIdeal)
    ∧ quiescent_WoutBwd (hWoutBwd := hWoutBwd)
    ∧ quiescent_WoutBwdIdeal (hWoutBwdIdeal := hWoutBwdIdeal)
    ∧ quiescent_WoutGradIdeal (hWoutGradIdeal := hWoutGradIdeal)
    ∧ quiescent_InprojFwd (hInprojFwd := hInprojFwd)
    ∧ quiescent_InprojFwdIdeal (hInprojFwdIdeal := hInprojFwdIdeal)
    ∧ quiescent_InprojIdeal (hInprojIdeal := hInprojIdeal)
    ∧ quiescent_MixFwd (hMixFwd := hMixFwd)
    ∧ quiescent_MixFwdIdeal (hMixFwdIdeal := hMixFwdIdeal)
    ∧ quiescent_MixIdeal (hMixIdeal := hMixIdeal)
    ∧ quiescent_MixBwd (hMixBwd := hMixBwd)
    ∧ quiescent_MixBwdIdeal (hMixBwdIdeal := hMixBwdIdeal)
    ∧ quiescent_MixBwdIdeal_pre_mix_finite (hMixBwdIdeal := hMixBwdIdeal) (hPre_mix_finite := hPre_mix_finite)
    ∧ quiescent_MixGradIdeal (hMixGradIdeal := hMixGradIdeal)
    ∧ quiescent_MixGradIdeal_pre_mix_finite (hMixGradIdeal := hMixGradIdeal) (hPre_mix_finite := hPre_mix_finite)
    ∧ quiescent_TapsStep (hTapsStep := hTapsStep)
    ∧ quiescent_TapsStepIdeal (hTapsStepIdeal := hTapsStepIdeal)
    ∧ quiescent_TapsIdeal (hTapsIdeal := hTapsIdeal)
    ∧ quiescent_WoutStep (hWoutStep := hWoutStep)
    ∧ quiescent_WoutStepIdeal (hWoutStepIdeal := hWoutStepIdeal)
    ∧ quiescent_WoutIdeal (hWoutIdeal := hWoutIdeal)
    ∧ quiescent_WinStep (hWinStep := hWinStep)
    ∧ quiescent_WinStepIdeal (hWinStepIdeal := hWinStepIdeal)
    ∧ quiescent_WinIdeal (hWinIdeal := hWinIdeal)
    ∧ quiescent_WdownStep (hWdownStep := hWdownStep)
    ∧ quiescent_WdownStepIdeal (hWdownStepIdeal := hWdownStepIdeal)
    ∧ quiescent_WdownIdeal (hWdownIdeal := hWdownIdeal)
    ∧ quiescent_WguStep (hWguStep := hWguStep)
    ∧ quiescent_WguStepIdeal (hWguStepIdeal := hWguStepIdeal)
    ∧ quiescent_WguIdeal (hWguIdeal := hWguIdeal)
    ∧ quiescent_SmallStep (hSmallStep := hSmallStep)
    ∧ quiescent_SmallStepIdeal (hSmallStepIdeal := hSmallStepIdeal)
    ∧ quiescent_SmallIdeal (hSmallIdeal := hSmallIdeal)
    ∧ preserves_FfnBwd_FfnBwdIdeal
    ∧ algebraic_FfnBwdIdeal_FfnGradIdeal_pre_ffn_finite (hFfnBwdIdeal := hFfnBwdIdeal) (hFfnGradIdeal := hFfnGradIdeal) (hPre_ffn_finite := hPre_ffn_finite)
    ∧ preserves_FfnFwd_FfnFwdIdeal
    ∧ algebraic_FfnFwdIdeal_FfnLossIdeal (hFfnFwdIdeal := hFfnFwdIdeal) (hFfnLossIdeal := hFfnLossIdeal)
    ∧ preserves_FfnMid_FfnMidIdeal
    ∧ algebraic_FfnMidIdeal_FfnIdeal (hFfnMidIdeal := hFfnMidIdeal) (hFfnIdeal := hFfnIdeal)
    ∧ preserves_WinBwd_WinBwdIdeal
    ∧ algebraic_WinBwdIdeal_WinGradIdeal (hWinBwdIdeal := hWinBwdIdeal) (hWinGradIdeal := hWinGradIdeal)
    ∧ preserves_WoutBwd_WoutBwdIdeal
    ∧ algebraic_WoutBwdIdeal_WoutGradIdeal (hWoutBwdIdeal := hWoutBwdIdeal) (hWoutGradIdeal := hWoutGradIdeal)
    ∧ preserves_InprojFwd_InprojFwdIdeal
    ∧ algebraic_InprojFwdIdeal_InprojIdeal (hInprojFwdIdeal := hInprojFwdIdeal) (hInprojIdeal := hInprojIdeal)
    ∧ preserves_MixFwd_MixFwdIdeal
    ∧ algebraic_MixFwdIdeal_MixIdeal (hMixFwdIdeal := hMixFwdIdeal) (hMixIdeal := hMixIdeal)
    ∧ preserves_MixBwd_MixBwdIdeal
    ∧ algebraic_MixBwdIdeal_MixGradIdeal_pre_mix_finite (hMixBwdIdeal := hMixBwdIdeal) (hMixGradIdeal := hMixGradIdeal) (hPre_mix_finite := hPre_mix_finite)
    ∧ preserves_TapsStep_TapsStepIdeal
    ∧ algebraic_TapsStepIdeal_TapsIdeal (hTapsStepIdeal := hTapsStepIdeal) (hTapsIdeal := hTapsIdeal)
    ∧ preserves_WoutStep_WoutStepIdeal
    ∧ algebraic_WoutStepIdeal_WoutIdeal (hWoutStepIdeal := hWoutStepIdeal) (hWoutIdeal := hWoutIdeal)
    ∧ preserves_WinStep_WinStepIdeal
    ∧ algebraic_WinStepIdeal_WinIdeal (hWinStepIdeal := hWinStepIdeal) (hWinIdeal := hWinIdeal)
    ∧ preserves_WdownStep_WdownStepIdeal
    ∧ algebraic_WdownStepIdeal_WdownIdeal (hWdownStepIdeal := hWdownStepIdeal) (hWdownIdeal := hWdownIdeal)
    ∧ preserves_WguStep_WguStepIdeal
    ∧ algebraic_WguStepIdeal_WguIdeal (hWguStepIdeal := hWguStepIdeal) (hWguIdeal := hWguIdeal)
    ∧ preserves_SmallStep_SmallStepIdeal
    ∧ algebraic_SmallStepIdeal_SmallIdeal (hSmallStepIdeal := hSmallStepIdeal) (hSmallIdeal := hSmallIdeal)
-- ==== Pre_ffn_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024 .f32) (main_arg5 : FVec F S4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1024 .f32) (main_arg2 : FVec F S1024x5632 .f32) (main_arg3 : FVec F S2816x1024 .f32) (main_arg4 : FVec F S1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_v13 main_v16
-- ==== Pre_mix_finite.lean ====
abbrev S4096x512 : Shape := ⟨2, ![4096, 512]⟩
abbrev S3x512 : Shape := ⟨2, ![3, 512]⟩
abbrev S512 : Shape := ⟨1, ![512]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S3x512 : S_.BroadcastsInDim S3x512 (![] : Fin 0 → Fin S3x512.rank)
  reducesTo_S3x512_S_d0_1 : S3x512.ReducesTo [0, 1] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg7 : FVec F S1024x1024 .f32) (main_arg8 : FVec F S1024 .f32) (main_arg9 : FVec F S4096x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S4096x1024 .f32 := Host.absf main_arg9
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  main_v48

def fn_part1 {F : FTy → Type} [FloatOps F] (main_arg4 : FVec F S3x512 .f32) (main_arg5 : FVec F S512 .f32) (main_arg6 : FVec F S512 .f32) (main_arg7 : FVec F S1024x1024 .f32) (main_arg8 : FVec F S1024 .f32) (main_arg9 : FVec F S4096x1024 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S3x512 .f32 := Host.absf main_arg4
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S4096x512 .f32) (main_arg1 : FVec F S4096x512 .f32) (main_arg2 : FVec F S4096x512 .f32) (main_arg3 : FVec F S4096x512 .f32) (main_arg4 : FVec F S3x512 .f32) (main_arg5 : FVec F S512 .f32) (main_arg6 : FVec F S512 .f32) (main_arg7 : FVec F S1024x1024 .f32) (main_arg8 : FVec F S1024 .f32) (main_arg9 : FVec F S4096x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_v13 main_v16
-- ==== FfnBwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S5632x1024 : Shape := ⟨2, ![5632, 1024]⟩
abbrev S8x704x1024 : Shape := ⟨3, ![8, 704, 1024]⟩
abbrev S4096x8x704 : Shape := ⟨3, ![4096, 8, 704]⟩
abbrev S8x4096x704 : Shape := ⟨3, ![8, 4096, 704]⟩
abbrev S4x4096x704 : Shape := ⟨3, ![4, 4096, 704]⟩
abbrev S256x1024 : Shape := ⟨2, ![256, 1024]⟩
abbrev S8x256x704 : Shape := ⟨3, ![8, 256, 704]⟩
abbrev S4x256x704 : Shape := ⟨3, ![4, 256, 704]⟩
abbrev S256 : Shape := ⟨1, ![256]⟩
abbrev S256x1 : Shape := ⟨2, ![256, 1]⟩
abbrev S704x1024 : Shape := ⟨2, ![704, 1024]⟩
abbrev S256x704 : Shape := ⟨2, ![256, 704]⟩
abbrev S1x256x704 : Shape := ⟨3, ![1, 256, 704]⟩
abbrev S1x704x1024 : Shape := ⟨3, ![1, 704, 1024]⟩

abbrev nBuf : Space → Nat
  | .hbm => 52
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x5632, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S5632x1024, .f32⟩
  | .hbm, ⟨37, _⟩ => ⟨S8x704x1024, .f32⟩
  | .hbm, ⟨38, _⟩ => ⟨S8x704x1024, .bf16⟩
  | .hbm, ⟨39, _⟩ => ⟨S4096x8x704, .f32⟩
  | .hbm, ⟨40, _⟩ => ⟨S8x4096x704, .f32⟩
  | .hbm, ⟨41, _⟩ => ⟨S8x4096x704, .bf16⟩
  | .hbm, ⟨42, _⟩ => ⟨S2816x1024, .bf16⟩
  | .hbm, ⟨43, _⟩ => ⟨S1x1024, .f32⟩
  | .hbm, ⟨44, _⟩ => ⟨S1x1024, .f32⟩
  | .hbm, ⟨45, _⟩ => ⟨S4096x1024, .f32⟩
  | .hbm, ⟨46, _⟩ => ⟨S4096x1024, .bf16⟩
  | .hbm, ⟨47, _⟩ => ⟨S4x4096x704, .bf16⟩
  | .hbm, ⟨48, _⟩ => ⟨S8x4096x704, .bf16⟩
  | .hbm, ⟨49, _⟩ => ⟨S4096x1024, .bf16⟩
  | .hbm, ⟨50, _⟩ => ⟨S1x1024, .f32⟩
  | .hbm, ⟨51, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x704, .bf16⟩
  | .local _ .vmem, ⟨7, _⟩ => ⟨S8x256x704, .bf16⟩
  | .local _ .vmem, ⟨8, _⟩ => ⟨S8x704x1024, .bf16⟩
  | .local _ .vmem, ⟨9, _⟩ => ⟨S2816x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S4x256x704, .bf16⟩
  | .local _ .vmem, ⟨17, _⟩ => ⟨S4x256x704, .bf16⟩
  | .local _ .vmem, ⟨18, _⟩ => ⟨S8x256x704, .bf16⟩
  | .local _ .vmem, ⟨19, _⟩ => ⟨S8x256x704, .bf16⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28_0 : Ref sig .tc := ⟨.hbm, 45, rfl⟩
abbrev main_v28_1 : Ref sig .tc := ⟨.hbm, 46, rfl⟩
abbrev main_v28_2 : Ref sig .tc := ⟨.hbm, 47, rfl⟩
abbrev main_v28_3 : Ref sig .tc := ⟨.hbm, 48, rfl⟩
abbrev main_v28_4 : Ref sig .tc := ⟨.hbm, 49, rfl⟩
abbrev main_v28_5 : Ref sig .tc := ⟨.hbm, 50, rfl⟩
abbrev main_v28_6 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v239 : BitVec 1 := Scalar.cmpi .eq arg0 c0_i32
  let v240 : BitVec 32 := Scalar.extui v239
  let c0_i32_131 : BitVec 32 := 0#32
  let v241 : BitVec 1 := Scalar.cmpi .ne v240 c0_i32_131
  v241

def k0_cond2 (i : grid0.Coords) : BitVec 1 :=
  let arg0 : BitVec 32 := BitVec.ofNat 32 (i 0).val
  let c0_i32_132 : BitVec 32 := 0#32
  let v242 : BitVec 1 := Scalar.cmpi .sgt arg0 c0_i32_132
  let v243 : BitVec 32 := Scalar.extui v242
  let c0_i32_133 : BitVec 32 := 0#32
  let v244 : BitVec 1 := Scalar.cmpi .ne v243 c0_i32_133
  v244

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnGradIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S4096x8x704 : Shape := ⟨3, ![4096, 8, 704]⟩
abbrev S8x4096x704 : Shape := ⟨3, ![8, 4096, 704]⟩

abbrev nBuf : Space → Nat
  | .hbm => 136
  | .vmem => 0
  | .smem => 0
  | _ => 0

abbrev hbmTy0_0 (i : Nat) : BufTy := match i % 128 with
  | 0 => ⟨S4096x1024, .f32⟩
  | 1 => ⟨S1024, .f32⟩
  | 2 => ⟨S1024x5632, .f32⟩
  | 3 => ⟨S2816x1024, .f32⟩
  | 4 => ⟨S1024, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x5632, .f32⟩
  | 27 => ⟨S4096x2816, .f32⟩
  | 28 => ⟨S4096x2816, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S_, .f32⟩
  | 35 => ⟨S4096x2816, .f32⟩
  | 36 => ⟨S4096x2816, .f32⟩
  | 37 => ⟨S_, .f32⟩
  | 38 => ⟨S4096x2816, .f32⟩
  | 39 => ⟨S4096x2816, .f32⟩
  | 40 => ⟨S4096x2816, .f32⟩
  | 41 => ⟨S4096x2816, .f32⟩
  | 42 => ⟨S4096x2816, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S_, .f32⟩
  | 68 => ⟨S1024, .f32⟩
  | 69 => ⟨S1x1024, .f32⟩
  | 70 => ⟨S4096x1024, .f32⟩
  | 71 => ⟨S4096x1024, .f32⟩
  | 72 => ⟨S_, .f32⟩
  | 73 => ⟨S1024, .f32⟩
  | 74 => ⟨S4096x1024, .f32⟩
  | 75 => ⟨S_, .f32⟩
  | 76 => ⟨S4096, .f32⟩
  | 77 => ⟨S4096x1, .f32⟩
  | 78 => ⟨S4096x1024, .f32⟩
  | 79 => ⟨S4096x1024, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x2816, .f32⟩
  | 92 => ⟨S4096x2816, .f32⟩
  | 93 => ⟨S4096x2816, .f32⟩
  | 94 => ⟨S4096x2816, .f32⟩
  | 95 => ⟨S4096x2816, .f32⟩
  | 96 => ⟨S4096x2816, .f32⟩
  | 97 => ⟨S4096x2816, .f32⟩
  | 98 => ⟨S4096x5632, .f32⟩
  | 99 => ⟨S4096x1024, .f32⟩
  | 100 => ⟨S4096x1024, .f32⟩
  | 101 => ⟨S_, .f32⟩
  | 102 => ⟨S1024, .f32⟩
  | 103 => ⟨S1x1024, .f32⟩
  | 104 => ⟨S4096x1024, .f32⟩
  | 105 => ⟨S4096x1024, .f32⟩
  | 106 => ⟨S_, .f32⟩
  | 107 => ⟨S1024, .f32⟩
  | 108 => ⟨S4096x1024, .f32⟩
  | 109 => ⟨S_, .f32⟩
  | 110 => ⟨S4096, .f32⟩
  | 111 => ⟨S4096x1, .f32⟩
  | 112 => ⟨S4096x1024, .f32⟩
  | 113 => ⟨S4096x1024, .f32⟩
  | 114 => ⟨S4096x1, .f32⟩
  | 115 => ⟨S_, .f32⟩
  | 116 => ⟨S4096x1, .f32⟩
  | 117 => ⟨S4096x1, .f32⟩
  | 118 => ⟨S_, .f32⟩
  | 119 => ⟨S4096, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .bf16⟩
  | 127 => ⟨S4096x4x704, .f32⟩
  | _ => ⟨S4096x1024, .f32⟩

abbrev hbmTy0_1 (i : Nat) : BufTy := match i % 128 with
  | 0 => ⟨S4x4096x704, .f32⟩
  | 1 => ⟨S4x4096x704, .bf16⟩
  | 2 => ⟨S4096x8x704, .f32⟩
  | 3 => ⟨S8x4096x704, .f32⟩
  | 4 => ⟨S8x4096x704, .bf16⟩
  | 5 => ⟨S4096x1024, .bf16⟩
  | 6 => ⟨S1x1024, .f32⟩
  | 7 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩

abbrev nD : Nat := 1
abbrev τ : Topo := Topo.v7x

variable {F : FTy → Type} [FloatOps F]
-- ==== FfnFwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S1x1024 : Shape := ⟨2, ![1, 1024]⟩
abbrev S8x4096x704 : Shape := ⟨3, ![8, 4096, 704]⟩
abbrev S1x1 : Shape := ⟨2, ![1, 1]⟩
abbrev S512x1024 : Shape := ⟨2, ![512, 1024]⟩
abbrev S8x512x704 : Shape := ⟨3, ![8, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩
abbrev S1 : Shape := ⟨1, ![1]⟩

abbrev nBuf : Space → Nat
  | .hbm => 16
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S4096x1024, .f32⟩
  | .hbm, ⟨6, _⟩ => ⟨S5632x1024, .f32⟩
  | .hbm, ⟨7, _⟩ => ⟨S8x704x1024, .f32⟩
  | .hbm, ⟨8, _⟩ => ⟨S8x704x1024, .bf16⟩
  | .hbm, ⟨9, _⟩ => ⟨S1x1024, .f32⟩
  | .hbm, ⟨10, _⟩ => ⟨S2816x1024, .bf16⟩
  | .hbm, ⟨11, _⟩ => ⟨S1x1024, .f32⟩
  | .hbm, ⟨12, _⟩ => ⟨S4096x1024, .f32⟩
  | .hbm, ⟨13, _⟩ => ⟨S8x4096x704, .bf16⟩
  | .hbm, ⟨14, _⟩ => ⟨S4096x1024, .f32⟩
  | .hbm, ⟨15, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x704x1024, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x512x704, .bf16⟩
  | .local _ .vmem, ⟨11, _⟩ => ⟨S8x512x704, .bf16⟩
  | .local _ .vmem, ⟨12, _⟩ => ⟨S512x1024, .f32⟩
  | .local _ .vmem, ⟨13, _⟩ => ⟨S512x1024, .f32⟩
  | .local _ .vmem, ⟨14, _⟩ => ⟨S1x1, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v141 : BitVec 1 := Scalar.cmpi .eq arg0 c7_i32
  let v142 : BitVec 32 := Scalar.extui v141
  let c0_i32_82 : BitVec 32 := 0#32
  let v143 : BitVec 1 := Scalar.cmpi .ne v142 c0_i32_82
  v143

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnLossIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x8x704 : Shape := ⟨3, ![4096, 8, 704]⟩
abbrev S8x4096x704 : Shape := ⟨3, ![8, 4096, 704]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x5632, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x8x704, .f32⟩
  | .hbm, ⟨77, _⟩ => ⟨S8x4096x704, .f32⟩
  | .hbm, ⟨78, _⟩ => ⟨S8x4096x704, .bf16⟩
  | .hbm, ⟨79, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_cst_10 : Ref sig .tc := ⟨.hbm, 67, rfl⟩
abbrev main_cst_11 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]
-- ==== FfnMid.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S1x1024 : Shape := ⟨2, ![1, 1024]⟩
abbrev S8x4096x704 : Shape := ⟨3, ![8, 4096, 704]⟩
abbrev S512x1024 : Shape := ⟨2, ![512, 1024]⟩
abbrev S8x512x704 : Shape := ⟨3, ![8, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 14
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S5632x1024, .f32⟩
  | .hbm, ⟨6, _⟩ => ⟨S8x704x1024, .f32⟩
  | .hbm, ⟨7, _⟩ => ⟨S8x704x1024, .bf16⟩
  | .hbm, ⟨8, _⟩ => ⟨S1x1024, .f32⟩
  | .hbm, ⟨9, _⟩ => ⟨S2816x1024, .bf16⟩
  | .hbm, ⟨10, _⟩ => ⟨S1x1024, .f32⟩
  | .hbm, ⟨11, _⟩ => ⟨S4096x1024, .f32⟩
  | .hbm, ⟨12, _⟩ => ⟨S8x4096x704, .bf16⟩
  | .hbm, ⟨13, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x704x1024, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S8x512x704, .bf16⟩
  | .local _ .vmem, ⟨9, _⟩ => ⟨S8x512x704, .bf16⟩
  | .local _ .vmem, ⟨10, _⟩ => ⟨S512x1024, .f32⟩
  | .local _ .vmem, ⟨11, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x8x704 : Shape := ⟨3, ![4096, 8, 704]⟩
abbrev S8x4096x704 : Shape := ⟨3, ![8, 4096, 704]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x8x704, .f32⟩
  | .hbm, ⟨53, _⟩ => ⟨S8x4096x704, .f32⟩
  | .hbm, ⟨54, _⟩ => ⟨S8x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== WinBwd.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 24
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x4096, .f32⟩
  | .hbm, ⟨21, _⟩ => ⟨S1024x4096, .bf16⟩
  | .hbm, ⟨22, _⟩ => ⟨S4096x3072, .bf16⟩
  | .hbm, ⟨23, _⟩ => ⟨S1024x3072, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WinGradIdeal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3072x1024 : Shape := ⟨2, ![3072, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x3072, .f32⟩
  | .hbm, ⟨21, _⟩ => ⟨S3072x1024, .f32⟩
  | .hbm, ⟨22, _⟩ => ⟨S1024x3072, .f32⟩
  | .hbm, ⟨23, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== WoutBwd.lean ====
abbrev S4096x1024 : Shape := ⟨2, ![4096, 1024]⟩
abbrev S1024x1024 : Shape := ⟨2, ![1024, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x4096, .f32⟩
  | .hbm, ⟨4, _⟩ => ⟨S1024x4096, .bf16⟩
  | .hbm, ⟨5, _⟩ => ⟨S4096x1024, .bf16⟩
  | .hbm, ⟨6, _⟩ => ⟨S1024x1024, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WoutGradIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InprojFwd.lean ====
abbrev S4096x1024 : Shape := ⟨2, ![4096, 1024]⟩
abbrev S1024 : Shape := ⟨1, ![1024]⟩
abbrev S1024x3072 : Shape := ⟨2, ![1024, 3072]⟩
abbrev S4096 : Shape := ⟨1, ![4096]⟩
abbrev S1x1024 : Shape := ⟨2, ![1, 1024]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x128 : Shape := ⟨2, ![4096, 128]⟩
abbrev S4096x512 : Shape := ⟨2, ![4096, 512]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 44
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096, .i32⟩
  | .hbm, ⟨4, _⟩ => ⟨S1x1024, .f32⟩
  | .hbm, ⟨5, _⟩ => ⟨S1024x3072, .bf16⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S4096, .f32⟩
  | .hbm, ⟨21, _⟩ => ⟨S4096x1, .f32⟩
  | .hbm, ⟨22, _⟩ => ⟨S1x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S_, .f32⟩
  | .hbm, ⟨29, _⟩ => ⟨S4096x8, .f32⟩
  | .hbm, ⟨30, _⟩ => ⟨S_, .f32⟩
  | .hbm, ⟨31, _⟩ => ⟨S4096x48, .f32⟩
  | .hbm, ⟨32, _⟩ => ⟨S_, .f32⟩
  | .hbm, ⟨33, _⟩ => ⟨S4096x48, .f32⟩
  | .hbm, ⟨34, _⟩ => ⟨S4096x8, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S4096x512, .bf16⟩
  | .hbm, ⟨39, _⟩ => ⟨S4096x512, .bf16⟩
  | .hbm, ⟨40, _⟩ => ⟨S4096x512, .bf16⟩
  | .hbm, ⟨41, _⟩ => ⟨S4096x512, .bf16⟩
  | .hbm, ⟨42, _⟩ => ⟨S4096x512, .bf16⟩
  | .hbm, ⟨43, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev main_v27_4 : Ref sig .tc := ⟨.hbm, 42, rfl⟩
abbrev main_v27_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InprojIdeal.lean ====
abbrev S4096x1024 : Shape := ⟨2, ![4096, 1024]⟩
abbrev S1024 : Shape := ⟨1, ![1024]⟩
abbrev S1024x3072 : Shape := ⟨2, ![1024, 3072]⟩
abbrev S4096 : Shape := ⟨1, ![4096]⟩
abbrev S_ : Shape := ⟨0, ![]⟩
abbrev S4096x1 : Shape := ⟨2, ![4096, 1]⟩
abbrev S1x1024 : Shape := ⟨2, ![1, 1024]⟩
abbrev S4096x3072 : Shape := ⟨2, ![4096, 3072]⟩
abbrev S4096x512 : Shape := ⟨2, ![4096, 512]⟩
abbrev S8 : Shape := ⟨1, ![8]⟩
abbrev S1x8 : Shape := ⟨2, ![1, 8]⟩
abbrev S4096x8 : Shape := ⟨2, ![4096, 8]⟩
abbrev S4096x1x8 : Shape := ⟨3, ![4096, 1, 8]⟩
abbrev S4096x8x64 : Shape := ⟨3, ![4096, 8, 64]⟩
abbrev S4096x8x8 : Shape := ⟨3, ![4096, 8, 8]⟩
abbrev S4096x8x48 : Shape := ⟨3, ![4096, 8, 48]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096, .i32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x3072, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S4096, .f32⟩
  | .hbm, ⟨42, _⟩ => ⟨S4096x1, .f32⟩
  | .hbm, ⟨43, _⟩ => ⟨S1x8, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S4096x1x8, .f32⟩
  | .hbm, ⟨50, _⟩ => ⟨S4096x1x8, .f32⟩
  | .hbm, ⟨51, _⟩ => ⟨S4096x8x64, .f32⟩
  | .hbm, ⟨52, _⟩ => ⟨S4096x8x8, .f32⟩
  | .hbm, ⟨53, _⟩ => ⟨S4096x8x8, .f32⟩
  | .hbm, ⟨54, _⟩ => ⟨S4096x8x8, .f32⟩
  | .hbm, ⟨55, _⟩ => ⟨S4096x8x8, .f32⟩
  | .hbm, ⟨56, _⟩ => ⟨S4096x8x8, .f32⟩
  | .hbm, ⟨57, _⟩ => ⟨S4096x8x8, .f32⟩
  | .hbm, ⟨58, _⟩ => ⟨S4096x8x8, .f32⟩
  | .hbm, ⟨59, _⟩ => ⟨S4096x8x8, .f32⟩
  | .hbm, ⟨60, _⟩ => ⟨S4096x8x8, .f32⟩
  | .hbm, ⟨61, _⟩ => ⟨S4096x8x8, .f32⟩
  | .hbm, ⟨62, _⟩ => ⟨S4096x8x8, .f32⟩
  | .hbm, ⟨63, _⟩ => ⟨S4096x8x8, .f32⟩
  | .hbm, ⟨64, _⟩ => ⟨S4096x8x48, .f32⟩
  | .hbm, ⟨65, _⟩ => ⟨S4096x8x64, .f32⟩
  | .hbm, ⟨66, _⟩ => ⟨S4096x512, .f32⟩
  | .hbm, ⟨67, _⟩ => ⟨S_, .f32⟩
  | .hbm, ⟨68, _⟩ => ⟨S4096x512, .f32⟩
  | .hbm, ⟨69, _⟩ => ⟨S4096x512, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S_, .f32⟩
  | .hbm, ⟨82, _⟩ => ⟨S8, .f32⟩
  | .hbm, ⟨83, _⟩ => ⟨S8, .f32⟩
  | .hbm, ⟨84, _⟩ => ⟨S4096, .f32⟩
  | .hbm, ⟨85, _⟩ => ⟨S4096x1, .f32⟩
  | .hbm, ⟨86, _⟩ => ⟨S1x8, .f32⟩
  | .hbm, ⟨87, _⟩ => ⟨S4096x8, .f32⟩
  | .hbm, ⟨88, _⟩ => ⟨S4096x8, .f32⟩
  | .hbm, ⟨89, _⟩ => ⟨S4096x8, .f32⟩
  | .hbm, ⟨90, _⟩ => ⟨S4096x8, .f32⟩
  | .hbm, ⟨91, _⟩ => ⟨S4096x8, .f32⟩
  | .hbm, ⟨92, _⟩ => ⟨S4096x1x8, .f32⟩
  | .hbm, ⟨93, _⟩ => ⟨S4096x1x8, .f32⟩
  | .hbm, ⟨94, _⟩ => ⟨S4096x8x64, .f32⟩
  | .hbm, ⟨95, _⟩ => ⟨S4096x8x8, .f32⟩
  | .hbm, ⟨96, _⟩ => ⟨S4096x8x8, .f32⟩
  | .hbm, ⟨97, _⟩ => ⟨S4096x8x8, .f32⟩
  | .hbm, ⟨98, _⟩ => ⟨S4096x8x8, .f32⟩
  | .hbm, ⟨99, _⟩ => ⟨S4096x8x8, .f32⟩
  | .hbm, ⟨100, _⟩ => ⟨S4096x8x8, .f32⟩
  | .hbm, ⟨101, _⟩ => ⟨S4096x8x8, .f32⟩
  | .hbm, ⟨102, _⟩ => ⟨S4096x8x8, .f32⟩
  | .hbm, ⟨103, _⟩ => ⟨S4096x8x8, .f32⟩
  | .hbm, ⟨104, _⟩ => ⟨S4096x8x8, .f32⟩
  | .hbm, ⟨105, _⟩ => ⟨S4096x8x8, .f32⟩
  | .hbm, ⟨106, _⟩ => ⟨S4096x8x8, .f32⟩
  | .hbm, ⟨107, _⟩ => ⟨S4096x8x48, .f32⟩
  | .hbm, ⟨108, _⟩ => ⟨S4096x8x64, .f32⟩
  | .hbm, ⟨109, _⟩ => ⟨S4096x512, .f32⟩
  | .hbm, ⟨110, _⟩ => ⟨S4096x512, .bf16⟩
  | .hbm, ⟨111, _⟩ => ⟨S4096x512, .bf16⟩
  | .hbm, ⟨112, _⟩ => ⟨S4096x512, .bf16⟩
  | .hbm, ⟨113, _⟩ => ⟨S4096x512, .bf16⟩
  | .hbm, ⟨114, _⟩ => ⟨S4096x512, .bf16⟩
  | .hbm, ⟨115, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_v60 : Ref sig .tc := ⟨.hbm, 73, rfl⟩
abbrev main_cst_8 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_9 : Ref sig .tc := ⟨.hbm, 78, rfl⟩
abbrev main_v64 : Ref sig .tc := ⟨.hbm, 79, rfl⟩
abbrev main_v65 : Ref sig .tc := ⟨.hbm, 80, rfl⟩
abbrev main_cst_10 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩

abbrev nD : Nat := 1
abbrev τ : Topo := Topo.v7x

variable {F : FTy → Type} [FloatOps F]
-- ==== MixFwd.lean ====
abbrev S4096x512 : Shape := ⟨2, ![4096, 512]⟩
abbrev S3x512 : Shape := ⟨2, ![3, 512]⟩
abbrev S512 : Shape := ⟨1, ![512]⟩
abbrev S1024x1024 : Shape := ⟨2, ![1024, 1024]⟩
abbrev S4096x1024 : Shape := ⟨2, ![4096, 1024]⟩
abbrev S1024 : Shape := ⟨1, ![1024]⟩
abbrev S1x512 : Shape := ⟨2, ![1, 512]⟩
abbrev S1x1024 : Shape := ⟨2, ![1, 1024]⟩
abbrev S1024x4096 : Shape := ⟨2, ![1024, 4096]⟩
abbrev S512x512 : Shape := ⟨2, ![512, 512]⟩
abbrev S16x512 : Shape := ⟨2, ![16, 512]⟩
abbrev S512x1024 : Shape := ⟨2, ![512, 1024]⟩
abbrev S1024x512 : Shape := ⟨2, ![1024, 512]⟩
abbrev S512x1 : Shape := ⟨2, ![512, 1]⟩

abbrev nBuf : Space → Nat
  | .hbm => 20
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S3x512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S4096x1024, .f32⟩
  | .hbm, ⟨9, _⟩ => ⟨S1024, .f32⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S1x512, .f32⟩
  | .hbm, ⟨14, _⟩ => ⟨S1x512, .f32⟩
  | .hbm, ⟨15, _⟩ => ⟨S1024x1024, .bf16⟩
  | .hbm, ⟨16, _⟩ => ⟨S1x1024, .f32⟩
  | .hbm, ⟨17, _⟩ => ⟨S4096x1024, .f32⟩
  | .hbm, ⟨18, _⟩ => ⟨S1024x4096, .bf16⟩
  | .hbm, ⟨19, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S3x512, .f32⟩
  | .local _ .vmem, ⟨17, _⟩ => ⟨S1x512, .f32⟩
  | .local _ .vmem, ⟨18, _⟩ => ⟨S1x512, .f32⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1024x512, .bf16⟩
  | .local _ .vmem, ⟨26, _⟩ => ⟨S1024x512, .bf16⟩
  | .local _ .vmem, ⟨27, _⟩ => ⟨S512x1024, .bf16⟩
  | .local _ .vmem, ⟨28, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixIdeal.lean ====
abbrev S4096x512 : Shape := ⟨2, ![4096, 512]⟩
abbrev S3x512 : Shape := ⟨2, ![3, 512]⟩
abbrev S512 : Shape := ⟨1, ![512]⟩
abbrev S1024x1024 : Shape := ⟨2, ![1024, 1024]⟩
abbrev S4096x1024 : Shape := ⟨2, ![4096, 1024]⟩
abbrev S1024 : Shape := ⟨1, ![1024]⟩
abbrev S1x512 : Shape := ⟨2, ![1, 512]⟩
abbrev S_ : Shape := ⟨0, ![]⟩
abbrev S4095x512 : Shape := ⟨2, ![4095, 512]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩

abbrev nBuf : Space → Nat
  | .hbm => 90
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S3x512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S4096x1024, .f32⟩
  | .hbm, ⟨9, _⟩ => ⟨S1024, .f32⟩
  | .hbm, ⟨10, _⟩ => ⟨S4096x512, .f32⟩
  | .hbm, ⟨11, _⟩ => ⟨S1x512, .f32⟩
  | .hbm, ⟨12, _⟩ => ⟨S_, .f32⟩
  | .hbm, ⟨13, _⟩ => ⟨S1x512, .f32⟩
  | .hbm, ⟨14, _⟩ => ⟨S4095x512, .f32⟩
  | .hbm, ⟨15, _⟩ => ⟨S4096x512, .f32⟩
  | .hbm, ⟨16, _⟩ => ⟨S4095x512, .f32⟩
  | .hbm, ⟨17, _⟩ => ⟨S4096x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S1x512, .f32⟩
  | .hbm, ⟨30, _⟩ => ⟨S512, .f32⟩
  | .hbm, ⟨31, _⟩ => ⟨S1x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x512, .f32⟩
  | .hbm, ⟨48, _⟩ => ⟨S4096x512, .f32⟩
  | .hbm, ⟨49, _⟩ => ⟨S1x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x512, .f32⟩
  | .hbm, ⟨64, _⟩ => ⟨S4096x512, .f32⟩
  | .hbm, ⟨65, _⟩ => ⟨S1x512, .f32⟩
  | .hbm, ⟨66, _⟩ => ⟨S4096x512, .f32⟩
  | .hbm, ⟨67, _⟩ => ⟨S4096x512, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S1024x4096, .f32⟩
  | .hbm, ⟨88, _⟩ => ⟨S1024x4096, .bf16⟩
  | .hbm, ⟨89, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== MixBwd.lean ====
abbrev S4096x512 : Shape := ⟨2, ![4096, 512]⟩
abbrev S3x512 : Shape := ⟨2, ![3, 512]⟩
abbrev S512 : Shape := ⟨1, ![512]⟩
abbrev S1024x1024 : Shape := ⟨2, ![1024, 1024]⟩
abbrev S1024 : Shape := ⟨1, ![1024]⟩
abbrev S4096x1024 : Shape := ⟨2, ![4096, 1024]⟩
abbrev S1x512 : Shape := ⟨2, ![1, 512]⟩
abbrev S_ : Shape := ⟨0, ![]⟩
abbrev S4095x512 : Shape := ⟨2, ![4095, 512]⟩
abbrev S4096 : Shape := ⟨1, ![4096]⟩
abbrev S4096x1 : Shape := ⟨2, ![4096, 1]⟩
abbrev S1x1024 : Shape := ⟨2, ![1, 1024]⟩
abbrev S512x1024 : Shape := ⟨2, ![512, 1024]⟩
abbrev S512x512 : Shape := ⟨2, ![512, 512]⟩
abbrev S16x512 : Shape := ⟨2, ![16, 512]⟩
abbrev S512x1 : Shape := ⟨2, ![512, 1]⟩

abbrev nBuf : Space → Nat
  | .hbm => 85
  | .vmem => 36
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S3x512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S4096x512, .f32⟩
  | .hbm, ⟨11, _⟩ => ⟨S1x512, .f32⟩
  | .hbm, ⟨12, _⟩ => ⟨S_, .f32⟩
  | .hbm, ⟨13, _⟩ => ⟨S1x512, .f32⟩
  | .hbm, ⟨14, _⟩ => ⟨S4095x512, .f32⟩
  | .hbm, ⟨15, _⟩ => ⟨S4096x512, .f32⟩
  | .hbm, ⟨16, _⟩ => ⟨S4095x512, .f32⟩
  | .hbm, ⟨17, _⟩ => ⟨S4096x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S1x512, .f32⟩
  | .hbm, ⟨30, _⟩ => ⟨S512, .f32⟩
  | .hbm, ⟨31, _⟩ => ⟨S1x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x512, .f32⟩
  | .hbm, ⟨48, _⟩ => ⟨S4096x512, .f32⟩
  | .hbm, ⟨49, _⟩ => ⟨S1x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x512, .f32⟩
  | .hbm, ⟨64, _⟩ => ⟨S4096x512, .f32⟩
  | .hbm, ⟨65, _⟩ => ⟨S1x512, .f32⟩
  | .hbm, ⟨66, _⟩ => ⟨S4096x512, .f32⟩
  | .hbm, ⟨67, _⟩ => ⟨S4096x512, .f32⟩
  | .hbm, ⟨68, _⟩ => ⟨S4096x1024, .f32⟩
  | .hbm, ⟨69, _⟩ => ⟨S4096x1024, .f32⟩
  | .hbm, ⟨70, _⟩ => ⟨S4096x1024, .bf16⟩
  | .hbm, ⟨71, _⟩ => ⟨S4096x512, .bf16⟩
  | .hbm, ⟨72, _⟩ => ⟨S4096x512, .bf16⟩
  | .hbm, ⟨73, _⟩ => ⟨S4096x512, .bf16⟩
  | .hbm, ⟨74, _⟩ => ⟨S1x512, .f32⟩
  | .hbm, ⟨75, _⟩ => ⟨S1x512, .f32⟩
  | .hbm, ⟨76, _⟩ => ⟨S1x1024, .f32⟩
  | .hbm, ⟨77, _⟩ => ⟨S1024x1024, .bf16⟩
  | .hbm, ⟨78, _⟩ => ⟨S4096x1024, .bf16⟩
  | .hbm, ⟨79, _⟩ => ⟨S4096x512, .f32⟩
  | .hbm, ⟨80, _⟩ => ⟨S4096x512, .bf16⟩
  | .hbm, ⟨81, _⟩ => ⟨S4096x512, .bf16⟩
  | .hbm, ⟨82, _⟩ => ⟨S1x1024, .f32⟩
  | .hbm, ⟨83, _⟩ => ⟨S1x512, .f32⟩
  | .hbm, ⟨84, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S16x512, .bf16⟩
  | .local _ .vmem, ⟨19, _⟩ => ⟨S16x512, .bf16⟩
  | .local _ .vmem, ⟨20, _⟩ => ⟨S3x512, .f32⟩
  | .local _ .vmem, ⟨21, _⟩ => ⟨S1x512, .f32⟩
  | .local _ .vmem, ⟨22, _⟩ => ⟨S1x512, .f32⟩
  | .local _ .vmem, ⟨23, _⟩ => ⟨S1x1024, .f32⟩
  | .local _ .vmem, ⟨24, _⟩ => ⟨S1024x1024, .bf16⟩
  | .local _ .vmem, ⟨25, _⟩ => ⟨S512x1024, .bf16⟩
  | .local _ .vmem, ⟨26, _⟩ => ⟨S512x1024, .bf16⟩
  | .local _ .vmem, ⟨27, _⟩ => ⟨S512x512, .f32⟩
  | .local _ .vmem, ⟨28, _⟩ => ⟨S512x512, .f32⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S1x1024, .f32⟩
  | .local _ .vmem, ⟨34, _⟩ => ⟨S1x512, .f32⟩
  | .local _ .vmem, ⟨35, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61_0 : Ref sig .tc := ⟨.hbm, 78, rfl⟩
abbrev main_v61_1 : Ref sig .tc := ⟨.hbm, 79, rfl⟩
abbrev main_v61_2 : Ref sig .tc := ⟨.hbm, 80, rfl⟩
abbrev main_v61_3 : Ref sig .tc := ⟨.hbm, 81, rfl⟩
abbrev main_v61_4 : Ref sig .tc := ⟨.hbm, 82, rfl⟩
abbrev main_v61_5 : Ref sig .tc := ⟨.hbm, 83, rfl⟩
abbrev main_v61_6 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem20_0 : DmaSem sig := 34
abbrev cc0_sem21_0 : DmaSem sig := 35

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_58 : BitVec 32 := 0#32
  let v168 : BitVec 1 := Scalar.cmpi .eq arg0 c0_i32_58
  let v169 : BitVec 32 := Scalar.extui v168
  let c0_i32_59 : BitVec 32 := 0#32
  let v170 : BitVec 1 := Scalar.cmpi .ne v169 c0_i32_59
  v170

def k0_cond2 (i : grid0.Coords) : BitVec 1 :=
  let arg0 : BitVec 32 := BitVec.ofNat 32 (i 0).val
  let c0_i32_60 : BitVec 32 := 0#32
  let v171 : BitVec 1 := Scalar.cmpi .sgt arg0 c0_i32_60
  let v172 : BitVec 32 := Scalar.extui v171
  let c0_i32_61 : BitVec 32 := 0#32
  let v173 : BitVec 1 := Scalar.cmpi .ne v172 c0_i32_61
  v173

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== MixGradIdeal.lean ====
abbrev S4096x512 : Shape := ⟨2, ![4096, 512]⟩
abbrev S3x512 : Shape := ⟨2, ![3, 512]⟩
abbrev S512 : Shape := ⟨1, ![512]⟩
abbrev S1024x1024 : Shape := ⟨2, ![1024, 1024]⟩
abbrev S1024 : Shape := ⟨1, ![1024]⟩
abbrev S4096x1024 : Shape := ⟨2, ![4096, 1024]⟩
abbrev S1x512 : Shape := ⟨2, ![1, 512]⟩
abbrev S_ : Shape := ⟨0, ![]⟩
abbrev S4095x512 : Shape := ⟨2, ![4095, 512]⟩
abbrev S4096 : Shape := ⟨1, ![4096]⟩
abbrev S4096x1 : Shape := ⟨2, ![4096, 1]⟩
abbrev S1x1024 : Shape := ⟨2, ![1, 1024]⟩

abbrev nBuf : Space → Nat
  | .hbm => 184
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S3x512, .f32⟩
  | 5 => ⟨S512, .f32⟩
  | 6 => ⟨S512, .f32⟩
  | 7 => ⟨S1024x1024, .f32⟩
  | 8 => ⟨S1024, .f32⟩
  | 9 => ⟨S4096x1024, .f32⟩
  | 10 => ⟨S4096x512, .f32⟩
  | 11 => ⟨S1x512, .f32⟩
  | 12 => ⟨S_, .f32⟩
  | 13 => ⟨S1x512, .f32⟩
  | 14 => ⟨S4095x512, .f32⟩
  | 15 => ⟨S4096x512, .f32⟩
  | 16 => ⟨S4095x512, .f32⟩
  | 17 => ⟨S4096x512, .f32⟩
  | 18 => ⟨S1x512, .f32⟩
  | 19 => ⟨S512, .f32⟩
  | 20 => ⟨S1x512, .f32⟩
  | 21 => ⟨S4096x512, .f32⟩
  | 22 => ⟨S4096x512, .f32⟩
  | 23 => ⟨S1x512, .f32⟩
  | 24 => ⟨S512, .f32⟩
  | 25 => ⟨S1x512, .f32⟩
  | 26 => ⟨S4096x512, .f32⟩
  | 27 => ⟨S4096x512, .f32⟩
  | 28 => ⟨S4096x512, .f32⟩
  | 29 => ⟨S1x512, .f32⟩
  | 30 => ⟨S512, .f32⟩
  | 31 => ⟨S1x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x512, .f32⟩
  | 52 => ⟨S4096x512, .f32⟩
  | 53 => ⟨S1x512, .f32⟩
  | 54 => ⟨S4096x512, .f32⟩
  | 55 => ⟨S4096x512, .f32⟩
  | 56 => ⟨S4096x512, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x512, .f32⟩
  | 72 => ⟨S4096x512, .f32⟩
  | 73 => ⟨S1x512, .f32⟩
  | 74 => ⟨S4096x512, .f32⟩
  | 75 => ⟨S4096x512, .f32⟩
  | 76 => ⟨S4096x1024, .f32⟩
  | 77 => ⟨S4096x1024, .f32⟩
  | 78 => ⟨S4096x1024, .f32⟩
  | 79 => ⟨S_, .f32⟩
  | 80 => ⟨S4096, .f32⟩
  | 81 => ⟨S4096x1, .f32⟩
  | 82 => ⟨S_, .f32⟩
  | 83 => ⟨S4096x1, .f32⟩
  | 84 => ⟨S4096x1, .f32⟩
  | 85 => ⟨S_, .f32⟩
  | 86 => ⟨S4096x1, .f32⟩
  | 87 => ⟨S4096x1, .f32⟩
  | 88 => ⟨S4096x1, .f32⟩
  | 89 => ⟨S4096x1, .f32⟩
  | 90 => ⟨S_, .f32⟩
  | 91 => ⟨S4096x1, .f32⟩
  | 92 => ⟨S4096x1, .f32⟩
  | 93 => ⟨S4096x1024, .f32⟩
  | 94 => ⟨S4096x1024, .f32⟩
  | 95 => ⟨S1x1024, .f32⟩
  | 96 => ⟨S4096x1024, .f32⟩
  | 97 => ⟨S4096x1024, .f32⟩
  | 98 => ⟨S4096x1024, .f32⟩
  | 99 => ⟨S_, .f32⟩
  | 100 => ⟨S1024, .f32⟩
  | 101 => ⟨S1x1024, .f32⟩
  | 102 => ⟨S4096x1024, .f32⟩
  | 103 => ⟨S4096x1024, .f32⟩
  | 104 => ⟨S_, .f32⟩
  | 105 => ⟨S1024, .f32⟩
  | 106 => ⟨S4096x1024, .f32⟩
  | 107 => ⟨S_, .f32⟩
  | 108 => ⟨S4096, .f32⟩
  | 109 => ⟨S4096x1, .f32⟩
  | 110 => ⟨S4096x1024, .f32⟩
  | 111 => ⟨S4096x1024, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x512, .f32⟩
  | 125 => ⟨S4096x512, .f32⟩
  | 126 => ⟨S4096x512, .f32⟩
  | 127 => ⟨S_, .f32⟩
  | _ => ⟨S4096x512, .f32⟩

abbrev hbmTy0_1 (i : Nat) : BufTy := match i % 128 with
  | 0 => ⟨S512, .f32⟩
  | 1 => ⟨S1x512, .f32⟩
  | 2 => ⟨S4096x512, .f32⟩
  | 3 => ⟨S4096x512, .f32⟩
  | 4 => ⟨S_, .f32⟩
  | 5 => ⟨S512, .f32⟩
  | 6 => ⟨S4096x512, .f32⟩
  | 7 => ⟨S_, .f32⟩
  | 8 => ⟨S4096, .f32⟩
  | 9 => ⟨S4096x1, .f32⟩
  | 10 => ⟨S4096x512, .f32⟩
  | 11 => ⟨S4096x512, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096, .f32⟩
  | 18 => ⟨S4096x512, .f32⟩
  | 19 => ⟨S4096x512, .f32⟩
  | 20 => ⟨S4096x512, .f32⟩
  | 21 => ⟨S4096x512, .f32⟩
  | 22 => ⟨S4096x512, .f32⟩
  | 23 => ⟨S4096x512, .f32⟩
  | 24 => ⟨S_, .f32⟩
  | 25 => ⟨S512, .f32⟩
  | 26 => ⟨S1x512, .f32⟩
  | 27 => ⟨S4096x512, .f32⟩
  | 28 => ⟨S4096x512, .f32⟩
  | 29 => ⟨S_, .f32⟩
  | 30 => ⟨S512, .f32⟩
  | 31 => ⟨S4096x512, .f32⟩
  | 32 => ⟨S_, .f32⟩
  | 33 => ⟨S4096, .f32⟩
  | 34 => ⟨S4096x1, .f32⟩
  | 35 => ⟨S4096x512, .f32⟩
  | 36 => ⟨S4096x512, .f32⟩
  | 37 => ⟨S4096x1, .f32⟩
  | 38 => ⟨S_, .f32⟩
  | 39 => ⟨S4096x1, .f32⟩
  | 40 => ⟨S4096x1, .f32⟩
  | 41 => ⟨S_, .f32⟩
  | 42 => ⟨S4096, .f32⟩
  | 43 => ⟨S4096x512, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x1024, .bf16⟩
  | 51 => ⟨S4096x512, .bf16⟩
  | 52 => ⟨S4096x512, .bf16⟩
  | 53 => ⟨S1x1024, .f32⟩
  | 54 => ⟨S1x512, .f32⟩
  | 55 => ⟨S1x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_15 : Ref sig .tc := ⟨.hbm, 113, rfl⟩
abbrev main_v87 : Ref sig .tc := ⟨.hbm, 114, rfl⟩
abbrev main_v88 : Ref sig .tc := ⟨.hbm, 115, rfl⟩
abbrev main_cst_16 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_17 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_18 : Ref sig .tc := ⟨.hbm, 132, rfl⟩
abbrev main_v103 : Ref sig .tc := ⟨.hbm, 133, rfl⟩
abbrev main_v104 : Ref sig .tc := ⟨.hbm, 134, rfl⟩
abbrev main_cst_19 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_20 : Ref sig .tc := ⟨.hbm, 141, rfl⟩
abbrev main_v110 : Ref sig .tc := ⟨.hbm, 142, rfl⟩
abbrev main_v111 : Ref sig .tc := ⟨.hbm, 143, rfl⟩
abbrev main_cst_21 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_22 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_23 : Ref sig .tc := ⟨.hbm, 157, rfl⟩
abbrev main_v123 : Ref sig .tc := ⟨.hbm, 158, rfl⟩
abbrev main_v124 : Ref sig .tc := ⟨.hbm, 159, rfl⟩
abbrev main_cst_24 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_25 : Ref sig .tc := ⟨.hbm, 166, rfl⟩
abbrev main_v130 : Ref sig .tc := ⟨.hbm, 167, rfl⟩
abbrev main_v131 : Ref sig .tc := ⟨.hbm, 168, rfl⟩
abbrev main_cst_26 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩

abbrev nD : Nat := 1
abbrev τ : Topo := Topo.v7x

variable {F : FTy → Type} [FloatOps F]
-- ==== TapsStep.lean ====
abbrev S4x3x64 : Shape := ⟨3, ![4, 3, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x3x64, .f32⟩
  | .hbm, ⟨3, _⟩ => ⟨S4x3x64, .f32⟩
  | .hbm, ⟨4, _⟩ => ⟨S4x3x64, .f32⟩
  | .hbm, ⟨5, _⟩ => ⟨S4x3x64, .f32⟩
  | .hbm, ⟨6, _⟩ => ⟨S4x3x64, .f32⟩
  | .local _ .vmem, ⟨0, _⟩ => ⟨S4x3x64, .f32⟩
  | .local _ .vmem, ⟨1, _⟩ => ⟨S4x3x64, .f32⟩
  | .local _ .vmem, ⟨2, _⟩ => ⟨S4x3x64, .f32⟩
  | .local _ .vmem, ⟨3, _⟩ => ⟨S4x3x64, .f32⟩
  | .local _ .vmem, ⟨4, _⟩ => ⟨S4x3x64, .f32⟩
  | .local _ .vmem, ⟨5, _⟩ => ⟨S4x3x64, .f32⟩
  | .local _ .vmem, ⟨6, _⟩ => ⟨S4x3x64, .f32⟩
  | _, _ => ⟨S4x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x3x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== TapsIdeal.lean ====
abbrev S4x3x64 : Shape := ⟨3, ![4, 3, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x3x64, .f32⟩
  | .hbm, ⟨3, _⟩ => ⟨S4x3x64, .f32⟩
  | .hbm, ⟨4, _⟩ => ⟨S_, .f32⟩
  | .hbm, ⟨5, _⟩ => ⟨S4x3x64, .f32⟩
  | .hbm, ⟨6, _⟩ => ⟨S4x3x64, .f32⟩
  | .hbm, ⟨7, _⟩ => ⟨S_, .f32⟩
  | .hbm, ⟨8, _⟩ => ⟨S4x3x64, .f32⟩
  | .hbm, ⟨9, _⟩ => ⟨S4x3x64, .f32⟩
  | .hbm, ⟨10, _⟩ => ⟨S4x3x64, .f32⟩
  | .hbm, ⟨11, _⟩ => ⟨S_, .f32⟩
  | .hbm, ⟨12, _⟩ => ⟨S4x3x64, .f32⟩
  | .hbm, ⟨13, _⟩ => ⟨S4x3x64, .f32⟩
  | .hbm, ⟨14, _⟩ => ⟨S4x3x64, .f32⟩
  | .hbm, ⟨15, _⟩ => ⟨S_, .f32⟩
  | .hbm, ⟨16, _⟩ => ⟨S4x3x64, .f32⟩
  | .hbm, ⟨17, _⟩ => ⟨S4x3x64, .f32⟩
  | .hbm, ⟨18, _⟩ => ⟨S4x3x64, .f32⟩
  | .hbm, ⟨19, _⟩ => ⟨S_, .f32⟩
  | .hbm, ⟨20, _⟩ => ⟨S4x3x64, .f32⟩
  | .hbm, ⟨21, _⟩ => ⟨S4x3x64, .f32⟩
  | .hbm, ⟨22, _⟩ => ⟨S_, .f32⟩
  | .hbm, ⟨23, _⟩ => ⟨S4x3x64, .f32⟩
  | .hbm, ⟨24, _⟩ => ⟨S4x3x64, .f32⟩
  | .hbm, ⟨25, _⟩ => ⟨S4x3x64, .f32⟩
  | .hbm, ⟨26, _⟩ => ⟨S_, .f32⟩
  | .hbm, ⟨27, _⟩ => ⟨S4x3x64, .f32⟩
  | .hbm, ⟨28, _⟩ => ⟨S4x3x64, .f32⟩
  | .hbm, ⟨29, _⟩ => ⟨S4x3x64, .f32⟩
  | .hbm, ⟨30, _⟩ => ⟨S_, .f32⟩
  | .hbm, ⟨31, _⟩ => ⟨S4x3x64, .f32⟩
  | .hbm, ⟨32, _⟩ => ⟨S4x3x64, .f32⟩
  | .hbm, ⟨33, _⟩ => ⟨S4x3x64, .f32⟩
  | .hbm, ⟨34, _⟩ => ⟨S_, .f32⟩
  | .hbm, ⟨35, _⟩ => ⟨S4x3x64, .f32⟩
  | .hbm, ⟨36, _⟩ => ⟨S4x3x64, .f32⟩
  | _, _ => ⟨S4x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== WoutStep.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== WoutIdeal.lean ====
abbrev S8x128x1024 : Shape := ⟨3, ![8, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S4x128x1024, .f32⟩
  | .hbm, ⟨24, _⟩ => ⟨S_, .f32⟩
  | .hbm, ⟨25, _⟩ => ⟨S4x128x1024, .f32⟩
  | .hbm, ⟨26, _⟩ => ⟨S4x128x1024, .f32⟩
  | .hbm, ⟨27, _⟩ => ⟨S_, .f32⟩
  | .hbm, ⟨28, _⟩ => ⟨S4x128x1024, .f32⟩
  | .hbm, ⟨29, _⟩ => ⟨S4x128x1024, .f32⟩
  | .hbm, ⟨30, _⟩ => ⟨S4x128x1024, .f32⟩
  | .hbm, ⟨31, _⟩ => ⟨S_, .f32⟩
  | .hbm, ⟨32, _⟩ => ⟨S4x128x1024, .f32⟩
  | .hbm, ⟨33, _⟩ => ⟨S4x128x1024, .f32⟩
  | .hbm, ⟨34, _⟩ => ⟨S4x128x1024, .f32⟩
  | .hbm, ⟨35, _⟩ => ⟨S_, .f32⟩
  | .hbm, ⟨36, _⟩ => ⟨S4x128x1024, .f32⟩
  | .hbm, ⟨37, _⟩ => ⟨S4x128x1024, .f32⟩
  | .hbm, ⟨38, _⟩ => ⟨S4x128x1024, .f32⟩
  | .hbm, ⟨39, _⟩ => ⟨S_, .f32⟩
  | .hbm, ⟨40, _⟩ => ⟨S4x128x1024, .f32⟩
  | .hbm, ⟨41, _⟩ => ⟨S4x128x1024, .f32⟩
  | .hbm, ⟨42, _⟩ => ⟨S_, .f32⟩
  | .hbm, ⟨43, _⟩ => ⟨S4x128x1024, .f32⟩
  | .hbm, ⟨44, _⟩ => ⟨S4x128x1024, .f32⟩
  | .hbm, ⟨45, _⟩ => ⟨S4x128x1024, .f32⟩
  | .hbm, ⟨46, _⟩ => ⟨S_, .f32⟩
  | .hbm, ⟨47, _⟩ => ⟨S4x128x1024, .f32⟩
  | .hbm, ⟨48, _⟩ => ⟨S4x128x1024, .f32⟩
  | .hbm, ⟨49, _⟩ => ⟨S4x128x1024, .f32⟩
  | .hbm, ⟨50, _⟩ => ⟨S_, .f32⟩
  | .hbm, ⟨51, _⟩ => ⟨S4x128x1024, .f32⟩
  | .hbm, ⟨52, _⟩ => ⟨S4x128x1024, .f32⟩
  | .hbm, ⟨53, _⟩ => ⟨S4x128x1024, .f32⟩
  | .hbm, ⟨54, _⟩ => ⟨S_, .f32⟩
  | .hbm, ⟨55, _⟩ => ⟨S4x128x1024, .f32⟩
  | .hbm, ⟨56, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== WinStep.lean ====
abbrev S4x1024x384 : Shape := ⟨3, ![4, 1024, 384]⟩
abbrev S8x1024x384 : Shape := ⟨3, ![8, 1024, 384]⟩
abbrev S4x512x384 : Shape := ⟨3, ![4, 512, 384]⟩
abbrev S8x512x384 : Shape := ⟨3, ![8, 512, 384]⟩
abbrev S1x512x384 : Shape := ⟨3, ![1, 512, 384]⟩
abbrev S512x384 : Shape := ⟨2, ![512, 384]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x384, .bf16⟩
  | .hbm, ⟨1, _⟩ => ⟨S8x1024x384, .bf16⟩
  | .hbm, ⟨2, _⟩ => ⟨S8x1024x384, .bf16⟩
  | .hbm, ⟨3, _⟩ => ⟨S8x1024x384, .bf16⟩
  | .hbm, ⟨4, _⟩ => ⟨S4x1024x384, .f32⟩
  | .hbm, ⟨5, _⟩ => ⟨S4x1024x384, .f32⟩
  | .hbm, ⟨6, _⟩ => ⟨S4x1024x384, .f32⟩
  | .hbm, ⟨7, _⟩ => ⟨S4x1024x384, .f32⟩
  | .hbm, ⟨8, _⟩ => ⟨S4x1024x384, .f32⟩
  | .hbm, ⟨9, _⟩ => ⟨S4x1024x384, .f32⟩
  | .hbm, ⟨10, _⟩ => ⟨S4x1024x384, .f32⟩
  | .local _ .vmem, ⟨0, _⟩ => ⟨S4x512x384, .bf16⟩
  | .local _ .vmem, ⟨1, _⟩ => ⟨S4x512x384, .bf16⟩
  | .local _ .vmem, ⟨2, _⟩ => ⟨S8x512x384, .bf16⟩
  | .local _ .vmem, ⟨3, _⟩ => ⟨S8x512x384, .bf16⟩
  | .local _ .vmem, ⟨4, _⟩ => ⟨S8x512x384, .bf16⟩
  | .local _ .vmem, ⟨5, _⟩ => ⟨S8x512x384, .bf16⟩
  | .local _ .vmem, ⟨6, _⟩ => ⟨S8x512x384, .bf16⟩
  | .local _ .vmem, ⟨7, _⟩ => ⟨S8x512x384, .bf16⟩
  | .local _ .vmem, ⟨8, _⟩ => ⟨S1x512x384, .f32⟩
  | .local _ .vmem, ⟨9, _⟩ => ⟨S1x512x384, .f32⟩
  | .local _ .vmem, ⟨10, _⟩ => ⟨S1x512x384, .f32⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x512x384, .f32⟩
  | .local _ .vmem, ⟨16, _⟩ => ⟨S1x512x384, .f32⟩
  | .local _ .vmem, ⟨17, _⟩ => ⟨S1x512x384, .f32⟩
  | .local _ .vmem, ⟨18, _⟩ => ⟨S1x512x384, .f32⟩
  | .local _ .vmem, ⟨19, _⟩ => ⟨S1x512x384, .f32⟩
  | .local _ .vmem, ⟨20, _⟩ => ⟨S1x512x384, .f32⟩
  | .local _ .vmem, ⟨21, _⟩ => ⟨S1x512x384, .f32⟩
  | _, _ => ⟨S4x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c1_i32 : BitVec 32 := 1#32
  let v2 : BitVec 32 := Scalar.select v1 c0_i32 c1_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c1_i32 : BitVec 32 := 1#32
  let v2 : BitVec 32 := Scalar.select v1 c0_i32 c1_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== WinIdeal.lean ====
abbrev S4x1024x384 : Shape := ⟨3, ![4, 1024, 384]⟩
abbrev S8x1024x384 : Shape := ⟨3, ![8, 1024, 384]⟩
abbrev S_ : Shape := ⟨0, ![]⟩
abbrev S1024x384 : Shape := ⟨2, ![1024, 384]⟩
abbrev S1x1024x384 : Shape := ⟨3, ![1, 1024, 384]⟩

abbrev nBuf : Space → Nat
  | .hbm => 57
  | .vmem => 0
  | .smem => 0
  | _ => 0

abbrev bufTy : (tb : Table) → Fin (tcTables nBuf tb) → BufTy
  | .hbm, ⟨0, _⟩ => ⟨S4x1024x384, .bf16⟩
  | .hbm, ⟨1, _⟩ => ⟨S8x1024x384, .bf16⟩
  | .hbm, ⟨2, _⟩ => ⟨S8x1024x384, .bf16⟩
  | .hbm, ⟨3, _⟩ => ⟨S8x1024x384, .bf16⟩
  | .hbm, ⟨4, _⟩ => ⟨S4x1024x384, .f32⟩
  | .hbm, ⟨5, _⟩ => ⟨S4x1024x384, .f32⟩
  | .hbm, ⟨6, _⟩ => ⟨S4x1024x384, .f32⟩
  | .hbm, ⟨7, _⟩ => ⟨S4x1024x384, .f32⟩
  | .hbm, ⟨8, _⟩ => ⟨S_, .f32⟩
  | .hbm, ⟨9, _⟩ => ⟨S1024x384, .f32⟩
  | .hbm, ⟨10, _⟩ => ⟨S8x1024x384, .f32⟩
  | .hbm, ⟨11, _⟩ => ⟨S_, .f32⟩
  | .hbm, ⟨12, _⟩ => ⟨S1024x384, .f32⟩
  | .hbm, ⟨13, _⟩ => ⟨S8x1024x384, .f32⟩
  | .hbm, ⟨14, _⟩ => ⟨S_, .f32⟩
  | .hbm, ⟨15, _⟩ => ⟨S1024x384, .f32⟩
  | .hbm, ⟨16, _⟩ => ⟨S8x1024x384, .f32⟩
  | .hbm, ⟨17, _⟩ => ⟨S_, .f32⟩
  | .hbm, ⟨18, _⟩ => ⟨S1024x384, .f32⟩
  | .hbm, ⟨19, _⟩ => ⟨S1x1024x384, .f32⟩
  | .hbm, ⟨20, _⟩ => ⟨S1x1024x384, .f32⟩
  | .hbm, ⟨21, _⟩ => ⟨S1x1024x384, .f32⟩
  | .hbm, ⟨22, _⟩ => ⟨S1x1024x384, .f32⟩
  | .hbm, ⟨23, _⟩ => ⟨S4x1024x384, .f32⟩
  | .hbm, ⟨24, _⟩ => ⟨S_, .f32⟩
  | .hbm, ⟨25, _⟩ => ⟨S4x1024x384, .f32⟩
  | .hbm, ⟨26, _⟩ => ⟨S4x1024x384, .f32⟩
  | .hbm, ⟨27, _⟩ => ⟨S_, .f32⟩
  | .hbm, ⟨28, _⟩ => ⟨S4x1024x384, .f32⟩
  | .hbm, ⟨29, _⟩ => ⟨S4x1024x384, .f32⟩
  | .hbm, ⟨30, _⟩ => ⟨S4x1024x384, .f32⟩
  | .hbm, ⟨31, _⟩ => ⟨S_, .f32⟩
  | .hbm, ⟨32, _⟩ => ⟨S4x1024x384, .f32⟩
  | .hbm, ⟨33, _⟩ => ⟨S4x1024x384, .f32⟩
  | .hbm, ⟨34, _⟩ => ⟨S4x1024x384, .f32⟩
  | .hbm, ⟨35, _⟩ => ⟨S_, .f32⟩
  | .hbm, ⟨36, _⟩ => ⟨S4x1024x384, .f32⟩
  | .hbm, ⟨37, _⟩ => ⟨S4x1024x384, .f32⟩
  | .hbm, ⟨38, _⟩ => ⟨S4x1024x384, .f32⟩
  | .hbm, ⟨39, _⟩ => ⟨S_, .f32⟩
  | .hbm, ⟨40, _⟩ => ⟨S4x1024x384, .f32⟩
  | .hbm, ⟨41, _⟩ => ⟨S4x1024x384, .f32⟩
  | .hbm, ⟨42, _⟩ => ⟨S_, .f32⟩
  | .hbm, ⟨43, _⟩ => ⟨S4x1024x384, .f32⟩
  | .hbm, ⟨44, _⟩ => ⟨S4x1024x384, .f32⟩
  | .hbm, ⟨45, _⟩ => ⟨S4x1024x384, .f32⟩
  | .hbm, ⟨46, _⟩ => ⟨S_, .f32⟩
  | .hbm, ⟨47, _⟩ => ⟨S4x1024x384, .f32⟩
  | .hbm, ⟨48, _⟩ => ⟨S4x1024x384, .f32⟩
  | .hbm, ⟨49, _⟩ => ⟨S4x1024x384, .f32⟩
  | .hbm, ⟨50, _⟩ => ⟨S_, .f32⟩
  | .hbm, ⟨51, _⟩ => ⟨S4x1024x384, .f32⟩
  | .hbm, ⟨52, _⟩ => ⟨S4x1024x384, .f32⟩
  | .hbm, ⟨53, _⟩ => ⟨S4x1024x384, .f32⟩
  | .hbm, ⟨54, _⟩ => ⟨S_, .f32⟩
  | .hbm, ⟨55, _⟩ => ⟨S4x1024x384, .f32⟩
  | .hbm, ⟨56, _⟩ => ⟨S4x1024x384, .f32⟩
  | _, _ => ⟨S4x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== WdownStep.lean ====
abbrev S4x352x1024 : Shape := ⟨3, ![4, 352, 1024]⟩
abbrev S4x176x1024 : Shape := ⟨3, ![4, 176, 1024]⟩
abbrev S1x176x1024 : Shape := ⟨3, ![1, 176, 1024]⟩
abbrev S176x1024 : Shape := ⟨2, ![176, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x352x1024, .bf16⟩
  | .hbm, ⟨1, _⟩ => ⟨S4x352x1024, .bf16⟩
  | .hbm, ⟨2, _⟩ => ⟨S4x352x1024, .bf16⟩
  | .hbm, ⟨3, _⟩ => ⟨S4x352x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S4x176x1024, .bf16⟩
  | .local _ .vmem, ⟨3, _⟩ => ⟨S4x176x1024, .bf16⟩
  | .local _ .vmem, ⟨4, _⟩ => ⟨S4x176x1024, .bf16⟩
  | .local _ .vmem, ⟨5, _⟩ => ⟨S4x176x1024, .bf16⟩
  | .local _ .vmem, ⟨6, _⟩ => ⟨S4x176x1024, .bf16⟩
  | .local _ .vmem, ⟨7, _⟩ => ⟨S4x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c1_i32 : BitVec 32 := 1#32
  let v2 : BitVec 32 := Scalar.select v1 c0_i32 c1_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c1_i32 : BitVec 32 := 1#32
  let v2 : BitVec 32 := Scalar.select v1 c0_i32 c1_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== WdownIdeal.lean ====
abbrev S4x352x1024 : Shape := ⟨3, ![4, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S4x352x1024, .bf16⟩
  | .hbm, ⟨2, _⟩ => ⟨S4x352x1024, .bf16⟩
  | .hbm, ⟨3, _⟩ => ⟨S4x352x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S_, .f32⟩
  | .hbm, ⟨9, _⟩ => ⟨S352x1024, .f32⟩
  | .hbm, ⟨10, _⟩ => ⟨S4x352x1024, .f32⟩
  | .hbm, ⟨11, _⟩ => ⟨S_, .f32⟩
  | .hbm, ⟨12, _⟩ => ⟨S352x1024, .f32⟩
  | .hbm, ⟨13, _⟩ => ⟨S4x352x1024, .f32⟩
  | .hbm, ⟨14, _⟩ => ⟨S_, .f32⟩
  | .hbm, ⟨15, _⟩ => ⟨S352x1024, .f32⟩
  | .hbm, ⟨16, _⟩ => ⟨S4x352x1024, .f32⟩
  | .hbm, ⟨17, _⟩ => ⟨S_, .f32⟩
  | .hbm, ⟨18, _⟩ => ⟨S352x1024, .f32⟩
  | .hbm, ⟨19, _⟩ => ⟨S1x352x1024, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S4x352x1024, .f32⟩
  | .hbm, ⟨24, _⟩ => ⟨S_, .f32⟩
  | .hbm, ⟨25, _⟩ => ⟨S4x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S4x352x1024, .f32⟩
  | .hbm, ⟨35, _⟩ => ⟨S_, .f32⟩
  | .hbm, ⟨36, _⟩ => ⟨S4x352x1024, .f32⟩
  | .hbm, ⟨37, _⟩ => ⟨S4x352x1024, .f32⟩
  | .hbm, ⟨38, _⟩ => ⟨S4x352x1024, .f32⟩
  | .hbm, ⟨39, _⟩ => ⟨S_, .f32⟩
  | .hbm, ⟨40, _⟩ => ⟨S4x352x1024, .f32⟩
  | .hbm, ⟨41, _⟩ => ⟨S4x352x1024, .f32⟩
  | .hbm, ⟨42, _⟩ => ⟨S_, .f32⟩
  | .hbm, ⟨43, _⟩ => ⟨S4x352x1024, .f32⟩
  | .hbm, ⟨44, _⟩ => ⟨S4x352x1024, .f32⟩
  | .hbm, ⟨45, _⟩ => ⟨S4x352x1024, .f32⟩
  | .hbm, ⟨46, _⟩ => ⟨S_, .f32⟩
  | .hbm, ⟨47, _⟩ => ⟨S4x352x1024, .f32⟩
  | .hbm, ⟨48, _⟩ => ⟨S4x352x1024, .f32⟩
  | .hbm, ⟨49, _⟩ => ⟨S4x352x1024, .f32⟩
  | .hbm, ⟨50, _⟩ => ⟨S_, .f32⟩
  | .hbm, ⟨51, _⟩ => ⟨S4x352x1024, .f32⟩
  | .hbm, ⟨52, _⟩ => ⟨S4x352x1024, .f32⟩
  | .hbm, ⟨53, _⟩ => ⟨S4x352x1024, .f32⟩
  | .hbm, ⟨54, _⟩ => ⟨S_, .f32⟩
  | .hbm, ⟨55, _⟩ => ⟨S4x352x1024, .f32⟩
  | .hbm, ⟨56, _⟩ => ⟨S4x352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== WguStep.lean ====
abbrev S4x704x1024 : Shape := ⟨3, ![4, 704, 1024]⟩
abbrev S4x1024x704 : Shape := ⟨3, ![4, 1024, 704]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 14
  | .vmem => 22
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S4x352x1024, .bf16⟩
  | .local _ .vmem, ⟨3, _⟩ => ⟨S4x352x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S4x352x1024, .bf16⟩
  | .local _ .vmem, ⟨7, _⟩ => ⟨S4x352x1024, .bf16⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c1_i32 : BitVec 32 := 1#32
  let v2 : BitVec 32 := Scalar.select v1 c0_i32 c1_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c1_i32 : BitVec 32 := 1#32
  let v2 : BitVec 32 := Scalar.select v1 c0_i32 c1_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== WguIdeal.lean ====
abbrev S4x704x1024 : Shape := ⟨3, ![4, 704, 1024]⟩
abbrev S4x1024x704 : Shape := ⟨3, ![4, 1024, 704]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S4x704x1024, .f32⟩
  | .hbm, ⟨8, _⟩ => ⟨S_, .f32⟩
  | .hbm, ⟨9, _⟩ => ⟨S704x1024, .f32⟩
  | .hbm, ⟨10, _⟩ => ⟨S4x704x1024, .f32⟩
  | .hbm, ⟨11, _⟩ => ⟨S_, .f32⟩
  | .hbm, ⟨12, _⟩ => ⟨S704x1024, .f32⟩
  | .hbm, ⟨13, _⟩ => ⟨S4x704x1024, .f32⟩
  | .hbm, ⟨14, _⟩ => ⟨S_, .f32⟩
  | .hbm, ⟨15, _⟩ => ⟨S704x1024, .f32⟩
  | .hbm, ⟨16, _⟩ => ⟨S4x704x1024, .f32⟩
  | .hbm, ⟨17, _⟩ => ⟨S_, .f32⟩
  | .hbm, ⟨18, _⟩ => ⟨S704x1024, .f32⟩
  | .hbm, ⟨19, _⟩ => ⟨S1x704x1024, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S4x704x1024, .f32⟩
  | .hbm, ⟨24, _⟩ => ⟨S4x1024x704, .f32⟩
  | .hbm, ⟨25, _⟩ => ⟨S_, .f32⟩
  | .hbm, ⟨26, _⟩ => ⟨S4x1024x704, .f32⟩
  | .hbm, ⟨27, _⟩ => ⟨S4x1024x704, .f32⟩
  | .hbm, ⟨28, _⟩ => ⟨S_, .f32⟩
  | .hbm, ⟨29, _⟩ => ⟨S4x1024x704, .f32⟩
  | .hbm, ⟨30, _⟩ => ⟨S4x1024x704, .f32⟩
  | .hbm, ⟨31, _⟩ => ⟨S4x1024x704, .f32⟩
  | .hbm, ⟨32, _⟩ => ⟨S_, .f32⟩
  | .hbm, ⟨33, _⟩ => ⟨S4x1024x704, .f32⟩
  | .hbm, ⟨34, _⟩ => ⟨S4x1024x704, .f32⟩
  | .hbm, ⟨35, _⟩ => ⟨S4x1024x704, .f32⟩
  | .hbm, ⟨36, _⟩ => ⟨S_, .f32⟩
  | .hbm, ⟨37, _⟩ => ⟨S4x1024x704, .f32⟩
  | .hbm, ⟨38, _⟩ => ⟨S4x1024x704, .f32⟩
  | .hbm, ⟨39, _⟩ => ⟨S4x1024x704, .f32⟩
  | .hbm, ⟨40, _⟩ => ⟨S_, .f32⟩
  | .hbm, ⟨41, _⟩ => ⟨S4x1024x704, .f32⟩
  | .hbm, ⟨42, _⟩ => ⟨S4x1024x704, .f32⟩
  | .hbm, ⟨43, _⟩ => ⟨S_, .f32⟩
  | .hbm, ⟨44, _⟩ => ⟨S4x1024x704, .f32⟩
  | .hbm, ⟨45, _⟩ => ⟨S4x1024x704, .f32⟩
  | .hbm, ⟨46, _⟩ => ⟨S4x1024x704, .f32⟩
  | .hbm, ⟨47, _⟩ => ⟨S_, .f32⟩
  | .hbm, ⟨48, _⟩ => ⟨S4x1024x704, .f32⟩
  | .hbm, ⟨49, _⟩ => ⟨S4x1024x704, .f32⟩
  | .hbm, ⟨50, _⟩ => ⟨S4x1024x704, .f32⟩
  | .hbm, ⟨51, _⟩ => ⟨S_, .f32⟩
  | .hbm, ⟨52, _⟩ => ⟨S4x1024x704, .f32⟩
  | .hbm, ⟨53, _⟩ => ⟨S4x1024x704, .f32⟩
  | .hbm, ⟨54, _⟩ => ⟨S4x1024x704, .f32⟩
  | .hbm, ⟨55, _⟩ => ⟨S_, .f32⟩
  | .hbm, ⟨56, _⟩ => ⟨S4x1024x704, .f32⟩
  | .hbm, ⟨57, _⟩ => ⟨S4x1024x704, .f32⟩
  | .hbm, ⟨58, _⟩ => ⟨S4x704x1024, .f32⟩
  | .hbm, ⟨59, _⟩ => ⟨S4x704x1024, .f32⟩
  | .hbm, ⟨60, _⟩ => ⟨S4x704x1024, .f32⟩
  | .hbm, ⟨61, _⟩ => ⟨S4x704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== SmallStep.lean ====
abbrev S8x32x1024 : Shape := ⟨3, ![8, 32, 1024]⟩
abbrev S4x1024 : Shape := ⟨2, ![4, 1024]⟩
abbrev S4x512 : Shape := ⟨2, ![4, 512]⟩
abbrev S4x3x512 : Shape := ⟨3, ![4, 3, 512]⟩
abbrev S1x1 : Shape := ⟨2, ![1, 1]⟩
abbrev S32x1024 : Shape := ⟨2, ![32, 1024]⟩
abbrev S1x32x1024 : Shape := ⟨3, ![1, 32, 1024]⟩
abbrev S1x1024 : Shape := ⟨2, ![1, 1024]⟩
abbrev S1x512 : Shape := ⟨2, ![1, 512]⟩
abbrev S1x1x512 : Shape := ⟨3, ![1, 1, 512]⟩

abbrev nBuf : Space → Nat
  | .hbm => 45
  | .vmem => 46
  | .smem => 0
  | _ => 0

abbrev bufTy : (tb : Table) → Fin (tcTables nBuf tb) → BufTy
  | .hbm, ⟨0, _⟩ => ⟨S8x32x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x512, .f32⟩
  | .hbm, ⟨6, _⟩ => ⟨S4x512, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x512, .f32⟩
  | .hbm, ⟨12, _⟩ => ⟨S4x512, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x512, .f32⟩
  | .hbm, ⟨18, _⟩ => ⟨S4x512, .f32⟩
  | .hbm, ⟨19, _⟩ => ⟨S4x1024, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S4x1024, .f32⟩
  | .hbm, ⟨35, _⟩ => ⟨S4x512, .f32⟩
  | .hbm, ⟨36, _⟩ => ⟨S4x512, .f32⟩
  | .hbm, ⟨37, _⟩ => ⟨S4x512, .f32⟩
  | .hbm, ⟨38, _⟩ => ⟨S4x512, .f32⟩
  | .hbm, ⟨39, _⟩ => ⟨S4x512, .f32⟩
  | .hbm, ⟨40, _⟩ => ⟨S4x512, .f32⟩
  | .hbm, ⟨41, _⟩ => ⟨S4x512, .f32⟩
  | .hbm, ⟨42, _⟩ => ⟨S4x512, .f32⟩
  | .hbm, ⟨43, _⟩ => ⟨S4x3x512, .f32⟩
  | .hbm, ⟨44, _⟩ => ⟨S1x1, .f32⟩
  | .local _ .vmem, ⟨0, _⟩ => ⟨S8x32x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x512, .f32⟩
  | .local _ .vmem, ⟨6, _⟩ => ⟨S4x512, .f32⟩
  | .local _ .vmem, ⟨7, _⟩ => ⟨S4x1024, .f32⟩
  | .local _ .vmem, ⟨8, _⟩ => ⟨S4x1024, .f32⟩
  | .local _ .vmem, ⟨9, _⟩ => ⟨S4x1024, .f32⟩
  | .local _ .vmem, ⟨10, _⟩ => ⟨S4x1024, .f32⟩
  | .local _ .vmem, ⟨11, _⟩ => ⟨S4x512, .f32⟩
  | .local _ .vmem, ⟨12, _⟩ => ⟨S4x512, .f32⟩
  | .local _ .vmem, ⟨13, _⟩ => ⟨S4x1024, .f32⟩
  | .local _ .vmem, ⟨14, _⟩ => ⟨S4x1024, .f32⟩
  | .local _ .vmem, ⟨15, _⟩ => ⟨S4x1024, .f32⟩
  | .local _ .vmem, ⟨16, _⟩ => ⟨S4x1024, .f32⟩
  | .local _ .vmem, ⟨17, _⟩ => ⟨S4x512, .f32⟩
  | .local _ .vmem, ⟨18, _⟩ => ⟨S4x512, .f32⟩
  | .local _ .vmem, ⟨19, _⟩ => ⟨S4x1024, .f32⟩
  | .local _ .vmem, ⟨20, _⟩ => ⟨S4x1024, .f32⟩
  | .local _ .vmem, ⟨21, _⟩ => ⟨S4x1024, .f32⟩
  | .local _ .vmem, ⟨22, _⟩ => ⟨S4x1024, .f32⟩
  | .local _ .vmem, ⟨23, _⟩ => ⟨S4x1024, .f32⟩
  | .local _ .vmem, ⟨24, _⟩ => ⟨S4x1024, .f32⟩
  | .local _ .vmem, ⟨25, _⟩ => ⟨S4x1024, .f32⟩
  | .local _ .vmem, ⟨26, _⟩ => ⟨S4x1024, .f32⟩
  | .local _ .vmem, ⟨27, _⟩ => ⟨S4x1024, .f32⟩
  | .local _ .vmem, ⟨28, _⟩ => ⟨S4x1024, .f32⟩
  | .local _ .vmem, ⟨29, _⟩ => ⟨S4x1024, .f32⟩
  | .local _ .vmem, ⟨30, _⟩ => ⟨S4x1024, .f32⟩
  | .local _ .vmem, ⟨31, _⟩ => ⟨S4x1024, .f32⟩
  | .local _ .vmem, ⟨32, _⟩ => ⟨S4x1024, .f32⟩
  | .local _ .vmem, ⟨33, _⟩ => ⟨S4x1024, .f32⟩
  | .local _ .vmem, ⟨34, _⟩ => ⟨S4x1024, .f32⟩
  | .local _ .vmem, ⟨35, _⟩ => ⟨S4x512, .f32⟩
  | .local _ .vmem, ⟨36, _⟩ => ⟨S4x512, .f32⟩
  | .local _ .vmem, ⟨37, _⟩ => ⟨S4x512, .f32⟩
  | .local _ .vmem, ⟨38, _⟩ => ⟨S4x512, .f32⟩
  | .local _ .vmem, ⟨39, _⟩ => ⟨S4x512, .f32⟩
  | .local _ .vmem, ⟨40, _⟩ => ⟨S4x512, .f32⟩
  | .local _ .vmem, ⟨41, _⟩ => ⟨S4x512, .f32⟩
  | .local _ .vmem, ⟨42, _⟩ => ⟨S4x512, .f32⟩
  | .local _ .vmem, ⟨43, _⟩ => ⟨S4x3x512, .f32⟩
  | .local _ .vmem, ⟨44, _⟩ => ⟨S1x1, .f32⟩
  | .local _ .vmem, ⟨45, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v0_3 : Ref sig .tc := ⟨.hbm, 22, rfl⟩
abbrev main_v0_4 : Ref sig .tc := ⟨.hbm, 23, rfl⟩
abbrev main_v0_5 : Ref sig .tc := ⟨.hbm, 24, rfl⟩
abbrev main_v0_6 : Ref sig .tc := ⟨.hbm, 25, rfl⟩
abbrev main_v0_7 : Ref sig .tc := ⟨.hbm, 26, rfl⟩
abbrev main_v0_8 : Ref sig .tc := ⟨.hbm, 27, rfl⟩
abbrev main_v0_9 : Ref sig .tc := ⟨.hbm, 28, rfl⟩
abbrev main_v0_10 : Ref sig .tc := ⟨.hbm, 29, rfl⟩
abbrev main_v0_11 : Ref sig .tc := ⟨.hbm, 30, rfl⟩
abbrev main_v0_12 : Ref sig .tc := ⟨.hbm, 31, rfl⟩
abbrev main_v0_13 : Ref sig .tc := ⟨.hbm, 32, rfl⟩
abbrev main_v0_14 : Ref sig .tc := ⟨.hbm, 33, rfl⟩
abbrev main_v0_15 : Ref sig .tc := ⟨.hbm, 34, rfl⟩
abbrev main_v0_16 : Ref sig .tc := ⟨.hbm, 35, rfl⟩
abbrev main_v0_17 : Ref sig .tc := ⟨.hbm, 36, rfl⟩
abbrev main_v0_18 : Ref sig .tc := ⟨.hbm, 37, rfl⟩
abbrev main_v0_19 : Ref sig .tc := ⟨.hbm, 38, rfl⟩
abbrev main_v0_20 : Ref sig .tc := ⟨.hbm, 39, rfl⟩
abbrev main_v0_21 : Ref sig .tc := ⟨.hbm, 40, rfl⟩
abbrev main_v0_22 : Ref sig .tc := ⟨.hbm, 41, rfl⟩
abbrev main_v0_23 : Ref sig .tc := ⟨.hbm, 42, rfl⟩
abbrev main_v0_24 : Ref sig .tc := ⟨.hbm, 43, rfl⟩
abbrev main_v0_25 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_scratch0 : Ref sig .tc := ⟨.vmem, 45, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44

abbrev nD : Nat := 1
abbrev τ : Topo := Topo.v7x

variable {F : FTy → Type} [FloatOps F]

abbrev grid0 : Pipeline.Grid := .none

abbrev stage0_0 : Fin 1 → Memref sig .tc .vmem S8x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S4x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S4x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S4x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S4x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S4x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S4x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S4x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S4x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S4x512 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S4x512 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S4x512 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S4x512 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S4x512 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S4x512 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S4x512 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S4x512 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S4x3x512 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
-- ==== SmallIdeal.lean ====
abbrev S8x32x1024 : Shape := ⟨3, ![8, 32, 1024]⟩
abbrev S4x1024 : Shape := ⟨2, ![4, 1024]⟩
abbrev S4x512 : Shape := ⟨2, ![4, 512]⟩
abbrev S_ : Shape := ⟨0, ![]⟩
abbrev S32x1024 : Shape := ⟨2, ![32, 1024]⟩
abbrev S4x8x1024 : Shape := ⟨3, ![4, 8, 1024]⟩
abbrev S4x1x1024 : Shape := ⟨3, ![4, 1, 1024]⟩
abbrev S4x1x512 : Shape := ⟨3, ![4, 1, 512]⟩
abbrev S4x3x512 : Shape := ⟨3, ![4, 3, 512]⟩
abbrev S1x1x1 : Shape := ⟨3, ![1, 1, 1]⟩
abbrev S1x1 : Shape := ⟨2, ![1, 1]⟩

abbrev nBuf : Space → Nat
  | .hbm => 244
  | .vmem => 0
  | .smem => 0
  | _ => 0

abbrev hbmTy0_0 (i : Nat) : BufTy := match i % 128 with
  | 0 => ⟨S8x32x1024, .f32⟩
  | 1 => ⟨S4x1024, .f32⟩
  | 2 => ⟨S4x1024, .f32⟩
  | 3 => ⟨S4x1024, .f32⟩
  | 4 => ⟨S4x1024, .f32⟩
  | 5 => ⟨S4x512, .f32⟩
  | 6 => ⟨S4x512, .f32⟩
  | 7 => ⟨S4x1024, .f32⟩
  | 8 => ⟨S4x1024, .f32⟩
  | 9 => ⟨S4x1024, .f32⟩
  | 10 => ⟨S4x1024, .f32⟩
  | 11 => ⟨S4x512, .f32⟩
  | 12 => ⟨S4x512, .f32⟩
  | 13 => ⟨S4x1024, .f32⟩
  | 14 => ⟨S4x1024, .f32⟩
  | 15 => ⟨S4x1024, .f32⟩
  | 16 => ⟨S4x1024, .f32⟩
  | 17 => ⟨S4x512, .f32⟩
  | 18 => ⟨S4x512, .f32⟩
  | 19 => ⟨S_, .f32⟩
  | 20 => ⟨S32x1024, .f32⟩
  | 21 => ⟨S4x8x1024, .f32⟩
  | 22 => ⟨S4x1x1024, .f32⟩
  | 23 => ⟨S4x1024, .f32⟩
  | 24 => ⟨S4x1x1024, .f32⟩
  | 25 => ⟨S4x1024, .f32⟩
  | 26 => ⟨S4x1x1024, .f32⟩
  | 27 => ⟨S4x1024, .f32⟩
  | 28 => ⟨S4x1x1024, .f32⟩
  | 29 => ⟨S4x1024, .f32⟩
  | 30 => ⟨S4x1x512, .f32⟩
  | 31 => ⟨S4x512, .f32⟩
  | 32 => ⟨S4x1x512, .f32⟩
  | 33 => ⟨S4x512, .f32⟩
  | 34 => ⟨S_, .f32⟩
  | 35 => ⟨S4x1024, .f32⟩
  | 36 => ⟨S4x1024, .f32⟩
  | 37 => ⟨S_, .f32⟩
  | 38 => ⟨S4x1024, .f32⟩
  | 39 => ⟨S4x1024, .f32⟩
  | 40 => ⟨S4x1024, .f32⟩
  | 41 => ⟨S_, .f32⟩
  | 42 => ⟨S4x1024, .f32⟩
  | 43 => ⟨S4x1024, .f32⟩
  | 44 => ⟨S4x1024, .f32⟩
  | 45 => ⟨S_, .f32⟩
  | 46 => ⟨S4x1024, .f32⟩
  | 47 => ⟨S4x1024, .f32⟩
  | 48 => ⟨S4x1024, .f32⟩
  | 49 => ⟨S_, .f32⟩
  | 50 => ⟨S4x1024, .f32⟩
  | 51 => ⟨S4x1024, .f32⟩
  | 52 => ⟨S_, .f32⟩
  | 53 => ⟨S4x1024, .f32⟩
  | 54 => ⟨S4x1024, .f32⟩
  | 55 => ⟨S4x1024, .f32⟩
  | 56 => ⟨S_, .f32⟩
  | 57 => ⟨S4x1024, .f32⟩
  | 58 => ⟨S4x1024, .f32⟩
  | 59 => ⟨S4x1024, .f32⟩
  | 60 => ⟨S_, .f32⟩
  | 61 => ⟨S4x1024, .f32⟩
  | 62 => ⟨S4x1024, .f32⟩
  | 63 => ⟨S4x1024, .f32⟩
  | 64 => ⟨S_, .f32⟩
  | 65 => ⟨S4x1024, .f32⟩
  | 66 => ⟨S4x1024, .f32⟩
  | 67 => ⟨S_, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S4x1024, .f32⟩
  | 74 => ⟨S_, .f32⟩
  | 75 => ⟨S4x1024, .f32⟩
  | 76 => ⟨S4x1024, .f32⟩
  | 77 => ⟨S4x1024, .f32⟩
  | 78 => ⟨S_, .f32⟩
  | 79 => ⟨S4x1024, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S_, .f32⟩
  | 86 => ⟨S4x1024, .f32⟩
  | 87 => ⟨S4x1024, .f32⟩
  | 88 => ⟨S4x1024, .f32⟩
  | 89 => ⟨S_, .f32⟩
  | 90 => ⟨S4x1024, .f32⟩
  | 91 => ⟨S4x1024, .f32⟩
  | 92 => ⟨S4x1024, .f32⟩
  | 93 => ⟨S_, .f32⟩
  | 94 => ⟨S4x1024, .f32⟩
  | 95 => ⟨S4x1024, .f32⟩
  | 96 => ⟨S4x1024, .f32⟩
  | 97 => ⟨S_, .f32⟩
  | 98 => ⟨S4x1024, .f32⟩
  | 99 => ⟨S4x1024, .f32⟩
  | 100 => ⟨S_, .f32⟩
  | 101 => ⟨S4x1024, .f32⟩
  | 102 => ⟨S4x1024, .f32⟩
  | 103 => ⟨S_, .f32⟩
  | 104 => ⟨S4x1024, .f32⟩
  | 105 => ⟨S4x1024, .f32⟩
  | 106 => ⟨S4x1024, .f32⟩
  | 107 => ⟨S_, .f32⟩
  | 108 => ⟨S4x1024, .f32⟩
  | 109 => ⟨S4x1024, .f32⟩
  | 110 => ⟨S4x1024, .f32⟩
  | 111 => ⟨S_, .f32⟩
  | 112 => ⟨S4x1024, .f32⟩
  | 113 => ⟨S4x1024, .f32⟩
  | 114 => ⟨S4x1024, .f32⟩
  | 115 => ⟨S_, .f32⟩
  | 116 => ⟨S4x1024, .f32⟩
  | 117 => ⟨S4x1024, .f32⟩
  | 118 => ⟨S_, .f32⟩
  | 119 => ⟨S4x1024, .f32⟩
  | 120 => ⟨S4x1024, .f32⟩
  | 121 => ⟨S4x1024, .f32⟩
  | 122 => ⟨S_, .f32⟩
  | 123 => ⟨S4x1024, .f32⟩
  | 124 => ⟨S4x1024, .f32⟩
  | 125 => ⟨S4x1024, .f32⟩
  | 126 => ⟨S_, .f32⟩
  | 127 => ⟨S4x1024, .f32⟩
  | _ => ⟨S8x32x1024, .f32⟩

abbrev hbmTy0_1 (i : Nat) : BufTy := match i % 128 with
  | 0 => ⟨S4x1024, .f32⟩
  | 1 => ⟨S4x1024, .f32⟩
  | 2 => ⟨S_, .f32⟩
  | 3 => ⟨S4x1024, .f32⟩
  | 4 => ⟨S4x1024, .f32⟩
  | 5 => ⟨S_, .f32⟩
  | 6 => ⟨S4x1024, .f32⟩
  | 7 => ⟨S4x1024, .f32⟩
  | 8 => ⟨S_, .f32⟩
  | 9 => ⟨S4x1024, .f32⟩
  | 10 => ⟨S4x1024, .f32⟩
  | 11 => ⟨S4x1024, .f32⟩
  | 12 => ⟨S_, .f32⟩
  | 13 => ⟨S4x1024, .f32⟩
  | 14 => ⟨S4x1024, .f32⟩
  | 15 => ⟨S4x1024, .f32⟩
  | 16 => ⟨S_, .f32⟩
  | 17 => ⟨S4x1024, .f32⟩
  | 18 => ⟨S4x1024, .f32⟩
  | 19 => ⟨S4x1024, .f32⟩
  | 20 => ⟨S_, .f32⟩
  | 21 => ⟨S4x1024, .f32⟩
  | 22 => ⟨S4x1024, .f32⟩
  | 23 => ⟨S_, .f32⟩
  | 24 => ⟨S4x1024, .f32⟩
  | 25 => ⟨S4x1024, .f32⟩
  | 26 => ⟨S4x1024, .f32⟩
  | 27 => ⟨S_, .f32⟩
  | 28 => ⟨S4x1024, .f32⟩
  | 29 => ⟨S4x1024, .f32⟩
  | 30 => ⟨S4x1024, .f32⟩
  | 31 => ⟨S_, .f32⟩
  | 32 => ⟨S4x1024, .f32⟩
  | 33 => ⟨S4x1024, .f32⟩
  | 34 => ⟨S4x1024, .f32⟩
  | 35 => ⟨S_, .f32⟩
  | 36 => ⟨S4x1024, .f32⟩
  | 37 => ⟨S4x1024, .f32⟩
  | 38 => ⟨S_, .f32⟩
  | 39 => ⟨S4x512, .f32⟩
  | 40 => ⟨S4x512, .f32⟩
  | 41 => ⟨S_, .f32⟩
  | 42 => ⟨S4x512, .f32⟩
  | 43 => ⟨S4x512, .f32⟩
  | 44 => ⟨S4x512, .f32⟩
  | 45 => ⟨S_, .f32⟩
  | 46 => ⟨S4x512, .f32⟩
  | 47 => ⟨S4x512, .f32⟩
  | 48 => ⟨S4x512, .f32⟩
  | 49 => ⟨S_, .f32⟩
  | 50 => ⟨S4x512, .f32⟩
  | 51 => ⟨S4x512, .f32⟩
  | 52 => ⟨S4x512, .f32⟩
  | 53 => ⟨S_, .f32⟩
  | 54 => ⟨S4x512, .f32⟩
  | 55 => ⟨S4x512, .f32⟩
  | 56 => ⟨S_, .f32⟩
  | 57 => ⟨S4x512, .f32⟩
  | 58 => ⟨S4x512, .f32⟩
  | 59 => ⟨S4x512, .f32⟩
  | 60 => ⟨S_, .f32⟩
  | 61 => ⟨S4x512, .f32⟩
  | 62 => ⟨S4x512, .f32⟩
  | 63 => ⟨S4x512, .f32⟩
  | 64 => ⟨S_, .f32⟩
  | 65 => ⟨S4x512, .f32⟩
  | 66 => ⟨S4x512, .f32⟩
  | 67 => ⟨S4x512, .f32⟩
  | 68 => ⟨S_, .f32⟩
  | 69 => ⟨S4x512, .f32⟩
  | 70 => ⟨S4x512, .f32⟩
  | 71 => ⟨S_, .f32⟩
  | 72 => ⟨S4x512, .f32⟩
  | 73 => ⟨S4x512, .f32⟩
  | 74 => ⟨S_, .f32⟩
  | 75 => ⟨S4x512, .f32⟩
  | 76 => ⟨S4x512, .f32⟩
  | 77 => ⟨S4x512, .f32⟩
  | 78 => ⟨S_, .f32⟩
  | 79 => ⟨S4x512, .f32⟩
  | 80 => ⟨S4x512, .f32⟩
  | 81 => ⟨S4x512, .f32⟩
  | 82 => ⟨S_, .f32⟩
  | 83 => ⟨S4x512, .f32⟩
  | 84 => ⟨S4x512, .f32⟩
  | 85 => ⟨S4x512, .f32⟩
  | 86 => ⟨S_, .f32⟩
  | 87 => ⟨S4x512, .f32⟩
  | 88 => ⟨S4x512, .f32⟩
  | 89 => ⟨S_, .f32⟩
  | 90 => ⟨S4x512, .f32⟩
  | 91 => ⟨S4x512, .f32⟩
  | 92 => ⟨S4x512, .f32⟩
  | 93 => ⟨S_, .f32⟩
  | 94 => ⟨S4x512, .f32⟩
  | 95 => ⟨S4x512, .f32⟩
  | 96 => ⟨S4x512, .f32⟩
  | 97 => ⟨S_, .f32⟩
  | 98 => ⟨S4x512, .f32⟩
  | 99 => ⟨S4x512, .f32⟩
  | 100 => ⟨S4x512, .f32⟩
  | 101 => ⟨S_, .f32⟩
  | 102 => ⟨S4x512, .f32⟩
  | 103 => ⟨S4x512, .f32⟩
  | 104 => ⟨S4x1x512, .f32⟩
  | 105 => ⟨S4x512, .f32⟩
  | 106 => ⟨S4x1x512, .f32⟩
  | 107 => ⟨S4x512, .f32⟩
  | 108 => ⟨S4x1x512, .f32⟩
  | 109 => ⟨S4x512, .f32⟩
  | 110 => ⟨S4x1x512, .f32⟩
  | 111 => ⟨S4x1x512, .f32⟩
  | 112 => ⟨S4x1x512, .f32⟩
  | 113 => ⟨S4x3x512, .f32⟩
  | 114 => ⟨S1x1x1, .f32⟩
  | 115 => ⟨S1x1, .f32⟩
  | _ => ⟨S8x32x1024, .f32⟩

abbrev hbmTy (i : Nat) : BufTy := match i / 128 with
  | 0 => hbmTy0_0 i
  | 1 => hbmTy0_1 i
  | _ => ⟨S8x32x1024, .f32⟩

abbrev bufTy : (tb : Table) → Fin (tcTables nBuf tb) → BufTy
  | .hbm, ⟨i, _⟩ => hbmTy i
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_cst_9 : Ref sig .tc := ⟨.hbm, 67, rfl⟩
abbrev main_v38 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_12 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_13 : Ref sig .tc := ⟨.hbm, 82, rfl⟩
abbrev main_v49 : Ref sig .tc := ⟨.hbm, 83, rfl⟩
abbrev main_v50 : Ref sig .tc := ⟨.hbm, 84, rfl⟩
abbrev main_cst_14 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_15 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_16 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_17 : Ref sig .tc := ⟨.hbm, 97, rfl⟩
abbrev main_v60 : Ref sig .tc := ⟨.hbm, 98, rfl⟩
abbrev main_v61 : Ref sig .tc := ⟨.hbm, 99, rfl⟩
abbrev main_cst_18 : Ref sig .tc := ⟨.hbm, 100, rfl⟩
abbrev main_v62 : Ref sig .tc := ⟨.hbm, 101, rfl⟩
abbrev main_v63 : Ref sig .tc := ⟨.hbm, 102, rfl⟩
abbrev main_cst_19 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_20 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_21 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_22 : Ref sig .tc := ⟨.hbm, 115, rfl⟩
abbrev main_v73 : Ref sig .tc := ⟨.hbm, 116, rfl⟩
abbrev main_v74 : Ref sig .tc := ⟨.hbm, 117, rfl⟩
abbrev main_cst_23 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_24 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_25 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_26 : Ref sig .tc := ⟨.hbm, 130, rfl⟩
abbrev main_v84 : Ref sig .tc := ⟨.hbm, 131, rfl⟩
abbrev main_v85 : Ref sig .tc := ⟨.hbm, 132, rfl⟩
abbrev main_cst_27 : Ref sig .tc := ⟨.hbm, 133, rfl⟩
abbrev main_v86 : Ref sig .tc := ⟨.hbm, 134, rfl⟩
abbrev main_v87 : Ref sig .tc := ⟨.hbm, 135, rfl⟩
abbrev main_cst_28 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_29 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_30 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_31 : Ref sig .tc := ⟨.hbm, 148, rfl⟩
abbrev main_v97 : Ref sig .tc := ⟨.hbm, 149, rfl⟩
abbrev main_v98 : Ref sig .tc := ⟨.hbm, 150, rfl⟩
abbrev main_cst_32 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_33 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_34 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_35 : Ref sig .tc := ⟨.hbm, 163, rfl⟩
abbrev main_v108 : Ref sig .tc := ⟨.hbm, 164, rfl⟩
abbrev main_v109 : Ref sig .tc := ⟨.hbm, 165, rfl⟩
abbrev main_cst_36 : Ref sig .tc := ⟨.hbm, 166, rfl⟩
abbrev main_v110 : Ref sig .tc := ⟨.hbm, 167, rfl⟩
abbrev main_v111 : Ref sig .tc := ⟨.hbm, 168, rfl⟩
abbrev main_cst_37 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_cst_38 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_cst_39 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_cst_40 : Ref sig .tc := ⟨.hbm, 181, rfl⟩
abbrev main_v121 : Ref sig .tc := ⟨.hbm, 182, rfl⟩
abbrev main_v122 : Ref sig .tc := ⟨.hbm, 183, rfl⟩
abbrev main_cst_41 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_cst_42 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_cst_43 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_cst_44 : Ref sig .tc := ⟨.hbm, 196, rfl⟩
abbrev main_v132 : Ref sig .tc := ⟨.hbm, 197, rfl⟩
abbrev main_v133 : Ref sig .tc := ⟨.hbm, 198, rfl⟩
abbrev main_cst_45 : Ref sig .tc := ⟨.hbm, 199, rfl⟩
abbrev main_v134 : Ref sig .tc := ⟨.hbm, 200, rfl⟩
abbrev main_v135 : Ref sig .tc := ⟨.hbm, 201, rfl⟩
abbrev main_cst_46 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_cst_47 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_cst_48 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_cst_49 : Ref sig .tc := ⟨.hbm, 214, rfl⟩
abbrev main_v145 : Ref sig .tc := ⟨.hbm, 215, rfl⟩
abbrev main_v146 : Ref sig .tc := ⟨.hbm, 216, rfl⟩
abbrev main_cst_50 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_cst_51 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_cst_52 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_cst_53 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩

abbrev nD : Nat := 1
abbrev τ : Topo := Topo.v7x

variable {F : FTy → Type} [FloatOps F]
-- ==== Proof.Lift.lean ====
/- From the extended reals to the reals. The programs compute over the extended reals; where every
   argument is finite, every value they compute on the way is finite too, and the equations between the
   kernel and the derivative are equations of real numbers. This module carries each operation from the
   extended reals to the reals (`lift`), names the real functions both sides are stated in (the root mean
   square of a row, the logistic function), and proves the one equation of real analysis the norms need. -/
module

public import Idealize.ShloMosaic.PureOps.Ideal.Laws
public import Idealize.ShloMosaic.Lib.Pointwise
public import Idealize.ShloMosaic.Lib.ValueIdx

@[expose] public section

noncomputable section

open Idealize.ShloMosaic

namespace Cert.Step

/-! ## The constants the programs print -/

/-- The constant every norm adds to its mean square: the single-precision number nearest to `1e-6`. -/
def eps : ℝ := 8796093 / 8796093022208

theorem eps_pos : 0 < eps := by unfold eps; norm_num

theorem bits_eps : Ideal.ofBits .f32 897988541#32 = ((eps : ℝ) : EReal) := by
  simp [Ideal.ofBits, Ideal.ieee, eps]; rw [← EReal.coe_mul]; norm_num

theorem bits_1024 : Ideal.ofBits .f32 1149239296#32 = ((1024 : ℝ) : EReal) := by
  simp [Ideal.ofBits, Ideal.ieee]; rw [← EReal.coe_mul]; norm_num

theorem bits_neg_half : Ideal.ofBits .f32 3204448256#32 = ((-(1 / 2) : ℝ) : EReal) := by
  simp [Ideal.ofBits, Ideal.ieee]; rw [← EReal.coe_mul]; norm_num

/-! ## Operations on finite values -/

/-- A finite sum of finite values is the sum of the reals. -/
theorem coe_sum {ι : Type} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- Division by a nonzero real. -/
theorem div_lift (x : ℝ) {y : ℝ} (h : y ≠ 0) : Ideal.div (x : EReal) (y : EReal) = ((x / y : ℝ) : EReal) := by
  rw [Ideal.div_coe h, ← EReal.coe_mul, mul_one_div]

theorem div_1024 (x : ℝ) : Ideal.div (x : EReal) ((1024 : ℝ) : EReal) = ((x / 1024 : ℝ) : EReal) :=
  div_lift x (by norm_num)

theorem one_lift : (1 : EReal) = ((1 : ℝ) : EReal) := rfl
theorem zero_lift : (0 : EReal) = ((0 : ℝ) : EReal) := rfl

/-! ## The root mean square of a row of 1024 -/

/-- The mean square of a row, with the norms' constant added. -/
def ms (v : Fin 1024 → ℝ) : ℝ := (∑ k, v k * v k) / 1024 + eps

theorem ms_pos (v : Fin 1024 → ℝ) : 0 < ms v :=
  add_pos_of_nonneg_of_pos (div_nonneg (Finset.sum_nonneg fun k _ => mul_self_nonneg _) (by norm_num)) eps_pos

/-- The reciprocal root mean square of a row. -/
def rs (v : Fin 1024 → ℝ) : ℝ := (Real.sqrt (ms v))⁻¹

theorem rs_sq (v : Fin 1024 → ℝ) : rs v * rs v = (ms v)⁻¹ := by
  rw [rs, ← mul_inv, Real.mul_self_sqrt (ms_pos v).le]

theorem rsqrt_lift (v : Fin 1024 → ℝ) :
    Ideal.rsqrt (((∑ k, v k * v k) / 1024 + eps : ℝ) : EReal) = ((rs v : ℝ) : EReal) := by
  have h := ms_pos v
  change Ideal.rsqrt ((ms v : ℝ) : EReal) = _
  rw [Ideal.rsqrt_coe, if_neg h.not_gt, if_neg h.ne']
  rfl

/-- The derivative of the reciprocal root mean square divides it by the mean square once more. -/
theorem div_ms (v : Fin 1024 → ℝ) (x : ℝ) :
    Ideal.div (x : EReal) (((∑ k, v k * v k) / 1024 + eps : ℝ) : EReal) = ((x / ms v : ℝ) : EReal) :=
  div_lift x (ms_pos v).ne'

/-- The gradient of a row's normalisation `v ↦ v · rs v` against the cotangent `w`. -/
def rmsBwd (v w : Fin 1024 → ℝ) (j : Fin 1024) : ℝ :=
  rs v * (w j - v j * rs v * ((∑ k, w k * (v k * rs v)) / 1024))

/-- The chain rule's form of that gradient: the direct part, and twice the part through the mean square,
    `s` being what flows back into each square. -/
theorem rmsBwd_eq (v w : Fin 1024 → ℝ) (j : Fin 1024) :
    w j * rs v + v j * ((∑ k, v k * w k) * (-(1 / 2) * (rs v / ms v)) / 1024)
        + (∑ k, v k * w k) * (-(1 / 2) * (rs v / ms v)) / 1024 * v j = rmsBwd v w j := by
  have h : ∑ k, w k * (v k * rs v) = rs v * ∑ k, v k * w k := by
    rw [Finset.mul_sum]; exact Finset.sum_congr rfl fun k _ => by ring
  rw [rmsBwd, h, div_eq_mul_inv (rs v) (ms v), ← rs_sq]
  ring

/-! ## The logistic function -/

/-- The logistic function. -/
def sg (r : ℝ) : ℝ := (1 + Real.exp (-r))⁻¹

theorem logistic_lift (r : ℝ) : Ideal.logistic (r : EReal) = ((sg r : ℝ) : EReal) := Ideal.logistic_coe r

theorem sg_lift (r : ℝ) :
    Ideal.div ((1 : ℝ) : EReal) ((1 + Real.exp (-r) : ℝ) : EReal) = ((sg r : ℝ) : EReal) := by
  rw [div_lift 1 (by positivity), sg, one_div]

theorem exp_lift (r : ℝ) : Ideal.exp (r : EReal) = ((Real.exp r : ℝ) : EReal) := Ideal.exp_coe r

end Cert.Step
-- ==== Proof.FfnSpec.lean ====
/- The gradient of the feed-forward sublayer as functions of real arrays: what both programs compute when
   every argument is finite. The sublayer is `x ↦ x + norm (act · wd)`, where `act` is the gated activation
   of `norm x · wu`; `dy` is the gradient that arrives at its output. -/
module

public import proofs.«01_k».proof.Proof.Lift

@[expose] public section

noncomputable section

namespace Cert.Step

/-- The arguments of the feed-forward gradient, as real arrays. -/
structure Ffn where
  /-- the sublayer's input, a row per token -/
  x : Fin 4096 → Fin 1024 → ℝ
  /-- the weight of the norm before the sublayer -/
  g : Fin 1024 → ℝ
  /-- the gate's and the up projection's weights, side by side -/
  wu : Fin 1024 → Fin 5632 → ℝ
  /-- the down projection's weights -/
  wd : Fin 2816 → Fin 1024 → ℝ
  /-- the weight of the norm after the sublayer -/
  q : Fin 1024 → ℝ
  /-- the gradient at the sublayer's output -/
  dy : Fin 4096 → Fin 1024 → ℝ

namespace Ffn

/-- A column of the gate's half of the 5632. -/
abbrev lo (n : Fin 2816) : Fin 5632 := ⟨n, by omega⟩
/-- A column of the up projection's half of the 5632. -/
abbrev hi (n : Fin 2816) : Fin 5632 := ⟨2816 + n, by omega⟩

variable (a : Ffn)

/-- the normalised input -/
def h (t : Fin 4096) (d : Fin 1024) : ℝ := a.x t d * rs (a.x t) * a.g d
/-- both projections of the normalised input -/
def gu (t : Fin 4096) (n : Fin 5632) : ℝ := ∑ d, a.h t d * a.wu d n
/-- the gate times its logistic -/
def silu (t : Fin 4096) (n : Fin 2816) : ℝ := a.gu t (lo n) * sg (a.gu t (lo n))
/-- the activation -/
def act (t : Fin 4096) (n : Fin 2816) : ℝ := a.silu t n * a.gu t (hi n)
/-- the down projection -/
def f (t : Fin 4096) (d : Fin 1024) : ℝ := ∑ n, a.act t n * a.wd n d
/-- the gradient at the down projection -/
def df (t : Fin 4096) (d : Fin 1024) : ℝ := rmsBwd (a.f t) (fun k => a.dy t k * a.q k) d
/-- the gradient at the activation -/
def dact (t : Fin 4096) (n : Fin 2816) : ℝ := ∑ d, a.df t d * a.wd n d
/-- the gradient at the gate -/
def dgate (t : Fin 4096) (n : Fin 2816) : ℝ :=
  a.dact t n * a.gu t (hi n) * (sg (a.gu t (lo n)) * (1 + a.gu t (lo n) * (1 - sg (a.gu t (lo n)))))
/-- the gradient at the up projection -/
def dup (t : Fin 4096) (n : Fin 2816) : ℝ := a.dact t n * a.silu t n
/-- both of them, side by side -/
def dgu (t : Fin 4096) (n : Fin 5632) : ℝ :=
  if h : n.val < 2816 then a.dgate t ⟨n, h⟩ else a.dup t ⟨n - 2816, by omega⟩
/-- the gradient at the normalised input -/
def dh (t : Fin 4096) (d : Fin 1024) : ℝ :=
  (∑ n, a.dgate t n * a.wu d (lo n)) + ∑ n, a.dup t n * a.wu d (hi n)
/-- the gradient at the sublayer's input -/
def dx (t : Fin 4096) (d : Fin 1024) : ℝ := a.dy t d + rmsBwd (a.x t) (fun k => a.dh t k * a.g k) d
/-- the gradient of the weight of the norm after the sublayer -/
def dq (d : Fin 1024) : ℝ := ∑ t, a.dy t d * (a.f t d * rs (a.f t))
/-- the gradient of the weight of the norm before the sublayer -/
def dg (d : Fin 1024) : ℝ := ∑ t, a.dh t d * (a.x t d * rs (a.x t))

theorem dq_eq (d : Fin 1024) : a.dq d = ∑ t, a.dy t d * (a.f t d * rs (a.f t)) := rfl
theorem dg_eq (d : Fin 1024) : a.dg d = ∑ t, a.dh t d * (a.x t d * rs (a.x t)) := rfl

/-- The first half of the gradient at both projections is the gate's, … -/
theorem dgu_gate (t : Fin 4096) (n : Fin 5632) (k : Fin 2816) (h : n.val = k.val) : a.dgu t n = a.dgate t k := by
  have hk := k.isLt
  rw [dgu, dif_pos (by omega)]
  exact congrArg _ (Fin.ext h)

/-- … the second half the up projection's. -/
theorem dgu_up (t : Fin 4096) (n : Fin 5632) (k : Fin 2816) (h : n.val = 2816 + k.val) : a.dgu t n = a.dup t k := by
  rw [dgu, dif_neg (by omega)]
  exact congrArg _ (Fin.ext (by show n.val - 2816 = k.val; omega))

end Ffn

end Cert.Step
-- ==== Proof.FfnKernel.lean ====
/- What one grid point of the feed-forward backward kernel stores, as functions of real arrays. A point works
   on 256 rows; `row` names the row of the whole array that each of them is. -/
module

public import proofs.«01_k».proof.Proof.Gen.FfnBwdIdeal.Value
public import Idealize.ShloMosaic.Lib.Pipeline.ValueKit
public import proofs.«01_k».proof.Proof.FfnSpec

@[expose] public section

set_option maxRecDepth 16384

noncomputable section

open Idealize.ShloMosaic Idealize.ShloMosaic.TcCoe Idealize.SL.Sem
open Idealize.ShloMosaic.Pipeline (Dat)

namespace Cert.FfnKernel
open Cert.FfnBwdIdeal Cert.FfnBwdIdeal.Gen Cert.Step

/-- Column `k·704 + j` of the 5632, and of the 2816. -/
abbrev col8 (k : Fin 8) (j : Fin 704) : Fin 5632 := ⟨k * 704 + j, by omega⟩
abbrev col4 (k : Fin 4) (j : Fin 704) : Fin 2816 := ⟨k * 704 + j, by omega⟩

/-- The input blocks of a grid point are the rows `row` of the real arrays of `a`. -/
structure Block (a : Ffn) (row : Fin 256 → Fin 4096) (x0 x1 x2 : Vec Ideal S256x1024 .f32) (x3 : Vec Ideal S8x256x704 .bf16)
    (x4 : Vec Ideal S8x704x1024 .bf16) (x5 : Vec Ideal S2816x1024 .bf16) (x6 x7 : Vec Ideal S1x1024 .f32) : Prop where
  dy : ∀ r d, x0 (ix2 r d) = ((a.dy (row r) d : ℝ) : EReal)
  f : ∀ r d, x1 (ix2 r d) = ((a.f (row r) d : ℝ) : EReal)
  x : ∀ r d, x2 (ix2 r d) = ((a.x (row r) d : ℝ) : EReal)
  gu : ∀ k r j, x3 (ix3 k r j) = ((a.gu (row r) (col8 k j) : ℝ) : EReal)
  wu : ∀ k j d, x4 (ix3 k j d) = ((a.wu d (col8 k j) : ℝ) : EReal)
  wd : ∀ n d, x5 (ix2 n d) = ((a.wd n d : ℝ) : EReal)
  q : ∀ o d, x6 (ix2 o d) = ((a.q d : ℝ) : EReal)
  g : ∀ o d, x7 (ix2 o d) = ((a.g d : ℝ) : EReal)

variable {a : Ffn} {row : Fin 256 → Fin 4096} {x0 x1 x2 : Vec Ideal S256x1024 .f32} {x3 : Vec Ideal S8x256x704 .bf16}
    {x4 : Vec Ideal S8x704x1024 .bf16} {x5 : Vec Ideal S2816x1024 .bf16} {x6 x7 : Vec Ideal S1x1024 .f32}
    (H : Block a row x0 x1 x2 x3 x4 x5 x6 x7)

section
include H

theorem rf (r : Fin 256) (o : Fin 1) : k0_pay7 x1 (ix2 r o) = ((rs (a.f (row r)) : ℝ) : EReal) := by
  pointwise [k0_pay7, k0_pay6]
  simp only [H.f, bits_1024, bits_eps, ← EReal.coe_mul, coe_sum, div_1024, ← EReal.coe_add, rsqrt_lift]

/-- The gradient at the down projection. -/
theorem df (r : Fin 256) (d : Fin 1024) : k0_pay10 x0 x1 x6 (ix2 r d) = ((a.df (row r) d : ℝ) : EReal) := by
  pointwise [k0_pay10, k0_pay8, k0_pay6]
  simp only [rf H, H.f, H.dy, H.q, bits_1024, ← EReal.coe_mul, coe_sum, div_1024, ← EReal.coe_sub]
  rfl

theorem df_out (r : Fin 256) (d : Fin 1024) : k0_pay11 x0 x1 x6 (ix2 r d) = ((a.df (row r) d : ℝ) : EReal) := by
  pointwise [k0_pay11]
  exact df H r d

/-- The point's part of the gradient of the weight of the norm after the sublayer. -/
theorem dq (o : Fin 1) (d : Fin 1024) :
    k0_pay9 x0 x1 (ix2 o d) = ((∑ r, a.dy (row r) d * (a.f (row r) d * rs (a.f (row r))) : ℝ) : EReal) := by
  pointwise [k0_pay9, k0_pay8, k0_pay6]
  simp only [rf H, H.f, H.dy, ← EReal.coe_mul, coe_sum]

theorem rx (r : Fin 256) (o : Fin 1) : k0_pay62 x2 (ix2 r o) = ((rs (a.x (row r)) : ℝ) : EReal) := by
  pointwise [k0_pay62]
  simp only [H.x, bits_1024, bits_eps, ← EReal.coe_mul, coe_sum, div_1024, ← EReal.coe_add, rsqrt_lift]

theorem yx (r : Fin 256) (d : Fin 1024) : k0_pay63 x2 (ix2 r d) = ((a.x (row r) d * rs (a.x (row r)) : ℝ) : EReal) := by
  pointwise [k0_pay63]
  simp only [rx H, H.x, ← EReal.coe_mul]

/-- The normalised input. -/
theorem h (r : Fin 256) (d : Fin 1024) :
    k0_pay1 (k0_pay63 x2) (k0_pay64 x7) (ix2 r d) = ((a.h (row r) d : ℝ) : EReal) := by
  pointwise [k0_pay1, k0_pay64]
  simp only [yx H, H.g, ← EReal.coe_mul]
  rfl

/-- The gradient at the sublayer's input, from the gradient `z` at the normalised input. -/
theorem dx {z : FVec Ideal S256x1024 .f32} (hz : ∀ r d, z (ix2 r d) = ((a.dh (row r) d : ℝ) : EReal)) (r : Fin 256)
    (d : Fin 1024) : k0_pay2 x0 z (k0_pay62 x2) (k0_pay63 x2) x7 (ix2 r d) = ((a.dx (row r) d : ℝ) : EReal) := by
  pointwise [k0_pay2]
  simp only [yx H, rx H, hz, H.g, H.dy, bits_1024, ← EReal.coe_mul, coe_sum, div_1024, ← EReal.coe_sub, ← EReal.coe_add]
  rfl

/-- The point's part of the gradient of the weight of the norm before the sublayer. -/
theorem dg {z : FVec Ideal S256x1024 .f32} (hz : ∀ r d, z (ix2 r d) = ((a.dh (row r) d : ℝ) : EReal)) (o : Fin 1)
    (d : Fin 1024) :
    k0_pay3 z (k0_pay63 x2) (ix2 o d) = ((∑ r, a.dh (row r) d * (a.x (row r) d * rs (a.x (row r))) : ℝ) : EReal) := by
  pointwise [k0_pay3]
  simp only [yx H, hz, ← EReal.coe_mul, coe_sum]

/-! ## The four column blocks

Column block `k` of the gate is block `k` of the eight, and column block `k` of the up projection is block `4 + k`. -/

theorem gate0 (r j) : x3 (ix3 0 r j) = ((a.gu (row r) (Ffn.lo (col4 0 j)) : ℝ) : EReal) := H.gu 0 r j
theorem gate1 (r j) : x3 (ix3 1 r j) = ((a.gu (row r) (Ffn.lo (col4 1 j)) : ℝ) : EReal) := H.gu 1 r j
theorem gate2 (r j) : x3 (ix3 2 r j) = ((a.gu (row r) (Ffn.lo (col4 2 j)) : ℝ) : EReal) := H.gu 2 r j
theorem gate3 (r j) : x3 (ix3 3 r j) = ((a.gu (row r) (Ffn.lo (col4 3 j)) : ℝ) : EReal) := H.gu 3 r j

end

theorem col_hi0 (j : Fin 704) : col8 4 j = Ffn.hi (col4 0 j) := Fin.ext (by show 4 * 704 + j.val = 2816 + (0 * 704 + j.val); omega)
theorem col_hi1 (j : Fin 704) : col8 5 j = Ffn.hi (col4 1 j) := Fin.ext (by show 5 * 704 + j.val = 2816 + (1 * 704 + j.val); omega)
theorem col_hi2 (j : Fin 704) : col8 6 j = Ffn.hi (col4 2 j) := Fin.ext (by show 6 * 704 + j.val = 2816 + (2 * 704 + j.val); omega)
theorem col_hi3 (j : Fin 704) : col8 7 j = Ffn.hi (col4 3 j) := Fin.ext (by show 7 * 704 + j.val = 2816 + (3 * 704 + j.val); omega)

section
include H

theorem up0 (r j) : x3 (ix3 4 r j) = ((a.gu (row r) (Ffn.hi (col4 0 j)) : ℝ) : EReal) := by rw [H.gu, col_hi0]
theorem up1 (r j) : x3 (ix3 5 r j) = ((a.gu (row r) (Ffn.hi (col4 1 j)) : ℝ) : EReal) := by rw [H.gu, col_hi1]
theorem up2 (r j) : x3 (ix3 6 r j) = ((a.gu (row r) (Ffn.hi (col4 2 j)) : ℝ) : EReal) := by rw [H.gu, col_hi2]
theorem up3 (r j) : x3 (ix3 7 r j) = ((a.gu (row r) (Ffn.hi (col4 3 j)) : ℝ) : EReal) := by rw [H.gu, col_hi3]

theorem wlo0 (j d) : x4 (ix3 0 j d) = ((a.wu d (Ffn.lo (col4 0 j)) : ℝ) : EReal) := H.wu 0 j d
theorem wlo1 (j d) : x4 (ix3 1 j d) = ((a.wu d (Ffn.lo (col4 1 j)) : ℝ) : EReal) := H.wu 1 j d
theorem wlo2 (j d) : x4 (ix3 2 j d) = ((a.wu d (Ffn.lo (col4 2 j)) : ℝ) : EReal) := H.wu 2 j d
theorem wlo3 (j d) : x4 (ix3 3 j d) = ((a.wu d (Ffn.lo (col4 3 j)) : ℝ) : EReal) := H.wu 3 j d
theorem whi0 (j d) : x4 (ix3 4 j d) = ((a.wu d (Ffn.hi (col4 0 j)) : ℝ) : EReal) := by rw [H.wu, col_hi0]
theorem whi1 (j d) : x4 (ix3 5 j d) = ((a.wu d (Ffn.hi (col4 1 j)) : ℝ) : EReal) := by rw [H.wu, col_hi1]
theorem whi2 (j d) : x4 (ix3 6 j d) = ((a.wu d (Ffn.hi (col4 2 j)) : ℝ) : EReal) := by rw [H.wu, col_hi2]
theorem whi3 (j d) : x4 (ix3 7 j d) = ((a.wu d (Ffn.hi (col4 3 j)) : ℝ) : EReal) := by rw [H.wu, col_hi3]

/-- The gradient at the activation, column block by column block. -/
theorem dact0 (r : Fin 256) (j : Fin 704) :
    k0_pay13 x0 x1 x6 (View.ld x5 (Rect.unit ![0, 0] ![704, 1024] inb_S2816x1024_S704x1024_0_0)) (ix2 r j)
      = ((a.dact (row r) (col4 0 j) : ℝ) : EReal) := by
  pointwise [k0_pay13]
  simp only [df H, H.wd, ← EReal.coe_mul, coe_sum]
  refine congrArg _ (Finset.sum_congr rfl fun d _ => congrArg (fun n => a.df (row r) d * a.wd n d) (Fin.ext ?_))
  simp

theorem dact1 (r : Fin 256) (j : Fin 704) :
    k0_pay14 (k0_pay10 x0 x1 x6) (View.ld x5 (Rect.unit ![704, 0] ![704, 1024] inb_S2816x1024_S704x1024_704_0)) (ix2 r j)
      = ((a.dact (row r) (col4 1 j) : ℝ) : EReal) := by
  pointwise [k0_pay14]
  simp only [df H, H.wd, ← EReal.coe_mul, coe_sum]
  rfl

theorem dact2 (r : Fin 256) (j : Fin 704) :
    k0_pay26 (k0_pay10 x0 x1 x6) (View.ld x5 (Rect.unit ![1408, 0] ![704, 1024] inb_S2816x1024_S704x1024_1408_0)) (ix2 r j)
      = ((a.dact (row r) (col4 2 j) : ℝ) : EReal) := by
  pointwise [k0_pay26]
  simp only [df H, H.wd, ← EReal.coe_mul, coe_sum]
  rfl

theorem dact3 (r : Fin 256) (j : Fin 704) :
    k0_pay37 (k0_pay10 x0 x1 x6) (View.ld x5 (Rect.unit ![2112, 0] ![704, 1024] inb_S2816x1024_S704x1024_2112_0)) (ix2 r j)
      = ((a.dact (row r) (col4 3 j) : ℝ) : EReal) := by
  pointwise [k0_pay37]
  simp only [df H, H.wd, ← EReal.coe_mul, coe_sum]
  rfl

/-! The activation, column block by column block. -/

theorem act0 (o : Fin 1) (r : Fin 256) (j : Fin 704) :
    k0_pay19 (View.ld x3 (Rect.unit ![0, 0, 0] ![1, 256, 704] inb_S8x256x704_S1x256x704_0_0_0)) (View.ld x3 (Rect.unit ![4, 0, 0] ![1, 256, 704] inb_S8x256x704_S1x256x704_4_0_0)) (ix3 o r j)
      = ((a.act (row r) (col4 0 j) : ℝ) : EReal) := by
  pointwise [k0_pay19, k0_pay18, k0_pay17, k0_pay16, k0_pay15]
  simp only [gate0 H, up0 H, logistic_lift, one_lift, ← EReal.coe_mul, ← EReal.coe_sub, ← EReal.coe_add]
  rfl

theorem act1 (o : Fin 1) (r : Fin 256) (j : Fin 704) :
    k0_pay31 (View.ld x3 (Rect.unit ![1, 0, 0] ![1, 256, 704] inb_S8x256x704_S1x256x704_1_0_0)) (View.ld x3 (Rect.unit ![5, 0, 0] ![1, 256, 704] inb_S8x256x704_S1x256x704_5_0_0)) (ix3 o r j)
      = ((a.act (row r) (col4 1 j) : ℝ) : EReal) := by
  pointwise [k0_pay31, k0_pay30, k0_pay29, k0_pay28, k0_pay27]
  simp only [gate1 H, up1 H, logistic_lift, one_lift, ← EReal.coe_mul, ← EReal.coe_sub, ← EReal.coe_add]
  rfl

theorem act2 (o : Fin 1) (r : Fin 256) (j : Fin 704) :
    k0_pay42 (View.ld x3 (Rect.unit ![2, 0, 0] ![1, 256, 704] inb_S8x256x704_S1x256x704_2_0_0)) (View.ld x3 (Rect.unit ![6, 0, 0] ![1, 256, 704] inb_S8x256x704_S1x256x704_6_0_0)) (ix3 o r j)
      = ((a.act (row r) (col4 2 j) : ℝ) : EReal) := by
  pointwise [k0_pay42, k0_pay41, k0_pay40, k0_pay39, k0_pay38]
  simp only [gate2 H, up2 H, logistic_lift, one_lift, ← EReal.coe_mul, ← EReal.coe_sub, ← EReal.coe_add]
  rfl

theorem act3 (o : Fin 1) (r : Fin 256) (j : Fin 704) :
    k0_pay54 (View.ld x3 (Rect.unit ![3, 0, 0] ![1, 256, 704] inb_S8x256x704_S1x256x704_3_0_0)) (View.ld x3 (Rect.unit ![7, 0, 0] ![1, 256, 704] inb_S8x256x704_S1x256x704_7_0_0)) (ix3 o r j)
      = ((a.act (row r) (col4 3 j) : ℝ) : EReal) := by
  pointwise [k0_pay54, k0_pay53, k0_pay52, k0_pay51, k0_pay50]
  simp only [gate3 H, up3 H, logistic_lift, one_lift, ← EReal.coe_mul, ← EReal.coe_sub, ← EReal.coe_add]
  rfl

/-! The gradient at the gate, column block by column block. -/

theorem dgate0 (o : Fin 1) (r : Fin 256) (j : Fin 704) :
    k0_pay22 (k0_pay13 x0 x1 x6 (View.ld x5 (Rect.unit ![0, 0] ![704, 1024] inb_S2816x1024_S704x1024_0_0))) (View.ld x3 (Rect.unit ![0, 0, 0] ![1, 256, 704] inb_S8x256x704_S1x256x704_0_0_0)) (View.ld x3 (Rect.unit ![4, 0, 0] ![1, 256, 704] inb_S8x256x704_S1x256x704_4_0_0)) (ix3 o r j)
      = ((a.dgate (row r) (col4 0 j) : ℝ) : EReal) := by
  pointwise [k0_pay22, k0_pay20, k0_pay17, k0_pay16, k0_pay15]
  simp only [dact0 H, gate0 H, up0 H, logistic_lift, one_lift, ← EReal.coe_mul, ← EReal.coe_sub, ← EReal.coe_add]
  rfl

theorem dgate1 (o : Fin 1) (r : Fin 256) (j : Fin 704) :
    k0_pay34 (k0_pay14 (k0_pay10 x0 x1 x6) (View.ld x5 (Rect.unit ![704, 0] ![704, 1024] inb_S2816x1024_S704x1024_704_0))) (View.ld x3 (Rect.unit ![1, 0, 0] ![1, 256, 704] inb_S8x256x704_S1x256x704_1_0_0)) (View.ld x3 (Rect.unit ![5, 0, 0] ![1, 256, 704] inb_S8x256x704_S1x256x704_5_0_0)) (ix3 o r j)
      = ((a.dgate (row r) (col4 1 j) : ℝ) : EReal) := by
  pointwise [k0_pay34, k0_pay32, k0_pay29, k0_pay28, k0_pay27]
  simp only [dact1 H, gate1 H, up1 H, logistic_lift, one_lift, ← EReal.coe_mul, ← EReal.coe_sub, ← EReal.coe_add]
  rfl

theorem dgate2 (o : Fin 1) (r : Fin 256) (j : Fin 704) :
    k0_pay47 (k0_pay43 (k0_pay26 (k0_pay10 x0 x1 x6) (View.ld x5 (Rect.unit ![1408, 0] ![704, 1024] inb_S2816x1024_S704x1024_1408_0))) (View.ld x3 (Rect.unit ![6, 0, 0] ![1, 256, 704] inb_S8x256x704_S1x256x704_6_0_0))) (k0_pay44 (View.ld x3 (Rect.unit ![2, 0, 0] ![1, 256, 704] inb_S8x256x704_S1x256x704_2_0_0))) (ix3 o r j)
      = ((a.dgate (row r) (col4 2 j) : ℝ) : EReal) := by
  pointwise [k0_pay47, k0_pay45, k0_pay43, k0_pay44, k0_pay40, k0_pay39, k0_pay38]
  simp only [dact2 H, gate2 H, up2 H, logistic_lift, one_lift, ← EReal.coe_mul, ← EReal.coe_sub, ← EReal.coe_add]
  rfl

theorem dgate3 (o : Fin 1) (r : Fin 256) (j : Fin 704) :
    k0_pay59 (k0_pay50 (View.ld x3 (Rect.unit ![3, 0, 0] ![1, 256, 704] inb_S8x256x704_S1x256x704_3_0_0))) (k0_pay52 (View.ld x3 (Rect.unit ![3, 0, 0] ![1, 256, 704] inb_S8x256x704_S1x256x704_3_0_0))) (k0_pay55 (k0_pay37 (k0_pay10 x0 x1 x6) (View.ld x5 (Rect.unit ![2112, 0] ![704, 1024] inb_S2816x1024_S704x1024_2112_0))) (View.ld x3 (Rect.unit ![7, 0, 0] ![1, 256, 704] inb_S8x256x704_S1x256x704_7_0_0))) k0_pay56 (ix3 o r j)
      = ((a.dgate (row r) (col4 3 j) : ℝ) : EReal) := by
  pointwise [k0_pay59, k0_pay57, k0_pay56, k0_pay55, k0_pay52, k0_pay51, k0_pay50]
  simp only [dact3 H, gate3 H, up3 H, logistic_lift, one_lift, ← EReal.coe_mul, ← EReal.coe_sub, ← EReal.coe_add]
  rfl

/-! The gradient at the up projection, column block by column block. -/

theorem dup0 (o : Fin 1) (r : Fin 256) (j : Fin 704) :
    k0_pay23 (k0_pay13 x0 x1 x6 (View.ld x5 (Rect.unit ![0, 0] ![704, 1024] inb_S2816x1024_S704x1024_0_0))) (View.ld x3 (Rect.unit ![0, 0, 0] ![1, 256, 704] inb_S8x256x704_S1x256x704_0_0_0)) (ix3 o r j)
      = ((a.dup (row r) (col4 0 j) : ℝ) : EReal) := by
  pointwise [k0_pay23, k0_pay21, k0_pay18, k0_pay17, k0_pay15]
  simp only [dact0 H, gate0 H, logistic_lift, one_lift, ← EReal.coe_mul, ← EReal.coe_sub, ← EReal.coe_add]
  rfl

theorem dup1 (o : Fin 1) (r : Fin 256) (j : Fin 704) :
    k0_pay35 (k0_pay33 (k0_pay14 (k0_pay10 x0 x1 x6) (View.ld x5 (Rect.unit ![704, 0] ![704, 1024] inb_S2816x1024_S704x1024_704_0))) (View.ld x3 (Rect.unit ![1, 0, 0] ![1, 256, 704] inb_S8x256x704_S1x256x704_1_0_0))) (ix3 o r j)
      = ((a.dup (row r) (col4 1 j) : ℝ) : EReal) := by
  pointwise [k0_pay35, k0_pay33, k0_pay30, k0_pay29, k0_pay27]
  simp only [dact1 H, gate1 H, logistic_lift, one_lift, ← EReal.coe_mul, ← EReal.coe_sub, ← EReal.coe_add]
  rfl

theorem dup2 (o : Fin 1) (r : Fin 256) (j : Fin 704) :
    k0_pay48 (k0_pay26 (k0_pay10 x0 x1 x6) (View.ld x5 (Rect.unit ![1408, 0] ![704, 1024] inb_S2816x1024_S704x1024_1408_0))) (k0_pay41 (View.ld x3 (Rect.unit ![2, 0, 0] ![1, 256, 704] inb_S8x256x704_S1x256x704_2_0_0))) (ix3 o r j)
      = ((a.dup (row r) (col4 2 j) : ℝ) : EReal) := by
  pointwise [k0_pay48, k0_pay46, k0_pay41, k0_pay40, k0_pay38]
  simp only [dact2 H, gate2 H, logistic_lift, one_lift, ← EReal.coe_mul, ← EReal.coe_sub, ← EReal.coe_add]
  rfl

theorem dup3 (o : Fin 1) (r : Fin 256) (j : Fin 704) :
    k0_pay60 (k0_pay37 (k0_pay10 x0 x1 x6) (View.ld x5 (Rect.unit ![2112, 0] ![704, 1024] inb_S2816x1024_S704x1024_2112_0))) (k0_pay53 (View.ld x3 (Rect.unit ![3, 0, 0] ![1, 256, 704] inb_S8x256x704_S1x256x704_3_0_0))) (ix3 o r j)
      = ((a.dup (row r) (col4 3 j) : ℝ) : EReal) := by
  pointwise [k0_pay60, k0_pay58, k0_pay53, k0_pay52, k0_pay50]
  simp only [dact3 H, gate3 H, logistic_lift, one_lift, ← EReal.coe_mul, ← EReal.coe_sub, ← EReal.coe_add]
  rfl

/-! ## The gradient at the normalised input

The four column blocks are added up one after the other, each with the gate's part first. -/

theorem dh_step0 {z : FVec Ideal S256x1024 .f32} {w : Fin 256 → Fin 1024 → ℝ} (hz : ∀ r d, z (ix2 r d) = ((w r d : ℝ) : EReal))
    (r : Fin 256) (d : Fin 1024) :
    k0_pay25 z (k0_pay20 (k0_pay13 x0 x1 x6 (View.ld x5 (Rect.unit ![0, 0] ![704, 1024] inb_S2816x1024_S704x1024_0_0))) (View.ld x3 (Rect.unit ![0, 0, 0] ![1, 256, 704] inb_S8x256x704_S1x256x704_0_0_0)) (View.ld x3 (Rect.unit ![4, 0, 0] ![1, 256, 704] inb_S8x256x704_S1x256x704_4_0_0))) (k0_pay21 (k0_pay13 x0 x1 x6 (View.ld x5 (Rect.unit ![0, 0] ![704, 1024] inb_S2816x1024_S704x1024_0_0))) (View.ld x3 (Rect.unit ![0, 0, 0] ![1, 256, 704] inb_S8x256x704_S1x256x704_0_0_0))) (k0_pay24 (View.ld x4 (Rect.unit ![0, 0, 0] ![1, 704, 1024] inb_S8x704x1024_S1x704x1024_0_0_0))) (constant S256x1024 .f32 0x00000000#32) (View.ld x4 (Rect.unit ![4, 0, 0] ![1, 704, 1024] inb_S8x704x1024_S1x704x1024_4_0_0)) (ix2 r d)
      = ((w r d + (∑ j, a.dgate (row r) (col4 0 j) * a.wu d (Ffn.lo (col4 0 j)))
          + ∑ j, a.dup (row r) (col4 0 j) * a.wu d (Ffn.hi (col4 0 j)) : ℝ) : EReal) := by
  pointwise [k0_pay25, k0_pay24, k0_pay20, k0_pay21, k0_pay18, k0_pay17, k0_pay16, k0_pay15]
  simp only [hz, dact0 H, gate0 H, up0 H, wlo0 H, whi0 H, logistic_lift, one_lift, ← EReal.coe_mul, ← EReal.coe_sub, ← EReal.coe_add, coe_sum]
  rfl

theorem dh_step1 {z : FVec Ideal S256x1024 .f32} {w : Fin 256 → Fin 1024 → ℝ} (hz : ∀ r d, z (ix2 r d) = ((w r d : ℝ) : EReal))
    (r : Fin 256) (d : Fin 1024) :
    k0_pay36 z (k0_pay32 (k0_pay14 (k0_pay10 x0 x1 x6) (View.ld x5 (Rect.unit ![704, 0] ![704, 1024] inb_S2816x1024_S704x1024_704_0))) (View.ld x3 (Rect.unit ![1, 0, 0] ![1, 256, 704] inb_S8x256x704_S1x256x704_1_0_0)) (View.ld x3 (Rect.unit ![5, 0, 0] ![1, 256, 704] inb_S8x256x704_S1x256x704_5_0_0))) (k0_pay33 (k0_pay14 (k0_pay10 x0 x1 x6) (View.ld x5 (Rect.unit ![704, 0] ![704, 1024] inb_S2816x1024_S704x1024_704_0))) (View.ld x3 (Rect.unit ![1, 0, 0] ![1, 256, 704] inb_S8x256x704_S1x256x704_1_0_0))) (View.ld x4 (Rect.unit ![1, 0, 0] ![1, 704, 1024] inb_S8x704x1024_S1x704x1024_1_0_0)) (View.ld x4 (Rect.unit ![5, 0, 0] ![1, 704, 1024] inb_S8x704x1024_S1x704x1024_5_0_0)) (ix2 r d)
      = ((w r d + (∑ j, a.dgate (row r) (col4 1 j) * a.wu d (Ffn.lo (col4 1 j)))
          + ∑ j, a.dup (row r) (col4 1 j) * a.wu d (Ffn.hi (col4 1 j)) : ℝ) : EReal) := by
  pointwise [k0_pay36, k0_pay32, k0_pay33, k0_pay30, k0_pay29, k0_pay28, k0_pay27]
  simp only [hz, dact1 H, gate1 H, up1 H, wlo1 H, whi1 H, logistic_lift, one_lift, ← EReal.coe_mul, ← EReal.coe_sub, ← EReal.coe_add, coe_sum]
  rfl

theorem dh_step2 {z : FVec Ideal S256x1024 .f32} {w : Fin 256 → Fin 1024 → ℝ} (hz : ∀ r d, z (ix2 r d) = ((w r d : ℝ) : EReal))
    (r : Fin 256) (d : Fin 1024) :
    k0_pay49 (k0_pay26 (k0_pay10 x0 x1 x6) (View.ld x5 (Rect.unit ![1408, 0] ![704, 1024] inb_S2816x1024_S704x1024_1408_0))) z (k0_pay41 (View.ld x3 (Rect.unit ![2, 0, 0] ![1, 256, 704] inb_S8x256x704_S1x256x704_2_0_0))) (k0_pay43 (k0_pay26 (k0_pay10 x0 x1 x6) (View.ld x5 (Rect.unit ![1408, 0] ![704, 1024] inb_S2816x1024_S704x1024_1408_0))) (View.ld x3 (Rect.unit ![6, 0, 0] ![1, 256, 704] inb_S8x256x704_S1x256x704_6_0_0))) (k0_pay44 (View.ld x3 (Rect.unit ![2, 0, 0] ![1, 256, 704] inb_S8x256x704_S1x256x704_2_0_0))) (View.ld x4 (Rect.unit ![2, 0, 0] ![1, 704, 1024] inb_S8x704x1024_S1x704x1024_2_0_0)) (View.ld x4 (Rect.unit ![6, 0, 0] ![1, 704, 1024] inb_S8x704x1024_S1x704x1024_6_0_0)) (ix2 r d)
      = ((w r d + (∑ j, a.dgate (row r) (col4 2 j) * a.wu d (Ffn.lo (col4 2 j)))
          + ∑ j, a.dup (row r) (col4 2 j) * a.wu d (Ffn.hi (col4 2 j)) : ℝ) : EReal) := by
  pointwise [k0_pay49, k0_pay45, k0_pay46, k0_pay43, k0_pay44, k0_pay41, k0_pay40, k0_pay39, k0_pay38]
  simp only [hz, dact2 H, gate2 H, up2 H, wlo2 H, whi2 H, logistic_lift, one_lift, ← EReal.coe_mul, ← EReal.coe_sub, ← EReal.coe_add, coe_sum]
  rfl

theorem dh_step3 {z : FVec Ideal S256x1024 .f32} {w : Fin 256 → Fin 1024 → ℝ} (hz : ∀ r d, z (ix2 r d) = ((w r d : ℝ) : EReal))
    (r : Fin 256) (d : Fin 1024) :
    k0_pay61 (k0_pay37 (k0_pay10 x0 x1 x6) (View.ld x5 (Rect.unit ![2112, 0] ![704, 1024] inb_S2816x1024_S704x1024_2112_0))) z (k0_pay50 (View.ld x3 (Rect.unit ![3, 0, 0] ![1, 256, 704] inb_S8x256x704_S1x256x704_3_0_0))) (k0_pay52 (View.ld x3 (Rect.unit ![3, 0, 0] ![1, 256, 704] inb_S8x256x704_S1x256x704_3_0_0))) (k0_pay53 (View.ld x3 (Rect.unit ![3, 0, 0] ![1, 256, 704] inb_S8x256x704_S1x256x704_3_0_0))) (k0_pay55 (k0_pay37 (k0_pay10 x0 x1 x6) (View.ld x5 (Rect.unit ![2112, 0] ![704, 1024] inb_S2816x1024_S704x1024_2112_0))) (View.ld x3 (Rect.unit ![7, 0, 0] ![1, 256, 704] inb_S8x256x704_S1x256x704_7_0_0))) k0_pay56 (View.ld x4 (Rect.unit ![3, 0, 0] ![1, 704, 1024] inb_S8x704x1024_S1x704x1024_3_0_0)) (View.ld x4 (Rect.unit ![7, 0, 0] ![1, 704, 1024] inb_S8x704x1024_S1x704x1024_7_0_0)) (ix2 r d)
      = ((w r d + (∑ j, a.dgate (row r) (col4 3 j) * a.wu d (Ffn.lo (col4 3 j)))
          + ∑ j, a.dup (row r) (col4 3 j) * a.wu d (Ffn.hi (col4 3 j)) : ℝ) : EReal) := by
  pointwise [k0_pay61, k0_pay58, k0_pay57, k0_pay56, k0_pay55, k0_pay53, k0_pay52, k0_pay51, k0_pay50]
  simp only [hz, dact3 H, gate3 H, up3 H, wlo3 H, whi3 H, logistic_lift, one_lift, ← EReal.coe_mul, ← EReal.coe_sub, ← EReal.coe_add, coe_sum]
  rfl

theorem dh (r : Fin 256) (d : Fin 1024) :
    k0_pay61 (k0_pay37 (k0_pay10 x0 x1 x6) (View.ld x5 (Rect.unit ![2112, 0] ![704, 1024] inb_S2816x1024_S704x1024_2112_0))) (k0_pay49 (k0_pay26 (k0_pay10 x0 x1 x6) (View.ld x5 (Rect.unit ![1408, 0] ![704, 1024] inb_S2816x1024_S704x1024_1408_0))) (k0_pay36 (k0_pay25 k0_pay12 (k0_pay20 (k0_pay13 x0 x1 x6 (View.ld x5 (Rect.unit ![0, 0] ![704, 1024] inb_S2816x1024_S704x1024_0_0))) (View.ld x3 (Rect.unit ![0, 0, 0] ![1, 256, 704] inb_S8x256x704_S1x256x704_0_0_0)) (View.ld x3 (Rect.unit ![4, 0, 0] ![1, 256, 704] inb_S8x256x704_S1x256x704_4_0_0))) (k0_pay21 (k0_pay13 x0 x1 x6 (View.ld x5 (Rect.unit ![0, 0] ![704, 1024] inb_S2816x1024_S704x1024_0_0))) (View.ld x3 (Rect.unit ![0, 0, 0] ![1, 256, 704] inb_S8x256x704_S1x256x704_0_0_0))) (k0_pay24 (View.ld x4 (Rect.unit ![0, 0, 0] ![1, 704, 1024] inb_S8x704x1024_S1x704x1024_0_0_0))) (constant S256x1024 .f32 0x00000000#32) (View.ld x4 (Rect.unit ![4, 0, 0] ![1, 704, 1024] inb_S8x704x1024_S1x704x1024_4_0_0))) (k0_pay32 (k0_pay14 (k0_pay10 x0 x1 x6) (View.ld x5 (Rect.unit ![704, 0] ![704, 1024] inb_S2816x1024_S704x1024_704_0))) (View.ld x3 (Rect.unit ![1, 0, 0] ![1, 256, 704] inb_S8x256x704_S1x256x704_1_0_0)) (View.ld x3 (Rect.unit ![5, 0, 0] ![1, 256, 704] inb_S8x256x704_S1x256x704_5_0_0))) (k0_pay33 (k0_pay14 (k0_pay10 x0 x1 x6) (View.ld x5 (Rect.unit ![704, 0] ![704, 1024] inb_S2816x1024_S704x1024_704_0))) (View.ld x3 (Rect.unit ![1, 0, 0] ![1, 256, 704] inb_S8x256x704_S1x256x704_1_0_0))) (View.ld x4 (Rect.unit ![1, 0, 0] ![1, 704, 1024] inb_S8x704x1024_S1x704x1024_1_0_0)) (View.ld x4 (Rect.unit ![5, 0, 0] ![1, 704, 1024] inb_S8x704x1024_S1x704x1024_5_0_0))) (k0_pay41 (View.ld x3 (Rect.unit ![2, 0, 0] ![1, 256, 704] inb_S8x256x704_S1x256x704_2_0_0))) (k0_pay43 (k0_pay26 (k0_pay10 x0 x1 x6) (View.ld x5 (Rect.unit ![1408, 0] ![704, 1024] inb_S2816x1024_S704x1024_1408_0))) (View.ld x3 (Rect.unit ![6, 0, 0] ![1, 256, 704] inb_S8x256x704_S1x256x704_6_0_0))) (k0_pay44 (View.ld x3 (Rect.unit ![2, 0, 0] ![1, 256, 704] inb_S8x256x704_S1x256x704_2_0_0))) (View.ld x4 (Rect.unit ![2, 0, 0] ![1, 704, 1024] inb_S8x704x1024_S1x704x1024_2_0_0)) (View.ld x4 (Rect.unit ![6, 0, 0] ![1, 704, 1024] inb_S8x704x1024_S1x704x1024_6_0_0))) (k0_pay50 (View.ld x3 (Rect.unit ![3, 0, 0] ![1, 256, 704] inb_S8x256x704_S1x256x704_3_0_0))) (k0_pay52 (View.ld x3 (Rect.unit ![3, 0, 0] ![1, 256, 704] inb_S8x256x704_S1x256x704_3_0_0))) (k0_pay53 (View.ld x3 (Rect.unit ![3, 0, 0] ![1, 256, 704] inb_S8x256x704_S1x256x704_3_0_0))) (k0_pay55 (k0_pay37 (k0_pay10 x0 x1 x6) (View.ld x5 (Rect.unit ![2112, 0] ![704, 1024] inb_S2816x1024_S704x1024_2112_0))) (View.ld x3 (Rect.unit ![7, 0, 0] ![1, 256, 704] inb_S8x256x704_S1x256x704_7_0_0))) k0_pay56 (View.ld x4 (Rect.unit ![3, 0, 0] ![1, 704, 1024] inb_S8x704x1024_S1x704x1024_3_0_0)) (View.ld x4 (Rect.unit ![7, 0, 0] ![1, 704, 1024] inb_S8x704x1024_S1x704x1024_7_0_0)) (ix2 r d)
      = ((a.dh (row r) d : ℝ) : EReal) := by
  have h0 : ∀ (r : Fin 256) (d : Fin 1024), (k0_pay12 (F := Ideal)) (ix2 r d) = (((fun _ _ => 0) r d : ℝ) : EReal) := fun r d => by
    pointwise [k0_pay12]
    rfl
  rw [dh_step3 H (dh_step2 H (dh_step1 H (dh_step0 H h0)))]
  refine congrArg _ ?_
  rw [Ffn.dh, Fin.sum_univ_tiles 4 704 rfl, Fin.sum_univ_tiles 4 704 rfl, Fin.sum_univ_four, Fin.sum_univ_four]
  ring

/-! A later point adds its part to what the points before it have left. -/

theorem dq_add (w : Vec Ideal S1x1024 .f32) (o : Fin 1) (d : Fin 1024) : k0_pay4 (k0_pay9 x0 x1) w (ix2 o d)
    = w (ix2 o d) + ((∑ r, a.dy (row r) d * (a.f (row r) d * rs (a.f (row r))) : ℝ) : EReal) := by
  pointwise [k0_pay4]
  rw [dq H]

theorem dg_add {z : FVec Ideal S256x1024 .f32} (hz : ∀ r d, z (ix2 r d) = ((a.dh (row r) d : ℝ) : EReal))
    (w : Vec Ideal S1x1024 .f32) (o : Fin 1) (d : Fin 1024) : k0_pay5 z (k0_pay63 x2) w (ix2 o d)
    = w (ix2 o d) + ((∑ r, a.dh (row r) d * (a.x (row r) d * rs (a.x (row r))) : ℝ) : EReal) := by
  pointwise [k0_pay5]
  rw [dg H hz]

end

end Cert.FfnKernel
-- ==== Proof.FfnRef.lean ====
/- The reference of the feed-forward gradient computes the real functions of FfnSpec when its arguments are
   finite: one theorem per stage of the chain rule, each array read at an index. -/
module

public import proofs.«01_k».proof.Proof.Gen.FfnGradIdeal.Read
public import proofs.«01_k».proof.Proof.FfnSpec

@[expose] public section

set_option maxRecDepth 16384

noncomputable section

open Idealize.ShloMosaic Idealize.ShloMosaic.TcCoe Idealize.SL.Sem

namespace Cert.FfnRef
open Cert.FfnGradIdeal Cert.FfnGradIdeal.Gen Cert.FfnGradIdeal.Read Cert.Step

/-- A float array of the ideal program. -/
abbrev Arr (s : Shape) := BufTy.Contents (Elt Ideal) ⟨s, .f32⟩

/-- The reference's arguments are the real arrays of `a`. -/
structure Lifts (a : Ffn) (x0 : Arr S4096x1024) (x1 : Arr S1024) (x2 : Arr S1024x5632) (x3 : Arr S2816x1024)
    (x4 : Arr S1024) (x5 : Arr S4096x1024) : Prop where
  x : ∀ t d, x0 (ix2 t d) = ((a.x t d : ℝ) : EReal)
  g : ∀ d, x1 (ix1 d) = ((a.g d : ℝ) : EReal)
  wu : ∀ d n, x2 (ix2 d n) = ((a.wu d n : ℝ) : EReal)
  wd : ∀ n d, x3 (ix2 n d) = ((a.wd n d : ℝ) : EReal)
  q : ∀ d, x4 (ix1 d) = ((a.q d : ℝ) : EReal)
  dy : ∀ t d, x5 (ix2 t d) = ((a.dy t d : ℝ) : EReal)

variable {a : Ffn} {x0 : Arr S4096x1024} {x1 : Arr S1024} {x2 : Arr S1024x5632} {x3 : Arr S2816x1024}
  {x4 : Arr S1024} {x5 : Arr S4096x1024} (H : Lifts a x0 x1 x2 x3 x4 x5)
include H

/-- The reciprocal root mean square of a row of the input. -/
theorem rx (t : Fin 4096) (o : Fin 1) : val_main_v7 (F := Ideal) x0 (ix2 t o) = ((rs (a.x t) : ℝ) : EReal) := by
  pointwise [val_main_v7, val_main_v6, val_main_v5, val_main_v4, val_main_v3, val_main_v2, val_main_v1, val_main_v0,
    val_main_cst, val_main_cst_0, val_main_cst_1]
  simp only [H.x, bits_1024, bits_eps, ← EReal.coe_mul, coe_sum, div_1024, ← EReal.coe_add, rsqrt_lift]

/-- What the derivative of that reciprocal multiplies the flow into the mean square with. -/
theorem sx (t : Fin 4096) (o : Fin 1) :
    val_main_v10 (F := Ideal) x0 (ix2 t o) = ((-(1 / 2) * (rs (a.x t) / ms (a.x t)) : ℝ) : EReal) := by
  pointwise [val_main_v10, val_main_v9, val_main_v8, val_main_v6, val_main_v5, val_main_v4, val_main_v3, val_main_v2,
    val_main_v1, val_main_v0, val_main_cst, val_main_cst_0, val_main_cst_1, val_main_cst_2]
  simp only [rx H, H.x, bits_1024, bits_eps, bits_neg_half, ← EReal.coe_mul, coe_sum, div_1024, ← EReal.coe_add, div_ms]

/-- The normalised input. -/
theorem h (t : Fin 4096) (d : Fin 1024) : val_main_v15 (F := Ideal) x0 x1 (ix2 t d) = ((a.h t d : ℝ) : EReal) := by
  pointwise [val_main_v15, val_main_v14, val_main_v13, val_main_v12, val_main_v11]
  simp only [rx H, H.x, H.g, ← EReal.coe_mul]; rfl

/-- The two projections. -/
theorem gu (t : Fin 4096) (n : Fin 5632) : val_main_v16 (F := Ideal) x0 x1 x2 (ix2 t n) = ((a.gu t n : ℝ) : EReal) := by
  pointwise [val_main_v16]
  simp only [h H, H.wu, ← EReal.coe_mul, coe_sum]; rfl

/-- The logistic of the gate. -/
theorem sig (t : Fin 4096) (n : Fin 2816) :
    val_main_v19_2 (F := Ideal) x0 x1 x2 (ix2 t n) = ((sg (a.gu t (Ffn.lo n)) : ℝ) : EReal) := by
  pointwise [val_main_v19_2, val_main_call0_v4, val_main_call0_v3, val_main_call0_v2, val_main_call0_v1, val_main_call0_v0,
    val_main_call0_cst, val_main_call0_cst_0, val_main_v17]
  simp only [gu H, one_lift, ← EReal.coe_neg, exp_lift, ← EReal.coe_add, sg_lift]

/-- The gate times its logistic. -/
theorem silu (t : Fin 4096) (n : Fin 2816) :
    val_main_v19_0 (F := Ideal) x0 x1 x2 (ix2 t n) = ((a.silu t n : ℝ) : EReal) := by
  pointwise [val_main_v19_0, val_main_v17]
  simp only [gu H, sig H, ← EReal.coe_mul]; rfl

/-- The activation. -/
theorem act (t : Fin 4096) (n : Fin 2816) : val_main_v20 (F := Ideal) x0 x1 x2 (ix2 t n) = ((a.act t n : ℝ) : EReal) := by
  pointwise [val_main_v20, val_main_v18]
  simp only [gu H, silu H, ← EReal.coe_mul]; rfl

/-- The down projection. -/
theorem f (t : Fin 4096) (d : Fin 1024) : val_main_v21 (F := Ideal) x0 x1 x2 x3 (ix2 t d) = ((a.f t d : ℝ) : EReal) := by
  pointwise [val_main_v21]
  simp only [act H, H.wd, ← EReal.coe_mul, coe_sum]; rfl

/-- The reciprocal root mean square of a row of the down projection. -/
theorem rf (t : Fin 4096) (o : Fin 1) : val_main_v29 (F := Ideal) x0 x1 x2 x3 (ix2 t o) = ((rs (a.f t) : ℝ) : EReal) := by
  pointwise [val_main_v29, val_main_v28, val_main_v27, val_main_v26, val_main_v25, val_main_v24, val_main_v23, val_main_v22,
    val_main_cst_3, val_main_cst_4, val_main_cst_5]
  simp only [f H, bits_1024, bits_eps, ← EReal.coe_mul, coe_sum, div_1024, ← EReal.coe_add, rsqrt_lift]

theorem sf (t : Fin 4096) (o : Fin 1) :
    val_main_v32 (F := Ideal) x0 x1 x2 x3 (ix2 t o) = ((-(1 / 2) * (rs (a.f t) / ms (a.f t)) : ℝ) : EReal) := by
  pointwise [val_main_v32, val_main_v31, val_main_v30, val_main_v28, val_main_v27, val_main_v26, val_main_v25, val_main_v24,
    val_main_v23, val_main_v22, val_main_cst_3, val_main_cst_4, val_main_cst_5, val_main_cst_6]
  simp only [rf H, f H, bits_1024, bits_eps, bits_neg_half, ← EReal.coe_mul, coe_sum, div_1024, ← EReal.coe_add, div_ms]

/-- The gradient at the down projection. -/
theorem df (t : Fin 4096) (d : Fin 1024) :
    val_main_v59 (F := Ideal) x0 x1 x2 x3 x4 x5 (ix2 t d) = ((a.df t d : ℝ) : EReal) := by
  pointwise [val_main_v59, val_main_v58, val_main_v57, val_main_v56, val_main_v55, val_main_v54, val_main_v53, val_main_v52,
    val_main_v51, val_main_v50, val_main_v49, val_main_v48, val_main_v47, val_main_v46, val_main_v44, val_main_v43,
    val_main_v39, val_main_v35, val_main_cst_9, val_main_cst_10, val_main_cst_11]
  simp only [rf H, sf H, f H, H.dy, H.q, bits_1024, ← EReal.coe_mul, coe_sum, div_1024, ← EReal.coe_add]
  simp only [Fin.sum_univ_one, Finset.univ_unique, Finset.sum_singleton]
  exact congrArg _ (rmsBwd_eq (a.f t) (fun k => a.dy t k * a.q k) d)

/-- The gradient at the activation. -/
theorem dact (t : Fin 4096) (n : Fin 2816) :
    val_main_v60 (F := Ideal) x0 x1 x2 x3 x4 x5 (ix2 t n) = ((a.dact t n : ℝ) : EReal) := by
  pointwise [val_main_v60]
  simp only [df H, H.wd, ← EReal.coe_mul, coe_sum]; rfl

/-- The gradient at the up projection. -/
theorem dup (t : Fin 4096) (n : Fin 2816) :
    val_main_v61 (F := Ideal) x0 x1 x2 x3 x4 x5 (ix2 t n) = ((a.dup t n : ℝ) : EReal) := by
  pointwise [val_main_v61]
  simp only [dact H, silu H, ← EReal.coe_mul]
  exact congrArg _ (mul_comm _ _)

/-- The gradient at the gate. -/
theorem dgate (t : Fin 4096) (n : Fin 2816) :
    val_main_v63 (F := Ideal) x0 x1 x2 x3 x4 x5 (ix2 t n) = ((a.dgate t n : ℝ) : EReal) := by
  pointwise [val_main_v63, val_main_call1_v2, val_main_call1_v1, val_main_call1_v0, val_main_v62, val_main_v19_1,
    val_main_call0_v7, val_main_call0_v6, val_main_call0_cst_1, val_main_v18, val_main_v17]
  simp only [dact H, gu H, sig H, one_lift, ← EReal.coe_mul, ← EReal.coe_add, ← EReal.coe_sub]
  refine congrArg _ ?_
  rw [Ffn.dgate]; ring

/-- Both of them, side by side. -/
theorem dgu (t : Fin 4096) (n : Fin 5632) :
    val_main_v64 (F := Ideal) x0 x1 x2 x3 x4 x5 (ix2 t n) = ((a.dgu t n : ℝ) : EReal) := by
  pointwise [val_main_v64]
  unfold Ffn.dgu
  split
  · exact dgate H t _
  · exact dup H t _

/-- The gradient at the normalised input. -/
theorem dh (t : Fin 4096) (d : Fin 1024) :
    val_main_v65 (F := Ideal) x0 x1 x2 x3 x4 x5 (ix2 t d) = ((a.dh t d : ℝ) : EReal) := by
  pointwise [val_main_v65, val_main_v64]
  simp only [dgate H, dup H, H.wu, ← EReal.coe_mul, coe_sum, ← EReal.coe_add]; rfl

/-- The gradient at the sublayer's input. -/
theorem dx (t : Fin 4096) (d : Fin 1024) :
    val_main_v86 (F := Ideal) x0 x1 x2 x3 x4 x5 (ix2 t d) = ((a.dx t d : ℝ) : EReal) := by
  pointwise [val_main_v86, val_main_v85, val_main_v84, val_main_v83, val_main_v82, val_main_v81, val_main_v80, val_main_v79,
    val_main_v78, val_main_v77, val_main_v76, val_main_v75, val_main_v74, val_main_v73, val_main_v72, val_main_v70,
    val_main_v69, val_main_v13, val_main_cst_14, val_main_cst_15, val_main_cst_16]
  simp only [rx H, sx H, dh H, H.dy, H.x, H.g, bits_1024, ← EReal.coe_mul, coe_sum, div_1024, ← EReal.coe_add]
  simp only [Fin.sum_univ_one, Finset.univ_unique, Finset.sum_singleton]
  exact congrArg (fun r : ℝ => ((a.dy t d + r : ℝ) : EReal)) (rmsBwd_eq (a.x t) (fun k => a.dh t k * a.g k) d)

/-- The gradient of the weight of the norm after the sublayer. -/
theorem dq (o : Fin 1) (d : Fin 1024) :
    val_main_v95 (F := Ideal) x0 x1 x2 x3 x5 (ix2 o d) = ((a.dq d : ℝ) : EReal) := by
  pointwise [val_main_v95, val_main_v45, val_main_v42, val_main_v41, val_main_v40, val_main_v39, val_main_v34, val_main_v33,
    val_main_cst_7, val_main_cst_8]
  simp only [rf H, f H, H.dy, ← EReal.coe_mul, coe_sum]
  simp only [Fin.sum_univ_one, Finset.univ_unique, Finset.sum_singleton]
  exact congrArg _ (Finset.sum_congr rfl fun t _ => mul_comm _ _)

/-- The gradient of the weight of the norm before the sublayer. -/
theorem dg (o : Fin 1) (d : Fin 1024) :
    val_main_v96 (F := Ideal) x0 x1 x2 x3 x4 x5 (ix2 o d) = ((a.dg d : ℝ) : EReal) := by
  pointwise [val_main_v96, val_main_v71, val_main_v68, val_main_v67, val_main_v66, val_main_v12, val_main_v11,
    val_main_cst_12, val_main_cst_13]
  simp only [rx H, dh H, H.x, ← EReal.coe_mul, coe_sum]
  simp only [Fin.sum_univ_one, Finset.univ_unique, Finset.sum_singleton]
  exact congrArg _ (Finset.sum_congr rfl fun t _ => mul_comm _ _)

end Cert.FfnRef
-- ==== Proof.FfnBlock.lean ====
/- What the blocks of the feed-forward backward kernel hold when the arguments are finite: the arrays that the
   host prepares, and the rows of each that a grid point reads. -/
module

public import proofs.«01_k».proof.Proof.FfnKernel
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.FfnBlock
open Cert.FfnBwdIdeal Cert.FfnBwdIdeal.Gen Cert.Step
open Cert.FfnRef (Arr Lifts)
open Cert.FfnKernel (Block col4 col8)

variable (m : (ℓ : Loc nD τ sig) → Buf (Elt Ideal) ℓ)

/-- Which block of its array each window holds at grid point `t`. -/
theorem idx : ∀ t : Fin cfg0.N, win0_0.index t = ![t.val, 0] ∧ win0_1.index t = ![t.val, 0] ∧ win0_2.index t = ![t.val, 0]
    ∧ win0_3.index t = ![0, t.val, 0] ∧ win0_4.index t = ![0, 0, 0] ∧ win0_5.index t = ![0, 0] ∧ win0_6.index t = ![0, 0]
    ∧ win0_7.index t = ![0, 0] ∧ win0_8.index t = ![t.val, 0] ∧ win0_9.index t = ![t.val, 0] ∧ win0_10.index t = ![0, t.val, 0]
    ∧ win0_11.index t = ![0, t.val, 0] ∧ win0_12.index t = ![t.val, 0] ∧ win0_13.index t = ![0, 0] ∧ win0_14.index t = ![0, 0] :=
  (by decide +kernel : ∀ t : Fin grid0.N, _)

/-- The row of the whole array that row `r` of grid point `t`'s block is. -/
abbrev row (t : Fin cfg0.N) (r : Fin 256) : Fin 4096 :=
  ⟨t.val * 256 + r.val, by have h : t.val < 16 := t.isLt; omega⟩

/-- The real arrays `a` are what device `c` is given. -/
abbrev Given (a : Ffn) (c : Dev nD) : Prop :=
  Lifts a (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

variable {m} {a : Ffn} {c : Dev nD} (H : Given m a c)

variable (m) (c) in
/-- The host's down projection is the reference's. -/
theorem host_f : V m c main_v18 = Cert.FfnGradIdeal.Read.val_main_v21 (F := Ideal) (m ((c.tc : Thread nD τ).loc main_arg0))
    (m ((c.tc : Thread nD τ).loc main_arg1)) (m ((c.tc : Thread nD τ).loc main_arg2)) (m ((c.tc : Thread nD τ).loc main_arg3)) := by
  entry_read; rfl

variable (m) (c) in
/-- The host's two projections are the reference's, cut into column blocks. -/
theorem host_gu : V m c main_v24 = truncf (F := Ideal) .bf16 (transpose S8x4096x704 [1, 0, 2] (shapeCast S4096x8x704
    (Cert.FfnGradIdeal.Read.val_main_v16 (F := Ideal) (m ((c.tc : Thread nD τ).loc main_arg0)) (m ((c.tc : Thread nD τ).loc main_arg1))
      (m ((c.tc : Thread nD τ).loc main_arg2))) shapeCasts_S4096x5632_S4096x8x704) transposes_S4096x8x704_S8x4096x704_1_0_2) bitsLt_bf16_f32 := by
  entry_read; rfl

variable (m) (c) in
/-- The host's weights of the two projections, transposed and cut into column blocks. -/
theorem host_wu : V m c main_v21 = truncf (F := Ideal) .bf16 (shapeCast S8x704x1024 (transpose S5632x1024 [1, 0]
    (m ((c.tc : Thread nD τ).loc main_arg2)) transposes_S1024x5632_S5632x1024_1_0) shapeCasts_S5632x1024_S8x704x1024) bitsLt_bf16_f32 := by
  entry_read; rfl

variable (m) (c) in
/-- The host's weights of the down projection. -/
theorem host_wd : V m c main_v25 = truncf (F := Ideal) .bf16 (m ((c.tc : Thread nD τ).loc main_arg3)) bitsLt_bf16_f32 := by
  entry_read; rfl

variable (m) (c) in
/-- The host's weight of the norm after the sublayer, as a row. -/
theorem host_q : V m c main_v26 = broadcastInDim S1x1024 ![1] bcast_S1024_S1x1024_1 (m ((c.tc : Thread nD τ).loc main_arg4)) := by
  entry_read; rfl

variable (m) (c) in
/-- The host's weight of the norm before the sublayer, as a row. -/
theorem host_g : V m c main_v27 = broadcastInDim S1x1024 ![1] bcast_S1024_S1x1024_1 (m ((c.tc : Thread nD τ).loc main_arg1)) := by
  entry_read; rfl

section
include H

theorem arr_f (t d) : V m c main_v18 (ix2 t d) = ((a.f t d : ℝ) : EReal) := by
  rw [host_f]; exact FfnRef.f H t d

theorem arr_gu (k t j) : V m c main_v24 (ix3 k t j) = ((a.gu t (col8 k j) : ℝ) : EReal) := by
  rw [host_gu]; pointwise; exact FfnRef.gu H _ _

theorem arr_wu (k j d) : V m c main_v21 (ix3 k j d) = ((a.wu d (col8 k j) : ℝ) : EReal) := by
  rw [host_wu]; pointwise; exact H.wu _ _

theorem arr_wd (n d) : V m c main_v25 (ix2 n d) = ((a.wd n d : ℝ) : EReal) := by
  rw [host_wd]; pointwise; exact H.wd _ _

theorem arr_q (o d) : V m c main_v26 (ix2 o d) = ((a.q d : ℝ) : EReal) := by
  rw [host_q]; pointwise; exact H.q _

theorem arr_g (o d) : V m c main_v27 (ix2 o d) = ((a.g d : ℝ) : EReal) := by
  rw [host_g]; pointwise; exact H.g _

/-! Every grid point reads its 256 rows of them. -/

theorem blk_dy (t : Fin cfg0.N) (r : Fin 256) (d : Fin 1024) : iblk m c 0 t (ix2 r d) = ((a.dy (row t r) d : ℝ) : EReal) := by
  refine Eq.trans ?_ (H.dy (row t r) d)
  obtain ⟨e0, e1, e2, e3, e4, e5, e6, e7, -⟩ := idx t
  blk_ext [iblk, V, e0]

theorem blk_f (t : Fin cfg0.N) (r : Fin 256) (d : Fin 1024) : iblk m c 1 t (ix2 r d) = ((a.f (row t r) d : ℝ) : EReal) := by
  refine Eq.trans ?_ (arr_f H (row t r) d)
  obtain ⟨e0, e1, e2, e3, e4, e5, e6, e7, -⟩ := idx t
  blk_ext [iblk, e1]

theorem blk_x (t : Fin cfg0.N) (r : Fin 256) (d : Fin 1024) : iblk m c 2 t (ix2 r d) = ((a.x (row t r) d : ℝ) : EReal) := by
  refine Eq.trans ?_ (H.x (row t r) d)
  obtain ⟨e0, e1, e2, e3, e4, e5, e6, e7, -⟩ := idx t
  blk_ext [iblk, V, e2]

theorem blk_gu (t : Fin cfg0.N) (k : Fin 8) (r : Fin 256) (j : Fin 704) : iblk m c 3 t (ix3 k r j) = ((a.gu (row t r) (col8 k j) : ℝ) : EReal) := by
  refine Eq.trans ?_ (arr_gu H k (row t r) j)
  obtain ⟨e0, e1, e2, e3, e4, e5, e6, e7, -⟩ := idx t
  blk_ext [iblk, e3]

theorem blk_wu (t : Fin cfg0.N) (k : Fin 8) (j : Fin 704) (d : Fin 1024) : iblk m c 4 t (ix3 k j d) = ((a.wu d (col8 k j) : ℝ) : EReal) := by
  refine Eq.trans ?_ (arr_wu H k j d)
  obtain ⟨e0, e1, e2, e3, e4, e5, e6, e7, -⟩ := idx t
  blk_ext [iblk, e4]

theorem blk_wd (t : Fin cfg0.N) (n : Fin 2816) (d : Fin 1024) : iblk m c 5 t (ix2 n d) = ((a.wd n d : ℝ) : EReal) := by
  refine Eq.trans ?_ (arr_wd H n d)
  obtain ⟨e0, e1, e2, e3, e4, e5, e6, e7, -⟩ := idx t
  blk_ext [iblk, e5]

theorem blk_q (t : Fin cfg0.N) (o : Fin 1) (d : Fin 1024) : iblk m c 6 t (ix2 o d) = ((a.q d : ℝ) : EReal) := by
  refine Eq.trans ?_ (arr_q H o d)
  obtain ⟨e0, e1, e2, e3, e4, e5, e6, e7, -⟩ := idx t
  blk_ext [iblk, e6]

theorem blk_g (t : Fin cfg0.N) (o : Fin 1) (d : Fin 1024) : iblk m c 7 t (ix2 o d) = ((a.g d : ℝ) : EReal) := by
  refine Eq.trans ?_ (arr_g H o d)
  obtain ⟨e0, e1, e2, e3, e4, e5, e6, e7, -⟩ := idx t
  blk_ext [iblk, e7]

theorem block (t : Fin cfg0.N) : Block a (row t) (iblk m c 0 t) (iblk m c 1 t) (iblk m c 2 t) (iblk m c 3 t) (iblk m c 4 t)
    (iblk m c 5 t) (iblk m c 6 t) (iblk m c 7 t) :=
  ⟨blk_dy H t, blk_f H t, blk_x H t, blk_gu H t, blk_wu H t, blk_wd H t, blk_q H t, blk_g H t⟩

end

end Cert.FfnBlock
-- ==== Proof.FfnFinal.lean ====
/- The arrays the feed-forward backward kernel leaves: each of its seven results is the real function of
   FfnSpec that it should be, when the arguments are finite. -/
module

public import proofs.«01_k».proof.Proof.FfnBlock

@[expose] public section

set_option maxRecDepth 16384
set_option maxHeartbeats 1600000

noncomputable section

open Idealize.ShloMosaic Idealize.ShloMosaic.TcCoe Idealize.SL.Sem
open Idealize.ShloMosaic.Pipeline (Dat)

namespace Cert.FfnFinal
open Cert.FfnBwdIdeal Cert.FfnBwdIdeal.Gen Cert.Step
open Cert.FfnRef (Arr Lifts)
open Cert.FfnKernel (Block col4 col8)
open Cert.FfnBlock

variable (m : (ℓ : Loc nD τ sig) → Buf (Elt Ideal) ℓ)

/-! The seven results as arrays. -/

def dxArr (a : Ffn) : Arr S4096x1024 := fun i => ((a.dx (i 0) (i 1) : ℝ) : EReal)
def dfArr (a : Ffn) : Arr S4096x1024 := fun i => ((a.df (i 0) (i 1) : ℝ) : EReal)
def actArr (a : Ffn) : Arr S4x4096x704 := fun i => ((a.act (i 1) (col4 (i 0) (i 2)) : ℝ) : EReal)
def dguArr (a : Ffn) : Arr S8x4096x704 := fun i => ((a.dgu (i 1) (col8 (i 0) (i 2)) : ℝ) : EReal)
def hArr (a : Ffn) : Arr S4096x1024 := fun i => ((a.h (i 0) (i 1) : ℝ) : EReal)
def dqArr (a : Ffn) : Arr S1x1024 := fun i => ((a.dq (i 1) : ℝ) : EReal)
def dgArr (a : Ffn) : Arr S1x1024 := fun i => ((a.dg (i 1) : ℝ) : EReal)

variable {m} {a : Ffn} {c : Dev nD} (H : Given m a c)

attribute [local irreducible] Ffn.dx Ffn.df Ffn.act Ffn.dgu Ffn.h Ffn.dq Ffn.dg Ffn.dh Ffn.f Ffn.dgate Ffn.dup

section
include H

/-- The gradient at the sublayer's input. -/
theorem outs8 (t : Fin cfg0.N) (y : S256x1024.Idx) : (outsAt0 m c t.val t.isLt).1 y = ((a.dx (row t (y 0)) (y 1) : ℝ) : EReal) := by
  have hN : cfg0.N = 16 := rfl
  have B := block H t
  by_cases h : t.val % 16 = 0
  · rw [outsAt0_A m c t h (by omega)]; dsimp only; frame_out
    rw [eq_ix2 y]; exact FfnKernel.dx B (FfnKernel.dh B) _ _
  · rw [outsAt0_B m c t h (by omega)]; dsimp only; frame_out
    rw [eq_ix2 y]; exact FfnKernel.dx B (FfnKernel.dh B) _ _

/-- The gradient at the down projection. -/
theorem outs9 (t : Fin cfg0.N) (y : S256x1024.Idx) : (outsAt0 m c t.val t.isLt).2.1 y = ((a.df (row t (y 0)) (y 1) : ℝ) : EReal) := by
  have hN : cfg0.N = 16 := rfl
  have B := block H t
  by_cases h : t.val % 16 = 0
  · rw [outsAt0_A m c t h (by omega)]; dsimp only; frame_out
    rw [eq_ix2 y]; exact FfnKernel.df_out B _ _
  · rw [outsAt0_B m c t h (by omega)]; dsimp only; frame_out
    rw [eq_ix2 y]; exact FfnKernel.df_out B _ _

/-- The activation. -/
theorem outs10 (t : Fin cfg0.N) (y : S4x256x704.Idx) : (outsAt0 m c t.val t.isLt).2.2.1 y = ((a.act (row t (y 1)) (col4 (y 0) (y 2)) : ℝ) : EReal) := by
  have hN : cfg0.N = 16 := rfl
  have B := block H t
  by_cases h : t.val % 16 = 0
  · rw [outsAt0_A m c t h (by omega)]; dsimp only; frame_out
    canon_tiles x hx
    · rw [eq_ix3 x]; refine (FfnKernel.act3 B _ _ _).trans (congrArg _ ?_)
      exact congrArg₂ a.act (congrArg (row t) (Fin.ext hx1.symm)) (Fin.ext (by show 3 * 704 + (x 2).val = (y 0).val * 704 + (y 2).val; omega))
    · rw [eq_ix3 x]; refine (FfnKernel.act2 B _ _ _).trans (congrArg _ ?_)
      exact congrArg₂ a.act (congrArg (row t) (Fin.ext hx1.symm)) (Fin.ext (by show 2 * 704 + (x 2).val = (y 0).val * 704 + (y 2).val; omega))
    · rw [eq_ix3 x]; refine (FfnKernel.act1 B _ _ _).trans (congrArg _ ?_)
      exact congrArg₂ a.act (congrArg (row t) (Fin.ext hx1.symm)) (Fin.ext (by show 1 * 704 + (x 2).val = (y 0).val * 704 + (y 2).val; omega))
    · rw [eq_ix3 x]; refine (FfnKernel.act0 B _ _ _).trans (congrArg _ ?_)
      exact congrArg₂ a.act (congrArg (row t) (Fin.ext hx1.symm)) (Fin.ext (by show 0 * 704 + (x 2).val = (y 0).val * 704 + (y 2).val; omega))
  · rw [outsAt0_B m c t h (by omega)]; dsimp only; frame_out
    canon_tiles x hx
    · rw [eq_ix3 x]; refine (FfnKernel.act3 B _ _ _).trans (congrArg _ ?_)
      exact congrArg₂ a.act (congrArg (row t) (Fin.ext hx1.symm)) (Fin.ext (by show 3 * 704 + (x 2).val = (y 0).val * 704 + (y 2).val; omega))
    · rw [eq_ix3 x]; refine (FfnKernel.act2 B _ _ _).trans (congrArg _ ?_)
      exact congrArg₂ a.act (congrArg (row t) (Fin.ext hx1.symm)) (Fin.ext (by show 2 * 704 + (x 2).val = (y 0).val * 704 + (y 2).val; omega))
    · rw [eq_ix3 x]; refine (FfnKernel.act1 B _ _ _).trans (congrArg _ ?_)
      exact congrArg₂ a.act (congrArg (row t) (Fin.ext hx1.symm)) (Fin.ext (by show 1 * 704 + (x 2).val = (y 0).val * 704 + (y 2).val; omega))
    · rw [eq_ix3 x]; refine (FfnKernel.act0 B _ _ _).trans (congrArg _ ?_)
      exact congrArg₂ a.act (congrArg (row t) (Fin.ext hx1.symm)) (Fin.ext (by show 0 * 704 + (x 2).val = (y 0).val * 704 + (y 2).val; omega))

/-- The gradient at both projections. -/
theorem outs11 (t : Fin cfg0.N) (y : S8x256x704.Idx) : (outsAt0 m c t.val t.isLt).2.2.2.1 y = ((a.dgu (row t (y 1)) (col8 (y 0) (y 2)) : ℝ) : EReal) := by
  have hN : cfg0.N = 16 := rfl
  have B := block H t
  by_cases h : t.val % 16 = 0
  · rw [outsAt0_A m c t h (by omega)]; dsimp only; frame_out
    canon_tiles x hx
    · rw [eq_ix3 x]; refine (FfnKernel.dup3 B _ _ _).trans (congrArg _ ?_)
      rw [a.dgu_up (row t (y 1)) _ (col4 3 (x 2)) (by show (y 0).val * 704 + (y 2).val = 2816 + (3 * 704 + (x 2).val); omega)]
      exact congrArg (fun r => a.dup (row t r) (col4 3 (x 2))) (Fin.ext hx1.symm)
    · rw [eq_ix3 x]; refine (FfnKernel.dgate3 B _ _ _).trans (congrArg _ ?_)
      rw [a.dgu_gate (row t (y 1)) _ (col4 3 (x 2)) (by show (y 0).val * 704 + (y 2).val = 3 * 704 + (x 2).val; omega)]
      exact congrArg (fun r => a.dgate (row t r) (col4 3 (x 2))) (Fin.ext hx1.symm)
    · rw [eq_ix3 x]; refine (FfnKernel.dup2 B _ _ _).trans (congrArg _ ?_)
      rw [a.dgu_up (row t (y 1)) _ (col4 2 (x 2)) (by show (y 0).val * 704 + (y 2).val = 2816 + (2 * 704 + (x 2).val); omega)]
      exact congrArg (fun r => a.dup (row t r) (col4 2 (x 2))) (Fin.ext hx1.symm)
    · rw [eq_ix3 x]; refine (FfnKernel.dgate2 B _ _ _).trans (congrArg _ ?_)
      rw [a.dgu_gate (row t (y 1)) _ (col4 2 (x 2)) (by show (y 0).val * 704 + (y 2).val = 2 * 704 + (x 2).val; omega)]
      exact congrArg (fun r => a.dgate (row t r) (col4 2 (x 2))) (Fin.ext hx1.symm)
    · rw [eq_ix3 x]; refine (FfnKernel.dup1 B _ _ _).trans (congrArg _ ?_)
      rw [a.dgu_up (row t (y 1)) _ (col4 1 (x 2)) (by show (y 0).val * 704 + (y 2).val = 2816 + (1 * 704 + (x 2).val); omega)]
      exact congrArg (fun r => a.dup (row t r) (col4 1 (x 2))) (Fin.ext hx1.symm)
    · rw [eq_ix3 x]; refine (FfnKernel.dgate1 B _ _ _).trans (congrArg _ ?_)
      rw [a.dgu_gate (row t (y 1)) _ (col4 1 (x 2)) (by show (y 0).val * 704 + (y 2).val = 1 * 704 + (x 2).val; omega)]
      exact congrArg (fun r => a.dgate (row t r) (col4 1 (x 2))) (Fin.ext hx1.symm)
    · rw [eq_ix3 x]; refine (FfnKernel.dup0 B _ _ _).trans (congrArg _ ?_)
      rw [a.dgu_up (row t (y 1)) _ (col4 0 (x 2)) (by show (y 0).val * 704 + (y 2).val = 2816 + (0 * 704 + (x 2).val); omega)]
      exact congrArg (fun r => a.dup (row t r) (col4 0 (x 2))) (Fin.ext hx1.symm)
    · rw [eq_ix3 x]; refine (FfnKernel.dgate0 B _ _ _).trans (congrArg _ ?_)
      rw [a.dgu_gate (row t (y 1)) _ (col4 0 (x 2)) (by show (y 0).val * 704 + (y 2).val = 0 * 704 + (x 2).val; omega)]
      exact congrArg (fun r => a.dgate (row t r) (col4 0 (x 2))) (Fin.ext hx1.symm)
  · rw [outsAt0_B m c t h (by omega)]; dsimp only; frame_out
    canon_tiles x hx
    · rw [eq_ix3 x]; refine (FfnKernel.dup3 B _ _ _).trans (congrArg _ ?_)
      rw [a.dgu_up (row t (y 1)) _ (col4 3 (x 2)) (by show (y 0).val * 704 + (y 2).val = 2816 + (3 * 704 + (x 2).val); omega)]
      exact congrArg (fun r => a.dup (row t r) (col4 3 (x 2))) (Fin.ext hx1.symm)
    · rw [eq_ix3 x]; refine (FfnKernel.dgate3 B _ _ _).trans (congrArg _ ?_)
      rw [a.dgu_gate (row t (y 1)) _ (col4 3 (x 2)) (by show (y 0).val * 704 + (y 2).val = 3 * 704 + (x 2).val; omega)]
      exact congrArg (fun r => a.dgate (row t r) (col4 3 (x 2))) (Fin.ext hx1.symm)
    · rw [eq_ix3 x]; refine (FfnKernel.dup2 B _ _ _).trans (congrArg _ ?_)
      rw [a.dgu_up (row t (y 1)) _ (col4 2 (x 2)) (by show (y 0).val * 704 + (y 2).val = 2816 + (2 * 704 + (x 2).val); omega)]
      exact congrArg (fun r => a.dup (row t r) (col4 2 (x 2))) (Fin.ext hx1.symm)
    · rw [eq_ix3 x]; refine (FfnKernel.dgate2 B _ _ _).trans (congrArg _ ?_)
      rw [a.dgu_gate (row t (y 1)) _ (col4 2 (x 2)) (by show (y 0).val * 704 + (y 2).val = 2 * 704 + (x 2).val; omega)]
      exact congrArg (fun r => a.dgate (row t r) (col4 2 (x 2))) (Fin.ext hx1.symm)
    · rw [eq_ix3 x]; refine (FfnKernel.dup1 B _ _ _).trans (congrArg _ ?_)
      rw [a.dgu_up (row t (y 1)) _ (col4 1 (x 2)) (by show (y 0).val * 704 + (y 2).val = 2816 + (1 * 704 + (x 2).val); omega)]
      exact congrArg (fun r => a.dup (row t r) (col4 1 (x 2))) (Fin.ext hx1.symm)
    · rw [eq_ix3 x]; refine (FfnKernel.dgate1 B _ _ _).trans (congrArg _ ?_)
      rw [a.dgu_gate (row t (y 1)) _ (col4 1 (x 2)) (by show (y 0).val * 704 + (y 2).val = 1 * 704 + (x 2).val; omega)]
      exact congrArg (fun r => a.dgate (row t r) (col4 1 (x 2))) (Fin.ext hx1.symm)
    · rw [eq_ix3 x]; refine (FfnKernel.dup0 B _ _ _).trans (congrArg _ ?_)
      rw [a.dgu_up (row t (y 1)) _ (col4 0 (x 2)) (by show (y 0).val * 704 + (y 2).val = 2816 + (0 * 704 + (x 2).val); omega)]
      exact congrArg (fun r => a.dup (row t r) (col4 0 (x 2))) (Fin.ext hx1.symm)
    · rw [eq_ix3 x]; refine (FfnKernel.dgate0 B _ _ _).trans (congrArg _ ?_)
      rw [a.dgu_gate (row t (y 1)) _ (col4 0 (x 2)) (by show (y 0).val * 704 + (y 2).val = 0 * 704 + (x 2).val; omega)]
      exact congrArg (fun r => a.dgate (row t r) (col4 0 (x 2))) (Fin.ext hx1.symm)

/-- The normalised input. -/
theorem outs12 (t : Fin cfg0.N) (y : S256x1024.Idx) : (outsAt0 m c t.val t.isLt).2.2.2.2.1 y = ((a.h (row t (y 0)) (y 1) : ℝ) : EReal) := by
  have hN : cfg0.N = 16 := rfl
  have B := block H t
  by_cases h : t.val % 16 = 0
  · rw [outsAt0_A m c t h (by omega)]; dsimp only; frame_out
    rw [eq_ix2 y]; exact FfnKernel.h B _ _
  · rw [outsAt0_B m c t h (by omega)]; dsimp only; frame_out
    rw [eq_ix2 y]; exact FfnKernel.h B _ _

theorem final8 : (dats m 0 c).arrAt 8 (cfgs 0).N = dxArr a := by
  refine (dats m 0 c).arrAt_eq_of_covers 8 _ (by decide +kernel) fun t hf y => ?_
  blk_simp; rw [after0_8]
  rw [outs8 H t]
  obtain ⟨-, -, -, -, -, -, -, -, e8, e9, e10, e11, e12, -⟩ := idx t
  have h : ((cfg0.win 8).blk t).view.emb y = (ix2 (row t (y 0)) (y 1) : S4096x1024.Idx) := by blk_ext [e8]
  exact congrArg (dxArr a) h.symm

theorem final9 : (dats m 0 c).arrAt 9 (cfgs 0).N = dfArr a := by
  refine (dats m 0 c).arrAt_eq_of_covers 9 _ (by decide +kernel) fun t hf y => ?_
  blk_simp; rw [after0_9]
  rw [outs9 H t]
  obtain ⟨-, -, -, -, -, -, -, -, e8, e9, e10, e11, e12, -⟩ := idx t
  have h : ((cfg0.win 9).blk t).view.emb y = (ix2 (row t (y 0)) (y 1) : S4096x1024.Idx) := by blk_ext [e9]
  exact congrArg (dfArr a) h.symm

theorem final10 : (dats m 0 c).arrAt 10 (cfgs 0).N = actArr a := by
  refine (dats m 0 c).arrAt_eq_of_covers 10 _ (by decide +kernel) fun t hf y => ?_
  blk_simp; rw [after0_10]
  rw [outs10 H t]
  obtain ⟨-, -, -, -, -, -, -, -, e8, e9, e10, e11, e12, -⟩ := idx t
  have h : ((cfg0.win 10).blk t).view.emb y = (ix3 (y 0) (row t (y 1)) (y 2) : S4x4096x704.Idx) := by blk_ext [e10]
  exact congrArg (actArr a) h.symm

theorem final11 : (dats m 0 c).arrAt 11 (cfgs 0).N = dguArr a := by
  refine (dats m 0 c).arrAt_eq_of_covers 11 _ (by decide +kernel) fun t hf y => ?_
  blk_simp; rw [after0_11]
  rw [outs11 H t]
  obtain ⟨-, -, -, -, -, -, -, -, e8, e9, e10, e11, e12, -⟩ := idx t
  have h : ((cfg0.win 11).blk t).view.emb y = (ix3 (y 0) (row t (y 1)) (y 2) : S8x4096x704.Idx) := by blk_ext [e11]
  exact congrArg (dguArr a) h.symm

theorem final12 : (dats m 0 c).arrAt 12 (cfgs 0).N = hArr a := by
  refine (dats m 0 c).arrAt_eq_of_covers 12 _ (by decide +kernel) fun t hf y => ?_
  blk_simp; rw [after0_12]
  rw [outs12 H t]
  obtain ⟨-, -, -, -, -, -, -, -, e8, e9, e10, e11, e12, -⟩ := idx t
  have h : ((cfg0.win 12).blk t).view.emb y = (ix2 (row t (y 0)) (y 1) : S4096x1024.Idx) := by blk_ext [e12]
  exact congrArg (hArr a) h.symm

theorem final13 : (dats m 0 c).arrAt 13 (cfgs 0).N = dqArr a := by
  refine (dats m 0 c).arrAt_eq_of_after_last 13 t0_15 (by decide +kernel) _ fun j => ?_
  blk_simp
  have hN : cfg0.N = 16 := rfl
  rw [after0_13, Pipeline.eq_sum_fin_of_reset_step_apply_last (fun n h => (outsAt0 m c n h).2.2.2.2.2.1) 16 (fun _ => 0)
    (fun t (j : S1x1024.Idx) => ((∑ r, a.dy (row t r) (j 1) * (a.f (row t r) (j 1) * rs (a.f (row t r))) : ℝ) : EReal))
    (fun t h j => by
      rw [outsAt0_A m c t h (by omega)]; dsimp only; frame_out
      rw [zero_add, eq_ix2 j]; exact FfnKernel.dq (block H t) _ _)
    (fun t h j => by
      rw [outsAt0_B m c t h (by omega)]; dsimp only; frame_out
      rw [eq_ix2 j]; exact FfnKernel.dq_add (block H t) _ _ _)
    (le_of_eq N_0) t0_15 rfl j, zero_add, coe_sum]
  exact congrArg _ ((Fin.sum_univ_tiles 16 256 rfl fun t => a.dy t (j 1) * (a.f t (j 1) * rs (a.f t))).symm.trans (a.dq_eq (j 1)).symm)

theorem final14 : (dats m 0 c).arrAt 14 (cfgs 0).N = dgArr a := by
  refine (dats m 0 c).arrAt_eq_of_after_last 14 t0_15 (by decide +kernel) _ fun j => ?_
  blk_simp
  have hN : cfg0.N = 16 := rfl
  rw [after0_14, Pipeline.eq_sum_fin_of_reset_step_apply_last (fun n h => (outsAt0 m c n h).2.2.2.2.2.2) 16 (fun _ => 0)
    (fun t (j : S1x1024.Idx) => ((∑ r, a.dh (row t r) (j 1) * (a.x (row t r) (j 1) * rs (a.x (row t r))) : ℝ) : EReal))
    (fun t h j => by
      rw [outsAt0_A m c t h (by omega)]; dsimp only; frame_out
      rw [zero_add, eq_ix2 j]; exact FfnKernel.dg (block H t) (FfnKernel.dh (block H t)) _ _)
    (fun t h j => by
      rw [outsAt0_B m c t h (by omega)]; dsimp only; frame_out
      rw [eq_ix2 j]; exact FfnKernel.dg_add (block H t) (FfnKernel.dh (block H t)) _ _ _)
    (le_of_eq N_0) t0_15 rfl j, zero_add, coe_sum]
  exact congrArg _ ((Fin.sum_univ_tiles 16 256 rfl fun t => a.dh t (j 1) * (a.x t (j 1) * rs (a.x t))).symm.trans (a.dg_eq (j 1)).symm)

end

end Cert.FfnFinal
-- ==== Proof.Finite.lean ====
/- What a precondition of finite arguments gives: an array all of whose entries are below infinity in absolute
   value holds real numbers. -/
module

public import Idealize.ShloMosaic.Lib.ReduceAll
public import Idealize.ShloMosaic.Lib.WordArith
public import Idealize.ShloMosaic.Lib.Pipeline.ValueKit
public import proofs.«01_k».proof.Proof.Lift

@[expose] public section

noncomputable section

open Idealize.ShloMosaic

namespace Cert.Step

theorem bits_inf : Ideal.ofBits .f32 0x7F800000#32 = ⊤ := by simp [Ideal.ofBits, Ideal.ieee]

/-- An extended real below infinity in absolute value is real. -/
theorem real_of_abs_lt (x : EReal) (h : max x (-x) < ⊤) : x = ((x.toReal : ℝ) : EReal) := by
  refine (EReal.coe_toReal ?_ ?_).symm
  · rintro rfl; simp at h
  · rintro rfl; simp at h

/-- An entry of an array that compares below infinity in absolute value is its own real part. -/
theorem real_of_lt {s : Shape} (hb : (⟨0, ![]⟩ : Shape).BroadcastsInDim s (![] : Fin 0 → Fin s.rank)) (x : FVec Ideal s .f32)
    (i : s.Idx)
    (h : cmpf .olt (Host.absf x) (broadcastInDim s ![] hb (constant ⟨0, ![]⟩ .f32 0x7F800000#32)) i = 1#1) :
    x i = (((x i : EReal).toReal : ℝ) : EReal) := by
  refine real_of_abs_lt _ (of_decide_eq_true ?_)
  have h2 : BitVec.ofBool (decide (max (x i : EReal) (-(x i : EReal)) < (⊤ : EReal))) = 1#1 := by
    rw [← h, ← bits_inf]; pointwise; rfl
  revert h2; cases decide (max (x i : EReal) (-(x i : EReal)) < (⊤ : EReal)) <;> decide

/-- The whole array, when the conjunction of those comparisons holds. -/
theorem real_of_all {s t u : Shape} [Subsingleton t.Idx] {dims : List (Fin s.rank)}
    (hb : (⟨0, ![]⟩ : Shape).BroadcastsInDim s (![] : Fin 0 → Fin s.rank)) (x : FVec Ideal s .f32) (init : IVec u 1)
    (hr : s.ReducesTo dims t) (hu : 0 < u.numel) (j : t.Idx)
    (h : Host.reduce IntOp.andi (cmpf .olt (Host.absf x) (broadcastInDim s ![] hb (constant ⟨0, ![]⟩ .f32 0x7F800000#32)))
      init hr hu j = 1#1) (i : s.Idx) : x i = (((x i : EReal).toReal : ℝ) : EReal) :=
  real_of_lt hb x i (Host.reduce_andi_all _ init hr hu j h i)

/-- A conjunction of two bits holds where both do. -/
theorem and_bits {x y : BitVec 1} (h : IntOp.andi x y = 1#1) : x = 1#1 ∧ y = 1#1 := by
  revert x y; decide

end Cert.Step
-- ==== Proof.FfnPre.lean ====
/- The precondition of the feed-forward gradient makes its arguments real arrays. -/
module

public import proofs.«01_k».proof.Pre_ffn_finite
public import proofs.«01_k».proof.Proof.Finite
public import proofs.«01_k».proof.Proof.FfnRef

@[expose] public section

noncomputable section

open Idealize.ShloMosaic Idealize.ShloMosaic.TcCoe Idealize.SL.Sem

namespace Cert.FfnPre
open Cert.Step Cert.FfnRef

/-- The side conditions the predicate states. -/
theorem facts : Cert.Pre_ffn_finite.Facts where
  bcast_S_S4096x1024 := by decide
  reducesTo_S4096x1024_S_d0_1 := by decide
  h_S_ := by decide
  bcast_S_S1024 := by decide
  reducesTo_S1024_S_d0 := by decide
  bcast_S_S1024x5632 := by decide
  reducesTo_S1024x5632_S_d0_1 := by decide
  bcast_S_S2816x1024 := by decide
  reducesTo_S2816x1024_S_d0_1 := by decide

instance : Subsingleton Cert.Pre_ffn_finite.S_.Idx := ⟨fun _ _ => funext fun k => k.elim0⟩

/-- The real parts of the arguments. -/
def reals (x0 : Arr Cert.FfnGradIdeal.S4096x1024) (x1 : Arr Cert.FfnGradIdeal.S1024) (x2 : Arr Cert.FfnGradIdeal.S1024x5632)
    (x3 : Arr Cert.FfnGradIdeal.S2816x1024) (x4 : Arr Cert.FfnGradIdeal.S1024) (x5 : Arr Cert.FfnGradIdeal.S4096x1024) : Ffn where
  x t d := (x0 (ix2 t d) : EReal).toReal
  g d := (x1 (ix1 d) : EReal).toReal
  wu d n := (x2 (ix2 d n) : EReal).toReal
  wd n d := (x3 (ix2 n d) : EReal).toReal
  q d := (x4 (ix1 d) : EReal).toReal
  dy t d := (x5 (ix2 t d) : EReal).toReal

/-- Under the precondition the arguments are their real parts. -/
theorem lifts [Cert.Pre_ffn_finite.Facts] (x0 : Arr Cert.FfnGradIdeal.S4096x1024) (x1 : Arr Cert.FfnGradIdeal.S1024)
    (x2 : Arr Cert.FfnGradIdeal.S1024x5632) (x3 : Arr Cert.FfnGradIdeal.S2816x1024) (x4 : Arr Cert.FfnGradIdeal.S1024)
    (x5 : Arr Cert.FfnGradIdeal.S4096x1024) (j : Cert.Pre_ffn_finite.S_.Idx)
    (h : Cert.Pre_ffn_finite.fn (F := Ideal) x0 x1 x2 x3 x4 x5 j = 1#1) : Lifts (reals x0 x1 x2 x3 x4 x5) x0 x1 x2 x3 x4 x5 := by
  dsimp only [Cert.Pre_ffn_finite.fn, Cert.Pre_ffn_finite.fn_part1] at h
  obtain ⟨h, h5⟩ := and_bits h
  obtain ⟨h, h4⟩ := and_bits h
  obtain ⟨h, h3⟩ := and_bits h
  obtain ⟨h, h2⟩ := and_bits h
  obtain ⟨h0, h1⟩ := and_bits h
  exact ⟨fun t d => real_of_all _ x0 _ _ _ j h0 _, fun d => real_of_all _ x1 _ _ _ j h1 _, fun d n => real_of_all _ x2 _ _ _ j h2 _,
    fun n d => real_of_all _ x3 _ _ _ j h3 _, fun d => real_of_all _ x4 _ _ _ j h4 _, fun t d => real_of_all _ x5 _ _ _ j h5 _⟩

end Cert.FfnPre
-- ==== Proof.FfnClaim.lean ====
/- The feed-forward gradient: kernel and reference leave the same seven arrays. -/
module

public import proofs.«01_k».proof.Defs
public import proofs.«01_k».proof.Proof.Gen.FfnGradIdeal.Run
public import proofs.«01_k».proof.Proof.FfnFinal
public import proofs.«01_k».proof.Proof.FfnPre

@[expose] public section

noncomputable section

open Idealize.ShloMosaic Idealize.ShloMosaic.TcCoe Idealize.SL.Sem

namespace Cert.FfnClaim
open Cert.FfnGradIdeal Cert.FfnGradIdeal.Gen Cert.FfnGradIdeal.Read Cert.Step Cert.FfnRef
open Cert.FfnFinal (dxArr dfArr actArr dguArr hArr dqArr dgArr)

section Reference
attribute [local irreducible] Ffn.dx Ffn.df Ffn.act Ffn.dgu Ffn.h Ffn.dq Ffn.dg
variable {a : Ffn} {x0 : Arr S4096x1024} {x1 : Arr S1024} {x2 : Arr S1024x5632} {x3 : Arr S2816x1024}
  {x4 : Arr S1024} {x5 : Arr S4096x1024} (H : Lifts a x0 x1 x2 x3 x4 x5)
include H

theorem ref_dx : val_main_v86 (F := Ideal) x0 x1 x2 x3 x4 x5 = dxArr a := by
  funext i; rw [eq_ix2 i]; exact FfnRef.dx H _ _

theorem ref_df : val_main_v87 (F := Ideal) x0 x1 x2 x3 x4 x5 = dfArr a := by
  funext i; rw [eq_ix2 i]; exact FfnRef.df H (i 0) (i 1)

theorem ref_act : val_main_v90 (F := Ideal) x0 x1 x2 = actArr a := by
  funext i; rw [eq_ix3 i]; pointwise [val_main_v90, val_main_v89, val_main_v88]; exact FfnRef.act H _ _

theorem ref_dgu : val_main_v93 (F := Ideal) x0 x1 x2 x3 x4 x5 = dguArr a := by
  funext i; rw [eq_ix3 i]; pointwise [val_main_v93, val_main_v92, val_main_v91]; exact FfnRef.dgu H _ _

theorem ref_h : val_main_v94 (F := Ideal) x0 x1 = hArr a := by
  funext i; rw [eq_ix2 i]; exact FfnRef.h H (i 0) (i 1)

theorem ref_dq : val_main_v95 (F := Ideal) x0 x1 x2 x3 x5 = dqArr a := by
  funext i; rw [eq_ix2 i]; exact FfnRef.dq H _ _

theorem ref_dg : val_main_v96 (F := Ideal) x0 x1 x2 x3 x4 x5 = dgArr a := by
  funext i; rw [eq_ix2 i]; exact FfnRef.dg H _ _

end Reference

attribute [local instance] Cert.FfnBwdIdeal.Gen.facts Cert.FfnGradIdeal.Gen.facts FfnPre.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run _ _ _).mono (fun r h => ⟨fun c => (h c).2.2.2.2.2.2.2, sem_eq_zero_of_no_sems (by decide) r.2⟩)
    (Cert.FfnGradIdeal.Value.run m g)

/-- The kernel's seven results are the reference's. -/
theorem algebraic : Cert.algebraic_FfnBwdIdeal_FfnGradIdeal_pre_ffn_finite := by
  intro m g m' g' pre agree
  obtain ⟨A, H⟩ : ∃ A : Dev Cert.FfnBwdIdeal.nD → Ffn, ∀ c, Cert.FfnBlock.Given m (A c) c :=
    ⟨_, fun c => FfnPre.lifts _ _ _ _ _ _ (fun k => k.elim0) (congrFun (pre c) _)⟩
  refine ⟨fun c => dxArr (A c), fun c => dfArr (A c), fun c => actArr (A c), fun c => dguArr (A c), fun c => hArr (A c),
    fun c => dqArr (A c), fun c => dgArr (A c), ?_, ?_⟩
  · refine (θ_run _ _ _).mono (fun r h c => ?_) (Cert.FfnBwdIdeal.Value.run_blocks m g)
    obtain ⟨h8, h9, h10, h11, h12, h13, h14, h⟩ := h c
    exact ⟨h8.trans (FfnFinal.final8 (H c)), h9.trans (FfnFinal.final9 (H c)), h10.trans (FfnFinal.final10 (H c)),
      h11.trans (FfnFinal.final11 (H c)), h12.trans (FfnFinal.final12 (H c)), h13.trans (FfnFinal.final13 (H c)),
      h14.trans (FfnFinal.final14 (H c)), h⟩
  · refine (θ_run _ _ _).mono (fun r h c => ?_) (Cert.FfnGradIdeal.Value.run m' g')
    obtain ⟨h0, h1, h2, h3, h4, h5, h6, h⟩ := h c
    obtain ⟨e0, e1, e2, e3, e4, e5⟩ := agree c
    have R := H c
    rw [FfnBlock.Given, ← e0, ← e1, ← e2, ← e3, ← e4, ← e5] at R
    exact ⟨(h0.trans (val_main_v86_eq _)).trans (ref_dx R), (h1.trans (val_main_v87_eq _)).trans (ref_df R),
      (h2.trans (val_main_v90_eq _)).trans (ref_act R), (h3.trans (val_main_v93_eq _)).trans (ref_dgu R),
      (h4.trans (val_main_v94_eq _)).trans (ref_h R), (h5.trans (val_main_v95_eq _)).trans (ref_dq R),
      (h6.trans (val_main_v96_eq _)).trans (ref_dg R), h⟩

end Cert.FfnClaim
-- ==== Proof.Extended.lean ====
/- Facts about extended reals that the forward calls need: the constants they print, and that a finite nonnegative
   factor moves out of a sum. No value has to be finite for them. -/
module

public import proofs.«01_k».proof.Proof.Lift

@[expose] public section

noncomputable section

open Idealize.ShloMosaic

namespace Cert.Step

theorem bits_half : Ideal.ofBits .f32 1056964608#32 = ((1 / 2 : ℝ) : EReal) := by
  simp [Ideal.ofBits, Ideal.ieee]; rw [← EReal.coe_mul]; norm_num

theorem bits_two : Ideal.ofBits .f32 1073741824#32 = ((2 : ℝ) : EReal) := by
  simp [Ideal.ofBits, Ideal.ieee]; rw [← EReal.coe_mul]; norm_num

theorem bits_inv_1024 : Ideal.ofBits .f32 981467136#32 = ((1 / 1024 : ℝ) : EReal) := by
  simp [Ideal.ofBits, Ideal.ieee]; rw [← EReal.coe_mul]; norm_num

theorem bits_inv_2048 : Ideal.ofBits .f32 973078528#32 = ((1 / 2048 : ℝ) : EReal) := by
  simp [Ideal.ofBits, Ideal.ieee]; rw [← EReal.coe_mul]; norm_num

/-- Dividing by 1024 multiplies with its reciprocal. -/
theorem div_1024_eq (x : EReal) : Ideal.div x ((1024 : ℝ) : EReal) = x * ((1 / 1024 : ℝ) : EReal) :=
  Ideal.div_coe (by norm_num) x

/-- A finite nonnegative factor moves out of a sum. -/
theorem sum_mul_coe {ι : Type} (s : Finset ι) (f : ι → EReal) {c : ℝ} (hc : 0 ≤ c) :
    ∑ k ∈ s, f k * (c : EReal) = (∑ k ∈ s, f k) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

end Cert.Step
-- ==== Proof.FfnFwdRef.lean ====
/- The stages of the feed-forward sublayer and of the loss as the reference states them, index by index. -/
module

public import proofs.«01_k».proof.Proof.Gen.FfnLossIdeal.Read
public import proofs.«01_k».proof.Proof.Extended

@[expose] public section

set_option maxRecDepth 16384

noncomputable section

open Idealize.ShloMosaic Idealize.SL.Sem

namespace Cert.FfnFwdStep
open Cert.FfnLossIdeal Cert.FfnLossIdeal.Read Cert.Step

abbrev Arr (s : Shape) := BufTy.Contents (Elt Ideal) ⟨s, .f32⟩

/-- Column `n` of the gate, and of the up projection. -/
abbrev lo (n : Fin 2816) : Fin 5632 := ⟨n, by omega⟩
abbrev hi (n : Fin 2816) : Fin 5632 := ⟨2816 + n, by omega⟩

/-- The gated unit. -/
abbrev gated (g u : EReal) : EReal := g * Ideal.logistic g * u

variable (x : Arr S4096x1024) (g : Arr S1024) (wu : Arr S1024x5632) (wd : Arr S2816x1024) (q : Arr S1024) (y : Arr S4096x1024)

/-- The normalised input. -/
abbrev h (t : Fin 4096) (d : Fin 1024) : EReal := val_main_v12 (F := Ideal) x g (ix2 t d)
/-- The two projections. -/
abbrev gu (t : Fin 4096) (n : Fin 5632) : EReal := val_main_v13 (F := Ideal) x g wu (ix2 t n)
/-- The down projection. -/
abbrev f (t : Fin 4096) (d : Fin 1024) : EReal := val_main_v18 (F := Ideal) x g wu wd (ix2 t d)
/-- The sublayer's output less the target. -/
abbrev err (t : Fin 4096) (d : Fin 1024) : EReal := val_main_v33 (F := Ideal) x g wu wd q y (ix2 t d)

theorem ref_h (t d) : h x g t d = x (ix2 t d) * Ideal.rsqrt (Ideal.div (∑ k : Fin 1024, x (ix2 t k) * x (ix2 t k))
    (Ideal.ofBits .f32 1149239296#32) + Ideal.ofBits .f32 897988541#32) * g (ix1 d) := by
  unfold h
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem ref_gu (t n) : gu x g wu t n = ∑ d : Fin 1024, h x g t d * wu (ix2 d n) := by
  unfold h gu
  pointwise [val_main_v13]

theorem ref_act (t : Fin 4096) (n : Fin 2816) :
    val_main_v17 (F := Ideal) x g wu (ix2 t n) = gated (gu x g wu t (lo n)) (gu x g wu t (hi n)) := by
  pointwise [val_main_v17, val_main_v16, val_main_call0_v5, val_main_call0_v4, val_main_call0_v3, val_main_call0_v2, val_main_call0_v1, val_main_call0_v0,
    val_main_call0_cst, val_main_call0_cst_0, val_main_v14, val_main_v15]
  rfl

theorem ref_f (t d) : f x g wu wd t d
    = ∑ n : Fin 2816, gated (gu x g wu t (lo n)) (gu x g wu t (hi n)) * wd (ix2 n d) := by
  unfold f
  pointwise [val_main_v18]
  simp only [ref_act]

theorem ref_err (t d) : err x g wu wd q y t d = x (ix2 t d) + f x g wu wd t d
      * Ideal.rsqrt (Ideal.div (∑ k : Fin 1024, f x g wu wd t k * f x g wu wd t k) (Ideal.ofBits .f32 1149239296#32)
        + Ideal.ofBits .f32 897988541#32) * q (ix1 d) - y (ix2 t d) := by
  unfold f err
  pointwise [val_main_v33, val_main_v32, val_main_v31, val_main_v30, val_main_v29, val_main_v28, val_main_v27, val_main_v26,
    val_main_v25, val_main_v24, val_main_v23, val_main_v22, val_main_v21, val_main_v20, val_main_v19, val_main_cst_2,
    val_main_cst_3, val_main_cst_4]

/-- The gradient of the loss at the sublayer's output. -/
theorem ref_dx2 (t d) : val_main_v47 (F := Ideal) x g wu wd q y (ix2 t d) = err x g wu wd q y t d * ((1 / 1024 : ℝ) : EReal) := by
  pointwise [val_main_v47, val_main_v46, val_main_v45, val_main_v44, val_main_v43, val_main_v42, val_main_v36, val_main_v35,
    val_main_cst_5, val_main_cst_10, val_main_cst_11, val_main_cst_12]
  simp only [bits_half, bits_two, bits_1024, div_1024_eq]
  rw [mul_comm, mul_comm ((2 : ℝ) : EReal), mul_assoc, ← EReal.coe_mul, ← EReal.coe_mul]
  norm_num

/-- The two projections in column blocks. -/
theorem ref_blocks (k : Fin 8) (t : Fin 4096) (j : Fin 704) :
    val_main_v50 (F := Ideal) x g wu (ix3 k t j) = gu x g wu t ⟨k * 704 + j, by omega⟩ := by
  pointwise [val_main_v50, val_main_v49, val_main_v48]

/-- The loss. -/
theorem ref_loss (o o' : Fin 1) : val_main_v51 (F := Ideal) x g wu wd q y (ix2 o o')
    = (∑ d : Fin 1024, ∑ t : Fin 4096, err x g wu wd q y t d * err x g wu wd q y t d) * ((1 / 2048 : ℝ) : EReal) := by
  pointwise [val_main_v51, val_main_v41, val_main_v40, val_main_v39, val_main_v38, val_main_v37, val_main_v34, val_main_cst_6,
    val_main_cst_7, val_main_cst_8, val_main_cst_9]
  simp only [bits_half, bits_1024, div_1024_eq]
  rw [sum_mul_coe _ _ (by norm_num), mul_comm, mul_assoc, ← EReal.coe_mul, Finset.sum_comm]
  norm_num

end Cert.FfnFwdStep
-- ==== Proof.FfnFwdKernel.lean ====
/- What one grid point of the feed-forward forward call computes: each of its payloads is the reference's stage on
   the point's rows. The projections go in eight column blocks, and the down projection adds up four. -/
module

public import proofs.«01_k».proof.Proof.Gen.FfnFwdIdeal.Value
public import Idealize.ShloMosaic.Lib.Pipeline.ValueKit
public import proofs.«01_k».proof.Proof.FfnFwdRef

@[expose] public section

set_option maxRecDepth 16384
set_option maxHeartbeats 1600000

noncomputable section

open Idealize.ShloMosaic Idealize.SL.Sem

namespace Cert.FfnFwdStep
open Cert.FfnFwdIdeal Cert.FfnFwdIdeal.Gen Cert.Step

/-- Column `k·704 + j` of the 5632, and of the 2816. -/
abbrev col8 (k : Fin 8) (j : Fin 704) : Fin 5632 := ⟨k * 704 + j, by omega⟩
abbrev col4 (k : Fin 4) (j : Fin 704) : Fin 2816 := ⟨k * 704 + j, by omega⟩

/-- The input blocks of a grid point are the rows `row` of the arguments, and the whole weights. -/
structure Block (x : Arr S4096x1024) (g : Arr S1024) (wu : Arr S1024x5632) (wd : Arr S2816x1024) (q : Arr S1024)
    (y : Arr S4096x1024) (row : Fin 512 → Fin 4096) (x0 : Vec Ideal S512x1024 .f32) (x1 : Vec Ideal S1x1024 .f32)
    (x2 : Vec Ideal S8x704x1024 .bf16) (x3 : Vec Ideal S2816x1024 .bf16) (x4 : Vec Ideal S1x1024 .f32)
    (x5 : Vec Ideal S512x1024 .f32) : Prop where
  x : ∀ r d, x0 (ix2 r d) = x (ix2 (row r) d)
  g : ∀ o d, x1 (ix2 o d) = g (ix1 d)
  wu : ∀ k j d, x2 (ix3 k j d) = wu (ix2 d (col8 k j))
  wd : ∀ n d, x3 (ix2 n d) = wd (ix2 n d)
  q : ∀ o d, x4 (ix2 o d) = q (ix1 d)
  y : ∀ r d, x5 (ix2 r d) = y (ix2 (row r) d)

variable {x : Arr S4096x1024} {g : Arr S1024} {wu : Arr S1024x5632} {wd : Arr S2816x1024} {q : Arr S1024} {y : Arr S4096x1024}
  {row : Fin 512 → Fin 4096} {x0 : Vec Ideal S512x1024 .f32} {x1 : Vec Ideal S1x1024 .f32} {x2 : Vec Ideal S8x704x1024 .bf16}
  {x3 : Vec Ideal S2816x1024 .bf16} {x4 : Vec Ideal S1x1024 .f32} {x5 : Vec Ideal S512x1024 .f32}
  (H : Block x g wu wd q y row x0 x1 x2 x3 x4 x5)

/-! ## The projections -/

section
include H

/-- The normalised input. -/
theorem pay_h (r : Fin 512) (d : Fin 1024) : k0_pay3 x0 x1 (ix2 r d) = h x g (row r) d := by
  rw [ref_h]
  pointwise [k0_pay3]
  simp only [H.x, H.g]

variable {w : Vec Ideal S1x704x1024 .bf16} {k : Fin 8} (hw : ∀ o j d, w (ix3 o j d) = wu (ix2 d (col8 k j)))
include hw

theorem proj5 (r j) : k0_pay5 x0 x1 w (ix2 r j) = gu x g wu (row r) (col8 k j) := by
  rw [ref_gu]; pointwise [k0_pay5]; simp only [pay_h H, hw]

theorem proj6 (r j) : k0_pay6 x0 x1 w (ix2 r j) = gu x g wu (row r) (col8 k j) := by
  rw [ref_gu]; pointwise [k0_pay6]; simp only [pay_h H, hw]

theorem proj7 (r j) : k0_pay7 x0 x1 w (ix2 r j) = gu x g wu (row r) (col8 k j) := by
  rw [ref_gu]; pointwise [k0_pay7]; simp only [pay_h H, hw]

theorem proj8 (r j) : k0_pay8 x0 x1 w (ix2 r j) = gu x g wu (row r) (col8 k j) := by
  rw [ref_gu]; pointwise [k0_pay8]; simp only [pay_h H, hw]

theorem proj13 (r j) : k0_pay13 (k0_pay3 x0 x1) w (ix2 r j) = gu x g wu (row r) (col8 k j) := by
  rw [ref_gu]; pointwise [k0_pay13]; simp only [pay_h H, hw]

theorem proj14 (r j) : k0_pay14 (k0_pay3 x0 x1) w (ix2 r j) = gu x g wu (row r) (col8 k j) := by
  rw [ref_gu]; pointwise [k0_pay14]; simp only [pay_h H, hw]

theorem proj19 (r j) : k0_pay19 (k0_pay3 x0 x1) w (ix2 r j) = gu x g wu (row r) (col8 k j) := by
  rw [ref_gu]; pointwise [k0_pay19]; simp only [pay_h H, hw]

theorem proj20 (r j) : k0_pay20 (k0_pay3 x0 x1) w (ix2 r j) = gu x g wu (row r) (col8 k j) := by
  rw [ref_gu]; pointwise [k0_pay20]; simp only [pay_h H, hw]

end

/-! ## The down projection -/

/-- Column block `k`'s part of the down projection. -/
def part (x : Arr S4096x1024) (g : Arr S1024) (wu : Arr S1024x5632) (wd : Arr S2816x1024) (k : Fin 4) (t : Fin 4096) (d : Fin 1024) : EReal :=
  ∑ j : Fin 704, gated (gu x g wu t (lo (col4 k j))) (gu x g wu t (hi (col4 k j))) * wd (ix2 (col4 k j) d)

theorem f_parts (t d) : f x g wu wd t d = 0 + part x g wu wd 0 t d + part x g wu wd 1 t d + part x g wu wd 2 t d + part x g wu wd 3 t d := by
  rw [ref_f, Fin.sum_univ_tiles 4 704 rfl, Fin.sum_univ_four, zero_add]; rfl

section
variable {k : Fin 4} {v u : FVec Ideal S512x704 .f32} {e : Vec Ideal S704x1024 .bf16}
  (hv : ∀ r j, v (ix2 r j) = gu x g wu (row r) (lo (col4 k j))) (hu : ∀ r j, u (ix2 r j) = gu x g wu (row r) (hi (col4 k j)))
  (he : ∀ j d, e (ix2 j d) = wd (ix2 (col4 k j) d))
include hv hu

theorem step12 (he : ∀ j d, e (ix2 j d) = wd (ix2 (col4 k j) d)) (z : FVec Ideal S512x1024 .f32) (r d) :
    k0_pay12 z v u e (ix2 r d) = z (ix2 r d) + part x g wu wd k (row r) d := by
  pointwise [k0_pay12]; simp only [hv, hu, he]; rfl

theorem step17 (r : Fin 512) (j : Fin 704) :
    k0_pay17 v u (ix2 r j) = gated (gu x g wu (row r) (lo (col4 k j))) (gu x g wu (row r) (hi (col4 k j))) := by
  pointwise [k0_pay17]; simp only [hv, hu]

theorem step23 (he : ∀ j d, e (ix2 j d) = wd (ix2 (col4 k j) d)) {k' : Fin 4} {a : FVec Ideal S512x704 .bf16} {e' : FVec Ideal S704x1024 .bf16}
    (ha : ∀ r j, a (ix2 r j) = gated (gu x g wu (row r) (lo (col4 k' j))) (gu x g wu (row r) (hi (col4 k' j))))
    (he' : ∀ j d, e' (ix2 j d) = wd (ix2 (col4 k' j) d)) (z : FVec Ideal S512x1024 .f32) (r d) :
    k0_pay23 z v u a e' (constant S512x1024 .f32 0x00000000#32) e (ix2 r d)
      = z (ix2 r d) + part x g wu wd k' (row r) d + part x g wu wd k (row r) d := by
  pointwise [k0_pay23]; simp only [hv, hu, he, ha, he']; rfl

theorem step27 (he : ∀ j d, e (ix2 j d) = wd (ix2 (col4 k j) d)) {s : FVec Ideal S512x704 .f32}
    (hs : ∀ r j, s (ix2 r j) = Ideal.logistic (gu x g wu (row r) (lo (col4 k j)))) (z : FVec Ideal S512x1024 .f32) (r d) :
    k0_pay27 v u z s e (ix2 r d) = z (ix2 r d) + part x g wu wd k (row r) d := by
  pointwise [k0_pay27]; simp only [hv, hu, he, hs]; rfl

end

/-! The blocks of the weights that the body reads. -/

abbrev W0 (x2 : Vec Ideal S8x704x1024 .bf16) := View.ld x2 (Rect.unit ![0, 0, 0] ![1, 704, 1024] inb_S8x704x1024_S1x704x1024_0_0_0)
abbrev W1 (x2 : Vec Ideal S8x704x1024 .bf16) := View.ld x2 (Rect.unit ![1, 0, 0] ![1, 704, 1024] inb_S8x704x1024_S1x704x1024_1_0_0)
abbrev W2 (x2 : Vec Ideal S8x704x1024 .bf16) := View.ld x2 (Rect.unit ![2, 0, 0] ![1, 704, 1024] inb_S8x704x1024_S1x704x1024_2_0_0)
abbrev W3 (x2 : Vec Ideal S8x704x1024 .bf16) := View.ld x2 (Rect.unit ![3, 0, 0] ![1, 704, 1024] inb_S8x704x1024_S1x704x1024_3_0_0)
abbrev W4 (x2 : Vec Ideal S8x704x1024 .bf16) := View.ld x2 (Rect.unit ![4, 0, 0] ![1, 704, 1024] inb_S8x704x1024_S1x704x1024_4_0_0)
abbrev W5 (x2 : Vec Ideal S8x704x1024 .bf16) := View.ld x2 (Rect.unit ![5, 0, 0] ![1, 704, 1024] inb_S8x704x1024_S1x704x1024_5_0_0)
abbrev W6 (x2 : Vec Ideal S8x704x1024 .bf16) := View.ld x2 (Rect.unit ![6, 0, 0] ![1, 704, 1024] inb_S8x704x1024_S1x704x1024_6_0_0)
abbrev W7 (x2 : Vec Ideal S8x704x1024 .bf16) := View.ld x2 (Rect.unit ![7, 0, 0] ![1, 704, 1024] inb_S8x704x1024_S1x704x1024_7_0_0)
abbrev D0 (x3 : Vec Ideal S2816x1024 .bf16) := View.ld x3 (Rect.unit ![0, 0] ![704, 1024] inb_S2816x1024_S704x1024_0_0)
abbrev D1 (x3 : Vec Ideal S2816x1024 .bf16) := View.ld x3 (Rect.unit ![704, 0] ![704, 1024] inb_S2816x1024_S704x1024_704_0)
abbrev D2 (x3 : Vec Ideal S2816x1024 .bf16) := View.ld x3 (Rect.unit ![1408, 0] ![704, 1024] inb_S2816x1024_S704x1024_1408_0)
abbrev D3 (x3 : Vec Ideal S2816x1024 .bf16) := View.ld x3 (Rect.unit ![2112, 0] ![704, 1024] inb_S2816x1024_S704x1024_2112_0)

section
include H

theorem w0 (o j d) : W0 x2 (ix3 o j d) = wu (ix2 d (col8 0 j)) := by unfold W0; pointwise; exact H.wu 0 j d
theorem w1 (o j d) : W1 x2 (ix3 o j d) = wu (ix2 d (col8 1 j)) := by unfold W1; pointwise; exact H.wu 1 j d
theorem w2 (o j d) : W2 x2 (ix3 o j d) = wu (ix2 d (col8 2 j)) := by unfold W2; pointwise; exact H.wu 2 j d
theorem w3 (o j d) : W3 x2 (ix3 o j d) = wu (ix2 d (col8 3 j)) := by unfold W3; pointwise; exact H.wu 3 j d
theorem w4 (o j d) : W4 x2 (ix3 o j d) = wu (ix2 d (col8 4 j)) := by unfold W4; pointwise; exact H.wu 4 j d
theorem w5 (o j d) : W5 x2 (ix3 o j d) = wu (ix2 d (col8 5 j)) := by unfold W5; pointwise; exact H.wu 5 j d
theorem w6 (o j d) : W6 x2 (ix3 o j d) = wu (ix2 d (col8 6 j)) := by unfold W6; pointwise; exact H.wu 6 j d
theorem w7 (o j d) : W7 x2 (ix3 o j d) = wu (ix2 d (col8 7 j)) := by unfold W7; pointwise; exact H.wu 7 j d

theorem d0 (j d) : D0 x3 (ix2 j d) = wd (ix2 (col4 0 j) d) := by
  unfold D0; pointwise; exact (H.wd _ d).trans (congrArg (fun n => wd (ix2 n d)) (Fin.ext (by simp)))
theorem d1 (j d) : D1 x3 (ix2 j d) = wd (ix2 (col4 1 j) d) := by
  unfold D1; pointwise; exact (H.wd _ d).trans (congrArg (fun n => wd (ix2 n d)) (Fin.ext (by simp)))
theorem d2 (j d) : D2 x3 (ix2 j d) = wd (ix2 (col4 2 j) d) := by
  unfold D2; pointwise; exact (H.wd _ d).trans (congrArg (fun n => wd (ix2 n d)) (Fin.ext (by simp)))
theorem d3 (j d) : D3 x3 (ix2 j d) = wd (ix2 (col4 3 j) d) := by
  unfold D3; pointwise; exact (H.wd _ d).trans (congrArg (fun n => wd (ix2 n d)) (Fin.ext (by simp)))

end

/-- Block `4 + k` of the projections is block `k` of the second half. -/
theorem col_hi (k : Fin 4) (k' : Fin 8) (hk : k'.val = 4 + k.val) (j : Fin 704) : col8 k' j = hi (col4 k j) :=
  Fin.ext (by simp only [hk]; omega)
theorem col_lo (k : Fin 4) (k' : Fin 8) (hk : k'.val = k.val) (j : Fin 704) : col8 k' j = lo (col4 k j) :=
  Fin.ext (by simp only [hk])

/-! ## The sublayer -/

/-- The first three parts of the down projection, as the body adds them up. -/
abbrev sum3 (x0 : Vec Ideal S512x1024 .f32) (x1 : Vec Ideal S1x1024 .f32) (x2 : Vec Ideal S8x704x1024 .bf16) (x3 : Vec Ideal S2816x1024 .bf16) :=
  k0_pay23 (k0_pay12 k0_pay4 (k0_pay5 x0 x1 (W0 x2)) (k0_pay6 x0 x1 (W4 x2)) (D0 x3)) (k0_pay13 (k0_pay3 x0 x1) (W2 x2)) (k0_pay14 (k0_pay3 x0 x1) (W6 x2))
    (k0_pay17 (k0_pay7 x0 x1 (W1 x2)) (k0_pay8 x0 x1 (W5 x2))) (k0_pay18 (D1 x3)) (constant S512x1024 .f32 0x00000000#32) (D2 x3)

section
include H

theorem sum3_eq (r d) : sum3 x0 x1 x2 x3 (ix2 r d)
    = 0 + part x g wu wd 0 (row r) d + part x g wu wd 1 (row r) d + part x g wu wd 2 (row r) d := by
  refine (step23 (k := 2) (k' := 1) (row := row) (fun r j => (proj13 H (w2 H) r j).trans (congrArg _ (col_lo 2 2 rfl j)))
    (fun r j => (proj14 H (w6 H) r j).trans (congrArg _ (col_hi 2 6 rfl j))) (d2 H)
    (step17 (fun r j => (proj7 H (w1 H) r j).trans (congrArg _ (col_lo 1 1 rfl j)))
      (fun r j => (proj8 H (w5 H) r j).trans (congrArg _ (col_hi 1 5 rfl j))))
    (fun j d => ?_) _ r d).trans ?_
  · pointwise [k0_pay18]; exact d1 H j d
  · rw [step12 (k := 0) (row := row) (fun r j => (proj5 H (w0 H) r j).trans (congrArg _ (col_lo 0 0 rfl j)))
      (fun r j => (proj6 H (w4 H) r j).trans (congrArg _ (col_hi 0 4 rfl j))) (d0 H)]
    pointwise [k0_pay4]

/-- The down projection. -/
theorem pay_f (r d) : k0_pay27 (k0_pay19 (k0_pay3 x0 x1) (W3 x2)) (k0_pay20 (k0_pay3 x0 x1) (W7 x2)) (sum3 x0 x1 x2 x3)
    (k0_pay26 (k0_pay3 x0 x1) (W3 x2)) (D3 x3) (ix2 r d) = f x g wu wd (row r) d := by
  have hg := fun r j => (proj19 H (w3 H) r j).trans (congrArg _ (col_lo 3 3 rfl j))
  rw [step27 (k := 3) (row := row) hg (fun r j => (proj20 H (w7 H) r j).trans (congrArg _ (col_hi 3 7 rfl j))) (d3 H)
    (fun r j => ?_), sum3_eq H, f_parts]
  pointwise [k0_pay26]
  rw [hg]

theorem pay_f' (r d) : k0_pay28 (k0_pay19 (k0_pay3 x0 x1) (W3 x2)) (k0_pay20 (k0_pay3 x0 x1) (W7 x2)) (sum3 x0 x1 x2 x3)
    (k0_pay26 (k0_pay3 x0 x1) (W3 x2)) (D3 x3) (ix2 r d) = f x g wu wd (row r) d := by
  pointwise [k0_pay28]
  exact pay_f H r d

end

section
variable {v69 v72 : FVec Ideal S512x704 .f32} {v88 : FVec Ideal S512x1024 .f32} {v97 : FVec Ideal S512x704 .f32} {v101 : Vec Ideal S704x1024 .bf16}
  (hf : ∀ r d, k0_pay27 v69 v72 v88 v97 v101 (ix2 r d) = f x g wu wd (row r) d)
include H hf

/-- The output less the target. -/
theorem pay_err (r d) : k0_pay29 x0 v69 v72 v88 v97 v101 x4 x5 (ix2 r d) = err x g wu wd q y (row r) d := by
  rw [ref_err]
  pointwise [k0_pay29]
  simp only [hf, H.x, H.q, H.y]

theorem pay_dx2 (r d) : k0_pay30 x0 v69 v72 v88 v97 v101 x4 x5 (ix2 r d) = err x g wu wd q y (row r) d * ((1 / 1024 : ℝ) : EReal) := by
  pointwise [k0_pay30]
  simp only [pay_err H hf, bits_inv_1024]

/-- The point's share of the squares, column by column. -/
theorem pay_acc (z : Vec Ideal S1x1024 .f32) (o d) : k0_pay1 z (k0_pay32 x0 v69 v72 v88 v97 v101 x4 x5) (ix2 o d)
    = z (ix2 o d) + ∑ r : Fin 512, err x g wu wd q y (row r) d * err x g wu wd q y (row r) d := by
  pointwise [k0_pay1, k0_pay32]
  simp only [pay_err H hf]

end

theorem pay_zero (o d) : k0_pay31 (F := Ideal) (ix2 o d) = 0 := by
  pointwise [k0_pay31]

theorem pay_loss (z : Vec Ideal S1x1024 .f32) (o o') : k0_pay2 z (ix2 o o') = (∑ d : Fin 1024, (z (ix2 0 d) : EReal)) * ((1 / 2048 : ℝ) : EReal) := by
  pointwise [k0_pay2]
  simp only [bits_inv_2048]

/-! ## The stores of the projections -/

theorem store0 (v : Vec Ideal S512x1024 .f32) (w : Vec Ideal S1x1024 .f32) (z : Vec Ideal S1x704x1024 .bf16) (o r j) :
    k0_pay10 (k0_pay9 v w z) (ix3 o r j) = k0_pay5 v w z (ix2 r j) := by pointwise [k0_pay10, k0_pay9]
theorem store4 (v : FVec Ideal S512x704 .f32) (o r j) : k0_pay11 v (ix3 o r j) = v (ix2 r j) := by pointwise [k0_pay11]
theorem store1 (v : FVec Ideal S512x704 .f32) (o r j) : k0_pay15 v (ix3 o r j) = v (ix2 r j) := by pointwise [k0_pay15]
theorem store5 (v : FVec Ideal S512x704 .f32) (o r j) : k0_pay16 v (ix3 o r j) = v (ix2 r j) := by pointwise [k0_pay16]
theorem store2 (v : FVec Ideal S512x704 .f32) (o r j) : k0_pay21 v (ix3 o r j) = v (ix2 r j) := by pointwise [k0_pay21]
theorem store6 (v : FVec Ideal S512x704 .f32) (o r j) : k0_pay22 v (ix3 o r j) = v (ix2 r j) := by pointwise [k0_pay22]
theorem store3 (v : FVec Ideal S512x1024 .bf16) (w : Vec Ideal S1x704x1024 .bf16) (o r j) :
    k0_pay24 v w (ix3 o r j) = k0_pay19 v w (ix2 r j) := by pointwise [k0_pay24]
theorem store7 (v : FVec Ideal S512x1024 .bf16) (w : Vec Ideal S1x704x1024 .bf16) (o r j) :
    k0_pay25 v w (ix3 o r j) = k0_pay20 v w (ix2 r j) := by pointwise [k0_pay25]

end Cert.FfnFwdStep
-- ==== Proof.FfnFwdBlock.lean ====
/- What the blocks of the feed-forward forward call hold: the arrays that the host prepares, and the rows of each
   that a grid point reads. -/
module

public import proofs.«01_k».proof.Proof.FfnFwdKernel

@[expose] public section

set_option maxRecDepth 16384

noncomputable section

open Idealize.ShloMosaic Idealize.ShloMosaic.TcCoe Idealize.SL.Sem
open Idealize.ShloMosaic.Pipeline (Dat)

namespace Cert.FfnFwdStep
open Cert.FfnFwdIdeal Cert.FfnFwdIdeal.Gen Cert.Step

variable (m : (ℓ : Loc nD τ sig) → Buf (Elt Ideal) ℓ) (c : Dev nD)

/-- Which block of its array each window holds at grid point `t`. -/
theorem idx : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![t.val, 0] ∧ win0_6.index t = ![t.val, 0]
    ∧ win0_7.index t = ![0, t.val, 0] ∧ win0_8.index t = ![t.val, 0] ∧ win0_9.index t = ![0, 0] :=
  (by decide +kernel : ∀ t : Fin grid0.N, _)

/-- The row of the whole array that row `r` of grid point `t`'s block is. -/
abbrev row (t : Fin cfg0.N) (r : Fin 512) : Fin 4096 :=
  ⟨t.val * 512 + r.val, by have h : t.val < 8 := t.isLt; omega⟩

/-! The arguments. -/
abbrev aX : Arr S4096x1024 := m ((c.tc : Thread nD τ).loc main_arg0)
abbrev aG : Arr S1024 := m ((c.tc : Thread nD τ).loc main_arg1)
abbrev aWu : Arr S1024x5632 := m ((c.tc : Thread nD τ).loc main_arg2)
abbrev aWd : Arr S2816x1024 := m ((c.tc : Thread nD τ).loc main_arg3)
abbrev aQ : Arr S1024 := m ((c.tc : Thread nD τ).loc main_arg4)
abbrev aY : Arr S4096x1024 := m ((c.tc : Thread nD τ).loc main_arg5)

/-- The host's weights of the two projections, transposed and cut into column blocks. -/
theorem host_wu : V m c main_v2 = truncf (F := Ideal) .bf16 (shapeCast S8x704x1024 (transpose S5632x1024 [1, 0]
    (aWu m c) transposes_S1024x5632_S5632x1024_1_0) shapeCasts_S5632x1024_S8x704x1024) bitsLt_bf16_f32 := by
  entry_read; rfl

/-- The host's weights of the down projection. -/
theorem host_wd : V m c main_v4 = truncf (F := Ideal) .bf16 (aWd m c) bitsLt_bf16_f32 := by
  entry_read; rfl

/-- The host's weights of the norms, as rows. -/
theorem host_g : V m c main_v3 = broadcastInDim S1x1024 ![1] bcast_S1024_S1x1024_1 (aG m c) := by
  entry_read; rfl
theorem host_q : V m c main_v5 = broadcastInDim S1x1024 ![1] bcast_S1024_S1x1024_1 (aQ m c) := by
  entry_read; rfl

theorem arr_wu (k j d) : V m c main_v2 (ix3 k j d) = aWu m c (ix2 d (col8 k j)) := by
  rw [host_wu]; pointwise
theorem arr_wd (n d) : V m c main_v4 (ix2 n d) = aWd m c (ix2 n d) := by
  rw [host_wd]; pointwise
theorem arr_g (o d) : V m c main_v3 (ix2 o d) = aG m c (ix1 d) := by
  rw [host_g]; pointwise
theorem arr_q (o d) : V m c main_v5 (ix2 o d) = aQ m c (ix1 d) := by
  rw [host_q]; pointwise

/-! Every grid point reads its 512 rows of them. -/

theorem blk_x (t : Fin cfg0.N) (r : Fin 512) (d : Fin 1024) : iblk m c 0 t (ix2 r d) = aX m c (ix2 (row t r) d) := by
  obtain ⟨e0, e1, e2, e3, e4, e5, -⟩ := idx t
  blk_ext [iblk, V, e0]

theorem blk_g (t : Fin cfg0.N) (o : Fin 1) (d : Fin 1024) : iblk m c 1 t (ix2 o d) = aG m c (ix1 d) := by
  refine Eq.trans ?_ (arr_g m c o d)
  obtain ⟨e0, e1, e2, e3, e4, e5, -⟩ := idx t
  blk_ext [iblk, e1]

theorem blk_wu (t : Fin cfg0.N) (k : Fin 8) (j : Fin 704) (d : Fin 1024) : iblk m c 2 t (ix3 k j d) = aWu m c (ix2 d (col8 k j)) := by
  refine Eq.trans ?_ (arr_wu m c k j d)
  obtain ⟨e0, e1, e2, e3, e4, e5, -⟩ := idx t
  blk_ext [iblk, e2]

theorem blk_wd (t : Fin cfg0.N) (n : Fin 2816) (d : Fin 1024) : iblk m c 3 t (ix2 n d) = aWd m c (ix2 n d) := by
  refine Eq.trans ?_ (arr_wd m c n d)
  obtain ⟨e0, e1, e2, e3, e4, e5, -⟩ := idx t
  blk_ext [iblk, e3]

theorem blk_q (t : Fin cfg0.N) (o : Fin 1) (d : Fin 1024) : iblk m c 4 t (ix2 o d) = aQ m c (ix1 d) := by
  refine Eq.trans ?_ (arr_q m c o d)
  obtain ⟨e0, e1, e2, e3, e4, e5, -⟩ := idx t
  blk_ext [iblk, e4]

theorem blk_y (t : Fin cfg0.N) (r : Fin 512) (d : Fin 1024) : iblk m c 5 t (ix2 r d) = aY m c (ix2 (row t r) d) := by
  obtain ⟨e0, e1, e2, e3, e4, e5, -⟩ := idx t
  blk_ext [iblk, V, e5]

/-- So a grid point computes with its rows of the arguments. -/
theorem block (t : Fin cfg0.N) : Block (aX m c) (aG m c) (aWu m c) (aWd m c) (aQ m c) (aY m c) (row t) (iblk m c 0 t)
    (iblk m c 1 t) (iblk m c 2 t) (iblk m c 3 t) (iblk m c 4 t) (iblk m c 5 t) where
  x := blk_x m c t
  g := blk_g m c t
  wu := blk_wu m c t
  wd := blk_wd m c t
  q := blk_q m c t
  y := blk_y m c t

end Cert.FfnFwdStep
-- ==== Proof.FfnFwdFinal.lean ====
/- The arrays that the feed-forward forward call leaves: the reference's stages at every row, and the loss summed
   over the grid points. -/
module

public import proofs.«01_k».proof.Proof.FfnFwdBlock
public import Idealize.ShloMosaic.Lib.Pipeline.ReadBack

@[expose] public section

set_option maxRecDepth 16384
set_option maxHeartbeats 1600000

noncomputable section

open Idealize.ShloMosaic Idealize.ShloMosaic.TcCoe Idealize.SL.Sem
open Idealize.ShloMosaic.Pipeline (Dat)

namespace Cert.FfnFwdStep
open Cert.FfnFwdIdeal Cert.FfnFwdIdeal.Gen Cert.Step

variable (m : (ℓ : Loc nD τ sig) → Buf (Elt Ideal) ℓ) (c : Dev nD)

/-! The four results as arrays. -/

abbrev err' (t : Fin 4096) (d : Fin 1024) : EReal := err (aX m c) (aG m c) (aWu m c) (aWd m c) (aQ m c) (aY m c) t d

def dx2At (t : Fin 4096) (d : Fin 1024) : EReal := err' m c t d * ((1 / 1024 : ℝ) : EReal)
def guAt (k : Fin 8) (t : Fin 4096) (j : Fin 704) : EReal := gu (aX m c) (aG m c) (aWu m c) t (col8 k j)
def fAt (t : Fin 4096) (d : Fin 1024) : EReal := f (aX m c) (aG m c) (aWu m c) (aWd m c) t d
def sqAt (t : Fin 4096) (d : Fin 1024) : EReal := err' m c t d * err' m c t d

def dx2Arr : Arr S4096x1024 := fun i => dx2At m c (i 0) (i 1)
def guArr : Arr S8x4096x704 := fun i => guAt m c (i 0) (i 1) (i 2)
def fArr : Arr S4096x1024 := fun i => fAt m c (i 0) (i 1)
def lossArr : Arr S1x1 := fun _ => (∑ d : Fin 1024, ∑ t : Fin 4096, sqAt m c t d) * ((1 / 2048 : ℝ) : EReal)

/-- A grid point is the first one, one between, or the last one. -/
theorem which (t : Fin cfg0.N) : (t.val % 8 = 0 ∧ ¬t.val % 8 = 7) ∨ (¬t.val % 8 = 0 ∧ ¬t.val % 8 = 7) ∨ (¬t.val % 8 = 0 ∧ t.val % 8 = 7) := by
  omega

/-- The gradient of the loss at the sublayer's output. -/
theorem outs6 (t : Fin cfg0.N) (y : S512x1024.Idx) : (outsAt0 m c t.val t.isLt).1 y = dx2At m c (row t (y 0)) (y 1) := by
  rcases which t with ⟨h0, h1⟩ | ⟨h0, h1⟩ | ⟨h0, h1⟩
  · rw [outsAt0_A m c t h0 h1]; dsimp only; frame_out; rw [eq_ix2 y]; exact pay_dx2 (block m c t) (pay_f (block m c t)) _ _
  · rw [outsAt0_B m c t h0 h1]; dsimp only; frame_out; rw [eq_ix2 y]; exact pay_dx2 (block m c t) (pay_f (block m c t)) _ _
  · rw [outsAt0_C m c t h0 h1]; dsimp only; frame_out; rw [eq_ix2 y]; exact pay_dx2 (block m c t) (pay_f (block m c t)) _ _

/-- The sublayer's down projection. -/
theorem outs8 (t : Fin cfg0.N) (y : S512x1024.Idx) : (outsAt0 m c t.val t.isLt).2.2.1 y = fAt m c (row t (y 0)) (y 1) := by
  rcases which t with ⟨h0, h1⟩ | ⟨h0, h1⟩ | ⟨h0, h1⟩
  · rw [outsAt0_A m c t h0 h1]; dsimp only; frame_out; rw [eq_ix2 y]; exact pay_f' (block m c t) _ _
  · rw [outsAt0_B m c t h0 h1]; dsimp only; frame_out; rw [eq_ix2 y]; exact pay_f' (block m c t) _ _
  · rw [outsAt0_C m c t h0 h1]; dsimp only; frame_out; rw [eq_ix2 y]; exact pay_f' (block m c t) _ _

/-- An entry of the projections, named two ways. -/
theorem guAt_eq {t : Fin cfg0.N} {r r' : Fin 512} {k k' : Fin 8} {j j' : Fin 704} {n : ℕ} {i : Fin 1} (hn : k.val = n) (hk : k'.val = n + i.val) (hr : r'.val = r.val) (hj : j'.val = j.val) :
    gu (aX m c) (aG m c) (aWu m c) (row t r) (col8 k j) = guAt m c k' (row t r') j' := by
  have h : k'.val = k.val := by omega
  rw [Fin.ext h, Fin.ext hr, Fin.ext hj]; rfl

/-- The two projections, in eight column blocks. -/
theorem outs7 (t : Fin cfg0.N) (y : S8x512x704.Idx) : (outsAt0 m c t.val t.isLt).2.1 y = guAt m c (y 0) (row t (y 1)) (y 2) := by
  have B := block m c t
  rcases which t with ⟨h0, h1⟩ | ⟨h0, h1⟩ | ⟨h0, h1⟩
  · rw [outsAt0_A m c t h0 h1]; dsimp only; frame_out
    canon_tiles x hx
    · rw [eq_ix3 x]; exact (store7 _ _ _ _ _).trans ((proj20 B (w7 B) _ _).trans (guAt_eq m c rfl hx0 hx1 hx2))
    · rw [eq_ix3 x]; exact (store3 _ _ _ _ _).trans ((proj19 B (w3 B) _ _).trans (guAt_eq m c rfl hx0 hx1 hx2))
    · rw [eq_ix3 x]; exact (store6 _ _ _ _).trans ((proj14 B (w6 B) _ _).trans (guAt_eq m c rfl hx0 hx1 hx2))
    · rw [eq_ix3 x]; exact (store2 _ _ _ _).trans ((proj13 B (w2 B) _ _).trans (guAt_eq m c rfl hx0 hx1 hx2))
    · rw [eq_ix3 x]; exact (store5 _ _ _ _).trans ((proj8 B (w5 B) _ _).trans (guAt_eq m c rfl hx0 hx1 hx2))
    · rw [eq_ix3 x]; exact (store1 _ _ _ _).trans ((proj7 B (w1 B) _ _).trans (guAt_eq m c rfl hx0 hx1 hx2))
    · rw [eq_ix3 x]; exact (store4 _ _ _ _).trans ((proj6 B (w4 B) _ _).trans (guAt_eq m c rfl hx0 hx1 hx2))
    · rw [eq_ix3 x]; exact (store0 _ _ _ _ _ _).trans ((proj5 B (w0 B) _ _).trans (guAt_eq m c rfl (i := x 0) (hx0.trans (zero_add _).symm) hx1 hx2))
  · rw [outsAt0_B m c t h0 h1]; dsimp only; frame_out
    canon_tiles x hx
    · rw [eq_ix3 x]; exact (store7 _ _ _ _ _).trans ((proj20 B (w7 B) _ _).trans (guAt_eq m c rfl hx0 hx1 hx2))
    · rw [eq_ix3 x]; exact (store3 _ _ _ _ _).trans ((proj19 B (w3 B) _ _).trans (guAt_eq m c rfl hx0 hx1 hx2))
    · rw [eq_ix3 x]; exact (store6 _ _ _ _).trans ((proj14 B (w6 B) _ _).trans (guAt_eq m c rfl hx0 hx1 hx2))
    · rw [eq_ix3 x]; exact (store2 _ _ _ _).trans ((proj13 B (w2 B) _ _).trans (guAt_eq m c rfl hx0 hx1 hx2))
    · rw [eq_ix3 x]; exact (store5 _ _ _ _).trans ((proj8 B (w5 B) _ _).trans (guAt_eq m c rfl hx0 hx1 hx2))
    · rw [eq_ix3 x]; exact (store1 _ _ _ _).trans ((proj7 B (w1 B) _ _).trans (guAt_eq m c rfl hx0 hx1 hx2))
    · rw [eq_ix3 x]; exact (store4 _ _ _ _).trans ((proj6 B (w4 B) _ _).trans (guAt_eq m c rfl hx0 hx1 hx2))
    · rw [eq_ix3 x]; exact (store0 _ _ _ _ _ _).trans ((proj5 B (w0 B) _ _).trans (guAt_eq m c rfl (i := x 0) (hx0.trans (zero_add _).symm) hx1 hx2))
  · rw [outsAt0_C m c t h0 h1]; dsimp only; frame_out
    canon_tiles x hx
    · rw [eq_ix3 x]; exact (store7 _ _ _ _ _).trans ((proj20 B (w7 B) _ _).trans (guAt_eq m c rfl hx0 hx1 hx2))
    · rw [eq_ix3 x]; exact (store3 _ _ _ _ _).trans ((proj19 B (w3 B) _ _).trans (guAt_eq m c rfl hx0 hx1 hx2))
    · rw [eq_ix3 x]; exact (store6 _ _ _ _).trans ((proj14 B (w6 B) _ _).trans (guAt_eq m c rfl hx0 hx1 hx2))
    · rw [eq_ix3 x]; exact (store2 _ _ _ _).trans ((proj13 B (w2 B) _ _).trans (guAt_eq m c rfl hx0 hx1 hx2))
    · rw [eq_ix3 x]; exact (store5 _ _ _ _).trans ((proj8 B (w5 B) _ _).trans (guAt_eq m c rfl hx0 hx1 hx2))
    · rw [eq_ix3 x]; exact (store1 _ _ _ _).trans ((proj7 B (w1 B) _ _).trans (guAt_eq m c rfl hx0 hx1 hx2))
    · rw [eq_ix3 x]; exact (store4 _ _ _ _).trans ((proj6 B (w4 B) _ _).trans (guAt_eq m c rfl hx0 hx1 hx2))
    · rw [eq_ix3 x]; exact (store0 _ _ _ _ _ _).trans ((proj5 B (w0 B) _ _).trans (guAt_eq m c rfl (i := x 0) (hx0.trans (zero_add _).symm) hx1 hx2))

/-- The squares so far, column by column. -/
theorem acc_first (t : Fin cfg0.N) (h0 : t.val % 8 = 0) (j : S1x1024.Idx) :
    (outsAt0 m c t.val t.isLt).2.2.2.2 j = 0 + ∑ r : Fin 512, sqAt m c (row t r) (j 1) := by
  rw [outsAt0_A m c t h0 (by omega)]; dsimp only; frame_out
  rw [eq_ix2 j]; exact (pay_acc (block m c t) (pay_f (block m c t)) _ _ _).trans (congrArg (· + _) (pay_zero _ _))

theorem acc_next (t : Fin cfg0.N) (h0 : ¬t.val % 8 = 0) (j : S1x1024.Idx) : (outsAt0 m c t.val t.isLt).2.2.2.2 j
    = (outsAt0 m c (t.val - 1) (Nat.lt_of_le_of_lt (Nat.sub_le _ _) t.isLt)).2.2.2.2 j + ∑ r : Fin 512, sqAt m c (row t r) (j 1) := by
  by_cases h1 : t.val % 8 = 7
  · rw [outsAt0_C m c t h0 h1]; dsimp only; frame_out
    rw [read_unread_whole, eq_ix2 j]; exact pay_acc (block m c t) (pay_f (block m c t)) _ _ _
  · rw [outsAt0_B m c t h0 h1]; dsimp only; frame_out
    rw [read_unread_whole, eq_ix2 j]; exact pay_acc (block m c t) (pay_f (block m c t)) _ _ _

/-- The last point turns them into the loss. -/
theorem outs9 (t : Fin cfg0.N) (h1 : t.val % 8 = 7) (y : S1x1.Idx) : (outsAt0 m c t.val t.isLt).2.2.2.1 y
    = (∑ d : Fin 1024, ((outsAt0 m c t.val t.isLt).2.2.2.2 (ix2 0 d) : EReal)) * ((1 / 2048 : ℝ) : EReal) := by
  rw [outsAt0_C m c t (by omega) h1]; dsimp only; frame_out
  rw [eq_ix2 y]; exact pay_loss _ _ _

attribute [local irreducible] dx2At guAt fAt sqAt

theorem final6 : (dats m 0 c).arrAt 6 cfg0.N = dx2Arr m c := by
  refine (dats m 0 c).arrAt_eq_of_covers 6 _ (by decide +kernel) fun t hf y => ?_
  blk_simp; rw [after0_6]; rw [outs6]
  obtain ⟨-, -, -, -, -, -, e6, e7, e8, e9⟩ := idx t
  have h : ((cfg0.win 6).blk t).view.emb y = (ix2 (row t (y 0)) (y 1) : S4096x1024.Idx) := by blk_ext [e6]
  exact congrArg (dx2Arr m c) h.symm

theorem final7 : (dats m 0 c).arrAt 7 cfg0.N = guArr m c := by
  refine (dats m 0 c).arrAt_eq_of_covers 7 _ (by decide +kernel) fun t hf y => ?_
  blk_simp; rw [after0_7]; rw [outs7]
  obtain ⟨-, -, -, -, -, -, e6, e7, e8, e9⟩ := idx t
  have h : ((cfg0.win 7).blk t).view.emb y = (ix3 (y 0) (row t (y 1)) (y 2) : S8x4096x704.Idx) := by blk_ext [e7]
  exact congrArg (guArr m c) h.symm

theorem final8 : (dats m 0 c).arrAt 8 cfg0.N = fArr m c := by
  refine (dats m 0 c).arrAt_eq_of_covers 8 _ (by decide +kernel) fun t hf y => ?_
  blk_simp; rw [after0_8]; rw [outs8]
  obtain ⟨-, -, -, -, -, -, e6, e7, e8, e9⟩ := idx t
  have h : ((cfg0.win 8).blk t).view.emb y = (ix2 (row t (y 0)) (y 1) : S4096x1024.Idx) := by blk_ext [e8]
  exact congrArg (fArr m c) h.symm

/-- All squares of a column. -/
theorem acc_last (j : S1x1024.Idx) : (outsAt0 m c t0_7.val t0_7.isLt).2.2.2.2 j = ∑ t : Fin 4096, sqAt m c t (j 1) := by
  rw [Pipeline.eq_sum_fin_of_reset_step_apply_last (fun n h => (outsAt0 m c n h).2.2.2.2) 8 (fun _ => 0)
    (fun t (j : S1x1024.Idx) => ∑ r : Fin 512, sqAt m c (row t r) (j 1)) (acc_first m c) (acc_next m c) (le_of_eq N_0) t0_7 rfl j, zero_add]
  exact (Fin.sum_univ_tiles 8 512 rfl fun t => sqAt m c t (j 1)).symm

theorem loss_last (y : S1x1.Idx) : (outsAt0 m c t0_7.val t0_7.isLt).2.2.2.1 y = lossArr m c y := by
  rw [outs9 m c t0_7 rfl y]
  unfold lossArr
  simp only [acc_last]
  rfl

theorem final9 : (dats m 0 c).arrAt 9 cfg0.N = lossArr m c := by
  refine (dats m 0 c).arrAt_eq_of_after_last 9 t0_7 (by decide +kernel) _ fun j => ?_
  blk_simp
  rw [after0_9]
  exact loss_last m c j

end Cert.FfnFwdStep
-- ==== Proof.FfnFwdClaim.lean ====
/- The feed-forward forward call's claims: the kernel leaves what the reference leaves, whatever the arguments are. -/
module

public import proofs.«01_k».proof.Defs
public import proofs.«01_k».proof.Proof.FfnFwdFinal
public import proofs.«01_k».proof.Proof.Gen.FfnLossIdeal.Run

@[expose] public section

set_option maxRecDepth 16384
set_option maxHeartbeats 1600000

noncomputable section

open Idealize.ShloMosaic Idealize.ShloMosaic.TcCoe Idealize.SL.Sem

namespace Cert.FfnFwdClaim
open Cert.FfnFwdStep
open Cert.FfnLossIdeal Cert.FfnLossIdeal.Gen Cert.FfnLossIdeal.Read
attribute [local instance] Cert.FfnFwdIdeal.Gen.facts Cert.FfnLossIdeal.Gen.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run _ _ _).mono (fun r h => ⟨fun c => (h c).2.2.2.2, sem_eq_zero_of_no_sems (by decide) r.2⟩)
    (Cert.FfnLossIdeal.Value.run m g)

attribute [local irreducible] val_main_v12 val_main_v13 val_main_v18 val_main_v33

/-- The kernel's results are the reference's. -/
theorem algebraic : Cert.algebraic_FfnFwdIdeal_FfnLossIdeal := by
  intro m g m' g' pre agree
  refine ⟨fun c => dx2Arr m c, fun c => guArr m c, fun c => fArr m c, fun c => lossArr m c, ?_, ?_⟩
  · refine (θ_run _ _ _).mono (fun r h c => ?_) (Cert.FfnFwdIdeal.Value.run_blocks m g)
    obtain ⟨h6, h7, h8, h9, h⟩ := h c
    exact ⟨h6.trans (final6 m c), h7.trans (final7 m c), h8.trans (final8 m c), h9.trans (final9 m c), h⟩
  · refine (θ_run _ _ _).mono (fun r h c => ?_) (Cert.FfnLossIdeal.Value.run m' g')
    obtain ⟨h6, h7, h8, h9, h⟩ := h c
    obtain ⟨e0, e1, e2, e3, e4, e5⟩ := agree c
    refine ⟨(h6.trans (val_main_v47_eq _ _)).trans ?_, (h7.trans (val_main_v50_eq _ _ _)).trans ?_,
      (h8.trans (val_main_v18_eq _ _ _ _)).trans ?_, (h9.trans (val_main_v51_eq _ _)).trans ?_, h⟩
    · funext i
      rw [e0, e1, e2, e3, e4, e5, eq_ix2 i]
      exact ref_dx2 _ _ _ _ _ _ (i 0) (i 1)
    · funext i
      rw [e0, e1, e2, eq_ix3 i]
      exact ref_blocks _ _ _ (i 0) (i 1) (i 2)
    · funext i
      rw [e0, e1, e2, e3, eq_ix2 i]
      rfl
    · funext i
      rw [e0, e1, e2, e3, e4, e5, eq_ix2 i]
      exact ref_loss _ _ _ _ _ _ (i 0) (i 1)

end Cert.FfnFwdClaim
-- ==== Proof.FfnMidKernel.lean ====
/- The feed-forward call of the layers before the last: its payloads are those of the last layer's call, without the loss,
   and its reference's stages are those of the last layer's reference. -/
module

public import proofs.«01_k».proof.Proof.Gen.FfnMidIdeal.Value
public import proofs.«01_k».proof.Proof.Gen.FfnIdeal.Read
public import proofs.«01_k».proof.Proof.FfnFwdKernel

@[expose] public section

set_option maxRecDepth 16384
set_option maxHeartbeats 1600000

noncomputable section

open Idealize.ShloMosaic Idealize.SL.Sem

namespace Cert.FfnMidStep
open Cert.FfnMidIdeal Cert.FfnMidIdeal.Gen Cert.Step
open Cert.FfnFwdStep (Arr h gu f lo hi gated Block)

/-! ## The payloads of the two calls -/

theorem same1 : @k0_pay1 Ideal _ = @Cert.FfnFwdIdeal.Gen.k0_pay27 Ideal _ := rfl
theorem same2 : @k0_pay2 Ideal _ = @Cert.FfnFwdIdeal.Gen.k0_pay28 Ideal _ := rfl
theorem same4 : @k0_pay4 Ideal _ = @Cert.FfnFwdIdeal.Gen.k0_pay3 Ideal _ := rfl
theorem same5 : @k0_pay5 Ideal _ = @Cert.FfnFwdIdeal.Gen.k0_pay4 Ideal _ := rfl
theorem same6 : @k0_pay6 Ideal _ = @Cert.FfnFwdIdeal.Gen.k0_pay5 Ideal _ := rfl
theorem same7 : @k0_pay7 Ideal _ = @Cert.FfnFwdIdeal.Gen.k0_pay6 Ideal _ := rfl
theorem same8 : @k0_pay8 Ideal _ = @Cert.FfnFwdIdeal.Gen.k0_pay7 Ideal _ := rfl
theorem same9 : @k0_pay9 Ideal _ = @Cert.FfnFwdIdeal.Gen.k0_pay8 Ideal _ := rfl
theorem same10 : @k0_pay10 Ideal _ = @Cert.FfnFwdIdeal.Gen.k0_pay9 Ideal _ := rfl
theorem same11 : @k0_pay11 Ideal = @Cert.FfnFwdIdeal.Gen.k0_pay10 Ideal := rfl
theorem same12 : @k0_pay12 Ideal _ = @Cert.FfnFwdIdeal.Gen.k0_pay11 Ideal _ := rfl
theorem same13 : @k0_pay13 Ideal _ = @Cert.FfnFwdIdeal.Gen.k0_pay12 Ideal _ := rfl
theorem same14 : @k0_pay14 Ideal _ = @Cert.FfnFwdIdeal.Gen.k0_pay13 Ideal _ := rfl
theorem same15 : @k0_pay15 Ideal _ = @Cert.FfnFwdIdeal.Gen.k0_pay14 Ideal _ := rfl
theorem same16 : @k0_pay16 Ideal _ = @Cert.FfnFwdIdeal.Gen.k0_pay15 Ideal _ := rfl
theorem same17 : @k0_pay17 Ideal _ = @Cert.FfnFwdIdeal.Gen.k0_pay16 Ideal _ := rfl
theorem same18 : @k0_pay18 Ideal _ = @Cert.FfnFwdIdeal.Gen.k0_pay17 Ideal _ := rfl
theorem same19 : @k0_pay19 Ideal = @Cert.FfnFwdIdeal.Gen.k0_pay18 Ideal := rfl
theorem same20 : @k0_pay20 Ideal _ = @Cert.FfnFwdIdeal.Gen.k0_pay19 Ideal _ := rfl
theorem same21 : @k0_pay21 Ideal _ = @Cert.FfnFwdIdeal.Gen.k0_pay20 Ideal _ := rfl
theorem same22 : @k0_pay22 Ideal _ = @Cert.FfnFwdIdeal.Gen.k0_pay21 Ideal _ := rfl
theorem same23 : @k0_pay23 Ideal _ = @Cert.FfnFwdIdeal.Gen.k0_pay22 Ideal _ := rfl
theorem same24 : @k0_pay24 Ideal _ = @Cert.FfnFwdIdeal.Gen.k0_pay23 Ideal _ := rfl
theorem same25 : @k0_pay25 Ideal _ = @Cert.FfnFwdIdeal.Gen.k0_pay24 Ideal _ := rfl
theorem same26 : @k0_pay26 Ideal _ = @Cert.FfnFwdIdeal.Gen.k0_pay25 Ideal _ := rfl
theorem same27 : @k0_pay27 Ideal _ = @Cert.FfnFwdIdeal.Gen.k0_pay26 Ideal _ := rfl

/-! ## The reference -/

section
variable (x : Arr S4096x1024) (g : Arr S1024) (wu : Arr S1024x5632) (wd : Arr S2816x1024) (q : Arr S1024)
open Cert.FfnIdeal.Read

/-- The sublayer's output. -/
abbrev x2 (t : Fin 4096) (d : Fin 1024) : EReal := val_main_v32 (F := Ideal) x g wu wd q (ix2 t d)

theorem ref_gu : val_main_v13 (F := Ideal) x g wu = Cert.FfnLossIdeal.Read.val_main_v13 x g wu := rfl

theorem ref_f : val_main_v18 (F := Ideal) x g wu wd = Cert.FfnLossIdeal.Read.val_main_v18 x g wu wd := rfl

theorem ref_x2 (t d) : x2 x g wu wd q t d = x (ix2 t d) + f x g wu wd t d
      * Ideal.rsqrt (Ideal.div (∑ k : Fin 1024, f x g wu wd t k * f x g wu wd t k) (Ideal.ofBits .f32 1149239296#32)
        + Ideal.ofBits .f32 897988541#32) * q (ix1 d) := by
  unfold f x2
  rw [← ref_f]
  pointwise [val_main_v32, val_main_v31, val_main_v30, val_main_v29, val_main_v28, val_main_v27, val_main_v26,
    val_main_v25, val_main_v24, val_main_v23, val_main_v22, val_main_v21, val_main_v20, val_main_v19, val_main_cst_2,
    val_main_cst_3, val_main_cst_4]

/-- The two projections in column blocks. -/
theorem ref_blocks (k : Fin 8) (t : Fin 4096) (j : Fin 704) :
    val_main_v35 (F := Ideal) x g wu (ix3 k t j) = gu x g wu t ⟨k * 704 + j, by omega⟩ := by
  unfold gu
  rw [← ref_gu]
  pointwise [val_main_v35, val_main_v34, val_main_v33]

end

/-! ## The sublayer's output -/

variable {x : Arr S4096x1024} {g : Arr S1024} {wu : Arr S1024x5632} {wd : Arr S2816x1024} {q : Arr S1024}
  {y : Arr S4096x1024} {row : Fin 512 → Fin 4096} {x0 : Vec Ideal S512x1024 .f32} {x1 : Vec Ideal S1x1024 .f32}
  {x2' : Vec Ideal S8x704x1024 .bf16} {x3 : Vec Ideal S2816x1024 .bf16} {x4 : Vec Ideal S1x1024 .f32}
  {x5 : Vec Ideal S512x1024 .f32} (H : Block x g wu wd q y row x0 x1 x2' x3 x4 x5)
  {v69 v72 v97 : FVec Ideal S512x704 .f32} {v88 : FVec Ideal S512x1024 .f32} {v101 : Vec Ideal S704x1024 .bf16}
  (hf : ∀ r d, Cert.FfnFwdIdeal.Gen.k0_pay27 v69 v72 v88 v97 v101 (ix2 r d) = f x g wu wd (row r) d)
include H hf

theorem pay_x2 (r d) : k0_pay3 x0 v69 v72 v88 v97 v101 x4 (ix2 r d) = x2 x g wu wd q (row r) d := by
  rw [ref_x2]
  pointwise [k0_pay3]
  simp only [same1, hf, H.x, H.q]

end Cert.FfnMidStep
-- ==== Proof.FfnMidBlock.lean ====
/- What the blocks of the feed-forward call of the layers before the last hold, and the arrays that it leaves. -/
module

public import proofs.«01_k».proof.Proof.FfnMidKernel
public import Idealize.ShloMosaic.Lib.Pipeline.ReadBack

@[expose] public section

set_option maxRecDepth 16384
set_option maxHeartbeats 1600000

noncomputable section

open Idealize.ShloMosaic Idealize.ShloMosaic.TcCoe Idealize.SL.Sem
open Idealize.ShloMosaic.Pipeline (Dat)

namespace Cert.FfnMidStep
open Cert.FfnMidIdeal Cert.FfnMidIdeal.Gen Cert.Step
open Cert.FfnFwdStep (Arr h gu f Block col8)

variable (m : (ℓ : Loc nD τ sig) → Buf (Elt Ideal) ℓ) (c : Dev nD)

/-- Which block of its array each window holds at grid point `t`. -/
theorem idx : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![t.val, 0]
    ∧ win0_6.index t = ![0, t.val, 0] ∧ win0_7.index t = ![t.val, 0] :=
  (by decide +kernel : ∀ t : Fin grid0.N, _)

/-- The row of the whole array that row `r` of grid point `t`'s block is. -/
abbrev row (t : Fin cfg0.N) (r : Fin 512) : Fin 4096 :=
  ⟨t.val * 512 + r.val, by have h : t.val < 8 := t.isLt; omega⟩

/-! The arguments. -/
abbrev aX : Arr S4096x1024 := m ((c.tc : Thread nD τ).loc main_arg0)
abbrev aG : Arr S1024 := m ((c.tc : Thread nD τ).loc main_arg1)
abbrev aWu : Arr S1024x5632 := m ((c.tc : Thread nD τ).loc main_arg2)
abbrev aWd : Arr S2816x1024 := m ((c.tc : Thread nD τ).loc main_arg3)
abbrev aQ : Arr S1024 := m ((c.tc : Thread nD τ).loc main_arg4)

/-! The weights as the host prepares them. -/

theorem host_wu : V m c main_v2 = truncf (F := Ideal) .bf16 (shapeCast S8x704x1024 (transpose S5632x1024 [1, 0]
    (aWu m c) transposes_S1024x5632_S5632x1024_1_0) shapeCasts_S5632x1024_S8x704x1024) bitsLt_bf16_f32 := by
  entry_read; rfl
theorem host_wd : V m c main_v4 = truncf (F := Ideal) .bf16 (aWd m c) bitsLt_bf16_f32 := by
  entry_read; rfl
theorem host_g : V m c main_v3 = broadcastInDim S1x1024 ![1] bcast_S1024_S1x1024_1 (aG m c) := by
  entry_read; rfl
theorem host_q : V m c main_v5 = broadcastInDim S1x1024 ![1] bcast_S1024_S1x1024_1 (aQ m c) := by
  entry_read; rfl

theorem arr_wu (k j d) : V m c main_v2 (ix3 k j d) = aWu m c (ix2 d (col8 k j)) := by
  rw [host_wu]; pointwise
theorem arr_wd (n d) : V m c main_v4 (ix2 n d) = aWd m c (ix2 n d) := by
  rw [host_wd]; pointwise
theorem arr_g (o d) : V m c main_v3 (ix2 o d) = aG m c (ix1 d) := by
  rw [host_g]; pointwise
theorem arr_q (o d) : V m c main_v5 (ix2 o d) = aQ m c (ix1 d) := by
  rw [host_q]; pointwise

/-! Every grid point reads its 512 rows of them. -/

theorem blk_x (t : Fin cfg0.N) (r : Fin 512) (d : Fin 1024) : iblk m c 0 t (ix2 r d) = aX m c (ix2 (row t r) d) := by
  obtain ⟨e0, e1, e2, e3, e4, -⟩ := idx t
  blk_ext [iblk, V, e0]

theorem blk_g (t : Fin cfg0.N) (o : Fin 1) (d : Fin 1024) : iblk m c 1 t (ix2 o d) = aG m c (ix1 d) := by
  refine Eq.trans ?_ (arr_g m c o d)
  obtain ⟨e0, e1, e2, e3, e4, -⟩ := idx t
  blk_ext [iblk, e1]

theorem blk_wu (t : Fin cfg0.N) (k : Fin 8) (j : Fin 704) (d : Fin 1024) : iblk m c 2 t (ix3 k j d) = aWu m c (ix2 d (col8 k j)) := by
  refine Eq.trans ?_ (arr_wu m c k j d)
  obtain ⟨e0, e1, e2, e3, e4, -⟩ := idx t
  blk_ext [iblk, e2]

theorem blk_wd (t : Fin cfg0.N) (n : Fin 2816) (d : Fin 1024) : iblk m c 3 t (ix2 n d) = aWd m c (ix2 n d) := by
  refine Eq.trans ?_ (arr_wd m c n d)
  obtain ⟨e0, e1, e2, e3, e4, -⟩ := idx t
  blk_ext [iblk, e3]

theorem blk_q (t : Fin cfg0.N) (o : Fin 1) (d : Fin 1024) : iblk m c 4 t (ix2 o d) = aQ m c (ix1 d) := by
  refine Eq.trans ?_ (arr_q m c o d)
  obtain ⟨e0, e1, e2, e3, e4, -⟩ := idx t
  blk_ext [iblk, e4]

/-- So a grid point computes with its rows of the arguments. There is no target here: the rows stand in for it. -/
theorem block (t : Fin cfg0.N) : Block (aX m c) (aG m c) (aWu m c) (aWd m c) (aQ m c) (aX m c) (row t) (iblk m c 0 t)
    (iblk m c 1 t) (iblk m c 2 t) (iblk m c 3 t) (iblk m c 4 t) (iblk m c 0 t) where
  x := blk_x m c t
  g := blk_g m c t
  wu := blk_wu m c t
  wd := blk_wd m c t
  q := blk_q m c t
  y := blk_x m c t

/-! The three results as arrays. -/

def x2At (t : Fin 4096) (d : Fin 1024) : EReal := x2 (aX m c) (aG m c) (aWu m c) (aWd m c) (aQ m c) t d
def guAt (k : Fin 8) (t : Fin 4096) (j : Fin 704) : EReal := gu (aX m c) (aG m c) (aWu m c) t (col8 k j)
def fAt (t : Fin 4096) (d : Fin 1024) : EReal := f (aX m c) (aG m c) (aWu m c) (aWd m c) t d

def x2Arr : Arr S4096x1024 := fun i => x2At m c (i 0) (i 1)
def guArr : Arr S8x4096x704 := fun i => guAt m c (i 0) (i 1) (i 2)
def fArr : Arr S4096x1024 := fun i => fAt m c (i 0) (i 1)

open Cert.FfnFwdStep (pay_f pay_f' store0 store1 store2 store3 store4 store5 store6 store7 w0 w1 w2 w3 w4 w5 w6 w7
  proj5 proj6 proj7 proj8 proj13 proj14 proj19 proj20)

/-- The sublayer's output. -/
theorem outs5 (t : Fin cfg0.N) (y : S512x1024.Idx) : out0_5 (iblk m c 0 t) (iblk m c 1 t) (iblk m c 2 t) (iblk m c 3 t) (iblk m c 4 t) y
    = x2At m c (row t (y 0)) (y 1) := by
  unfold_out out0_5; frame_out
  rw [eq_ix2 y]
  simp only [same4, same5, same6, same7, same8, same9, same13, same14, same15, same18, same19, same20, same21, same24, same27]
  exact pay_x2 (block m c t) (pay_f (block m c t)) _ _

/-- Its down projection. -/
theorem outs7 (t : Fin cfg0.N) (y : S512x1024.Idx) : out0_7 (iblk m c 0 t) (iblk m c 1 t) (iblk m c 2 t) (iblk m c 3 t) (iblk m c 4 t) y
    = fAt m c (row t (y 0)) (y 1) := by
  unfold_out out0_7; frame_out
  rw [eq_ix2 y]
  simp only [same2, same4, same5, same6, same7, same8, same9, same13, same14, same15, same18, same19, same20, same21, same24, same27]
  exact pay_f' (block m c t) _ _

/-- An entry of the projections, named two ways. -/
theorem guAt_eq {t : Fin cfg0.N} {r r' : Fin 512} {k k' : Fin 8} {j j' : Fin 704} {n : ℕ} {i : Fin 1} (hn : k.val = n) (hk : k'.val = n + i.val) (hr : r'.val = r.val) (hj : j'.val = j.val) :
    gu (aX m c) (aG m c) (aWu m c) (row t r) (col8 k j) = guAt m c k' (row t r') j' := by
  have h : k'.val = k.val := by omega
  rw [Fin.ext h, Fin.ext hr, Fin.ext hj]; rfl

/-- The two projections, in eight column blocks. -/
theorem outs6 (t : Fin cfg0.N) (y : S8x512x704.Idx) : out0_6 (iblk m c 0 t) (iblk m c 1 t) (iblk m c 2 t) (iblk m c 3 t) (iblk m c 4 t) y
    = guAt m c (y 0) (row t (y 1)) (y 2) := by
  have B := block m c t
  unfold_out out0_6; frame_out
  simp only [same4, same6, same7, same8, same9, same10, same11, same12, same14, same15, same16, same17, same20, same21, same22,
    same23, same25, same26]
  canon_tiles x hx
  · rw [eq_ix3 x]; exact (store7 _ _ _ _ _).trans ((proj20 B (w7 B) _ _).trans (guAt_eq m c rfl hx0 hx1 hx2))
  · rw [eq_ix3 x]; exact (store3 _ _ _ _ _).trans ((proj19 B (w3 B) _ _).trans (guAt_eq m c rfl hx0 hx1 hx2))
  · rw [eq_ix3 x]; exact (store6 _ _ _ _).trans ((proj14 B (w6 B) _ _).trans (guAt_eq m c rfl hx0 hx1 hx2))
  · rw [eq_ix3 x]; exact (store2 _ _ _ _).trans ((proj13 B (w2 B) _ _).trans (guAt_eq m c rfl hx0 hx1 hx2))
  · rw [eq_ix3 x]; exact (store5 _ _ _ _).trans ((proj8 B (w5 B) _ _).trans (guAt_eq m c rfl hx0 hx1 hx2))
  · rw [eq_ix3 x]; exact (store1 _ _ _ _).trans ((proj7 B (w1 B) _ _).trans (guAt_eq m c rfl hx0 hx1 hx2))
  · rw [eq_ix3 x]; exact (store4 _ _ _ _).trans ((proj6 B (w4 B) _ _).trans (guAt_eq m c rfl hx0 hx1 hx2))
  · rw [eq_ix3 x]; exact (store0 _ _ _ _ _ _).trans ((proj5 B (w0 B) _ _).trans (guAt_eq m c rfl (i := x 0) (hx0.trans (zero_add _).symm) hx1 hx2))

attribute [local irreducible] x2At guAt fAt

/-! The rows that the grid points write are all of them. -/

theorem final5 : (dats m 0 c).arrAt 5 cfg0.N = x2Arr m c := by
  refine (dats m 0 c).arrAt_eq_of_covers 5 _ (by decide +kernel) fun t hf y => ?_
  blk_simp; rw [after0_5]; rw [outs5]
  obtain ⟨-, -, -, -, -, e5, e6, e7⟩ := idx t
  have h : ((cfg0.win 5).blk t).view.emb y = (ix2 (row t (y 0)) (y 1) : S4096x1024.Idx) := by blk_ext [e5]
  exact congrArg (x2Arr m c) h.symm

theorem final6 : (dats m 0 c).arrAt 6 cfg0.N = guArr m c := by
  refine (dats m 0 c).arrAt_eq_of_covers 6 _ (by decide +kernel) fun t hf y => ?_
  blk_simp; rw [after0_6]; rw [outs6]
  obtain ⟨-, -, -, -, -, e5, e6, e7⟩ := idx t
  have h : ((cfg0.win 6).blk t).view.emb y = (ix3 (y 0) (row t (y 1)) (y 2) : S8x4096x704.Idx) := by blk_ext [e6]
  exact congrArg (guArr m c) h.symm

theorem final7 : (dats m 0 c).arrAt 7 cfg0.N = fArr m c := by
  refine (dats m 0 c).arrAt_eq_of_covers 7 _ (by decide +kernel) fun t hf y => ?_
  blk_simp; rw [after0_7]; rw [outs7]
  obtain ⟨-, -, -, -, -, e5, e6, e7⟩ := idx t
  have h : ((cfg0.win 7).blk t).view.emb y = (ix2 (row t (y 0)) (y 1) : S4096x1024.Idx) := by blk_ext [e7]
  exact congrArg (fArr m c) h.symm

end Cert.FfnMidStep
-- ==== Proof.FfnMidClaim.lean ====
/- The claims of the feed-forward call of the layers before the last: the kernel leaves what the reference leaves,
   whatever the arguments are. -/
module

public import proofs.«01_k».proof.Defs
public import proofs.«01_k».proof.Proof.FfnMidBlock
public import proofs.«01_k».proof.Proof.Gen.FfnIdeal.Run

@[expose] public section

set_option maxRecDepth 16384
set_option maxHeartbeats 1600000

noncomputable section

open Idealize.ShloMosaic Idealize.ShloMosaic.TcCoe Idealize.SL.Sem

namespace Cert.FfnMidClaim
open Cert.FfnMidStep
open Cert.FfnIdeal Cert.FfnIdeal.Gen Cert.FfnIdeal.Read
attribute [local instance] Cert.FfnMidIdeal.Gen.facts Cert.FfnIdeal.Gen.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun r h => ⟨fun c => (h c).2.2.2, sem_eq_zero_of_no_sems (by decide) r.2⟩)
    (Cert.FfnIdeal.Value.run m g)

attribute [local irreducible] val_main_v12 val_main_v13 val_main_v18 Cert.FfnLossIdeal.Read.val_main_v12
  Cert.FfnLossIdeal.Read.val_main_v13 Cert.FfnLossIdeal.Read.val_main_v18

/-- The kernel's results are the reference's. -/
theorem algebraic : Cert.algebraic_FfnMidIdeal_FfnIdeal := by
  intro m g m' g' pre agree
  refine ⟨fun c => x2Arr m c, fun c => guArr m c, fun c => fArr m c, ?_, ?_⟩
  · refine (θ_run _ _ _).mono (fun r h c => ?_) (Cert.FfnMidIdeal.Value.run_blocks m g)
    obtain ⟨h5, h6, h7, h⟩ := h c
    exact ⟨h5.trans (final5 m c), h6.trans (final6 m c), h7.trans (final7 m c), h⟩
  · refine (θ_run _ _ _).mono (fun r h c => ?_) (Cert.FfnIdeal.Value.run m' g')
    obtain ⟨h5, h6, h7, h⟩ := h c
    obtain ⟨e0, e1, e2, e3, e4⟩ := agree c
    refine ⟨(h5.trans (val_main_v32_eq _ _)).trans ?_, (h6.trans (val_main_v35_eq _ _ _)).trans ?_,
      (h7.trans (val_main_v18_eq _ _ _ _)).trans ?_, h⟩
    · funext i
      rw [e0, e1, e2, e3, e4, eq_ix2 i]
      rfl
    · funext i
      rw [e0, e1, e2, eq_ix3 i]
      exact ref_blocks _ _ _ (i 0) (i 1) (i 2)
    · funext i
      rw [e0, e1, e2, e3, eq_ix2 i, ref_f]
      rfl

end Cert.FfnMidClaim
-- ==== Proof.WinClaim.lean ====
/- The gradient of the input projection's weights: kernel and reference leave the same array, whatever the
   arguments are. Each grid point multiplies the transposed normalised input with 512 columns of the flow. -/
module

public import proofs.«01_k».proof.Defs
public import proofs.«01_k».proof.Proof.Lift
public import Idealize.ShloMosaic.Lib.Pipeline.ValueKit
public import proofs.«01_k».proof.Proof.Gen.WinBwdIdeal.Value
public import proofs.«01_k».proof.Proof.Gen.WinGradIdeal.Run
public import proofs.«01_k».proof.Proof.Gen.WinGradIdeal.Read

@[expose] public section

set_option maxRecDepth 16384
set_option maxHeartbeats 1600000

noncomputable section

open Idealize.ShloMosaic Idealize.ShloMosaic.TcCoe Idealize.SL.Sem
open Idealize.ShloMosaic.Pipeline (Dat)

namespace Cert.WinClaim
open Cert.Step

abbrev Arr (s : Shape) := BufTy.Contents (Elt Ideal) ⟨s, .f32⟩

section Reference
open Cert.WinGradIdeal Cert.WinGradIdeal.Read
variable (x : Arr S4096x1024) (g : Arr S1024) (dp : Arr S4096x3072)

/-- The gradient at weight `(d, e)`: the normalised input's column `d` against the flow's column `e`. -/
def grad (d : Fin 1024) (e : Fin 3072) : EReal :=
  ∑ s : Fin 4096, val_main_v12 (F := Ideal) x g (ix2 s d) * dp (ix2 s e)

theorem ref (d e) : val_main_v16 (F := Ideal) x g dp (ix2 d e) = grad x g dp d e := by
  pointwise [val_main_v16, val_main_v15, val_main_v14]
  exact Finset.sum_congr rfl fun s _ => mul_comm _ _

end Reference

section Kernel
open Cert.WinBwdIdeal Cert.WinBwdIdeal.Gen

variable (m : (ℓ : Loc nD τ sig) → Buf (Elt Ideal) ℓ) (c : Dev nD)

/-- Which block of its array each window holds at grid point `t`. -/
theorem idx : ∀ t : Fin cfg0.N, win0_0.index t = ![0, 0] ∧ win0_1.index t = ![0, t.val] ∧ win0_2.index t = ![0, t.val] :=
  (by decide +kernel : ∀ t : Fin grid0.N, _)

/-- The column of the whole array that column `j` of grid point `t`'s block is. -/
abbrev col (t : Fin cfg0.N) (j : Fin 512) : Fin 3072 :=
  ⟨t.val * 512 + j.val, by have h : t.val < 6 := t.isLt; omega⟩

/-- The host's left factor is the reference's normalised input, transposed. -/
theorem host_h : V m c main_v14 = truncf (F := Ideal) .bf16 (transpose S1024x4096 [1, 0]
    (Cert.WinGradIdeal.Read.val_main_v12 (F := Ideal) (m ((c.tc : Thread nD τ).loc main_arg0)) (m ((c.tc : Thread nD τ).loc main_arg1)))
    transposes_S4096x1024_S1024x4096_1_0) bitsLt_bf16_f32 := by
  entry_read; rfl

/-- The host's right factor is the flow. -/
theorem host_d : V m c main_v15 = truncf (F := Ideal) .bf16 (m ((c.tc : Thread nD τ).loc main_arg3)) bitsLt_bf16_f32 := by
  entry_read; rfl

theorem arr_h (d s) : V m c main_v14 (ix2 d s) = Cert.WinGradIdeal.Read.val_main_v12 (F := Ideal)
    (m ((c.tc : Thread nD τ).loc main_arg0)) (m ((c.tc : Thread nD τ).loc main_arg1)) (ix2 s d) := by
  rw [host_h]; pointwise

theorem arr_d (s e) : V m c main_v15 (ix2 s e) = (m ((c.tc : Thread nD τ).loc main_arg3) : Arr S4096x3072) (ix2 s e) := by
  rw [host_d]; pointwise

theorem blk_h (t : Fin cfg0.N) (d : Fin 1024) (s : Fin 4096) : iblk m c 0 t (ix2 d s) = Cert.WinGradIdeal.Read.val_main_v12 (F := Ideal)
    (m ((c.tc : Thread nD τ).loc main_arg0)) (m ((c.tc : Thread nD τ).loc main_arg1)) (ix2 s d) := by
  refine Eq.trans ?_ (arr_h m c d s)
  obtain ⟨e0, e1, e2⟩ := idx t
  blk_ext [iblk, e0]

theorem blk_d (t : Fin cfg0.N) (s : Fin 4096) (j : Fin 512) :
    iblk m c 1 t (ix2 s j) = (m ((c.tc : Thread nD τ).loc main_arg3) : Arr S4096x3072) (ix2 s (col t j)) := by
  refine Eq.trans ?_ (arr_d m c s (col t j))
  obtain ⟨e0, e1, e2⟩ := idx t
  blk_ext [iblk, e1]

/-- What the kernel leaves. -/
def arr : Arr S1024x3072 := fun i =>
  grad (m ((c.tc : Thread nD τ).loc main_arg0)) (m ((c.tc : Thread nD τ).loc main_arg1)) (m ((c.tc : Thread nD τ).loc main_arg3)) (i 0) (i 1)

/-- What the body computes from its two blocks. -/
theorem pay (a : Vec Ideal S1024x4096 .bf16) (b : Vec Ideal S4096x512 .bf16) (d : Fin 1024) (j : Fin 512) :
    k0_pay1 a b (ix2 d j) = ∑ s : Fin 4096, (a (ix2 d s) : EReal) * b (ix2 s j) := by
  pointwise [k0_pay1]

/-- Each grid point writes its columns of the gradient. -/
theorem outs (t : Fin cfg0.N) (y : S1024x512.Idx) : out0_2 (iblk m c 0 t) (iblk m c 1 t) y
    = grad (m ((c.tc : Thread nD τ).loc main_arg0)) (m ((c.tc : Thread nD τ).loc main_arg1)) (m ((c.tc : Thread nD τ).loc main_arg3))
      (y 0) (col t (y 1)) := by
  unfold out0_2; frame_out
  rw [eq_ix2 y]
  exact (pay _ _ _ _).trans (Finset.sum_congr rfl fun s _ => congrArg₂ (· * ·) (blk_h m c t _ s) (blk_d m c t s _))

attribute [local irreducible] grad

/-- The whole array. -/
theorem final : (dats m 0 c).arrAt 2 cfg0.N = arr m c := by
  refine (dats m 0 c).arrAt_eq_of_covers 2 _ (by decide +kernel) fun t hf y => ?_
  blk_simp; rw [after0_2]; rw [outs]
  obtain ⟨e0, e1, e2⟩ := idx t
  have h : ((cfg0.win 2).blk t).view.emb y = (ix2 (y 0) (col t (y 1)) : S1024x3072.Idx) := by blk_ext [e2]
  exact congrArg (arr m c) h.symm

end Kernel

section Claim
open Cert.WinGradIdeal Cert.WinGradIdeal.Gen Cert.WinGradIdeal.Read
attribute [local instance] Cert.WinBwdIdeal.Gen.facts Cert.WinGradIdeal.Gen.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2, sem_eq_zero_of_no_sems (by decide) r.2⟩)
    (Cert.WinGradIdeal.Value.run m g)

/-- The kernel's result is the reference's. -/
theorem algebraic : Cert.algebraic_WinBwdIdeal_WinGradIdeal := by
  intro m g m' g' pre agree
  refine ⟨fun c => arr m c, ?_, ?_⟩
  · refine (θ_run _ _ _).mono (fun r h c => ?_) (Cert.WinBwdIdeal.Value.run_blocks m g)
    obtain ⟨h2, h⟩ := h c
    exact ⟨h2.trans (final m c), h⟩
  · refine (θ_run _ _ _).mono (fun r h c => ?_) (Cert.WinGradIdeal.Value.run m' g')
    obtain ⟨h0, h⟩ := h c
    obtain ⟨e0, e1, e2, e3⟩ := agree c
    refine ⟨(h0.trans (val_main_v16_eq _ _ _)).trans ?_, h⟩
    funext i
    rw [e0, e1, e3, eq_ix2 i]
    exact ref _ _ _ (i 0) (i 1)

end Claim

end Cert.WinClaim
-- ==== Proof.WoutClaim.lean ====
/- The gradient of the output projection's weights: kernel and reference leave the same array, whatever the
   arguments are. Each grid point multiplies the transposed merged branches with 512 columns of the flow. -/
module

public import proofs.«01_k».proof.Defs
public import proofs.«01_k».proof.Proof.Lift
public import Idealize.ShloMosaic.Lib.Pipeline.ValueKit
public import proofs.«01_k».proof.Proof.Gen.WoutBwdIdeal.Value
public import proofs.«01_k».proof.Proof.Gen.WoutGradIdeal.Run
public import proofs.«01_k».proof.Proof.Gen.WoutGradIdeal.Read

@[expose] public section

set_option maxRecDepth 16384
set_option maxHeartbeats 1600000

noncomputable section

open Idealize.ShloMosaic Idealize.ShloMosaic.TcCoe Idealize.SL.Sem
open Idealize.ShloMosaic.Pipeline (Dat)

namespace Cert.WoutClaim
open Cert.Step

abbrev Arr (s : Shape) := BufTy.Contents (Elt Ideal) ⟨s, .f32⟩

section Reference
open Cert.WoutGradIdeal Cert.WoutGradIdeal.Read
variable (x dp : Arr S4096x1024)

/-- The gradient at weight `(d, e)`: the branches' column `d` against the flow's column `e`. -/
def grad (d e : Fin 1024) : EReal := ∑ s : Fin 4096, x (ix2 s d) * dp (ix2 s e)

theorem ref (d e) : val_main_v3 (F := Ideal) x dp (ix2 d e) = grad x dp d e := by
  pointwise [val_main_v3, val_main_v2, val_main_v1]
  exact Finset.sum_congr rfl fun s _ => mul_comm _ _

end Reference

section Kernel
open Cert.WoutBwdIdeal Cert.WoutBwdIdeal.Gen

variable (m : (ℓ : Loc nD τ sig) → Buf (Elt Ideal) ℓ) (c : Dev nD)

/-- Which block of its array each window holds at grid point `t`. -/
theorem idx : ∀ t : Fin cfg0.N, win0_0.index t = ![0, 0] ∧ win0_1.index t = ![0, t.val] ∧ win0_2.index t = ![0, t.val] :=
  (by decide +kernel : ∀ t : Fin grid0.N, _)

/-- The column of the whole array that column `j` of grid point `t`'s block is. -/
abbrev col (t : Fin cfg0.N) (j : Fin 512) : Fin 1024 :=
  ⟨t.val * 512 + j.val, by have h : t.val < 2 := t.isLt; omega⟩

/-- The host's left factor is the merged branches, transposed. -/
theorem host_h : V m c main_v1 = truncf (F := Ideal) .bf16 (transpose S1024x4096 [1, 0]
    (m ((c.tc : Thread nD τ).loc main_arg0)) transposes_S4096x1024_S1024x4096_1_0) bitsLt_bf16_f32 := by
  entry_read; rfl

/-- The host's right factor is the flow. -/
theorem host_d : V m c main_v2 = truncf (F := Ideal) .bf16 (m ((c.tc : Thread nD τ).loc main_arg2)) bitsLt_bf16_f32 := by
  entry_read; rfl

theorem arr_h (d s) : V m c main_v1 (ix2 d s) = (m ((c.tc : Thread nD τ).loc main_arg0) : Arr S4096x1024) (ix2 s d) := by
  rw [host_h]; pointwise

theorem arr_d (s e) : V m c main_v2 (ix2 s e) = (m ((c.tc : Thread nD τ).loc main_arg2) : Arr S4096x1024) (ix2 s e) := by
  rw [host_d]; pointwise

theorem blk_h (t : Fin cfg0.N) (d : Fin 1024) (s : Fin 4096) : iblk m c 0 t (ix2 d s) = (m ((c.tc : Thread nD τ).loc main_arg0) : Arr S4096x1024) (ix2 s d) := by
  refine Eq.trans ?_ (arr_h m c d s)
  obtain ⟨e0, e1, e2⟩ := idx t
  blk_ext [iblk, e0]

theorem blk_d (t : Fin cfg0.N) (s : Fin 4096) (j : Fin 512) :
    iblk m c 1 t (ix2 s j) = (m ((c.tc : Thread nD τ).loc main_arg2) : Arr S4096x1024) (ix2 s (col t j)) := by
  refine Eq.trans ?_ (arr_d m c s (col t j))
  obtain ⟨e0, e1, e2⟩ := idx t
  blk_ext [iblk, e1]

/-- What the kernel leaves. -/
def arr : Arr S1024x1024 := fun i =>
  grad (m ((c.tc : Thread nD τ).loc main_arg0)) (m ((c.tc : Thread nD τ).loc main_arg2)) (i 0) (i 1)

/-- What the body computes from its two blocks. -/
theorem pay (a : Vec Ideal S1024x4096 .bf16) (b : Vec Ideal S4096x512 .bf16) (d : Fin 1024) (j : Fin 512) :
    k0_pay1 a b (ix2 d j) = ∑ s : Fin 4096, (a (ix2 d s) : EReal) * b (ix2 s j) := by
  pointwise [k0_pay1]

/-- Each grid point writes its columns of the gradient. -/
theorem outs (t : Fin cfg0.N) (y : S1024x512.Idx) : out0_2 (iblk m c 0 t) (iblk m c 1 t) y
    = grad (m ((c.tc : Thread nD τ).loc main_arg0)) (m ((c.tc : Thread nD τ).loc main_arg2))
      (y 0) (col t (y 1)) := by
  unfold out0_2; frame_out
  rw [eq_ix2 y]
  exact (pay _ _ _ _).trans (Finset.sum_congr rfl fun s _ => congrArg₂ (· * ·) (blk_h m c t _ s) (blk_d m c t s _))

attribute [local irreducible] grad

/-- The whole array. -/
theorem final : (dats m 0 c).arrAt 2 cfg0.N = arr m c := by
  refine (dats m 0 c).arrAt_eq_of_covers 2 _ (by decide +kernel) fun t hf y => ?_
  blk_simp; rw [after0_2]; rw [outs]
  obtain ⟨e0, e1, e2⟩ := idx t
  have h : ((cfg0.win 2).blk t).view.emb y = (ix2 (y 0) (col t (y 1)) : S1024x1024.Idx) := by blk_ext [e2]
  exact congrArg (arr m c) h.symm

end Kernel

section Claim
open Cert.WoutGradIdeal Cert.WoutGradIdeal.Gen Cert.WoutGradIdeal.Read
attribute [local instance] Cert.WoutBwdIdeal.Gen.facts Cert.WoutGradIdeal.Gen.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run _ _ _).mono (fun r h => ⟨fun c => (h c).2, sem_eq_zero_of_no_sems (by decide) r.2⟩)
    (Cert.WoutGradIdeal.Value.run m g)

/-- The kernel's result is the reference's. -/
theorem algebraic : Cert.algebraic_WoutBwdIdeal_WoutGradIdeal := by
  intro m g m' g' pre agree
  refine ⟨fun c => arr m c, ?_, ?_⟩
  · refine (θ_run _ _ _).mono (fun r h c => ?_) (Cert.WoutBwdIdeal.Value.run_blocks m g)
    obtain ⟨h2, h⟩ := h c
    exact ⟨h2.trans (final m c), h⟩
  · refine (θ_run _ _ _).mono (fun r h c => ?_) (Cert.WoutGradIdeal.Value.run m' g')
    obtain ⟨h0, h⟩ := h c
    obtain ⟨e0, e1, e2⟩ := agree c
    refine ⟨(h0.trans (val_main_v3_eq _ _)).trans ?_, h⟩
    funext i
    rw [e0, e2, eq_ix2 i]
    exact ref _ _ (i 0) (i 1)

end Claim

end Cert.WoutClaim
-- ==== Proof.InprojFwdKernel.lean ====
/- What the body of the in-projection kernel computes from its blocks: the six projections of the normalised input; the
   queries and the keys are turned 128 columns at a time, each lane multiplied with its own entry of the first table and the
   lanes eight to either side of it with theirs of the other two. -/
module

public import proofs.«01_k».proof.Proof.Extended
public import proofs.«01_k».proof.Proof.Lift
public import Idealize.ShloMosaic.Lib.Pipeline.ValueKit
public import proofs.«01_k».proof.Proof.Gen.InprojFwdIdeal.Value

@[expose] public section

set_option maxRecDepth 16384
set_option maxHeartbeats 1600000

noncomputable section

open Idealize.ShloMosaic Idealize.SL.Sem

namespace Cert.InprojFwdStep
open Cert.InprojFwdIdeal Cert.InprojFwdIdeal.Gen Cert.Step

/-- The lane of column `e` in its group of 128, and the columns whose lanes are eight above and eight below, around the group. -/
abbrev lane (e : Fin 512) : Fin 128 := ⟨e.val % 128, by omega⟩
abbrev above (e : Fin 512) : Fin 512 := ⟨e.val / 128 * 128 + (e.val % 128 + 8) % 128, by omega⟩
abbrev below (e : Fin 512) : Fin 512 := ⟨e.val / 128 * 128 + (e.val % 128 + 120) % 128, by omega⟩

/-- A row of columns turned with the three tables. -/
def turned (q : Fin 512 → EReal) (a b c : Fin 128 → EReal) (e : Fin 512) : EReal :=
  q e * a (lane e) + q (above e) * b (lane e) + q (below e) * c (lane e)

theorem turned_at (q : Fin 512 → EReal) (a b c : Fin 128 → EReal) (e : Fin 512) (l : Fin 128) (i j k : Fin 512)
    (hl : l.val = e.val % 128) (hi : i.val = e.val) (hj : j.val = e.val / 128 * 128 + (e.val % 128 + 8) % 128)
    (hk : k.val = e.val / 128 * 128 + (e.val % 128 + 120) % 128) :
    q i * a l + q j * b l + q k * c l = turned q a b c e := by
  obtain rfl : l = lane e := Fin.ext hl
  obtain rfl : i = e := Fin.ext hi
  obtain rfl : j = above i := Fin.ext hj
  obtain rfl : k = below i := Fin.ext hk
  rfl

variable (x : Vec Ideal S512x1024 .f32) (g : Vec Ideal S1x1024 .f32) (w : Vec Ideal S1024x512 .bf16) (a b c : Vec Ideal S512x128 .f32)

theorem pay_h (r d) : k0_pay3 (F := Ideal) x g (ix2 r d) = x (ix2 r d) * Ideal.rsqrt (Ideal.div (∑ k : Fin 1024, x (ix2 r k) * x (ix2 r k))
    (Ideal.ofBits .f32 1149239296#32) + Ideal.ofBits .f32 897988541#32) * g (ix2 0 d) := by
  pointwise [k0_pay3]

theorem pay_q0 (r d) : k0_pay7 (F := Ideal) x g w (ix2 r d) = ∑ k : Fin 1024, k0_pay3 (F := Ideal) x g (ix2 r k) * w (ix2 k d) := by
  pointwise [k0_pay7]

theorem pay_q (r : Fin 512) (e : Fin 512) : k0_pay12 (F := Ideal) (k0_pay4 a) (k0_pay5 b) (k0_pay6 c) (k0_pay7 x g w) (k0_pay8 x g a b c w)
      (k0_pay10 x g a b w) (k0_pay11 x g w) (ix2 r e)
    = turned (fun e => k0_pay7 (F := Ideal) x g w (ix2 r e)) (fun l => a (ix2 r l)) (fun l => b (ix2 r l)) (fun l => c (ix2 r l)) e
      * Ideal.ofBits .f32 1040187392#32 := by
  pointwise [k0_pay12, k0_pay8, k0_pay10, k0_pay11, k0_pay9, k0_pay4, k0_pay5, k0_pay6]
  congr 1
  split_ifs <;> exact turned_at (fun e => k0_pay7 (F := Ideal) x g w (ix2 r e)) (fun l => a (ix2 r l)) (fun l => b (ix2 r l))
    (fun l => c (ix2 r l)) e _ _ _ _ (by dsimp only; omega) (by first | rfl | (dsimp only; omega)) (by dsimp only; omega) (by dsimp only; omega)

variable (h : Vec Ideal S512x1024 .bf16)

theorem pay_k0 (r d) : k0_pay13 (F := Ideal) h w (ix2 r d) = ∑ k : Fin 1024, h (ix2 r k) * w (ix2 k d) := by
  pointwise [k0_pay13]

theorem pay_k (r : Fin 512) (e : Fin 512) : k0_pay17 (F := Ideal) (k0_pay4 a) (k0_pay5 b) (k0_pay6 c) (k0_pay13 h w)
      (k0_pay14 h (k0_pay4 a) (k0_pay5 b) (k0_pay6 c) w) (k0_pay15 h (k0_pay4 a) (k0_pay5 b) (k0_pay6 c) w) (k0_pay16 h w) (ix2 r e)
    = turned (fun e => k0_pay13 (F := Ideal) h w (ix2 r e)) (fun l => a (ix2 r l)) (fun l => b (ix2 r l)) (fun l => c (ix2 r l)) e := by
  pointwise [k0_pay17, k0_pay14, k0_pay15, k0_pay16, k0_pay4, k0_pay5, k0_pay6]
  split_ifs <;> exact turned_at (fun e => k0_pay13 (F := Ideal) h w (ix2 r e)) (fun l => a (ix2 r l)) (fun l => b (ix2 r l))
    (fun l => c (ix2 r l)) e _ _ _ _ (by dsimp only; omega) (by first | rfl | (dsimp only; omega)) (by dsimp only; omega) (by dsimp only; omega)

theorem pay_v (r d) : k0_pay18 (F := Ideal) h w (ix2 r d) = ∑ k : Fin 1024, h (ix2 r k) * w (ix2 k d) := by
  pointwise [k0_pay18]
theorem pay_u (r d) : k0_pay19 (F := Ideal) h w (ix2 r d) = ∑ k : Fin 1024, h (ix2 r k) * w (ix2 k d) := by
  pointwise [k0_pay19]
theorem pay_b (r d) : k0_pay1 (F := Ideal) (k0_pay20 h w) (ix2 r d) = ∑ k : Fin 1024, h (ix2 r k) * w (ix2 k d) := by
  pointwise [k0_pay1, k0_pay20]
theorem pay_c (r d) : k0_pay2 (F := Ideal) h w (ix2 r d) = ∑ k : Fin 1024, h (ix2 r k) * w (ix2 k d) := by
  pointwise [k0_pay2]

end Cert.InprojFwdStep
-- ==== Proof.InprojFwdRef.lean ====
/- The reference of the in-projection: the six projections of the normalised input, the queries and keys rotated by the
   angles of their positions. -/
module

public import proofs.«01_k».proof.Proof.Gen.InprojIdeal.Read
public import proofs.«01_k».proof.Proof.InprojFwdKernel

@[expose] public section

set_option maxRecDepth 16384
set_option maxHeartbeats 1600000

noncomputable section

open Idealize.ShloMosaic Idealize.SL.Sem

namespace Cert.InprojFwdStep
open Cert.InprojIdeal Cert.InprojIdeal.Read Cert.Step

abbrev Arr (s : Shape) := BufTy.Contents (Elt Ideal) ⟨s, .f32⟩
abbrev Ints (s : Shape) := BufTy.Contents (Elt Ideal) ⟨s, .i32⟩

/-- A row of heads rotated: of every head's 64 columns the first eight and the next eight are turned into each other. -/
def rotated (q : Fin 512 → EReal) (co si : Fin 8 → EReal) (e : Fin 512) : EReal :=
  if h : e.val % 64 < 8 then q e * co ⟨e.val % 64, h⟩ - q ⟨e.val / 64 * 64 + (8 + e.val % 64), by omega⟩ * si ⟨e.val % 64, h⟩
  else if h' : e.val % 64 - 8 < 8 then
    q e * co ⟨e.val % 64 - 8, h'⟩ + q ⟨e.val / 64 * 64 + (e.val % 64 - 8), by omega⟩ * si ⟨e.val % 64 - 8, h'⟩
  else q e

/-- The three tables of a group of two heads, from the angles' cosines and sines. -/
def tableC (co : Fin 8 → EReal) (l : Fin 128) : EReal :=
  if h : l.val % 64 < 8 then co ⟨l.val % 64, h⟩ else if h' : l.val % 64 - 8 < 8 then co ⟨l.val % 64 - 8, h'⟩ else 1
def tableA (si : Fin 8 → EReal) (l : Fin 128) : EReal :=
  if h : l.val % 64 < 8 then -si ⟨l.val % 64, h⟩ else 0
def tableB (si : Fin 8 → EReal) (l : Fin 128) : EReal :=
  if h : l.val % 64 < 8 then 0 else if h' : l.val % 64 - 8 < 8 then si ⟨l.val % 64 - 8, h'⟩ else 0

/-- Turning with the tables rotates: where a table's entry is zero its lane adds nothing. -/
theorem turned_eq (q : Fin 512 → EReal) (co si : Fin 8 → EReal) (e : Fin 512) :
    turned q (tableC co) (tableA si) (tableB si) e = rotated q co si e := by
  have hm : e.val % 128 % 64 = e.val % 64 := by omega
  unfold turned rotated tableC tableA tableB
  simp only [hm]
  split_ifs with h1 h2
  · have ha : above e = ⟨e.val / 64 * 64 + (8 + e.val % 64), by omega⟩ := Fin.ext (by dsimp only; omega)
    rw [ha, mul_zero, add_zero, mul_neg, ← sub_eq_add_neg]
  · have hb : below e = ⟨e.val / 64 * 64 + (e.val % 64 - 8), by omega⟩ := Fin.ext (by dsimp only; omega)
    rw [hb, mul_zero, add_zero]
  · rw [mul_zero, mul_zero, add_zero, add_zero, mul_one]

variable (x : Arr S4096x1024) (g : Arr S1024) (w : Arr S1024x3072) (p : Ints S4096)

/-- Column `e` of the `k`-th of the six projections. -/
abbrev sixth (k : Fin 6) (e : Fin 512) : Fin 3072 := ⟨k.val * 512 + e.val, by omega⟩

/-- The projections of the normalised input, and the cosines and sines of the angles. -/
abbrev proj (k : Fin 6) (t : Fin 4096) (e : Fin 512) : EReal := val_main_v13 (F := Ideal) x g w (ix2 t (sixth k e))
abbrev cosT (t : Fin 4096) (j : Fin 8) : EReal := val_main_v36 (F := Ideal) p (ix2 t j)
abbrev sinT (t : Fin 4096) (j : Fin 8) : EReal := val_main_v37 (F := Ideal) p (ix2 t j)

theorem ref_h (t d) : val_main_v12 (F := Ideal) x g (ix2 t d) = x (ix2 t d) * Ideal.rsqrt (Ideal.div (∑ k : Fin 1024, x (ix2 t k) * x (ix2 t k))
    (Ideal.ofBits .f32 1149239296#32) + Ideal.ofBits .f32 897988541#32) * g (ix1 d) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem ref_proj (k t e) : proj x g w k t e = ∑ d : Fin 1024, val_main_v12 (F := Ideal) x g (ix2 t d) * w (ix2 d (sixth k e)) := by
  unfold proj
  pointwise [val_main_v13]

/-- Each projection is its 512 columns. -/
theorem cut (k : Fin 6) (t : Fin 4096) (e : Fin 512) (i : Fin 3072) (hi : i.val = k.val * 512 + e.val) :
    val_main_v13 (F := Ideal) x g w (ix2 t i) = proj x g w k t e := by
  obtain rfl : i = sixth k e := Fin.ext hi
  rfl

theorem ref_q0 (t e) : val_main_v14 (F := Ideal) x g w (ix2 t e) = proj x g w 0 t e := by
  unfold proj
  pointwise [val_main_v14]
  exact cut x g w 0 t e _ (by simp)
theorem ref_k0 (t e) : val_main_v15 (F := Ideal) x g w (ix2 t e) = proj x g w 1 t e := by
  unfold proj
  pointwise [val_main_v15]
  exact cut x g w 1 t e _ (by simp)
theorem ref_v (t e) : val_main_v96 (F := Ideal) x g w (ix2 t e) = proj x g w 2 t e := by
  unfold proj
  pointwise [val_main_v96, val_main_v16]
  exact cut x g w 2 t e _ (by simp)
theorem ref_u (t e) : val_main_v97 (F := Ideal) x g w (ix2 t e) = proj x g w 3 t e := by
  unfold proj
  pointwise [val_main_v97, val_main_v17]
  exact cut x g w 3 t e _ (by simp)
theorem ref_b (t e) : val_main_v98 (F := Ideal) x g w (ix2 t e) = proj x g w 4 t e := by
  unfold proj
  pointwise [val_main_v98, val_main_v18]
  exact cut x g w 4 t e _ (by simp)
theorem ref_c (t e) : val_main_v99 (F := Ideal) x g w (ix2 t e) = proj x g w 5 t e := by
  unfold proj
  pointwise [val_main_v99, val_main_v19]
  exact cut x g w 5 t e _ (by simp)

/-- The two computations of the angles are one. -/
theorem cos_again : val_main_v74 (F := Ideal) p = val_main_v36 (F := Ideal) p := rfl
theorem sin_again : val_main_v75 (F := Ideal) p = val_main_v37 (F := Ideal) p := rfl

/-- The rotated queries, scaled. -/
theorem ref_q (t : Fin 4096) (e : Fin 512) : val_main_v94 (F := Ideal) x g w p (ix2 t e)
    = rotated (proj x g w 0 t) (cosT p t) (sinT p t) e * Ideal.ofBits .f32 1040187392#32 := by
  rw [show proj x g w 0 t = fun e => val_main_v14 (F := Ideal) x g w (ix2 t e) from funext fun e => (ref_q0 x g w t e).symm]
  unfold rotated cosT sinT
  pointwise [val_main_v94, val_main_v57, val_main_v56, val_main_v55, val_main_v54, val_main_v53, val_main_v52, val_main_v51, val_main_v50, val_main_v49,
    val_main_v48, val_main_v47, val_main_v46, val_main_v45, val_main_v44, val_main_v43, val_main_v42, val_main_v41, val_main_v40,
    val_main_v39, val_main_v38, val_main_cst_6]
  by_cases h1 : e.val % 64 < 8
  · simp only [dif_pos h1]
  · by_cases h2 : e.val % 64 - 8 < 8
    · have he : (⟨e.val / 64 * 64 + (8 + (e.val % 64 - 8)), by omega⟩ : Fin 512) = e := Fin.ext (by dsimp only; omega)
      simp only [dif_neg h1, dif_pos h2, he]
    · have he : (⟨e.val / 64 * 64 + (16 + (e.val % 64 - 8 - 8)), by omega⟩ : Fin 512) = e := Fin.ext (by dsimp only; omega)
      simp only [dif_neg h1, dif_neg h2, he]

/-- The rotated keys. -/
theorem ref_k (t : Fin 4096) (e : Fin 512) : val_main_v95 (F := Ideal) x g w p (ix2 t e)
    = rotated (proj x g w 1 t) (cosT p t) (sinT p t) e := by
  rw [show proj x g w 1 t = fun e => val_main_v15 (F := Ideal) x g w (ix2 t e) from funext fun e => (ref_k0 x g w t e).symm]
  unfold rotated cosT sinT
  rw [← cos_again, ← sin_again]
  pointwise [val_main_v95, val_main_v93, val_main_v92, val_main_v91, val_main_v90, val_main_v89, val_main_v88, val_main_v87, val_main_v86,
    val_main_v85, val_main_v84, val_main_v83, val_main_v82, val_main_v81, val_main_v80, val_main_v79, val_main_v78, val_main_v77, val_main_v76]
  by_cases h1 : e.val % 64 < 8
  · simp only [dif_pos h1]
  · by_cases h2 : e.val % 64 - 8 < 8
    · have he : (⟨e.val / 64 * 64 + (8 + (e.val % 64 - 8)), by omega⟩ : Fin 512) = e := Fin.ext (by dsimp only; omega)
      simp only [dif_neg h1, dif_pos h2, he]
    · have he : (⟨e.val / 64 * 64 + (16 + (e.val % 64 - 8 - 8)), by omega⟩ : Fin 512) = e := Fin.ext (by dsimp only; omega)
      simp only [dif_neg h1, dif_neg h2, he]

end Cert.InprojFwdStep
-- ==== Proof.InprojFwdBlock.lean ====
/- What the blocks of the in-projection kernel hold: the arrays that the host prepares, the three tables among them, and
   the rows of each that a grid point reads. -/
module

public import proofs.«01_k».proof.Proof.InprojFwdRef

@[expose] public section

set_option maxRecDepth 16384
set_option maxHeartbeats 1600000

noncomputable section

open Idealize.ShloMosaic Idealize.ShloMosaic.TcCoe Idealize.SL.Sem
open Idealize.ShloMosaic.Pipeline (Dat)

namespace Cert.InprojFwdStep
open Cert.InprojFwdIdeal Cert.InprojFwdIdeal.Gen Cert.Step

variable (m : (ℓ : Loc nD τ sig) → Buf (Elt Ideal) ℓ) (c : Dev nD)

/-- Which block of its array each window holds at grid point `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- The row of the whole array that row `r` of grid point `t`'s block is. -/
abbrev row (t : Fin cfg0.N) (r : Fin 512) : Fin 4096 :=
  ⟨t.val * 512 + r.val, by have h : t.val < 8 := t.isLt; omega⟩

/-! The arguments. -/
abbrev aX : Arr S4096x1024 := m ((c.tc : Thread nD τ).loc main_arg0)
abbrev aG : Arr S1024 := m ((c.tc : Thread nD τ).loc main_arg1)
abbrev aW : Arr S1024x3072 := m ((c.tc : Thread nD τ).loc main_arg2)
abbrev aP : Ints S4096 := m ((c.tc : Thread nD τ).loc main_arg3)

/-- The columns of the host's tables that are the same for every position. -/
abbrev fill (s : Shape) (bits : BitVec 32) : Arr s := fun _ => Ideal.ofBits .f32 bits

/-- The host's norm weight, as a row, and its projection weight. -/
theorem host_g : V m c main_v0 = broadcastInDim S1x1024 ![1] bcast_S1024_S1x1024_1 (aG m c) := by
  entry_read; rfl
theorem host_w : V m c main_v1 = truncf (F := Ideal) .bf16 (aW m c) bitsLt_bf16_f32 := by
  entry_read; rfl

/-- The host's cosines and sines are the reference's. -/
abbrev hCos : Arr S4096x8 := Cert.InprojIdeal.Read.val_main_v36 (F := Ideal) (aP m c)
abbrev hSin : Arr S4096x8 := Cert.InprojIdeal.Read.val_main_v37 (F := Ideal) (aP m c)
abbrev hNeg : Arr S4096x8 := Host.negf (F := Ideal) (φ := .f32) (hSin m c)

/-- Three column pieces, twice: the table of a group of two heads. -/
abbrev pair (a b : Arr S4096x8) (z : Arr S4096x48) : Arr S4096x128 :=
  concatenate S4096x128 1 [⟨S4096x8, a⟩, ⟨S4096x8, b⟩, ⟨S4096x48, z⟩, ⟨S4096x8, a⟩, ⟨S4096x8, b⟩, ⟨S4096x48, z⟩]
    concatenates_S4096x8_S4096x8_S4096x48_S4096x8_S4096x8_S4096x48_S4096x128_d1

theorem host_c : V m c main_v24 = pair (hCos m c) (hCos m c) (fill S4096x48 0x3F800000#32) := rfl
theorem host_a : V m c main_v25 = pair (hNeg m c) (fill S4096x8 0x00000000#32) (fill S4096x48 0x00000000#32) := rfl
theorem host_b : V m c main_v26 = pair (fill S4096x8 0x00000000#32) (hSin m c) (fill S4096x48 0x00000000#32) := rfl

/-- A head's piece by the lane in its head. -/
theorem pair_apply (a b : Arr S4096x8) (z : Arr S4096x48) (t : Fin 4096) (l : Fin 128) :
    pair a b z (ix2 t l) = if h : l.val % 64 < 8 then a (ix2 t ⟨l.val % 64, h⟩)
      else if h' : l.val % 64 - 8 < 8 then b (ix2 t ⟨l.val % 64 - 8, h'⟩)
      else z (ix2 t ⟨l.val % 64 - 16, by omega⟩) := by
  unfold pair
  pointwise
  rcases Nat.lt_or_ge l.val 64 with hl | hl
  · have hm : l.val % 64 = l.val := by omega
    have hz : l.val - 8 - 8 = l.val - 16 := by omega
    simp only [hm, hz]
    split_ifs <;> first | rfl | omega
  · have hm : l.val % 64 = l.val - 8 - 8 - 48 := by omega
    have hz : l.val - 8 - 8 - 48 - 8 - 8 = l.val - 8 - 8 - 48 - 16 := by omega
    simp only [hm, hz]
    split_ifs <;> first | rfl | omega

theorem arr_g (o d) : V m c main_v0 (ix2 o d) = aG m c (ix1 d) := by
  rw [host_g]; pointwise
theorem arr_w (d e) : V m c main_v1 (ix2 d e) = aW m c (ix2 d e) := by
  rw [host_w]; pointwise
theorem arr_c (t l) : V m c main_v24 (ix2 t l) = tableC (cosT (aP m c) t) l := by
  rw [host_c, pair_apply]
  unfold tableC
  pointwise
theorem arr_a (t l) : V m c main_v25 (ix2 t l) = tableA (sinT (aP m c) t) l := by
  rw [host_a, pair_apply]
  unfold tableA
  pointwise
  split_ifs <;> rfl
theorem arr_b (t l) : V m c main_v26 (ix2 t l) = tableB (sinT (aP m c) t) l := by
  rw [host_b, pair_apply]
  unfold tableB
  pointwise

/-! Every grid point reads its 512 rows of them. -/

theorem blk_x (t : Fin cfg0.N) (r : Fin 512) (d : Fin 1024) : iblk m c 0 t (ix2 r d) = aX m c (ix2 (row t r) d) := by
  obtain ⟨e0, -⟩ := idx t
  blk_ext [iblk, V, e0]

theorem blk_g (t : Fin cfg0.N) (o : Fin 1) (d : Fin 1024) : iblk m c 1 t (ix2 o d) = aG m c (ix1 d) := by
  refine Eq.trans ?_ (arr_g m c o d)
  obtain ⟨e0, e1, -⟩ := idx t
  blk_ext [iblk, e1]

theorem blk_w (t : Fin cfg0.N) (d : Fin 1024) (e : Fin 3072) : iblk m c 2 t (ix2 d e) = aW m c (ix2 d e) := by
  refine Eq.trans ?_ (arr_w m c d e)
  obtain ⟨e0, e1, e2, -⟩ := idx t
  blk_ext [iblk, e2]

theorem blk_c (t : Fin cfg0.N) (r : Fin 512) (l : Fin 128) : iblk m c 3 t (ix2 r l) = tableC (cosT (aP m c) (row t r)) l := by
  refine Eq.trans ?_ (arr_c m c (row t r) l)
  obtain ⟨e0, e1, e2, e3, -⟩ := idx t
  blk_ext [iblk, e3]

theorem blk_a (t : Fin cfg0.N) (r : Fin 512) (l : Fin 128) : iblk m c 4 t (ix2 r l) = tableA (sinT (aP m c) (row t r)) l := by
  refine Eq.trans ?_ (arr_a m c (row t r) l)
  obtain ⟨e0, e1, e2, e3, e4, -⟩ := idx t
  blk_ext [iblk, e4]

theorem blk_b (t : Fin cfg0.N) (r : Fin 512) (l : Fin 128) : iblk m c 5 t (ix2 r l) = tableB (sinT (aP m c) (row t r)) l := by
  refine Eq.trans ?_ (arr_b m c (row t r) l)
  obtain ⟨e0, e1, e2, e3, e4, e5, -⟩ := idx t
  blk_ext [iblk, e5]

end Cert.InprojFwdStep
-- ==== Proof.InprojFwdFinal.lean ====
/- What the in-projection kernel leaves: row by row the reference's six results. -/
module

public import proofs.«01_k».proof.Proof.InprojFwdBlock

@[expose] public section

set_option maxRecDepth 16384
set_option maxHeartbeats 1600000

noncomputable section

open Idealize.ShloMosaic Idealize.ShloMosaic.TcCoe Idealize.SL.Sem
open Idealize.ShloMosaic.Pipeline (Dat)

namespace Cert.InprojFwdStep
open Cert.InprojFwdIdeal Cert.InprojFwdIdeal.Gen Cert.Step

variable (m : (ℓ : Loc nD τ sig) → Buf (Elt Ideal) ℓ) (c : Dev nD)

/-- A grid point's normalised rows are the reference's. -/
theorem norm_eq (t : Fin cfg0.N) (r d) : k0_pay3 (F := Ideal) (iblk m c 0 t) (iblk m c 1 t) (ix2 r d)
    = Cert.InprojIdeal.Read.val_main_v12 (F := Ideal) (aX m c) (aG m c) (ix2 (row t r) d) := by
  rw [pay_h, ref_h]
  simp only [blk_x, blk_g]

/-- So their products with 512 of the weight's columns are one of the reference's projections. -/
theorem proj_eq (t : Fin cfg0.N) (k : Fin 6) (r : Fin 512) (e : Fin 512) (w : Vec Ideal S1024x512 .bf16)
    (hw : ∀ d, w (ix2 d e) = aW m c (ix2 d (sixth k e))) :
    ∑ d : Fin 1024, k0_pay3 (F := Ideal) (iblk m c 0 t) (iblk m c 1 t) (ix2 r d) * (w (ix2 d e) : EReal)
    = proj (aX m c) (aG m c) (aW m c) k (row t r) e := by
  rw [ref_proj]
  exact Finset.sum_congr rfl fun d _ => congrArg₂ (· * ·) (norm_eq m c t r d) (hw d)

/-- The 512 columns of the weight that a load at column `o` reads. -/
theorem ld_w (t : Fin cfg0.N) (k : Fin 6) (o : Nat) (ho : o = k.val * 512)
    (inb : ∀ a, (![0, o] : Fin S1024x3072.rank → Nat) a + S1024x512.size a ≤ S1024x3072.size a) (d : Fin 1024) (e : Fin 512) :
    View.ld (iblk m c 2 t) (Rect.unit (s := S1024x3072) ![0, o] S1024x512.size inb) (ix2 d e) = aW m c (ix2 d (sixth k e)) := by
  refine Eq.trans ?_ (blk_w m c t d (sixth k e))
  refine View.ld_unit_apply_of _ _ _ _ _ _ fun a => ?_
  fin_cases a
  · show d.val = 0 + d.val
    omega
  · show k.val * 512 + e.val = o + e.val
    omega

/-- One projection of a grid point's rows. -/
abbrev P (t : Fin cfg0.N) (k : Fin 6) (r : Fin 512) : Fin 512 → EReal := proj (aX m c) (aG m c) (aW m c) k (row t r)

/-- Turning a grid point's row with its rows of the tables rotates it by its angles. -/
theorem turned_blk (t : Fin cfg0.N) (k : Fin 6) (r : Fin 512) (e : Fin 512) (q : Fin 512 → EReal) (hq : ∀ e, q e = P m c t k r e) :
    turned q (fun l => iblk m c 3 t (ix2 r l)) (fun l => iblk m c 4 t (ix2 r l)) (fun l => iblk m c 5 t (ix2 r l)) e
    = rotated (P m c t k r) (cosT (aP m c) (row t r)) (sinT (aP m c) (row t r)) e := by
  rw [← turned_eq, funext hq, funext (blk_c m c t r), funext (blk_a m c t r), funext (blk_b m c t r)]

/-- The scaled queries. -/
theorem outs6 (t : Fin cfg0.N) (y : S512x512.Idx) : out0_6 (iblk m c 0 t) (iblk m c 1 t) (iblk m c 2 t) (iblk m c 3 t) (iblk m c 4 t) (iblk m c 5 t) y
    = rotated (P m c t 0 (y 0)) (cosT (aP m c) (row t (y 0))) (sinT (aP m c) (row t (y 0))) (y 1) * Ideal.ofBits .f32 1040187392#32 := by
  unfold_out out0_6; frame_out
  rw [eq_ix2 y]
  refine (pay_q _ _ _ _ _ _ _ _).trans (congrArg (· * _) (turned_blk m c t 0 _ _ _ fun e => ?_))
  exact (pay_q0 _ _ _ _ _).trans (proj_eq m c t 0 _ e _ fun d => ld_w m c t 0 0 rfl _ d e)

/-- The keys. -/
theorem outs7 (t : Fin cfg0.N) (y : S512x512.Idx) : out0_7 (iblk m c 0 t) (iblk m c 1 t) (iblk m c 2 t) (iblk m c 3 t) (iblk m c 4 t) (iblk m c 5 t) y
    = rotated (P m c t 1 (y 0)) (cosT (aP m c) (row t (y 0))) (sinT (aP m c) (row t (y 0))) (y 1) := by
  unfold_out out0_7; frame_out
  rw [eq_ix2 y]
  refine (pay_k _ _ _ _ _ _ _).trans (turned_blk m c t 1 _ _ _ fun e => ?_)
  exact (pay_k0 _ _ _ _).trans (proj_eq m c t 1 _ e _ fun d => ld_w m c t 1 512 rfl _ d e)

/-- The values. -/
theorem outs8 (t : Fin cfg0.N) (y : S512x512.Idx) : out0_8 (iblk m c 0 t) (iblk m c 1 t) (iblk m c 2 t) (iblk m c 3 t) (iblk m c 4 t) (iblk m c 5 t) y
    = P m c t 2 (y 0) (y 1) := by
  unfold_out out0_8; frame_out
  rw [eq_ix2 y]
  exact (pay_v _ _ _ _).trans (proj_eq m c t 2 _ _ _ fun d => ld_w m c t 2 1024 rfl _ d _)

/-- The convolution's input. -/
theorem outs9 (t : Fin cfg0.N) (y : S512x512.Idx) : out0_9 (iblk m c 0 t) (iblk m c 1 t) (iblk m c 2 t) (iblk m c 3 t) (iblk m c 4 t) (iblk m c 5 t) y
    = P m c t 3 (y 0) (y 1) := by
  unfold_out out0_9; frame_out
  rw [eq_ix2 y]
  exact (pay_u _ _ _ _).trans (proj_eq m c t 3 _ _ _ fun d => ld_w m c t 3 1536 rfl _ d _)

/-- Its gate behind. -/
theorem outs10 (t : Fin cfg0.N) (y : S512x512.Idx) : out0_10 (iblk m c 0 t) (iblk m c 1 t) (iblk m c 2 t) (iblk m c 3 t) (iblk m c 4 t) (iblk m c 5 t) y
    = P m c t 4 (y 0) (y 1) := by
  unfold_out out0_10; frame_out
  rw [eq_ix2 y]
  exact (pay_b _ _ _ _).trans (proj_eq m c t 4 _ _ _ fun d => ld_w m c t 4 2048 rfl _ d _)

/-- Its gate before. -/
theorem outs11 (t : Fin cfg0.N) (y : S512x512.Idx) : out0_11 (iblk m c 0 t) (iblk m c 1 t) (iblk m c 2 t) (iblk m c 3 t) (iblk m c 4 t) (iblk m c 5 t) y
    = P m c t 5 (y 0) (y 1) := by
  unfold_out out0_11; frame_out
  rw [eq_ix2 y]
  exact (pay_c _ _ _ _).trans (proj_eq m c t 5 _ _ _ fun d => ld_w m c t 5 2560 rfl _ d _)

/-- The six arrays. -/
def arr6 : Arr S4096x512 := fun i => rotated (proj (aX m c) (aG m c) (aW m c) 0 (i 0)) (cosT (aP m c) (i 0)) (sinT (aP m c) (i 0)) (i 1)
  * Ideal.ofBits .f32 1040187392#32
def arr7 : Arr S4096x512 := fun i => rotated (proj (aX m c) (aG m c) (aW m c) 1 (i 0)) (cosT (aP m c) (i 0)) (sinT (aP m c) (i 0)) (i 1)
/-- A projection as an array. -/
def arrP (k : Fin 6) : Arr S4096x512 := fun i => proj (aX m c) (aG m c) (aW m c) k (i 0) (i 1)

attribute [local irreducible] rotated Cert.InprojIdeal.Read.val_main_v13 Cert.InprojIdeal.Read.val_main_v36 Cert.InprojIdeal.Read.val_main_v37

/-- The rows that the grid points write are all of them. -/
theorem final6 : (dats m 0 c).arrAt 6 cfg0.N = arr6 m c := by
  refine (dats m 0 c).arrAt_eq_of_covers 6 _ (by decide +kernel) fun t hf y => ?_
  blk_simp; rw [after0_6]; rw [outs6]
  obtain ⟨e0, e1, e2, e3, e4, e5, e6, e7, e8, e9, e10, e11⟩ := idx t
  have h : ((cfg0.win 6).blk t).view.emb y = (ix2 (row t (y 0)) (y 1) : S4096x512.Idx) := by blk_ext [e6]
  exact congrArg (arr6 m c) h.symm

theorem final7 : (dats m 0 c).arrAt 7 cfg0.N = arr7 m c := by
  refine (dats m 0 c).arrAt_eq_of_covers 7 _ (by decide +kernel) fun t hf y => ?_
  blk_simp; rw [after0_7]; rw [outs7]
  obtain ⟨e0, e1, e2, e3, e4, e5, e6, e7, e8, e9, e10, e11⟩ := idx t
  have h : ((cfg0.win 7).blk t).view.emb y = (ix2 (row t (y 0)) (y 1) : S4096x512.Idx) := by blk_ext [e7]
  exact congrArg (arr7 m c) h.symm

theorem final8 : (dats m 0 c).arrAt 8 cfg0.N = arrP m c 2 := by
  refine (dats m 0 c).arrAt_eq_of_covers 8 _ (by decide +kernel) fun t hf y => ?_
  blk_simp; rw [after0_8]; rw [outs8]
  obtain ⟨e0, e1, e2, e3, e4, e5, e6, e7, e8, e9, e10, e11⟩ := idx t
  have h : ((cfg0.win 8).blk t).view.emb y = (ix2 (row t (y 0)) (y 1) : S4096x512.Idx) := by blk_ext [e8]
  exact congrArg (arrP m c 2) h.symm

theorem final9 : (dats m 0 c).arrAt 9 cfg0.N = arrP m c 3 := by
  refine (dats m 0 c).arrAt_eq_of_covers 9 _ (by decide +kernel) fun t hf y => ?_
  blk_simp; rw [after0_9]; rw [outs9]
  obtain ⟨e0, e1, e2, e3, e4, e5, e6, e7, e8, e9, e10, e11⟩ := idx t
  have h : ((cfg0.win 9).blk t).view.emb y = (ix2 (row t (y 0)) (y 1) : S4096x512.Idx) := by blk_ext [e9]
  exact congrArg (arrP m c 3) h.symm

theorem final10 : (dats m 0 c).arrAt 10 cfg0.N = arrP m c 4 := by
  refine (dats m 0 c).arrAt_eq_of_covers 10 _ (by decide +kernel) fun t hf y => ?_
  blk_simp; rw [after0_10]; rw [outs10]
  obtain ⟨e0, e1, e2, e3, e4, e5, e6, e7, e8, e9, e10, e11⟩ := idx t
  have h : ((cfg0.win 10).blk t).view.emb y = (ix2 (row t (y 0)) (y 1) : S4096x512.Idx) := by blk_ext [e10]
  exact congrArg (arrP m c 4) h.symm

theorem final11 : (dats m 0 c).arrAt 11 cfg0.N = arrP m c 5 := by
  refine (dats m 0 c).arrAt_eq_of_covers 11 _ (by decide +kernel) fun t hf y => ?_
  blk_simp; rw [after0_11]; rw [outs11]
  obtain ⟨e0, e1, e2, e3, e4, e5, e6, e7, e8, e9, e10, e11⟩ := idx t
  have h : ((cfg0.win 11).blk t).view.emb y = (ix2 (row t (y 0)) (y 1) : S4096x512.Idx) := by blk_ext [e11]
  exact congrArg (arrP m c 5) h.symm

end Cert.InprojFwdStep
-- ==== Proof.InprojFwdClaim.lean ====
/- The in-projection's claims: the kernel leaves what the reference leaves, whatever the arguments are. -/
module

public import proofs.«01_k».proof.Defs
public import proofs.«01_k».proof.Proof.InprojFwdFinal
public import proofs.«01_k».proof.Proof.Gen.InprojIdeal.Run

@[expose] public section

set_option maxRecDepth 16384
set_option maxHeartbeats 1600000

noncomputable section

open Idealize.ShloMosaic Idealize.ShloMosaic.TcCoe Idealize.SL.Sem

namespace Cert.InprojFwdClaim
open Cert.InprojFwdStep
open Cert.InprojIdeal Cert.InprojIdeal.Gen Cert.InprojIdeal.Read
attribute [local instance] Cert.InprojFwdIdeal.Gen.facts Cert.InprojIdeal.Gen.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2.2.2.2, sem_eq_zero_of_no_sems (by decide) r.2⟩)
    (Cert.InprojIdeal.Value.run m g)

attribute [local irreducible] val_main_v13 val_main_v36 val_main_v37 rotated

/-- The kernel's six results are the reference's. -/
theorem algebraic : Cert.algebraic_InprojFwdIdeal_InprojIdeal := by
  intro m g m' g' pre agree
  refine ⟨fun c => arr6 m c, fun c => arr7 m c, fun c => arrP m c 2, fun c => arrP m c 3, fun c => arrP m c 4, fun c => arrP m c 5, ?_, ?_⟩
  · refine (θ_run _ _ _).mono (fun r h c => ?_) (Cert.InprojFwdIdeal.Value.run_blocks m g)
    obtain ⟨h6, h7, h8, h9, h10, h11, h⟩ := h c
    exact ⟨h6.trans (final6 m c), h7.trans (final7 m c), h8.trans (final8 m c), h9.trans (final9 m c),
      h10.trans (final10 m c), h11.trans (final11 m c), h⟩
  · refine (θ_run _ _ _).mono (fun r h c => ?_) (Cert.InprojIdeal.Value.run m' g')
    obtain ⟨h6, h7, h8, h9, h10, h11, h⟩ := h c
    obtain ⟨e0, e1, e2, e3⟩ := agree c
    refine ⟨(h6.trans (val_main_v94_eq _ _)).trans ?_, (h7.trans (val_main_v95_eq _ _)).trans ?_,
      (h8.trans (val_main_v96_eq _ _ _)).trans ?_, (h9.trans (val_main_v97_eq _ _ _)).trans ?_,
      (h10.trans (val_main_v98_eq _ _ _)).trans ?_, (h11.trans (val_main_v99_eq _ _ _)).trans ?_, h⟩
    · funext i
      rw [e0, e1, e2, e3, eq_ix2 i]
      exact ref_q _ _ _ _ (i 0) (i 1)
    · funext i
      rw [e0, e1, e2, e3, eq_ix2 i]
      exact ref_k _ _ _ _ (i 0) (i 1)
    · funext i
      rw [e0, e1, e2, eq_ix2 i]
      exact ref_v _ _ _ (i 0) (i 1)
    · funext i
      rw [e0, e1, e2, eq_ix2 i]
      exact ref_u _ _ _ (i 0) (i 1)
    · funext i
      rw [e0, e1, e2, eq_ix2 i]
      exact ref_b _ _ _ (i 0) (i 1)
    · funext i
      rw [e0, e1, e2, eq_ix2 i]
      exact ref_c _ _ _ (i 0) (i 1)

end Cert.InprojFwdClaim
-- ==== Proof.MixFwdKernel.lean ====
/- What the mix kernel's payloads compute, entry by entry: the gated three-tap convolution of a block's rows and the row
   before and after them, the two normed halves side by side, their product with the output weight, and the sum with the
   normed product. -/
module

public import proofs.«01_k».proof.Proof.Extended
public import proofs.«01_k».proof.Proof.Lift
public import Idealize.ShloMosaic.Lib.WordCmp
public import Idealize.ShloMosaic.Lib.Pipeline.ValueKit
public import proofs.«01_k».proof.Proof.Gen.MixFwdIdeal.Value

@[expose] public section

set_option maxRecDepth 16384
set_option maxHeartbeats 1600000

noncomputable section

open Idealize.ShloMosaic Idealize.SL.Sem

namespace Cert.MixFwdStep
open Cert.MixFwdIdeal Cert.MixFwdIdeal.Gen Cert.Step

/-- A row of 512 over the root of its mean square. -/
def normed (v : Fin 512 → EReal) (e : Fin 512) : EReal :=
  v e * Ideal.rsqrt (Ideal.div (∑ x, v x * v x) (Ideal.ofBits .f32 1140850688#32) + Ideal.ofBits .f32 897988541#32)

/-- A row of 1024 over the root of its mean square. -/
def normed' (v : Fin 1024 → EReal) (e : Fin 1024) : EReal :=
  v e * Ideal.rsqrt (Ideal.div (∑ x, v x * v x) (Ideal.ofBits .f32 1149239296#32) + Ideal.ofBits .f32 897988541#32)

/-! Choosing by a word that is a small number. -/

theorem select_row {α : Type} (n k : Nat) (hn : n < 512) (hk : k < 512) (a b : α) :
    Scalar.select (IntOp.cmpi .eq (BitVec.ofNat 32 n) (BitVec.ofNat 32 k)) a b = if n = k then a else b := by
  unfold Scalar.select
  exact if_congr (WordCmp.cmpi_eq_ofNat_eq_one_iff (by omega) (by omega)) rfl rfl

theorem select_first {α : Type} (n : Fin 8) (a b : α) :
    Scalar.select (Scalar.cmpi .sgt (BitVec.ofNat 32 n.val) 0#32) a b = if 0 < n.val then a else b := by
  have h : (Scalar.cmpi .sgt (BitVec.ofNat 32 n.val) 0#32 = 1) ↔ 0 < n.val := by
    revert n; decide
  unfold Scalar.select
  exact if_congr h rfl rfl

theorem select_last {α : Type} (n : Fin 8) (a b : α) :
    Scalar.select (Scalar.cmpi .slt (BitVec.ofNat 32 n.val) 7#32) a b = if n.val < 7 then a else b := by
  have h : (Scalar.cmpi .slt (BitVec.ofNat 32 n.val) 7#32 = 1) ↔ n.val < 7 := by
    revert n; decide
  unfold Scalar.select
  exact if_congr h rfl rfl

variable (i : grid0.Coords) (u c b : Vec Ideal S512x512 .bf16) (up cp un cn : Vec Ideal S1x512 .bf16) (w : Vec Ideal S3x512 .f32)

/-- A block's gated rows. -/
theorem pay_mid (r e) : k0_pay6 (F := Ideal) u c (ix2 r e) = c (ix2 r e) * u (ix2 r e) := by
  pointwise [k0_pay6]

/-- The row before each. -/
theorem pay_before (n : Fin 8) (hi : (i 0).val = n.val) (r e : Fin 512) :
    k0_pay8 (F := Ideal) i u c cp up (ix2 r e) = if h : r.val = 0 then (if 0 < n.val then cp (ix2 0 e) * up (ix2 0 e) else (0 : EReal))
      else (c (ix2 ⟨r.val - 1, by omega⟩ e) * u (ix2 ⟨r.val - 1, by omega⟩ e) : EReal) := by
  pointwise [k0_pay8]
  rw [hi, select_first, select_row r.val 0 r.isLt (by omega), pay_mid]
  split_ifs with h
  · rfl
  · rfl
  · have hr : (⟨(r.val + 512 - 1) % 512, by omega⟩ : Fin 512) = ⟨r.val - 1, by omega⟩ := Fin.ext (by dsimp only; omega)
    rw [hr]

/-- The row after the block's last. -/
theorem pay_next (n : Fin 8) (hi : (i 0).val = n.val) (e : Fin 512) :
    k0_pay7 (F := Ideal) i cn un (ix2 0 e) = if n.val < 7 then (cn (ix2 0 e) * un (ix2 0 e) : EReal) else 0 := by
  pointwise [k0_pay7]
  rw [hi, select_last]

/-- The convolution's gated rows, normed: over any rows before and any row after the last. -/
theorem pay_y (mid : FVec Ideal S512x512 .f32) (next : FVec Ideal S1x512 .f32) (before : FVec Ideal S512x512 .f32) (r e : Fin 512) :
    k0_pay10 (F := Ideal) w mid (iota .tc S512x1 32 [0] iota_S512x1_d0_w32) next before k0_pay9 b (ix2 r e)
    = normed (fun x => b (ix2 r x) * (w (ix2 0 x) * before (ix2 r x) + w (ix2 1 x) * mid (ix2 r x)
        + w (ix2 2 x) * if h : r.val = 511 then next (ix2 0 x) else mid (ix2 ⟨r.val + 1, by omega⟩ x))) e := by
  have h (x : Fin 512) : Scalar.select (IntOp.cmpi .eq (BitVec.ofNat 32 r.val) 511#32) (next (ix2 0 x) : EReal)
      (mid (ix2 ⟨(r.val + 512 - 511) % 512, by omega⟩ x)) = if h : r.val = 511 then next (ix2 0 x) else mid (ix2 ⟨r.val + 1, by omega⟩ x) := by
    rw [select_row r.val 511 r.isLt (by omega)]
    split_ifs with h
    · rfl
    · have hr : (⟨(r.val + 512 - 511) % 512, by omega⟩ : Fin 512) = ⟨r.val + 1, by omega⟩ := Fin.ext (by dsimp only; omega)
      rw [hr]
  unfold normed
  pointwise [k0_pay10, k0_pay9]
  simp only [h]

/-- The attention's rows, normed and weighted. -/
theorem pay_a (a : Vec Ideal S512x512 .f32) (g : Vec Ideal S1x512 .f32) (r e : Fin 512) :
    k0_pay11 (F := Ideal) a g (ix2 r e) = normed (fun x => a (ix2 r x)) e * g (ix2 0 e) := by
  unfold normed
  pointwise [k0_pay11]

variable (y a : FVec Ideal S512x512 .f32) (g : Vec Ideal S1x512 .f32) (wo : Vec Ideal S1024x1024 .bf16) (x : Vec Ideal S512x1024 .f32)
  (q : Vec Ideal S1x1024 .f32)

/-- The two halves side by side. -/
theorem pay_m (r : Fin 512) (e : Fin 1024) : k0_pay1 (F := Ideal) y a g (ix2 r e)
    = if h : e.val < 512 then (a (ix2 r ⟨e.val, h⟩) : EReal)
      else (y (ix2 r ⟨e.val - 512, by omega⟩) * g (ix2 0 ⟨e.val - 512, by omega⟩) : EReal) := by
  pointwise [k0_pay1]

theorem pay_p (r e) : k0_pay2 (F := Ideal) y a g wo (ix2 r e) = ∑ d : Fin 1024, k0_pay1 (F := Ideal) y a g (ix2 r d) * (wo (ix2 d e) : EReal) := by
  pointwise [k0_pay2]

theorem pay_mT (r : Fin 1024) (e : Fin 512) : k0_pay3 (F := Ideal) y a g (ix2 r e) = k0_pay1 (F := Ideal) y a g (ix2 e r) := by
  pointwise [k0_pay3]

theorem pay_mix (r e) : k0_pay4 (F := Ideal) y a g wo (ix2 r e) = k0_pay2 (F := Ideal) y a g wo (ix2 r e) := by
  pointwise [k0_pay4]

theorem pay_x (r e) : k0_pay5 (F := Ideal) y a g wo x q (ix2 r e)
    = x (ix2 r e) + normed' (fun d => k0_pay2 (F := Ideal) y a g wo (ix2 r d)) e * q (ix2 0 e) := by
  unfold normed'
  pointwise [k0_pay5]

end Cert.MixFwdStep
-- ==== Proof.MixFwdRef.lean ====
/- The reference of the mix: the three-tap convolution of the gated input between the rows around it, the two normed halves
   side by side, their product with the output weight, and the input with the normed product. -/
module

public import proofs.«01_k».proof.Proof.Gen.MixIdeal.Read
public import proofs.«01_k».proof.Proof.MixFwdKernel

@[expose] public section

set_option maxRecDepth 16384
set_option maxHeartbeats 1600000

noncomputable section

open Idealize.ShloMosaic Idealize.SL.Sem

namespace Cert.MixFwdStep
open Cert.MixIdeal Cert.MixIdeal.Read Cert.Step

abbrev Arr (s : Shape) := BufTy.Contents (Elt Ideal) ⟨s, .f32⟩

variable (a u b c : Arr S4096x512) (w : Arr S3x512) (ga gc : Arr S512) (wo : Arr S1024x1024) (x : Arr S4096x1024) (q : Arr S1024)

/-- The row before a row, and the row after it: zero where there is none. -/
def before (t : Fin 4096) (e : Fin 512) : EReal :=
  if h : t.val < 1 then 0 else c (ix2 ⟨t.val - 1, by omega⟩ e) * u (ix2 ⟨t.val - 1, by omega⟩ e)
def after (t : Fin 4096) (e : Fin 512) : EReal :=
  if h : t.val < 4095 then c (ix2 ⟨1 + t.val, by omega⟩ e) * u (ix2 ⟨1 + t.val, by omega⟩ e) else 0

/-- The gated convolution. -/
def conv (t : Fin 4096) (e : Fin 512) : EReal :=
  b (ix2 t e) * (w (ix2 0 e) * before u c t e + w (ix2 1 e) * (c (ix2 t e) * u (ix2 t e)) + w (ix2 2 e) * after u c t e)

/-- The two normed halves side by side. -/
def merged (t : Fin 4096) (e : Fin 1024) : EReal :=
  if h : e.val < 512 then normed (fun j => a (ix2 t j)) ⟨e.val, h⟩ * ga (ix1 ⟨e.val, h⟩)
  else normed (conv u b c w t) ⟨e.val - 512, by omega⟩ * gc (ix1 ⟨e.val - 512, by omega⟩)

/-- Their product with the output weight. -/
def mix (t : Fin 4096) (e : Fin 1024) : EReal := ∑ d : Fin 1024, merged a u b c w ga gc t d * wo (ix2 d e)

/-- The input with the normed product. -/
def out (t : Fin 4096) (e : Fin 1024) : EReal := x (ix2 t e) + normed' (mix a u b c w ga gc wo t) e * q (ix1 e)

theorem ref_before (t e) : val_main_v4 (F := Ideal) u c (ix2 t e) = before u c t e := by
  unfold before
  pointwise [val_main_v4, val_main_v3, val_main_v2, val_main_v0, val_main_cst]
theorem ref_after (t e) : val_main_v6 (F := Ideal) u c (ix2 t e) = after u c t e := by
  unfold after
  pointwise [val_main_v6, val_main_v5, val_main_v2, val_main_v0, val_main_cst]
theorem ref_conv (t e) : val_main_v24 (F := Ideal) u b c w (ix2 t e) = conv u b c w t e := by
  unfold conv
  rw [← ref_before, ← ref_after]
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v0]
theorem ref_a (t e) : val_main_v37 (F := Ideal) a ga (ix2 t e) = normed (fun j => a (ix2 t j)) e * ga (ix1 e) := by
  unfold normed
  pointwise [val_main_v37, val_main_v36, val_main_v35, val_main_v34, val_main_v33, val_main_v32, val_main_v31, val_main_v30, val_main_v29,
    val_main_v28, val_main_v27, val_main_v26, val_main_v25, val_main_cst_0, val_main_cst_1, val_main_cst_2]
theorem ref_y (t e) : val_main_v50 (F := Ideal) u b c w gc (ix2 t e) = normed (conv u b c w t) e * gc (ix1 e) := by
  rw [← funext (ref_conv u b c w t)]
  unfold normed
  pointwise [val_main_v50, val_main_v49, val_main_v48, val_main_v47, val_main_v46, val_main_v45, val_main_v44, val_main_v43, val_main_v42,
    val_main_v41, val_main_v40, val_main_v39, val_main_v38, val_main_cst_3, val_main_cst_4, val_main_cst_5]
theorem ref_merged (t e) : val_main_v51 (F := Ideal) a u b c w ga gc (ix2 t e) = merged a u b c w ga gc t e := by
  unfold merged
  pointwise [val_main_v51]
  simp only [ref_a, ref_y]
theorem ref_mix (t e) : val_main_v52 (F := Ideal) a u b c w ga gc wo (ix2 t e) = mix a u b c w ga gc wo t e := by
  unfold mix
  pointwise [val_main_v52]
  simp only [ref_merged]
theorem ref_mix' (t e) : val_main_v69 (F := Ideal) a u b c w ga gc wo (ix2 t e) = mix a u b c w ga gc wo t e := by
  rw [← ref_mix]
  pointwise [val_main_v69]
theorem ref_mergedT (e t) : val_main_v68 (F := Ideal) a u b c w ga gc (ix2 e t) = merged a u b c w ga gc t e := by
  rw [← ref_merged]
  pointwise [val_main_v68, val_main_v67]
theorem ref_out (t e) : val_main_v66 (F := Ideal) a u b c w ga gc wo x q (ix2 t e) = out a u b c w ga gc wo x q t e := by
  unfold out
  rw [← funext (ref_mix a u b c w ga gc wo t)]
  unfold normed'
  pointwise [val_main_v66, val_main_v65, val_main_v64, val_main_v63, val_main_v62, val_main_v61, val_main_v60, val_main_v59, val_main_v58,
    val_main_v57, val_main_v56, val_main_v55, val_main_v54, val_main_v53, val_main_cst_6, val_main_cst_7, val_main_cst_8]

end Cert.MixFwdStep
-- ==== Proof.MixFwdBlock.lean ====
/- What the blocks of the mix kernel hold: a grid point's 512 rows, the row before them and the row after them. -/
module

public import proofs.«01_k».proof.Proof.MixFwdRef

@[expose] public section

set_option maxRecDepth 16384
set_option maxHeartbeats 1600000

noncomputable section

open Idealize.ShloMosaic Idealize.ShloMosaic.TcCoe Idealize.SL.Sem
open Idealize.ShloMosaic.Pipeline (Dat)

namespace Cert.MixFwdStep
open Cert.MixFwdIdeal Cert.MixFwdIdeal.Gen Cert.Step

variable (m : (ℓ : Loc nD τ sig) → Buf (Elt Ideal) ℓ) (c : Dev nD)

/-- Which block of its array each window holds at grid point `t`: the rows before and after come in blocks of 16. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val * 32 - 1, 0] ∧ win0_5.index t = ![t.val * 32 - 1, 0]
    ∧ win0_6.index t = ![min (t.val * 32 + 32) 255, 0] ∧ win0_7.index t = ![min (t.val * 32 + 32) 255, 0] ∧ win0_8.index t = ![0, 0]
    ∧ win0_9.index t = ![0, 0] ∧ win0_10.index t = ![0, 0] ∧ win0_11.index t = ![0, 0] ∧ win0_12.index t = ![t.val, 0]
    ∧ win0_13.index t = ![0, 0] ∧ win0_14.index t = ![t.val, 0] ∧ win0_15.index t = ![0, t.val] ∧ win0_16.index t = ![t.val, 0] :=
  (by decide +kernel : ∀ t : Fin grid0.N, _)

/-- A grid point's coordinate is its number. -/
theorem coord : ∀ t : Fin cfg0.N, (grid0.coords t 0).val = t.val :=
  (by decide +kernel : ∀ t : Fin grid0.N, _)

/-- The row of the whole array that row `r` of grid point `t`'s block is. -/
abbrev row (t : Fin cfg0.N) (r : Fin 512) : Fin 4096 :=
  ⟨t.val * 512 + r.val, by have h : t.val < 8 := t.isLt; omega⟩

/-! The arguments. -/
abbrev aA : Arr S4096x512 := m ((c.tc : Thread nD τ).loc main_arg0)
abbrev aU : Arr S4096x512 := m ((c.tc : Thread nD τ).loc main_arg1)
abbrev aB : Arr S4096x512 := m ((c.tc : Thread nD τ).loc main_arg2)
abbrev aC : Arr S4096x512 := m ((c.tc : Thread nD τ).loc main_arg3)
abbrev aW : Arr S3x512 := m ((c.tc : Thread nD τ).loc main_arg4)
abbrev aGa : Arr S512 := m ((c.tc : Thread nD τ).loc main_arg5)
abbrev aGc : Arr S512 := m ((c.tc : Thread nD τ).loc main_arg6)
abbrev aWo : Arr S1024x1024 := m ((c.tc : Thread nD τ).loc main_arg7)
abbrev aX : Arr S4096x1024 := m ((c.tc : Thread nD τ).loc main_arg8)
abbrev aGp : Arr S1024 := m ((c.tc : Thread nD τ).loc main_arg9)

/-! What the host prepares. -/
theorem host_u : V m c main_v0 = truncf (F := Ideal) .bf16 (aU m c) bitsLt_bf16_f32 := by
  entry_read; rfl
theorem host_b : V m c main_v1 = truncf (F := Ideal) .bf16 (aB m c) bitsLt_bf16_f32 := by
  entry_read; rfl
theorem host_c : V m c main_v2 = truncf (F := Ideal) .bf16 (aC m c) bitsLt_bf16_f32 := by
  entry_read; rfl
theorem host_ga : V m c main_v3 = broadcastInDim S1x512 ![1] bcast_S512_S1x512_1 (aGa m c) := by
  entry_read; rfl
theorem host_gc : V m c main_v4 = broadcastInDim S1x512 ![1] bcast_S512_S1x512_1 (aGc m c) := by
  entry_read; rfl
theorem host_wo : V m c main_v5 = truncf (F := Ideal) .bf16 (aWo m c) bitsLt_bf16_f32 := by
  entry_read; rfl
theorem host_gp : V m c main_v6 = broadcastInDim S1x1024 ![1] bcast_S1024_S1x1024_1 (aGp m c) := by
  entry_read; rfl

theorem arr_u (t e) : V m c main_v0 (ix2 t e) = aU m c (ix2 t e) := by
  rw [host_u]; pointwise
theorem arr_b (t e) : V m c main_v1 (ix2 t e) = aB m c (ix2 t e) := by
  rw [host_b]; pointwise
theorem arr_c (t e) : V m c main_v2 (ix2 t e) = aC m c (ix2 t e) := by
  rw [host_c]; pointwise
theorem arr_ga (o e) : V m c main_v3 (ix2 o e) = aGa m c (ix1 e) := by
  rw [host_ga]; pointwise
theorem arr_gc (o e) : V m c main_v4 (ix2 o e) = aGc m c (ix1 e) := by
  rw [host_gc]; pointwise
theorem arr_wo (d e) : V m c main_v5 (ix2 d e) = aWo m c (ix2 d e) := by
  rw [host_wo]; pointwise
theorem arr_gp (o e) : V m c main_v6 (ix2 o e) = aGp m c (ix1 e) := by
  rw [host_gp]; pointwise

/-! Every grid point reads its 512 rows of the arrays that have rows. -/

theorem blk_a (t : Fin cfg0.N) (r e : Fin 512) : iblk m c 0 t (ix2 r e) = aA m c (ix2 (row t r) e) := by
  obtain ⟨e0, -⟩ := idx t
  blk_ext [iblk, V, e0]

theorem blk_u (t : Fin cfg0.N) (r e : Fin 512) : iblk m c 1 t (ix2 r e) = aU m c (ix2 (row t r) e) := by
  refine Eq.trans ?_ (arr_u m c (row t r) e)
  obtain ⟨e0, e1, -⟩ := idx t
  blk_ext [iblk, e1]

theorem blk_b (t : Fin cfg0.N) (r e : Fin 512) : iblk m c 2 t (ix2 r e) = aB m c (ix2 (row t r) e) := by
  refine Eq.trans ?_ (arr_b m c (row t r) e)
  obtain ⟨e0, e1, e2, -⟩ := idx t
  blk_ext [iblk, e2]

theorem blk_c (t : Fin cfg0.N) (r e : Fin 512) : iblk m c 3 t (ix2 r e) = aC m c (ix2 (row t r) e) := by
  refine Eq.trans ?_ (arr_c m c (row t r) e)
  obtain ⟨e0, e1, e2, e3, -⟩ := idx t
  blk_ext [iblk, e3]

theorem blk_x (t : Fin cfg0.N) (r : Fin 512) (e : Fin 1024) : iblk m c 12 t (ix2 r e) = aX m c (ix2 (row t r) e) := by
  obtain ⟨-, -, -, -, -, -, -, -, -, -, -, -, e12, -⟩ := idx t
  blk_ext [iblk, V, e12]

/-! The taps, the norm weights and the output weight are whole at every point. -/

theorem blk_w (t : Fin cfg0.N) (k : Fin 3) (e : Fin 512) : iblk m c 8 t (ix2 k e) = aW m c (ix2 k e) := by
  obtain ⟨-, -, -, -, -, -, -, -, e8, -⟩ := idx t
  blk_ext [iblk, V, e8]

theorem blk_ga (t : Fin cfg0.N) (o : Fin 1) (e : Fin 512) : iblk m c 9 t (ix2 o e) = aGa m c (ix1 e) := by
  refine Eq.trans ?_ (arr_ga m c o e)
  obtain ⟨-, -, -, -, -, -, -, -, -, e9, -⟩ := idx t
  blk_ext [iblk, e9]

theorem blk_gc (t : Fin cfg0.N) (o : Fin 1) (e : Fin 512) : iblk m c 10 t (ix2 o e) = aGc m c (ix1 e) := by
  refine Eq.trans ?_ (arr_gc m c o e)
  obtain ⟨-, -, -, -, -, -, -, -, -, -, e10, -⟩ := idx t
  blk_ext [iblk, e10]

theorem blk_wo (t : Fin cfg0.N) (d e : Fin 1024) : iblk m c 11 t (ix2 d e) = aWo m c (ix2 d e) := by
  refine Eq.trans ?_ (arr_wo m c d e)
  obtain ⟨-, -, -, -, -, -, -, -, -, -, -, e11, -⟩ := idx t
  blk_ext [iblk, e11]

theorem blk_gp (t : Fin cfg0.N) (o : Fin 1) (e : Fin 1024) : iblk m c 13 t (ix2 o e) = aGp m c (ix1 e) := by
  refine Eq.trans ?_ (arr_gp m c o e)
  obtain ⟨-, -, -, -, -, -, -, -, -, -, -, -, -, e13, -⟩ := idx t
  blk_ext [iblk, e13]

/-! The 16 rows that end before a point's rows, and the 16 that begin after them: at the ends of the array they are inside. -/

abbrev rowB (t : Fin cfg0.N) (r : Fin 16) : Fin 4096 :=
  ⟨(t.val * 32 - 1) * 16 + r.val, by have h : t.val < 8 := t.isLt; omega⟩
abbrev rowA (t : Fin cfg0.N) (r : Fin 16) : Fin 4096 :=
  ⟨min (t.val * 32 + 32) 255 * 16 + r.val, by omega⟩

theorem blk_uB (t : Fin cfg0.N) (r : Fin 16) (e : Fin 512) : iblk m c 4 t (ix2 r e) = aU m c (ix2 (rowB t r) e) := by
  refine Eq.trans ?_ (arr_u m c (rowB t r) e)
  obtain ⟨-, -, -, -, e4, -⟩ := idx t
  blk_ext [iblk, e4]

theorem blk_cB (t : Fin cfg0.N) (r : Fin 16) (e : Fin 512) : iblk m c 5 t (ix2 r e) = aC m c (ix2 (rowB t r) e) := by
  refine Eq.trans ?_ (arr_c m c (rowB t r) e)
  obtain ⟨-, -, -, -, -, e5, -⟩ := idx t
  blk_ext [iblk, e5]

theorem blk_uA (t : Fin cfg0.N) (r : Fin 16) (e : Fin 512) : iblk m c 6 t (ix2 r e) = aU m c (ix2 (rowA t r) e) := by
  refine Eq.trans ?_ (arr_u m c (rowA t r) e)
  obtain ⟨-, -, -, -, -, -, e6, -⟩ := idx t
  blk_ext [iblk, e6]

theorem blk_cA (t : Fin cfg0.N) (r : Fin 16) (e : Fin 512) : iblk m c 7 t (ix2 r e) = aC m c (ix2 (rowA t r) e) := by
  refine Eq.trans ?_ (arr_c m c (rowA t r) e)
  obtain ⟨-, -, -, -, -, -, -, e7, -⟩ := idx t
  blk_ext [iblk, e7]

/-- The last of 16 rows, and the first. -/
theorem ld_last (v : Vec Ideal S16x512 .bf16) (e : Fin 512) : View.ld v r0_2 (ix2 0 e) = v (ix2 15 e) := by
  refine View.ld_unit_apply_of _ _ _ _ _ _ fun a => ?_
  fin_cases a
  · rfl
  · show e.val = 0 + e.val
    omega
theorem ld_first (v : Vec Ideal S16x512 .bf16) (e : Fin 512) : View.ld v r0_3 (ix2 0 e) = v (ix2 0 e) := by
  refine View.ld_unit_apply_of _ _ _ _ _ _ fun a => ?_
  fin_cases a
  · rfl
  · show e.val = 0 + e.val
    omega

end Cert.MixFwdStep
-- ==== Proof.MixFwdFinal.lean ====
/- What the mix kernel leaves: row by row the reference's three results. -/
module

public import proofs.«01_k».proof.Proof.MixFwdBlock

@[expose] public section

set_option maxRecDepth 16384
set_option maxHeartbeats 1600000

noncomputable section

open Idealize.ShloMosaic Idealize.ShloMosaic.TcCoe Idealize.SL.Sem
open Idealize.ShloMosaic.Pipeline (Dat)

namespace Cert.MixFwdStep
open Cert.MixFwdIdeal Cert.MixFwdIdeal.Gen Cert.Step

variable (m : (ℓ : Loc nD τ sig) → Buf (Elt Ideal) ℓ) (c : Dev nD) (t : Fin cfg0.N)

/-! The reference's stages of these arguments. -/
abbrev rBefore : Fin 4096 → Fin 512 → EReal := before (aU m c) (aC m c)
abbrev rAfter : Fin 4096 → Fin 512 → EReal := after (aU m c) (aC m c)
abbrev rConv : Fin 4096 → Fin 512 → EReal := conv (aU m c) (aB m c) (aC m c) (aW m c)
abbrev rMerged : Fin 4096 → Fin 1024 → EReal := merged (aA m c) (aU m c) (aB m c) (aC m c) (aW m c) (aGa m c) (aGc m c)
abbrev rMix : Fin 4096 → Fin 1024 → EReal := mix (aA m c) (aU m c) (aB m c) (aC m c) (aW m c) (aGa m c) (aGc m c) (aWo m c)
abbrev rOut : Fin 4096 → Fin 1024 → EReal := out (aA m c) (aU m c) (aB m c) (aC m c) (aW m c) (aGa m c) (aGc m c) (aWo m c) (aX m c) (aGp m c)

/-- A grid point's rows before each row, its gated rows, and the row after its last, as the body computes them. -/
abbrev tBefore : FVec Ideal S512x512 .f32 :=
  k0_pay8 (grid0.coords t) (iblk m c 1 t) (iblk m c 3 t) (View.ld (iblk m c 5 t) r0_2) (View.ld (iblk m c 4 t) r0_2)
abbrev tMid : FVec Ideal S512x512 .f32 := k0_pay6 (iblk m c 1 t) (iblk m c 3 t)
abbrev tNext : FVec Ideal S1x512 .f32 := k0_pay7 (grid0.coords t) (View.ld (iblk m c 7 t) r0_3) (View.ld (iblk m c 6 t) r0_3)

theorem before_eq (r e : Fin 512) : tBefore m c t (ix2 r e) = rBefore m c (row t r) e := by
  have ht : t.val < 8 := t.isLt
  refine (pay_before _ _ _ _ _ ⟨t.val, ht⟩ (coord t) r e).trans ?_
  unfold rBefore before
  by_cases h : r.val = 0
  · by_cases h0 : 0 < t.val
    · have hr : rowB t 15 = ⟨(row t r).val - 1, by omega⟩ := Fin.ext (by
        show (t.val * 32 - 1) * 16 + 15 = t.val * 512 + r.val - 1
        omega)
      rw [dif_pos h, if_pos h0, dif_neg (show ¬ (row t r).val < 1 by show ¬ t.val * 512 + r.val < 1; omega), ld_last, ld_last, blk_uB, blk_cB, hr]
    · rw [dif_pos h, if_neg h0, dif_pos (show (row t r).val < 1 by show t.val * 512 + r.val < 1; omega)]
  · have hr : row t ⟨r.val - 1, by omega⟩ = ⟨(row t r).val - 1, by omega⟩ := Fin.ext (by
      show t.val * 512 + (r.val - 1) = t.val * 512 + r.val - 1
      omega)
    rw [dif_neg h, dif_neg (show ¬ (row t r).val < 1 by show ¬ t.val * 512 + r.val < 1; omega), blk_u, blk_c, hr]

theorem mid_eq (r e : Fin 512) : tMid m c t (ix2 r e) = aC m c (ix2 (row t r) e) * aU m c (ix2 (row t r) e) := by
  refine (pay_mid _ _ r e).trans ?_
  rw [blk_u, blk_c]

theorem after_eq (r e : Fin 512) : (if h : r.val = 511 then (tNext m c t (ix2 0 e) : EReal) else tMid m c t (ix2 ⟨r.val + 1, by omega⟩ e))
    = rAfter m c (row t r) e := by
  have ht : t.val < 8 := t.isLt
  unfold rAfter after
  by_cases h : r.val = 511
  · rw [dif_pos h]
    refine (pay_next _ _ _ ⟨t.val, ht⟩ (coord t) e).trans ?_
    by_cases h7 : t.val < 7
    · have hr : rowA t 0 = ⟨1 + (row t r).val, by show 1 + (t.val * 512 + r.val) < 4096; omega⟩ := Fin.ext (by
        show min (t.val * 32 + 32) 255 * 16 + 0 = 1 + (t.val * 512 + r.val)
        omega)
      rw [if_pos h7, dif_pos (show (row t r).val < 4095 by show t.val * 512 + r.val < 4095; omega), ld_first, ld_first, blk_uA, blk_cA, hr]
    · rw [if_neg h7, dif_neg (show ¬ (row t r).val < 4095 by show ¬ t.val * 512 + r.val < 4095; omega)]
  · have hr : row t ⟨r.val + 1, by omega⟩ = ⟨1 + (row t r).val, by show 1 + (t.val * 512 + r.val) < 4096; omega⟩ := Fin.ext (by
      show t.val * 512 + (r.val + 1) = 1 + (t.val * 512 + r.val)
      omega)
    rw [dif_neg h, dif_pos (show (row t r).val < 4095 by show t.val * 512 + r.val < 4095; omega), mid_eq, hr]

/-- The two normed halves of a grid point's rows, the weight of the second not yet applied. -/
abbrev tY : FVec Ideal S512x512 .f32 :=
  k0_pay10 (iblk m c 8 t) (tMid m c t) (iota .tc S512x1 32 [0] iota_S512x1_d0_w32) (tNext m c t) (tBefore m c t) k0_pay9 (iblk m c 2 t)
abbrev tA : FVec Ideal S512x512 .f32 := k0_pay11 (iblk m c 0 t) (iblk m c 9 t)

theorem y_eq (r e : Fin 512) : tY m c t (ix2 r e) = normed (rConv m c (row t r)) e := by
  refine (pay_y _ _ _ _ _ r e).trans (congrArg (fun v => normed v e) (funext fun x => ?_))
  rw [after_eq, before_eq, mid_eq, blk_b, blk_w, blk_w, blk_w]
  rfl

theorem a_eq (r e : Fin 512) : tA m c t (ix2 r e) = normed (fun j => aA m c (ix2 (row t r) j)) e * aGa m c (ix1 e) := by
  refine (pay_a _ _ r e).trans ?_
  rw [blk_ga, funext fun x => blk_a m c t r x]

theorem merged_eq (r : Fin 512) (e : Fin 1024) : k0_pay1 (tY m c t) (tA m c t) (iblk m c 10 t) (ix2 r e) = rMerged m c (row t r) e := by
  refine (pay_m _ _ _ r e).trans ?_
  unfold rMerged merged
  split_ifs with h
  · exact a_eq m c t r _
  · rw [y_eq, blk_gc]

theorem mix_eq (r : Fin 512) (e : Fin 1024) : k0_pay2 (tY m c t) (tA m c t) (iblk m c 10 t) (iblk m c 11 t) (ix2 r e) = rMix m c (row t r) e := by
  refine (pay_p _ _ _ _ r e).trans ?_
  unfold rMix mix
  exact Finset.sum_congr rfl fun d _ => congrArg₂ (· * ·) (merged_eq m c t r d) (blk_wo m c t d e)

theorem out_eq (r : Fin 512) (e : Fin 1024) :
    k0_pay5 (tY m c t) (tA m c t) (iblk m c 10 t) (iblk m c 11 t) (iblk m c 12 t) (iblk m c 13 t) (ix2 r e) = rOut m c (row t r) e := by
  refine (pay_x _ _ _ _ _ _ r e).trans ?_
  unfold rOut out
  rw [blk_x, blk_gp, funext fun d => mix_eq m c t r d]

/-- What a grid point leaves of the three results. -/
theorem outs14 (y : S512x1024.Idx) : out0_14 (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) y
    = rOut m c (row t (y 0)) (y 1) := by
  unfold_out out0_14; frame_out
  rw [eq_ix2 y]
  exact out_eq m c t (y 0) (y 1)

theorem outs15 (y : S1024x512.Idx) : out0_15 (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) y
    = rMerged m c (row t (y 1)) (y 0) := by
  unfold_out out0_15; frame_out
  rw [eq_ix2 y]
  exact (pay_mT _ _ _ _ _).trans (merged_eq m c t (y 1) (y 0))

theorem outs16 (y : S512x1024.Idx) : out0_16 (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) y
    = rMix m c (row t (y 0)) (y 1) := by
  unfold_out out0_16; frame_out
  rw [eq_ix2 y]
  exact (pay_mix _ _ _ _ _ _).trans (mix_eq m c t (y 0) (y 1))

/-- The three arrays. -/
def arr14 : Arr S4096x1024 := fun i => rOut m c (i 0) (i 1)
def arr15 : BufTy.Contents (Elt Ideal) ⟨S1024x4096, .bf16⟩ := fun i => rMerged m c (i 1) (i 0)
def arr16 : BufTy.Contents (Elt Ideal) ⟨S4096x1024, .bf16⟩ := fun i => rMix m c (i 0) (i 1)

attribute [local irreducible] out merged mix

/-- The rows that the grid points write are all of them; the transposed halves they write in columns. -/
theorem final14 : (dats m 0 c).arrAt 14 cfg0.N = arr14 m c := by
  refine (dats m 0 c).arrAt_eq_of_covers 14 _ (by decide +kernel) fun t hf y => ?_
  blk_simp; rw [after0_14]; rw [outs14]
  obtain ⟨-, -, -, -, -, -, -, -, -, -, -, -, -, -, e14, e15, e16⟩ := idx t
  have h : ((cfg0.win 14).blk t).view.emb y = (ix2 (row t (y 0)) (y 1) : S4096x1024.Idx) := by blk_ext [e14]
  exact congrArg (arr14 m c) h.symm

theorem final15 : (dats m 0 c).arrAt 15 cfg0.N = arr15 m c := by
  refine (dats m 0 c).arrAt_eq_of_covers 15 _ (by decide +kernel) fun t hf y => ?_
  blk_simp; rw [after0_15]; rw [outs15]
  obtain ⟨-, -, -, -, -, -, -, -, -, -, -, -, -, -, e14, e15, e16⟩ := idx t
  have h : ((cfg0.win 15).blk t).view.emb y = (ix2 (y 0) (row t (y 1)) : S1024x4096.Idx) := by blk_ext [e15]
  exact congrArg (arr15 m c) h.symm

theorem final16 : (dats m 0 c).arrAt 16 cfg0.N = arr16 m c := by
  refine (dats m 0 c).arrAt_eq_of_covers 16 _ (by decide +kernel) fun t hf y => ?_
  blk_simp; rw [after0_16]; rw [outs16]
  obtain ⟨-, -, -, -, -, -, -, -, -, -, -, -, -, -, e14, e15, e16⟩ := idx t
  have h : ((cfg0.win 16).blk t).view.emb y = (ix2 (row t (y 0)) (y 1) : S4096x1024.Idx) := by blk_ext [e16]
  exact congrArg (arr16 m c) h.symm

end Cert.MixFwdStep
-- ==== Proof.MixFwdClaim.lean ====
/- The mix's claims: the kernel leaves what the reference leaves, whatever the arguments are. -/
module

public import proofs.«01_k».proof.Defs
public import proofs.«01_k».proof.Proof.MixFwdFinal
public import proofs.«01_k».proof.Proof.Gen.MixIdeal.Run

@[expose] public section

set_option maxRecDepth 16384
set_option maxHeartbeats 1600000

noncomputable section

open Idealize.ShloMosaic Idealize.ShloMosaic.TcCoe Idealize.SL.Sem

namespace Cert.MixFwdClaim
open Cert.MixFwdStep
open Cert.MixIdeal Cert.MixIdeal.Gen Cert.MixIdeal.Read
attribute [local instance] Cert.MixFwdIdeal.Gen.facts Cert.MixIdeal.Gen.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run _ _ _).mono (fun r h => ⟨fun c => (h c).2.2.2, sem_eq_zero_of_no_sems (by decide) r.2⟩)
    (Cert.MixIdeal.Value.run m g)

attribute [local irreducible] val_main_v66 val_main_v68 val_main_v69 out merged mix

/-- The kernel's three results are the reference's. -/
theorem algebraic : Cert.algebraic_MixFwdIdeal_MixIdeal := by
  intro m g m' g' pre agree
  refine ⟨fun c => arr14 m c, fun c => arr15 m c, fun c => arr16 m c, ?_, ?_⟩
  · refine (θ_run _ _ _).mono (fun r h c => ?_) (Cert.MixFwdIdeal.Value.run_blocks m g)
    obtain ⟨h14, h15, h16, h⟩ := h c
    exact ⟨h14.trans (final14 m c), h15.trans (final15 m c), h16.trans (final16 m c), h⟩
  · refine (θ_run _ _ _).mono (fun r h c => ?_) (Cert.MixIdeal.Value.run m' g')
    obtain ⟨h14, h15, h16, h⟩ := h c
    obtain ⟨e0, e1, e2, e3, e4, e5, e6, e7, e8, e9⟩ := agree c
    refine ⟨(h14.trans (val_main_v66_eq _ _)).trans ?_, (h15.trans (val_main_v68_eq _ _)).trans ?_,
      (h16.trans (val_main_v69_eq _ _)).trans ?_, h⟩
    · funext i
      rw [e0, e1, e2, e3, e4, e5, e6, e7, e8, e9, eq_ix2 i]
      exact ref_out _ _ _ _ _ _ _ _ _ _ (i 0) (i 1)
    · funext i
      rw [e0, e1, e2, e3, e4, e5, e6, eq_ix2 i]
      exact ref_mergedT _ _ _ _ _ _ _ (i 0) (i 1)
    · funext i
      rw [e0, e1, e2, e3, e4, e5, e6, e7, eq_ix2 i]
      exact ref_mix' _ _ _ _ _ _ _ _ (i 0) (i 1)

end Cert.MixFwdClaim
-- ==== Proof.MixBwdRun.lean ====
/- One run of the body of the mix's gradient call: what it leaves in its seven results, from its fifteen blocks. -/
module

public import proofs.«01_k».proof.Proof.Gen.MixBwdIdeal.Frame.Runs
public import Idealize.ShloMosaic.Lib.Pipeline.ValueKit.Basic

@[expose] public section

set_option maxRecDepth 16384
set_option maxHeartbeats 1600000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.MixBwdRun
open Cert.MixBwdIdeal Cert.MixBwdIdeal.Gen

variable {F : FTy → Type} [FloatOps F]

local notation "𝕄" => MT nD τ sig Unit (Elt F) ℕ (UR sig nD τ) ℕ

/-- The blocks that the body reads at one grid point. The last row of `up` and `cp` is the row before the point's
    own, the first row of `un` and `cn` the one after. -/
structure Blocks (F : FTy → Type) where
  dx : Vec F S512x1024 .f32
  mix : Vec F S512x1024 .bf16
  attn : Vec F S512x512 .f32
  u : Vec F S512x512 .bf16
  b : Vec F S512x512 .bf16
  c : Vec F S512x512 .bf16
  up : Vec F S16x512 .bf16
  cp : Vec F S16x512 .bf16
  un : Vec F S16x512 .bf16
  cn : Vec F S16x512 .bf16
  w : Vec F S3x512 .f32
  gA : Vec F S1x512 .f32
  gC : Vec F S1x512 .f32
  gP : Vec F S1x1024 .f32
  wo : Vec F S1024x1024 .bf16

namespace Blocks
variable (X : Blocks F) (i : grid0.Coords)

/-- The convolution that the body computes again. -/
def conv : FVec F S512x512 .f32 :=
  k0_pay18 (BitVec.ofNat 32 (i 0).val) X.w (k0_pay16 X.u X.c)
    (k0_pay17 (View.ld X.cp (Rect.unit (s := S16x512) ![15, 0] S1x512.size inb_S16x512_S1x512_15_0)))
    (View.ld X.up (Rect.unit (s := S16x512) ![15, 0] S1x512.size inb_S16x512_S1x512_15_0))
    (View.ld X.cn (Rect.unit (s := S16x512) ![0, 0] S1x512.size inb_S16x512_S1x512_0_0))
    (View.ld X.un (Rect.unit (s := S16x512) ![0, 0] S1x512.size inb_S16x512_S1x512_0_0))

/-- The gradients of the two halves that the mix joins. -/
def dA : FVec F S512x512 .f32 := k0_pay11 X.dx X.mix X.gP X.wo
def dY : FVec F S512x512 .f32 := k0_pay12 X.dx X.mix X.gP X.wo

/-! The four results that every grid point has a block of. -/
def dmix : Vec F S512x1024 .bf16 := k0_pay9 X.dx X.mix X.gP
def dattn : Vec F S512x512 .f32 := k0_pay15 X.dA X.attn X.gA
def ds : Vec F S512x512 .bf16 := k0_pay25 X.dY (X.conv i) X.b X.gC
def db : Vec F S512x512 .bf16 := k0_pay24 X.dY (X.conv i) X.b X.gC

/-! What a grid point adds to the gradients of the three norms' weights. -/
def pP : FVec F S1x1024 .f32 := k0_pay7 X.dx X.mix
def pA : FVec F S1x512 .f32 := k0_pay26 X.dA (k0_pay14 X.attn)
def pC : FVec F S1x512 .f32 := k0_pay27 X.dY (X.conv i) X.b

/-! What the three sums are after it, from what they were before: the first grid point begins them. -/
def sP (P : Vec F S1x1024 .f32) : Vec F S1x1024 .f32 := if cond0_0 i then X.pP else k0_pay1 X.pP P
def sA (A : Vec F S1x512 .f32) : Vec F S1x512 .f32 := if cond0_0 i then X.pA else k0_pay2 X.pA A
def sC (C : Vec F S1x512 .f32) : Vec F S1x512 .f32 := if cond0_0 i then X.pC i else k0_pay3 (X.pC i) C
end Blocks

section whole
variable {d : Fin 2 → ℕ} {e : EltTy} {M : Memref sig .tc .vmem ⟨2, d⟩ e}

theorem zero : (![0, 0] : Fin 2 → ℕ) = fun _ => 0 := by decide

/-- What lands in a buffer that one store covers. -/
theorem landed (inb : ∀ a, (![0, 0] : Fin 2 → ℕ) a + d a ≤ d a) (f) (p) :
    View.read (Elt F) M.view (M.view.writes (Elt F) f [⟨Rect.unit (s := ⟨2, d⟩) ![0, 0] d inb, p⟩]) = p := by
  refine (View.read_writes_eq_canon _ _ _ fun y => ⟨_, List.mem_singleton_self _, ?_⟩).trans
    (View.canon_unit_zero zero inb p)
  revert inb; rw [zero]; intro inb p
  exact (Rect.set_whole _).symm ▸ Finset.mem_univ y

/-- What a load of a whole buffer reads. -/
def all (x : Vec F ⟨2, d⟩ e) : Vec F ⟨2, d⟩ e :=
  View.ld x (Rect.unit (s := ⟨2, d⟩) ![0, 0] d fun a => by fin_cases a <;> simp)

theorem all_eq (x : Vec F ⟨2, d⟩ e) : all x = x := View.ld_unit_zero zero _ x
end whole

/-- What the body loads of its blocks: all of them, the rows around the point's apart. -/
def Blocks.loads (X : Blocks F) : Blocks F where
  dx := all X.dx
  mix := all X.mix
  attn := all X.attn
  u := all X.u
  b := all X.b
  c := all X.c
  up := X.up
  cp := X.cp
  un := X.un
  cn := X.cn
  w := all X.w
  gA := all X.gA
  gC := all X.gC
  gP := all X.gP
  wo := all X.wo

theorem Blocks.loads_eq (X : Blocks F) : X.loads = X := by
  unfold loads; simp only [all_eq]

variable (c : Dev nD) (E : Set ℕ) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x512 .f32) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S16x512 .bf16) (harg7 : arg7.IsWhole)
  (arg8 : Memref sig .tc .vmem S16x512 .bf16) (harg8 : arg8.IsWhole)
  (arg9 : Memref sig .tc .vmem S16x512 .bf16) (harg9 : arg9.IsWhole)
  (arg10 : Memref sig .tc .vmem S16x512 .bf16) (harg10 : arg10.IsWhole)
  (arg11 : Memref sig .tc .vmem S3x512 .f32) (harg11 : arg11.IsWhole)
  (arg12 : Memref sig .tc .vmem S1x512 .f32) (harg12 : arg12.IsWhole)
  (arg13 : Memref sig .tc .vmem S1x512 .f32) (harg13 : arg13.IsWhole)
  (arg14 : Memref sig .tc .vmem S1x1024 .f32) (harg14 : arg14.IsWhole)
  (arg15 : Memref sig .tc .vmem S1024x1024 .bf16) (harg15 : arg15.IsWhole)
  (arg16 : Memref sig .tc .vmem S512x1024 .bf16) (harg16 : arg16.IsWhole)
  (arg17 : Memref sig .tc .vmem S512x512 .f32) (harg17 : arg17.IsWhole)
  (arg18 : Memref sig .tc .vmem S512x512 .bf16) (harg18 : arg18.IsWhole)
  (arg19 : Memref sig .tc .vmem S512x512 .bf16) (harg19 : arg19.IsWhole)
  (arg20 : Memref sig .tc .vmem S1x1024 .f32) (harg20 : arg20.IsWhole)
  (arg21 : Memref sig .tc .vmem S1x512 .f32) (harg21 : arg21.IsWhole)
  (arg22 : Memref sig .tc .vmem S1x512 .f32) (harg22 : arg22.IsWhole)

/-- The fifteen inputs' buffers hold the blocks `X`. -/
def ins (X : Blocks F) : sProp 𝕄 :=
  iprop(owns (c : Thread nD τ) arg1 fullShare X.dx ∗ owns (c : Thread nD τ) arg2 fullShare X.mix
    ∗ owns (c : Thread nD τ) arg3 fullShare X.attn ∗ owns (c : Thread nD τ) arg4 fullShare X.u
    ∗ owns (c : Thread nD τ) arg5 fullShare X.b ∗ owns (c : Thread nD τ) arg6 fullShare X.c
    ∗ owns (c : Thread nD τ) arg7 fullShare X.up ∗ owns (c : Thread nD τ) arg8 fullShare X.cp
    ∗ owns (c : Thread nD τ) arg9 fullShare X.un ∗ owns (c : Thread nD τ) arg10 fullShare X.cn
    ∗ owns (c : Thread nD τ) arg11 fullShare X.w ∗ owns (c : Thread nD τ) arg12 fullShare X.gA
    ∗ owns (c : Thread nD τ) arg13 fullShare X.gC ∗ owns (c : Thread nD τ) arg14 fullShare X.gP
    ∗ owns (c : Thread nD τ) arg15 fullShare X.wo)

/-- The four outputs that each point writes a block of hold the point's own, the three sums `P`, `A` and `C`. -/
def outs (X : Blocks F) (P : Vec F S1x1024 .f32) (A C : Vec F S1x512 .f32) : sProp 𝕄 :=
  iprop(owns (c : Thread nD τ) arg16 fullShare X.dmix ∗ owns (c : Thread nD τ) arg17 fullShare X.dattn
    ∗ owns (c : Thread nD τ) arg18 fullShare (X.ds i) ∗ owns (c : Thread nD τ) arg19 fullShare (X.db i)
    ∗ owns (c : Thread nD τ) arg20 fullShare P ∗ owns (c : Thread nD τ) arg21 fullShare A
    ∗ owns (c : Thread nD τ) arg22 fullShare C)

/-- The body, its results in terms of what it loads. -/
theorem run_loads (X : Blocks F) (P : Vec F S1x1024 .f32) (A C : Vec F S1x512 .f32)
    (h : cond0_1 i ↔ ¬cond0_0 i) (K : PUnit → sProp 𝕄) :
    iprop(ins c arg1 arg2 arg3 arg4 arg5 arg6 arg7 arg8 arg9 arg10 arg11 arg12 arg13 arg14 arg15 X
        ∗ (∃ d, owns (c : Thread nD τ) arg16 fullShare d) ∗ (∃ d, owns (c : Thread nD τ) arg17 fullShare d)
        ∗ (∃ d, owns (c : Thread nD τ) arg18 fullShare d) ∗ (∃ d, owns (c : Thread nD τ) arg19 fullShare d)
        ∗ owns (c : Thread nD τ) arg20 fullShare P ∗ owns (c : Thread nD τ) arg21 fullShare A
        ∗ owns (c : Thread nD τ) arg22 fullShare C
        ∗ (iprop(ins c arg1 arg2 arg3 arg4 arg5 arg6 arg7 arg8 arg9 arg10 arg11 arg12 arg13 arg14 arg15 X
          ∗ outs c i arg16 arg17 arg18 arg19 arg20 arg21 arg22 X.loads
            (X.loads.sP i (all P)) (X.loads.sA i (all A)) (X.loads.sC i (all C))) -∗ K ⟨⟩))
      ⊢ wp frame (wpE (defs₀ (F := F)) Variants.none c none) E (cc0_mix_bwd i arg1 harg1 arg2 harg2 arg3 harg3 arg4 harg4
        arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21
        arg22 harg22) K := by
  obtain ⟨dx, mix, attn, u, b, cc, up, cp, un, cn, w, gA, gC, gP, wo⟩ := X
  simp only [cc0_mix_bwd_eq_skeleton]; unfold cc0_mix_bwd_skel
  simp only [k0_part1_eq_skeleton, k0_part2_eq_skeleton, k0_part3_eq_skeleton, k0_part4_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩⟩, ⟨%d15, %f15, -, H15⟩, ⟨%d16, %f16, -, H16⟩,
    ⟨%d17, %f17, -, H17⟩, ⟨%d18, %f18, -, H18⟩, ⟨%f19, %hf19, H19⟩, ⟨%f20, %hf20, H20⟩, ⟨%f21, %hf21, H21⟩, Hk⟩
  dsimp only at hf0 hf1 hf2 hf3 hf4 hf5 hf6 hf7 hf8 hf9 hf10 hf11 hf12 hf13 hf14
  subst hf19 hf20 hf21 hf0 hf1 hf2 hf3 hf4 hf5 hf6 hf7 hf8 hf9 hf10 hf11 hf12 hf13 hf14
  by_cases hc0 : cond0_0 i
  on_goal 1 =>
    have hc1 : ¬cond0_1 i := fun h1 => h.mp h1 hc0
    simp only [Blocks.sP, Blocks.sA, Blocks.sC, if_pos hc0]
    sl_exec (disch := first | sl_exact hc0 | sl_exact hc1)
  on_goal 2 =>
    have hc1 : cond0_1 i := h.mpr hc0
    simp only [Blocks.sP, Blocks.sA, Blocks.sC, if_neg hc0]
    sl_exec (disch := first | sl_exact hc0 | sl_exact hc1)
  all_goals
    sl_step
    iapply Hk
    isplitl [H0 H1 H2 H3 H4 H5 H6 H7 H8 H9 H10 H11 H12 H13 H14]
    · isplitl [H0]; · iexists f0; isplitr; (ipureintro; rfl); iexact H0
      isplitl [H1]; · iexists f1; isplitr; (ipureintro; rfl); iexact H1
      isplitl [H2]; · iexists f2; isplitr; (ipureintro; rfl); iexact H2
      isplitl [H3]; · iexists f3; isplitr; (ipureintro; rfl); iexact H3
      isplitl [H4]; · iexists f4; isplitr; (ipureintro; rfl); iexact H4
      isplitl [H5]; · iexists f5; isplitr; (ipureintro; rfl); iexact H5
      isplitl [H6]; · iexists f6; isplitr; (ipureintro; rfl); iexact H6
      isplitl [H7]; · iexists f7; isplitr; (ipureintro; rfl); iexact H7
      isplitl [H8]; · iexists f8; isplitr; (ipureintro; rfl); iexact H8
      isplitl [H9]; · iexists f9; isplitr; (ipureintro; rfl); iexact H9
      isplitl [H10]; · iexists f10; isplitr; (ipureintro; rfl); iexact H10
      isplitl [H11]; · iexists f11; isplitr; (ipureintro; rfl); iexact H11
      isplitl [H12]; · iexists f12; isplitr; (ipureintro; rfl); iexact H12
      isplitl [H13]; · iexists f13; isplitr; (ipureintro; rfl); iexact H13
      iexists f14; isplitr; (ipureintro; rfl); iexact H14
    isplitl [H15]
    · iexists _; isplitr; swap; · iexact H15
      ipureintro; exact (landed _ _ _).trans rfl
    isplitl [H16]
    · iexists _; isplitr; swap; · iexact H16
      ipureintro; exact (landed _ _ _).trans rfl
    isplitl [H17]
    · iexists _; isplitr; swap; · iexact H17
      ipureintro; exact (landed _ _ _).trans rfl
    isplitl [H18]
    · iexists _; isplitr; swap; · iexact H18
      ipureintro; exact (landed _ _ _).trans rfl
    isplitl [H19]
    · iexists _; isplitr; swap; · iexact H19
      ipureintro; exact (landed _ _ _).trans rfl
    isplitl [H20]
    · iexists _; isplitr; swap; · iexact H20
      ipureintro; exact (landed _ _ _).trans rfl
    · iexists _; isplitr; swap; · iexact H21
      ipureintro; exact (landed _ _ _).trans rfl

/-- The body, at any grid point: the four blocks are left whatever their buffers held, and the sums take the point's
    part in. -/
theorem run (X : Blocks F) (P : Vec F S1x1024 .f32) (A C : Vec F S1x512 .f32)
    (h : cond0_1 i ↔ ¬cond0_0 i) (K : PUnit → sProp 𝕄) :
    iprop(ins c arg1 arg2 arg3 arg4 arg5 arg6 arg7 arg8 arg9 arg10 arg11 arg12 arg13 arg14 arg15 X
        ∗ (∃ d, owns (c : Thread nD τ) arg16 fullShare d) ∗ (∃ d, owns (c : Thread nD τ) arg17 fullShare d)
        ∗ (∃ d, owns (c : Thread nD τ) arg18 fullShare d) ∗ (∃ d, owns (c : Thread nD τ) arg19 fullShare d)
        ∗ owns (c : Thread nD τ) arg20 fullShare P ∗ owns (c : Thread nD τ) arg21 fullShare A
        ∗ owns (c : Thread nD τ) arg22 fullShare C
        ∗ (iprop(ins c arg1 arg2 arg3 arg4 arg5 arg6 arg7 arg8 arg9 arg10 arg11 arg12 arg13 arg14 arg15 X
          ∗ outs c i arg16 arg17 arg18 arg19 arg20 arg21 arg22 X (X.sP i P) (X.sA i A) (X.sC i C)) -∗ K ⟨⟩))
      ⊢ wp frame (wpE (defs₀ (F := F)) Variants.none c none) E (cc0_mix_bwd i arg1 harg1 arg2 harg2 arg3 harg3 arg4 harg4
        arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21
        arg22 harg22) K := by
  have e := run_loads c E i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17
    arg18 harg18 arg19 harg19 arg20 harg20 arg21 harg21 arg22 harg22 X P A C h K
  rwa [X.loads_eq, all_eq P, all_eq A, all_eq C] at e

end Cert.MixBwdRun

end
-- ==== Proof.MixBwdFrame.lean ====
/- The mix's gradient call as a whole: it ends, leaves its arguments as they were, and leaves in its results what its
   grid points leave one after the other. -/
module

public import proofs.«01_k».proof.Proof.MixBwdRun
public import Idealize.ShloMosaic.Lib.Claim

@[expose] public section

set_option maxRecDepth 16384
set_option maxHeartbeats 1600000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

namespace Cert.MixBwdRun
open Cert.MixBwdIdeal Cert.MixBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The blocks of grid point `t`. -/
def blocks (t : Fin cfg0.N) : Blocks F :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t, iblk m c 13 t, iblk m c 14 t⟩

/-! The three sums after grid point `n`. What a sum's buffer holds before the first is of no consequence. -/
def sumP : (n : ℕ) → n < cfg0.N → Vec F S1x1024 .f32
  | 0, h => (blocks m c ⟨0, h⟩).pP
  | n + 1, h => k0_pay1 (blocks m c ⟨n + 1, h⟩).pP (sumP n (Nat.lt_of_succ_lt h))
def sumA : (n : ℕ) → n < cfg0.N → Vec F S1x512 .f32
  | 0, h => (blocks m c ⟨0, h⟩).pA
  | n + 1, h => k0_pay2 (blocks m c ⟨n + 1, h⟩).pA (sumA n (Nat.lt_of_succ_lt h))
def sumC : (n : ℕ) → n < cfg0.N → Vec F S1x512 .f32
  | 0, h => (blocks m c ⟨0, h⟩).pC (grid0.coords ⟨0, h⟩)
  | n + 1, h => k0_pay3 ((blocks m c ⟨n + 1, h⟩).pC (grid0.coords ⟨n + 1, h⟩)) (sumC n (Nat.lt_of_succ_lt h))

/-- The call's proof data: an input's buffer holds its block after each grid point, an output's what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (blocks m c t).dmix
    | ⟨16, _⟩ => (blocks m c t).dattn
    | ⟨17, _⟩ => (blocks m c t).ds (grid0.coords t)
    | ⟨18, _⟩ => (blocks m c t).db (grid0.coords t)
    | ⟨19, _⟩ => sumP m c t.val t.isLt
    | ⟨20, _⟩ => sumA m c t.val t.isLt
    | ⟨21, _⟩ => sumC m c t.val t.isLt
    | ⟨_ + 22, h⟩ => absurd h (Nat.not_lt.2 (Nat.le_add_left _ _))
  Φ _ := Pipeline.ΦA spec0 c
  q w := Pipeline.shareOf spec0 w
  owed _ := 0

theorem A_eq (w : Fin cfg0.W) : (dats m 0 c).A w = V m c (Pipeline.arrRef spec0 w) := rfl

theorem cond (t : Fin cfg0.N) : cond0_0 (grid0.coords t) ↔ t.val = 0 := by
  have h : t.val < 8 := t.isLt
  rw [hcond0_0]; omega
theorem cond' (t : Fin cfg0.N) : cond0_1 (grid0.coords t) ↔ ¬cond0_0 (grid0.coords t) := by
  rw [hcond0_1, cond]; omega

/-- The body writes into every window at every grid point. -/
theorem live : ∀ (w : Fin cfg0.W) (t : Fin cfg0.N), cfg0.idle w (grid0.coords t) = false := by decide +kernel

theorem leaves (w : Fin cfg0.W) (t : Fin cfg0.N) : (dats m 0 c).leavesExact w t
    = owns (c : Thread nD τ) ((cfg0.win w).stage (cfg0.slots t w)) fullShare ((dats m 0 c).after w t) := by
  unfold Dat.leavesExact; rw [live w t]

/-- A sum's buffer holds before a grid point after the first what the point before left. -/
theorem before_sum (w : Fin cfg0.W) (hw : w = 19 ∨ w = 20 ∨ w = 21) (n : ℕ) (h : n + 1 < cfg0.N) (d) :
    (dats m 0 c).before w ⟨n + 1, h⟩ d = (dats m 0 c).after w ⟨n, Nat.lt_of_succ_lt h⟩ := by
  have hc : cond0_1 (grid0.coords ⟨n + 1, h⟩) := (hcond0_1 _).mpr (Nat.le_add_left 1 n)
  have hc0 : ¬cond0_0 (grid0.coords ⟨n + 1, h⟩) := (cond' _).mp hc
  rcases hw with rfl | rfl | rfl
  · rw [Dat.before_out_traj _ 19 rfl (fun _ _ => rfl)
      (fun t _ hi _ => absurd ((live 19 t).symm.trans hi) Bool.false_ne_true) _ _ rfl d, notFresh0_19_B _ hc0 hc]
    rfl
  · rw [Dat.before_out_traj _ 20 rfl (fun _ _ => rfl)
      (fun t _ hi _ => absurd ((live 20 t).symm.trans hi) Bool.false_ne_true) _ _ rfl d, notFresh0_20_B _ hc0 hc]
    rfl
  · rw [Dat.before_out_traj _ 21 rfl (fun _ _ => rfl)
      (fun t _ hi _ => absurd ((live 21 t).symm.trans hi) Bool.false_ne_true) _ _ rfl d, notFresh0_21_B _ hc0 hc]
    rfl

/-! What a grid point makes of the sums is what they are after it. -/
theorem step_P (t : Fin cfg0.N) (d) : (blocks m c t).sP (grid0.coords t) ((dats m 0 c).before 19 t d) = sumP m c t.val t.isLt := by
  obtain ⟨n, h⟩ := t
  cases n with
  | zero => exact if_pos ((cond _).mpr rfl)
  | succ n => rw [before_sum m c 19 (.inl rfl)]; exact if_neg (fun h0 => absurd ((cond _).mp h0) (Nat.succ_ne_zero n))
theorem step_A (t : Fin cfg0.N) (d) : (blocks m c t).sA (grid0.coords t) ((dats m 0 c).before 20 t d) = sumA m c t.val t.isLt := by
  obtain ⟨n, h⟩ := t
  cases n with
  | zero => exact if_pos ((cond _).mpr rfl)
  | succ n => rw [before_sum m c 20 (.inr (.inl rfl))]; exact if_neg (fun h0 => absurd ((cond _).mp h0) (Nat.succ_ne_zero n))
theorem step_C (t : Fin cfg0.N) (d) : (blocks m c t).sC (grid0.coords t) ((dats m 0 c).before 21 t d) = sumC m c t.val t.isLt := by
  obtain ⟨n, h⟩ := t
  cases n with
  | zero => exact if_pos ((cond _).mpr rfl)
  | succ n => rw [before_sum m c 21 (.inr (.inr rfl))]; exact if_neg (fun h0 => absurd ((cond _).mp h0) (Nat.succ_ne_zero n))

/-- What the body is called with at grid point `t`, and what it returns. -/
def bodyPre (t : Fin cfg0.N) : sProp 𝕄 :=
  iprop((dats m 0 c).Φ t.castSucc ∗ (dats m 0 c).owesAt () t.castSucc ∗ bigSep Finset.univ fun w : Fin 22 =>
    iprop(∃ d, owns (c : Thread nD τ) ((cfg0.win w).stage (cfg0.slots t w)) fullShare ((dats m 0 c).before w t d)))
def bodyPost (t : Fin cfg0.N) : sProp 𝕄 :=
  iprop((dats m 0 c).Φ t.succ ∗ (dats m 0 c).owesAt () t.succ ∗ bigSep Finset.univ fun w : Fin 22 =>
    (dats m 0 c).leavesExact w t)

theorem sound_body (t : Fin cfg0.N) :
    bodyPre m c t ⊢ wp frame (wpE (defs₀ (F := F)) Variants.none c none) Set.univ (bodyAt0 t) (fun _ => bodyPost m c t) := by
  unfold bodyPre bodyPost
  rw [bigSep_W0, bigSep_W0]
  simp only [leaves,
    before0_0_of m (dats m 0 c) (A_eq m c 0) (fun _ => by dsimp only [dats]),
    before0_1_of m (dats m 0 c) (A_eq m c 1) (fun _ => by dsimp only [dats]),
    before0_2_of m (dats m 0 c) (A_eq m c 2) (fun _ => by dsimp only [dats]),
    before0_3_of m (dats m 0 c) (A_eq m c 3) (fun _ => by dsimp only [dats]),
    before0_4_of m (dats m 0 c) (A_eq m c 4) (fun _ => by dsimp only [dats]),
    before0_5_of m (dats m 0 c) (A_eq m c 5) (fun _ => by dsimp only [dats]),
    before0_6_of m (dats m 0 c) (A_eq m c 6) (fun _ => by dsimp only [dats]),
    before0_7_of m (dats m 0 c) (A_eq m c 7) (fun _ => by dsimp only [dats]),
    before0_8_of m (dats m 0 c) (A_eq m c 8) (fun _ => by dsimp only [dats]),
    before0_9_of m (dats m 0 c) (A_eq m c 9) (fun _ => by dsimp only [dats]),
    before0_10_of m (dats m 0 c) (A_eq m c 10) (fun _ => by dsimp only [dats]),
    before0_11_of m (dats m 0 c) (A_eq m c 11) (fun _ => by dsimp only [dats]),
    before0_12_of m (dats m 0 c) (A_eq m c 12) (fun _ => by dsimp only [dats]),
    before0_13_of m (dats m 0 c) (A_eq m c 13) (fun _ => by dsimp only [dats]),
    before0_14_of m (dats m 0 c) (A_eq m c 14) (fun _ => by dsimp only [dats])]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (run c Set.univ (grid0.coords t) _ _ _ _ _ _ _ _ _ _ _ _ _ _ _ _ _ _ _ _ _ _ _ _ _ _ _ _ _ _ _ _ _ _ _ _ _ _ _ _ _ _ _ _
    (blocks m c t) _ _ _ (cond' t) _)
  unfold ins outs
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexists _; iexact H15
  isplitl [H16]; · iexists _; iexact H16
  isplitl [H17]; · iexists _; iexact H17
  isplitl [H18]; · iexists _; iexact H18
  isplitl [H19]; · iexact H19
  isplitl [H20]; · iexact H20
  isplitl [H21]; · iexact H21
  rw [step_P, step_A, step_C]
  iintro ⟨⟨H0, H1, H2, H3, H4, H5, H6, H7, H8, H9, H10, H11, H12, H13, H14⟩, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem body_obligation : BodyObligation (dats (F := F) m 0 c) (defs₀ (F := F)) Variants.none () Set.univ := fun t =>
  triple_restated (sound_body m c t) (by unfold defs₀; rw [Defs.onTc_tc]) .rfl fun _ => .rfl

-- the library's run is applied by unification through plain definitions
set_option backward.isDefEq.respectTransparency.types false in
/-- Every run of the call ends, with every array as the proof data has it and every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := fun c w => A_eq m c w) (hΦ := fun _ _ => rfl)

/-- The call leaves its arguments as they were, and no semaphore held. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  θ_run_and (frame_of m ρ (dats m) (fun c w => A_eq m c w) ((θ_run defs _ _).mono (fun _ h => h.1) (run_main m ρ)))
    ((θ_run defs _ _).mono (fun _ h => h.2) (run_main m ρ))

end Cert.MixBwdRun

end
-- ==== Proof.MixBwdBits.lean ====
/- The mix's gradient call as it stands in the kernel, over machine words: the run of its ideal form, read at words. -/
module

public import proofs.«01_k».proof.Defs
public import proofs.«01_k».proof.Proof.Gen.MixBwd
public import proofs.«01_k».proof.Proof.MixBwdFrame

@[expose] public section

set_option maxRecDepth 16384
set_option maxHeartbeats 3200000

noncomputable section

open Idealize.ShloMosaic Idealize.ShloMosaic.TcCoe Idealize.SL.Sem

namespace Cert.MixBwdBits

attribute [local instance] Cert.MixBwd.Gen.facts Cert.MixBwdIdeal.Gen.facts

/-! The two programs have the same text: the body tables and the host parts agree. -/

theorem defs₀_eq : (Cert.MixBwd.defs₀ (F := Bits)) = Cert.MixBwdIdeal.defs₀ (F := Bits) := by
  funext p l a
  cases p with
  | tc =>
    obtain ⟨l, hl⟩ := l
    obtain rfl : l = 0 := by omega
    obtain ⟨t, s⟩ := a
    dsimp only [Cert.MixBwd.defs₀, Cert.MixBwdIdeal.defs₀, Defs.onTc]
    rfl
  | scScalar _ => rfl
  | scVector _ _ => rfl

theorem defs_eq : (Cert.MixBwd.defs (F := Bits)) = Cert.MixBwdIdeal.defs (F := Bits) :=
  congrArg (Pipeline.defs (Cert.MixBwdIdeal.pcfgs (F := Bits))) defs₀_eq

theorem main_eq : (Cert.MixBwd.main (F := Bits)) = Cert.MixBwdIdeal.main (F := Bits) := rfl

/-- The call over machine words leaves its arguments as they were, and no semaphore held. -/
theorem frame : Cert.quiescent_MixBwd := fun m ρ _ => by
  have h := Cert.MixBwdRun.frame (F := Bits) m ρ
  rw [← defs_eq, ← main_eq] at h
  exact h

end Cert.MixBwdBits
-- ==== Proof.MixSpec.lean ====
/- The gradient of the mix as functions of real arrays: what both programs compute when every argument is finite. The mix
   joins two halves, each normed: the attention's rows, and the gated three-tap convolution `b · conv (c · u)`. Their
   product with the output weight is normed once more; `dx` is the gradient that arrives there. -/
module

public import proofs.«01_k».proof.Proof.Lift

@[expose] public section

noncomputable section

open Idealize.ShloMosaic

namespace Cert.Step

/-! ## The root mean square of a row of 512 -/

theorem bits_512 : Ideal.ofBits .f32 1140850688#32 = ((512 : ℝ) : EReal) := by
  simp [Ideal.ofBits, Ideal.ieee]; rw [← EReal.coe_mul]; norm_num

theorem div_512 (x : ℝ) : Ideal.div (x : EReal) ((512 : ℝ) : EReal) = ((x / 512 : ℝ) : EReal) :=
  div_lift x (by norm_num)

/-- The mean square of a row of 512, with the norms' constant added. -/
def msH (v : Fin 512 → ℝ) : ℝ := (∑ k, v k * v k) / 512 + eps

theorem msH_pos (v : Fin 512 → ℝ) : 0 < msH v :=
  add_pos_of_nonneg_of_pos (div_nonneg (Finset.sum_nonneg fun k _ => mul_self_nonneg _) (by norm_num)) eps_pos

/-- The reciprocal root mean square of a row of 512. -/
def rsH (v : Fin 512 → ℝ) : ℝ := (Real.sqrt (msH v))⁻¹

theorem rsH_sq (v : Fin 512 → ℝ) : rsH v * rsH v = (msH v)⁻¹ := by
  rw [rsH, ← mul_inv, Real.mul_self_sqrt (msH_pos v).le]

theorem rsqrtH_lift (v : Fin 512 → ℝ) :
    Ideal.rsqrt (((∑ k, v k * v k) / 512 + eps : ℝ) : EReal) = ((rsH v : ℝ) : EReal) := by
  have h := msH_pos v
  change Ideal.rsqrt ((msH v : ℝ) : EReal) = _
  rw [Ideal.rsqrt_coe, if_neg h.not_gt, if_neg h.ne']
  rfl

theorem div_msH (v : Fin 512 → ℝ) (x : ℝ) :
    Ideal.div (x : EReal) (((∑ k, v k * v k) / 512 + eps : ℝ) : EReal) = ((x / msH v : ℝ) : EReal) :=
  div_lift x (msH_pos v).ne'

/-- The gradient of the normalisation of a row of 512 against the cotangent `w`. -/
def rmsBwdH (v w : Fin 512 → ℝ) (j : Fin 512) : ℝ :=
  rsH v * (w j - v j * rsH v * ((∑ k, w k * (v k * rsH v)) / 512))

/-- The chain rule's form of that gradient. -/
theorem rmsBwdH_eq (v w : Fin 512 → ℝ) (j : Fin 512) :
    w j * rsH v + v j * ((∑ k, v k * w k) * (-(1 / 2) * (rsH v / msH v)) / 512)
        + (∑ k, v k * w k) * (-(1 / 2) * (rsH v / msH v)) / 512 * v j = rmsBwdH v w j := by
  have h : ∑ k, w k * (v k * rsH v) = rsH v * ∑ k, v k * w k := by
    rw [Finset.mul_sum]; exact Finset.sum_congr rfl fun k _ => by ring
  rw [rmsBwdH, h, div_eq_mul_inv (rsH v) (msH v), ← rsH_sq]
  ring

/-! ## The mix -/

/-- The arguments of the mix's gradient, as real arrays. -/
structure Mix where
  /-- the attention's rows -/
  attn : Fin 4096 → Fin 512 → ℝ
  /-- what the convolution reads, its gate after and its gate before -/
  u : Fin 4096 → Fin 512 → ℝ
  b : Fin 4096 → Fin 512 → ℝ
  c : Fin 4096 → Fin 512 → ℝ
  /-- the three taps -/
  w : Fin 3 → Fin 512 → ℝ
  /-- the weights of the two halves' norms -/
  gA : Fin 512 → ℝ
  gC : Fin 512 → ℝ
  /-- the output weight -/
  wo : Fin 1024 → Fin 1024 → ℝ
  /-- the weight of the norm after the mix -/
  gP : Fin 1024 → ℝ
  /-- the gradient that arrives -/
  dx : Fin 4096 → Fin 1024 → ℝ

namespace Mix

/-- A column of the attention's half of the 1024. -/
abbrev lo (e : Fin 512) : Fin 1024 := ⟨e, by omega⟩
/-- A column of the convolution's half of the 1024. -/
abbrev hi (e : Fin 512) : Fin 1024 := ⟨512 + e, by omega⟩

variable (a : Mix)

/-- the gated row before a row: zero where there is none -/
def prev (t : Fin 4096) (e : Fin 512) : ℝ :=
  if h : t.val < 1 then 0 else a.c ⟨t.val - 1, by omega⟩ e * a.u ⟨t.val - 1, by omega⟩ e
/-- the gated row after a row: zero where there is none -/
def next (t : Fin 4096) (e : Fin 512) : ℝ :=
  if h : t.val < 4095 then a.c ⟨1 + t.val, by omega⟩ e * a.u ⟨1 + t.val, by omega⟩ e else 0
/-- the convolution -/
def s (t : Fin 4096) (e : Fin 512) : ℝ :=
  a.w 0 e * a.prev t e + a.w 1 e * (a.c t e * a.u t e) + a.w 2 e * a.next t e
/-- the gated convolution -/
def y (t : Fin 4096) (e : Fin 512) : ℝ := a.b t e * a.s t e
/-- the attention's half, normed -/
def nA (t : Fin 4096) (e : Fin 512) : ℝ := a.attn t e * rsH (a.attn t)
/-- the convolution's half, normed -/
def nC (t : Fin 4096) (e : Fin 512) : ℝ := a.y t e * rsH (a.y t)
/-- the two halves side by side, weighted -/
def merged (t : Fin 4096) (d : Fin 1024) : ℝ :=
  if h : d.val < 512 then a.nA t ⟨d, h⟩ * a.gA ⟨d, h⟩ else a.nC t ⟨d - 512, by omega⟩ * a.gC ⟨d - 512, by omega⟩
/-- the mix -/
def mix (t : Fin 4096) (d : Fin 1024) : ℝ := ∑ k, a.merged t k * a.wo k d
/-- the gradient at the mix -/
def dmix (t : Fin 4096) (d : Fin 1024) : ℝ := rmsBwd (a.mix t) (fun k => a.dx t k * a.gP k) d
/-- the gradient at the two halves side by side -/
def dmerged (t : Fin 4096) (d : Fin 1024) : ℝ := ∑ k, a.dmix t k * a.wo d k
/-- the gradient at the attention's rows -/
def dattn (t : Fin 4096) (e : Fin 512) : ℝ := rmsBwdH (a.attn t) (fun k => a.dmerged t (lo k) * a.gA k) e
/-- the gradient at the gated convolution -/
def dyc (t : Fin 4096) (e : Fin 512) : ℝ := rmsBwdH (a.y t) (fun k => a.dmerged t (hi k) * a.gC k) e
/-- the gradient at the convolution -/
def ds (t : Fin 4096) (e : Fin 512) : ℝ := a.dyc t e * a.b t e
/-- the gradient at the gate after the convolution -/
def db (t : Fin 4096) (e : Fin 512) : ℝ := a.dyc t e * a.s t e
/-- the gradients of the three norms' weights -/
def dgP (d : Fin 1024) : ℝ := ∑ t, a.dx t d * (a.mix t d * rs (a.mix t))
def dgA (e : Fin 512) : ℝ := ∑ t, a.dmerged t (lo e) * a.nA t e
def dgC (e : Fin 512) : ℝ := ∑ t, a.dmerged t (hi e) * a.nC t e

theorem dgP_eq (d : Fin 1024) : a.dgP d = ∑ t, a.dx t d * (a.mix t d * rs (a.mix t)) := rfl
theorem dgA_eq (e : Fin 512) : a.dgA e = ∑ t, a.dmerged t (lo e) * a.nA t e := rfl
theorem dgC_eq (e : Fin 512) : a.dgC e = ∑ t, a.dmerged t (hi e) * a.nC t e := rfl

end Mix

end Cert.Step
-- ==== Proof.MixBwdKernel.lean ====
/- What one grid point of the mix's gradient kernel leaves, as functions of real arrays. A point works on 512 rows. -/
module

public import proofs.«01_k».proof.Proof.MixBwdFrame
public import proofs.«01_k».proof.Proof.MixSpec
public import proofs.«01_k».proof.Proof.MixFwdKernel

@[expose] public section

set_option maxRecDepth 16384
set_option maxHeartbeats 1600000

noncomputable section

open Idealize.ShloMosaic Idealize.ShloMosaic.TcCoe Idealize.SL.Sem

namespace Cert.MixBwdKernel
open Cert.MixBwdIdeal Cert.MixBwdIdeal.Gen Cert.Step Cert.MixBwdRun
open Cert.MixFwdStep (select_row select_first select_last)

/-- The row of the whole array that row `r` of grid point `n`'s block is. -/
abbrev row (n : Fin 8) (r : Fin 512) : Fin 4096 := ⟨n.val * 512 + r.val, by omega⟩

/-- The blocks of grid point `n` are its rows of the real arrays of `a`; the row before them and the row after them are
    where there is one. -/
structure Holds (a : Mix) (n : Fin 8) (X : Blocks Ideal) : Prop where
  dx : ∀ r d, X.dx (ix2 r d) = ((a.dx (row n r) d : ℝ) : EReal)
  mix : ∀ r d, X.mix (ix2 r d) = ((a.mix (row n r) d : ℝ) : EReal)
  attn : ∀ r e, X.attn (ix2 r e) = ((a.attn (row n r) e : ℝ) : EReal)
  u : ∀ r e, X.u (ix2 r e) = ((a.u (row n r) e : ℝ) : EReal)
  b : ∀ r e, X.b (ix2 r e) = ((a.b (row n r) e : ℝ) : EReal)
  c : ∀ r e, X.c (ix2 r e) = ((a.c (row n r) e : ℝ) : EReal)
  up : 0 < n.val → ∀ e, X.up (ix2 15 e) = ((a.u ⟨n.val * 512 - 1, by omega⟩ e : ℝ) : EReal)
  cp : 0 < n.val → ∀ e, X.cp (ix2 15 e) = ((a.c ⟨n.val * 512 - 1, by omega⟩ e : ℝ) : EReal)
  un : (h : n.val < 7) → ∀ e, X.un (ix2 0 e) = ((a.u ⟨n.val * 512 + 512, by omega⟩ e : ℝ) : EReal)
  cn : (h : n.val < 7) → ∀ e, X.cn (ix2 0 e) = ((a.c ⟨n.val * 512 + 512, by omega⟩ e : ℝ) : EReal)
  w : ∀ k e, X.w (ix2 k e) = ((a.w k e : ℝ) : EReal)
  gA : ∀ o e, X.gA (ix2 o e) = ((a.gA e : ℝ) : EReal)
  gC : ∀ o e, X.gC (ix2 o e) = ((a.gC e : ℝ) : EReal)
  gP : ∀ o d, X.gP (ix2 o d) = ((a.gP d : ℝ) : EReal)
  wo : ∀ k d, X.wo (ix2 k d) = ((a.wo k d : ℝ) : EReal)

/-- The last of 16 rows, and the first. -/
theorem ld_last (v : Vec Ideal S16x512 .bf16) (e : Fin 512) :
    View.ld v (Rect.unit (s := S16x512) ![15, 0] S1x512.size inb_S16x512_S1x512_15_0) (ix2 0 e) = v (ix2 15 e) := by
  refine View.ld_unit_apply_of _ _ _ _ _ _ fun a => ?_
  fin_cases a
  · rfl
  · show e.val = 0 + e.val
    omega
theorem ld_first (v : Vec Ideal S16x512 .bf16) (e : Fin 512) :
    View.ld v (Rect.unit (s := S16x512) ![0, 0] S1x512.size inb_S16x512_S1x512_0_0) (ix2 0 e) = v (ix2 0 e) := by
  refine View.ld_unit_apply_of _ _ _ _ _ _ fun a => ?_
  fin_cases a
  · rfl
  · show e.val = 0 + e.val
    omega

/-! The convolution, over any rows before and after. -/
section conv
variable (n : Fin 8) (w : Vec Ideal S3x512 .f32) (mid : FVec Ideal S512x512 .f32) (cp : FVec Ideal S1x512 .f32)
  (up cn un : Vec Ideal S1x512 .bf16)

theorem conv_apply (r e : Fin 512) : k0_pay18 (F := Ideal) (BitVec.ofNat 32 n.val) w mid cp up cn un (ix2 r e)
    = w (ix2 0 e) * (if h : r.val = 0 then (if 0 < n.val then cp (ix2 0 e) * up (ix2 0 e) else (0 : EReal))
          else mid (ix2 ⟨r.val - 1, by omega⟩ e))
      + w (ix2 1 e) * mid (ix2 r e)
      + w (ix2 2 e) * (if h : r.val = 511 then (if n.val < 7 then cn (ix2 0 e) * un (ix2 0 e) else (0 : EReal))
          else mid (ix2 ⟨r.val + 1, by omega⟩ e)) := by
  have hp (x y : EReal) (k : Fin 512) : Scalar.select (IntOp.cmpi .eq (BitVec.ofNat 32 r.val) 0#32)
      (Scalar.select (Scalar.cmpi .sgt (BitVec.ofNat 32 n.val) 0#32) x 0) (mid (ix2 ⟨(r.val + 512 - 1) % 512, by omega⟩ k))
      = if h : r.val = 0 then (if 0 < n.val then x else 0) else mid (ix2 ⟨r.val - 1, by omega⟩ k) := by
    rw [select_first, select_row r.val 0 r.isLt (by omega)]
    split_ifs with h
    · rfl
    · rfl
    · have hr : (⟨(r.val + 512 - 1) % 512, by omega⟩ : Fin 512) = ⟨r.val - 1, by omega⟩ := Fin.ext (by dsimp only; omega)
      rw [hr]
  have hn (x y : EReal) (k : Fin 512) : Scalar.select (IntOp.cmpi .eq (BitVec.ofNat 32 r.val) 511#32)
      (Scalar.select (Scalar.cmpi .slt (BitVec.ofNat 32 n.val) 7#32) x 0) (mid (ix2 ⟨(r.val + 512 - 511) % 512, by omega⟩ k))
      = if h : r.val = 511 then (if n.val < 7 then x else 0) else mid (ix2 ⟨r.val + 1, by omega⟩ k) := by
    rw [select_last, select_row r.val 511 r.isLt (by omega)]
    split_ifs with h
    · rfl
    · rfl
    · have hr : (⟨(r.val + 512 - 511) % 512, by omega⟩ : Fin 512) = ⟨r.val + 1, by omega⟩ := Fin.ext (by dsimp only; omega)
      rw [hr]
  rw [← hp _ 0, ← hn _ 0]
  pointwise [k0_pay18]

theorem mid_apply (u c : Vec Ideal S512x512 .bf16) (r e) : k0_pay16 (F := Ideal) u c (ix2 r e) = c (ix2 r e) * u (ix2 r e) := by
  pointwise [k0_pay16]

theorem edge_apply (v : Vec Ideal S1x512 .bf16) (e) : k0_pay17 (F := Ideal) v (ix2 0 e) = (v (ix2 0 e) : EReal) := by
  pointwise [k0_pay17]

end conv

variable {a : Mix} {n : Fin 8} {X : Blocks Ideal} (H : Holds a n X)
include H

/-- The gated row before each row, and the one after. -/
theorem prev (r e : Fin 512) : (if h : r.val = 0 then (if 0 < n.val then X.cp (ix2 15 e) * X.up (ix2 15 e) else (0 : EReal))
    else X.c (ix2 ⟨r.val - 1, by omega⟩ e) * X.u (ix2 ⟨r.val - 1, by omega⟩ e)) = ((a.prev (row n r) e : ℝ) : EReal) := by
  unfold Mix.prev
  split_ifs with h h0 h1 h1 h1
  · exact absurd h1 (by show ¬n.val * 512 + r.val < 1; omega)
  · rw [H.cp h0, H.up h0, ← EReal.coe_mul]
    have hr : (⟨n.val * 512 - 1, by omega⟩ : Fin 4096) = ⟨(row n r).val - 1, by omega⟩ :=
      Fin.ext (by show n.val * 512 - 1 = n.val * 512 + r.val - 1; omega)
    rw [hr]
  · rfl
  · exact absurd (show n.val * 512 + r.val < 1 by omega) h1
  · exact absurd h1 (by show ¬n.val * 512 + r.val < 1; omega)
  · rw [H.c, H.u, ← EReal.coe_mul]
    have hr : row n ⟨r.val - 1, by omega⟩ = ⟨(row n r).val - 1, by omega⟩ :=
      Fin.ext (by show n.val * 512 + (r.val - 1) = n.val * 512 + r.val - 1; omega)
    rw [hr]

theorem next (r e : Fin 512) : (if h : r.val = 511 then (if n.val < 7 then X.cn (ix2 0 e) * X.un (ix2 0 e) else (0 : EReal))
    else X.c (ix2 ⟨r.val + 1, by omega⟩ e) * X.u (ix2 ⟨r.val + 1, by omega⟩ e)) = ((a.next (row n r) e : ℝ) : EReal) := by
  unfold Mix.next
  split_ifs with h h0 h1 h1 h1
  · rw [H.cn h0, H.un h0, ← EReal.coe_mul]
    have hr : (⟨n.val * 512 + 512, by omega⟩ : Fin 4096) = ⟨1 + (row n r).val, by omega⟩ :=
      Fin.ext (by show n.val * 512 + 512 = 1 + (n.val * 512 + r.val); omega)
    rw [hr]
  · exact absurd (show n.val * 512 + r.val < 4095 by omega) h1
  · exact absurd h1 (by show ¬n.val * 512 + r.val < 4095; omega)
  · rfl
  · rw [H.c, H.u, ← EReal.coe_mul]
    have hr : row n ⟨r.val + 1, by omega⟩ = ⟨1 + (row n r).val, by omega⟩ :=
      Fin.ext (by show n.val * 512 + (r.val + 1) = 1 + (n.val * 512 + r.val); omega)
    rw [hr]
  · exact absurd (show n.val * 512 + r.val < 4095 by omega) h1

/-- The convolution. -/
theorem s_of (cp up cn un : Vec Ideal S1x512 .bf16) (r e : Fin 512) (hcp : cp (ix2 0 e) = X.cp (ix2 15 e))
    (hup : up (ix2 0 e) = X.up (ix2 15 e)) (hcn : cn (ix2 0 e) = X.cn (ix2 0 e)) (hun : un (ix2 0 e) = X.un (ix2 0 e)) :
    k0_pay18 (F := Ideal) (BitVec.ofNat 32 n.val) X.w (k0_pay16 X.u X.c) (k0_pay17 cp) up cn un (ix2 r e)
    = ((a.s (row n r) e : ℝ) : EReal) := by
  rw [conv_apply, edge_apply, hcp, hup, hcn, hun]
  simp only [mid_apply]
  rw [prev H, next H]
  simp only [H.w, H.c, H.u, ← EReal.coe_mul, ← EReal.coe_add]; rfl

theorem s (i : grid0.Coords) (hi : (i 0).val = n.val) (r e : Fin 512) : X.conv i (ix2 r e) = ((a.s (row n r) e : ℝ) : EReal) := by
  unfold Blocks.conv
  rw [hi]
  exact s_of H _ _ _ _ r e (ld_last _ _) (ld_last _ _) (ld_first _ _) (ld_first _ _)

/-! The norm after the mix. -/

theorem rM (r : Fin 512) (o : Fin 1) : k0_pay5 (F := Ideal) X.mix (ix2 r o) = ((rs (a.mix (row n r)) : ℝ) : EReal) := by
  pointwise [k0_pay5, k0_pay4]
  simp only [H.mix, bits_1024, bits_eps, ← EReal.coe_mul, coe_sum, div_1024, ← EReal.coe_add, rsqrt_lift]

theorem nM (r : Fin 512) (d : Fin 1024) :
    k0_pay6 (F := Ideal) X.mix (ix2 r d) = ((a.mix (row n r) d * rs (a.mix (row n r)) : ℝ) : EReal) := by
  pointwise [k0_pay6, k0_pay4]
  simp only [rM H, H.mix, ← EReal.coe_mul]

/-- The point's part of the gradient of its weight. -/
theorem pP (o : Fin 1) (d : Fin 1024) :
    X.pP (ix2 o d) = ((∑ r, a.dx (row n r) d * (a.mix (row n r) d * rs (a.mix (row n r))) : ℝ) : EReal) := by
  unfold Blocks.pP
  pointwise [k0_pay7]
  simp only [nM H, H.dx, ← EReal.coe_mul, coe_sum]

/-- The gradient at the mix. -/
theorem dmix' (r : Fin 512) (d : Fin 1024) : k0_pay8 (F := Ideal) X.dx X.mix X.gP (ix2 r d) = ((a.dmix (row n r) d : ℝ) : EReal) := by
  pointwise [k0_pay8]
  simp only [rM H, nM H, H.dx, H.gP, bits_1024, ← EReal.coe_mul, coe_sum, div_1024, ← EReal.coe_sub]
  rfl

theorem dmix (r : Fin 512) (d : Fin 1024) : X.dmix (ix2 r d) = ((a.dmix (row n r) d : ℝ) : EReal) := by
  unfold Blocks.dmix
  pointwise [k0_pay9]
  exact dmix' H r d

/-- The gradient at the two halves side by side, and its two halves. -/
theorem dmerged (r : Fin 512) (d : Fin 1024) :
    k0_pay10 (F := Ideal) X.dx X.mix X.gP X.wo (ix2 r d) = ((a.dmerged (row n r) d : ℝ) : EReal) := by
  pointwise [k0_pay10]
  simp only [dmix' H, H.wo, ← EReal.coe_mul, coe_sum]
  rfl

theorem dA (r e : Fin 512) : X.dA (ix2 r e) = ((a.dmerged (row n r) (Mix.lo e) : ℝ) : EReal) := by
  unfold Blocks.dA
  pointwise [k0_pay11]
  exact dmerged H r _

theorem dY (r e : Fin 512) : X.dY (ix2 r e) = ((a.dmerged (row n r) (Mix.hi e) : ℝ) : EReal) := by
  unfold Blocks.dY
  pointwise [k0_pay12]
  exact dmerged H r _

/-! The attention's half. -/

theorem rA (r : Fin 512) (o : Fin 1) : k0_pay13 (F := Ideal) X.attn (ix2 r o) = ((rsH (a.attn (row n r)) : ℝ) : EReal) := by
  pointwise [k0_pay13]
  simp only [H.attn, bits_512, bits_eps, ← EReal.coe_mul, coe_sum, div_512, ← EReal.coe_add, rsqrtH_lift]

theorem nA (r e : Fin 512) : k0_pay14 (F := Ideal) X.attn (ix2 r e) = ((a.nA (row n r) e : ℝ) : EReal) := by
  pointwise [k0_pay14]
  simp only [rA H, H.attn, ← EReal.coe_mul]; rfl

theorem dattn (r e : Fin 512) : X.dattn (ix2 r e) = ((a.dattn (row n r) e : ℝ) : EReal) := by
  unfold Blocks.dattn
  pointwise [k0_pay15]
  simp only [rA H, nA H, dA H, H.gA, bits_512, ← EReal.coe_mul, coe_sum, div_512, ← EReal.coe_sub]
  rfl

theorem pA (o : Fin 1) (e : Fin 512) :
    X.pA (ix2 o e) = ((∑ r, a.dmerged (row n r) (Mix.lo e) * a.nA (row n r) e : ℝ) : EReal) := by
  unfold Blocks.pA
  pointwise [k0_pay26]
  simp only [dA H, nA H, ← EReal.coe_mul, coe_sum]

/-! The convolution's half. -/
section
variable (i : grid0.Coords) (hi : (i 0).val = n.val)
include hi

theorem y (r e : Fin 512) : k0_pay20 (F := Ideal) (X.conv i) X.b (ix2 r e) = ((a.y (row n r) e : ℝ) : EReal) := by
  pointwise [k0_pay20, k0_pay19]
  simp only [s H i hi, H.b, ← EReal.coe_mul]; rfl

theorem rC (r : Fin 512) (o : Fin 1) : k0_pay21 (F := Ideal) (X.conv i) X.b (ix2 r o) = ((rsH (a.y (row n r)) : ℝ) : EReal) := by
  pointwise [k0_pay21]
  simp only [y H i hi, bits_512, bits_eps, ← EReal.coe_mul, coe_sum, div_512, ← EReal.coe_add, rsqrtH_lift]

theorem nC (r e : Fin 512) : k0_pay22 (F := Ideal) (X.conv i) X.b (ix2 r e) = ((a.nC (row n r) e : ℝ) : EReal) := by
  pointwise [k0_pay22]
  simp only [rC H i hi, y H i hi, ← EReal.coe_mul]; rfl

theorem dyc (r e : Fin 512) : k0_pay23 (F := Ideal) X.dY (X.conv i) X.b X.gC (ix2 r e) = ((a.dyc (row n r) e : ℝ) : EReal) := by
  pointwise [k0_pay23]
  simp only [rC H i hi, nC H i hi, dY H, H.gC, bits_512, ← EReal.coe_mul, coe_sum, div_512, ← EReal.coe_sub]
  rfl

theorem ds (r e : Fin 512) : X.ds i (ix2 r e) = ((a.ds (row n r) e : ℝ) : EReal) := by
  unfold Blocks.ds
  pointwise [k0_pay25, k0_pay19]
  simp only [dyc H i hi, H.b, ← EReal.coe_mul]; rfl

theorem db (r e : Fin 512) : X.db i (ix2 r e) = ((a.db (row n r) e : ℝ) : EReal) := by
  unfold Blocks.db
  pointwise [k0_pay24]
  simp only [dyc H i hi, s H i hi, ← EReal.coe_mul]; rfl

theorem pC (o : Fin 1) (e : Fin 512) :
    X.pC i (ix2 o e) = ((∑ r, a.dmerged (row n r) (Mix.hi e) * a.nC (row n r) e : ℝ) : EReal) := by
  unfold Blocks.pC
  pointwise [k0_pay27]
  simp only [dY H, nC H i hi, ← EReal.coe_mul, coe_sum]

end

end Cert.MixBwdKernel
-- ==== Proof.MixRef.lean ====
/- The reference of the mix's gradient computes the real functions of MixSpec when its arguments are finite: one theorem
   per stage of the chain rule, each array read at an index. -/
module

public import proofs.«01_k».proof.Proof.Gen.MixGradIdeal.Read
public import proofs.«01_k».proof.Proof.MixSpec
public import proofs.«01_k».proof.Proof.MixFwdRef

@[expose] public section

set_option maxRecDepth 16384
set_option maxHeartbeats 1600000

noncomputable section

open Idealize.ShloMosaic Idealize.ShloMosaic.TcCoe Idealize.SL.Sem

namespace Cert.MixRef
open Cert.MixGradIdeal Cert.MixGradIdeal.Gen Cert.MixGradIdeal.Read Cert.Step

/-- A float array of the ideal program. -/
abbrev Arr (s : Shape) := BufTy.Contents (Elt Ideal) ⟨s, .f32⟩

/-- The reference's arguments are the real arrays of `a`. -/
structure Lifts (a : Mix) (x0 x1 x2 x3 : Arr S4096x512) (x4 : Arr S3x512) (x5 x6 : Arr S512) (x7 : Arr S1024x1024)
    (x8 : Arr S1024) (x9 : Arr S4096x1024) : Prop where
  attn : ∀ t e, x0 (ix2 t e) = ((a.attn t e : ℝ) : EReal)
  u : ∀ t e, x1 (ix2 t e) = ((a.u t e : ℝ) : EReal)
  b : ∀ t e, x2 (ix2 t e) = ((a.b t e : ℝ) : EReal)
  c : ∀ t e, x3 (ix2 t e) = ((a.c t e : ℝ) : EReal)
  w : ∀ k e, x4 (ix2 k e) = ((a.w k e : ℝ) : EReal)
  gA : ∀ e, x5 (ix1 e) = ((a.gA e : ℝ) : EReal)
  gC : ∀ e, x6 (ix1 e) = ((a.gC e : ℝ) : EReal)
  wo : ∀ k d, x7 (ix2 k d) = ((a.wo k d : ℝ) : EReal)
  gP : ∀ d, x8 (ix1 d) = ((a.gP d : ℝ) : EReal)
  dx : ∀ t d, x9 (ix2 t d) = ((a.dx t d : ℝ) : EReal)

variable {a : Mix} {x0 x1 x2 x3 : Arr S4096x512} {x4 : Arr S3x512} {x5 x6 : Arr S512} {x7 : Arr S1024x1024}
  {x8 : Arr S1024} {x9 : Arr S4096x1024} (H : Lifts a x0 x1 x2 x3 x4 x5 x6 x7 x8 x9)
include H

/-- The gated row before each, and the one after: the forward reference's. -/
theorem prev (t : Fin 4096) (e : Fin 512) : val_main_v4 (F := Ideal) x1 x3 (ix2 t e) = ((a.prev t e : ℝ) : EReal) := by
  refine (MixFwdStep.ref_before x1 x3 t e).trans ?_
  unfold MixFwdStep.before Mix.prev
  split_ifs with h
  · rfl
  · rw [H.c, H.u, ← EReal.coe_mul]

theorem next (t : Fin 4096) (e : Fin 512) : val_main_v6 (F := Ideal) x1 x3 (ix2 t e) = ((a.next t e : ℝ) : EReal) := by
  refine (MixFwdStep.ref_after x1 x3 t e).trans ?_
  unfold MixFwdStep.after Mix.next
  split_ifs with h
  · rw [H.c, H.u, ← EReal.coe_mul]
  · rfl

/-- The convolution. -/
theorem s (t : Fin 4096) (e : Fin 512) : val_main_v23 (F := Ideal) x1 x3 x4 (ix2 t e) = ((a.s t e : ℝ) : EReal) := by
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v0]
  simp only [prev H, next H, H.w, H.c, H.u, ← EReal.coe_mul, ← EReal.coe_add]; rfl

/-- The gated convolution. -/
theorem y (t : Fin 4096) (e : Fin 512) : val_main_v24 (F := Ideal) x1 x2 x3 x4 (ix2 t e) = ((a.y t e : ℝ) : EReal) := by
  pointwise [val_main_v24]
  simp only [s H, H.b, ← EReal.coe_mul]; rfl

/-- The reciprocal root mean square of the attention's rows. -/
theorem rA (t : Fin 4096) (o : Fin 1) : val_main_v32 (F := Ideal) x0 (ix2 t o) = ((rsH (a.attn t) : ℝ) : EReal) := by
  pointwise [val_main_v32, val_main_v31, val_main_v30, val_main_v29, val_main_v28, val_main_v27, val_main_v26, val_main_v25,
    val_main_cst_0, val_main_cst_1, val_main_cst_2]
  simp only [H.attn, bits_512, bits_eps, ← EReal.coe_mul, coe_sum, div_512, ← EReal.coe_add, rsqrtH_lift]

/-- What the derivative of that reciprocal multiplies the flow into the mean square with. -/
theorem sA (t : Fin 4096) (o : Fin 1) :
    val_main_v35 (F := Ideal) x0 (ix2 t o) = ((-(1 / 2) * (rsH (a.attn t) / msH (a.attn t)) : ℝ) : EReal) := by
  pointwise [val_main_v35, val_main_v34, val_main_v33, val_main_v31, val_main_v30, val_main_v29, val_main_v28, val_main_v27,
    val_main_v26, val_main_v25, val_main_cst_0, val_main_cst_1, val_main_cst_2, val_main_cst_3]
  simp only [rA H, H.attn, bits_512, bits_eps, bits_neg_half, ← EReal.coe_mul, coe_sum, div_512, ← EReal.coe_add, div_msH]

theorem nA (t : Fin 4096) (e : Fin 512) : val_main_v37 (F := Ideal) x0 (ix2 t e) = ((a.nA t e : ℝ) : EReal) := by
  pointwise [val_main_v37, val_main_v36]
  simp only [rA H, H.attn, ← EReal.coe_mul]; rfl

/-- The reciprocal root mean square of the gated convolution's rows. -/
theorem rC (t : Fin 4096) (o : Fin 1) : val_main_v48 (F := Ideal) x1 x2 x3 x4 (ix2 t o) = ((rsH (a.y t) : ℝ) : EReal) := by
  pointwise [val_main_v48, val_main_v47, val_main_v46, val_main_v45, val_main_v44, val_main_v43, val_main_v42, val_main_v41,
    val_main_cst_4, val_main_cst_5, val_main_cst_6]
  simp only [y H, bits_512, bits_eps, ← EReal.coe_mul, coe_sum, div_512, ← EReal.coe_add, rsqrtH_lift]

theorem sC (t : Fin 4096) (o : Fin 1) :
    val_main_v51 (F := Ideal) x1 x2 x3 x4 (ix2 t o) = ((-(1 / 2) * (rsH (a.y t) / msH (a.y t)) : ℝ) : EReal) := by
  pointwise [val_main_v51, val_main_v50, val_main_v49, val_main_v47, val_main_v46, val_main_v45, val_main_v44, val_main_v43,
    val_main_v42, val_main_v41, val_main_cst_4, val_main_cst_5, val_main_cst_6, val_main_cst_7]
  simp only [rC H, y H, bits_512, bits_eps, bits_neg_half, ← EReal.coe_mul, coe_sum, div_512, ← EReal.coe_add, div_msH]

theorem nC (t : Fin 4096) (e : Fin 512) : val_main_v53 (F := Ideal) x1 x2 x3 x4 (ix2 t e) = ((a.nC t e : ℝ) : EReal) := by
  pointwise [val_main_v53, val_main_v52]
  simp only [rC H, y H, ← EReal.coe_mul]; rfl

/-- The two halves side by side. -/
theorem halfA (t : Fin 4096) (e : Fin 512) : val_main_v40 (F := Ideal) x0 x5 (ix2 t e) = ((a.nA t e * a.gA e : ℝ) : EReal) := by
  pointwise [val_main_v40, val_main_v39, val_main_v38]
  simp only [nA H, H.gA, ← EReal.coe_mul]

theorem halfC (t : Fin 4096) (e : Fin 512) :
    val_main_v56 (F := Ideal) x1 x2 x3 x4 x6 (ix2 t e) = ((a.nC t e * a.gC e : ℝ) : EReal) := by
  pointwise [val_main_v56, val_main_v55, val_main_v54]
  simp only [nC H, H.gC, ← EReal.coe_mul]

theorem merged (t : Fin 4096) (d : Fin 1024) :
    val_main_v57 (F := Ideal) x0 x1 x2 x3 x4 x5 x6 (ix2 t d) = ((a.merged t d : ℝ) : EReal) := by
  pointwise [val_main_v57]
  unfold Mix.merged
  split
  · exact halfA H t _
  · exact halfC H t _

/-- The mix. -/
theorem mix (t : Fin 4096) (d : Fin 1024) :
    val_main_v58 (F := Ideal) x0 x1 x2 x3 x4 x5 x6 x7 (ix2 t d) = ((a.mix t d : ℝ) : EReal) := by
  pointwise [val_main_v58]
  simp only [merged H, H.wo, ← EReal.coe_mul, coe_sum]; rfl

/-- The reciprocal root mean square of the mix's rows. -/
theorem rM (t : Fin 4096) (o : Fin 1) :
    val_main_v66 (F := Ideal) x0 x1 x2 x3 x4 x5 x6 x7 (ix2 t o) = ((rs (a.mix t) : ℝ) : EReal) := by
  pointwise [val_main_v66, val_main_v65, val_main_v64, val_main_v63, val_main_v62, val_main_v61, val_main_v60, val_main_v59,
    val_main_cst_8, val_main_cst_9, val_main_cst_10]
  simp only [mix H, bits_1024, bits_eps, ← EReal.coe_mul, coe_sum, div_1024, ← EReal.coe_add, rsqrt_lift]

theorem sM (t : Fin 4096) (o : Fin 1) :
    val_main_v69 (F := Ideal) x0 x1 x2 x3 x4 x5 x6 x7 (ix2 t o) = ((-(1 / 2) * (rs (a.mix t) / ms (a.mix t)) : ℝ) : EReal) := by
  pointwise [val_main_v69, val_main_v68, val_main_v67, val_main_v65, val_main_v64, val_main_v63, val_main_v62, val_main_v61,
    val_main_v60, val_main_v59, val_main_cst_8, val_main_cst_9, val_main_cst_10, val_main_cst_11]
  simp only [rM H, mix H, bits_1024, bits_eps, bits_neg_half, ← EReal.coe_mul, coe_sum, div_1024, ← EReal.coe_add, div_ms]

/-- The gradient at the mix. -/
theorem dmix (t : Fin 4096) (d : Fin 1024) :
    val_main_v94 (F := Ideal) x0 x1 x2 x3 x4 x5 x6 x7 x8 x9 (ix2 t d) = ((a.dmix t d : ℝ) : EReal) := by
  pointwise [val_main_v94, val_main_v93, val_main_v92, val_main_v91, val_main_v90, val_main_v89, val_main_v88, val_main_v87,
    val_main_v86, val_main_v85, val_main_v84, val_main_v83, val_main_v82, val_main_v81, val_main_v79, val_main_v78,
    val_main_v72, val_main_cst_14, val_main_cst_15, val_main_cst_16]
  simp only [rM H, sM H, mix H, H.dx, H.gP, bits_1024, ← EReal.coe_mul, coe_sum, div_1024, ← EReal.coe_add]
  simp only [Fin.sum_univ_one, Finset.univ_unique, Finset.sum_singleton]
  exact congrArg _ (rmsBwd_eq (a.mix t) (fun k => a.dx t k * a.gP k) d)

/-- The gradient at the two halves side by side, and its two halves. -/
theorem dmerged (t : Fin 4096) (d : Fin 1024) :
    val_main_v95 (F := Ideal) x0 x1 x2 x3 x4 x5 x6 x7 x8 x9 (ix2 t d) = ((a.dmerged t d : ℝ) : EReal) := by
  pointwise [val_main_v95]
  simp only [dmix H, H.wo, ← EReal.coe_mul, coe_sum]; rfl

theorem dA (t : Fin 4096) (e : Fin 512) :
    val_main_v96 (F := Ideal) x0 x1 x2 x3 x4 x5 x6 x7 x8 x9 (ix2 t e) = ((a.dmerged t (Mix.lo e) : ℝ) : EReal) := by
  pointwise [val_main_v96]
  exact dmerged H t _

theorem dY (t : Fin 4096) (e : Fin 512) :
    val_main_v97 (F := Ideal) x0 x1 x2 x3 x4 x5 x6 x7 x8 x9 (ix2 t e) = ((a.dmerged t (Mix.hi e) : ℝ) : EReal) := by
  pointwise [val_main_v97]
  exact dmerged H t _

/-- The gradient at the attention's rows. -/
theorem dattn (t : Fin 4096) (e : Fin 512) :
    val_main_v137 (F := Ideal) x0 x1 x2 x3 x4 x5 x6 x7 x8 x9 (ix2 t e) = ((a.dattn t e : ℝ) : EReal) := by
  pointwise [val_main_v137, val_main_v136, val_main_v135, val_main_v134, val_main_v133, val_main_v132, val_main_v131, val_main_v130,
    val_main_v129, val_main_v128, val_main_v127, val_main_v126, val_main_v125, val_main_v124, val_main_v122, val_main_v121,
    val_main_v38, val_main_cst_24, val_main_cst_25, val_main_cst_26]
  simp only [rA H, sA H, dA H, H.attn, H.gA, bits_512, ← EReal.coe_mul, coe_sum, div_512, ← EReal.coe_add]
  simp only [Fin.sum_univ_one, Finset.univ_unique, Finset.sum_singleton]
  exact congrArg _ (rmsBwdH_eq (a.attn t) (fun k => a.dmerged t (Mix.lo k) * a.gA k) e)

/-- The gradient at the gated convolution. -/
theorem dyc (t : Fin 4096) (e : Fin 512) :
    val_main_v117 (F := Ideal) x0 x1 x2 x3 x4 x5 x6 x7 x8 x9 (ix2 t e) = ((a.dyc t e : ℝ) : EReal) := by
  pointwise [val_main_v117, val_main_v116, val_main_v115, val_main_v114, val_main_v113, val_main_v112, val_main_v111, val_main_v110,
    val_main_v109, val_main_v108, val_main_v107, val_main_v106, val_main_v105, val_main_v104, val_main_v102, val_main_v101,
    val_main_v54, val_main_cst_19, val_main_cst_20, val_main_cst_21]
  simp only [rC H, sC H, dY H, y H, H.gC, bits_512, ← EReal.coe_mul, coe_sum, div_512, ← EReal.coe_add]
  simp only [Fin.sum_univ_one, Finset.univ_unique, Finset.sum_singleton]
  exact congrArg _ (rmsBwdH_eq (a.y t) (fun k => a.dmerged t (Mix.hi k) * a.gC k) e)

/-- The gradients at the convolution and at its gate. -/
theorem ds (t : Fin 4096) (e : Fin 512) :
    val_main_v138 (F := Ideal) x0 x1 x2 x3 x4 x5 x6 x7 x8 x9 (ix2 t e) = ((a.ds t e : ℝ) : EReal) := by
  pointwise [val_main_v138]
  simp only [dyc H, H.b, ← EReal.coe_mul]
  exact congrArg _ (mul_comm _ _)

theorem db (t : Fin 4096) (e : Fin 512) :
    val_main_v139 (F := Ideal) x0 x1 x2 x3 x4 x5 x6 x7 x8 x9 (ix2 t e) = ((a.db t e : ℝ) : EReal) := by
  pointwise [val_main_v139]
  simp only [dyc H, s H, ← EReal.coe_mul]; rfl

/-- The gradients of the three norms' weights. -/
theorem dgP (o : Fin 1) (d : Fin 1024) :
    val_main_v143 (F := Ideal) x0 x1 x2 x3 x4 x5 x6 x7 x9 (ix2 o d) = ((a.dgP d : ℝ) : EReal) := by
  pointwise [val_main_v143, val_main_v80, val_main_v77, val_main_v76, val_main_v75, val_main_v71, val_main_v70,
    val_main_cst_12, val_main_cst_13]
  simp only [rM H, mix H, H.dx, ← EReal.coe_mul, coe_sum]
  simp only [Fin.sum_univ_one, Finset.univ_unique, Finset.sum_singleton]
  exact congrArg _ (Finset.sum_congr rfl fun t _ => mul_comm _ _)

theorem dgA (o : Fin 1) (e : Fin 512) :
    val_main_v144 (F := Ideal) x0 x1 x2 x3 x4 x5 x6 x7 x8 x9 (ix2 o e) = ((a.dgA e : ℝ) : EReal) := by
  pointwise [val_main_v144, val_main_v123, val_main_v120, val_main_v119, val_main_v118, val_main_cst_22, val_main_cst_23]
  simp only [nA H, dA H, ← EReal.coe_mul, coe_sum]
  simp only [Fin.sum_univ_one, Finset.univ_unique, Finset.sum_singleton]
  exact congrArg _ (Finset.sum_congr rfl fun t _ => mul_comm _ _)

theorem dgC (o : Fin 1) (e : Fin 512) :
    val_main_v145 (F := Ideal) x0 x1 x2 x3 x4 x5 x6 x7 x8 x9 (ix2 o e) = ((a.dgC e : ℝ) : EReal) := by
  pointwise [val_main_v145, val_main_v103, val_main_v100, val_main_v99, val_main_v98, val_main_cst_17, val_main_cst_18]
  simp only [nC H, dY H, ← EReal.coe_mul, coe_sum]
  simp only [Fin.sum_univ_one, Finset.univ_unique, Finset.sum_singleton]
  exact congrArg _ (Finset.sum_congr rfl fun t _ => mul_comm _ _)

end Cert.MixRef
-- ==== Proof.MixBwdBlock.lean ====
/- What the blocks of the mix's gradient kernel hold when the arguments are finite: the arrays that the host prepares, the
   512 rows of each that a grid point reads, and the rows around them. -/
module

public import proofs.«01_k».proof.Proof.MixBwdKernel
public import proofs.«01_k».proof.Proof.MixRef

@[expose] public section

set_option maxRecDepth 16384
set_option maxHeartbeats 1600000

noncomputable section

open Idealize.ShloMosaic Idealize.ShloMosaic.TcCoe Idealize.SL.Sem
open Idealize.ShloMosaic.Pipeline (Dat)

namespace Cert.MixBwdBlock
open Cert.MixBwdIdeal Cert.MixBwdIdeal.Gen Cert.Step Cert.MixBwdRun
open Cert.MixRef (Arr Lifts)
open Cert.MixBwdKernel (row Holds)

variable (m : (ℓ : Loc nD τ sig) → Buf (Elt Ideal) ℓ)

/-- Which block of its array each window holds at grid point `t`: the rows around a point's come in blocks of 16. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val * 32 - 1, 0] ∧ win0_7.index t = ![t.val * 32 - 1, 0]
    ∧ win0_8.index t = ![min (t.val * 32 + 32) 255, 0] ∧ win0_9.index t = ![min (t.val * 32 + 32) 255, 0]
    ∧ win0_10.index t = ![0, 0] ∧ win0_11.index t = ![0, 0] ∧ win0_12.index t = ![0, 0] ∧ win0_13.index t = ![0, 0]
    ∧ win0_14.index t = ![0, 0] :=
  (by decide +kernel : ∀ t : Fin grid0.N, _)

/-- … and of the results. -/
theorem idx' : ∀ t : Fin cfg0.N, win0_15.index t = ![t.val, 0] ∧ win0_16.index t = ![t.val, 0] ∧ win0_17.index t = ![t.val, 0]
    ∧ win0_18.index t = ![t.val, 0] :=
  (by decide +kernel : ∀ t : Fin grid0.N, _)

/-- A grid point's coordinate is its number. -/
theorem coord : ∀ t : Fin cfg0.N, (grid0.coords t 0).val = t.val :=
  (by decide +kernel : ∀ t : Fin grid0.N, _)

/-- The real arrays `a` are what device `c` is given. -/
abbrev Given (a : Mix) (c : Dev nD) : Prop :=
  Lifts a (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

section host
variable (c : Dev nD)

/-- The host's mix is the reference's. -/
theorem host_mix : V m c main_v53 = truncf (F := Ideal) .bf16 (Cert.MixGradIdeal.Read.val_main_v58 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))) bitsLt_bf16_f32 := by
  entry_read; rfl
theorem host_u : V m c main_v54 = truncf (F := Ideal) .bf16 (m ((c.tc : Thread nD τ).loc main_arg1)) bitsLt_bf16_f32 := by
  entry_read; rfl
theorem host_b : V m c main_v55 = truncf (F := Ideal) .bf16 (m ((c.tc : Thread nD τ).loc main_arg2)) bitsLt_bf16_f32 := by
  entry_read; rfl
theorem host_c : V m c main_v56 = truncf (F := Ideal) .bf16 (m ((c.tc : Thread nD τ).loc main_arg3)) bitsLt_bf16_f32 := by
  entry_read; rfl
theorem host_gA : V m c main_v57 = broadcastInDim S1x512 ![1] bcast_S512_S1x512_1 (m ((c.tc : Thread nD τ).loc main_arg5)) := by
  entry_read; rfl
theorem host_gC : V m c main_v58 = broadcastInDim S1x512 ![1] bcast_S512_S1x512_1 (m ((c.tc : Thread nD τ).loc main_arg6)) := by
  entry_read; rfl
theorem host_gP : V m c main_v59 = broadcastInDim S1x1024 ![1] bcast_S1024_S1x1024_1 (m ((c.tc : Thread nD τ).loc main_arg8)) := by
  entry_read; rfl
theorem host_wo : V m c main_v60 = truncf (F := Ideal) .bf16 (m ((c.tc : Thread nD τ).loc main_arg7)) bitsLt_bf16_f32 := by
  entry_read; rfl
end host

variable {m} {a : Mix} {c : Dev nD} (H : Given m a c)
include H

theorem arr_mix (t d) : V m c main_v53 (ix2 t d) = ((a.mix t d : ℝ) : EReal) := by
  rw [host_mix]; exact MixRef.mix H t d
theorem arr_u (t e) : V m c main_v54 (ix2 t e) = ((a.u t e : ℝ) : EReal) := by
  rw [host_u]; pointwise; exact H.u _ _
theorem arr_b (t e) : V m c main_v55 (ix2 t e) = ((a.b t e : ℝ) : EReal) := by
  rw [host_b]; pointwise; exact H.b _ _
theorem arr_c (t e) : V m c main_v56 (ix2 t e) = ((a.c t e : ℝ) : EReal) := by
  rw [host_c]; pointwise; exact H.c _ _
theorem arr_gA (o e) : V m c main_v57 (ix2 o e) = ((a.gA e : ℝ) : EReal) := by
  rw [host_gA]; pointwise; exact H.gA _
theorem arr_gC (o e) : V m c main_v58 (ix2 o e) = ((a.gC e : ℝ) : EReal) := by
  rw [host_gC]; pointwise; exact H.gC _
theorem arr_gP (o d) : V m c main_v59 (ix2 o d) = ((a.gP d : ℝ) : EReal) := by
  rw [host_gP]; pointwise; exact H.gP _
theorem arr_wo (k d) : V m c main_v60 (ix2 k d) = ((a.wo k d : ℝ) : EReal) := by
  rw [host_wo]; pointwise; exact H.wo _ _

/-! Every grid point reads its 512 rows of the arrays that have rows. -/

theorem blk_dx (t : Fin cfg0.N) (r : Fin 512) (d : Fin 1024) : iblk m c 0 t (ix2 r d) = ((a.dx (row t r) d : ℝ) : EReal) := by
  refine Eq.trans ?_ (H.dx (row t r) d)
  obtain ⟨e0, -⟩ := idx t
  blk_ext [iblk, V, e0]

theorem blk_mix (t : Fin cfg0.N) (r : Fin 512) (d : Fin 1024) : iblk m c 1 t (ix2 r d) = ((a.mix (row t r) d : ℝ) : EReal) := by
  refine Eq.trans ?_ (arr_mix H (row t r) d)
  obtain ⟨-, e1, -⟩ := idx t
  blk_ext [iblk, e1]

theorem blk_attn (t : Fin cfg0.N) (r e : Fin 512) : iblk m c 2 t (ix2 r e) = ((a.attn (row t r) e : ℝ) : EReal) := by
  refine Eq.trans ?_ (H.attn (row t r) e)
  obtain ⟨-, -, e2, -⟩ := idx t
  blk_ext [iblk, V, e2]

theorem blk_u (t : Fin cfg0.N) (r e : Fin 512) : iblk m c 3 t (ix2 r e) = ((a.u (row t r) e : ℝ) : EReal) := by
  refine Eq.trans ?_ (arr_u H (row t r) e)
  obtain ⟨-, -, -, e3, -⟩ := idx t
  blk_ext [iblk, e3]

theorem blk_b (t : Fin cfg0.N) (r e : Fin 512) : iblk m c 4 t (ix2 r e) = ((a.b (row t r) e : ℝ) : EReal) := by
  refine Eq.trans ?_ (arr_b H (row t r) e)
  obtain ⟨-, -, -, -, e4, -⟩ := idx t
  blk_ext [iblk, e4]

theorem blk_c (t : Fin cfg0.N) (r e : Fin 512) : iblk m c 5 t (ix2 r e) = ((a.c (row t r) e : ℝ) : EReal) := by
  refine Eq.trans ?_ (arr_c H (row t r) e)
  obtain ⟨-, -, -, -, -, e5, -⟩ := idx t
  blk_ext [iblk, e5]

/-! The last of the 16 rows before a point's, and the first of the 16 after them. -/

theorem blk_up (t : Fin cfg0.N) (h : 0 < t.val) (e : Fin 512) :
    iblk m c 6 t (ix2 15 e) = ((a.u ⟨t.val * 512 - 1, by have := t.isLt; change t.val < 8 at this; omega⟩ e : ℝ) : EReal) := by
  refine Eq.trans ?_ (arr_u H _ e)
  obtain ⟨-, -, -, -, -, -, e6, -⟩ := idx t
  blk_ext [iblk, e6]

theorem blk_cp (t : Fin cfg0.N) (h : 0 < t.val) (e : Fin 512) :
    iblk m c 7 t (ix2 15 e) = ((a.c ⟨t.val * 512 - 1, by have := t.isLt; change t.val < 8 at this; omega⟩ e : ℝ) : EReal) := by
  refine Eq.trans ?_ (arr_c H _ e)
  obtain ⟨-, -, -, -, -, -, -, e7, -⟩ := idx t
  blk_ext [iblk, e7]

theorem blk_un (t : Fin cfg0.N) (h : t.val < 7) (e : Fin 512) :
    iblk m c 8 t (ix2 0 e) = ((a.u ⟨t.val * 512 + 512, by omega⟩ e : ℝ) : EReal) := by
  refine Eq.trans ?_ (arr_u H _ e)
  obtain ⟨-, -, -, -, -, -, -, -, e8, -⟩ := idx t
  blk_ext [iblk, e8]

theorem blk_cn (t : Fin cfg0.N) (h : t.val < 7) (e : Fin 512) :
    iblk m c 9 t (ix2 0 e) = ((a.c ⟨t.val * 512 + 512, by omega⟩ e : ℝ) : EReal) := by
  refine Eq.trans ?_ (arr_c H _ e)
  obtain ⟨-, -, -, -, -, -, -, -, -, e9, -⟩ := idx t
  blk_ext [iblk, e9]

/-! The taps, the norm weights and the output weight are whole at every point. -/

theorem blk_w (t : Fin cfg0.N) (k : Fin 3) (e : Fin 512) : iblk m c 10 t (ix2 k e) = ((a.w k e : ℝ) : EReal) := by
  refine Eq.trans ?_ (H.w k e)
  obtain ⟨-, -, -, -, -, -, -, -, -, -, e10, -⟩ := idx t
  blk_ext [iblk, V, e10]

theorem blk_gA (t : Fin cfg0.N) (o : Fin 1) (e : Fin 512) : iblk m c 11 t (ix2 o e) = ((a.gA e : ℝ) : EReal) := by
  refine Eq.trans ?_ (arr_gA H o e)
  obtain ⟨-, -, -, -, -, -, -, -, -, -, -, e11, -⟩ := idx t
  blk_ext [iblk, e11]

theorem blk_gC (t : Fin cfg0.N) (o : Fin 1) (e : Fin 512) : iblk m c 12 t (ix2 o e) = ((a.gC e : ℝ) : EReal) := by
  refine Eq.trans ?_ (arr_gC H o e)
  obtain ⟨-, -, -, -, -, -, -, -, -, -, -, -, e12, -⟩ := idx t
  blk_ext [iblk, e12]

theorem blk_gP (t : Fin cfg0.N) (o : Fin 1) (d : Fin 1024) : iblk m c 13 t (ix2 o d) = ((a.gP d : ℝ) : EReal) := by
  refine Eq.trans ?_ (arr_gP H o d)
  obtain ⟨-, -, -, -, -, -, -, -, -, -, -, -, -, e13, -⟩ := idx t
  blk_ext [iblk, e13]

theorem blk_wo (t : Fin cfg0.N) (k d : Fin 1024) : iblk m c 14 t (ix2 k d) = ((a.wo k d : ℝ) : EReal) := by
  refine Eq.trans ?_ (arr_wo H k d)
  obtain ⟨-, -, -, -, -, -, -, -, -, -, -, -, -, -, e14⟩ := idx t
  blk_ext [iblk, e14]

/-- A grid point's blocks are its rows of the real arrays. -/
theorem holds (t : Fin cfg0.N) : Holds a t (blocks m c t) :=
  ⟨blk_dx H t, blk_mix H t, blk_attn H t, blk_u H t, blk_b H t, blk_c H t, blk_up H t, blk_cp H t, blk_un H t, blk_cn H t,
    blk_w H t, blk_gA H t, blk_gC H t, blk_gP H t, blk_wo H t⟩

end Cert.MixBwdBlock
-- ==== Proof.MixBwdFinal.lean ====
/- The arrays the mix's gradient kernel leaves: each of its seven results is the real function of MixSpec that it should
   be, when the arguments are finite. -/
module

public import proofs.«01_k».proof.Proof.MixBwdBlock

@[expose] public section

set_option maxRecDepth 16384
set_option maxHeartbeats 1600000

noncomputable section

open Idealize.ShloMosaic Idealize.ShloMosaic.TcCoe Idealize.SL.Sem
open Idealize.ShloMosaic.Pipeline (Dat)

namespace Cert.MixBwdFinal
open Cert.MixBwdIdeal Cert.MixBwdIdeal.Gen Cert.Step Cert.MixBwdRun Cert.MixBwdBlock
open Cert.MixRef (Arr)
open Cert.MixBwdKernel (row)

/-! The seven results as arrays. -/

def dmixArr (a : Mix) : Arr S4096x1024 := fun i => ((a.dmix (i 0) (i 1) : ℝ) : EReal)
def dattnArr (a : Mix) : Arr S4096x512 := fun i => ((a.dattn (i 0) (i 1) : ℝ) : EReal)
def dsArr (a : Mix) : Arr S4096x512 := fun i => ((a.ds (i 0) (i 1) : ℝ) : EReal)
def dbArr (a : Mix) : Arr S4096x512 := fun i => ((a.db (i 0) (i 1) : ℝ) : EReal)
def dgPArr (a : Mix) : Arr S1x1024 := fun i => ((a.dgP (i 1) : ℝ) : EReal)
def dgAArr (a : Mix) : Arr S1x512 := fun i => ((a.dgA (i 1) : ℝ) : EReal)
def dgCArr (a : Mix) : Arr S1x512 := fun i => ((a.dgC (i 1) : ℝ) : EReal)

variable {m : (ℓ : Loc nD τ sig) → Buf (Elt Ideal) ℓ} {a : Mix} {c : Dev nD} (H : Given m a c)

attribute [local irreducible] Mix.dmix Mix.dattn Mix.ds Mix.db Mix.dgP Mix.dgA Mix.dgC Mix.dmerged Mix.nA Mix.nC Mix.mix

/-! What the windows' buffers hold after a grid point. -/

theorem after15 (t : Fin cfg0.N) : (dats m 0 c).after 15 t = (blocks m c t).dmix := rfl
theorem after16 (t : Fin cfg0.N) : (dats m 0 c).after 16 t = (blocks m c t).dattn := rfl
theorem after17 (t : Fin cfg0.N) : (dats m 0 c).after 17 t = (blocks m c t).ds (grid0.coords t) := rfl
theorem after18 (t : Fin cfg0.N) : (dats m 0 c).after 18 t = (blocks m c t).db (grid0.coords t) := rfl
theorem after19 (t : Fin cfg0.N) : (dats m 0 c).after 19 t = sumP m c t.val t.isLt := rfl
theorem after20 (t : Fin cfg0.N) : (dats m 0 c).after 20 t = sumA m c t.val t.isLt := rfl
theorem after21 (t : Fin cfg0.N) : (dats m 0 c).after 21 t = sumC m c t.val t.isLt := rfl

/-! Adding a point's part to a sum. -/

theorem add_P (v x : Vec Ideal S1x1024 .f32) (j : S1x1024.Idx) : k0_pay1 (F := Ideal) v x j = (x j + v j : EReal) := by
  rw [eq_ix2 j]; pointwise [k0_pay1]
theorem add_A (v x : Vec Ideal S1x512 .f32) (j : S1x512.Idx) : k0_pay2 (F := Ideal) v x j = (x j + v j : EReal) := by
  rw [eq_ix2 j]; pointwise [k0_pay2]
theorem add_C (v x : Vec Ideal S1x512 .f32) (j : S1x512.Idx) : k0_pay3 (F := Ideal) v x j = (x j + v j : EReal) := by
  rw [eq_ix2 j]; pointwise [k0_pay3]

/-- After the last grid point the sums are over all the points' parts. -/
theorem sumP_last (j : S1x1024.Idx) : sumP m c t0_7.val t0_7.isLt j = (0 + ∑ t : Fin cfg0.N, (blocks m c t).pP j : EReal) :=
  Pipeline.eq_sum_fin_of_reset_step_apply_last (fun n h => sumP m c n h) 8 (fun _ => (0 : EReal)) (fun t j => (blocks m c t).pP j)
    (fun t h j => by
      obtain ⟨n, hn⟩ := t
      obtain rfl : n = 0 := by have : n < 8 := hn; dsimp only at h; omega
      exact (zero_add _).symm)
    (fun t h j => by
      obtain ⟨n, hn⟩ := t
      cases n with
      | zero => exact absurd rfl h
      | succ n => exact add_P _ _ j)
    (le_of_eq N_0) t0_7 rfl j
theorem sumA_last (j : S1x512.Idx) : sumA m c t0_7.val t0_7.isLt j = (0 + ∑ t : Fin cfg0.N, (blocks m c t).pA j : EReal) :=
  Pipeline.eq_sum_fin_of_reset_step_apply_last (fun n h => sumA m c n h) 8 (fun _ => (0 : EReal)) (fun t j => (blocks m c t).pA j)
    (fun t h j => by
      obtain ⟨n, hn⟩ := t
      obtain rfl : n = 0 := by have : n < 8 := hn; dsimp only at h; omega
      exact (zero_add _).symm)
    (fun t h j => by
      obtain ⟨n, hn⟩ := t
      cases n with
      | zero => exact absurd rfl h
      | succ n => exact add_A _ _ j)
    (le_of_eq N_0) t0_7 rfl j
theorem sumC_last (j : S1x512.Idx) :
    sumC m c t0_7.val t0_7.isLt j = (0 + ∑ t : Fin cfg0.N, (blocks m c t).pC (grid0.coords t) j : EReal) :=
  Pipeline.eq_sum_fin_of_reset_step_apply_last (fun n h => sumC m c n h) 8 (fun _ => (0 : EReal))
    (fun t j => (blocks m c t).pC (grid0.coords t) j)
    (fun t h j => by
      obtain ⟨n, hn⟩ := t
      obtain rfl : n = 0 := by have : n < 8 := hn; dsimp only at h; omega
      exact (zero_add _).symm)
    (fun t h j => by
      obtain ⟨n, hn⟩ := t
      cases n with
      | zero => exact absurd rfl h
      | succ n => exact add_C _ _ j)
    (le_of_eq N_0) t0_7 rfl j

include H

/-- The gradient at the mix. -/
theorem final15 : (dats m 0 c).arrAt 15 cfg0.N = dmixArr a := by
  refine (dats m 0 c).arrAt_eq_of_covers 15 _ (by decide +kernel) fun t hf y => ?_
  blk_simp; rw [after15]
  obtain ⟨e15, -⟩ := idx' t
  have h : ((cfg0.win 15).blk t).view.emb y = (ix2 (row t (y 0)) (y 1) : S4096x1024.Idx) := by blk_ext [e15]
  have hy : (y : S512x1024.Idx) = ix2 (y 0) (y 1) := eq_ix2 y
  rw [hy]
  exact (MixBwdKernel.dmix (holds H t) _ _).trans (congrArg (dmixArr a) h.symm)

/-- The gradient at the attention's rows. -/
theorem final16 : (dats m 0 c).arrAt 16 cfg0.N = dattnArr a := by
  refine (dats m 0 c).arrAt_eq_of_covers 16 _ (by decide +kernel) fun t hf y => ?_
  blk_simp; rw [after16]
  obtain ⟨-, e16, -⟩ := idx' t
  have h : ((cfg0.win 16).blk t).view.emb y = (ix2 (row t (y 0)) (y 1) : S4096x512.Idx) := by blk_ext [e16]
  have hy : (y : S512x512.Idx) = ix2 (y 0) (y 1) := eq_ix2 y
  rw [hy]
  exact (MixBwdKernel.dattn (holds H t) _ _).trans (congrArg (dattnArr a) h.symm)

/-- The gradient at the convolution. -/
theorem final17 : (dats m 0 c).arrAt 17 cfg0.N = dsArr a := by
  refine (dats m 0 c).arrAt_eq_of_covers 17 _ (by decide +kernel) fun t hf y => ?_
  blk_simp; rw [after17]
  obtain ⟨-, -, e17, -⟩ := idx' t
  have h : ((cfg0.win 17).blk t).view.emb y = (ix2 (row t (y 0)) (y 1) : S4096x512.Idx) := by blk_ext [e17]
  have hy : (y : S512x512.Idx) = ix2 (y 0) (y 1) := eq_ix2 y
  rw [hy]
  exact (MixBwdKernel.ds (holds H t) _ (coord t) _ _).trans (congrArg (dsArr a) h.symm)

/-- The gradient at the gate after the convolution. -/
theorem final18 : (dats m 0 c).arrAt 18 cfg0.N = dbArr a := by
  refine (dats m 0 c).arrAt_eq_of_covers 18 _ (by decide +kernel) fun t hf y => ?_
  blk_simp; rw [after18]
  obtain ⟨-, -, -, e18⟩ := idx' t
  have h : ((cfg0.win 18).blk t).view.emb y = (ix2 (row t (y 0)) (y 1) : S4096x512.Idx) := by blk_ext [e18]
  have hy : (y : S512x512.Idx) = ix2 (y 0) (y 1) := eq_ix2 y
  rw [hy]
  exact (MixBwdKernel.db (holds H t) _ (coord t) _ _).trans (congrArg (dbArr a) h.symm)

/-- The gradient of the weight of the norm after the mix. -/
theorem last19 (j : S1x1024.Idx) : sumP m c t0_7.val t0_7.isLt j = dgPArr a j := by
  rw [sumP_last, zero_add, eq_ix2 j, Finset.sum_congr rfl fun t _ => MixBwdKernel.pP (holds H t) (j 0) (j 1), coe_sum]
  exact congrArg _ ((Fin.sum_univ_tiles 8 512 rfl fun t => a.dx t (j 1) * (a.mix t (j 1) * rs (a.mix t))).symm.trans (a.dgP_eq (j 1)).symm)

/-- The gradients of the weights of the two halves' norms. -/
theorem last20 (j : S1x512.Idx) : sumA m c t0_7.val t0_7.isLt j = dgAArr a j := by
  rw [sumA_last, zero_add, eq_ix2 j, Finset.sum_congr rfl fun t _ => MixBwdKernel.pA (holds H t) (j 0) (j 1), coe_sum]
  exact congrArg _ ((Fin.sum_univ_tiles 8 512 rfl fun t => a.dmerged t (Mix.lo (j 1)) * a.nA t (j 1)).symm.trans (a.dgA_eq (j 1)).symm)
theorem last21 (j : S1x512.Idx) : sumC m c t0_7.val t0_7.isLt j = dgCArr a j := by
  rw [sumC_last, zero_add, eq_ix2 j, Finset.sum_congr rfl fun t _ => MixBwdKernel.pC (holds H t) _ (coord t) (j 0) (j 1), coe_sum]
  exact congrArg _ ((Fin.sum_univ_tiles 8 512 rfl fun t => a.dmerged t (Mix.hi (j 1)) * a.nC t (j 1)).symm.trans (a.dgC_eq (j 1)).symm)

theorem final19 : (dats m 0 c).arrAt 19 cfg0.N = dgPArr a := by
  refine (dats m 0 c).arrAt_eq_of_after_last 19 t0_7 (by decide +kernel) _ fun j => ?_
  blk_simp
  rw [after19]; exact last19 H j
theorem final20 : (dats m 0 c).arrAt 20 cfg0.N = dgAArr a := by
  refine (dats m 0 c).arrAt_eq_of_after_last 20 t0_7 (by decide +kernel) _ fun j => ?_
  blk_simp
  rw [after20]; exact last20 H j
theorem final21 : (dats m 0 c).arrAt 21 cfg0.N = dgCArr a := by
  refine (dats m 0 c).arrAt_eq_of_after_last 21 t0_7 (by decide +kernel) _ fun j => ?_
  blk_simp
  rw [after21]; exact last21 H j

end Cert.MixBwdFinal
-- ==== Proof.MixPre.lean ====
/- The precondition of the mix's gradient makes its arguments real arrays. -/
module

public import proofs.«01_k».proof.Pre_mix_finite
public import proofs.«01_k».proof.Proof.Finite
public import proofs.«01_k».proof.Proof.MixRef

@[expose] public section

noncomputable section

open Idealize.ShloMosaic Idealize.ShloMosaic.TcCoe Idealize.SL.Sem

namespace Cert.MixPre
open Cert.Step Cert.MixRef

/-- The side conditions the predicate states. -/
theorem facts : Cert.Pre_mix_finite.Facts where
  bcast_S_S4096x512 := by decide
  reducesTo_S4096x512_S_d0_1 := by decide
  h_S_ := by decide
  bcast_S_S3x512 := by decide
  reducesTo_S3x512_S_d0_1 := by decide
  bcast_S_S512 := by decide
  reducesTo_S512_S_d0 := by decide
  bcast_S_S1024x1024 := by decide
  reducesTo_S1024x1024_S_d0_1 := by decide
  bcast_S_S1024 := by decide
  reducesTo_S1024_S_d0 := by decide
  bcast_S_S4096x1024 := by decide
  reducesTo_S4096x1024_S_d0_1 := by decide

instance : Subsingleton Cert.Pre_mix_finite.S_.Idx := ⟨fun _ _ => funext fun k => k.elim0⟩

section
open Cert.MixGradIdeal
variable (x0 x1 x2 x3 : Arr S4096x512) (x4 : Arr S3x512) (x5 x6 : Arr S512) (x7 : Arr S1024x1024)
  (x8 : Arr S1024) (x9 : Arr S4096x1024)

/-- The real parts of the arguments. -/
def reals : Mix where
  attn t e := (x0 (ix2 t e) : EReal).toReal
  u t e := (x1 (ix2 t e) : EReal).toReal
  b t e := (x2 (ix2 t e) : EReal).toReal
  c t e := (x3 (ix2 t e) : EReal).toReal
  w k e := (x4 (ix2 k e) : EReal).toReal
  gA e := (x5 (ix1 e) : EReal).toReal
  gC e := (x6 (ix1 e) : EReal).toReal
  wo k d := (x7 (ix2 k d) : EReal).toReal
  gP d := (x8 (ix1 d) : EReal).toReal
  dx t d := (x9 (ix2 t d) : EReal).toReal

/-- Under the precondition the arguments are their real parts. -/
theorem lifts [Cert.Pre_mix_finite.Facts] (j : Cert.Pre_mix_finite.S_.Idx)
    (h : Cert.Pre_mix_finite.fn (F := Ideal) x0 x1 x2 x3 x4 x5 x6 x7 x8 x9 j = 1#1) :
    Lifts (reals x0 x1 x2 x3 x4 x5 x6 x7 x8 x9) x0 x1 x2 x3 x4 x5 x6 x7 x8 x9 := by
  dsimp only [Cert.Pre_mix_finite.fn, Cert.Pre_mix_finite.fn_part1, Cert.Pre_mix_finite.fn_part2] at h
  obtain ⟨h, h9⟩ := and_bits h
  obtain ⟨h, h8⟩ := and_bits h
  obtain ⟨h, h7⟩ := and_bits h
  obtain ⟨h, h6⟩ := and_bits h
  obtain ⟨h, h5⟩ := and_bits h
  obtain ⟨h, h4⟩ := and_bits h
  obtain ⟨h, h3⟩ := and_bits h
  obtain ⟨h, h2⟩ := and_bits h
  obtain ⟨h0, h1⟩ := and_bits h
  exact ⟨fun t e => real_of_all _ x0 _ _ _ j h0 _, fun t e => real_of_all _ x1 _ _ _ j h1 _, fun t e => real_of_all _ x2 _ _ _ j h2 _,
    fun t e => real_of_all _ x3 _ _ _ j h3 _, fun k e => real_of_all _ x4 _ _ _ j h4 _, fun e => real_of_all _ x5 _ _ _ j h5 _,
    fun e => real_of_all _ x6 _ _ _ j h6 _, fun k d => real_of_all _ x7 _ _ _ j h7 _, fun d => real_of_all _ x8 _ _ _ j h8 _,
    fun t d => real_of_all _ x9 _ _ _ j h9 _⟩
end

end Cert.MixPre
-- ==== Proof.MixBwdClaim.lean ====
/- The mix's gradient: kernel and reference leave the same seven arrays. -/
module

public import proofs.«01_k».proof.Defs
public import proofs.«01_k».proof.Proof.Gen.MixGradIdeal.Run
public import proofs.«01_k».proof.Proof.MixBwdFinal
public import proofs.«01_k».proof.Proof.MixPre

@[expose] public section

noncomputable section

open Idealize.ShloMosaic Idealize.ShloMosaic.TcCoe Idealize.SL.Sem

namespace Cert.MixBwdClaim

section Kernel
open Cert.MixBwdIdeal Cert.MixBwdIdeal.Gen Cert.MixBwdRun
variable {F : FTy → Type} [FloatOps F] (m : (ℓ : Loc nD τ sig) → Buf (Elt F) ℓ) (ρ : Dev nD → PrngReg)

/-- What a run of the kernel leaves: its results as the grid leaves them, and its arguments. -/
theorem kernel_run : θ_run defs (onTc (τ := τ) (main (F := F))) ⟨m, fun _ => 0, ρ⟩ (fun r => ∀ c : Dev nD,
      r.2.mem ((c.tc : Thread nD τ).loc main_v61_0) = (dats m 0 c).arrAt 15 cfg0.N
      ∧ r.2.mem ((c.tc : Thread nD τ).loc main_v61_1) = (dats m 0 c).arrAt 16 cfg0.N
      ∧ r.2.mem ((c.tc : Thread nD τ).loc main_v61_2) = (dats m 0 c).arrAt 17 cfg0.N
      ∧ r.2.mem ((c.tc : Thread nD τ).loc main_v61_3) = (dats m 0 c).arrAt 18 cfg0.N
      ∧ r.2.mem ((c.tc : Thread nD τ).loc main_v61_4) = (dats m 0 c).arrAt 19 cfg0.N
      ∧ r.2.mem ((c.tc : Thread nD τ).loc main_v61_5) = (dats m 0 c).arrAt 20 cfg0.N
      ∧ r.2.mem ((c.tc : Thread nD τ).loc main_v61_6) = (dats m 0 c).arrAt 21 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h.2.1 c).1 15, (h.2.1 c).1 16, (h.2.1 c).1 17, (h.2.1 c).1 18, (h.2.1 c).1 19, (h.2.1 c).1 20,
    (h.2.1 c).1 21, h.1.1 c⟩) (θ_run_and (frame m ρ) (run_main m ρ))
end Kernel

open Cert.MixGradIdeal Cert.MixGradIdeal.Gen Cert.MixGradIdeal.Read Cert.Step Cert.MixRef
open Cert.MixBwdFinal (dmixArr dattnArr dsArr dbArr dgPArr dgAArr dgCArr)

section Reference
attribute [local irreducible] Mix.dmix Mix.dattn Mix.ds Mix.db Mix.dgP Mix.dgA Mix.dgC
variable {a : Mix} {x0 x1 x2 x3 : Arr S4096x512} {x4 : Arr S3x512} {x5 x6 : Arr S512} {x7 : Arr S1024x1024}
  {x8 : Arr S1024} {x9 : Arr S4096x1024} (H : Lifts a x0 x1 x2 x3 x4 x5 x6 x7 x8 x9)
include H

theorem ref_dmix : val_main_v140 (F := Ideal) x0 x1 x2 x3 x4 x5 x6 x7 x8 x9 = dmixArr a := by
  funext i; pointwise [val_main_v140]; rw [eq_ix2 i]; exact MixRef.dmix H (i 0) (i 1)

theorem ref_dattn : val_main_v137 (F := Ideal) x0 x1 x2 x3 x4 x5 x6 x7 x8 x9 = dattnArr a := by
  funext i; rw [eq_ix2 i]; exact MixRef.dattn H (i 0) (i 1)

theorem ref_ds : val_main_v141 (F := Ideal) x0 x1 x2 x3 x4 x5 x6 x7 x8 x9 = dsArr a := by
  funext i; pointwise [val_main_v141]; rw [eq_ix2 i]; exact MixRef.ds H (i 0) (i 1)

theorem ref_db : val_main_v142 (F := Ideal) x0 x1 x2 x3 x4 x5 x6 x7 x8 x9 = dbArr a := by
  funext i; pointwise [val_main_v142]; rw [eq_ix2 i]; exact MixRef.db H (i 0) (i 1)

theorem ref_dgP : val_main_v143 (F := Ideal) x0 x1 x2 x3 x4 x5 x6 x7 x9 = dgPArr a := by
  funext i; rw [eq_ix2 i]; exact MixRef.dgP H (i 0) (i 1)

theorem ref_dgA : val_main_v144 (F := Ideal) x0 x1 x2 x3 x4 x5 x6 x7 x8 x9 = dgAArr a := by
  funext i; rw [eq_ix2 i]; exact MixRef.dgA H (i 0) (i 1)

theorem ref_dgC : val_main_v145 (F := Ideal) x0 x1 x2 x3 x4 x5 x6 x7 x8 x9 = dgCArr a := by
  funext i; rw [eq_ix2 i]; exact MixRef.dgC H (i 0) (i 1)

end Reference

attribute [local instance] Cert.MixBwdIdeal.Gen.facts Cert.MixGradIdeal.Gen.facts MixPre.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run _ _ _).mono (fun r h => ⟨fun c => (h c).2.2.2.2.2.2.2, sem_eq_zero_of_no_sems (by decide) r.2⟩)
    (Cert.MixGradIdeal.Value.run m g)

/-- The kernel's seven results are the reference's. -/
theorem algebraic : Cert.algebraic_MixBwdIdeal_MixGradIdeal_pre_mix_finite := by
  intro m g m' g' pre agree
  obtain ⟨A, H⟩ : ∃ A : Dev Cert.MixBwdIdeal.nD → Mix, ∀ c, Cert.MixBwdBlock.Given m (A c) c :=
    ⟨_, fun c => MixPre.lifts _ _ _ _ _ _ _ _ _ _ (fun k => k.elim0) (congrFun (pre c) _)⟩
  refine ⟨fun c => dmixArr (A c), fun c => dattnArr (A c), fun c => dsArr (A c), fun c => dbArr (A c), fun c => dgPArr (A c),
    fun c => dgAArr (A c), fun c => dgCArr (A c), ?_, ?_⟩
  · refine (θ_run _ _ _).mono (fun r h c => ?_) (kernel_run m g)
    obtain ⟨h15, h16, h17, h18, h19, h20, h21, h⟩ := h c
    exact ⟨h15.trans (MixBwdFinal.final15 (H c)), h16.trans (MixBwdFinal.final16 (H c)), h17.trans (MixBwdFinal.final17 (H c)),
      h18.trans (MixBwdFinal.final18 (H c)), h19.trans (MixBwdFinal.final19 (H c)), h20.trans (MixBwdFinal.final20 (H c)),
      h21.trans (MixBwdFinal.final21 (H c)), h⟩
  · refine (θ_run _ _ _).mono (fun r h c => ?_) (Cert.MixGradIdeal.Value.run m' g')
    obtain ⟨h0, h1, h2, h3, h4, h5, h6, h⟩ := h c
    obtain ⟨e0, e1, e2, e3, e4, e5, e6, e7, e8, e9⟩ := agree c
    have R := H c
    rw [MixBwdBlock.Given, ← e0, ← e1, ← e2, ← e3, ← e4, ← e5, ← e6, ← e7, ← e8, ← e9] at R
    exact ⟨(h0.trans (val_main_v140_eq _)).trans (ref_dmix R), (h1.trans (val_main_v137_eq _)).trans (ref_dattn R),
      (h2.trans (val_main_v141_eq _)).trans (ref_ds R), (h3.trans (val_main_v142_eq _)).trans (ref_db R),
      (h4.trans (val_main_v143_eq _)).trans (ref_dgP R), (h5.trans (val_main_v144_eq _)).trans (ref_dgA R),
      (h6.trans (val_main_v145_eq _)).trans (ref_dgC R), h⟩

end Cert.MixBwdClaim
-- ==== Proof.Adamw.lean ====
/- One step of the optimiser on one entry of a weight, over the extended reals: the two moments, and the change of the
   weight. Kernel and reference compute these same functions of a gradient; what differs is how the gradient comes
   about. No entry needs to be finite. -/
module

public import Idealize.ShloMosaic.PureOps.Ideal.Laws
public import Idealize.ShloMosaic.Lib.Pointwise
public import Idealize.ShloMosaic.Lib.ValueIdx

@[expose] public section

noncomputable section

open Idealize.ShloMosaic

namespace Cert.Adamw

/-- A constant of the program, by its bits. -/
abbrev const (b : BitVec 32) : EReal := Ideal.ofBits .f32 b

/-- The first moment: nine tenths of the old one and a tenth of the gradient. -/
def newM (g m : EReal) : EReal := const 0x3F666666#32 * m + const 0x3DCCCCCD#32 * g

/-- The second moment: 0.999 of the old one and 0.001 of the gradient's square. -/
def newV (g v : EReal) : EReal := const 0x3F7FBE77#32 * v + const 0x3A83126F#32 * (g * g)

/-- The change of the weight: the corrected first moment by the root of the corrected second one, and the decay. -/
def delta (w g m v : EReal) : EReal :=
  const 0xBA83126F#32 * (Ideal.div (Ideal.div (newM g m) (const 0x3F26BD02#32))
    (Ideal.sqrt (Ideal.div (newV g v) (const 0x3C231ACC#32)) + const 0x322BCC77#32) + const 0x3C23D70A#32 * w)

/-- Equal arguments, equal change. -/
theorem delta_congr {w w' g g' m m' v v' : EReal} (hw : w = w') (hg : g = g') (hm : m = m') (hv : v = v') :
    delta w g m v = delta w' g' m' v' := by
  rw [hw, hg, hm, hv]

/-- Four parts added one after the other are their sum. -/
theorem sum4 (f : Fin 4 → EReal) : f 0 + f 1 + f 2 + f 3 = ∑ k, f k := (Fin.sum_univ_four f).symm

/-- Eight parts added one after the other are their sum. -/
theorem sum8 (f : Fin 8 → EReal) : f 0 + f 1 + f 2 + f 3 + f 4 + f 5 + f 6 + f 7 = ∑ k, f k := (Fin.sum_univ_eight f).symm

end Cert.Adamw

end
-- ==== Proof.TapsClaim.lean ====
/- The optimiser's step of the convolution's taps: kernel and reference leave the same change and the same moments,
   whatever the arguments are. -/
module

public import proofs.«01_k».proof.Defs
public import proofs.«01_k».proof.Proof.Adamw
public import proofs.«01_k».proof.Proof.Gen.TapsStepIdeal.Value
public import proofs.«01_k».proof.Proof.Gen.TapsIdeal.Run
public import proofs.«01_k».proof.Proof.Gen.TapsIdeal.Read

@[expose] public section

noncomputable section

open Idealize.ShloMosaic Idealize.ShloMosaic.TcCoe Idealize.SL.Sem

namespace Cert.TapsClaim
open Cert.TapsIdeal Cert.TapsIdeal.Gen Cert.TapsIdeal.Read Cert.Adamw

abbrev Arr := BufTy.Contents (Elt Ideal) ⟨S4x3x64, .f32⟩

/-! The reference, entry by entry. -/

theorem ref_m (g m : Arr) (i) : val_main_v4 (F := Ideal) g m i = newM (g i) (m i) := rfl
theorem ref_v (g v : Arr) (i) : val_main_v10 (F := Ideal) g v i = newV (g i) (v i) := rfl
theorem ref_d (g w m v : Arr) (i) : val_main_v23 (F := Ideal) g w m v i = delta (w i) (g i) (m i) (v i) := rfl

/-! The kernel, entry by entry. -/

theorem ker_m (g m : Arr) (i) : Cert.TapsStepIdeal.Value.G5 (F := Ideal) g m i = newM (g i) (m i) := rfl
theorem ker_v (g v : Arr) (i) : Cert.TapsStepIdeal.Value.G6 (F := Ideal) g v i = newV (g i) (v i) := rfl
theorem ker_d (g w m v : Arr) (i) : Cert.TapsStepIdeal.Value.G4 (F := Ideal) w g m v i = delta (w i) (g i) (m i) (v i) := rfl

attribute [local instance] Cert.TapsStepIdeal.Gen.facts Cert.TapsIdeal.Gen.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2.2, sem_eq_zero_of_no_sems (by decide) r.2⟩)
    (Cert.TapsIdeal.Value.run m g)

/-- The kernel's results are the reference's. -/
theorem algebraic : Cert.algebraic_TapsStepIdeal_TapsIdeal := by
  intro m g m' g' pre agree
  refine ⟨fun c => Cert.TapsStepIdeal.Value.G4 (m ((c.tc : Thread Cert.TapsStepIdeal.nD Cert.TapsStepIdeal.τ).loc Cert.TapsStepIdeal.main_arg1))
      (m ((c.tc : Thread Cert.TapsStepIdeal.nD Cert.TapsStepIdeal.τ).loc Cert.TapsStepIdeal.main_arg0))
      (m ((c.tc : Thread Cert.TapsStepIdeal.nD Cert.TapsStepIdeal.τ).loc Cert.TapsStepIdeal.main_arg2))
      (m ((c.tc : Thread Cert.TapsStepIdeal.nD Cert.TapsStepIdeal.τ).loc Cert.TapsStepIdeal.main_arg3)),
    fun c => Cert.TapsStepIdeal.Value.G5 (m ((c.tc : Thread Cert.TapsStepIdeal.nD Cert.TapsStepIdeal.τ).loc Cert.TapsStepIdeal.main_arg0))
      (m ((c.tc : Thread Cert.TapsStepIdeal.nD Cert.TapsStepIdeal.τ).loc Cert.TapsStepIdeal.main_arg2)),
    fun c => Cert.TapsStepIdeal.Value.G6 (m ((c.tc : Thread Cert.TapsStepIdeal.nD Cert.TapsStepIdeal.τ).loc Cert.TapsStepIdeal.main_arg0))
      (m ((c.tc : Thread Cert.TapsStepIdeal.nD Cert.TapsStepIdeal.τ).loc Cert.TapsStepIdeal.main_arg3)),
    Cert.TapsStepIdeal.Value.run m g, ?_⟩
  refine (θ_run _ _ _).mono (fun r h c => ?_) (Cert.TapsIdeal.Value.run m' g')
  obtain ⟨h0, h1, h2, h⟩ := h c
  obtain ⟨e0, e1, e2, e3⟩ := agree c
  refine ⟨(h0.trans (val_main_v23_eq _ _ _ _)).trans ?_, (h1.trans (val_main_v4_eq _ _)).trans ?_,
    (h2.trans (val_main_v10_eq _ _)).trans ?_, h⟩
  · funext i; rw [e0, e1, e2, e3]; exact (ref_d _ _ _ _ i).trans (ker_d _ _ _ _ i).symm
  · funext i; rw [e0, e2]; exact (ref_m _ _ i).trans (ker_m _ _ i).symm
  · funext i; rw [e0, e3]; exact (ref_v _ _ i).trans (ker_v _ _ i).symm

end Cert.TapsClaim

end
-- ==== Proof.WoutStepClaim.lean ====
/- The optimiser's step of the weight of the output projection, of one device. At every layer the kernel sums the devices' parts of
   the gradient one after the other and reads from the sum the change of the weight and the two moments, tile by tile.
   The reference sums each layer's parts at once. No entry needs to be finite. -/
module

public import proofs.«01_k».proof.Defs
public import proofs.«01_k».proof.Proof.Adamw
public import proofs.«01_k».proof.Proof.Gen.WoutStepIdeal.Value
public import proofs.«01_k».proof.Proof.Gen.WoutIdeal.Run
public import proofs.«01_k».proof.Proof.Gen.WoutIdeal.Read
public import Idealize.ShloMosaic.Lib.Pipeline.ValueKit

@[expose] public section

set_option maxRecDepth 16384
set_option maxHeartbeats 1600000

noncomputable section

open Idealize.ShloMosaic Idealize.ShloMosaic.TcCoe Idealize.SL.Sem
open Idealize.ShloMosaic.Pipeline (Dat)

namespace Cert.WoutStepClaim
open Cert.Adamw

abbrev Arr (s : Shape) := BufTy.Contents (Elt Ideal) ⟨s, .f32⟩

section Reference
open Cert.WoutIdeal Cert.WoutIdeal.Read
variable (p0 : Arr S8x128x1024) (p1 : Arr S8x128x1024) (p2 : Arr S8x128x1024) (p3 : Arr S8x128x1024) (w mo ve : Arr S4x128x1024)

/-- The gradient at a layer's entry: the sum of the devices' parts of it. -/
def grad (l : Fin 4) (i : Fin 128) (j : Fin 1024) : EReal := match l with
  | 0 => ∑ k : Fin 8, p0 (ix3 k i j)
  | 1 => ∑ k : Fin 8, p1 (ix3 k i j)
  | 2 => ∑ k : Fin 8, p2 (ix3 k i j)
  | 3 => ∑ k : Fin 8, p3 (ix3 k i j)

/-! One layer of it, as the reference stacks them. -/

theorem layer0 (o : Fin 1) (i j) : val_main_v8 (F := Ideal) p0 (ix3 o i j) = ∑ k : Fin 8, p0 (ix3 k i j) := by
  pointwise [val_main_v8, val_main_v1, val_main_v0, val_main_cst]

theorem layer1 (o : Fin 1) (i j) : val_main_v9 (F := Ideal) p1 (ix3 o i j) = ∑ k : Fin 8, p1 (ix3 k i j) := by
  pointwise [val_main_v9, val_main_v3, val_main_v2, val_main_cst_0]

theorem layer2 (o : Fin 1) (i j) : val_main_v10 (F := Ideal) p2 (ix3 o i j) = ∑ k : Fin 8, p2 (ix3 k i j) := by
  pointwise [val_main_v10, val_main_v5, val_main_v4, val_main_cst_1]

theorem layer3 (o : Fin 1) (i j) : val_main_v11 (F := Ideal) p3 (ix3 o i j) = ∑ k : Fin 8, p3 (ix3 k i j) := by
  pointwise [val_main_v11, val_main_v7, val_main_v6, val_main_cst_2]

/-- The stack of the layers. -/
theorem stack (l i j) : val_main_v12 (F := Ideal) p0 p1 p2 p3 (ix3 l i j) = grad p0 p1 p2 p3 l i j := by
  unfold val_main_v12
  concat_tiles x h
  · rw [show l = 0 from Fin.ext h, eq_ix3 x, show x 1 = i from Fin.ext h1, show x 2 = j from Fin.ext h2]; exact layer0 p0 _ i j
  · rw [show l = 1 from Fin.ext h, eq_ix3 x, show x 1 = i from Fin.ext h1, show x 2 = j from Fin.ext h2]; exact layer1 p1 _ i j
  · rw [show l = 2 from Fin.ext h, eq_ix3 x, show x 1 = i from Fin.ext h1, show x 2 = j from Fin.ext h2]; exact layer2 p2 _ i j
  · rw [show l = 3 from Fin.ext h, eq_ix3 x, show x 1 = i from Fin.ext h1, show x 2 = j from Fin.ext h2]; exact layer3 p3 _ i j

theorem ref_g (l i j) : val_main_v12 (F := Ideal) p0 p1 p2 p3 (ix3 l i j) = grad p0 p1 p2 p3 l i j := stack p0 p1 p2 p3 l i j

theorem ref_m (l i j) : val_main_v17 (F := Ideal) p0 p1 p2 p3 mo (ix3 l i j) = newM (grad p0 p1 p2 p3 l i j) (mo (ix3 l i j)) :=
  (show _ = newM (val_main_v12 (F := Ideal) p0 p1 p2 p3 (ix3 l i j)) (mo (ix3 l i j)) from rfl).trans (by rw [stack])

theorem ref_v (l i j) : val_main_v23 (F := Ideal) p0 p1 p2 p3 ve (ix3 l i j) = newV (grad p0 p1 p2 p3 l i j) (ve (ix3 l i j)) :=
  (show _ = newV (val_main_v12 (F := Ideal) p0 p1 p2 p3 (ix3 l i j)) (ve (ix3 l i j)) from rfl).trans (by rw [stack])

theorem ref_d (l i j) : val_main_v36 (F := Ideal) p0 p1 p2 p3 w mo ve (ix3 l i j)
    = delta (w (ix3 l i j)) (grad p0 p1 p2 p3 l i j) (mo (ix3 l i j)) (ve (ix3 l i j)) :=
  (show _ = delta (w (ix3 l i j)) (val_main_v12 (F := Ideal) p0 p1 p2 p3 (ix3 l i j)) (mo (ix3 l i j)) (ve (ix3 l i j)) from rfl).trans
    (by rw [stack])

end Reference

section Payload
open Cert.WoutStepIdeal Cert.WoutStepIdeal.Gen

/-- A load of one device's part. -/
theorem load8 (x : Vec Ideal S8x128x1024 .bf16) (k : Fin 8) (inb) (i : Fin 128) (j : Fin 1024) :
    View.ld x (Rect.unit ![k.val, 0, 0] ![1, 128, 1024] inb) (ix3 0 i j) = x (ix3 k i j) := by
  refine View.ld_unit_apply_of _ _ _ _ _ _ fun a => ?_
  fin_cases a <;> simp [ix3]

variable (w mo ve : Vec Ideal S1x128x1024 .f32)

/-- Eight parts, summed in the body. -/
theorem sum8' (a0 a1 a2 a3 a4 a5 a6 a7 : Vec Ideal S1x128x1024 .bf16) (i j) : k0_pay9 a0 a1 a2 a3 a4 a5 a6 a7 (ix2 i j)
    = (a0 (ix3 0 i j) : EReal) + (a1 (ix3 0 i j) : EReal) + (a2 (ix3 0 i j) : EReal) + (a3 (ix3 0 i j) : EReal) + (a4 (ix3 0 i j) : EReal) + (a5 (ix3 0 i j) : EReal) + (a6 (ix3 0 i j) : EReal) + (a7 (ix3 0 i j) : EReal) := by
  pointwise [k0_pay9]

/-! What each block of results holds, read from the sum of eight parts. -/

section Eight
variable (s : Vec Ideal S128x1024 .f32)

theorem out_g8 (o : Fin 1) (i j) : k0_pay10 (F := Ideal) s (ix3 o i j) = s (ix2 i j) := by
  pointwise [k0_pay10]

theorem cell_m8 (i j) : k0_pay11 s mo (ix2 i j) = newM (s (ix2 i j)) (mo (ix3 0 i j)) := by
  pointwise [k0_pay11]; rfl

theorem cell_v8 (i j) : k0_pay12 s ve (ix2 i j) = newV (s (ix2 i j)) (ve (ix3 0 i j)) := by
  pointwise [k0_pay12]; rfl

theorem out_m8 (o : Fin 1) (i j) : k0_pay1 (k0_pay11 s mo) (ix3 o i j) = newM (s (ix2 i j)) (mo (ix3 0 i j)) := by
  refine Eq.trans ?_ (cell_m8 mo s i j)
  pointwise [k0_pay1]

theorem out_v8 (o : Fin 1) (i j) : k0_pay2 (k0_pay12 s ve) (ix3 o i j) = newV (s (ix2 i j)) (ve (ix3 0 i j)) := by
  refine Eq.trans ?_ (cell_v8 ve s i j)
  pointwise [k0_pay2]

theorem out_d8 (o : Fin 1) (i j) : k0_pay13 s w mo ve (ix3 o i j)
    = delta (w (ix3 0 i j)) (s (ix2 i j)) (mo (ix3 0 i j)) (ve (ix3 0 i j)) := by
  unfold delta; rw [← cell_m8 mo s i j, ← cell_v8 ve s i j]
  pointwise [k0_pay13]

end Eight

end Payload

section Kernel
open Cert.WoutStepIdeal Cert.WoutStepIdeal.Gen

variable (m : (ℓ : Loc nD τ sig) → Buf (Elt Ideal) ℓ) (c : Dev nD)

/-! The arguments: the four layers' parts, the weight and its moments. -/
abbrev aP0 : Arr S8x128x1024 := m ((c.tc : Thread nD τ).loc main_arg0)
abbrev aP1 : Arr S8x128x1024 := m ((c.tc : Thread nD τ).loc main_arg1)
abbrev aP2 : Arr S8x128x1024 := m ((c.tc : Thread nD τ).loc main_arg2)
abbrev aP3 : Arr S8x128x1024 := m ((c.tc : Thread nD τ).loc main_arg3)
abbrev aW : Arr S4x128x1024 := m ((c.tc : Thread nD τ).loc main_arg4)
abbrev aM : Arr S4x128x1024 := m ((c.tc : Thread nD τ).loc main_arg5)
abbrev aV : Arr S4x128x1024 := m ((c.tc : Thread nD τ).loc main_arg6)

/-- Which block of its array each window holds at grid point `t`; a layer's parts only at that layer's points. -/
theorem idx : ∀ t : Fin cfg0.N, (t.val / 1 = 0 → win0_0.index t = ![0, t.val % 1, 0]) ∧ (t.val / 1 = 1 → win0_1.index t = ![0, t.val % 1, 0]) ∧ (t.val / 1 = 2 → win0_2.index t = ![0, t.val % 1, 0]) ∧ (t.val / 1 = 3 → win0_3.index t = ![0, t.val % 1, 0])
    ∧ win0_4.index t = ![t.val / 1, t.val % 1, 0] ∧ win0_5.index t = ![t.val / 1, t.val % 1, 0] ∧ win0_6.index t = ![t.val / 1, t.val % 1, 0]
    ∧ win0_7.index t = ![t.val / 1, t.val % 1, 0] ∧ win0_8.index t = ![t.val / 1, t.val % 1, 0] ∧ win0_9.index t = ![t.val / 1, t.val % 1, 0] ∧ win0_10.index t = ![t.val / 1, t.val % 1, 0] :=
  (by decide +kernel : ∀ t : Fin grid0.N, _)

/-- The layer of a grid point, and the row of the whole array that row `r` of its block is. -/
abbrev lay (t : Fin cfg0.N) : Fin 4 := ⟨t.val / 1, by have h : t.val < 4 := t.isLt; omega⟩
abbrev row (t : Fin cfg0.N) (r : Fin 128) : Fin 128 := ⟨t.val % 1 * 128 + r.val, by omega⟩

/-- The gradient at an entry of a grid point's block. -/
abbrev gradAt (t : Fin cfg0.N) (i : Fin 128) (j : Fin 1024) : EReal :=
  grad (aP0 m c) (aP1 m c) (aP2 m c) (aP3 m c) (lay t) (row t i) j

theorem blk0 (t : Fin cfg0.N) (h : t.val / 1 = 0) (k : Fin 8) (i : Fin 128) (j : Fin 1024) :
    iblk m c 0 t (ix3 k i j) = aP0 m c (ix3 k (row t i) j) := by
  have e := (idx t).1 h
  blk_ext [iblk, V, e]

theorem blk1 (t : Fin cfg0.N) (h : t.val / 1 = 1) (k : Fin 8) (i : Fin 128) (j : Fin 1024) :
    iblk m c 1 t (ix3 k i j) = aP1 m c (ix3 k (row t i) j) := by
  have e := (idx t).2.1 h
  blk_ext [iblk, V, e]

theorem blk2 (t : Fin cfg0.N) (h : t.val / 1 = 2) (k : Fin 8) (i : Fin 128) (j : Fin 1024) :
    iblk m c 2 t (ix3 k i j) = aP2 m c (ix3 k (row t i) j) := by
  have e := (idx t).2.2.1 h
  blk_ext [iblk, V, e]

theorem blk3 (t : Fin cfg0.N) (h : t.val / 1 = 3) (k : Fin 8) (i : Fin 128) (j : Fin 1024) :
    iblk m c 3 t (ix3 k i j) = aP3 m c (ix3 k (row t i) j) := by
  have e := (idx t).2.2.2.1 h
  blk_ext [iblk, V, e]

theorem blk_w (t : Fin cfg0.N) (o : Fin 1) (i : Fin 128) (j : Fin 1024) :
    iblk m c 4 t (ix3 o i j) = aW m c (ix3 (lay t) (row t i) j) := by
  have e := (idx t).2.2.2.2.1
  blk_ext [iblk, V, e]

theorem blk_m (t : Fin cfg0.N) (o : Fin 1) (i : Fin 128) (j : Fin 1024) :
    iblk m c 5 t (ix3 o i j) = aM m c (ix3 (lay t) (row t i) j) := by
  have e := (idx t).2.2.2.2.2.1
  blk_ext [iblk, V, e]

theorem blk_v (t : Fin cfg0.N) (o : Fin 1) (i : Fin 128) (j : Fin 1024) :
    iblk m c 6 t (ix3 o i j) = aV m c (ix3 (lay t) (row t i) j) := by
  have e := (idx t).2.2.2.2.2.2.1
  blk_ext [iblk, V, e]

theorem sum_layer0 (t : Fin cfg0.N) (h : t.val / 1 = 0) (i : Fin 128) (j : Fin 1024) :
    k0_pay9 (View.ld (iblk m c 0 t) (Rect.unit ![0, 0, 0] ![1, 128, 1024] inb_S8x128x1024_S1x128x1024_0_0_0)) (View.ld (iblk m c 0 t) (Rect.unit ![1, 0, 0] ![1, 128, 1024] inb_S8x128x1024_S1x128x1024_1_0_0)) (View.ld (iblk m c 0 t) (Rect.unit ![2, 0, 0] ![1, 128, 1024] inb_S8x128x1024_S1x128x1024_2_0_0)) (View.ld (iblk m c 0 t) (Rect.unit ![3, 0, 0] ![1, 128, 1024] inb_S8x128x1024_S1x128x1024_3_0_0)) (View.ld (iblk m c 0 t) (Rect.unit ![4, 0, 0] ![1, 128, 1024] inb_S8x128x1024_S1x128x1024_4_0_0)) (View.ld (iblk m c 0 t) (Rect.unit ![5, 0, 0] ![1, 128, 1024] inb_S8x128x1024_S1x128x1024_5_0_0)) (View.ld (iblk m c 0 t) (Rect.unit ![6, 0, 0] ![1, 128, 1024] inb_S8x128x1024_S1x128x1024_6_0_0)) (View.ld (iblk m c 0 t) (Rect.unit ![7, 0, 0] ![1, 128, 1024] inb_S8x128x1024_S1x128x1024_7_0_0)) (ix2 i j) = gradAt m c t i j := by
  refine (sum8' _ _ _ _ _ _ _ _ i j).trans ?_
  rw [show gradAt m c t i j = ∑ k : Fin 8, aP0 m c (ix3 k (row t i) j) from by
    show grad _ _ _ _ _ _ _ = _; rw [show lay t = 0 from Fin.ext h]; rfl]
  refine Eq.trans ?_ (Finset.sum_congr rfl fun k _ => blk0 m c t h k i j)
  refine Eq.trans ?_ (sum8 fun k => (iblk m c 0 t (ix3 k i j) : EReal))
  refine congrArg₂ (· + ·) (congrArg₂ (· + ·) (congrArg₂ (· + ·) (congrArg₂ (· + ·) (congrArg₂ (· + ·) (congrArg₂ (· + ·) (congrArg₂ (· + ·) (load8 (iblk m c 0 t) 0 _ i j) (load8 (iblk m c 0 t) 1 _ i j)) (load8 (iblk m c 0 t) 2 _ i j)) (load8 (iblk m c 0 t) 3 _ i j)) (load8 (iblk m c 0 t) 4 _ i j)) (load8 (iblk m c 0 t) 5 _ i j)) (load8 (iblk m c 0 t) 6 _ i j)) (load8 (iblk m c 0 t) 7 _ i j)

theorem sum_layer1 (t : Fin cfg0.N) (h : t.val / 1 = 1) (i : Fin 128) (j : Fin 1024) :
    k0_pay14 (View.ld (iblk m c 1 t) (Rect.unit ![0, 0, 0] ![1, 128, 1024] inb_S8x128x1024_S1x128x1024_0_0_0)) (View.ld (iblk m c 1 t) (Rect.unit ![1, 0, 0] ![1, 128, 1024] inb_S8x128x1024_S1x128x1024_1_0_0)) (View.ld (iblk m c 1 t) (Rect.unit ![2, 0, 0] ![1, 128, 1024] inb_S8x128x1024_S1x128x1024_2_0_0)) (View.ld (iblk m c 1 t) (Rect.unit ![3, 0, 0] ![1, 128, 1024] inb_S8x128x1024_S1x128x1024_3_0_0)) (View.ld (iblk m c 1 t) (Rect.unit ![4, 0, 0] ![1, 128, 1024] inb_S8x128x1024_S1x128x1024_4_0_0)) (View.ld (iblk m c 1 t) (Rect.unit ![5, 0, 0] ![1, 128, 1024] inb_S8x128x1024_S1x128x1024_5_0_0)) (View.ld (iblk m c 1 t) (Rect.unit ![6, 0, 0] ![1, 128, 1024] inb_S8x128x1024_S1x128x1024_6_0_0)) (View.ld (iblk m c 1 t) (Rect.unit ![7, 0, 0] ![1, 128, 1024] inb_S8x128x1024_S1x128x1024_7_0_0)) (ix2 i j) = gradAt m c t i j := by
  refine (sum8' _ _ _ _ _ _ _ _ i j).trans ?_
  rw [show gradAt m c t i j = ∑ k : Fin 8, aP1 m c (ix3 k (row t i) j) from by
    show grad _ _ _ _ _ _ _ = _; rw [show lay t = 1 from Fin.ext h]; rfl]
  refine Eq.trans ?_ (Finset.sum_congr rfl fun k _ => blk1 m c t h k i j)
  refine Eq.trans ?_ (sum8 fun k => (iblk m c 1 t (ix3 k i j) : EReal))
  refine congrArg₂ (· + ·) (congrArg₂ (· + ·) (congrArg₂ (· + ·) (congrArg₂ (· + ·) (congrArg₂ (· + ·) (congrArg₂ (· + ·) (congrArg₂ (· + ·) (load8 (iblk m c 1 t) 0 _ i j) (load8 (iblk m c 1 t) 1 _ i j)) (load8 (iblk m c 1 t) 2 _ i j)) (load8 (iblk m c 1 t) 3 _ i j)) (load8 (iblk m c 1 t) 4 _ i j)) (load8 (iblk m c 1 t) 5 _ i j)) (load8 (iblk m c 1 t) 6 _ i j)) (load8 (iblk m c 1 t) 7 _ i j)

theorem sum_layer2 (t : Fin cfg0.N) (h : t.val / 1 = 2) (i : Fin 128) (j : Fin 1024) :
    k0_pay19 (View.ld (iblk m c 2 t) (Rect.unit ![0, 0, 0] ![1, 128, 1024] inb_S8x128x1024_S1x128x1024_0_0_0)) (View.ld (iblk m c 2 t) (Rect.unit ![1, 0, 0] ![1, 128, 1024] inb_S8x128x1024_S1x128x1024_1_0_0)) (View.ld (iblk m c 2 t) (Rect.unit ![2, 0, 0] ![1, 128, 1024] inb_S8x128x1024_S1x128x1024_2_0_0)) (View.ld (iblk m c 2 t) (Rect.unit ![3, 0, 0] ![1, 128, 1024] inb_S8x128x1024_S1x128x1024_3_0_0)) (View.ld (iblk m c 2 t) (Rect.unit ![4, 0, 0] ![1, 128, 1024] inb_S8x128x1024_S1x128x1024_4_0_0)) (View.ld (iblk m c 2 t) (Rect.unit ![5, 0, 0] ![1, 128, 1024] inb_S8x128x1024_S1x128x1024_5_0_0)) (View.ld (iblk m c 2 t) (Rect.unit ![6, 0, 0] ![1, 128, 1024] inb_S8x128x1024_S1x128x1024_6_0_0)) (View.ld (iblk m c 2 t) (Rect.unit ![7, 0, 0] ![1, 128, 1024] inb_S8x128x1024_S1x128x1024_7_0_0)) (ix2 i j) = gradAt m c t i j := by
  refine (sum8' _ _ _ _ _ _ _ _ i j).trans ?_
  rw [show gradAt m c t i j = ∑ k : Fin 8, aP2 m c (ix3 k (row t i) j) from by
    show grad _ _ _ _ _ _ _ = _; rw [show lay t = 2 from Fin.ext h]; rfl]
  refine Eq.trans ?_ (Finset.sum_congr rfl fun k _ => blk2 m c t h k i j)
  refine Eq.trans ?_ (sum8 fun k => (iblk m c 2 t (ix3 k i j) : EReal))
  refine congrArg₂ (· + ·) (congrArg₂ (· + ·) (congrArg₂ (· + ·) (congrArg₂ (· + ·) (congrArg₂ (· + ·) (congrArg₂ (· + ·) (congrArg₂ (· + ·) (load8 (iblk m c 2 t) 0 _ i j) (load8 (iblk m c 2 t) 1 _ i j)) (load8 (iblk m c 2 t) 2 _ i j)) (load8 (iblk m c 2 t) 3 _ i j)) (load8 (iblk m c 2 t) 4 _ i j)) (load8 (iblk m c 2 t) 5 _ i j)) (load8 (iblk m c 2 t) 6 _ i j)) (load8 (iblk m c 2 t) 7 _ i j)

theorem sum_layer3 (t : Fin cfg0.N) (h : t.val / 1 = 3) (i : Fin 128) (j : Fin 1024) :
    k0_pay24 (View.ld (iblk m c 3 t) (Rect.unit ![0, 0, 0] ![1, 128, 1024] inb_S8x128x1024_S1x128x1024_0_0_0)) (View.ld (iblk m c 3 t) (Rect.unit ![1, 0, 0] ![1, 128, 1024] inb_S8x128x1024_S1x128x1024_1_0_0)) (View.ld (iblk m c 3 t) (Rect.unit ![2, 0, 0] ![1, 128, 1024] inb_S8x128x1024_S1x128x1024_2_0_0)) (View.ld (iblk m c 3 t) (Rect.unit ![3, 0, 0] ![1, 128, 1024] inb_S8x128x1024_S1x128x1024_3_0_0)) (View.ld (iblk m c 3 t) (Rect.unit ![4, 0, 0] ![1, 128, 1024] inb_S8x128x1024_S1x128x1024_4_0_0)) (View.ld (iblk m c 3 t) (Rect.unit ![5, 0, 0] ![1, 128, 1024] inb_S8x128x1024_S1x128x1024_5_0_0)) (View.ld (iblk m c 3 t) (Rect.unit ![6, 0, 0] ![1, 128, 1024] inb_S8x128x1024_S1x128x1024_6_0_0)) (View.ld (iblk m c 3 t) (Rect.unit ![7, 0, 0] ![1, 128, 1024] inb_S8x128x1024_S1x128x1024_7_0_0)) (ix2 i j) = gradAt m c t i j := by
  refine (sum8' _ _ _ _ _ _ _ _ i j).trans ?_
  rw [show gradAt m c t i j = ∑ k : Fin 8, aP3 m c (ix3 k (row t i) j) from by
    show grad _ _ _ _ _ _ _ = _; rw [show lay t = 3 from Fin.ext h]; rfl]
  refine Eq.trans ?_ (Finset.sum_congr rfl fun k _ => blk3 m c t h k i j)
  refine Eq.trans ?_ (sum8 fun k => (iblk m c 3 t (ix3 k i j) : EReal))
  refine congrArg₂ (· + ·) (congrArg₂ (· + ·) (congrArg₂ (· + ·) (congrArg₂ (· + ·) (congrArg₂ (· + ·) (congrArg₂ (· + ·) (congrArg₂ (· + ·) (load8 (iblk m c 3 t) 0 _ i j) (load8 (iblk m c 3 t) 1 _ i j)) (load8 (iblk m c 3 t) 2 _ i j)) (load8 (iblk m c 3 t) 3 _ i j)) (load8 (iblk m c 3 t) 4 _ i j)) (load8 (iblk m c 3 t) 5 _ i j)) (load8 (iblk m c 3 t) 6 _ i j)) (load8 (iblk m c 3 t) 7 _ i j)

/-- A grid point is of one of the four layers. -/
theorem which (t : Fin cfg0.N) : (t.val / 1 = 0 ∧ t.val % 4 = 0 ∧ ¬t.val % 4 = 1 ∧ ¬t.val % 4 = 2 ∧ ¬t.val % 4 = 3)
    ∨ (t.val / 1 = 1 ∧ ¬t.val % 4 = 0 ∧ t.val % 4 = 1 ∧ ¬t.val % 4 = 2 ∧ ¬t.val % 4 = 3)
    ∨ (t.val / 1 = 2 ∧ ¬t.val % 4 = 0 ∧ ¬t.val % 4 = 1 ∧ t.val % 4 = 2 ∧ ¬t.val % 4 = 3)
    ∨ (t.val / 1 = 3 ∧ ¬t.val % 4 = 0 ∧ ¬t.val % 4 = 1 ∧ ¬t.val % 4 = 2 ∧ t.val % 4 = 3) := by
  have h : t.val < 4 := t.isLt
  omega

/-- Each grid point writes its tile of the gradient. -/
theorem outs_g (t : Fin cfg0.N) (y : S1x128x1024.Idx) : (outsAt0 m c t.val t.isLt).1 y = gradAt m c t (y 1) (y 2) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_g8 _ _ _ _).trans (sum_layer0 m c t h _ _)
  · rw [outsAt0_B m c t h0 h1 h2 h3]; dsimp only; frame_out; rw [eq_ix3 y]
    exact (out_g8 _ _ _ _).trans (sum_layer1 m c t h _ _)
  · rw [outsAt0_C m c t h0 h1 h2 h3]; dsimp only; frame_out; rw [eq_ix3 y]
    exact (out_g8 _ _ _ _).trans (sum_layer2 m c t h _ _)
  · rw [outsAt0_D m c t h0 h1 h2 h3]; dsimp only; frame_out; rw [eq_ix3 y]
    exact (out_g8 _ _ _ _).trans (sum_layer3 m c t h _ _)

/-- Its tile of the change of the weight. -/
theorem outs_d (t : Fin cfg0.N) (y : S1x128x1024.Idx) : (outsAt0 m c t.val t.isLt).2.1 y = delta (aW m c (ix3 (lay t) (row t (y 1)) (y 2))) (gradAt m c t (y 1) (y 2)) (aM m c (ix3 (lay t) (row t (y 1)) (y 2))) (aV m c (ix3 (lay t) (row t (y 1)) (y 2))) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_d8 _ _ _ _ _ _ _).trans (delta_congr (blk_w m c t _ _ _) (sum_layer0 m c t h _ _) (blk_m m c t _ _ _) (blk_v m c t _ _ _))
  · rw [outsAt0_B m c t h0 h1 h2 h3]; dsimp only; frame_out; rw [eq_ix3 y]
    exact (out_d8 _ _ _ _ _ _ _).trans (delta_congr (blk_w m c t _ _ _) (sum_layer1 m c t h _ _) (blk_m m c t _ _ _) (blk_v m c t _ _ _))
  · rw [outsAt0_C m c t h0 h1 h2 h3]; dsimp only; frame_out; rw [eq_ix3 y]
    exact (out_d8 _ _ _ _ _ _ _).trans (delta_congr (blk_w m c t _ _ _) (sum_layer2 m c t h _ _) (blk_m m c t _ _ _) (blk_v m c t _ _ _))
  · rw [outsAt0_D m c t h0 h1 h2 h3]; dsimp only; frame_out; rw [eq_ix3 y]
    exact (out_d8 _ _ _ _ _ _ _).trans (delta_congr (blk_w m c t _ _ _) (sum_layer3 m c t h _ _) (blk_m m c t _ _ _) (blk_v m c t _ _ _))

/-- Its tile of the first moment. -/
theorem outs_m (t : Fin cfg0.N) (y : S1x128x1024.Idx) : (outsAt0 m c t.val t.isLt).2.2.1 y = newM (gradAt m c t (y 1) (y 2)) (aM m c (ix3 (lay t) (row t (y 1)) (y 2))) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_m8 _ _ _ _ _).trans (congrArg₂ newM (sum_layer0 m c t h _ _) (blk_m m c t _ _ _))
  · rw [outsAt0_B m c t h0 h1 h2 h3]; dsimp only; frame_out; rw [eq_ix3 y]
    exact (out_m8 _ _ _ _ _).trans (congrArg₂ newM (sum_layer1 m c t h _ _) (blk_m m c t _ _ _))
  · rw [outsAt0_C m c t h0 h1 h2 h3]; dsimp only; frame_out; rw [eq_ix3 y]
    exact (out_m8 _ _ _ _ _).trans (congrArg₂ newM (sum_layer2 m c t h _ _) (blk_m m c t _ _ _))
  · rw [outsAt0_D m c t h0 h1 h2 h3]; dsimp only; frame_out; rw [eq_ix3 y]
    exact (out_m8 _ _ _ _ _).trans (congrArg₂ newM (sum_layer3 m c t h _ _) (blk_m m c t _ _ _))

/-- Its tile of the second moment. -/
theorem outs_v (t : Fin cfg0.N) (y : S1x128x1024.Idx) : (outsAt0 m c t.val t.isLt).2.2.2 y = newV (gradAt m c t (y 1) (y 2)) (aV m c (ix3 (lay t) (row t (y 1)) (y 2))) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_v8 _ _ _ _ _).trans (congrArg₂ newV (sum_layer0 m c t h _ _) (blk_v m c t _ _ _))
  · rw [outsAt0_B m c t h0 h1 h2 h3]; dsimp only; frame_out; rw [eq_ix3 y]
    exact (out_v8 _ _ _ _ _).trans (congrArg₂ newV (sum_layer1 m c t h _ _) (blk_v m c t _ _ _))
  · rw [outsAt0_C m c t h0 h1 h2 h3]; dsimp only; frame_out; rw [eq_ix3 y]
    exact (out_v8 _ _ _ _ _).trans (congrArg₂ newV (sum_layer2 m c t h _ _) (blk_v m c t _ _ _))
  · rw [outsAt0_D m c t h0 h1 h2 h3]; dsimp only; frame_out; rw [eq_ix3 y]
    exact (out_v8 _ _ _ _ _).trans (congrArg₂ newV (sum_layer3 m c t h _ _) (blk_v m c t _ _ _))

/-! The four results as arrays. -/
def gArr : Arr S4x128x1024 := fun i => grad (aP0 m c) (aP1 m c) (aP2 m c) (aP3 m c) (i 0) (i 1) (i 2)
def dArr : Arr S4x128x1024 := fun i => delta (aW m c (ix3 (i 0) (i 1) (i 2))) (grad (aP0 m c) (aP1 m c) (aP2 m c) (aP3 m c) (i 0) (i 1) (i 2)) (aM m c (ix3 (i 0) (i 1) (i 2))) (aV m c (ix3 (i 0) (i 1) (i 2)))
def mArr : Arr S4x128x1024 := fun i => newM (grad (aP0 m c) (aP1 m c) (aP2 m c) (aP3 m c) (i 0) (i 1) (i 2)) (aM m c (ix3 (i 0) (i 1) (i 2)))
def vArr : Arr S4x128x1024 := fun i => newV (grad (aP0 m c) (aP1 m c) (aP2 m c) (aP3 m c) (i 0) (i 1) (i 2)) (aV m c (ix3 (i 0) (i 1) (i 2)))

attribute [local irreducible] grad delta newM newV

theorem final_g : (dats m 0 c).arrAt 7 cfg0.N = gArr m c := by
  refine (dats m 0 c).arrAt_eq_of_covers 7 _ (by decide +kernel) fun t hf y => ?_
  blk_simp; rw [after0_7]; rw [outs_g]
  have e := (idx t).2.2.2.2.2.2.2.1
  have h : ((cfg0.win 7).blk t).view.emb y = (ix3 (lay t) (row t (y 1)) (y 2) : S4x128x1024.Idx) := by blk_ext [e]
  exact congrArg (gArr m c) h.symm

theorem final_d : (dats m 0 c).arrAt 8 cfg0.N = dArr m c := by
  refine (dats m 0 c).arrAt_eq_of_covers 8 _ (by decide +kernel) fun t hf y => ?_
  blk_simp; rw [after0_8]; rw [outs_d]
  have e := (idx t).2.2.2.2.2.2.2.2.1
  have h : ((cfg0.win 8).blk t).view.emb y = (ix3 (lay t) (row t (y 1)) (y 2) : S4x128x1024.Idx) := by blk_ext [e]
  exact congrArg (dArr m c) h.symm

theorem final_m : (dats m 0 c).arrAt 9 cfg0.N = mArr m c := by
  refine (dats m 0 c).arrAt_eq_of_covers 9 _ (by decide +kernel) fun t hf y => ?_
  blk_simp; rw [after0_9]; rw [outs_m]
  have e := (idx t).2.2.2.2.2.2.2.2.2.1
  have h : ((cfg0.win 9).blk t).view.emb y = (ix3 (lay t) (row t (y 1)) (y 2) : S4x128x1024.Idx) := by blk_ext [e]
  exact congrArg (mArr m c) h.symm

theorem final_v : (dats m 0 c).arrAt 10 cfg0.N = vArr m c := by
  refine (dats m 0 c).arrAt_eq_of_covers 10 _ (by decide +kernel) fun t hf y => ?_
  blk_simp; rw [after0_10]; rw [outs_v]
  have e := (idx t).2.2.2.2.2.2.2.2.2.2
  have h : ((cfg0.win 10).blk t).view.emb y = (ix3 (lay t) (row t (y 1)) (y 2) : S4x128x1024.Idx) := by blk_ext [e]
  exact congrArg (vArr m c) h.symm

end Kernel

section Claim
open Cert.WoutIdeal Cert.WoutIdeal.Gen Cert.WoutIdeal.Read
attribute [local instance] Cert.WoutStepIdeal.Gen.facts Cert.WoutIdeal.Gen.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run _ _ _).mono (fun r h => ⟨fun c => (h c).2.2.2.2, sem_eq_zero_of_no_sems (by decide) r.2⟩)
    (Cert.WoutIdeal.Value.run m g)

/-- The kernel's results are the reference's. -/
theorem algebraic : Cert.algebraic_WoutStepIdeal_WoutIdeal := by
  intro m g m' g' pre agree
  refine ⟨fun c => gArr m c, fun c => dArr m c, fun c => mArr m c, fun c => vArr m c, ?_, ?_⟩
  · refine (θ_run _ _ _).mono (fun r h c => ?_) (Cert.WoutStepIdeal.Value.run_blocks m g)
    obtain ⟨h0, h1, h2, h3, h⟩ := h c
    exact ⟨h0.trans (final_g m c), h1.trans (final_d m c), h2.trans (final_m m c), h3.trans (final_v m c), h⟩
  · refine (θ_run _ _ _).mono (fun r h c => ?_) (Cert.WoutIdeal.Value.run m' g')
    obtain ⟨h0, h1, h2, h3, h⟩ := h c
    obtain ⟨e0, e1, e2, e3, e4, e5, e6⟩ := agree c
    refine ⟨(h0.trans (val_main_v12_eq _ _ _ _)).trans ?_, (h1.trans (val_main_v36_eq _ _)).trans ?_,
      (h2.trans (val_main_v17_eq _ _ _ _ _)).trans ?_, (h3.trans (val_main_v23_eq _ _ _ _ _)).trans ?_, h⟩
    · funext i; rw [e0, e1, e2, e3, eq_ix3 i]; exact ref_g _ _ _ _ (i 0) (i 1) (i 2)
    · funext i; rw [e0, e1, e2, e3, e4, e5, e6, eq_ix3 i]; exact ref_d _ _ _ _ _ _ _ (i 0) (i 1) (i 2)
    · funext i; rw [e0, e1, e2, e3, e5, eq_ix3 i]; exact ref_m _ _ _ _ _ (i 0) (i 1) (i 2)
    · funext i; rw [e0, e1, e2, e3, e6, eq_ix3 i]; exact ref_v _ _ _ _ _ (i 0) (i 1) (i 2)

end Claim

end Cert.WoutStepClaim

end
-- ==== Proof.WinStepClaim.lean ====
/- The optimiser's step of the weight of the input projection, of one device. At every layer the kernel sums the devices' parts of
   the gradient one after the other and reads from the sum the change of the weight and the two moments, tile by tile.
   The reference sums each layer's parts at once. No entry needs to be finite. -/
module

public import proofs.«01_k».proof.Defs
public import proofs.«01_k».proof.Proof.Adamw
public import proofs.«01_k».proof.Proof.Gen.WinStepIdeal.Value
public import proofs.«01_k».proof.Proof.Gen.WinIdeal.Run
public import proofs.«01_k».proof.Proof.Gen.WinIdeal.Read
public import Idealize.ShloMosaic.Lib.Pipeline.ValueKit

@[expose] public section

set_option maxRecDepth 16384
set_option maxHeartbeats 1600000

noncomputable section

open Idealize.ShloMosaic Idealize.ShloMosaic.TcCoe Idealize.SL.Sem
open Idealize.ShloMosaic.Pipeline (Dat)

namespace Cert.WinStepClaim
open Cert.Adamw

abbrev Arr (s : Shape) := BufTy.Contents (Elt Ideal) ⟨s, .f32⟩

section Reference
open Cert.WinIdeal Cert.WinIdeal.Read
variable (p0 : Arr S4x1024x384) (p1 : Arr S8x1024x384) (p2 : Arr S8x1024x384) (p3 : Arr S8x1024x384) (w mo ve : Arr S4x1024x384)

/-- The gradient at a layer's entry: the sum of the devices' parts of it. -/
def grad (l : Fin 4) (i : Fin 1024) (j : Fin 384) : EReal := match l with
  | 0 => ∑ k : Fin 4, p0 (ix3 k i j)
  | 1 => ∑ k : Fin 8, p1 (ix3 k i j)
  | 2 => ∑ k : Fin 8, p2 (ix3 k i j)
  | 3 => ∑ k : Fin 8, p3 (ix3 k i j)

/-! One layer of it, as the reference stacks them. -/

theorem layer0 (o : Fin 1) (i j) : val_main_v8 (F := Ideal) p0 (ix3 o i j) = ∑ k : Fin 4, p0 (ix3 k i j) := by
  pointwise [val_main_v8, val_main_v1, val_main_v0, val_main_cst]

theorem layer1 (o : Fin 1) (i j) : val_main_v9 (F := Ideal) p1 (ix3 o i j) = ∑ k : Fin 8, p1 (ix3 k i j) := by
  pointwise [val_main_v9, val_main_v3, val_main_v2, val_main_cst_0]

theorem layer2 (o : Fin 1) (i j) : val_main_v10 (F := Ideal) p2 (ix3 o i j) = ∑ k : Fin 8, p2 (ix3 k i j) := by
  pointwise [val_main_v10, val_main_v5, val_main_v4, val_main_cst_1]

theorem layer3 (o : Fin 1) (i j) : val_main_v11 (F := Ideal) p3 (ix3 o i j) = ∑ k : Fin 8, p3 (ix3 k i j) := by
  pointwise [val_main_v11, val_main_v7, val_main_v6, val_main_cst_2]

/-- The stack of the layers. -/
theorem stack (l i j) : val_main_v12 (F := Ideal) p0 p1 p2 p3 (ix3 l i j) = grad p0 p1 p2 p3 l i j := by
  unfold val_main_v12
  concat_tiles x h
  · rw [show l = 0 from Fin.ext h, eq_ix3 x, show x 1 = i from Fin.ext h1, show x 2 = j from Fin.ext h2]; exact layer0 p0 _ i j
  · rw [show l = 1 from Fin.ext h, eq_ix3 x, show x 1 = i from Fin.ext h1, show x 2 = j from Fin.ext h2]; exact layer1 p1 _ i j
  · rw [show l = 2 from Fin.ext h, eq_ix3 x, show x 1 = i from Fin.ext h1, show x 2 = j from Fin.ext h2]; exact layer2 p2 _ i j
  · rw [show l = 3 from Fin.ext h, eq_ix3 x, show x 1 = i from Fin.ext h1, show x 2 = j from Fin.ext h2]; exact layer3 p3 _ i j

theorem ref_g (l i j) : val_main_v12 (F := Ideal) p0 p1 p2 p3 (ix3 l i j) = grad p0 p1 p2 p3 l i j := stack p0 p1 p2 p3 l i j

theorem ref_m (l i j) : val_main_v17 (F := Ideal) p0 p1 p2 p3 mo (ix3 l i j) = newM (grad p0 p1 p2 p3 l i j) (mo (ix3 l i j)) :=
  (show _ = newM (val_main_v12 (F := Ideal) p0 p1 p2 p3 (ix3 l i j)) (mo (ix3 l i j)) from rfl).trans (by rw [stack])

theorem ref_v (l i j) : val_main_v23 (F := Ideal) p0 p1 p2 p3 ve (ix3 l i j) = newV (grad p0 p1 p2 p3 l i j) (ve (ix3 l i j)) :=
  (show _ = newV (val_main_v12 (F := Ideal) p0 p1 p2 p3 (ix3 l i j)) (ve (ix3 l i j)) from rfl).trans (by rw [stack])

theorem ref_d (l i j) : val_main_v36 (F := Ideal) p0 p1 p2 p3 w mo ve (ix3 l i j)
    = delta (w (ix3 l i j)) (grad p0 p1 p2 p3 l i j) (mo (ix3 l i j)) (ve (ix3 l i j)) :=
  (show _ = delta (w (ix3 l i j)) (val_main_v12 (F := Ideal) p0 p1 p2 p3 (ix3 l i j)) (mo (ix3 l i j)) (ve (ix3 l i j)) from rfl).trans
    (by rw [stack])

end Reference

section Payload
open Cert.WinStepIdeal Cert.WinStepIdeal.Gen

/-- A load of one device's part. -/
theorem load4 (x : Vec Ideal S4x512x384 .bf16) (k : Fin 4) (inb) (i : Fin 512) (j : Fin 384) :
    View.ld x (Rect.unit ![k.val, 0, 0] ![1, 512, 384] inb) (ix3 0 i j) = x (ix3 k i j) := by
  refine View.ld_unit_apply_of _ _ _ _ _ _ fun a => ?_
  fin_cases a <;> simp [ix3]

/-- A load of one device's part. -/
theorem load8 (x : Vec Ideal S8x512x384 .bf16) (k : Fin 8) (inb) (i : Fin 512) (j : Fin 384) :
    View.ld x (Rect.unit ![k.val, 0, 0] ![1, 512, 384] inb) (ix3 0 i j) = x (ix3 k i j) := by
  refine View.ld_unit_apply_of _ _ _ _ _ _ fun a => ?_
  fin_cases a <;> simp [ix3]

variable (w mo ve : Vec Ideal S1x512x384 .f32)

/-- Four parts, summed in the body. -/
theorem sum4' (a0 a1 a2 a3 : Vec Ideal S1x512x384 .bf16) (i j) : k0_pay11 a0 a1 a2 a3 (ix2 i j)
    = (a0 (ix3 0 i j) : EReal) + (a1 (ix3 0 i j) : EReal) + (a2 (ix3 0 i j) : EReal) + (a3 (ix3 0 i j) : EReal) := by
  pointwise [k0_pay11]

/-- Eight parts, summed in the body. -/
theorem sum8' (a0 a1 a2 a3 a4 a5 a6 a7 : Vec Ideal S1x512x384 .bf16) (i j) : k0_pay17 a0 a1 a2 a3 a4 a5 a6 a7 (ix2 i j)
    = (a0 (ix3 0 i j) : EReal) + (a1 (ix3 0 i j) : EReal) + (a2 (ix3 0 i j) : EReal) + (a3 (ix3 0 i j) : EReal) + (a4 (ix3 0 i j) : EReal) + (a5 (ix3 0 i j) : EReal) + (a6 (ix3 0 i j) : EReal) + (a7 (ix3 0 i j) : EReal) := by
  pointwise [k0_pay17]

/-! What each block of results holds, read from the sum of eight parts. -/

section Eight
variable (s : Vec Ideal S512x384 .f32)

theorem out_g8 (o : Fin 1) (i j) : k0_pay18 (F := Ideal) s (ix3 o i j) = s (ix2 i j) := by
  pointwise [k0_pay18]

theorem cell_m8 (i j) : k0_pay19 s mo (ix2 i j) = newM (s (ix2 i j)) (mo (ix3 0 i j)) := by
  pointwise [k0_pay19]; rfl

theorem cell_v8 (i j) : k0_pay20 s ve (ix2 i j) = newV (s (ix2 i j)) (ve (ix3 0 i j)) := by
  pointwise [k0_pay20]; rfl

theorem out_m8 (o : Fin 1) (i j) : k0_pay5 (k0_pay19 s mo) (ix3 o i j) = newM (s (ix2 i j)) (mo (ix3 0 i j)) := by
  refine Eq.trans ?_ (cell_m8 mo s i j)
  pointwise [k0_pay5]

theorem out_v8 (o : Fin 1) (i j) : k0_pay6 (k0_pay20 s ve) (ix3 o i j) = newV (s (ix2 i j)) (ve (ix3 0 i j)) := by
  refine Eq.trans ?_ (cell_v8 ve s i j)
  pointwise [k0_pay6]

theorem out_d8 (o : Fin 1) (i j) : k0_pay21 s w mo ve (ix3 o i j)
    = delta (w (ix3 0 i j)) (s (ix2 i j)) (mo (ix3 0 i j)) (ve (ix3 0 i j)) := by
  unfold delta; rw [← cell_m8 mo s i j, ← cell_v8 ve s i j]
  pointwise [k0_pay21]

end Eight

/-! What each block of results holds, read from the sum of four parts. -/

section Four
variable (a0 a1 a2 a3 : Vec Ideal S1x512x384 .bf16)

theorem out_g4 (o : Fin 1) (i j) : k0_pay12 a0 a1 a2 a3 (ix3 o i j) = k0_pay11 a0 a1 a2 a3 (ix2 i j) := by
  pointwise [k0_pay12]

theorem cell_m4 (i j) : k0_pay14 a0 a1 a2 a3 mo (ix2 i j) = newM (k0_pay11 a0 a1 a2 a3 (ix2 i j)) (mo (ix3 0 i j)) := by
  pointwise [k0_pay14]; rfl

theorem cell_v4 (i j) : k0_pay1 (k0_pay15 ve) (k0_pay16 a0 a1 a2 a3) (ix2 i j) = newV (k0_pay11 a0 a1 a2 a3 (ix2 i j)) (ve (ix3 0 i j)) := by
  pointwise [k0_pay1, k0_pay15, k0_pay16]; rfl

theorem out_m4 (o : Fin 1) (i j) : k0_pay3 (k0_pay14 a0 a1 a2 a3 mo) (ix3 o i j) = newM (k0_pay11 a0 a1 a2 a3 (ix2 i j)) (mo (ix3 0 i j)) := by
  refine Eq.trans ?_ (cell_m4 mo a0 a1 a2 a3 i j)
  pointwise [k0_pay3]

theorem out_v4 (o : Fin 1) (i j) : k0_pay4 (k0_pay15 ve) (k0_pay16 a0 a1 a2 a3) (ix3 o i j)
    = newV (k0_pay11 a0 a1 a2 a3 (ix2 i j)) (ve (ix3 0 i j)) := by
  refine Eq.trans ?_ (cell_v4 ve a0 a1 a2 a3 i j)
  pointwise [k0_pay4]

theorem out_d4 (o : Fin 1) (i j) : k0_pay2 (k0_pay13 w) (k0_pay14 a0 a1 a2 a3 mo) (k0_pay15 ve) (k0_pay16 a0 a1 a2 a3) (ix3 o i j)
    = delta (w (ix3 0 i j)) (k0_pay11 a0 a1 a2 a3 (ix2 i j)) (mo (ix3 0 i j)) (ve (ix3 0 i j)) := by
  unfold delta; rw [← cell_m4 mo a0 a1 a2 a3 i j, ← cell_v4 ve a0 a1 a2 a3 i j]
  pointwise [k0_pay2, k0_pay13]

end Four

end Payload

section Kernel
open Cert.WinStepIdeal Cert.WinStepIdeal.Gen

variable (m : (ℓ : Loc nD τ sig) → Buf (Elt Ideal) ℓ) (c : Dev nD)

/-! The arguments: the four layers' parts, the weight and its moments. -/
abbrev aP0 : Arr S4x1024x384 := m ((c.tc : Thread nD τ).loc main_arg0)
abbrev aP1 : Arr S8x1024x384 := m ((c.tc : Thread nD τ).loc main_arg1)
abbrev aP2 : Arr S8x1024x384 := m ((c.tc : Thread nD τ).loc main_arg2)
abbrev aP3 : Arr S8x1024x384 := m ((c.tc : Thread nD τ).loc main_arg3)
abbrev aW : Arr S4x1024x384 := m ((c.tc : Thread nD τ).loc main_arg4)
abbrev aM : Arr S4x1024x384 := m ((c.tc : Thread nD τ).loc main_arg5)
abbrev aV : Arr S4x1024x384 := m ((c.tc : Thread nD τ).loc main_arg6)

/-- Which block of its array each window holds at grid point `t`; a layer's parts only at that layer's points. -/
theorem idx : ∀ t : Fin cfg0.N, (t.val / 2 = 0 → win0_0.index t = ![0, t.val % 2, 0]) ∧ (t.val / 2 = 1 → win0_1.index t = ![0, t.val % 2, 0]) ∧ (t.val / 2 = 2 → win0_2.index t = ![0, t.val % 2, 0]) ∧ (t.val / 2 = 3 → win0_3.index t = ![0, t.val % 2, 0])
    ∧ win0_4.index t = ![t.val / 2, t.val % 2, 0] ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] ∧ win0_9.index t = ![t.val / 2, t.val % 2, 0] ∧ win0_10.index t = ![t.val / 2, t.val % 2, 0] :=
  (by decide +kernel : ∀ t : Fin grid0.N, _)

/-- The layer of a grid point, and the row of the whole array that row `r` of its block is. -/
abbrev lay (t : Fin cfg0.N) : Fin 4 := ⟨t.val / 2, by have h : t.val < 8 := t.isLt; omega⟩
abbrev row (t : Fin cfg0.N) (r : Fin 512) : Fin 1024 := ⟨t.val % 2 * 512 + r.val, by omega⟩

/-- The gradient at an entry of a grid point's block. -/
abbrev gradAt (t : Fin cfg0.N) (i : Fin 512) (j : Fin 384) : EReal :=
  grad (aP0 m c) (aP1 m c) (aP2 m c) (aP3 m c) (lay t) (row t i) j

theorem blk0 (t : Fin cfg0.N) (h : t.val / 2 = 0) (k : Fin 4) (i : Fin 512) (j : Fin 384) :
    iblk m c 0 t (ix3 k i j) = aP0 m c (ix3 k (row t i) j) := by
  have e := (idx t).1 h
  blk_ext [iblk, V, e]

theorem blk1 (t : Fin cfg0.N) (h : t.val / 2 = 1) (k : Fin 8) (i : Fin 512) (j : Fin 384) :
    iblk m c 1 t (ix3 k i j) = aP1 m c (ix3 k (row t i) j) := by
  have e := (idx t).2.1 h
  blk_ext [iblk, V, e]

theorem blk2 (t : Fin cfg0.N) (h : t.val / 2 = 2) (k : Fin 8) (i : Fin 512) (j : Fin 384) :
    iblk m c 2 t (ix3 k i j) = aP2 m c (ix3 k (row t i) j) := by
  have e := (idx t).2.2.1 h
  blk_ext [iblk, V, e]

theorem blk3 (t : Fin cfg0.N) (h : t.val / 2 = 3) (k : Fin 8) (i : Fin 512) (j : Fin 384) :
    iblk m c 3 t (ix3 k i j) = aP3 m c (ix3 k (row t i) j) := by
  have e := (idx t).2.2.2.1 h
  blk_ext [iblk, V, e]

theorem blk_w (t : Fin cfg0.N) (o : Fin 1) (i : Fin 512) (j : Fin 384) :
    iblk m c 4 t (ix3 o i j) = aW m c (ix3 (lay t) (row t i) j) := by
  have e := (idx t).2.2.2.2.1
  blk_ext [iblk, V, e]

theorem blk_m (t : Fin cfg0.N) (o : Fin 1) (i : Fin 512) (j : Fin 384) :
    iblk m c 5 t (ix3 o i j) = aM m c (ix3 (lay t) (row t i) j) := by
  have e := (idx t).2.2.2.2.2.1
  blk_ext [iblk, V, e]

theorem blk_v (t : Fin cfg0.N) (o : Fin 1) (i : Fin 512) (j : Fin 384) :
    iblk m c 6 t (ix3 o i j) = aV m c (ix3 (lay t) (row t i) j) := by
  have e := (idx t).2.2.2.2.2.2.1
  blk_ext [iblk, V, e]

theorem sum_layer0 (t : Fin cfg0.N) (h : t.val / 2 = 0) (i : Fin 512) (j : Fin 384) :
    k0_pay11 (View.ld (iblk m c 0 t) (Rect.unit ![0, 0, 0] ![1, 512, 384] inb_S4x512x384_S1x512x384_0_0_0)) (View.ld (iblk m c 0 t) (Rect.unit ![1, 0, 0] ![1, 512, 384] inb_S4x512x384_S1x512x384_1_0_0)) (View.ld (iblk m c 0 t) (Rect.unit ![2, 0, 0] ![1, 512, 384] inb_S4x512x384_S1x512x384_2_0_0)) (View.ld (iblk m c 0 t) (Rect.unit ![3, 0, 0] ![1, 512, 384] inb_S4x512x384_S1x512x384_3_0_0)) (ix2 i j) = gradAt m c t i j := by
  refine (sum4' _ _ _ _ i j).trans ?_
  rw [show gradAt m c t i j = ∑ k : Fin 4, aP0 m c (ix3 k (row t i) j) from by
    show grad _ _ _ _ _ _ _ = _; rw [show lay t = 0 from Fin.ext h]; rfl]
  refine Eq.trans ?_ (Finset.sum_congr rfl fun k _ => blk0 m c t h k i j)
  refine Eq.trans ?_ (sum4 fun k => (iblk m c 0 t (ix3 k i j) : EReal))
  refine congrArg₂ (· + ·) (congrArg₂ (· + ·) (congrArg₂ (· + ·) (load4 (iblk m c 0 t) 0 _ i j) (load4 (iblk m c 0 t) 1 _ i j)) (load4 (iblk m c 0 t) 2 _ i j)) (load4 (iblk m c 0 t) 3 _ i j)

theorem sum_layer1 (t : Fin cfg0.N) (h : t.val / 2 = 1) (i : Fin 512) (j : Fin 384) :
    k0_pay17 (View.ld (iblk m c 1 t) (Rect.unit ![0, 0, 0] ![1, 512, 384] inb_S8x512x384_S1x512x384_0_0_0)) (View.ld (iblk m c 1 t) (Rect.unit ![1, 0, 0] ![1, 512, 384] inb_S8x512x384_S1x512x384_1_0_0)) (View.ld (iblk m c 1 t) (Rect.unit ![2, 0, 0] ![1, 512, 384] inb_S8x512x384_S1x512x384_2_0_0)) (View.ld (iblk m c 1 t) (Rect.unit ![3, 0, 0] ![1, 512, 384] inb_S8x512x384_S1x512x384_3_0_0)) (View.ld (iblk m c 1 t) (Rect.unit ![4, 0, 0] ![1, 512, 384] inb_S8x512x384_S1x512x384_4_0_0)) (View.ld (iblk m c 1 t) (Rect.unit ![5, 0, 0] ![1, 512, 384] inb_S8x512x384_S1x512x384_5_0_0)) (View.ld (iblk m c 1 t) (Rect.unit ![6, 0, 0] ![1, 512, 384] inb_S8x512x384_S1x512x384_6_0_0)) (View.ld (iblk m c 1 t) (Rect.unit ![7, 0, 0] ![1, 512, 384] inb_S8x512x384_S1x512x384_7_0_0)) (ix2 i j) = gradAt m c t i j := by
  refine (sum8' _ _ _ _ _ _ _ _ i j).trans ?_
  rw [show gradAt m c t i j = ∑ k : Fin 8, aP1 m c (ix3 k (row t i) j) from by
    show grad _ _ _ _ _ _ _ = _; rw [show lay t = 1 from Fin.ext h]; rfl]
  refine Eq.trans ?_ (Finset.sum_congr rfl fun k _ => blk1 m c t h k i j)
  refine Eq.trans ?_ (sum8 fun k => (iblk m c 1 t (ix3 k i j) : EReal))
  refine congrArg₂ (· + ·) (congrArg₂ (· + ·) (congrArg₂ (· + ·) (congrArg₂ (· + ·) (congrArg₂ (· + ·) (congrArg₂ (· + ·) (congrArg₂ (· + ·) (load8 (iblk m c 1 t) 0 _ i j) (load8 (iblk m c 1 t) 1 _ i j)) (load8 (iblk m c 1 t) 2 _ i j)) (load8 (iblk m c 1 t) 3 _ i j)) (load8 (iblk m c 1 t) 4 _ i j)) (load8 (iblk m c 1 t) 5 _ i j)) (load8 (iblk m c 1 t) 6 _ i j)) (load8 (iblk m c 1 t) 7 _ i j)

theorem sum_layer2 (t : Fin cfg0.N) (h : t.val / 2 = 2) (i : Fin 512) (j : Fin 384) :
    k0_pay22 (View.ld (iblk m c 2 t) (Rect.unit ![0, 0, 0] ![1, 512, 384] inb_S8x512x384_S1x512x384_0_0_0)) (View.ld (iblk m c 2 t) (Rect.unit ![1, 0, 0] ![1, 512, 384] inb_S8x512x384_S1x512x384_1_0_0)) (View.ld (iblk m c 2 t) (Rect.unit ![2, 0, 0] ![1, 512, 384] inb_S8x512x384_S1x512x384_2_0_0)) (View.ld (iblk m c 2 t) (Rect.unit ![3, 0, 0] ![1, 512, 384] inb_S8x512x384_S1x512x384_3_0_0)) (View.ld (iblk m c 2 t) (Rect.unit ![4, 0, 0] ![1, 512, 384] inb_S8x512x384_S1x512x384_4_0_0)) (View.ld (iblk m c 2 t) (Rect.unit ![5, 0, 0] ![1, 512, 384] inb_S8x512x384_S1x512x384_5_0_0)) (View.ld (iblk m c 2 t) (Rect.unit ![6, 0, 0] ![1, 512, 384] inb_S8x512x384_S1x512x384_6_0_0)) (View.ld (iblk m c 2 t) (Rect.unit ![7, 0, 0] ![1, 512, 384] inb_S8x512x384_S1x512x384_7_0_0)) (ix2 i j) = gradAt m c t i j := by
  refine (sum8' _ _ _ _ _ _ _ _ i j).trans ?_
  rw [show gradAt m c t i j = ∑ k : Fin 8, aP2 m c (ix3 k (row t i) j) from by
    show grad _ _ _ _ _ _ _ = _; rw [show lay t = 2 from Fin.ext h]; rfl]
  refine Eq.trans ?_ (Finset.sum_congr rfl fun k _ => blk2 m c t h k i j)
  refine Eq.trans ?_ (sum8 fun k => (iblk m c 2 t (ix3 k i j) : EReal))
  refine congrArg₂ (· + ·) (congrArg₂ (· + ·) (congrArg₂ (· + ·) (congrArg₂ (· + ·) (congrArg₂ (· + ·) (congrArg₂ (· + ·) (congrArg₂ (· + ·) (load8 (iblk m c 2 t) 0 _ i j) (load8 (iblk m c 2 t) 1 _ i j)) (load8 (iblk m c 2 t) 2 _ i j)) (load8 (iblk m c 2 t) 3 _ i j)) (load8 (iblk m c 2 t) 4 _ i j)) (load8 (iblk m c 2 t) 5 _ i j)) (load8 (iblk m c 2 t) 6 _ i j)) (load8 (iblk m c 2 t) 7 _ i j)

theorem sum_layer3 (t : Fin cfg0.N) (h : t.val / 2 = 3) (i : Fin 512) (j : Fin 384) :
    k0_pay27 (View.ld (iblk m c 3 t) (Rect.unit ![0, 0, 0] ![1, 512, 384] inb_S8x512x384_S1x512x384_0_0_0)) (View.ld (iblk m c 3 t) (Rect.unit ![1, 0, 0] ![1, 512, 384] inb_S8x512x384_S1x512x384_1_0_0)) (View.ld (iblk m c 3 t) (Rect.unit ![2, 0, 0] ![1, 512, 384] inb_S8x512x384_S1x512x384_2_0_0)) (View.ld (iblk m c 3 t) (Rect.unit ![3, 0, 0] ![1, 512, 384] inb_S8x512x384_S1x512x384_3_0_0)) (View.ld (iblk m c 3 t) (Rect.unit ![4, 0, 0] ![1, 512, 384] inb_S8x512x384_S1x512x384_4_0_0)) (View.ld (iblk m c 3 t) (Rect.unit ![5, 0, 0] ![1, 512, 384] inb_S8x512x384_S1x512x384_5_0_0)) (View.ld (iblk m c 3 t) (Rect.unit ![6, 0, 0] ![1, 512, 384] inb_S8x512x384_S1x512x384_6_0_0)) (View.ld (iblk m c 3 t) (Rect.unit ![7, 0, 0] ![1, 512, 384] inb_S8x512x384_S1x512x384_7_0_0)) (ix2 i j) = gradAt m c t i j := by
  refine (sum8' _ _ _ _ _ _ _ _ i j).trans ?_
  rw [show gradAt m c t i j = ∑ k : Fin 8, aP3 m c (ix3 k (row t i) j) from by
    show grad _ _ _ _ _ _ _ = _; rw [show lay t = 3 from Fin.ext h]; rfl]
  refine Eq.trans ?_ (Finset.sum_congr rfl fun k _ => blk3 m c t h k i j)
  refine Eq.trans ?_ (sum8 fun k => (iblk m c 3 t (ix3 k i j) : EReal))
  refine congrArg₂ (· + ·) (congrArg₂ (· + ·) (congrArg₂ (· + ·) (congrArg₂ (· + ·) (congrArg₂ (· + ·) (congrArg₂ (· + ·) (congrArg₂ (· + ·) (load8 (iblk m c 3 t) 0 _ i j) (load8 (iblk m c 3 t) 1 _ i j)) (load8 (iblk m c 3 t) 2 _ i j)) (load8 (iblk m c 3 t) 3 _ i j)) (load8 (iblk m c 3 t) 4 _ i j)) (load8 (iblk m c 3 t) 5 _ i j)) (load8 (iblk m c 3 t) 6 _ i j)) (load8 (iblk m c 3 t) 7 _ i j)

/-- A grid point is of one of the four layers. -/
theorem which (t : Fin cfg0.N) : (t.val / 2 = 0 ∧ t.val < 2 ∧ ¬t.val / 2 % 4 = 1 ∧ ¬t.val / 2 % 4 = 2 ∧ ¬6 ≤ t.val)
    ∨ (t.val / 2 = 1 ∧ ¬t.val < 2 ∧ t.val / 2 % 4 = 1 ∧ ¬t.val / 2 % 4 = 2 ∧ ¬6 ≤ t.val)
    ∨ (t.val / 2 = 2 ∧ ¬t.val < 2 ∧ ¬t.val / 2 % 4 = 1 ∧ t.val / 2 % 4 = 2 ∧ ¬6 ≤ t.val)
    ∨ (t.val / 2 = 3 ∧ ¬t.val < 2 ∧ ¬t.val / 2 % 4 = 1 ∧ ¬t.val / 2 % 4 = 2 ∧ 6 ≤ t.val) := by
  have h : t.val < 8 := t.isLt
  omega

/-- Each grid point writes its tile of the gradient. -/
theorem outs_g (t : Fin cfg0.N) (y : S1x512x384.Idx) : (outsAt0 m c t.val t.isLt).1 y = gradAt m c t (y 1) (y 2) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_g4 _ _ _ _ _ _ _).trans (sum_layer0 m c t h _ _)
  · rw [outsAt0_B m c t h0 h1 h2 h3]; dsimp only; frame_out; rw [eq_ix3 y]
    exact (out_g8 _ _ _ _).trans (sum_layer1 m c t h _ _)
  · rw [outsAt0_C m c t h0 h1 h2 h3]; dsimp only; frame_out; rw [eq_ix3 y]
    exact (out_g8 _ _ _ _).trans (sum_layer2 m c t h _ _)
  · rw [outsAt0_D m c t h0 h1 h2 h3]; dsimp only; frame_out; rw [eq_ix3 y]
    exact (out_g8 _ _ _ _).trans (sum_layer3 m c t h _ _)

/-- Its tile of the change of the weight. -/
theorem outs_d (t : Fin cfg0.N) (y : S1x512x384.Idx) : (outsAt0 m c t.val t.isLt).2.1 y = delta (aW m c (ix3 (lay t) (row t (y 1)) (y 2))) (gradAt m c t (y 1) (y 2)) (aM m c (ix3 (lay t) (row t (y 1)) (y 2))) (aV m c (ix3 (lay t) (row t (y 1)) (y 2))) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_d4 _ _ _ _ _ _ _ _ _ _).trans (delta_congr (blk_w m c t _ _ _) (sum_layer0 m c t h _ _) (blk_m m c t _ _ _) (blk_v m c t _ _ _))
  · rw [outsAt0_B m c t h0 h1 h2 h3]; dsimp only; frame_out; rw [eq_ix3 y]
    exact (out_d8 _ _ _ _ _ _ _).trans (delta_congr (blk_w m c t _ _ _) (sum_layer1 m c t h _ _) (blk_m m c t _ _ _) (blk_v m c t _ _ _))
  · rw [outsAt0_C m c t h0 h1 h2 h3]; dsimp only; frame_out; rw [eq_ix3 y]
    exact (out_d8 _ _ _ _ _ _ _).trans (delta_congr (blk_w m c t _ _ _) (sum_layer2 m c t h _ _) (blk_m m c t _ _ _) (blk_v m c t _ _ _))
  · rw [outsAt0_D m c t h0 h1 h2 h3]; dsimp only; frame_out; rw [eq_ix3 y]
    exact (out_d8 _ _ _ _ _ _ _).trans (delta_congr (blk_w m c t _ _ _) (sum_layer3 m c t h _ _) (blk_m m c t _ _ _) (blk_v m c t _ _ _))

/-- Its tile of the first moment. -/
theorem outs_m (t : Fin cfg0.N) (y : S1x512x384.Idx) : (outsAt0 m c t.val t.isLt).2.2.1 y = newM (gradAt m c t (y 1) (y 2)) (aM m c (ix3 (lay t) (row t (y 1)) (y 2))) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_m4 _ _ _ _ _ _ _ _).trans (congrArg₂ newM (sum_layer0 m c t h _ _) (blk_m m c t _ _ _))
  · rw [outsAt0_B m c t h0 h1 h2 h3]; dsimp only; frame_out; rw [eq_ix3 y]
    exact (out_m8 _ _ _ _ _).trans (congrArg₂ newM (sum_layer1 m c t h _ _) (blk_m m c t _ _ _))
  · rw [outsAt0_C m c t h0 h1 h2 h3]; dsimp only; frame_out; rw [eq_ix3 y]
    exact (out_m8 _ _ _ _ _).trans (congrArg₂ newM (sum_layer2 m c t h _ _) (blk_m m c t _ _ _))
  · rw [outsAt0_D m c t h0 h1 h2 h3]; dsimp only; frame_out; rw [eq_ix3 y]
    exact (out_m8 _ _ _ _ _).trans (congrArg₂ newM (sum_layer3 m c t h _ _) (blk_m m c t _ _ _))

/-- Its tile of the second moment. -/
theorem outs_v (t : Fin cfg0.N) (y : S1x512x384.Idx) : (outsAt0 m c t.val t.isLt).2.2.2 y = newV (gradAt m c t (y 1) (y 2)) (aV m c (ix3 (lay t) (row t (y 1)) (y 2))) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_v4 _ _ _ _ _ _ _ _).trans (congrArg₂ newV (sum_layer0 m c t h _ _) (blk_v m c t _ _ _))
  · rw [outsAt0_B m c t h0 h1 h2 h3]; dsimp only; frame_out; rw [eq_ix3 y]
    exact (out_v8 _ _ _ _ _).trans (congrArg₂ newV (sum_layer1 m c t h _ _) (blk_v m c t _ _ _))
  · rw [outsAt0_C m c t h0 h1 h2 h3]; dsimp only; frame_out; rw [eq_ix3 y]
    exact (out_v8 _ _ _ _ _).trans (congrArg₂ newV (sum_layer2 m c t h _ _) (blk_v m c t _ _ _))
  · rw [outsAt0_D m c t h0 h1 h2 h3]; dsimp only; frame_out; rw [eq_ix3 y]
    exact (out_v8 _ _ _ _ _).trans (congrArg₂ newV (sum_layer3 m c t h _ _) (blk_v m c t _ _ _))

/-! The four results as arrays. -/
def gArr : Arr S4x1024x384 := fun i => grad (aP0 m c) (aP1 m c) (aP2 m c) (aP3 m c) (i 0) (i 1) (i 2)
def dArr : Arr S4x1024x384 := fun i => delta (aW m c (ix3 (i 0) (i 1) (i 2))) (grad (aP0 m c) (aP1 m c) (aP2 m c) (aP3 m c) (i 0) (i 1) (i 2)) (aM m c (ix3 (i 0) (i 1) (i 2))) (aV m c (ix3 (i 0) (i 1) (i 2)))
def mArr : Arr S4x1024x384 := fun i => newM (grad (aP0 m c) (aP1 m c) (aP2 m c) (aP3 m c) (i 0) (i 1) (i 2)) (aM m c (ix3 (i 0) (i 1) (i 2)))
def vArr : Arr S4x1024x384 := fun i => newV (grad (aP0 m c) (aP1 m c) (aP2 m c) (aP3 m c) (i 0) (i 1) (i 2)) (aV m c (ix3 (i 0) (i 1) (i 2)))

attribute [local irreducible] grad delta newM newV

theorem final_g : (dats m 0 c).arrAt 7 cfg0.N = gArr m c := by
  refine (dats m 0 c).arrAt_eq_of_covers 7 _ (by decide +kernel) fun t hf y => ?_
  blk_simp; rw [after0_7]; rw [outs_g]
  have e := (idx t).2.2.2.2.2.2.2.1
  have h : ((cfg0.win 7).blk t).view.emb y = (ix3 (lay t) (row t (y 1)) (y 2) : S4x1024x384.Idx) := by blk_ext [e]
  exact congrArg (gArr m c) h.symm

theorem final_d : (dats m 0 c).arrAt 8 cfg0.N = dArr m c := by
  refine (dats m 0 c).arrAt_eq_of_covers 8 _ (by decide +kernel) fun t hf y => ?_
  blk_simp; rw [after0_8]; rw [outs_d]
  have e := (idx t).2.2.2.2.2.2.2.2.1
  have h : ((cfg0.win 8).blk t).view.emb y = (ix3 (lay t) (row t (y 1)) (y 2) : S4x1024x384.Idx) := by blk_ext [e]
  exact congrArg (dArr m c) h.symm

theorem final_m : (dats m 0 c).arrAt 9 cfg0.N = mArr m c := by
  refine (dats m 0 c).arrAt_eq_of_covers 9 _ (by decide +kernel) fun t hf y => ?_
  blk_simp; rw [after0_9]; rw [outs_m]
  have e := (idx t).2.2.2.2.2.2.2.2.2.1
  have h : ((cfg0.win 9).blk t).view.emb y = (ix3 (lay t) (row t (y 1)) (y 2) : S4x1024x384.Idx) := by blk_ext [e]
  exact congrArg (mArr m c) h.symm

theorem final_v : (dats m 0 c).arrAt 10 cfg0.N = vArr m c := by
  refine (dats m 0 c).arrAt_eq_of_covers 10 _ (by decide +kernel) fun t hf y => ?_
  blk_simp; rw [after0_10]; rw [outs_v]
  have e := (idx t).2.2.2.2.2.2.2.2.2.2
  have h : ((cfg0.win 10).blk t).view.emb y = (ix3 (lay t) (row t (y 1)) (y 2) : S4x1024x384.Idx) := by blk_ext [e]
  exact congrArg (vArr m c) h.symm

end Kernel

section Claim
open Cert.WinIdeal Cert.WinIdeal.Gen Cert.WinIdeal.Read
attribute [local instance] Cert.WinStepIdeal.Gen.facts Cert.WinIdeal.Gen.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run _ _ _).mono (fun r h => ⟨fun c => (h c).2.2.2.2, sem_eq_zero_of_no_sems (by decide) r.2⟩)
    (Cert.WinIdeal.Value.run m g)

/-- The kernel's results are the reference's. -/
theorem algebraic : Cert.algebraic_WinStepIdeal_WinIdeal := by
  intro m g m' g' pre agree
  refine ⟨fun c => gArr m c, fun c => dArr m c, fun c => mArr m c, fun c => vArr m c, ?_, ?_⟩
  · refine (θ_run _ _ _).mono (fun r h c => ?_) (Cert.WinStepIdeal.Value.run_blocks m g)
    obtain ⟨h0, h1, h2, h3, h⟩ := h c
    exact ⟨h0.trans (final_g m c), h1.trans (final_d m c), h2.trans (final_m m c), h3.trans (final_v m c), h⟩
  · refine (θ_run _ _ _).mono (fun r h c => ?_) (Cert.WinIdeal.Value.run m' g')
    obtain ⟨h0, h1, h2, h3, h⟩ := h c
    obtain ⟨e0, e1, e2, e3, e4, e5, e6⟩ := agree c
    refine ⟨(h0.trans (val_main_v12_eq _ _ _ _)).trans ?_, (h1.trans (val_main_v36_eq _ _)).trans ?_,
      (h2.trans (val_main_v17_eq _ _ _ _ _)).trans ?_, (h3.trans (val_main_v23_eq _ _ _ _ _)).trans ?_, h⟩
    · funext i; rw [e0, e1, e2, e3, eq_ix3 i]; exact ref_g _ _ _ _ (i 0) (i 1) (i 2)
    · funext i; rw [e0, e1, e2, e3, e4, e5, e6, eq_ix3 i]; exact ref_d _ _ _ _ _ _ _ (i 0) (i 1) (i 2)
    · funext i; rw [e0, e1, e2, e3, e5, eq_ix3 i]; exact ref_m _ _ _ _ _ (i 0) (i 1) (i 2)
    · funext i; rw [e0, e1, e2, e3, e6, eq_ix3 i]; exact ref_v _ _ _ _ _ (i 0) (i 1) (i 2)

end Claim

end Cert.WinStepClaim

end
-- ==== Proof.WdownStepClaim.lean ====
/- The optimiser's step of the weight of the down projection, of one device. At every layer the kernel sums the devices' parts of
   the gradient one after the other and reads from the sum the change of the weight and the two moments, tile by tile.
   The reference sums each layer's parts at once. No entry needs to be finite. -/
module

public import proofs.«01_k».proof.Defs
public import proofs.«01_k».proof.Proof.Adamw
public import proofs.«01_k».proof.Proof.Gen.WdownStepIdeal.Value
public import proofs.«01_k».proof.Proof.Gen.WdownIdeal.Run
public import proofs.«01_k».proof.Proof.Gen.WdownIdeal.Read
public import Idealize.ShloMosaic.Lib.Pipeline.ValueKit

@[expose] public section

set_option maxRecDepth 16384
set_option maxHeartbeats 1600000

noncomputable section

open Idealize.ShloMosaic Idealize.ShloMosaic.TcCoe Idealize.SL.Sem
open Idealize.ShloMosaic.Pipeline (Dat)

namespace Cert.WdownStepClaim
open Cert.Adamw

abbrev Arr (s : Shape) := BufTy.Contents (Elt Ideal) ⟨s, .f32⟩

section Reference
open Cert.WdownIdeal Cert.WdownIdeal.Read
variable (p0 : Arr S4x352x1024) (p1 : Arr S4x352x1024) (p2 : Arr S4x352x1024) (p3 : Arr S4x352x1024) (w mo ve : Arr S4x352x1024)

/-- The gradient at a layer's entry: the sum of the devices' parts of it. -/
def grad (l : Fin 4) (i : Fin 352) (j : Fin 1024) : EReal := match l with
  | 0 => ∑ k : Fin 4, p0 (ix3 k i j)
  | 1 => ∑ k : Fin 4, p1 (ix3 k i j)
  | 2 => ∑ k : Fin 4, p2 (ix3 k i j)
  | 3 => ∑ k : Fin 4, p3 (ix3 k i j)

/-! One layer of it, as the reference stacks them. -/

theorem layer0 (o : Fin 1) (i j) : val_main_v8 (F := Ideal) p0 (ix3 o i j) = ∑ k : Fin 4, p0 (ix3 k i j) := by
  pointwise [val_main_v8, val_main_v1, val_main_v0, val_main_cst]

theorem layer1 (o : Fin 1) (i j) : val_main_v9 (F := Ideal) p1 (ix3 o i j) = ∑ k : Fin 4, p1 (ix3 k i j) := by
  pointwise [val_main_v9, val_main_v3, val_main_v2, val_main_cst_0]

theorem layer2 (o : Fin 1) (i j) : val_main_v10 (F := Ideal) p2 (ix3 o i j) = ∑ k : Fin 4, p2 (ix3 k i j) := by
  pointwise [val_main_v10, val_main_v5, val_main_v4, val_main_cst_1]

theorem layer3 (o : Fin 1) (i j) : val_main_v11 (F := Ideal) p3 (ix3 o i j) = ∑ k : Fin 4, p3 (ix3 k i j) := by
  pointwise [val_main_v11, val_main_v7, val_main_v6, val_main_cst_2]

/-- The stack of the layers. -/
theorem stack (l i j) : val_main_v12 (F := Ideal) p0 p1 p2 p3 (ix3 l i j) = grad p0 p1 p2 p3 l i j := by
  unfold val_main_v12
  concat_tiles x h
  · rw [show l = 0 from Fin.ext h, eq_ix3 x, show x 1 = i from Fin.ext h1, show x 2 = j from Fin.ext h2]; exact layer0 p0 _ i j
  · rw [show l = 1 from Fin.ext h, eq_ix3 x, show x 1 = i from Fin.ext h1, show x 2 = j from Fin.ext h2]; exact layer1 p1 _ i j
  · rw [show l = 2 from Fin.ext h, eq_ix3 x, show x 1 = i from Fin.ext h1, show x 2 = j from Fin.ext h2]; exact layer2 p2 _ i j
  · rw [show l = 3 from Fin.ext h, eq_ix3 x, show x 1 = i from Fin.ext h1, show x 2 = j from Fin.ext h2]; exact layer3 p3 _ i j

theorem ref_g (l i j) : val_main_v12 (F := Ideal) p0 p1 p2 p3 (ix3 l i j) = grad p0 p1 p2 p3 l i j := stack p0 p1 p2 p3 l i j

theorem ref_m (l i j) : val_main_v17 (F := Ideal) p0 p1 p2 p3 mo (ix3 l i j) = newM (grad p0 p1 p2 p3 l i j) (mo (ix3 l i j)) :=
  (show _ = newM (val_main_v12 (F := Ideal) p0 p1 p2 p3 (ix3 l i j)) (mo (ix3 l i j)) from rfl).trans (by rw [stack])

theorem ref_v (l i j) : val_main_v23 (F := Ideal) p0 p1 p2 p3 ve (ix3 l i j) = newV (grad p0 p1 p2 p3 l i j) (ve (ix3 l i j)) :=
  (show _ = newV (val_main_v12 (F := Ideal) p0 p1 p2 p3 (ix3 l i j)) (ve (ix3 l i j)) from rfl).trans (by rw [stack])

theorem ref_d (l i j) : val_main_v36 (F := Ideal) p0 p1 p2 p3 w mo ve (ix3 l i j)
    = delta (w (ix3 l i j)) (grad p0 p1 p2 p3 l i j) (mo (ix3 l i j)) (ve (ix3 l i j)) :=
  (show _ = delta (w (ix3 l i j)) (val_main_v12 (F := Ideal) p0 p1 p2 p3 (ix3 l i j)) (mo (ix3 l i j)) (ve (ix3 l i j)) from rfl).trans
    (by rw [stack])

end Reference

section Payload
open Cert.WdownStepIdeal Cert.WdownStepIdeal.Gen

/-- A load of one device's part. -/
theorem load4 (x : Vec Ideal S4x176x1024 .bf16) (k : Fin 4) (inb) (i : Fin 176) (j : Fin 1024) :
    View.ld x (Rect.unit ![k.val, 0, 0] ![1, 176, 1024] inb) (ix3 0 i j) = x (ix3 k i j) := by
  refine View.ld_unit_apply_of _ _ _ _ _ _ fun a => ?_
  fin_cases a <;> simp [ix3]

variable (w mo ve : Vec Ideal S1x176x1024 .f32)

/-- Four parts, summed in the body. -/
theorem sum4' (a0 a1 a2 a3 : Vec Ideal S1x176x1024 .bf16) (i j) : k0_pay17 a0 a1 a2 a3 (ix2 i j)
    = (a0 (ix3 0 i j) : EReal) + (a1 (ix3 0 i j) : EReal) + (a2 (ix3 0 i j) : EReal) + (a3 (ix3 0 i j) : EReal) := by
  pointwise [k0_pay17]

/-! What each block of results holds, read from the sum of four parts. -/

section Four
variable (a0 a1 a2 a3 : Vec Ideal S1x176x1024 .bf16)

theorem out_g4 (o : Fin 1) (i j) : k0_pay18 a0 a1 a2 a3 (ix3 o i j) = k0_pay17 a0 a1 a2 a3 (ix2 i j) := by
  pointwise [k0_pay18]

theorem cell_m4 (i j) : k0_pay20 a0 a1 a2 a3 mo (ix2 i j) = newM (k0_pay17 a0 a1 a2 a3 (ix2 i j)) (mo (ix3 0 i j)) := by
  pointwise [k0_pay20]; rfl

theorem cell_v4 (i j) : k0_pay1 (k0_pay21 ve) (k0_pay22 a0 a1 a2 a3) (ix2 i j) = newV (k0_pay17 a0 a1 a2 a3 (ix2 i j)) (ve (ix3 0 i j)) := by
  pointwise [k0_pay1, k0_pay21, k0_pay22]; rfl

theorem out_m4 (o : Fin 1) (i j) : k0_pay3 (k0_pay20 a0 a1 a2 a3 mo) (ix3 o i j) = newM (k0_pay17 a0 a1 a2 a3 (ix2 i j)) (mo (ix3 0 i j)) := by
  refine Eq.trans ?_ (cell_m4 mo a0 a1 a2 a3 i j)
  pointwise [k0_pay3]

theorem out_v4 (o : Fin 1) (i j) : k0_pay4 (k0_pay21 ve) (k0_pay22 a0 a1 a2 a3) (ix3 o i j)
    = newV (k0_pay17 a0 a1 a2 a3 (ix2 i j)) (ve (ix3 0 i j)) := by
  refine Eq.trans ?_ (cell_v4 ve a0 a1 a2 a3 i j)
  pointwise [k0_pay4]

theorem out_d4 (o : Fin 1) (i j) : k0_pay2 (k0_pay19 w) (k0_pay20 a0 a1 a2 a3 mo) (k0_pay21 ve) (k0_pay22 a0 a1 a2 a3) (ix3 o i j)
    = delta (w (ix3 0 i j)) (k0_pay17 a0 a1 a2 a3 (ix2 i j)) (mo (ix3 0 i j)) (ve (ix3 0 i j)) := by
  unfold delta; rw [← cell_m4 mo a0 a1 a2 a3 i j, ← cell_v4 ve a0 a1 a2 a3 i j]
  pointwise [k0_pay2, k0_pay19]

end Four

end Payload

section Kernel
open Cert.WdownStepIdeal Cert.WdownStepIdeal.Gen

variable (m : (ℓ : Loc nD τ sig) → Buf (Elt Ideal) ℓ) (c : Dev nD)

/-! The arguments: the four layers' parts, the weight and its moments. -/
abbrev aP0 : Arr S4x352x1024 := m ((c.tc : Thread nD τ).loc main_arg0)
abbrev aP1 : Arr S4x352x1024 := m ((c.tc : Thread nD τ).loc main_arg1)
abbrev aP2 : Arr S4x352x1024 := m ((c.tc : Thread nD τ).loc main_arg2)
abbrev aP3 : Arr S4x352x1024 := m ((c.tc : Thread nD τ).loc main_arg3)
abbrev aW : Arr S4x352x1024 := m ((c.tc : Thread nD τ).loc main_arg4)
abbrev aM : Arr S4x352x1024 := m ((c.tc : Thread nD τ).loc main_arg5)
abbrev aV : Arr S4x352x1024 := m ((c.tc : Thread nD τ).loc main_arg6)

/-- Which block of its array each window holds at grid point `t`; a layer's parts only at that layer's points. -/
theorem idx : ∀ t : Fin cfg0.N, (t.val / 2 = 0 → win0_0.index t = ![0, t.val % 2, 0]) ∧ (t.val / 2 = 1 → win0_1.index t = ![0, t.val % 2, 0]) ∧ (t.val / 2 = 2 → win0_2.index t = ![0, t.val % 2, 0]) ∧ (t.val / 2 = 3 → win0_3.index t = ![0, t.val % 2, 0])
    ∧ win0_4.index t = ![t.val / 2, t.val % 2, 0] ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] ∧ win0_9.index t = ![t.val / 2, t.val % 2, 0] ∧ win0_10.index t = ![t.val / 2, t.val % 2, 0] :=
  (by decide +kernel : ∀ t : Fin grid0.N, _)

/-- The layer of a grid point, and the row of the whole array that row `r` of its block is. -/
abbrev lay (t : Fin cfg0.N) : Fin 4 := ⟨t.val / 2, by have h : t.val < 8 := t.isLt; omega⟩
abbrev row (t : Fin cfg0.N) (r : Fin 176) : Fin 352 := ⟨t.val % 2 * 176 + r.val, by omega⟩

/-- The gradient at an entry of a grid point's block. -/
abbrev gradAt (t : Fin cfg0.N) (i : Fin 176) (j : Fin 1024) : EReal :=
  grad (aP0 m c) (aP1 m c) (aP2 m c) (aP3 m c) (lay t) (row t i) j

theorem blk0 (t : Fin cfg0.N) (h : t.val / 2 = 0) (k : Fin 4) (i : Fin 176) (j : Fin 1024) :
    iblk m c 0 t (ix3 k i j) = aP0 m c (ix3 k (row t i) j) := by
  have e := (idx t).1 h
  blk_ext [iblk, V, e]

theorem blk1 (t : Fin cfg0.N) (h : t.val / 2 = 1) (k : Fin 4) (i : Fin 176) (j : Fin 1024) :
    iblk m c 1 t (ix3 k i j) = aP1 m c (ix3 k (row t i) j) := by
  have e := (idx t).2.1 h
  blk_ext [iblk, V, e]

theorem blk2 (t : Fin cfg0.N) (h : t.val / 2 = 2) (k : Fin 4) (i : Fin 176) (j : Fin 1024) :
    iblk m c 2 t (ix3 k i j) = aP2 m c (ix3 k (row t i) j) := by
  have e := (idx t).2.2.1 h
  blk_ext [iblk, V, e]

theorem blk3 (t : Fin cfg0.N) (h : t.val / 2 = 3) (k : Fin 4) (i : Fin 176) (j : Fin 1024) :
    iblk m c 3 t (ix3 k i j) = aP3 m c (ix3 k (row t i) j) := by
  have e := (idx t).2.2.2.1 h
  blk_ext [iblk, V, e]

theorem blk_w (t : Fin cfg0.N) (o : Fin 1) (i : Fin 176) (j : Fin 1024) :
    iblk m c 4 t (ix3 o i j) = aW m c (ix3 (lay t) (row t i) j) := by
  have e := (idx t).2.2.2.2.1
  blk_ext [iblk, V, e]

theorem blk_m (t : Fin cfg0.N) (o : Fin 1) (i : Fin 176) (j : Fin 1024) :
    iblk m c 5 t (ix3 o i j) = aM m c (ix3 (lay t) (row t i) j) := by
  have e := (idx t).2.2.2.2.2.1
  blk_ext [iblk, V, e]

theorem blk_v (t : Fin cfg0.N) (o : Fin 1) (i : Fin 176) (j : Fin 1024) :
    iblk m c 6 t (ix3 o i j) = aV m c (ix3 (lay t) (row t i) j) := by
  have e := (idx t).2.2.2.2.2.2.1
  blk_ext [iblk, V, e]

theorem sum_layer0 (t : Fin cfg0.N) (h : t.val / 2 = 0) (i : Fin 176) (j : Fin 1024) :
    k0_pay17 (View.ld (iblk m c 0 t) (Rect.unit ![0, 0, 0] ![1, 176, 1024] inb_S4x176x1024_S1x176x1024_0_0_0)) (View.ld (iblk m c 0 t) (Rect.unit ![1, 0, 0] ![1, 176, 1024] inb_S4x176x1024_S1x176x1024_1_0_0)) (View.ld (iblk m c 0 t) (Rect.unit ![2, 0, 0] ![1, 176, 1024] inb_S4x176x1024_S1x176x1024_2_0_0)) (View.ld (iblk m c 0 t) (Rect.unit ![3, 0, 0] ![1, 176, 1024] inb_S4x176x1024_S1x176x1024_3_0_0)) (ix2 i j) = gradAt m c t i j := by
  refine (sum4' _ _ _ _ i j).trans ?_
  rw [show gradAt m c t i j = ∑ k : Fin 4, aP0 m c (ix3 k (row t i) j) from by
    show grad _ _ _ _ _ _ _ = _; rw [show lay t = 0 from Fin.ext h]; rfl]
  refine Eq.trans ?_ (Finset.sum_congr rfl fun k _ => blk0 m c t h k i j)
  refine Eq.trans ?_ (sum4 fun k => (iblk m c 0 t (ix3 k i j) : EReal))
  refine congrArg₂ (· + ·) (congrArg₂ (· + ·) (congrArg₂ (· + ·) (load4 (iblk m c 0 t) 0 _ i j) (load4 (iblk m c 0 t) 1 _ i j)) (load4 (iblk m c 0 t) 2 _ i j)) (load4 (iblk m c 0 t) 3 _ i j)

theorem sum_layer1 (t : Fin cfg0.N) (h : t.val / 2 = 1) (i : Fin 176) (j : Fin 1024) :
    k0_pay17 (View.ld (iblk m c 1 t) (Rect.unit ![0, 0, 0] ![1, 176, 1024] inb_S4x176x1024_S1x176x1024_0_0_0)) (View.ld (iblk m c 1 t) (Rect.unit ![1, 0, 0] ![1, 176, 1024] inb_S4x176x1024_S1x176x1024_1_0_0)) (View.ld (iblk m c 1 t) (Rect.unit ![2, 0, 0] ![1, 176, 1024] inb_S4x176x1024_S1x176x1024_2_0_0)) (View.ld (iblk m c 1 t) (Rect.unit ![3, 0, 0] ![1, 176, 1024] inb_S4x176x1024_S1x176x1024_3_0_0)) (ix2 i j) = gradAt m c t i j := by
  refine (sum4' _ _ _ _ i j).trans ?_
  rw [show gradAt m c t i j = ∑ k : Fin 4, aP1 m c (ix3 k (row t i) j) from by
    show grad _ _ _ _ _ _ _ = _; rw [show lay t = 1 from Fin.ext h]; rfl]
  refine Eq.trans ?_ (Finset.sum_congr rfl fun k _ => blk1 m c t h k i j)
  refine Eq.trans ?_ (sum4 fun k => (iblk m c 1 t (ix3 k i j) : EReal))
  refine congrArg₂ (· + ·) (congrArg₂ (· + ·) (congrArg₂ (· + ·) (load4 (iblk m c 1 t) 0 _ i j) (load4 (iblk m c 1 t) 1 _ i j)) (load4 (iblk m c 1 t) 2 _ i j)) (load4 (iblk m c 1 t) 3 _ i j)

theorem sum_layer2 (t : Fin cfg0.N) (h : t.val / 2 = 2) (i : Fin 176) (j : Fin 1024) :
    k0_pay17 (View.ld (iblk m c 2 t) (Rect.unit ![0, 0, 0] ![1, 176, 1024] inb_S4x176x1024_S1x176x1024_0_0_0)) (View.ld (iblk m c 2 t) (Rect.unit ![1, 0, 0] ![1, 176, 1024] inb_S4x176x1024_S1x176x1024_1_0_0)) (View.ld (iblk m c 2 t) (Rect.unit ![2, 0, 0] ![1, 176, 1024] inb_S4x176x1024_S1x176x1024_2_0_0)) (View.ld (iblk m c 2 t) (Rect.unit ![3, 0, 0] ![1, 176, 1024] inb_S4x176x1024_S1x176x1024_3_0_0)) (ix2 i j) = gradAt m c t i j := by
  refine (sum4' _ _ _ _ i j).trans ?_
  rw [show gradAt m c t i j = ∑ k : Fin 4, aP2 m c (ix3 k (row t i) j) from by
    show grad _ _ _ _ _ _ _ = _; rw [show lay t = 2 from Fin.ext h]; rfl]
  refine Eq.trans ?_ (Finset.sum_congr rfl fun k _ => blk2 m c t h k i j)
  refine Eq.trans ?_ (sum4 fun k => (iblk m c 2 t (ix3 k i j) : EReal))
  refine congrArg₂ (· + ·) (congrArg₂ (· + ·) (congrArg₂ (· + ·) (load4 (iblk m c 2 t) 0 _ i j) (load4 (iblk m c 2 t) 1 _ i j)) (load4 (iblk m c 2 t) 2 _ i j)) (load4 (iblk m c 2 t) 3 _ i j)

theorem sum_layer3 (t : Fin cfg0.N) (h : t.val / 2 = 3) (i : Fin 176) (j : Fin 1024) :
    k0_pay17 (View.ld (iblk m c 3 t) (Rect.unit ![0, 0, 0] ![1, 176, 1024] inb_S4x176x1024_S1x176x1024_0_0_0)) (View.ld (iblk m c 3 t) (Rect.unit ![1, 0, 0] ![1, 176, 1024] inb_S4x176x1024_S1x176x1024_1_0_0)) (View.ld (iblk m c 3 t) (Rect.unit ![2, 0, 0] ![1, 176, 1024] inb_S4x176x1024_S1x176x1024_2_0_0)) (View.ld (iblk m c 3 t) (Rect.unit ![3, 0, 0] ![1, 176, 1024] inb_S4x176x1024_S1x176x1024_3_0_0)) (ix2 i j) = gradAt m c t i j := by
  refine (sum4' _ _ _ _ i j).trans ?_
  rw [show gradAt m c t i j = ∑ k : Fin 4, aP3 m c (ix3 k (row t i) j) from by
    show grad _ _ _ _ _ _ _ = _; rw [show lay t = 3 from Fin.ext h]; rfl]
  refine Eq.trans ?_ (Finset.sum_congr rfl fun k _ => blk3 m c t h k i j)
  refine Eq.trans ?_ (sum4 fun k => (iblk m c 3 t (ix3 k i j) : EReal))
  refine congrArg₂ (· + ·) (congrArg₂ (· + ·) (congrArg₂ (· + ·) (load4 (iblk m c 3 t) 0 _ i j) (load4 (iblk m c 3 t) 1 _ i j)) (load4 (iblk m c 3 t) 2 _ i j)) (load4 (iblk m c 3 t) 3 _ i j)

/-- A grid point is of one of the four layers. -/
theorem which (t : Fin cfg0.N) : (t.val / 2 = 0 ∧ t.val < 2 ∧ ¬t.val / 2 % 4 = 1 ∧ ¬t.val / 2 % 4 = 2 ∧ ¬6 ≤ t.val)
    ∨ (t.val / 2 = 1 ∧ ¬t.val < 2 ∧ t.val / 2 % 4 = 1 ∧ ¬t.val / 2 % 4 = 2 ∧ ¬6 ≤ t.val)
    ∨ (t.val / 2 = 2 ∧ ¬t.val < 2 ∧ ¬t.val / 2 % 4 = 1 ∧ t.val / 2 % 4 = 2 ∧ ¬6 ≤ t.val)
    ∨ (t.val / 2 = 3 ∧ ¬t.val < 2 ∧ ¬t.val / 2 % 4 = 1 ∧ ¬t.val / 2 % 4 = 2 ∧ 6 ≤ t.val) := by
  have h : t.val < 8 := t.isLt
  omega

/-- Each grid point writes its tile of the gradient. -/
theorem outs_g (t : Fin cfg0.N) (y : S1x176x1024.Idx) : (outsAt0 m c t.val t.isLt).1 y = gradAt m c t (y 1) (y 2) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_g4 _ _ _ _ _ _ _).trans (sum_layer0 m c t h _ _)
  · rw [outsAt0_B m c t h0 h1 h2 h3]; dsimp only; frame_out; rw [eq_ix3 y]
    exact (out_g4 _ _ _ _ _ _ _).trans (sum_layer1 m c t h _ _)
  · rw [outsAt0_C m c t h0 h1 h2 h3]; dsimp only; frame_out; rw [eq_ix3 y]
    exact (out_g4 _ _ _ _ _ _ _).trans (sum_layer2 m c t h _ _)
  · rw [outsAt0_D m c t h0 h1 h2 h3]; dsimp only; frame_out; rw [eq_ix3 y]
    exact (out_g4 _ _ _ _ _ _ _).trans (sum_layer3 m c t h _ _)

/-- Its tile of the change of the weight. -/
theorem outs_d (t : Fin cfg0.N) (y : S1x176x1024.Idx) : (outsAt0 m c t.val t.isLt).2.1 y = delta (aW m c (ix3 (lay t) (row t (y 1)) (y 2))) (gradAt m c t (y 1) (y 2)) (aM m c (ix3 (lay t) (row t (y 1)) (y 2))) (aV m c (ix3 (lay t) (row t (y 1)) (y 2))) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_d4 _ _ _ _ _ _ _ _ _ _).trans (delta_congr (blk_w m c t _ _ _) (sum_layer0 m c t h _ _) (blk_m m c t _ _ _) (blk_v m c t _ _ _))
  · rw [outsAt0_B m c t h0 h1 h2 h3]; dsimp only; frame_out; rw [eq_ix3 y]
    exact (out_d4 _ _ _ _ _ _ _ _ _ _).trans (delta_congr (blk_w m c t _ _ _) (sum_layer1 m c t h _ _) (blk_m m c t _ _ _) (blk_v m c t _ _ _))
  · rw [outsAt0_C m c t h0 h1 h2 h3]; dsimp only; frame_out; rw [eq_ix3 y]
    exact (out_d4 _ _ _ _ _ _ _ _ _ _).trans (delta_congr (blk_w m c t _ _ _) (sum_layer2 m c t h _ _) (blk_m m c t _ _ _) (blk_v m c t _ _ _))
  · rw [outsAt0_D m c t h0 h1 h2 h3]; dsimp only; frame_out; rw [eq_ix3 y]
    exact (out_d4 _ _ _ _ _ _ _ _ _ _).trans (delta_congr (blk_w m c t _ _ _) (sum_layer3 m c t h _ _) (blk_m m c t _ _ _) (blk_v m c t _ _ _))

/-- Its tile of the first moment. -/
theorem outs_m (t : Fin cfg0.N) (y : S1x176x1024.Idx) : (outsAt0 m c t.val t.isLt).2.2.1 y = newM (gradAt m c t (y 1) (y 2)) (aM m c (ix3 (lay t) (row t (y 1)) (y 2))) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_m4 _ _ _ _ _ _ _ _).trans (congrArg₂ newM (sum_layer0 m c t h _ _) (blk_m m c t _ _ _))
  · rw [outsAt0_B m c t h0 h1 h2 h3]; dsimp only; frame_out; rw [eq_ix3 y]
    exact (out_m4 _ _ _ _ _ _ _ _).trans (congrArg₂ newM (sum_layer1 m c t h _ _) (blk_m m c t _ _ _))
  · rw [outsAt0_C m c t h0 h1 h2 h3]; dsimp only; frame_out; rw [eq_ix3 y]
    exact (out_m4 _ _ _ _ _ _ _ _).trans (congrArg₂ newM (sum_layer2 m c t h _ _) (blk_m m c t _ _ _))
  · rw [outsAt0_D m c t h0 h1 h2 h3]; dsimp only; frame_out; rw [eq_ix3 y]
    exact (out_m4 _ _ _ _ _ _ _ _).trans (congrArg₂ newM (sum_layer3 m c t h _ _) (blk_m m c t _ _ _))

/-- Its tile of the second moment. -/
theorem outs_v (t : Fin cfg0.N) (y : S1x176x1024.Idx) : (outsAt0 m c t.val t.isLt).2.2.2 y = newV (gradAt m c t (y 1) (y 2)) (aV m c (ix3 (lay t) (row t (y 1)) (y 2))) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_v4 _ _ _ _ _ _ _ _).trans (congrArg₂ newV (sum_layer0 m c t h _ _) (blk_v m c t _ _ _))
  · rw [outsAt0_B m c t h0 h1 h2 h3]; dsimp only; frame_out; rw [eq_ix3 y]
    exact (out_v4 _ _ _ _ _ _ _ _).trans (congrArg₂ newV (sum_layer1 m c t h _ _) (blk_v m c t _ _ _))
  · rw [outsAt0_C m c t h0 h1 h2 h3]; dsimp only; frame_out; rw [eq_ix3 y]
    exact (out_v4 _ _ _ _ _ _ _ _).trans (congrArg₂ newV (sum_layer2 m c t h _ _) (blk_v m c t _ _ _))
  · rw [outsAt0_D m c t h0 h1 h2 h3]; dsimp only; frame_out; rw [eq_ix3 y]
    exact (out_v4 _ _ _ _ _ _ _ _).trans (congrArg₂ newV (sum_layer3 m c t h _ _) (blk_v m c t _ _ _))

/-! The four results as arrays. -/
def gArr : Arr S4x352x1024 := fun i => grad (aP0 m c) (aP1 m c) (aP2 m c) (aP3 m c) (i 0) (i 1) (i 2)
def dArr : Arr S4x352x1024 := fun i => delta (aW m c (ix3 (i 0) (i 1) (i 2))) (grad (aP0 m c) (aP1 m c) (aP2 m c) (aP3 m c) (i 0) (i 1) (i 2)) (aM m c (ix3 (i 0) (i 1) (i 2))) (aV m c (ix3 (i 0) (i 1) (i 2)))
def mArr : Arr S4x352x1024 := fun i => newM (grad (aP0 m c) (aP1 m c) (aP2 m c) (aP3 m c) (i 0) (i 1) (i 2)) (aM m c (ix3 (i 0) (i 1) (i 2)))
def vArr : Arr S4x352x1024 := fun i => newV (grad (aP0 m c) (aP1 m c) (aP2 m c) (aP3 m c) (i 0) (i 1) (i 2)) (aV m c (ix3 (i 0) (i 1) (i 2)))

attribute [local irreducible] grad delta newM newV

theorem final_g : (dats m 0 c).arrAt 7 cfg0.N = gArr m c := by
  refine (dats m 0 c).arrAt_eq_of_covers 7 _ (by decide +kernel) fun t hf y => ?_
  blk_simp; rw [after0_7]; rw [outs_g]
  have e := (idx t).2.2.2.2.2.2.2.1
  have h : ((cfg0.win 7).blk t).view.emb y = (ix3 (lay t) (row t (y 1)) (y 2) : S4x352x1024.Idx) := by blk_ext [e]
  exact congrArg (gArr m c) h.symm

theorem final_d : (dats m 0 c).arrAt 8 cfg0.N = dArr m c := by
  refine (dats m 0 c).arrAt_eq_of_covers 8 _ (by decide +kernel) fun t hf y => ?_
  blk_simp; rw [after0_8]; rw [outs_d]
  have e := (idx t).2.2.2.2.2.2.2.2.1
  have h : ((cfg0.win 8).blk t).view.emb y = (ix3 (lay t) (row t (y 1)) (y 2) : S4x352x1024.Idx) := by blk_ext [e]
  exact congrArg (dArr m c) h.symm

theorem final_m : (dats m 0 c).arrAt 9 cfg0.N = mArr m c := by
  refine (dats m 0 c).arrAt_eq_of_covers 9 _ (by decide +kernel) fun t hf y => ?_
  blk_simp; rw [after0_9]; rw [outs_m]
  have e := (idx t).2.2.2.2.2.2.2.2.2.1
  have h : ((cfg0.win 9).blk t).view.emb y = (ix3 (lay t) (row t (y 1)) (y 2) : S4x352x1024.Idx) := by blk_ext [e]
  exact congrArg (mArr m c) h.symm

theorem final_v : (dats m 0 c).arrAt 10 cfg0.N = vArr m c := by
  refine (dats m 0 c).arrAt_eq_of_covers 10 _ (by decide +kernel) fun t hf y => ?_
  blk_simp; rw [after0_10]; rw [outs_v]
  have e := (idx t).2.2.2.2.2.2.2.2.2.2
  have h : ((cfg0.win 10).blk t).view.emb y = (ix3 (lay t) (row t (y 1)) (y 2) : S4x352x1024.Idx) := by blk_ext [e]
  exact congrArg (vArr m c) h.symm

end Kernel

section Claim
open Cert.WdownIdeal Cert.WdownIdeal.Gen Cert.WdownIdeal.Read
attribute [local instance] Cert.WdownStepIdeal.Gen.facts Cert.WdownIdeal.Gen.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run _ _ _).mono (fun r h => ⟨fun c => (h c).2.2.2.2, sem_eq_zero_of_no_sems (by decide) r.2⟩)
    (Cert.WdownIdeal.Value.run m g)

/-- The kernel's results are the reference's. -/
theorem algebraic : Cert.algebraic_WdownStepIdeal_WdownIdeal := by
  intro m g m' g' pre agree
  refine ⟨fun c => gArr m c, fun c => dArr m c, fun c => mArr m c, fun c => vArr m c, ?_, ?_⟩
  · refine (θ_run _ _ _).mono (fun r h c => ?_) (Cert.WdownStepIdeal.Value.run_blocks m g)
    obtain ⟨h0, h1, h2, h3, h⟩ := h c
    exact ⟨h0.trans (final_g m c), h1.trans (final_d m c), h2.trans (final_m m c), h3.trans (final_v m c), h⟩
  · refine (θ_run _ _ _).mono (fun r h c => ?_) (Cert.WdownIdeal.Value.run m' g')
    obtain ⟨h0, h1, h2, h3, h⟩ := h c
    obtain ⟨e0, e1, e2, e3, e4, e5, e6⟩ := agree c
    refine ⟨(h0.trans (val_main_v12_eq _ _ _ _)).trans ?_, (h1.trans (val_main_v36_eq _ _)).trans ?_,
      (h2.trans (val_main_v17_eq _ _ _ _ _)).trans ?_, (h3.trans (val_main_v23_eq _ _ _ _ _)).trans ?_, h⟩
    · funext i; rw [e0, e1, e2, e3, eq_ix3 i]; exact ref_g _ _ _ _ (i 0) (i 1) (i 2)
    · funext i; rw [e0, e1, e2, e3, e4, e5, e6, eq_ix3 i]; exact ref_d _ _ _ _ _ _ _ (i 0) (i 1) (i 2)
    · funext i; rw [e0, e1, e2, e3, e5, eq_ix3 i]; exact ref_m _ _ _ _ _ (i 0) (i 1) (i 2)
    · funext i; rw [e0, e1, e2, e3, e6, eq_ix3 i]; exact ref_v _ _ _ _ _ (i 0) (i 1) (i 2)

end Claim

end Cert.WdownStepClaim

end
-- ==== Proof.WguStepClaim.lean ====
/- The optimiser's step of the weight of the gate and up projections, of one device. At every layer the kernel sums the devices' parts of
   the gradient one after the other and reads from the sum the change of the weight and the two moments, tile by tile.
   The reference sums each layer's parts at once. No entry needs to be finite. -/
module

public import proofs.«01_k».proof.Defs
public import proofs.«01_k».proof.Proof.Adamw
public import proofs.«01_k».proof.Proof.Gen.WguStepIdeal.Value
public import proofs.«01_k».proof.Proof.Gen.WguIdeal.Run
public import proofs.«01_k».proof.Proof.Gen.WguIdeal.Read
public import Idealize.ShloMosaic.Lib.Pipeline.ValueKit

@[expose] public section

set_option maxRecDepth 16384
set_option maxHeartbeats 1600000

noncomputable section

open Idealize.ShloMosaic Idealize.ShloMosaic.TcCoe Idealize.SL.Sem
open Idealize.ShloMosaic.Pipeline (Dat)

namespace Cert.WguStepClaim
open Cert.Adamw

abbrev Arr (s : Shape) := BufTy.Contents (Elt Ideal) ⟨s, .f32⟩

section Reference
open Cert.WguIdeal Cert.WguIdeal.Read
variable (p0 : Arr S4x704x1024) (p1 : Arr S4x704x1024) (p2 : Arr S4x704x1024) (p3 : Arr S4x704x1024) (w mo ve : Arr S4x1024x704)

/-- The gradient at a layer's entry: the sum of the devices' parts of it. -/
def grad (l : Fin 4) (i : Fin 704) (j : Fin 1024) : EReal := match l with
  | 0 => ∑ k : Fin 4, p0 (ix3 k i j)
  | 1 => ∑ k : Fin 4, p1 (ix3 k i j)
  | 2 => ∑ k : Fin 4, p2 (ix3 k i j)
  | 3 => ∑ k : Fin 4, p3 (ix3 k i j)

/-! One layer of it, as the reference stacks them. -/

theorem layer0 (o : Fin 1) (i j) : val_main_v8 (F := Ideal) p0 (ix3 o i j) = ∑ k : Fin 4, p0 (ix3 k i j) := by
  pointwise [val_main_v8, val_main_v1, val_main_v0, val_main_cst]

theorem layer1 (o : Fin 1) (i j) : val_main_v9 (F := Ideal) p1 (ix3 o i j) = ∑ k : Fin 4, p1 (ix3 k i j) := by
  pointwise [val_main_v9, val_main_v3, val_main_v2, val_main_cst_0]

theorem layer2 (o : Fin 1) (i j) : val_main_v10 (F := Ideal) p2 (ix3 o i j) = ∑ k : Fin 4, p2 (ix3 k i j) := by
  pointwise [val_main_v10, val_main_v5, val_main_v4, val_main_cst_1]

theorem layer3 (o : Fin 1) (i j) : val_main_v11 (F := Ideal) p3 (ix3 o i j) = ∑ k : Fin 4, p3 (ix3 k i j) := by
  pointwise [val_main_v11, val_main_v7, val_main_v6, val_main_cst_2]

/-- The stack of the layers. -/
theorem stack (l i j) : val_main_v12 (F := Ideal) p0 p1 p2 p3 (ix3 l i j) = grad p0 p1 p2 p3 l i j := by
  unfold val_main_v12
  concat_tiles x h
  · rw [show l = 0 from Fin.ext h, eq_ix3 x, show x 1 = i from Fin.ext h1, show x 2 = j from Fin.ext h2]; exact layer0 p0 _ i j
  · rw [show l = 1 from Fin.ext h, eq_ix3 x, show x 1 = i from Fin.ext h1, show x 2 = j from Fin.ext h2]; exact layer1 p1 _ i j
  · rw [show l = 2 from Fin.ext h, eq_ix3 x, show x 1 = i from Fin.ext h1, show x 2 = j from Fin.ext h2]; exact layer2 p2 _ i j
  · rw [show l = 3 from Fin.ext h, eq_ix3 x, show x 1 = i from Fin.ext h1, show x 2 = j from Fin.ext h2]; exact layer3 p3 _ i j

/-- The reference's own gradient, transposed as the weight is. -/
theorem turned (l j i) : val_main_v13 (F := Ideal) p0 p1 p2 p3 (ix3 l j i) = grad p0 p1 p2 p3 l i j := by
  refine Eq.trans ?_ (stack p0 p1 p2 p3 l i j)
  pointwise [val_main_v13]

theorem ref_g (l i j) : val_main_v38 (F := Ideal) p0 p1 p2 p3 (ix3 l i j) = grad p0 p1 p2 p3 l i j := by
  refine Eq.trans ?_ (turned p0 p1 p2 p3 l j i)
  pointwise [val_main_v38]

theorem ref_m (l i j) : val_main_v40 (F := Ideal) p0 p1 p2 p3 mo (ix3 l i j) = newM (grad p0 p1 p2 p3 l i j) (mo (ix3 l j i)) := by
  refine Eq.trans (b := val_main_v18 (F := Ideal) p0 p1 p2 p3 mo (ix3 l j i)) (by pointwise [val_main_v40]) ?_
  exact (show _ = newM (val_main_v13 (F := Ideal) p0 p1 p2 p3 (ix3 l j i)) (mo (ix3 l j i)) from rfl).trans (by rw [turned])

theorem ref_v (l i j) : val_main_v41 (F := Ideal) p0 p1 p2 p3 ve (ix3 l i j) = newV (grad p0 p1 p2 p3 l i j) (ve (ix3 l j i)) := by
  refine Eq.trans (b := val_main_v24 (F := Ideal) p0 p1 p2 p3 ve (ix3 l j i)) (by pointwise [val_main_v41]) ?_
  exact (show _ = newV (val_main_v13 (F := Ideal) p0 p1 p2 p3 (ix3 l j i)) (ve (ix3 l j i)) from rfl).trans (by rw [turned])

theorem ref_d (l i j) : val_main_v39 (F := Ideal) p0 p1 p2 p3 w mo ve (ix3 l i j)
    = delta (w (ix3 l j i)) (grad p0 p1 p2 p3 l i j) (mo (ix3 l j i)) (ve (ix3 l j i)) := by
  refine Eq.trans (b := val_main_v37 (F := Ideal) p0 p1 p2 p3 w mo ve (ix3 l j i)) (by pointwise [val_main_v39]) ?_
  exact (show _ = delta (w (ix3 l j i)) (val_main_v13 (F := Ideal) p0 p1 p2 p3 (ix3 l j i)) (mo (ix3 l j i)) (ve (ix3 l j i)) from rfl).trans
    (by rw [turned])

end Reference

section Payload
open Cert.WguStepIdeal Cert.WguStepIdeal.Gen

/-- A load of one device's part. -/
theorem load4 (x : Vec Ideal S4x352x1024 .bf16) (k : Fin 4) (inb) (i : Fin 352) (j : Fin 1024) :
    View.ld x (Rect.unit ![k.val, 0, 0] ![1, 352, 1024] inb) (ix3 0 i j) = x (ix3 k i j) := by
  refine View.ld_unit_apply_of _ _ _ _ _ _ fun a => ?_
  fin_cases a <;> simp [ix3]

variable (w mo ve : Vec Ideal S1x352x1024 .f32)

/-- Four parts, summed in the body. -/
theorem sum4' (a0 a1 a2 a3 : Vec Ideal S1x352x1024 .bf16) (i j) : k0_pay17 a0 a1 a2 a3 (ix2 i j)
    = (a0 (ix3 0 i j) : EReal) + (a1 (ix3 0 i j) : EReal) + (a2 (ix3 0 i j) : EReal) + (a3 (ix3 0 i j) : EReal) := by
  pointwise [k0_pay17]

/-! What each block of results holds, read from the sum of four parts. -/

section Four
variable (a0 a1 a2 a3 : Vec Ideal S1x352x1024 .bf16)

theorem out_g4 (o : Fin 1) (i j) : k0_pay18 a0 a1 a2 a3 (ix3 o i j) = k0_pay17 a0 a1 a2 a3 (ix2 i j) := by
  pointwise [k0_pay18]

theorem cell_m4 (i j) : k0_pay20 a0 a1 a2 a3 mo (ix2 i j) = newM (k0_pay17 a0 a1 a2 a3 (ix2 i j)) (mo (ix3 0 i j)) := by
  pointwise [k0_pay20]; rfl

theorem cell_v4 (i j) : k0_pay1 (k0_pay21 ve) (k0_pay22 a0 a1 a2 a3) (ix2 i j) = newV (k0_pay17 a0 a1 a2 a3 (ix2 i j)) (ve (ix3 0 i j)) := by
  pointwise [k0_pay1, k0_pay21, k0_pay22]; rfl

theorem out_m4 (o : Fin 1) (i j) : k0_pay3 (k0_pay20 a0 a1 a2 a3 mo) (ix3 o i j) = newM (k0_pay17 a0 a1 a2 a3 (ix2 i j)) (mo (ix3 0 i j)) := by
  refine Eq.trans ?_ (cell_m4 mo a0 a1 a2 a3 i j)
  pointwise [k0_pay3]

theorem out_v4 (o : Fin 1) (i j) : k0_pay4 (k0_pay21 ve) (k0_pay22 a0 a1 a2 a3) (ix3 o i j)
    = newV (k0_pay17 a0 a1 a2 a3 (ix2 i j)) (ve (ix3 0 i j)) := by
  refine Eq.trans ?_ (cell_v4 ve a0 a1 a2 a3 i j)
  pointwise [k0_pay4]

theorem out_d4 (o : Fin 1) (i j) : k0_pay2 (k0_pay19 w) (k0_pay20 a0 a1 a2 a3 mo) (k0_pay21 ve) (k0_pay22 a0 a1 a2 a3) (ix3 o i j)
    = delta (w (ix3 0 i j)) (k0_pay17 a0 a1 a2 a3 (ix2 i j)) (mo (ix3 0 i j)) (ve (ix3 0 i j)) := by
  unfold delta; rw [← cell_m4 mo a0 a1 a2 a3 i j, ← cell_v4 ve a0 a1 a2 a3 i j]
  pointwise [k0_pay2, k0_pay19]

end Four

end Payload

section Kernel
open Cert.WguStepIdeal Cert.WguStepIdeal.Gen

variable (m : (ℓ : Loc nD τ sig) → Buf (Elt Ideal) ℓ) (c : Dev nD)

/-! The arguments: the four layers' parts, the weight and its moments. -/
abbrev aP0 : Arr S4x704x1024 := m ((c.tc : Thread nD τ).loc main_arg0)
abbrev aP1 : Arr S4x704x1024 := m ((c.tc : Thread nD τ).loc main_arg1)
abbrev aP2 : Arr S4x704x1024 := m ((c.tc : Thread nD τ).loc main_arg2)
abbrev aP3 : Arr S4x704x1024 := m ((c.tc : Thread nD τ).loc main_arg3)
abbrev aW : Arr S4x1024x704 := m ((c.tc : Thread nD τ).loc main_arg4)
abbrev aM : Arr S4x1024x704 := m ((c.tc : Thread nD τ).loc main_arg5)
abbrev aV : Arr S4x1024x704 := m ((c.tc : Thread nD τ).loc main_arg6)

/-- Which block of its array each window holds at grid point `t`; a layer's parts only at that layer's points. -/
theorem idx : ∀ t : Fin cfg0.N, (t.val / 2 = 0 → win0_0.index t = ![0, t.val % 2, 0]) ∧ (t.val / 2 = 1 → win0_1.index t = ![0, t.val % 2, 0]) ∧ (t.val / 2 = 2 → win0_2.index t = ![0, t.val % 2, 0]) ∧ (t.val / 2 = 3 → win0_3.index t = ![0, t.val % 2, 0])
    ∧ win0_4.index t = ![t.val / 2, t.val % 2, 0] ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] ∧ win0_9.index t = ![t.val / 2, t.val % 2, 0] ∧ win0_10.index t = ![t.val / 2, t.val % 2, 0] :=
  (by decide +kernel : ∀ t : Fin grid0.N, _)

/-- The layer of a grid point, and the row of the whole array that row `r` of its block is. -/
abbrev lay (t : Fin cfg0.N) : Fin 4 := ⟨t.val / 2, by have h : t.val < 8 := t.isLt; omega⟩
abbrev row (t : Fin cfg0.N) (r : Fin 352) : Fin 704 := ⟨t.val % 2 * 352 + r.val, by omega⟩

/-- The gradient at an entry of a grid point's block. -/
abbrev gradAt (t : Fin cfg0.N) (i : Fin 352) (j : Fin 1024) : EReal :=
  grad (aP0 m c) (aP1 m c) (aP2 m c) (aP3 m c) (lay t) (row t i) j

theorem blk0 (t : Fin cfg0.N) (h : t.val / 2 = 0) (k : Fin 4) (i : Fin 352) (j : Fin 1024) :
    iblk m c 0 t (ix3 k i j) = aP0 m c (ix3 k (row t i) j) := by
  have e := (idx t).1 h
  blk_ext [iblk, V, e]

theorem blk1 (t : Fin cfg0.N) (h : t.val / 2 = 1) (k : Fin 4) (i : Fin 352) (j : Fin 1024) :
    iblk m c 1 t (ix3 k i j) = aP1 m c (ix3 k (row t i) j) := by
  have e := (idx t).2.1 h
  blk_ext [iblk, V, e]

theorem blk2 (t : Fin cfg0.N) (h : t.val / 2 = 2) (k : Fin 4) (i : Fin 352) (j : Fin 1024) :
    iblk m c 2 t (ix3 k i j) = aP2 m c (ix3 k (row t i) j) := by
  have e := (idx t).2.2.1 h
  blk_ext [iblk, V, e]

theorem blk3 (t : Fin cfg0.N) (h : t.val / 2 = 3) (k : Fin 4) (i : Fin 352) (j : Fin 1024) :
    iblk m c 3 t (ix3 k i j) = aP3 m c (ix3 k (row t i) j) := by
  have e := (idx t).2.2.2.1 h
  blk_ext [iblk, V, e]

theorem host_w (l i j) : V m c main_v0 (ix3 l i j) = aW m c (ix3 l j i) := by
  rw [show V m c main_v0 = transpose S4x704x1024 [0, 2, 1] (aW m c) transposes_S4x1024x704_S4x704x1024_0_2_1 from by entry_read; rfl]
  pointwise

theorem host_m (l i j) : V m c main_v1 (ix3 l i j) = aM m c (ix3 l j i) := by
  rw [show V m c main_v1 = transpose S4x704x1024 [0, 2, 1] (aM m c) transposes_S4x1024x704_S4x704x1024_0_2_1 from by entry_read; rfl]
  pointwise

theorem host_v (l i j) : V m c main_v2 (ix3 l i j) = aV m c (ix3 l j i) := by
  rw [show V m c main_v2 = transpose S4x704x1024 [0, 2, 1] (aV m c) transposes_S4x1024x704_S4x704x1024_0_2_1 from by entry_read; rfl]
  pointwise

theorem blk_w (t : Fin cfg0.N) (o : Fin 1) (i : Fin 352) (j : Fin 1024) :
    iblk m c 4 t (ix3 o i j) = aW m c (ix3 (lay t) j (row t i)) := by
  have e := (idx t).2.2.2.2.1
  refine Eq.trans ?_ (host_w m c (lay t) (row t i) j)
  blk_ext [iblk, e]

theorem blk_m (t : Fin cfg0.N) (o : Fin 1) (i : Fin 352) (j : Fin 1024) :
    iblk m c 5 t (ix3 o i j) = aM m c (ix3 (lay t) j (row t i)) := by
  have e := (idx t).2.2.2.2.2.1
  refine Eq.trans ?_ (host_m m c (lay t) (row t i) j)
  blk_ext [iblk, e]

theorem blk_v (t : Fin cfg0.N) (o : Fin 1) (i : Fin 352) (j : Fin 1024) :
    iblk m c 6 t (ix3 o i j) = aV m c (ix3 (lay t) j (row t i)) := by
  have e := (idx t).2.2.2.2.2.2.1
  refine Eq.trans ?_ (host_v m c (lay t) (row t i) j)
  blk_ext [iblk, e]

theorem sum_layer0 (t : Fin cfg0.N) (h : t.val / 2 = 0) (i : Fin 352) (j : Fin 1024) :
    k0_pay17 (View.ld (iblk m c 0 t) (Rect.unit ![0, 0, 0] ![1, 352, 1024] inb_S4x352x1024_S1x352x1024_0_0_0)) (View.ld (iblk m c 0 t) (Rect.unit ![1, 0, 0] ![1, 352, 1024] inb_S4x352x1024_S1x352x1024_1_0_0)) (View.ld (iblk m c 0 t) (Rect.unit ![2, 0, 0] ![1, 352, 1024] inb_S4x352x1024_S1x352x1024_2_0_0)) (View.ld (iblk m c 0 t) (Rect.unit ![3, 0, 0] ![1, 352, 1024] inb_S4x352x1024_S1x352x1024_3_0_0)) (ix2 i j) = gradAt m c t i j := by
  refine (sum4' _ _ _ _ i j).trans ?_
  rw [show gradAt m c t i j = ∑ k : Fin 4, aP0 m c (ix3 k (row t i) j) from by
    show grad _ _ _ _ _ _ _ = _; rw [show lay t = 0 from Fin.ext h]; rfl]
  refine Eq.trans ?_ (Finset.sum_congr rfl fun k _ => blk0 m c t h k i j)
  refine Eq.trans ?_ (sum4 fun k => (iblk m c 0 t (ix3 k i j) : EReal))
  refine congrArg₂ (· + ·) (congrArg₂ (· + ·) (congrArg₂ (· + ·) (load4 (iblk m c 0 t) 0 _ i j) (load4 (iblk m c 0 t) 1 _ i j)) (load4 (iblk m c 0 t) 2 _ i j)) (load4 (iblk m c 0 t) 3 _ i j)

theorem sum_layer1 (t : Fin cfg0.N) (h : t.val / 2 = 1) (i : Fin 352) (j : Fin 1024) :
    k0_pay17 (View.ld (iblk m c 1 t) (Rect.unit ![0, 0, 0] ![1, 352, 1024] inb_S4x352x1024_S1x352x1024_0_0_0)) (View.ld (iblk m c 1 t) (Rect.unit ![1, 0, 0] ![1, 352, 1024] inb_S4x352x1024_S1x352x1024_1_0_0)) (View.ld (iblk m c 1 t) (Rect.unit ![2, 0, 0] ![1, 352, 1024] inb_S4x352x1024_S1x352x1024_2_0_0)) (View.ld (iblk m c 1 t) (Rect.unit ![3, 0, 0] ![1, 352, 1024] inb_S4x352x1024_S1x352x1024_3_0_0)) (ix2 i j) = gradAt m c t i j := by
  refine (sum4' _ _ _ _ i j).trans ?_
  rw [show gradAt m c t i j = ∑ k : Fin 4, aP1 m c (ix3 k (row t i) j) from by
    show grad _ _ _ _ _ _ _ = _; rw [show lay t = 1 from Fin.ext h]; rfl]
  refine Eq.trans ?_ (Finset.sum_congr rfl fun k _ => blk1 m c t h k i j)
  refine Eq.trans ?_ (sum4 fun k => (iblk m c 1 t (ix3 k i j) : EReal))
  refine congrArg₂ (· + ·) (congrArg₂ (· + ·) (congrArg₂ (· + ·) (load4 (iblk m c 1 t) 0 _ i j) (load4 (iblk m c 1 t) 1 _ i j)) (load4 (iblk m c 1 t) 2 _ i j)) (load4 (iblk m c 1 t) 3 _ i j)

theorem sum_layer2 (t : Fin cfg0.N) (h : t.val / 2 = 2) (i : Fin 352) (j : Fin 1024) :
    k0_pay17 (View.ld (iblk m c 2 t) (Rect.unit ![0, 0, 0] ![1, 352, 1024] inb_S4x352x1024_S1x352x1024_0_0_0)) (View.ld (iblk m c 2 t) (Rect.unit ![1, 0, 0] ![1, 352, 1024] inb_S4x352x1024_S1x352x1024_1_0_0)) (View.ld (iblk m c 2 t) (Rect.unit ![2, 0, 0] ![1, 352, 1024] inb_S4x352x1024_S1x352x1024_2_0_0)) (View.ld (iblk m c 2 t) (Rect.unit ![3, 0, 0] ![1, 352, 1024] inb_S4x352x1024_S1x352x1024_3_0_0)) (ix2 i j) = gradAt m c t i j := by
  refine (sum4' _ _ _ _ i j).trans ?_
  rw [show gradAt m c t i j = ∑ k : Fin 4, aP2 m c (ix3 k (row t i) j) from by
    show grad _ _ _ _ _ _ _ = _; rw [show lay t = 2 from Fin.ext h]; rfl]
  refine Eq.trans ?_ (Finset.sum_congr rfl fun k _ => blk2 m c t h k i j)
  refine Eq.trans ?_ (sum4 fun k => (iblk m c 2 t (ix3 k i j) : EReal))
  refine congrArg₂ (· + ·) (congrArg₂ (· + ·) (congrArg₂ (· + ·) (load4 (iblk m c 2 t) 0 _ i j) (load4 (iblk m c 2 t) 1 _ i j)) (load4 (iblk m c 2 t) 2 _ i j)) (load4 (iblk m c 2 t) 3 _ i j)

theorem sum_layer3 (t : Fin cfg0.N) (h : t.val / 2 = 3) (i : Fin 352) (j : Fin 1024) :
    k0_pay17 (View.ld (iblk m c 3 t) (Rect.unit ![0, 0, 0] ![1, 352, 1024] inb_S4x352x1024_S1x352x1024_0_0_0)) (View.ld (iblk m c 3 t) (Rect.unit ![1, 0, 0] ![1, 352, 1024] inb_S4x352x1024_S1x352x1024_1_0_0)) (View.ld (iblk m c 3 t) (Rect.unit ![2, 0, 0] ![1, 352, 1024] inb_S4x352x1024_S1x352x1024_2_0_0)) (View.ld (iblk m c 3 t) (Rect.unit ![3, 0, 0] ![1, 352, 1024] inb_S4x352x1024_S1x352x1024_3_0_0)) (ix2 i j) = gradAt m c t i j := by
  refine (sum4' _ _ _ _ i j).trans ?_
  rw [show gradAt m c t i j = ∑ k : Fin 4, aP3 m c (ix3 k (row t i) j) from by
    show grad _ _ _ _ _ _ _ = _; rw [show lay t = 3 from Fin.ext h]; rfl]
  refine Eq.trans ?_ (Finset.sum_congr rfl fun k _ => blk3 m c t h k i j)
  refine Eq.trans ?_ (sum4 fun k => (iblk m c 3 t (ix3 k i j) : EReal))
  refine congrArg₂ (· + ·) (congrArg₂ (· + ·) (congrArg₂ (· + ·) (load4 (iblk m c 3 t) 0 _ i j) (load4 (iblk m c 3 t) 1 _ i j)) (load4 (iblk m c 3 t) 2 _ i j)) (load4 (iblk m c 3 t) 3 _ i j)

/-- A grid point is of one of the four layers. -/
theorem which (t : Fin cfg0.N) : (t.val / 2 = 0 ∧ t.val < 2 ∧ ¬t.val / 2 % 4 = 1 ∧ ¬t.val / 2 % 4 = 2 ∧ ¬6 ≤ t.val)
    ∨ (t.val / 2 = 1 ∧ ¬t.val < 2 ∧ t.val / 2 % 4 = 1 ∧ ¬t.val / 2 % 4 = 2 ∧ ¬6 ≤ t.val)
    ∨ (t.val / 2 = 2 ∧ ¬t.val < 2 ∧ ¬t.val / 2 % 4 = 1 ∧ t.val / 2 % 4 = 2 ∧ ¬6 ≤ t.val)
    ∨ (t.val / 2 = 3 ∧ ¬t.val < 2 ∧ ¬t.val / 2 % 4 = 1 ∧ ¬t.val / 2 % 4 = 2 ∧ 6 ≤ t.val) := by
  have h : t.val < 8 := t.isLt
  omega

/-- Each grid point writes its tile of the gradient. -/
theorem outs_g (t : Fin cfg0.N) (y : S1x352x1024.Idx) : (outsAt0 m c t.val t.isLt).1 y = gradAt m c t (y 1) (y 2) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_g4 _ _ _ _ _ _ _).trans (sum_layer0 m c t h _ _)
  · rw [outsAt0_B m c t h0 h1 h2 h3]; dsimp only; frame_out; rw [eq_ix3 y]
    exact (out_g4 _ _ _ _ _ _ _).trans (sum_layer1 m c t h _ _)
  · rw [outsAt0_C m c t h0 h1 h2 h3]; dsimp only; frame_out; rw [eq_ix3 y]
    exact (out_g4 _ _ _ _ _ _ _).trans (sum_layer2 m c t h _ _)
  · rw [outsAt0_D m c t h0 h1 h2 h3]; dsimp only; frame_out; rw [eq_ix3 y]
    exact (out_g4 _ _ _ _ _ _ _).trans (sum_layer3 m c t h _ _)

/-- Its tile of the change of the weight. -/
theorem outs_d (t : Fin cfg0.N) (y : S1x352x1024.Idx) : (outsAt0 m c t.val t.isLt).2.1 y = delta (aW m c (ix3 (lay t) (y 2) (row t (y 1)))) (gradAt m c t (y 1) (y 2)) (aM m c (ix3 (lay t) (y 2) (row t (y 1)))) (aV m c (ix3 (lay t) (y 2) (row t (y 1)))) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_d4 _ _ _ _ _ _ _ _ _ _).trans (delta_congr (blk_w m c t _ _ _) (sum_layer0 m c t h _ _) (blk_m m c t _ _ _) (blk_v m c t _ _ _))
  · rw [outsAt0_B m c t h0 h1 h2 h3]; dsimp only; frame_out; rw [eq_ix3 y]
    exact (out_d4 _ _ _ _ _ _ _ _ _ _).trans (delta_congr (blk_w m c t _ _ _) (sum_layer1 m c t h _ _) (blk_m m c t _ _ _) (blk_v m c t _ _ _))
  · rw [outsAt0_C m c t h0 h1 h2 h3]; dsimp only; frame_out; rw [eq_ix3 y]
    exact (out_d4 _ _ _ _ _ _ _ _ _ _).trans (delta_congr (blk_w m c t _ _ _) (sum_layer2 m c t h _ _) (blk_m m c t _ _ _) (blk_v m c t _ _ _))
  · rw [outsAt0_D m c t h0 h1 h2 h3]; dsimp only; frame_out; rw [eq_ix3 y]
    exact (out_d4 _ _ _ _ _ _ _ _ _ _).trans (delta_congr (blk_w m c t _ _ _) (sum_layer3 m c t h _ _) (blk_m m c t _ _ _) (blk_v m c t _ _ _))

/-- Its tile of the first moment. -/
theorem outs_m (t : Fin cfg0.N) (y : S1x352x1024.Idx) : (outsAt0 m c t.val t.isLt).2.2.1 y = newM (gradAt m c t (y 1) (y 2)) (aM m c (ix3 (lay t) (y 2) (row t (y 1)))) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_m4 _ _ _ _ _ _ _ _).trans (congrArg₂ newM (sum_layer0 m c t h _ _) (blk_m m c t _ _ _))
  · rw [outsAt0_B m c t h0 h1 h2 h3]; dsimp only; frame_out; rw [eq_ix3 y]
    exact (out_m4 _ _ _ _ _ _ _ _).trans (congrArg₂ newM (sum_layer1 m c t h _ _) (blk_m m c t _ _ _))
  · rw [outsAt0_C m c t h0 h1 h2 h3]; dsimp only; frame_out; rw [eq_ix3 y]
    exact (out_m4 _ _ _ _ _ _ _ _).trans (congrArg₂ newM (sum_layer2 m c t h _ _) (blk_m m c t _ _ _))
  · rw [outsAt0_D m c t h0 h1 h2 h3]; dsimp only; frame_out; rw [eq_ix3 y]
    exact (out_m4 _ _ _ _ _ _ _ _).trans (congrArg₂ newM (sum_layer3 m c t h _ _) (blk_m m c t _ _ _))

/-- Its tile of the second moment. -/
theorem outs_v (t : Fin cfg0.N) (y : S1x352x1024.Idx) : (outsAt0 m c t.val t.isLt).2.2.2 y = newV (gradAt m c t (y 1) (y 2)) (aV m c (ix3 (lay t) (y 2) (row t (y 1)))) := by
  rcases which t with ⟨h, h0, h1, h2, h3⟩ | ⟨h, h0, h1, h2, h3⟩ | ⟨h, h0, h1, h2, h3⟩ | ⟨h, h0, h1, h2, h3⟩
  · rw [outsAt0_A m c t h0 h1 h2 h3]; dsimp only; frame_out; rw [eq_ix3 y]
    exact (out_v4 _ _ _ _ _ _ _ _).trans (congrArg₂ newV (sum_layer0 m c t h _ _) (blk_v m c t _ _ _))
  · rw [outsAt0_B m c t h0 h1 h2 h3]; dsimp only; frame_out; rw [eq_ix3 y]
    exact (out_v4 _ _ _ _ _ _ _ _).trans (congrArg₂ newV (sum_layer1 m c t h _ _) (blk_v m c t _ _ _))
  · rw [outsAt0_C m c t h0 h1 h2 h3]; dsimp only; frame_out; rw [eq_ix3 y]
    exact (out_v4 _ _ _ _ _ _ _ _).trans (congrArg₂ newV (sum_layer2 m c t h _ _) (blk_v m c t _ _ _))
  · rw [outsAt0_D m c t h0 h1 h2 h3]; dsimp only; frame_out; rw [eq_ix3 y]
    exact (out_v4 _ _ _ _ _ _ _ _).trans (congrArg₂ newV (sum_layer3 m c t h _ _) (blk_v m c t _ _ _))

/-! The four results as arrays. -/
def gArr : Arr S4x704x1024 := fun i => grad (aP0 m c) (aP1 m c) (aP2 m c) (aP3 m c) (i 0) (i 1) (i 2)
def dArr : Arr S4x704x1024 := fun i => delta (aW m c (ix3 (i 0) (i 2) (i 1))) (grad (aP0 m c) (aP1 m c) (aP2 m c) (aP3 m c) (i 0) (i 1) (i 2)) (aM m c (ix3 (i 0) (i 2) (i 1))) (aV m c (ix3 (i 0) (i 2) (i 1)))
def mArr : Arr S4x704x1024 := fun i => newM (grad (aP0 m c) (aP1 m c) (aP2 m c) (aP3 m c) (i 0) (i 1) (i 2)) (aM m c (ix3 (i 0) (i 2) (i 1)))
def vArr : Arr S4x704x1024 := fun i => newV (grad (aP0 m c) (aP1 m c) (aP2 m c) (aP3 m c) (i 0) (i 1) (i 2)) (aV m c (ix3 (i 0) (i 2) (i 1)))

attribute [local irreducible] grad delta newM newV

theorem final_g : (dats m 0 c).arrAt 7 cfg0.N = gArr m c := by
  refine (dats m 0 c).arrAt_eq_of_covers 7 _ (by decide +kernel) fun t hf y => ?_
  blk_simp; rw [after0_7]; rw [outs_g]
  have e := (idx t).2.2.2.2.2.2.2.1
  have h : ((cfg0.win 7).blk t).view.emb y = (ix3 (lay t) (row t (y 1)) (y 2) : S4x704x1024.Idx) := by blk_ext [e]
  exact congrArg (gArr m c) h.symm

theorem final_d : (dats m 0 c).arrAt 8 cfg0.N = dArr m c := by
  refine (dats m 0 c).arrAt_eq_of_covers 8 _ (by decide +kernel) fun t hf y => ?_
  blk_simp; rw [after0_8]; rw [outs_d]
  have e := (idx t).2.2.2.2.2.2.2.2.1
  have h : ((cfg0.win 8).blk t).view.emb y = (ix3 (lay t) (row t (y 1)) (y 2) : S4x704x1024.Idx) := by blk_ext [e]
  exact congrArg (dArr m c) h.symm

theorem final_m : (dats m 0 c).arrAt 9 cfg0.N = mArr m c := by
  refine (dats m 0 c).arrAt_eq_of_covers 9 _ (by decide +kernel) fun t hf y => ?_
  blk_simp; rw [after0_9]; rw [outs_m]
  have e := (idx t).2.2.2.2.2.2.2.2.2.1
  have h : ((cfg0.win 9).blk t).view.emb y = (ix3 (lay t) (row t (y 1)) (y 2) : S4x704x1024.Idx) := by blk_ext [e]
  exact congrArg (mArr m c) h.symm

theorem final_v : (dats m 0 c).arrAt 10 cfg0.N = vArr m c := by
  refine (dats m 0 c).arrAt_eq_of_covers 10 _ (by decide +kernel) fun t hf y => ?_
  blk_simp; rw [after0_10]; rw [outs_v]
  have e := (idx t).2.2.2.2.2.2.2.2.2.2
  have h : ((cfg0.win 10).blk t).view.emb y = (ix3 (lay t) (row t (y 1)) (y 2) : S4x704x1024.Idx) := by blk_ext [e]
  exact congrArg (vArr m c) h.symm

end Kernel

section Claim
open Cert.WguIdeal Cert.WguIdeal.Gen Cert.WguIdeal.Read
attribute [local instance] Cert.WguStepIdeal.Gen.facts Cert.WguIdeal.Gen.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run _ _ _).mono (fun r h => ⟨fun c => (h c).2.2.2.2, sem_eq_zero_of_no_sems (by decide) r.2⟩)
    (Cert.WguIdeal.Value.run m g)

/-- The kernel's results are the reference's. -/
theorem algebraic : Cert.algebraic_WguStepIdeal_WguIdeal := by
  intro m g m' g' pre agree
  refine ⟨fun c => gArr m c, fun c => dArr m c, fun c => mArr m c, fun c => vArr m c, ?_, ?_⟩
  · refine (θ_run _ _ _).mono (fun r h c => ?_) (Cert.WguStepIdeal.Value.run_blocks m g)
    obtain ⟨h0, h1, h2, h3, h⟩ := h c
    exact ⟨h0.trans (final_g m c), h1.trans (final_d m c), h2.trans (final_m m c), h3.trans (final_v m c), h⟩
  · refine (θ_run _ _ _).mono (fun r h c => ?_) (Cert.WguIdeal.Value.run m' g')
    obtain ⟨h0, h1, h2, h3, h⟩ := h c
    obtain ⟨e0, e1, e2, e3, e4, e5, e6⟩ := agree c
    refine ⟨(h0.trans (val_main_v38_eq _ _ _ _)).trans ?_, (h1.trans (val_main_v39_eq _ _)).trans ?_,
      (h2.trans (val_main_v40_eq _ _ _ _ _)).trans ?_, (h3.trans (val_main_v41_eq _ _ _ _ _)).trans ?_, h⟩
    · funext i; rw [e0, e1, e2, e3, eq_ix3 i]; exact ref_g _ _ _ _ (i 0) (i 1) (i 2)
    · funext i; rw [e0, e1, e2, e3, e4, e5, e6, eq_ix3 i]; exact ref_d _ _ _ _ _ _ _ (i 0) (i 1) (i 2)
    · funext i; rw [e0, e1, e2, e3, e5, eq_ix3 i]; exact ref_m _ _ _ _ _ (i 0) (i 1) (i 2)
    · funext i; rw [e0, e1, e2, e3, e6, eq_ix3 i]; exact ref_v _ _ _ _ _ (i 0) (i 1) (i 2)

end Claim

end Cert.WguStepClaim

end
-- ==== Proof.SmallRun.lean ====
/- One run of the body of the optimiser's call for the norms' weights: what it leaves in its results, from its arguments. -/
module

public import proofs.«01_k».proof.Proof.Gen.SmallStepIdeal.Frame.Runs
public import Idealize.ShloMosaic.Lib.Pipeline.ValueKit.Basic

@[expose] public section

set_option maxRecDepth 16384
set_option maxHeartbeats 6400000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.SmallRun
open Cert.SmallStepIdeal Cert.SmallStepIdeal.Gen

variable {F : FTy → Type} [FloatOps F]

local notation "𝕄" => MT nD τ sig Unit (Elt F) ℕ (UR sig nD τ) ℕ

/-- What the body reads: the devices' packed parts, and of each norm the weight and its two moments. -/
structure Blocks (F : FTy → Type) where
  p : Vec F S8x32x1024 .f32
  w0 : Vec F S4x1024 .f32
  w1 : Vec F S4x1024 .f32
  w2 : Vec F S4x1024 .f32
  w3 : Vec F S4x1024 .f32
  w4 : Vec F S4x512 .f32
  w5 : Vec F S4x512 .f32
  m0 : Vec F S4x1024 .f32
  m1 : Vec F S4x1024 .f32
  m2 : Vec F S4x1024 .f32
  m3 : Vec F S4x1024 .f32
  m4 : Vec F S4x512 .f32
  m5 : Vec F S4x512 .f32
  v0 : Vec F S4x1024 .f32
  v1 : Vec F S4x1024 .f32
  v2 : Vec F S4x1024 .f32
  v3 : Vec F S4x1024 .f32
  v4 : Vec F S4x512 .f32
  v5 : Vec F S4x512 .f32

namespace Blocks
variable (X : Blocks F)

/-- The devices' parts, summed. -/
def total : Vec F S32x1024 .f32 :=
  k0_pay1 (View.ld X.p (Rect.unit (s := S8x32x1024) ![0, 0, 0] S1x32x1024.size inb_S8x32x1024_S1x32x1024_0_0_0))
    (View.ld X.p (Rect.unit (s := S8x32x1024) ![1, 0, 0] S1x32x1024.size inb_S8x32x1024_S1x32x1024_1_0_0))
    (View.ld X.p (Rect.unit (s := S8x32x1024) ![2, 0, 0] S1x32x1024.size inb_S8x32x1024_S1x32x1024_2_0_0))
    (View.ld X.p (Rect.unit (s := S8x32x1024) ![3, 0, 0] S1x32x1024.size inb_S8x32x1024_S1x32x1024_3_0_0))
    (View.ld X.p (Rect.unit (s := S8x32x1024) ![4, 0, 0] S1x32x1024.size inb_S8x32x1024_S1x32x1024_4_0_0))
    (View.ld X.p (Rect.unit (s := S8x32x1024) ![5, 0, 0] S1x32x1024.size inb_S8x32x1024_S1x32x1024_5_0_0))
    (View.ld X.p (Rect.unit (s := S8x32x1024) ![6, 0, 0] S1x32x1024.size inb_S8x32x1024_S1x32x1024_6_0_0))
    (View.ld X.p (Rect.unit (s := S8x32x1024) ![7, 0, 0] S1x32x1024.size inb_S8x32x1024_S1x32x1024_7_0_0))

/-! Each norm's summed gradient, the change of its weight and its new moments, from the sum `s`. -/
variable (s : Vec F S32x1024 .f32)
def g0 : Vec F S4x1024 .f32 :=
  k0_pay2 (View.ld s (Rect.unit (s := S32x1024) ![0, 0] S1x1024.size inb_S32x1024_S1x1024_0_0)) (View.ld s (Rect.unit (s := S32x1024) ![8, 0] S1x1024.size inb_S32x1024_S1x1024_8_0)) (View.ld s (Rect.unit (s := S32x1024) ![16, 0] S1x1024.size inb_S32x1024_S1x1024_16_0)) (View.ld s (Rect.unit (s := S32x1024) ![24, 0] S1x1024.size inb_S32x1024_S1x1024_24_0))
def d0 : Vec F S4x1024 .f32 :=
  k0_pay5 (View.ld s (Rect.unit (s := S32x1024) ![0, 0] S1x1024.size inb_S32x1024_S1x1024_0_0)) (View.ld s (Rect.unit (s := S32x1024) ![8, 0] S1x1024.size inb_S32x1024_S1x1024_8_0)) (View.ld s (Rect.unit (s := S32x1024) ![16, 0] S1x1024.size inb_S32x1024_S1x1024_16_0)) (View.ld s (Rect.unit (s := S32x1024) ![24, 0] S1x1024.size inb_S32x1024_S1x1024_24_0)) X.w0 X.m0 X.v0
def nm0 : Vec F S4x1024 .f32 :=
  k0_pay3 (View.ld s (Rect.unit (s := S32x1024) ![0, 0] S1x1024.size inb_S32x1024_S1x1024_0_0)) (View.ld s (Rect.unit (s := S32x1024) ![8, 0] S1x1024.size inb_S32x1024_S1x1024_8_0)) (View.ld s (Rect.unit (s := S32x1024) ![16, 0] S1x1024.size inb_S32x1024_S1x1024_16_0)) (View.ld s (Rect.unit (s := S32x1024) ![24, 0] S1x1024.size inb_S32x1024_S1x1024_24_0)) X.m0
def nv0 : Vec F S4x1024 .f32 :=
  k0_pay4 (View.ld s (Rect.unit (s := S32x1024) ![0, 0] S1x1024.size inb_S32x1024_S1x1024_0_0)) (View.ld s (Rect.unit (s := S32x1024) ![8, 0] S1x1024.size inb_S32x1024_S1x1024_8_0)) (View.ld s (Rect.unit (s := S32x1024) ![16, 0] S1x1024.size inb_S32x1024_S1x1024_16_0)) (View.ld s (Rect.unit (s := S32x1024) ![24, 0] S1x1024.size inb_S32x1024_S1x1024_24_0)) X.v0
def g1 : Vec F S4x1024 .f32 :=
  k0_pay6 (View.ld s (Rect.unit (s := S32x1024) ![1, 0] S1x1024.size inb_S32x1024_S1x1024_1_0)) (View.ld s (Rect.unit (s := S32x1024) ![9, 0] S1x1024.size inb_S32x1024_S1x1024_9_0)) (View.ld s (Rect.unit (s := S32x1024) ![17, 0] S1x1024.size inb_S32x1024_S1x1024_17_0)) (View.ld s (Rect.unit (s := S32x1024) ![25, 0] S1x1024.size inb_S32x1024_S1x1024_25_0))
def d1 : Vec F S4x1024 .f32 :=
  k0_pay10 (k0_pay9 (View.ld s (Rect.unit (s := S32x1024) ![1, 0] S1x1024.size inb_S32x1024_S1x1024_1_0)) (View.ld s (Rect.unit (s := S32x1024) ![9, 0] S1x1024.size inb_S32x1024_S1x1024_9_0)) (View.ld s (Rect.unit (s := S32x1024) ![17, 0] S1x1024.size inb_S32x1024_S1x1024_17_0)) (View.ld s (Rect.unit (s := S32x1024) ![25, 0] S1x1024.size inb_S32x1024_S1x1024_25_0)) X.w1 X.m1 X.v1)
def nm1 : Vec F S4x1024 .f32 :=
  k0_pay7 (View.ld s (Rect.unit (s := S32x1024) ![1, 0] S1x1024.size inb_S32x1024_S1x1024_1_0)) (View.ld s (Rect.unit (s := S32x1024) ![9, 0] S1x1024.size inb_S32x1024_S1x1024_9_0)) (View.ld s (Rect.unit (s := S32x1024) ![17, 0] S1x1024.size inb_S32x1024_S1x1024_17_0)) (View.ld s (Rect.unit (s := S32x1024) ![25, 0] S1x1024.size inb_S32x1024_S1x1024_25_0)) X.m1
def nv1 : Vec F S4x1024 .f32 :=
  k0_pay8 (View.ld s (Rect.unit (s := S32x1024) ![1, 0] S1x1024.size inb_S32x1024_S1x1024_1_0)) (View.ld s (Rect.unit (s := S32x1024) ![9, 0] S1x1024.size inb_S32x1024_S1x1024_9_0)) (View.ld s (Rect.unit (s := S32x1024) ![17, 0] S1x1024.size inb_S32x1024_S1x1024_17_0)) (View.ld s (Rect.unit (s := S32x1024) ![25, 0] S1x1024.size inb_S32x1024_S1x1024_25_0)) X.v1
def g2 : Vec F S4x1024 .f32 :=
  k0_pay11 (View.ld s (Rect.unit (s := S32x1024) ![2, 0] S1x1024.size inb_S32x1024_S1x1024_2_0)) (View.ld s (Rect.unit (s := S32x1024) ![10, 0] S1x1024.size inb_S32x1024_S1x1024_10_0)) (View.ld s (Rect.unit (s := S32x1024) ![18, 0] S1x1024.size inb_S32x1024_S1x1024_18_0)) (View.ld s (Rect.unit (s := S32x1024) ![26, 0] S1x1024.size inb_S32x1024_S1x1024_26_0))
def d2 : Vec F S4x1024 .f32 :=
  k0_pay15 X.w2 (k0_pay13 (View.ld s (Rect.unit (s := S32x1024) ![2, 0] S1x1024.size inb_S32x1024_S1x1024_2_0)) (View.ld s (Rect.unit (s := S32x1024) ![10, 0] S1x1024.size inb_S32x1024_S1x1024_10_0)) (View.ld s (Rect.unit (s := S32x1024) ![18, 0] S1x1024.size inb_S32x1024_S1x1024_18_0)) (View.ld s (Rect.unit (s := S32x1024) ![26, 0] S1x1024.size inb_S32x1024_S1x1024_26_0)) X.v2) (k0_pay14 (View.ld s (Rect.unit (s := S32x1024) ![2, 0] S1x1024.size inb_S32x1024_S1x1024_2_0)) (View.ld s (Rect.unit (s := S32x1024) ![10, 0] S1x1024.size inb_S32x1024_S1x1024_10_0)) (View.ld s (Rect.unit (s := S32x1024) ![18, 0] S1x1024.size inb_S32x1024_S1x1024_18_0)) (View.ld s (Rect.unit (s := S32x1024) ![26, 0] S1x1024.size inb_S32x1024_S1x1024_26_0)) X.m2) (Scalar.ofBits .f32 0x3C231ACC#32)
def nm2 : Vec F S4x1024 .f32 :=
  k0_pay12 (View.ld s (Rect.unit (s := S32x1024) ![2, 0] S1x1024.size inb_S32x1024_S1x1024_2_0)) (View.ld s (Rect.unit (s := S32x1024) ![10, 0] S1x1024.size inb_S32x1024_S1x1024_10_0)) (View.ld s (Rect.unit (s := S32x1024) ![18, 0] S1x1024.size inb_S32x1024_S1x1024_18_0)) (View.ld s (Rect.unit (s := S32x1024) ![26, 0] S1x1024.size inb_S32x1024_S1x1024_26_0)) X.m2
def nv2 : Vec F S4x1024 .f32 :=
  k0_pay13 (View.ld s (Rect.unit (s := S32x1024) ![2, 0] S1x1024.size inb_S32x1024_S1x1024_2_0)) (View.ld s (Rect.unit (s := S32x1024) ![10, 0] S1x1024.size inb_S32x1024_S1x1024_10_0)) (View.ld s (Rect.unit (s := S32x1024) ![18, 0] S1x1024.size inb_S32x1024_S1x1024_18_0)) (View.ld s (Rect.unit (s := S32x1024) ![26, 0] S1x1024.size inb_S32x1024_S1x1024_26_0)) X.v2
def g3 : Vec F S4x1024 .f32 :=
  k0_pay16 (View.ld s (Rect.unit (s := S32x1024) ![3, 0] S1x1024.size inb_S32x1024_S1x1024_3_0)) (View.ld s (Rect.unit (s := S32x1024) ![11, 0] S1x1024.size inb_S32x1024_S1x1024_11_0)) (View.ld s (Rect.unit (s := S32x1024) ![19, 0] S1x1024.size inb_S32x1024_S1x1024_19_0)) (View.ld s (Rect.unit (s := S32x1024) ![27, 0] S1x1024.size inb_S32x1024_S1x1024_27_0))
def d3 : Vec F S4x1024 .f32 :=
  k0_pay19 (k0_pay16 (View.ld s (Rect.unit (s := S32x1024) ![3, 0] S1x1024.size inb_S32x1024_S1x1024_3_0)) (View.ld s (Rect.unit (s := S32x1024) ![11, 0] S1x1024.size inb_S32x1024_S1x1024_11_0)) (View.ld s (Rect.unit (s := S32x1024) ![19, 0] S1x1024.size inb_S32x1024_S1x1024_19_0)) (View.ld s (Rect.unit (s := S32x1024) ![27, 0] S1x1024.size inb_S32x1024_S1x1024_27_0))) X.w3 X.v3 (k0_pay17 (View.ld s (Rect.unit (s := S32x1024) ![3, 0] S1x1024.size inb_S32x1024_S1x1024_3_0)) (View.ld s (Rect.unit (s := S32x1024) ![11, 0] S1x1024.size inb_S32x1024_S1x1024_11_0)) (View.ld s (Rect.unit (s := S32x1024) ![19, 0] S1x1024.size inb_S32x1024_S1x1024_19_0)) (View.ld s (Rect.unit (s := S32x1024) ![27, 0] S1x1024.size inb_S32x1024_S1x1024_27_0)) X.m3) (Scalar.ofBits .f32 0x3F7FBE77#32)
def nm3 : Vec F S4x1024 .f32 :=
  k0_pay17 (View.ld s (Rect.unit (s := S32x1024) ![3, 0] S1x1024.size inb_S32x1024_S1x1024_3_0)) (View.ld s (Rect.unit (s := S32x1024) ![11, 0] S1x1024.size inb_S32x1024_S1x1024_11_0)) (View.ld s (Rect.unit (s := S32x1024) ![19, 0] S1x1024.size inb_S32x1024_S1x1024_19_0)) (View.ld s (Rect.unit (s := S32x1024) ![27, 0] S1x1024.size inb_S32x1024_S1x1024_27_0)) X.m3
def nv3 : Vec F S4x1024 .f32 :=
  k0_pay18 (k0_pay16 (View.ld s (Rect.unit (s := S32x1024) ![3, 0] S1x1024.size inb_S32x1024_S1x1024_3_0)) (View.ld s (Rect.unit (s := S32x1024) ![11, 0] S1x1024.size inb_S32x1024_S1x1024_11_0)) (View.ld s (Rect.unit (s := S32x1024) ![19, 0] S1x1024.size inb_S32x1024_S1x1024_19_0)) (View.ld s (Rect.unit (s := S32x1024) ![27, 0] S1x1024.size inb_S32x1024_S1x1024_27_0))) X.v3 (Scalar.ofBits .f32 0x3F7FBE77#32)
def g4 : Vec F S4x512 .f32 :=
  k0_pay20 (View.ld s (Rect.unit (s := S32x1024) ![4, 0] S1x512.size inb_S32x1024_S1x512_4_0)) (View.ld s (Rect.unit (s := S32x1024) ![12, 0] S1x512.size inb_S32x1024_S1x512_12_0)) (View.ld s (Rect.unit (s := S32x1024) ![20, 0] S1x512.size inb_S32x1024_S1x512_20_0)) (View.ld s (Rect.unit (s := S32x1024) ![28, 0] S1x512.size inb_S32x1024_S1x512_28_0))
def d4 : Vec F S4x512 .f32 :=
  k0_pay23 (k0_pay20 (View.ld s (Rect.unit (s := S32x1024) ![4, 0] S1x512.size inb_S32x1024_S1x512_4_0)) (View.ld s (Rect.unit (s := S32x1024) ![12, 0] S1x512.size inb_S32x1024_S1x512_12_0)) (View.ld s (Rect.unit (s := S32x1024) ![20, 0] S1x512.size inb_S32x1024_S1x512_20_0)) (View.ld s (Rect.unit (s := S32x1024) ![28, 0] S1x512.size inb_S32x1024_S1x512_28_0))) X.w4 X.m4 X.v4
def nm4 : Vec F S4x512 .f32 :=
  k0_pay21 (k0_pay20 (View.ld s (Rect.unit (s := S32x1024) ![4, 0] S1x512.size inb_S32x1024_S1x512_4_0)) (View.ld s (Rect.unit (s := S32x1024) ![12, 0] S1x512.size inb_S32x1024_S1x512_12_0)) (View.ld s (Rect.unit (s := S32x1024) ![20, 0] S1x512.size inb_S32x1024_S1x512_20_0)) (View.ld s (Rect.unit (s := S32x1024) ![28, 0] S1x512.size inb_S32x1024_S1x512_28_0))) X.m4
def nv4 : Vec F S4x512 .f32 :=
  k0_pay22 (k0_pay20 (View.ld s (Rect.unit (s := S32x1024) ![4, 0] S1x512.size inb_S32x1024_S1x512_4_0)) (View.ld s (Rect.unit (s := S32x1024) ![12, 0] S1x512.size inb_S32x1024_S1x512_12_0)) (View.ld s (Rect.unit (s := S32x1024) ![20, 0] S1x512.size inb_S32x1024_S1x512_20_0)) (View.ld s (Rect.unit (s := S32x1024) ![28, 0] S1x512.size inb_S32x1024_S1x512_28_0))) X.v4
def g5 : Vec F S4x512 .f32 :=
  k0_pay24 (View.ld s (Rect.unit (s := S32x1024) ![4, 512] S1x512.size inb_S32x1024_S1x512_4_512)) (View.ld s (Rect.unit (s := S32x1024) ![12, 512] S1x512.size inb_S32x1024_S1x512_12_512)) (View.ld s (Rect.unit (s := S32x1024) ![20, 512] S1x512.size inb_S32x1024_S1x512_20_512)) (View.ld s (Rect.unit (s := S32x1024) ![28, 512] S1x512.size inb_S32x1024_S1x512_28_512))
def d5 : Vec F S4x512 .f32 :=
  k0_pay27 (View.ld s (Rect.unit (s := S32x1024) ![4, 512] S1x512.size inb_S32x1024_S1x512_4_512)) (View.ld s (Rect.unit (s := S32x1024) ![12, 512] S1x512.size inb_S32x1024_S1x512_12_512)) (View.ld s (Rect.unit (s := S32x1024) ![20, 512] S1x512.size inb_S32x1024_S1x512_20_512)) (View.ld s (Rect.unit (s := S32x1024) ![28, 512] S1x512.size inb_S32x1024_S1x512_28_512)) X.w5 X.m5 X.v5
def nm5 : Vec F S4x512 .f32 :=
  k0_pay25 (View.ld s (Rect.unit (s := S32x1024) ![4, 512] S1x512.size inb_S32x1024_S1x512_4_512)) (View.ld s (Rect.unit (s := S32x1024) ![12, 512] S1x512.size inb_S32x1024_S1x512_12_512)) (View.ld s (Rect.unit (s := S32x1024) ![20, 512] S1x512.size inb_S32x1024_S1x512_20_512)) (View.ld s (Rect.unit (s := S32x1024) ![28, 512] S1x512.size inb_S32x1024_S1x512_28_512)) X.m5
def nv5 : Vec F S4x512 .f32 :=
  k0_pay26 (View.ld s (Rect.unit (s := S32x1024) ![4, 512] S1x512.size inb_S32x1024_S1x512_4_512)) (View.ld s (Rect.unit (s := S32x1024) ![12, 512] S1x512.size inb_S32x1024_S1x512_12_512)) (View.ld s (Rect.unit (s := S32x1024) ![20, 512] S1x512.size inb_S32x1024_S1x512_20_512)) (View.ld s (Rect.unit (s := S32x1024) ![28, 512] S1x512.size inb_S32x1024_S1x512_28_512)) X.v5

/-- The rows of the taps' gradient, the last one stored first. -/
def taps : List (View.Piece (Elt F) S4x3x512 .f32) :=
  [⟨Rect.unit (s := S4x3x512) ![3, 2, 0] S1x1x512.size inb_S4x3x512_S1x1x512_3_2_0, k0_pay39 (View.ld s (Rect.unit (s := S32x1024) ![30, 0] S1x512.size inb_S32x1024_S1x512_30_0))⟩,
    ⟨Rect.unit (s := S4x3x512) ![3, 1, 0] S1x1x512.size inb_S4x3x512_S1x1x512_3_1_0, k0_pay38 (View.ld s (Rect.unit (s := S32x1024) ![29, 512] S1x512.size inb_S32x1024_S1x512_29_512))⟩,
    ⟨Rect.unit (s := S4x3x512) ![3, 0, 0] S1x1x512.size inb_S4x3x512_S1x1x512_3_0_0, k0_pay37 (View.ld s (Rect.unit (s := S32x1024) ![29, 0] S1x512.size inb_S32x1024_S1x512_29_0))⟩,
    ⟨Rect.unit (s := S4x3x512) ![2, 2, 0] S1x1x512.size inb_S4x3x512_S1x1x512_2_2_0, k0_pay36 (View.ld s (Rect.unit (s := S32x1024) ![22, 0] S1x512.size inb_S32x1024_S1x512_22_0))⟩,
    ⟨Rect.unit (s := S4x3x512) ![2, 1, 0] S1x1x512.size inb_S4x3x512_S1x1x512_2_1_0, k0_pay35 (View.ld s (Rect.unit (s := S32x1024) ![21, 512] S1x512.size inb_S32x1024_S1x512_21_512))⟩,
    ⟨Rect.unit (s := S4x3x512) ![2, 0, 0] S1x1x512.size inb_S4x3x512_S1x1x512_2_0_0, k0_pay34 (View.ld s (Rect.unit (s := S32x1024) ![21, 0] S1x512.size inb_S32x1024_S1x512_21_0))⟩,
    ⟨Rect.unit (s := S4x3x512) ![1, 2, 0] S1x1x512.size inb_S4x3x512_S1x1x512_1_2_0, k0_pay33 (View.ld s (Rect.unit (s := S32x1024) ![14, 0] S1x512.size inb_S32x1024_S1x512_14_0))⟩,
    ⟨Rect.unit (s := S4x3x512) ![1, 1, 0] S1x1x512.size inb_S4x3x512_S1x1x512_1_1_0, k0_pay32 (View.ld s (Rect.unit (s := S32x1024) ![13, 512] S1x512.size inb_S32x1024_S1x512_13_512))⟩,
    ⟨Rect.unit (s := S4x3x512) ![1, 0, 0] S1x1x512.size inb_S4x3x512_S1x1x512_1_0_0, k0_pay31 (View.ld s (Rect.unit (s := S32x1024) ![13, 0] S1x512.size inb_S32x1024_S1x512_13_0))⟩,
    ⟨Rect.unit (s := S4x3x512) ![0, 2, 0] S1x1x512.size inb_S4x3x512_S1x1x512_0_2_0, k0_pay30 (View.ld s (Rect.unit (s := S32x1024) ![6, 0] S1x512.size inb_S32x1024_S1x512_6_0))⟩,
    ⟨Rect.unit (s := S4x3x512) ![0, 1, 0] S1x1x512.size inb_S4x3x512_S1x1x512_0_1_0, k0_pay29 (View.ld s (Rect.unit (s := S32x1024) ![5, 512] S1x512.size inb_S32x1024_S1x512_5_512))⟩,
    ⟨Rect.unit (s := S4x3x512) ![0, 0, 0] S1x1x512.size inb_S4x3x512_S1x1x512_0_0_0, k0_pay28 (View.ld s (Rect.unit (s := S32x1024) ![5, 0] S1x512.size inb_S32x1024_S1x512_5_0))⟩]

/-- The loss's entry of the sum. -/
def loss : Vec F S1x1 .f32 := View.ld s (Rect.unit (s := S32x1024) ![7, 0] S1x1.size inb_S32x1024_S1x1_7_0)
end Blocks

section whole
variable {d : Fin 2 → ℕ} {e : EltTy} {M : Memref sig .tc .vmem ⟨2, d⟩ e}

theorem zero : (![0, 0] : Fin 2 → ℕ) = fun _ => 0 := by decide

/-- What lands in a buffer that one store covers. -/
theorem landed (inb : ∀ a, (![0, 0] : Fin 2 → ℕ) a + d a ≤ d a) (f) (p) :
    View.read (Elt F) M.view (M.view.writes (Elt F) f [⟨Rect.unit (s := ⟨2, d⟩) ![0, 0] d inb, p⟩]) = p := by
  refine (View.read_writes_eq_canon _ _ _ fun y => ⟨_, List.mem_singleton_self _, ?_⟩).trans
    (View.canon_unit_zero zero inb p)
  revert inb; rw [zero]; intro inb p
  exact (Rect.set_whole _).symm ▸ Finset.mem_univ y

/-- What a load of a whole buffer reads. -/
def all (x : Vec F ⟨2, d⟩ e) : Vec F ⟨2, d⟩ e :=
  View.ld x (Rect.unit (s := ⟨2, d⟩) ![0, 0] d fun a => by fin_cases a <;> simp)

/-- What a buffer holds once `p` is stored over all of it. -/
def stored (M : Memref sig .tc .vmem ⟨2, d⟩ e) (p : Vec F ⟨2, d⟩ e) : Vec F ⟨2, d⟩ e :=
  View.read (Elt F) M.view (M.view.writes (Elt F) M.view.junk
    [⟨Rect.unit (s := ⟨2, d⟩) ![0, 0] d fun a => by fin_cases a <;> simp, p⟩])

theorem stored_eq (p : Vec F ⟨2, d⟩ e) : stored M p = p := landed _ _ _

theorem all_eq (x : Vec F ⟨2, d⟩ e) : all x = x := View.ld_unit_zero zero _ x
end whole

/-- What the body loads of its arguments. -/
def Blocks.loads (X : Blocks F) : Blocks F where
  p := X.p
  w0 := all X.w0
  w1 := all X.w1
  w2 := all X.w2
  w3 := all X.w3
  w4 := all X.w4
  w5 := all X.w5
  m0 := all X.m0
  m1 := all X.m1
  m2 := all X.m2
  m3 := all X.m3
  m4 := all X.m4
  m5 := all X.m5
  v0 := all X.v0
  v1 := all X.v1
  v2 := all X.v2
  v3 := all X.v3
  v4 := all X.v4
  v5 := all X.v5

theorem Blocks.loads_eq (X : Blocks F) : X.loads = X := by
  unfold loads; simp only [all_eq]

/-- The rows of the taps' gradient cover it. -/
theorem taps_cover (s : Vec F S32x1024 .f32) : ∀ y : S4x3x512.Idx, ∃ p ∈ Blocks.taps s, y ∈ p.1.set := by
  unfold Blocks.taps
  exact View.cover_of_tiledL _ S1x1x512.size (by rfl)

variable (c : Dev nD) (E : Set ℕ)
  (arg0 : Memref sig .tc .vmem S8x32x1024 .f32) (harg0 : arg0.IsWhole)
  (arg1 : Memref sig .tc .vmem S4x1024 .f32) (harg1 : arg1.IsWhole)
  (arg2 : Memref sig .tc .vmem S4x1024 .f32) (harg2 : arg2.IsWhole)
  (arg3 : Memref sig .tc .vmem S4x1024 .f32) (harg3 : arg3.IsWhole)
  (arg4 : Memref sig .tc .vmem S4x1024 .f32) (harg4 : arg4.IsWhole)
  (arg5 : Memref sig .tc .vmem S4x512 .f32) (harg5 : arg5.IsWhole)
  (arg6 : Memref sig .tc .vmem S4x512 .f32) (harg6 : arg6.IsWhole)
  (arg7 : Memref sig .tc .vmem S4x1024 .f32) (harg7 : arg7.IsWhole)
  (arg8 : Memref sig .tc .vmem S4x1024 .f32) (harg8 : arg8.IsWhole)
  (arg9 : Memref sig .tc .vmem S4x1024 .f32) (harg9 : arg9.IsWhole)
  (arg10 : Memref sig .tc .vmem S4x1024 .f32) (harg10 : arg10.IsWhole)
  (arg11 : Memref sig .tc .vmem S4x512 .f32) (harg11 : arg11.IsWhole)
  (arg12 : Memref sig .tc .vmem S4x512 .f32) (harg12 : arg12.IsWhole)
  (arg13 : Memref sig .tc .vmem S4x1024 .f32) (harg13 : arg13.IsWhole)
  (arg14 : Memref sig .tc .vmem S4x1024 .f32) (harg14 : arg14.IsWhole)
  (arg15 : Memref sig .tc .vmem S4x1024 .f32) (harg15 : arg15.IsWhole)
  (arg16 : Memref sig .tc .vmem S4x1024 .f32) (harg16 : arg16.IsWhole)
  (arg17 : Memref sig .tc .vmem S4x512 .f32) (harg17 : arg17.IsWhole)
  (arg18 : Memref sig .tc .vmem S4x512 .f32) (harg18 : arg18.IsWhole)
  (arg19 : Memref sig .tc .vmem S4x1024 .f32) (harg19 : arg19.IsWhole)
  (arg20 : Memref sig .tc .vmem S4x1024 .f32) (harg20 : arg20.IsWhole)
  (arg21 : Memref sig .tc .vmem S4x1024 .f32) (harg21 : arg21.IsWhole)
  (arg22 : Memref sig .tc .vmem S4x1024 .f32) (harg22 : arg22.IsWhole)
  (arg23 : Memref sig .tc .vmem S4x1024 .f32) (harg23 : arg23.IsWhole)
  (arg24 : Memref sig .tc .vmem S4x1024 .f32) (harg24 : arg24.IsWhole)
  (arg25 : Memref sig .tc .vmem S4x1024 .f32) (harg25 : arg25.IsWhole)
  (arg26 : Memref sig .tc .vmem S4x1024 .f32) (harg26 : arg26.IsWhole)
  (arg27 : Memref sig .tc .vmem S4x1024 .f32) (harg27 : arg27.IsWhole)
  (arg28 : Memref sig .tc .vmem S4x1024 .f32) (harg28 : arg28.IsWhole)
  (arg29 : Memref sig .tc .vmem S4x1024 .f32) (harg29 : arg29.IsWhole)
  (arg30 : Memref sig .tc .vmem S4x1024 .f32) (harg30 : arg30.IsWhole)
  (arg31 : Memref sig .tc .vmem S4x1024 .f32) (harg31 : arg31.IsWhole)
  (arg32 : Memref sig .tc .vmem S4x1024 .f32) (harg32 : arg32.IsWhole)
  (arg33 : Memref sig .tc .vmem S4x1024 .f32) (harg33 : arg33.IsWhole)
  (arg34 : Memref sig .tc .vmem S4x1024 .f32) (harg34 : arg34.IsWhole)
  (arg35 : Memref sig .tc .vmem S4x512 .f32) (harg35 : arg35.IsWhole)
  (arg36 : Memref sig .tc .vmem S4x512 .f32) (harg36 : arg36.IsWhole)
  (arg37 : Memref sig .tc .vmem S4x512 .f32) (harg37 : arg37.IsWhole)
  (arg38 : Memref sig .tc .vmem S4x512 .f32) (harg38 : arg38.IsWhole)
  (arg39 : Memref sig .tc .vmem S4x512 .f32) (harg39 : arg39.IsWhole)
  (arg40 : Memref sig .tc .vmem S4x512 .f32) (harg40 : arg40.IsWhole)
  (arg41 : Memref sig .tc .vmem S4x512 .f32) (harg41 : arg41.IsWhole)
  (arg42 : Memref sig .tc .vmem S4x512 .f32) (harg42 : arg42.IsWhole)
  (arg43 : Memref sig .tc .vmem S4x3x512 .f32) (harg43 : arg43.IsWhole)
  (arg44 : Memref sig .tc .vmem S1x1 .f32) (harg44 : arg44.IsWhole)
  (arg45 : Memref sig .tc .vmem S32x1024 .f32) (harg45 : arg45.IsWhole)

/-- The inputs' buffers hold `X`. -/
def ins (X : Blocks F) : sProp 𝕄 :=
  iprop(owns (c : Thread nD τ) arg0 fullShare X.p
    ∗ owns (c : Thread nD τ) arg1 fullShare X.w0
    ∗ owns (c : Thread nD τ) arg2 fullShare X.w1
    ∗ owns (c : Thread nD τ) arg3 fullShare X.w2
    ∗ owns (c : Thread nD τ) arg4 fullShare X.w3
    ∗ owns (c : Thread nD τ) arg5 fullShare X.w4
    ∗ owns (c : Thread nD τ) arg6 fullShare X.w5
    ∗ owns (c : Thread nD τ) arg7 fullShare X.m0
    ∗ owns (c : Thread nD τ) arg8 fullShare X.m1
    ∗ owns (c : Thread nD τ) arg9 fullShare X.m2
    ∗ owns (c : Thread nD τ) arg10 fullShare X.m3
    ∗ owns (c : Thread nD τ) arg11 fullShare X.m4
    ∗ owns (c : Thread nD τ) arg12 fullShare X.m5
    ∗ owns (c : Thread nD τ) arg13 fullShare X.v0
    ∗ owns (c : Thread nD τ) arg14 fullShare X.v1
    ∗ owns (c : Thread nD τ) arg15 fullShare X.v2
    ∗ owns (c : Thread nD τ) arg16 fullShare X.v3
    ∗ owns (c : Thread nD τ) arg17 fullShare X.v4
    ∗ owns (c : Thread nD τ) arg18 fullShare X.v5)

/-- The outputs' buffers hold the results, from the sum `s`. -/
def outs (X : Blocks F) (s : Vec F S32x1024 .f32) : sProp 𝕄 :=
  iprop(owns (c : Thread nD τ) arg19 fullShare (Blocks.g0 s)
    ∗ owns (c : Thread nD τ) arg20 fullShare (X.d0 s)
    ∗ owns (c : Thread nD τ) arg21 fullShare (X.nm0 s)
    ∗ owns (c : Thread nD τ) arg22 fullShare (X.nv0 s)
    ∗ owns (c : Thread nD τ) arg23 fullShare (Blocks.g1 s)
    ∗ owns (c : Thread nD τ) arg24 fullShare (X.d1 s)
    ∗ owns (c : Thread nD τ) arg25 fullShare (X.nm1 s)
    ∗ owns (c : Thread nD τ) arg26 fullShare (X.nv1 s)
    ∗ owns (c : Thread nD τ) arg27 fullShare (Blocks.g2 s)
    ∗ owns (c : Thread nD τ) arg28 fullShare (X.d2 s)
    ∗ owns (c : Thread nD τ) arg29 fullShare (X.nm2 s)
    ∗ owns (c : Thread nD τ) arg30 fullShare (X.nv2 s)
    ∗ owns (c : Thread nD τ) arg31 fullShare (Blocks.g3 s)
    ∗ owns (c : Thread nD τ) arg32 fullShare (X.d3 s)
    ∗ owns (c : Thread nD τ) arg33 fullShare (X.nm3 s)
    ∗ owns (c : Thread nD τ) arg34 fullShare (X.nv3 s)
    ∗ owns (c : Thread nD τ) arg35 fullShare (Blocks.g4 s)
    ∗ owns (c : Thread nD τ) arg36 fullShare (X.d4 s)
    ∗ owns (c : Thread nD τ) arg37 fullShare (X.nm4 s)
    ∗ owns (c : Thread nD τ) arg38 fullShare (X.nv4 s)
    ∗ owns (c : Thread nD τ) arg39 fullShare (Blocks.g5 s)
    ∗ owns (c : Thread nD τ) arg40 fullShare (X.d5 s)
    ∗ owns (c : Thread nD τ) arg41 fullShare (X.nm5 s)
    ∗ owns (c : Thread nD τ) arg42 fullShare (X.nv5 s)
    ∗ owns (c : Thread nD τ) arg43 fullShare (View.canon (Blocks.taps s))
    ∗ owns (c : Thread nD τ) arg44 fullShare (Blocks.loss s))

/-- The body, its results in terms of what it loads. -/
theorem run_loads (X : Blocks F) (K : PUnit → sProp 𝕄) :
    iprop(ins c arg0 arg1 arg2 arg3 arg4 arg5 arg6 arg7 arg8 arg9 arg10 arg11 arg12 arg13 arg14 arg15 arg16 arg17
        arg18 X
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (∃ d, owns (c : Thread nD τ) arg27 fullShare d)
        ∗ (∃ d, owns (c : Thread nD τ) arg28 fullShare d)
        ∗ (∃ d, owns (c : Thread nD τ) arg29 fullShare d)
        ∗ (∃ d, owns (c : Thread nD τ) arg30 fullShare d)
        ∗ (∃ d, owns (c : Thread nD τ) arg31 fullShare d)
        ∗ (∃ d, owns (c : Thread nD τ) arg32 fullShare d)
        ∗ (∃ d, owns (c : Thread nD τ) arg33 fullShare d)
        ∗ (∃ d, owns (c : Thread nD τ) arg34 fullShare d)
        ∗ (∃ d, owns (c : Thread nD τ) arg35 fullShare d)
        ∗ (∃ d, owns (c : Thread nD τ) arg36 fullShare d)
        ∗ (∃ d, owns (c : Thread nD τ) arg37 fullShare d)
        ∗ (∃ d, owns (c : Thread nD τ) arg38 fullShare d)
        ∗ (∃ d, owns (c : Thread nD τ) arg39 fullShare d)
        ∗ (∃ d, owns (c : Thread nD τ) arg40 fullShare d)
        ∗ (∃ d, owns (c : Thread nD τ) arg41 fullShare d)
        ∗ (∃ d, owns (c : Thread nD τ) arg42 fullShare d)
        ∗ (∃ d, owns (c : Thread nD τ) arg43 fullShare d)
        ∗ (∃ d, owns (c : Thread nD τ) arg44 fullShare d)
        ∗ (∃ d, owns (c : Thread nD τ) arg45 fullShare d)
        ∗ (iprop(ins c arg0 arg1 arg2 arg3 arg4 arg5 arg6 arg7 arg8 arg9 arg10 arg11 arg12 arg13 arg14 arg15 arg16 arg17
          arg18 X
          ∗ outs c arg19 arg20 arg21 arg22 arg23 arg24 arg25 arg26 arg27 arg28 arg29 arg30 arg31 arg32 arg33 arg34
          arg35 arg36 arg37 arg38 arg39 arg40 arg41 arg42 arg43 arg44 X.loads (stored arg45 X.total)
          ∗ (∃ d, owns (c : Thread nD τ) arg45 fullShare d)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8
        arg9 harg9 arg10 harg10 arg11 harg11 arg12 harg12 arg13 harg13 arg14 harg14 arg15 harg15 arg16 harg16
        arg17 harg17 arg18 harg18 arg19 harg19 arg20 harg20 arg21 harg21 arg22 harg22 arg23 harg23 arg24
        harg24 arg25 harg25 arg26 harg26 arg27 harg27 arg28 harg28 arg29 harg29 arg30 harg30 arg31 harg31
        arg32 harg32 arg33 harg33 arg34 harg34 arg35 harg35 arg36 harg36 arg37 harg37 arg38 harg38 arg39
        harg39 arg40 harg40 arg41 harg41 arg42 harg42 arg43 harg43 arg44 harg44 arg45 harg45) K := by
  obtain ⟨p, w0, w1, w2, w3, w4, w5, m0, m1, m2, m3, m4, m5, v0, v1, v2, v3, v4, v5⟩ := X
  simp only [cc0_adamw_small_eq_skeleton]; unfold cc0_adamw_small_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11,
    H11⟩, ⟨%f12, %hf12, H12⟩, ⟨%f13, %hf13, H13⟩, ⟨%f14, %hf14, H14⟩, ⟨%f15, %hf15, H15⟩, ⟨%f16, %hf16, H16⟩,
    ⟨%f17, %hf17, H17⟩, ⟨%f18, %hf18, H18⟩⟩,
    ⟨%d19, %f19, -, H19⟩, ⟨%d20, %f20, -, H20⟩, ⟨%d21, %f21, -, H21⟩, ⟨%d22, %f22, -, H22⟩, ⟨%d23, %f23, -,
    H23⟩, ⟨%d24, %f24, -, H24⟩, ⟨%d25, %f25, -, H25⟩, ⟨%d26, %f26, -, H26⟩, ⟨%d27, %f27, -, H27⟩, ⟨%d28, %f28,
    -, H28⟩, ⟨%d29, %f29, -, H29⟩, ⟨%d30, %f30, -, H30⟩, ⟨%d31, %f31, -, H31⟩, ⟨%d32, %f32, -, H32⟩, ⟨%d33,
    %f33, -, H33⟩, ⟨%d34, %f34, -, H34⟩, ⟨%d35, %f35, -, H35⟩, ⟨%d36, %f36, -, H36⟩, ⟨%d37, %f37, -, H37⟩,
    ⟨%d38, %f38, -, H38⟩, ⟨%d39, %f39, -, H39⟩, ⟨%d40, %f40, -, H40⟩, ⟨%d41, %f41, -, H41⟩, ⟨%d42, %f42, -,
    H42⟩, ⟨%d43, %f43, -, H43⟩, ⟨%d44, %f44, -, H44⟩, ⟨%d45, %f45, -, H45⟩, Hk⟩
  dsimp only at hf0 hf1 hf2 hf3 hf4 hf5 hf6 hf7 hf8 hf9 hf10 hf11 hf12 hf13 hf14 hf15 hf16 hf17 hf18
  subst hf0 hf1 hf2 hf3 hf4 hf5 hf6 hf7 hf8 hf9 hf10 hf11 hf12 hf13 hf14 hf15 hf16 hf17 hf18
  sl_exec
  sl_step
  iapply Hk
  isplitl [H0 H1 H2 H3 H4 H5 H6 H7 H8 H9 H10 H11 H12 H13 H14 H15 H16 H17 H18]
  · isplitl [H0]; · iexists f0; isplitr; (ipureintro; rfl); iexact H0
    isplitl [H1]; · iexists f1; isplitr; (ipureintro; rfl); iexact H1
    isplitl [H2]; · iexists f2; isplitr; (ipureintro; rfl); iexact H2
    isplitl [H3]; · iexists f3; isplitr; (ipureintro; rfl); iexact H3
    isplitl [H4]; · iexists f4; isplitr; (ipureintro; rfl); iexact H4
    isplitl [H5]; · iexists f5; isplitr; (ipureintro; rfl); iexact H5
    isplitl [H6]; · iexists f6; isplitr; (ipureintro; rfl); iexact H6
    isplitl [H7]; · iexists f7; isplitr; (ipureintro; rfl); iexact H7
    isplitl [H8]; · iexists f8; isplitr; (ipureintro; rfl); iexact H8
    isplitl [H9]; · iexists f9; isplitr; (ipureintro; rfl); iexact H9
    isplitl [H10]; · iexists f10; isplitr; (ipureintro; rfl); iexact H10
    isplitl [H11]; · iexists f11; isplitr; (ipureintro; rfl); iexact H11
    isplitl [H12]; · iexists f12; isplitr; (ipureintro; rfl); iexact H12
    isplitl [H13]; · iexists f13; isplitr; (ipureintro; rfl); iexact H13
    isplitl [H14]; · iexists f14; isplitr; (ipureintro; rfl); iexact H14
    isplitl [H15]; · iexists f15; isplitr; (ipureintro; rfl); iexact H15
    isplitl [H16]; · iexists f16; isplitr; (ipureintro; rfl); iexact H16
    isplitl [H17]; · iexists f17; isplitr; (ipureintro; rfl); iexact H17
    iexists f18; isplitr; (ipureintro; rfl); iexact H18
  isplitl [H19 H20 H21 H22 H23 H24 H25 H26 H27 H28 H29 H30 H31 H32 H33 H34 H35 H36 H37 H38 H39 H40 H41 H42 H43 H44]
  · isplitl [H19]
    · iexists _; isplitr; swap; · iexact H19
      ipureintro; exact (landed _ _ _).trans rfl
    isplitl [H20]
    · iexists _; isplitr; swap; · iexact H20
      ipureintro; exact (landed _ _ _).trans rfl
    isplitl [H21]
    · iexists _; isplitr; swap; · iexact H21
      ipureintro; exact (landed _ _ _).trans rfl
    isplitl [H22]
    · iexists _; isplitr; swap; · iexact H22
      ipureintro; exact (landed _ _ _).trans rfl
    isplitl [H23]
    · iexists _; isplitr; swap; · iexact H23
      ipureintro; exact (landed _ _ _).trans rfl
    isplitl [H24]
    · iexists _; isplitr; swap; · iexact H24
      ipureintro; exact (landed _ _ _).trans rfl
    isplitl [H25]
    · iexists _; isplitr; swap; · iexact H25
      ipureintro; exact (landed _ _ _).trans rfl
    isplitl [H26]
    · iexists _; isplitr; swap; · iexact H26
      ipureintro; exact (landed _ _ _).trans rfl
    isplitl [H27]
    · iexists _; isplitr; swap; · iexact H27
      ipureintro; exact (landed _ _ _).trans rfl
    isplitl [H28]
    · iexists _; isplitr; swap; · iexact H28
      ipureintro; exact (landed _ _ _).trans rfl
    isplitl [H29]
    · iexists _; isplitr; swap; · iexact H29
      ipureintro; exact (landed _ _ _).trans rfl
    isplitl [H30]
    · iexists _; isplitr; swap; · iexact H30
      ipureintro; exact (landed _ _ _).trans rfl
    isplitl [H31]
    · iexists _; isplitr; swap; · iexact H31
      ipureintro; exact (landed _ _ _).trans rfl
    isplitl [H32]
    · iexists _; isplitr; swap; · iexact H32
      ipureintro; exact (landed _ _ _).trans rfl
    isplitl [H33]
    · iexists _; isplitr; swap; · iexact H33
      ipureintro; exact (landed _ _ _).trans rfl
    isplitl [H34]
    · iexists _; isplitr; swap; · iexact H34
      ipureintro; exact (landed _ _ _).trans rfl
    isplitl [H35]
    · iexists _; isplitr; swap; · iexact H35
      ipureintro; exact (landed _ _ _).trans rfl
    isplitl [H36]
    · iexists _; isplitr; swap; · iexact H36
      ipureintro; exact (landed _ _ _).trans rfl
    isplitl [H37]
    · iexists _; isplitr; swap; · iexact H37
      ipureintro; exact (landed _ _ _).trans rfl
    isplitl [H38]
    · iexists _; isplitr; swap; · iexact H38
      ipureintro; exact (landed _ _ _).trans rfl
    isplitl [H39]
    · iexists _; isplitr; swap; · iexact H39
      ipureintro; exact (landed _ _ _).trans rfl
    isplitl [H40]
    · iexists _; isplitr; swap; · iexact H40
      ipureintro; exact (landed _ _ _).trans rfl
    isplitl [H41]
    · iexists _; isplitr; swap; · iexact H41
      ipureintro; exact (landed _ _ _).trans rfl
    isplitl [H42]
    · iexists _; isplitr; swap; · iexact H42
      ipureintro; exact (landed _ _ _).trans rfl
    isplitl [H43]
    · iexists _; isplitr; swap; · iexact H43
      ipureintro; exact View.read_writes_eq_canon _ _ _ (taps_cover _)
    iexists _; isplitr; swap; · iexact H44
    ipureintro; exact (landed _ _ _).trans rfl
  iexists _, _; isplitr; swap; · iexact H45
  ipureintro; rfl

/-- The body, whatever its results' buffers and the buffer of the sum held. -/
theorem run (X : Blocks F) (K : PUnit → sProp 𝕄) :
    iprop(ins c arg0 arg1 arg2 arg3 arg4 arg5 arg6 arg7 arg8 arg9 arg10 arg11 arg12 arg13 arg14 arg15 arg16 arg17
        arg18 X
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (∃ d, owns (c : Thread nD τ) arg27 fullShare d)
        ∗ (∃ d, owns (c : Thread nD τ) arg28 fullShare d)
        ∗ (∃ d, owns (c : Thread nD τ) arg29 fullShare d)
        ∗ (∃ d, owns (c : Thread nD τ) arg30 fullShare d)
        ∗ (∃ d, owns (c : Thread nD τ) arg31 fullShare d)
        ∗ (∃ d, owns (c : Thread nD τ) arg32 fullShare d)
        ∗ (∃ d, owns (c : Thread nD τ) arg33 fullShare d)
        ∗ (∃ d, owns (c : Thread nD τ) arg34 fullShare d)
        ∗ (∃ d, owns (c : Thread nD τ) arg35 fullShare d)
        ∗ (∃ d, owns (c : Thread nD τ) arg36 fullShare d)
        ∗ (∃ d, owns (c : Thread nD τ) arg37 fullShare d)
        ∗ (∃ d, owns (c : Thread nD τ) arg38 fullShare d)
        ∗ (∃ d, owns (c : Thread nD τ) arg39 fullShare d)
        ∗ (∃ d, owns (c : Thread nD τ) arg40 fullShare d)
        ∗ (∃ d, owns (c : Thread nD τ) arg41 fullShare d)
        ∗ (∃ d, owns (c : Thread nD τ) arg42 fullShare d)
        ∗ (∃ d, owns (c : Thread nD τ) arg43 fullShare d)
        ∗ (∃ d, owns (c : Thread nD τ) arg44 fullShare d)
        ∗ (∃ d, owns (c : Thread nD τ) arg45 fullShare d)
        ∗ (iprop(ins c arg0 arg1 arg2 arg3 arg4 arg5 arg6 arg7 arg8 arg9 arg10 arg11 arg12 arg13 arg14 arg15 arg16 arg17
          arg18 X
          ∗ outs c arg19 arg20 arg21 arg22 arg23 arg24 arg25 arg26 arg27 arg28 arg29 arg30 arg31 arg32 arg33 arg34
          arg35 arg36 arg37 arg38 arg39 arg40 arg41 arg42 arg43 arg44 X X.total
          ∗ (∃ d, owns (c : Thread nD τ) arg45 fullShare d)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8
        arg9 harg9 arg10 harg10 arg11 harg11 arg12 harg12 arg13 harg13 arg14 harg14 arg15 harg15 arg16 harg16
        arg17 harg17 arg18 harg18 arg19 harg19 arg20 harg20 arg21 harg21 arg22 harg22 arg23 harg23 arg24
        harg24 arg25 harg25 arg26 harg26 arg27 harg27 arg28 harg28 arg29 harg29 arg30 harg30 arg31 harg31
        arg32 harg32 arg33 harg33 arg34 harg34 arg35 harg35 arg36 harg36 arg37 harg37 arg38 harg38 arg39
        harg39 arg40 harg40 arg41 harg41 arg42 harg42 arg43 harg43 arg44 harg44 arg45 harg45) K := by
  have e := run_loads c E arg0 harg0 arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17
    harg17 arg18 harg18 arg19 harg19 arg20 harg20 arg21 harg21 arg22 harg22 arg23 harg23 arg24 harg24 arg25
    harg25 arg26 harg26 arg27 harg27 arg28 harg28 arg29 harg29 arg30 harg30 arg31 harg31 arg32 harg32 arg33
    harg33 arg34 harg34 arg35 harg35 arg36 harg36 arg37 harg37 arg38 harg38 arg39 harg39 arg40 harg40 arg41
    harg41 arg42 harg42 arg43 harg43 arg44 harg44 arg45 harg45 X K
  rwa [X.loads_eq, stored_eq] at e

end Cert.SmallRun

end
-- ==== Proof.SmallFrame.lean ====
/- The optimiser's call for the norms' weights as a whole: it ends, leaves its arguments as they were, and leaves in its
   results what its body leaves there. -/
module

public import proofs.«01_k».proof.Proof.SmallRun
public import Idealize.ShloMosaic.Lib.Claim

@[expose] public section

set_option maxRecDepth 16384
set_option maxHeartbeats 1600000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

namespace Cert.SmallRun
open Cert.SmallStepIdeal Cert.SmallStepIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- What the body reads: the arguments, at the one grid point `t`. -/
def blocks (t : Fin cfg0.N) : Blocks F :=
  ⟨iblk m c 0 t, iblk m c 1 t, iblk m c 2 t, iblk m c 3 t, iblk m c 4 t, iblk m c 5 t, iblk m c 6 t, iblk m c
    7 t, iblk m c 8 t, iblk m c 9 t, iblk m c 10 t, iblk m c 11 t, iblk m c 12 t, iblk m c 13 t, iblk m c 14
    t, iblk m c 15 t, iblk m c 16 t, iblk m c 17 t, iblk m c 18 t⟩

/-- The devices' parts, summed. -/
def sum (t : Fin cfg0.N) : Vec F S32x1024 .f32 := (blocks m c t).total

/-- The call's proof data: an input's buffer holds the input after the body, an output's what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => Blocks.g0 (sum m c t)
    | ⟨20, _⟩ => (blocks m c t).d0 (sum m c t)
    | ⟨21, _⟩ => (blocks m c t).nm0 (sum m c t)
    | ⟨22, _⟩ => (blocks m c t).nv0 (sum m c t)
    | ⟨23, _⟩ => Blocks.g1 (sum m c t)
    | ⟨24, _⟩ => (blocks m c t).d1 (sum m c t)
    | ⟨25, _⟩ => (blocks m c t).nm1 (sum m c t)
    | ⟨26, _⟩ => (blocks m c t).nv1 (sum m c t)
    | ⟨27, _⟩ => Blocks.g2 (sum m c t)
    | ⟨28, _⟩ => (blocks m c t).d2 (sum m c t)
    | ⟨29, _⟩ => (blocks m c t).nm2 (sum m c t)
    | ⟨30, _⟩ => (blocks m c t).nv2 (sum m c t)
    | ⟨31, _⟩ => Blocks.g3 (sum m c t)
    | ⟨32, _⟩ => (blocks m c t).d3 (sum m c t)
    | ⟨33, _⟩ => (blocks m c t).nm3 (sum m c t)
    | ⟨34, _⟩ => (blocks m c t).nv3 (sum m c t)
    | ⟨35, _⟩ => Blocks.g4 (sum m c t)
    | ⟨36, _⟩ => (blocks m c t).d4 (sum m c t)
    | ⟨37, _⟩ => (blocks m c t).nm4 (sum m c t)
    | ⟨38, _⟩ => (blocks m c t).nv4 (sum m c t)
    | ⟨39, _⟩ => Blocks.g5 (sum m c t)
    | ⟨40, _⟩ => (blocks m c t).d5 (sum m c t)
    | ⟨41, _⟩ => (blocks m c t).nm5 (sum m c t)
    | ⟨42, _⟩ => (blocks m c t).nv5 (sum m c t)
    | ⟨43, _⟩ => View.canon (Blocks.taps (sum m c t))
    | ⟨44, _⟩ => Blocks.loss (sum m c t)
    | ⟨_ + 45, h⟩ => absurd h (Nat.not_lt.2 (Nat.le_add_left _ _))
  Φ _ := Pipeline.ΦA spec0 c
  q _ := fullShare
  owed _ := 0

theorem A_eq (w : Fin cfg0.W) : (dats m 0 c).A w = V m c (Pipeline.arrRef spec0 w) := rfl

/-- The body writes into every window. -/
theorem live : ∀ (w : Fin cfg0.W) (t : Fin cfg0.N), cfg0.idle w (grid0.coords t) = false := by decide +kernel

theorem leaves (w : Fin cfg0.W) (t : Fin cfg0.N) : (dats m 0 c).leavesExact w t
    = owns (c : Thread nD τ) ((cfg0.win w).stage (cfg0.slots t w)) fullShare ((dats m 0 c).after w t) := by
  unfold Dat.leavesExact; rw [live w t]

/-- What the body is called with, and what it returns. -/
def bodyPre (t : Fin cfg0.N) : sProp 𝕄 :=
  iprop((dats m 0 c).Φ t.castSucc ∗ (dats m 0 c).owesAt () t.castSucc ∗ bigSep Finset.univ fun w : Fin 45 =>
    iprop(∃ d, owns (c : Thread nD τ) ((cfg0.win w).stage (cfg0.slots t w)) fullShare ((dats m 0 c).before w t d)))
def bodyPost (t : Fin cfg0.N) : sProp 𝕄 :=
  iprop((dats m 0 c).Φ t.succ ∗ (dats m 0 c).owesAt () t.succ ∗ bigSep Finset.univ fun w : Fin 45 =>
    (dats m 0 c).leavesExact w t)

theorem sound_body (t : Fin cfg0.N) :
    bodyPre m c t ⊢ wp frame (wpE (defs₀ (F := F)) Variants.none c none) Set.univ (bodyAt0 t) (fun _ => bodyPost m c t) := by
  unfold bodyPre bodyPost
  rw [bigSep_W0, bigSep_W0]
  simp only [leaves,
    before0_0_of m (dats m 0 c) (A_eq m c 0) (fun _ => by dsimp only [dats]),
    before0_1_of m (dats m 0 c) (A_eq m c 1) (fun _ => by dsimp only [dats]),
    before0_2_of m (dats m 0 c) (A_eq m c 2) (fun _ => by dsimp only [dats]),
    before0_3_of m (dats m 0 c) (A_eq m c 3) (fun _ => by dsimp only [dats]),
    before0_4_of m (dats m 0 c) (A_eq m c 4) (fun _ => by dsimp only [dats]),
    before0_5_of m (dats m 0 c) (A_eq m c 5) (fun _ => by dsimp only [dats]),
    before0_6_of m (dats m 0 c) (A_eq m c 6) (fun _ => by dsimp only [dats]),
    before0_7_of m (dats m 0 c) (A_eq m c 7) (fun _ => by dsimp only [dats]),
    before0_8_of m (dats m 0 c) (A_eq m c 8) (fun _ => by dsimp only [dats]),
    before0_9_of m (dats m 0 c) (A_eq m c 9) (fun _ => by dsimp only [dats]),
    before0_10_of m (dats m 0 c) (A_eq m c 10) (fun _ => by dsimp only [dats]),
    before0_11_of m (dats m 0 c) (A_eq m c 11) (fun _ => by dsimp only [dats]),
    before0_12_of m (dats m 0 c) (A_eq m c 12) (fun _ => by dsimp only [dats]),
    before0_13_of m (dats m 0 c) (A_eq m c 13) (fun _ => by dsimp only [dats]),
    before0_14_of m (dats m 0 c) (A_eq m c 14) (fun _ => by dsimp only [dats]),
    before0_15_of m (dats m 0 c) (A_eq m c 15) (fun _ => by dsimp only [dats]),
    before0_16_of m (dats m 0 c) (A_eq m c 16) (fun _ => by dsimp only [dats]),
    before0_17_of m (dats m 0 c) (A_eq m c 17) (fun _ => by dsimp only [dats]),
    before0_18_of m (dats m 0 c) (A_eq m c 18) (fun _ => by dsimp only [dats])]
  rw [show (dats m 0 c).Φ t.succ = (dats m 0 c).Φ t.castSucc from rfl,
    show (dats m 0 c).Φ t.castSucc = Pipeline.ΦA spec0 c from rfl, PhiA0_eq,
    show (dats m 0 c).owesAt () t.succ = (dats m 0 c).owesAt () t.castSucc from rfl]
  iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9,
    H9⟩, ⟨%d10, H10⟩, ⟨%d11, H11⟩, ⟨%d12, H12⟩, ⟨%d13, H13⟩, ⟨%d14, H14⟩, ⟨%d15, H15⟩, ⟨%d16, H16⟩, ⟨%d17,
    H17⟩, ⟨%d18, H18⟩, ⟨%d19, H19⟩, ⟨%d20, H20⟩, ⟨%d21, H21⟩, ⟨%d22, H22⟩, ⟨%d23, H23⟩, ⟨%d24, H24⟩, ⟨%d25,
    H25⟩, ⟨%d26, H26⟩, ⟨%d27, H27⟩, ⟨%d28, H28⟩, ⟨%d29, H29⟩, ⟨%d30, H30⟩, ⟨%d31, H31⟩, ⟨%d32, H32⟩, ⟨%d33,
    H33⟩, ⟨%d34, H34⟩, ⟨%d35, H35⟩, ⟨%d36, H36⟩, ⟨%d37, H37⟩, ⟨%d38, H38⟩, ⟨%d39, H39⟩, ⟨%d40, H40⟩, ⟨%d41,
    H41⟩, ⟨%d42, H42⟩, ⟨%d43, H43⟩, ⟨%d44, H44⟩⟩
  iapply (run c Set.univ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _
    (blocks m c t) _)
  unfold ins outs
  isplitl [H0 H1 H2 H3 H4 H5 H6 H7 H8 H9 H10 H11 H12 H13 H14 H15 H16 H17 H18]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [HS]; · iexact HS
  iintro ⟨⟨H0, H1, H2, H3, H4, H5, H6, H7, H8, H9, H10, H11, H12, H13, H14, H15, H16, H17, H18⟩,
    ⟨H19, H20, H21, H22, H23, H24, H25, H26, H27, H28, H29, H30, H31, H32, H33, H34, H35, H36, H37, H38, H39,
    H40, H41, H42, H43, H44⟩, HS⟩
  isplitl [HS HP]
  · isplitl [HS]; · iexact HS
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  iexact H44

theorem body_obligation : BodyObligation (dats (F := F) m 0 c) (defs₀ (F := F)) Variants.none () Set.univ := fun t =>
  triple_restated (sound_body m c t) (by unfold defs₀; rw [Defs.onTc_tc]) .rfl fun _ => .rfl

-- the library's run is applied by unification through plain definitions
set_option backward.isDefEq.respectTransparency.types false in
/-- Every run of the call ends, with every array as the proof data has it and every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call leaves its arguments as they were, and no semaphore held. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) ∧ r.2.sem = fun _ => 0) :=
  θ_run_and (frame_of m ρ (dats m) (fun c w => A_eq m c w) ((θ_run defs _ _).mono (fun _ h => h.1) (run_main m ρ)))
    ((θ_run defs _ _).mono (fun _ h => h.2) (run_main m ρ))

end Cert.SmallRun

end
-- ==== Proof.SmallBits.lean ====
/- The optimiser's call for the norms' weights as it stands in the kernel, over machine words: the run of its ideal form, read at words. -/
module

public import proofs.«01_k».proof.Defs
public import proofs.«01_k».proof.Proof.Gen.SmallStep
public import proofs.«01_k».proof.Proof.SmallFrame

@[expose] public section

set_option maxRecDepth 16384
set_option maxHeartbeats 3200000

noncomputable section

open Idealize.ShloMosaic Idealize.ShloMosaic.TcCoe Idealize.SL.Sem

namespace Cert.SmallBits

attribute [local instance] Cert.SmallStep.Gen.facts Cert.SmallStepIdeal.Gen.facts

/-! The two programs have the same text: the body tables and the host parts agree. -/

theorem defs₀_eq : (Cert.SmallStep.defs₀ (F := Bits)) = Cert.SmallStepIdeal.defs₀ (F := Bits) := by
  funext p l a
  cases p with
  | tc =>
    obtain ⟨l, hl⟩ := l
    obtain rfl : l = 0 := by omega
    obtain ⟨t, s⟩ := a
    dsimp only [Cert.SmallStep.defs₀, Cert.SmallStepIdeal.defs₀, Defs.onTc]
    rfl
  | scScalar _ => rfl
  | scVector _ _ => rfl

theorem defs_eq : (Cert.SmallStep.defs (F := Bits)) = Cert.SmallStepIdeal.defs (F := Bits) :=
  congrArg (Pipeline.defs (Cert.SmallStepIdeal.pcfgs (F := Bits))) defs₀_eq

theorem main_eq : (Cert.SmallStep.main (F := Bits)) = Cert.SmallStepIdeal.main (F := Bits) := rfl

/-- The call over machine words leaves its arguments as they were, and no semaphore held. -/
theorem frame : Cert.quiescent_SmallStep := fun m ρ _ => by
  have h := Cert.SmallRun.frame (F := Bits) m ρ
  rw [← defs_eq, ← main_eq] at h
  exact h

end Cert.SmallBits
-- ==== Proof.SmallValues.lean ====
/- The values of the optimiser's call for the norms' weights. Every norm's gradient is a row, or half a row, of the devices'
   packed parts summed; the kernel reads it from its own sum, the reference from its own. No entry needs to be finite. -/
module

public import proofs.«01_k».proof.Proof.Adamw
public import proofs.«01_k».proof.Proof.SmallRun
public import proofs.«01_k».proof.Proof.Gen.SmallIdeal.Read
public import Idealize.ShloMosaic.Lib.Pipeline.ValueKit

@[expose] public section

set_option maxRecDepth 16384
set_option maxHeartbeats 1600000

noncomputable section

open Idealize.ShloMosaic Idealize.ShloMosaic.TcCoe Idealize.SL.Sem

namespace Cert.SmallValues
open Cert.Adamw

abbrev Arr (s : Shape) := BufTy.Contents (Elt Ideal) ⟨s, .f32⟩

/-- The packed row of kind `q` of layer `l`, and the columns of the two halves of a row. -/
abbrev at8 (l : Fin 4) (q : Fin 8) : Fin 32 := ⟨8 * l.val + q.val, by omega⟩
abbrev lo (j : Fin 512) : Fin 1024 := ⟨j.val, by omega⟩
abbrev hi (j : Fin 512) : Fin 1024 := ⟨512 + j.val, by omega⟩

section Reference
open Cert.SmallIdeal Cert.SmallIdeal.Read
variable (p : Arr S8x32x1024)

/-- The devices' parts of an entry, summed. -/
def tot (r : Fin 32) (j : Fin 1024) : EReal := ∑ k : Fin 8, p (ix3 k r j)

theorem ref_sum (r j) : val_main_v0 (F := Ideal) p (ix2 r j) = tot p r j := by
  unfold tot; pointwise [val_main_v0, val_main_cst]

theorem ref_tot (l q j) : val_main_v1 (F := Ideal) p (ix3 l q j) = tot p (at8 l q) j := by
  rw [val_main_v1_apply, ← ref_sum]
  refine congrArg _ (funext fun a => ?_)
  have hl : l.val < 4 := l.isLt
  have hq : q.val < 8 := q.isLt
  have hj : j.val < 1024 := j.isLt
  fin_cases a
  · refine Fin.ext ?_
    show ((l.val * 8 + q.val) * 1024 + j.val) / 1024 = 8 * l.val + q.val
    omega
  · refine Fin.ext ?_
    show ((l.val * 8 + q.val) * 1024 + j.val) % 1024 = j.val
    omega

/-! The six norms' gradients, the taps' and the loss's, by their rows. -/
theorem ref_g0 (l j) : val_main_v3 (F := Ideal) p (ix2 l j) = tot p (at8 l 0) j := by
  refine Eq.trans ?_ (ref_tot p l 0 j)
  pointwise [val_main_v3, val_main_v2]
theorem ref_g1 (l j) : val_main_v5 (F := Ideal) p (ix2 l j) = tot p (at8 l 1) j := by
  refine Eq.trans ?_ (ref_tot p l 1 j)
  pointwise [val_main_v5, val_main_v4]
theorem ref_g2 (l j) : val_main_v7 (F := Ideal) p (ix2 l j) = tot p (at8 l 2) j := by
  refine Eq.trans ?_ (ref_tot p l 2 j)
  pointwise [val_main_v7, val_main_v6]
theorem ref_g3 (l j) : val_main_v9 (F := Ideal) p (ix2 l j) = tot p (at8 l 3) j := by
  refine Eq.trans ?_ (ref_tot p l 3 j)
  pointwise [val_main_v9, val_main_v8]
theorem ref_g4 (l j) : val_main_v11 (F := Ideal) p (ix2 l j) = tot p (at8 l 4) (lo j) := by
  refine Eq.trans ?_ (ref_tot p l 4 (lo j))
  pointwise [val_main_v11, val_main_v10]
theorem ref_g5 (l j) : val_main_v13 (F := Ideal) p (ix2 l j) = tot p (at8 l 4) (hi j) := by
  refine Eq.trans ?_ (ref_tot p l 4 (hi j))
  pointwise [val_main_v13, val_main_v12]

/-- The row and the column of the packed sum that hold an entry of the taps' gradient. -/
def tapRow (l : Fin 4) (t : Fin 3) : Fin 32 := match t with
  | 0 => at8 l 5
  | 1 => at8 l 5
  | 2 => at8 l 6
def tapCol (t : Fin 3) (j : Fin 512) : Fin 1024 := match t with
  | 0 => lo j
  | 1 => hi j
  | 2 => lo j
theorem ref_tap0 (l o j) : val_main_v164 (F := Ideal) p (ix3 l o j) = tot p (tapRow l 0) (tapCol 0 j) := by
  refine Eq.trans ?_ (ref_tot p l 5 (lo j))
  pointwise [val_main_v164, val_main_v159, val_main_v158]
theorem ref_tap1 (l o j) : val_main_v165 (F := Ideal) p (ix3 l o j) = tot p (tapRow l 1) (tapCol 1 j) := by
  refine Eq.trans ?_ (ref_tot p l 5 (hi j))
  pointwise [val_main_v165, val_main_v161, val_main_v160]
theorem ref_tap2 (l o j) : val_main_v166 (F := Ideal) p (ix3 l o j) = tot p (tapRow l 2) (tapCol 2 j) := by
  refine Eq.trans ?_ (ref_tot p l 6 (lo j))
  pointwise [val_main_v166, val_main_v163, val_main_v162]
theorem ref_taps (l t j) : val_main_v167 (F := Ideal) p (ix3 l t j) = tot p (tapRow l t) (tapCol t j) := by
  unfold val_main_v167
  concat_tiles x h
  · rw [show t = 0 from Fin.ext h, eq_ix3 x, show x 0 = l from Fin.ext h0, show x 2 = j from Fin.ext h2]; exact ref_tap0 p l _ j
  · rw [show t = 1 from Fin.ext h, eq_ix3 x, show x 0 = l from Fin.ext h0, show x 2 = j from Fin.ext h2]; exact ref_tap1 p l _ j
  · rw [show t = 2 from Fin.ext h, eq_ix3 x, show x 0 = l from Fin.ext h0, show x 2 = j from Fin.ext h2]; exact ref_tap2 p l _ j
theorem ref_loss (i j) : val_main_v169 (F := Ideal) p (ix2 i j) = tot p 7 0 := by
  refine Eq.trans ?_ (ref_tot p 0 7 0)
  pointwise [val_main_v169, val_main_v168]
end Reference

section Kernel
open Cert.SmallStepIdeal Cert.SmallStepIdeal.Gen Cert.SmallRun

/-- A load of one device's part. -/
theorem load8 (x : Vec Ideal S8x32x1024 .f32) (k : Fin 8) (inb) (i : Fin 32) (j : Fin 1024) :
    View.ld x (Rect.unit ![k.val, 0, 0] ![1, 32, 1024] inb) (ix3 0 i j) = x (ix3 k i j) := by
  refine View.ld_unit_apply_of _ _ _ _ _ _ fun a => ?_
  fin_cases a <;> simp [ix3]

/-- Eight parts, summed in the body. -/
theorem sum8' (a0 a1 a2 a3 a4 a5 a6 a7 : Vec Ideal S1x32x1024 .f32) (i j) : k0_pay1 a0 a1 a2 a3 a4 a5 a6 a7 (ix2 i j)
    = (a0 (ix3 0 i j) : EReal) + (a1 (ix3 0 i j) : EReal) + (a2 (ix3 0 i j) : EReal) + (a3 (ix3 0 i j) : EReal)
      + (a4 (ix3 0 i j) : EReal) + (a5 (ix3 0 i j) : EReal) + (a6 (ix3 0 i j) : EReal) + (a7 (ix3 0 i j) : EReal) := by
  pointwise [k0_pay1]

theorem total (X : Blocks Ideal) (i j) : X.total (ix2 i j) = tot X.p i j := by
  refine (sum8' _ _ _ _ _ _ _ _ i j).trans (Eq.trans ?_ (sum8 fun k => X.p (ix3 k i j)))
  exact congrArg₂ (· + ·) (congrArg₂ (· + ·) (congrArg₂ (· + ·) (congrArg₂ (· + ·) (congrArg₂ (· + ·) (congrArg₂ (· + ·) (congrArg₂ (· + ·) (load8 X.p 0 _ i j) (load8 X.p 1 _ i j)) (load8 X.p 2 _ i j)) (load8 X.p 3 _ i j)) (load8 X.p 4 _ i j)) (load8 X.p 5 _ i j)) (load8 X.p 6 _ i j)) (load8 X.p 7 _ i j)

variable (s : Vec Ideal S32x1024 .f32)

/-- A load of a row of the sum, or of half a row. -/
theorem load (r c n : ℕ) (inb) (o : Fin 1) (j : Fin n) (r' : Fin 32) (j' : Fin 1024) (hr : r'.val = r) (hj : j'.val = c + j.val) :
    View.ld s (Rect.unit (s := S32x1024) ![r, c] ![1, n] inb) (ix2 o j) = s (ix2 r' j') := by
  refine View.ld_unit_apply_of _ _ _ _ _ _ fun a => ?_
  fin_cases a <;> simp [ix2, hr, hj]

/-! What the kernel reads of its sum: each norm's gradient, the taps' and the loss's. -/
theorem g0 (l j) : Blocks.g0 s (ix2 l j) = s (ix2 (at8 l 0) j) := by
  unfold Blocks.g0 k0_pay2
  concat_tiles x h
  · rw [show l = 0 from Fin.ext h, eq_ix2 x, show x 1 = j from Fin.ext h1]; exact load s 0 0 1024 _ (x 0) j _ _ rfl (Nat.zero_add _).symm
  · rw [show l = 1 from Fin.ext h, eq_ix2 x, show x 1 = j from Fin.ext h1]; exact load s 8 0 1024 _ (x 0) j _ _ rfl (Nat.zero_add _).symm
  · rw [show l = 2 from Fin.ext h, eq_ix2 x, show x 1 = j from Fin.ext h1]; exact load s 16 0 1024 _ (x 0) j _ _ rfl (Nat.zero_add _).symm
  · rw [show l = 3 from Fin.ext h, eq_ix2 x, show x 1 = j from Fin.ext h1]; exact load s 24 0 1024 _ (x 0) j _ _ rfl (Nat.zero_add _).symm
theorem g1 (l j) : Blocks.g1 s (ix2 l j) = s (ix2 (at8 l 1) j) := by
  unfold Blocks.g1 k0_pay6
  concat_tiles x h
  · rw [show l = 0 from Fin.ext h, eq_ix2 x, show x 1 = j from Fin.ext h1]; exact load s 1 0 1024 _ (x 0) j _ _ rfl (Nat.zero_add _).symm
  · rw [show l = 1 from Fin.ext h, eq_ix2 x, show x 1 = j from Fin.ext h1]; exact load s 9 0 1024 _ (x 0) j _ _ rfl (Nat.zero_add _).symm
  · rw [show l = 2 from Fin.ext h, eq_ix2 x, show x 1 = j from Fin.ext h1]; exact load s 17 0 1024 _ (x 0) j _ _ rfl (Nat.zero_add _).symm
  · rw [show l = 3 from Fin.ext h, eq_ix2 x, show x 1 = j from Fin.ext h1]; exact load s 25 0 1024 _ (x 0) j _ _ rfl (Nat.zero_add _).symm
theorem g2 (l j) : Blocks.g2 s (ix2 l j) = s (ix2 (at8 l 2) j) := by
  unfold Blocks.g2 k0_pay11
  concat_tiles x h
  · rw [show l = 0 from Fin.ext h, eq_ix2 x, show x 1 = j from Fin.ext h1]; exact load s 2 0 1024 _ (x 0) j _ _ rfl (Nat.zero_add _).symm
  · rw [show l = 1 from Fin.ext h, eq_ix2 x, show x 1 = j from Fin.ext h1]; exact load s 10 0 1024 _ (x 0) j _ _ rfl (Nat.zero_add _).symm
  · rw [show l = 2 from Fin.ext h, eq_ix2 x, show x 1 = j from Fin.ext h1]; exact load s 18 0 1024 _ (x 0) j _ _ rfl (Nat.zero_add _).symm
  · rw [show l = 3 from Fin.ext h, eq_ix2 x, show x 1 = j from Fin.ext h1]; exact load s 26 0 1024 _ (x 0) j _ _ rfl (Nat.zero_add _).symm
theorem g3 (l j) : Blocks.g3 s (ix2 l j) = s (ix2 (at8 l 3) j) := by
  unfold Blocks.g3 k0_pay16
  concat_tiles x h
  · rw [show l = 0 from Fin.ext h, eq_ix2 x, show x 1 = j from Fin.ext h1]; exact load s 3 0 1024 _ (x 0) j _ _ rfl (Nat.zero_add _).symm
  · rw [show l = 1 from Fin.ext h, eq_ix2 x, show x 1 = j from Fin.ext h1]; exact load s 11 0 1024 _ (x 0) j _ _ rfl (Nat.zero_add _).symm
  · rw [show l = 2 from Fin.ext h, eq_ix2 x, show x 1 = j from Fin.ext h1]; exact load s 19 0 1024 _ (x 0) j _ _ rfl (Nat.zero_add _).symm
  · rw [show l = 3 from Fin.ext h, eq_ix2 x, show x 1 = j from Fin.ext h1]; exact load s 27 0 1024 _ (x 0) j _ _ rfl (Nat.zero_add _).symm
theorem g4 (l j) : Blocks.g4 s (ix2 l j) = s (ix2 (at8 l 4) (lo j)) := by
  unfold Blocks.g4 k0_pay20
  concat_tiles x h
  · rw [show l = 0 from Fin.ext h, eq_ix2 x, show x 1 = j from Fin.ext h1]; exact load s 4 0 512 _ (x 0) j _ _ rfl (Nat.zero_add _).symm
  · rw [show l = 1 from Fin.ext h, eq_ix2 x, show x 1 = j from Fin.ext h1]; exact load s 12 0 512 _ (x 0) j _ _ rfl (Nat.zero_add _).symm
  · rw [show l = 2 from Fin.ext h, eq_ix2 x, show x 1 = j from Fin.ext h1]; exact load s 20 0 512 _ (x 0) j _ _ rfl (Nat.zero_add _).symm
  · rw [show l = 3 from Fin.ext h, eq_ix2 x, show x 1 = j from Fin.ext h1]; exact load s 28 0 512 _ (x 0) j _ _ rfl (Nat.zero_add _).symm
theorem g5 (l j) : Blocks.g5 s (ix2 l j) = s (ix2 (at8 l 4) (hi j)) := by
  unfold Blocks.g5 k0_pay24
  concat_tiles x h
  · rw [show l = 0 from Fin.ext h, eq_ix2 x, show x 1 = j from Fin.ext h1]; exact load s 4 512 512 _ (x 0) j _ _ rfl rfl
  · rw [show l = 1 from Fin.ext h, eq_ix2 x, show x 1 = j from Fin.ext h1]; exact load s 12 512 512 _ (x 0) j _ _ rfl rfl
  · rw [show l = 2 from Fin.ext h, eq_ix2 x, show x 1 = j from Fin.ext h1]; exact load s 20 512 512 _ (x 0) j _ _ rfl rfl
  · rw [show l = 3 from Fin.ext h, eq_ix2 x, show x 1 = j from Fin.ext h1]; exact load s 28 512 512 _ (x 0) j _ _ rfl rfl

/-- A store's row of the taps' gradient is the row of the sum that it was read from. -/
theorem tap (v : Vec Ideal S1x512 .f32) (i : Fin 1) (o : Fin 1) (j) : shapeCast S1x1x512 v shapeCasts_S1x512_S1x1x512 (ix3 i o j) = v (ix2 0 j) := by
  pointwise []

theorem taps (l t j) : View.canon (Blocks.taps s) (ix3 l t j) = s (ix2 (tapRow l t) (tapCol t j)) := by
  refine View.canon_eq_of_allAt _ _ _ (taps_cover s _) ?_
  unfold Blocks.taps
  repeat' first | exact View.allAt_nil _ _ | refine View.allAt_cons_unit _ _ _ _ _ ?_ ?_
  · intro x hx
    obtain ⟨hx0, hx1, hx2⟩ := (⟨hx 0, hx 1, hx 2⟩ : l.val = 3 + (x 0).val ∧ t.val = 2 + (x 1).val ∧ j.val = 0 + (x 2).val)
    have b0 : (x 0).val < 1 := (x 0).isLt
    have b1 : (x 1).val < 1 := (x 1).isLt
    obtain rfl : l = 3 := Fin.ext (by show l.val = 3; omega)
    obtain rfl : t = 2 := Fin.ext (by show t.val = 2; omega)
    rw [eq_ix3 x]
    exact (tap _ (x 0) (x 1) (x 2)).trans (load s 30 0 512 _ 0 (x 2) _ _ rfl (show (tapCol 2 j).val = 0 + (x 2).val by show j.val = 0 + (x 2).val; omega))
  · intro x hx
    obtain ⟨hx0, hx1, hx2⟩ := (⟨hx 0, hx 1, hx 2⟩ : l.val = 3 + (x 0).val ∧ t.val = 1 + (x 1).val ∧ j.val = 0 + (x 2).val)
    have b0 : (x 0).val < 1 := (x 0).isLt
    have b1 : (x 1).val < 1 := (x 1).isLt
    obtain rfl : l = 3 := Fin.ext (by show l.val = 3; omega)
    obtain rfl : t = 1 := Fin.ext (by show t.val = 1; omega)
    rw [eq_ix3 x]
    exact (tap _ (x 0) (x 1) (x 2)).trans (load s 29 512 512 _ 0 (x 2) _ _ rfl (show (tapCol 1 j).val = 512 + (x 2).val by show 512 + j.val = 512 + (x 2).val; omega))
  · intro x hx
    obtain ⟨hx0, hx1, hx2⟩ := (⟨hx 0, hx 1, hx 2⟩ : l.val = 3 + (x 0).val ∧ t.val = 0 + (x 1).val ∧ j.val = 0 + (x 2).val)
    have b0 : (x 0).val < 1 := (x 0).isLt
    have b1 : (x 1).val < 1 := (x 1).isLt
    obtain rfl : l = 3 := Fin.ext (by show l.val = 3; omega)
    obtain rfl : t = 0 := Fin.ext (by show t.val = 0; omega)
    rw [eq_ix3 x]
    exact (tap _ (x 0) (x 1) (x 2)).trans (load s 29 0 512 _ 0 (x 2) _ _ rfl (show (tapCol 0 j).val = 0 + (x 2).val by show j.val = 0 + (x 2).val; omega))
  · intro x hx
    obtain ⟨hx0, hx1, hx2⟩ := (⟨hx 0, hx 1, hx 2⟩ : l.val = 2 + (x 0).val ∧ t.val = 2 + (x 1).val ∧ j.val = 0 + (x 2).val)
    have b0 : (x 0).val < 1 := (x 0).isLt
    have b1 : (x 1).val < 1 := (x 1).isLt
    obtain rfl : l = 2 := Fin.ext (by show l.val = 2; omega)
    obtain rfl : t = 2 := Fin.ext (by show t.val = 2; omega)
    rw [eq_ix3 x]
    exact (tap _ (x 0) (x 1) (x 2)).trans (load s 22 0 512 _ 0 (x 2) _ _ rfl (show (tapCol 2 j).val = 0 + (x 2).val by show j.val = 0 + (x 2).val; omega))
  · intro x hx
    obtain ⟨hx0, hx1, hx2⟩ := (⟨hx 0, hx 1, hx 2⟩ : l.val = 2 + (x 0).val ∧ t.val = 1 + (x 1).val ∧ j.val = 0 + (x 2).val)
    have b0 : (x 0).val < 1 := (x 0).isLt
    have b1 : (x 1).val < 1 := (x 1).isLt
    obtain rfl : l = 2 := Fin.ext (by show l.val = 2; omega)
    obtain rfl : t = 1 := Fin.ext (by show t.val = 1; omega)
    rw [eq_ix3 x]
    exact (tap _ (x 0) (x 1) (x 2)).trans (load s 21 512 512 _ 0 (x 2) _ _ rfl (show (tapCol 1 j).val = 512 + (x 2).val by show 512 + j.val = 512 + (x 2).val; omega))
  · intro x hx
    obtain ⟨hx0, hx1, hx2⟩ := (⟨hx 0, hx 1, hx 2⟩ : l.val = 2 + (x 0).val ∧ t.val = 0 + (x 1).val ∧ j.val = 0 + (x 2).val)
    have b0 : (x 0).val < 1 := (x 0).isLt
    have b1 : (x 1).val < 1 := (x 1).isLt
    obtain rfl : l = 2 := Fin.ext (by show l.val = 2; omega)
    obtain rfl : t = 0 := Fin.ext (by show t.val = 0; omega)
    rw [eq_ix3 x]
    exact (tap _ (x 0) (x 1) (x 2)).trans (load s 21 0 512 _ 0 (x 2) _ _ rfl (show (tapCol 0 j).val = 0 + (x 2).val by show j.val = 0 + (x 2).val; omega))
  · intro x hx
    obtain ⟨hx0, hx1, hx2⟩ := (⟨hx 0, hx 1, hx 2⟩ : l.val = 1 + (x 0).val ∧ t.val = 2 + (x 1).val ∧ j.val = 0 + (x 2).val)
    have b0 : (x 0).val < 1 := (x 0).isLt
    have b1 : (x 1).val < 1 := (x 1).isLt
    obtain rfl : l = 1 := Fin.ext (by show l.val = 1; omega)
    obtain rfl : t = 2 := Fin.ext (by show t.val = 2; omega)
    rw [eq_ix3 x]
    exact (tap _ (x 0) (x 1) (x 2)).trans (load s 14 0 512 _ 0 (x 2) _ _ rfl (show (tapCol 2 j).val = 0 + (x 2).val by show j.val = 0 + (x 2).val; omega))
  · intro x hx
    obtain ⟨hx0, hx1, hx2⟩ := (⟨hx 0, hx 1, hx 2⟩ : l.val = 1 + (x 0).val ∧ t.val = 1 + (x 1).val ∧ j.val = 0 + (x 2).val)
    have b0 : (x 0).val < 1 := (x 0).isLt
    have b1 : (x 1).val < 1 := (x 1).isLt
    obtain rfl : l = 1 := Fin.ext (by show l.val = 1; omega)
    obtain rfl : t = 1 := Fin.ext (by show t.val = 1; omega)
    rw [eq_ix3 x]
    exact (tap _ (x 0) (x 1) (x 2)).trans (load s 13 512 512 _ 0 (x 2) _ _ rfl (show (tapCol 1 j).val = 512 + (x 2).val by show 512 + j.val = 512 + (x 2).val; omega))
  · intro x hx
    obtain ⟨hx0, hx1, hx2⟩ := (⟨hx 0, hx 1, hx 2⟩ : l.val = 1 + (x 0).val ∧ t.val = 0 + (x 1).val ∧ j.val = 0 + (x 2).val)
    have b0 : (x 0).val < 1 := (x 0).isLt
    have b1 : (x 1).val < 1 := (x 1).isLt
    obtain rfl : l = 1 := Fin.ext (by show l.val = 1; omega)
    obtain rfl : t = 0 := Fin.ext (by show t.val = 0; omega)
    rw [eq_ix3 x]
    exact (tap _ (x 0) (x 1) (x 2)).trans (load s 13 0 512 _ 0 (x 2) _ _ rfl (show (tapCol 0 j).val = 0 + (x 2).val by show j.val = 0 + (x 2).val; omega))
  · intro x hx
    obtain ⟨hx0, hx1, hx2⟩ := (⟨hx 0, hx 1, hx 2⟩ : l.val = 0 + (x 0).val ∧ t.val = 2 + (x 1).val ∧ j.val = 0 + (x 2).val)
    have b0 : (x 0).val < 1 := (x 0).isLt
    have b1 : (x 1).val < 1 := (x 1).isLt
    obtain rfl : l = 0 := Fin.ext (by show l.val = 0; omega)
    obtain rfl : t = 2 := Fin.ext (by show t.val = 2; omega)
    rw [eq_ix3 x]
    exact (tap _ (x 0) (x 1) (x 2)).trans (load s 6 0 512 _ 0 (x 2) _ _ rfl (show (tapCol 2 j).val = 0 + (x 2).val by show j.val = 0 + (x 2).val; omega))
  · intro x hx
    obtain ⟨hx0, hx1, hx2⟩ := (⟨hx 0, hx 1, hx 2⟩ : l.val = 0 + (x 0).val ∧ t.val = 1 + (x 1).val ∧ j.val = 0 + (x 2).val)
    have b0 : (x 0).val < 1 := (x 0).isLt
    have b1 : (x 1).val < 1 := (x 1).isLt
    obtain rfl : l = 0 := Fin.ext (by show l.val = 0; omega)
    obtain rfl : t = 1 := Fin.ext (by show t.val = 1; omega)
    rw [eq_ix3 x]
    exact (tap _ (x 0) (x 1) (x 2)).trans (load s 5 512 512 _ 0 (x 2) _ _ rfl (show (tapCol 1 j).val = 512 + (x 2).val by show 512 + j.val = 512 + (x 2).val; omega))
  · intro x hx
    obtain ⟨hx0, hx1, hx2⟩ := (⟨hx 0, hx 1, hx 2⟩ : l.val = 0 + (x 0).val ∧ t.val = 0 + (x 1).val ∧ j.val = 0 + (x 2).val)
    have b0 : (x 0).val < 1 := (x 0).isLt
    have b1 : (x 1).val < 1 := (x 1).isLt
    obtain rfl : l = 0 := Fin.ext (by show l.val = 0; omega)
    obtain rfl : t = 0 := Fin.ext (by show t.val = 0; omega)
    rw [eq_ix3 x]
    exact (tap _ (x 0) (x 1) (x 2)).trans (load s 5 0 512 _ 0 (x 2) _ _ rfl (show (tapCol 0 j).val = 0 + (x 2).val by show j.val = 0 + (x 2).val; omega))

theorem loss (i j) : Blocks.loss s (ix2 i j) = s (ix2 7 0) := by
  unfold Blocks.loss
  exact load s 7 0 1 _ i j _ _ rfl (by have := j.isLt; show 0 = 0 + j.val; omega)

/-! The change of a norm's weight and its new moments, from its gradient. -/
variable (X : Blocks Ideal)
theorem m0 (i : S4x1024.Idx) : X.nm0 s i = newM (Blocks.g0 s i) (X.m0 i) := rfl
theorem v0 (i : S4x1024.Idx) : X.nv0 s i = newV (Blocks.g0 s i) (X.v0 i) := rfl
theorem d0 (i : S4x1024.Idx) : X.d0 s i = delta (X.w0 i) (Blocks.g0 s i) (X.m0 i) (X.v0 i) := rfl
theorem m1 (i : S4x1024.Idx) : X.nm1 s i = newM (Blocks.g1 s i) (X.m1 i) := rfl
theorem v1 (i : S4x1024.Idx) : X.nv1 s i = newV (Blocks.g1 s i) (X.v1 i) := rfl
theorem d1 (i : S4x1024.Idx) : X.d1 s i = delta (X.w1 i) (Blocks.g1 s i) (X.m1 i) (X.v1 i) := rfl
theorem m2 (i : S4x1024.Idx) : X.nm2 s i = newM (Blocks.g2 s i) (X.m2 i) := rfl
theorem v2 (i : S4x1024.Idx) : X.nv2 s i = newV (Blocks.g2 s i) (X.v2 i) := rfl
theorem d2 (i : S4x1024.Idx) : X.d2 s i = delta (X.w2 i) (Blocks.g2 s i) (X.m2 i) (X.v2 i) := rfl
theorem m3 (i : S4x1024.Idx) : X.nm3 s i = newM (Blocks.g3 s i) (X.m3 i) := rfl
theorem v3 (i : S4x1024.Idx) : X.nv3 s i = newV (Blocks.g3 s i) (X.v3 i) := rfl
theorem d3 (i : S4x1024.Idx) : X.d3 s i = delta (X.w3 i) (Blocks.g3 s i) (X.m3 i) (X.v3 i) := rfl
theorem m4 (i : S4x512.Idx) : X.nm4 s i = newM (Blocks.g4 s i) (X.m4 i) := rfl
theorem v4 (i : S4x512.Idx) : X.nv4 s i = newV (Blocks.g4 s i) (X.v4 i) := rfl
theorem d4 (i : S4x512.Idx) : X.d4 s i = delta (X.w4 i) (Blocks.g4 s i) (X.m4 i) (X.v4 i) := rfl
theorem m5 (i : S4x512.Idx) : X.nm5 s i = newM (Blocks.g5 s i) (X.m5 i) := rfl
theorem v5 (i : S4x512.Idx) : X.nv5 s i = newV (Blocks.g5 s i) (X.v5 i) := rfl
theorem d5 (i : S4x512.Idx) : X.d5 s i = delta (X.w5 i) (Blocks.g5 s i) (X.m5 i) (X.v5 i) := rfl
end Kernel

/-! The kernel's results are the reference's. -/
section Same
open Cert.SmallStepIdeal Cert.SmallStepIdeal.Gen Cert.SmallRun
open Cert.SmallIdeal.Read
variable (X : Blocks Ideal)

theorem same_g0 : Blocks.g0 X.total = val_main_v3 (F := Ideal) X.p := by
  funext i; rw [eq_ix2 i]; exact (g0 X.total _ _).trans ((total X _ _).trans (ref_g0 X.p _ _).symm)
theorem same_m0 : X.nm0 X.total = val_main_v18 (F := Ideal) X.p X.m0 := by
  funext i; rw [m0, same_g0]; rfl
theorem same_v0 : X.nv0 X.total = val_main_v24 (F := Ideal) X.p X.v0 := by
  funext i; rw [v0, same_g0]; rfl
theorem same_d0 : X.d0 X.total = val_main_v37 (F := Ideal) X.p X.w0 X.m0 X.v0 := by
  funext i; rw [d0, same_g0]; rfl
theorem same_g1 : Blocks.g1 X.total = val_main_v5 (F := Ideal) X.p := by
  funext i; rw [eq_ix2 i]; exact (g1 X.total _ _).trans ((total X _ _).trans (ref_g1 X.p _ _).symm)
theorem same_m1 : X.nm1 X.total = val_main_v42 (F := Ideal) X.p X.m1 := by
  funext i; rw [m1, same_g1]; rfl
theorem same_v1 : X.nv1 X.total = val_main_v48 (F := Ideal) X.p X.v1 := by
  funext i; rw [v1, same_g1]; rfl
theorem same_d1 : X.d1 X.total = val_main_v61 (F := Ideal) X.p X.w1 X.m1 X.v1 := by
  funext i; rw [d1, same_g1]; rfl
theorem same_g2 : Blocks.g2 X.total = val_main_v7 (F := Ideal) X.p := by
  funext i; rw [eq_ix2 i]; exact (g2 X.total _ _).trans ((total X _ _).trans (ref_g2 X.p _ _).symm)
theorem same_m2 : X.nm2 X.total = val_main_v66 (F := Ideal) X.p X.m2 := by
  funext i; rw [m2, same_g2]; rfl
theorem same_v2 : X.nv2 X.total = val_main_v72 (F := Ideal) X.p X.v2 := by
  funext i; rw [v2, same_g2]; rfl
theorem same_d2 : X.d2 X.total = val_main_v85 (F := Ideal) X.p X.w2 X.m2 X.v2 := by
  funext i; rw [d2, same_g2]; rfl
theorem same_g3 : Blocks.g3 X.total = val_main_v9 (F := Ideal) X.p := by
  funext i; rw [eq_ix2 i]; exact (g3 X.total _ _).trans ((total X _ _).trans (ref_g3 X.p _ _).symm)
theorem same_m3 : X.nm3 X.total = val_main_v90 (F := Ideal) X.p X.m3 := by
  funext i; rw [m3, same_g3]; rfl
theorem same_v3 : X.nv3 X.total = val_main_v96 (F := Ideal) X.p X.v3 := by
  funext i; rw [v3, same_g3]; rfl
theorem same_d3 : X.d3 X.total = val_main_v109 (F := Ideal) X.p X.w3 X.m3 X.v3 := by
  funext i; rw [d3, same_g3]; rfl
theorem same_g4 : Blocks.g4 X.total = val_main_v11 (F := Ideal) X.p := by
  funext i; rw [eq_ix2 i]; exact (g4 X.total _ _).trans ((total X _ _).trans (ref_g4 X.p _ _).symm)
theorem same_m4 : X.nm4 X.total = val_main_v114 (F := Ideal) X.p X.m4 := by
  funext i; rw [m4, same_g4]; rfl
theorem same_v4 : X.nv4 X.total = val_main_v120 (F := Ideal) X.p X.v4 := by
  funext i; rw [v4, same_g4]; rfl
theorem same_d4 : X.d4 X.total = val_main_v133 (F := Ideal) X.p X.w4 X.m4 X.v4 := by
  funext i; rw [d4, same_g4]; rfl
theorem same_g5 : Blocks.g5 X.total = val_main_v13 (F := Ideal) X.p := by
  funext i; rw [eq_ix2 i]; exact (g5 X.total _ _).trans ((total X _ _).trans (ref_g5 X.p _ _).symm)
theorem same_m5 : X.nm5 X.total = val_main_v138 (F := Ideal) X.p X.m5 := by
  funext i; rw [m5, same_g5]; rfl
theorem same_v5 : X.nv5 X.total = val_main_v144 (F := Ideal) X.p X.v5 := by
  funext i; rw [v5, same_g5]; rfl
theorem same_d5 : X.d5 X.total = val_main_v157 (F := Ideal) X.p X.w5 X.m5 X.v5 := by
  funext i; rw [d5, same_g5]; rfl
theorem same_taps : View.canon (Blocks.taps X.total) = val_main_v167 (F := Ideal) X.p := by
  funext i; rw [eq_ix3 i]; exact (taps X.total _ _ _).trans ((total X _ _).trans (ref_taps X.p _ _ _).symm)
theorem same_loss : Blocks.loss X.total = val_main_v169 (F := Ideal) X.p := by
  funext i; rw [eq_ix2 i]; exact (loss X.total _ _).trans ((total X _ _).trans (ref_loss X.p _ _).symm)
end Same

end Cert.SmallValues

end
-- ==== Proof.SmallClaim.lean ====
/- The optimiser's call for the norms' weights, of one device: the arrays its kernel leaves are the reference's. No entry
   needs to be finite. -/
module

public import proofs.«01_k».proof.Defs
public import proofs.«01_k».proof.Proof.SmallFrame
public import proofs.«01_k».proof.Proof.SmallValues
public import proofs.«01_k».proof.Proof.Gen.SmallIdeal.Run

@[expose] public section

set_option maxRecDepth 16384
set_option maxHeartbeats 3200000

noncomputable section

open Idealize.ShloMosaic Idealize.ShloMosaic.TcCoe Idealize.SL.Sem
open Idealize.ShloMosaic.Pipeline (Dat)

namespace Cert.SmallClaim

section Kernel
open Cert.SmallStepIdeal Cert.SmallStepIdeal.Gen Cert.SmallRun Cert.SmallValues
open Cert.SmallIdeal.Read

variable (m : (ℓ : Loc nD τ sig) → Buf (Elt Ideal) ℓ) (ρ : Dev nD → PrngReg) (c : Dev nD)

/-- The call's arguments on a device. -/
def given : Blocks Ideal where
  p := m ((c.tc : Thread nD τ).loc main_arg0)
  w0 := m ((c.tc : Thread nD τ).loc main_arg1)
  w1 := m ((c.tc : Thread nD τ).loc main_arg2)
  w2 := m ((c.tc : Thread nD τ).loc main_arg3)
  w3 := m ((c.tc : Thread nD τ).loc main_arg4)
  w4 := m ((c.tc : Thread nD τ).loc main_arg5)
  w5 := m ((c.tc : Thread nD τ).loc main_arg6)
  m0 := m ((c.tc : Thread nD τ).loc main_arg7)
  m1 := m ((c.tc : Thread nD τ).loc main_arg8)
  m2 := m ((c.tc : Thread nD τ).loc main_arg9)
  m3 := m ((c.tc : Thread nD τ).loc main_arg10)
  m4 := m ((c.tc : Thread nD τ).loc main_arg11)
  m5 := m ((c.tc : Thread nD τ).loc main_arg12)
  v0 := m ((c.tc : Thread nD τ).loc main_arg13)
  v1 := m ((c.tc : Thread nD τ).loc main_arg14)
  v2 := m ((c.tc : Thread nD τ).loc main_arg15)
  v3 := m ((c.tc : Thread nD τ).loc main_arg16)
  v4 := m ((c.tc : Thread nD τ).loc main_arg17)
  v5 := m ((c.tc : Thread nD τ).loc main_arg18)

/-! What the body reads of each argument is the argument. -/

theorem in0 (t : Fin cfg0.N) : iblk m c 0 t = (given m c).p := by
  have e : win0_0.index t = ![0, 0, 0] := by obtain rfl := fin_N0 t; decide +kernel
  show iblk m c 0 t = m ((c.tc : Thread nD τ).loc main_arg0)
  funext y
  blk_ext [iblk, V, e]
theorem in1 (t : Fin cfg0.N) : iblk m c 1 t = (given m c).w0 := by
  have e : win0_1.index t = ![0, 0] := by obtain rfl := fin_N0 t; decide +kernel
  show iblk m c 1 t = m ((c.tc : Thread nD τ).loc main_arg1)
  funext y
  blk_ext [iblk, V, e]
theorem in2 (t : Fin cfg0.N) : iblk m c 2 t = (given m c).w1 := by
  have e : win0_2.index t = ![0, 0] := by obtain rfl := fin_N0 t; decide +kernel
  show iblk m c 2 t = m ((c.tc : Thread nD τ).loc main_arg2)
  funext y
  blk_ext [iblk, V, e]
theorem in3 (t : Fin cfg0.N) : iblk m c 3 t = (given m c).w2 := by
  have e : win0_3.index t = ![0, 0] := by obtain rfl := fin_N0 t; decide +kernel
  show iblk m c 3 t = m ((c.tc : Thread nD τ).loc main_arg3)
  funext y
  blk_ext [iblk, V, e]
theorem in4 (t : Fin cfg0.N) : iblk m c 4 t = (given m c).w3 := by
  have e : win0_4.index t = ![0, 0] := by obtain rfl := fin_N0 t; decide +kernel
  show iblk m c 4 t = m ((c.tc : Thread nD τ).loc main_arg4)
  funext y
  blk_ext [iblk, V, e]
theorem in5 (t : Fin cfg0.N) : iblk m c 5 t = (given m c).w4 := by
  have e : win0_5.index t = ![0, 0] := by obtain rfl := fin_N0 t; decide +kernel
  show iblk m c 5 t = m ((c.tc : Thread nD τ).loc main_arg5)
  funext y
  blk_ext [iblk, V, e]
theorem in6 (t : Fin cfg0.N) : iblk m c 6 t = (given m c).w5 := by
  have e : win0_6.index t = ![0, 0] := by obtain rfl := fin_N0 t; decide +kernel
  show iblk m c 6 t = m ((c.tc : Thread nD τ).loc main_arg6)
  funext y
  blk_ext [iblk, V, e]
theorem in7 (t : Fin cfg0.N) : iblk m c 7 t = (given m c).m0 := by
  have e : win0_7.index t = ![0, 0] := by obtain rfl := fin_N0 t; decide +kernel
  show iblk m c 7 t = m ((c.tc : Thread nD τ).loc main_arg7)
  funext y
  blk_ext [iblk, V, e]
theorem in8 (t : Fin cfg0.N) : iblk m c 8 t = (given m c).m1 := by
  have e : win0_8.index t = ![0, 0] := by obtain rfl := fin_N0 t; decide +kernel
  show iblk m c 8 t = m ((c.tc : Thread nD τ).loc main_arg8)
  funext y
  blk_ext [iblk, V, e]
theorem in9 (t : Fin cfg0.N) : iblk m c 9 t = (given m c).m2 := by
  have e : win0_9.index t = ![0, 0] := by obtain rfl := fin_N0 t; decide +kernel
  show iblk m c 9 t = m ((c.tc : Thread nD τ).loc main_arg9)
  funext y
  blk_ext [iblk, V, e]
theorem in10 (t : Fin cfg0.N) : iblk m c 10 t = (given m c).m3 := by
  have e : win0_10.index t = ![0, 0] := by obtain rfl := fin_N0 t; decide +kernel
  show iblk m c 10 t = m ((c.tc : Thread nD τ).loc main_arg10)
  funext y
  blk_ext [iblk, V, e]
theorem in11 (t : Fin cfg0.N) : iblk m c 11 t = (given m c).m4 := by
  have e : win0_11.index t = ![0, 0] := by obtain rfl := fin_N0 t; decide +kernel
  show iblk m c 11 t = m ((c.tc : Thread nD τ).loc main_arg11)
  funext y
  blk_ext [iblk, V, e]
theorem in12 (t : Fin cfg0.N) : iblk m c 12 t = (given m c).m5 := by
  have e : win0_12.index t = ![0, 0] := by obtain rfl := fin_N0 t; decide +kernel
  show iblk m c 12 t = m ((c.tc : Thread nD τ).loc main_arg12)
  funext y
  blk_ext [iblk, V, e]
theorem in13 (t : Fin cfg0.N) : iblk m c 13 t = (given m c).v0 := by
  have e : win0_13.index t = ![0, 0] := by obtain rfl := fin_N0 t; decide +kernel
  show iblk m c 13 t = m ((c.tc : Thread nD τ).loc main_arg13)
  funext y
  blk_ext [iblk, V, e]
theorem in14 (t : Fin cfg0.N) : iblk m c 14 t = (given m c).v1 := by
  have e : win0_14.index t = ![0, 0] := by obtain rfl := fin_N0 t; decide +kernel
  show iblk m c 14 t = m ((c.tc : Thread nD τ).loc main_arg14)
  funext y
  blk_ext [iblk, V, e]
theorem in15 (t : Fin cfg0.N) : iblk m c 15 t = (given m c).v2 := by
  have e : win0_15.index t = ![0, 0] := by obtain rfl := fin_N0 t; decide +kernel
  show iblk m c 15 t = m ((c.tc : Thread nD τ).loc main_arg15)
  funext y
  blk_ext [iblk, V, e]
theorem in16 (t : Fin cfg0.N) : iblk m c 16 t = (given m c).v3 := by
  have e : win0_16.index t = ![0, 0] := by obtain rfl := fin_N0 t; decide +kernel
  show iblk m c 16 t = m ((c.tc : Thread nD τ).loc main_arg16)
  funext y
  blk_ext [iblk, V, e]
theorem in17 (t : Fin cfg0.N) : iblk m c 17 t = (given m c).v4 := by
  have e : win0_17.index t = ![0, 0] := by obtain rfl := fin_N0 t; decide +kernel
  show iblk m c 17 t = m ((c.tc : Thread nD τ).loc main_arg17)
  funext y
  blk_ext [iblk, V, e]
theorem in18 (t : Fin cfg0.N) : iblk m c 18 t = (given m c).v5 := by
  have e : win0_18.index t = ![0, 0] := by obtain rfl := fin_N0 t; decide +kernel
  show iblk m c 18 t = m ((c.tc : Thread nD τ).loc main_arg18)
  funext y
  blk_ext [iblk, V, e]

theorem reads (t : Fin cfg0.N) : blocks m c t = given m c := by
  unfold blocks
  rw [in0, in1, in2, in3, in4, in5, in6, in7, in8, in9, in10, in11, in12, in13, in14, in15, in16, in17, in18]

/-! What each result holds after the call. -/

theorem after19 (t : Fin cfg0.N) : (dats m 0 c).after 19 t = Blocks.g0 (sum m c t) := rfl
theorem final19 : (dats m 0 c).arrAt 19 cfg0.N = val_main_v3 (F := Ideal) (given m c).p := by
  refine (dats m 0 c).arrAt_eq_of_after_last 19 t0_0 (by decide +kernel) _ fun j => ?_
  blk_simp
  rw [after19, sum, reads]; exact congrFun (same_g0 (given m c)) j

theorem after20 (t : Fin cfg0.N) : (dats m 0 c).after 20 t = (blocks m c t).d0 (sum m c t) := rfl
theorem final20 : (dats m 0 c).arrAt 20 cfg0.N = val_main_v37 (F := Ideal) (given m c).p (given m c).w0 (given m c).m0 (given m c).v0 := by
  refine (dats m 0 c).arrAt_eq_of_after_last 20 t0_0 (by decide +kernel) _ fun j => ?_
  blk_simp
  rw [after20, sum, reads]; exact congrFun (same_d0 (given m c)) j

theorem after21 (t : Fin cfg0.N) : (dats m 0 c).after 21 t = (blocks m c t).nm0 (sum m c t) := rfl
theorem final21 : (dats m 0 c).arrAt 21 cfg0.N = val_main_v18 (F := Ideal) (given m c).p (given m c).m0 := by
  refine (dats m 0 c).arrAt_eq_of_after_last 21 t0_0 (by decide +kernel) _ fun j => ?_
  blk_simp
  rw [after21, sum, reads]; exact congrFun (same_m0 (given m c)) j

theorem after22 (t : Fin cfg0.N) : (dats m 0 c).after 22 t = (blocks m c t).nv0 (sum m c t) := rfl
theorem final22 : (dats m 0 c).arrAt 22 cfg0.N = val_main_v24 (F := Ideal) (given m c).p (given m c).v0 := by
  refine (dats m 0 c).arrAt_eq_of_after_last 22 t0_0 (by decide +kernel) _ fun j => ?_
  blk_simp
  rw [after22, sum, reads]; exact congrFun (same_v0 (given m c)) j

theorem after23 (t : Fin cfg0.N) : (dats m 0 c).after 23 t = Blocks.g1 (sum m c t) := rfl
theorem final23 : (dats m 0 c).arrAt 23 cfg0.N = val_main_v5 (F := Ideal) (given m c).p := by
  refine (dats m 0 c).arrAt_eq_of_after_last 23 t0_0 (by decide +kernel) _ fun j => ?_
  blk_simp
  rw [after23, sum, reads]; exact congrFun (same_g1 (given m c)) j

theorem after24 (t : Fin cfg0.N) : (dats m 0 c).after 24 t = (blocks m c t).d1 (sum m c t) := rfl
theorem final24 : (dats m 0 c).arrAt 24 cfg0.N = val_main_v61 (F := Ideal) (given m c).p (given m c).w1 (given m c).m1 (given m c).v1 := by
  refine (dats m 0 c).arrAt_eq_of_after_last 24 t0_0 (by decide +kernel) _ fun j => ?_
  blk_simp
  rw [after24, sum, reads]; exact congrFun (same_d1 (given m c)) j

theorem after25 (t : Fin cfg0.N) : (dats m 0 c).after 25 t = (blocks m c t).nm1 (sum m c t) := rfl
theorem final25 : (dats m 0 c).arrAt 25 cfg0.N = val_main_v42 (F := Ideal) (given m c).p (given m c).m1 := by
  refine (dats m 0 c).arrAt_eq_of_after_last 25 t0_0 (by decide +kernel) _ fun j => ?_
  blk_simp
  rw [after25, sum, reads]; exact congrFun (same_m1 (given m c)) j

theorem after26 (t : Fin cfg0.N) : (dats m 0 c).after 26 t = (blocks m c t).nv1 (sum m c t) := rfl
theorem final26 : (dats m 0 c).arrAt 26 cfg0.N = val_main_v48 (F := Ideal) (given m c).p (given m c).v1 := by
  refine (dats m 0 c).arrAt_eq_of_after_last 26 t0_0 (by decide +kernel) _ fun j => ?_
  blk_simp
  rw [after26, sum, reads]; exact congrFun (same_v1 (given m c)) j

theorem after27 (t : Fin cfg0.N) : (dats m 0 c).after 27 t = Blocks.g2 (sum m c t) := rfl
theorem final27 : (dats m 0 c).arrAt 27 cfg0.N = val_main_v7 (F := Ideal) (given m c).p := by
  refine (dats m 0 c).arrAt_eq_of_after_last 27 t0_0 (by decide +kernel) _ fun j => ?_
  blk_simp
  rw [after27, sum, reads]; exact congrFun (same_g2 (given m c)) j

theorem after28 (t : Fin cfg0.N) : (dats m 0 c).after 28 t = (blocks m c t).d2 (sum m c t) := rfl
theorem final28 : (dats m 0 c).arrAt 28 cfg0.N = val_main_v85 (F := Ideal) (given m c).p (given m c).w2 (given m c).m2 (given m c).v2 := by
  refine (dats m 0 c).arrAt_eq_of_after_last 28 t0_0 (by decide +kernel) _ fun j => ?_
  blk_simp
  rw [after28, sum, reads]; exact congrFun (same_d2 (given m c)) j

theorem after29 (t : Fin cfg0.N) : (dats m 0 c).after 29 t = (blocks m c t).nm2 (sum m c t) := rfl
theorem final29 : (dats m 0 c).arrAt 29 cfg0.N = val_main_v66 (F := Ideal) (given m c).p (given m c).m2 := by
  refine (dats m 0 c).arrAt_eq_of_after_last 29 t0_0 (by decide +kernel) _ fun j => ?_
  blk_simp
  rw [after29, sum, reads]; exact congrFun (same_m2 (given m c)) j

theorem after30 (t : Fin cfg0.N) : (dats m 0 c).after 30 t = (blocks m c t).nv2 (sum m c t) := rfl
theorem final30 : (dats m 0 c).arrAt 30 cfg0.N = val_main_v72 (F := Ideal) (given m c).p (given m c).v2 := by
  refine (dats m 0 c).arrAt_eq_of_after_last 30 t0_0 (by decide +kernel) _ fun j => ?_
  blk_simp
  rw [after30, sum, reads]; exact congrFun (same_v2 (given m c)) j

theorem after31 (t : Fin cfg0.N) : (dats m 0 c).after 31 t = Blocks.g3 (sum m c t) := rfl
theorem final31 : (dats m 0 c).arrAt 31 cfg0.N = val_main_v9 (F := Ideal) (given m c).p := by
  refine (dats m 0 c).arrAt_eq_of_after_last 31 t0_0 (by decide +kernel) _ fun j => ?_
  blk_simp
  rw [after31, sum, reads]; exact congrFun (same_g3 (given m c)) j

theorem after32 (t : Fin cfg0.N) : (dats m 0 c).after 32 t = (blocks m c t).d3 (sum m c t) := rfl
theorem final32 : (dats m 0 c).arrAt 32 cfg0.N = val_main_v109 (F := Ideal) (given m c).p (given m c).w3 (given m c).m3 (given m c).v3 := by
  refine (dats m 0 c).arrAt_eq_of_after_last 32 t0_0 (by decide +kernel) _ fun j => ?_
  blk_simp
  rw [after32, sum, reads]; exact congrFun (same_d3 (given m c)) j

theorem after33 (t : Fin cfg0.N) : (dats m 0 c).after 33 t = (blocks m c t).nm3 (sum m c t) := rfl
theorem final33 : (dats m 0 c).arrAt 33 cfg0.N = val_main_v90 (F := Ideal) (given m c).p (given m c).m3 := by
  refine (dats m 0 c).arrAt_eq_of_after_last 33 t0_0 (by decide +kernel) _ fun j => ?_
  blk_simp
  rw [after33, sum, reads]; exact congrFun (same_m3 (given m c)) j

theorem after34 (t : Fin cfg0.N) : (dats m 0 c).after 34 t = (blocks m c t).nv3 (sum m c t) := rfl
theorem final34 : (dats m 0 c).arrAt 34 cfg0.N = val_main_v96 (F := Ideal) (given m c).p (given m c).v3 := by
  refine (dats m 0 c).arrAt_eq_of_after_last 34 t0_0 (by decide +kernel) _ fun j => ?_
  blk_simp
  rw [after34, sum, reads]; exact congrFun (same_v3 (given m c)) j

theorem after35 (t : Fin cfg0.N) : (dats m 0 c).after 35 t = Blocks.g4 (sum m c t) := rfl
theorem final35 : (dats m 0 c).arrAt 35 cfg0.N = val_main_v11 (F := Ideal) (given m c).p := by
  refine (dats m 0 c).arrAt_eq_of_after_last 35 t0_0 (by decide +kernel) _ fun j => ?_
  blk_simp
  rw [after35, sum, reads]; exact congrFun (same_g4 (given m c)) j

theorem after36 (t : Fin cfg0.N) : (dats m 0 c).after 36 t = (blocks m c t).d4 (sum m c t) := rfl
theorem final36 : (dats m 0 c).arrAt 36 cfg0.N = val_main_v133 (F := Ideal) (given m c).p (given m c).w4 (given m c).m4 (given m c).v4 := by
  refine (dats m 0 c).arrAt_eq_of_after_last 36 t0_0 (by decide +kernel) _ fun j => ?_
  blk_simp
  rw [after36, sum, reads]; exact congrFun (same_d4 (given m c)) j

theorem after37 (t : Fin cfg0.N) : (dats m 0 c).after 37 t = (blocks m c t).nm4 (sum m c t) := rfl
theorem final37 : (dats m 0 c).arrAt 37 cfg0.N = val_main_v114 (F := Ideal) (given m c).p (given m c).m4 := by
  refine (dats m 0 c).arrAt_eq_of_after_last 37 t0_0 (by decide +kernel) _ fun j => ?_
  blk_simp
  rw [after37, sum, reads]; exact congrFun (same_m4 (given m c)) j

theorem after38 (t : Fin cfg0.N) : (dats m 0 c).after 38 t = (blocks m c t).nv4 (sum m c t) := rfl
theorem final38 : (dats m 0 c).arrAt 38 cfg0.N = val_main_v120 (F := Ideal) (given m c).p (given m c).v4 := by
  refine (dats m 0 c).arrAt_eq_of_after_last 38 t0_0 (by decide +kernel) _ fun j => ?_
  blk_simp
  rw [after38, sum, reads]; exact congrFun (same_v4 (given m c)) j

theorem after39 (t : Fin cfg0.N) : (dats m 0 c).after 39 t = Blocks.g5 (sum m c t) := rfl
theorem final39 : (dats m 0 c).arrAt 39 cfg0.N = val_main_v13 (F := Ideal) (given m c).p := by
  refine (dats m 0 c).arrAt_eq_of_after_last 39 t0_0 (by decide +kernel) _ fun j => ?_
  blk_simp
  rw [after39, sum, reads]; exact congrFun (same_g5 (given m c)) j

theorem after40 (t : Fin cfg0.N) : (dats m 0 c).after 40 t = (blocks m c t).d5 (sum m c t) := rfl
theorem final40 : (dats m 0 c).arrAt 40 cfg0.N = val_main_v157 (F := Ideal) (given m c).p (given m c).w5 (given m c).m5 (given m c).v5 := by
  refine (dats m 0 c).arrAt_eq_of_after_last 40 t0_0 (by decide +kernel) _ fun j => ?_
  blk_simp
  rw [after40, sum, reads]; exact congrFun (same_d5 (given m c)) j

theorem after41 (t : Fin cfg0.N) : (dats m 0 c).after 41 t = (blocks m c t).nm5 (sum m c t) := rfl
theorem final41 : (dats m 0 c).arrAt 41 cfg0.N = val_main_v138 (F := Ideal) (given m c).p (given m c).m5 := by
  refine (dats m 0 c).arrAt_eq_of_after_last 41 t0_0 (by decide +kernel) _ fun j => ?_
  blk_simp
  rw [after41, sum, reads]; exact congrFun (same_m5 (given m c)) j

theorem after42 (t : Fin cfg0.N) : (dats m 0 c).after 42 t = (blocks m c t).nv5 (sum m c t) := rfl
theorem final42 : (dats m 0 c).arrAt 42 cfg0.N = val_main_v144 (F := Ideal) (given m c).p (given m c).v5 := by
  refine (dats m 0 c).arrAt_eq_of_after_last 42 t0_0 (by decide +kernel) _ fun j => ?_
  blk_simp
  rw [after42, sum, reads]; exact congrFun (same_v5 (given m c)) j

theorem after43 (t : Fin cfg0.N) : (dats m 0 c).after 43 t = View.canon (Blocks.taps (sum m c t)) := rfl
theorem final43 : (dats m 0 c).arrAt 43 cfg0.N = val_main_v167 (F := Ideal) (given m c).p := by
  refine (dats m 0 c).arrAt_eq_of_after_last 43 t0_0 (by decide +kernel) _ fun j => ?_
  blk_simp
  rw [after43, sum, reads]; exact congrFun (same_taps (given m c)) j

theorem after44 (t : Fin cfg0.N) : (dats m 0 c).after 44 t = Blocks.loss (sum m c t) := rfl
theorem final44 : (dats m 0 c).arrAt 44 cfg0.N = val_main_v169 (F := Ideal) (given m c).p := by
  refine (dats m 0 c).arrAt_eq_of_after_last 44 t0_0 (by decide +kernel) _ fun j => ?_
  blk_simp
  rw [after44, sum, reads]; exact congrFun (same_loss (given m c)) j

theorem kernel_run : θ_run defs (onTc (τ := τ) (main (F := Ideal))) ⟨m, fun _ => 0, ρ⟩ (fun r => ∀ c : Dev nD,
      r.2.mem ((c.tc : Thread nD τ).loc main_v0_0) = (dats m 0 c).arrAt 19 cfg0.N
      ∧ r.2.mem ((c.tc : Thread nD τ).loc main_v0_1) = (dats m 0 c).arrAt 20 cfg0.N
      ∧ r.2.mem ((c.tc : Thread nD τ).loc main_v0_2) = (dats m 0 c).arrAt 21 cfg0.N
      ∧ r.2.mem ((c.tc : Thread nD τ).loc main_v0_3) = (dats m 0 c).arrAt 22 cfg0.N
      ∧ r.2.mem ((c.tc : Thread nD τ).loc main_v0_4) = (dats m 0 c).arrAt 23 cfg0.N
      ∧ r.2.mem ((c.tc : Thread nD τ).loc main_v0_5) = (dats m 0 c).arrAt 24 cfg0.N
      ∧ r.2.mem ((c.tc : Thread nD τ).loc main_v0_6) = (dats m 0 c).arrAt 25 cfg0.N
      ∧ r.2.mem ((c.tc : Thread nD τ).loc main_v0_7) = (dats m 0 c).arrAt 26 cfg0.N
      ∧ r.2.mem ((c.tc : Thread nD τ).loc main_v0_8) = (dats m 0 c).arrAt 27 cfg0.N
      ∧ r.2.mem ((c.tc : Thread nD τ).loc main_v0_9) = (dats m 0 c).arrAt 28 cfg0.N
      ∧ r.2.mem ((c.tc : Thread nD τ).loc main_v0_10) = (dats m 0 c).arrAt 29 cfg0.N
      ∧ r.2.mem ((c.tc : Thread nD τ).loc main_v0_11) = (dats m 0 c).arrAt 30 cfg0.N
      ∧ r.2.mem ((c.tc : Thread nD τ).loc main_v0_12) = (dats m 0 c).arrAt 31 cfg0.N
      ∧ r.2.mem ((c.tc : Thread nD τ).loc main_v0_13) = (dats m 0 c).arrAt 32 cfg0.N
      ∧ r.2.mem ((c.tc : Thread nD τ).loc main_v0_14) = (dats m 0 c).arrAt 33 cfg0.N
      ∧ r.2.mem ((c.tc : Thread nD τ).loc main_v0_15) = (dats m 0 c).arrAt 34 cfg0.N
      ∧ r.2.mem ((c.tc : Thread nD τ).loc main_v0_16) = (dats m 0 c).arrAt 35 cfg0.N
      ∧ r.2.mem ((c.tc : Thread nD τ).loc main_v0_17) = (dats m 0 c).arrAt 36 cfg0.N
      ∧ r.2.mem ((c.tc : Thread nD τ).loc main_v0_18) = (dats m 0 c).arrAt 37 cfg0.N
      ∧ r.2.mem ((c.tc : Thread nD τ).loc main_v0_19) = (dats m 0 c).arrAt 38 cfg0.N
      ∧ r.2.mem ((c.tc : Thread nD τ).loc main_v0_20) = (dats m 0 c).arrAt 39 cfg0.N
      ∧ r.2.mem ((c.tc : Thread nD τ).loc main_v0_21) = (dats m 0 c).arrAt 40 cfg0.N
      ∧ r.2.mem ((c.tc : Thread nD τ).loc main_v0_22) = (dats m 0 c).arrAt 41 cfg0.N
      ∧ r.2.mem ((c.tc : Thread nD τ).loc main_v0_23) = (dats m 0 c).arrAt 42 cfg0.N
      ∧ r.2.mem ((c.tc : Thread nD τ).loc main_v0_24) = (dats m 0 c).arrAt 43 cfg0.N
      ∧ r.2.mem ((c.tc : Thread nD τ).loc main_v0_25) = (dats m 0 c).arrAt 44 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h.2.1 c).1 19, (h.2.1 c).1 20, (h.2.1 c).1 21, (h.2.1 c).1 22, (h.2.1 c).1 23, (h.2.1 c).1 24, (h.2.1 c).1 25, (h.2.1 c).1 26, (h.2.1 c).1 27, (h.2.1 c).1 28, (h.2.1 c).1 29, (h.2.1 c).1 30, (h.2.1 c).1 31, (h.2.1 c).1 32, (h.2.1 c).1 33, (h.2.1 c).1 34, (h.2.1 c).1 35, (h.2.1 c).1 36, (h.2.1 c).1 37, (h.2.1 c).1 38, (h.2.1 c).1 39, (h.2.1 c).1 40, (h.2.1 c).1 41, (h.2.1 c).1 42, (h.2.1 c).1 43, (h.2.1 c).1 44,
    h.1.1 c⟩) (θ_run_and (frame m ρ) (run_main m ρ))
end Kernel

section Reference
open Cert.SmallIdeal Cert.SmallIdeal.Gen Cert.SmallIdeal.Read Cert.SmallRun

attribute [local instance] Cert.SmallStepIdeal.Gen.facts Cert.SmallIdeal.Gen.facts

/-- The reference runs and keeps its arguments; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) ∧ r.2.sem = fun _ => 0) :=
  (θ_run _ _ _).mono (fun r h => ⟨fun c => (h c).2.2.2.2.2.2.2.2.2.2.2.2.2.2.2.2.2.2.2.2.2.2.2.2.2.2, sem_eq_zero_of_no_sems (by decide) r.2⟩)
    (Cert.SmallIdeal.Value.run m g)

/-- The kernel's results are the reference's. -/
theorem algebraic : Cert.algebraic_SmallStepIdeal_SmallIdeal := by
  intro m g m' g' pre agree
  refine ⟨fun c => val_main_v3 (F := Ideal) (given m c).p,
    fun c => val_main_v37 (F := Ideal) (given m c).p (given m c).w0 (given m c).m0 (given m c).v0,
    fun c => val_main_v18 (F := Ideal) (given m c).p (given m c).m0,
    fun c => val_main_v24 (F := Ideal) (given m c).p (given m c).v0,
    fun c => val_main_v5 (F := Ideal) (given m c).p,
    fun c => val_main_v61 (F := Ideal) (given m c).p (given m c).w1 (given m c).m1 (given m c).v1,
    fun c => val_main_v42 (F := Ideal) (given m c).p (given m c).m1,
    fun c => val_main_v48 (F := Ideal) (given m c).p (given m c).v1,
    fun c => val_main_v7 (F := Ideal) (given m c).p,
    fun c => val_main_v85 (F := Ideal) (given m c).p (given m c).w2 (given m c).m2 (given m c).v2,
    fun c => val_main_v66 (F := Ideal) (given m c).p (given m c).m2,
    fun c => val_main_v72 (F := Ideal) (given m c).p (given m c).v2,
    fun c => val_main_v9 (F := Ideal) (given m c).p,
    fun c => val_main_v109 (F := Ideal) (given m c).p (given m c).w3 (given m c).m3 (given m c).v3,
    fun c => val_main_v90 (F := Ideal) (given m c).p (given m c).m3,
    fun c => val_main_v96 (F := Ideal) (given m c).p (given m c).v3,
    fun c => val_main_v11 (F := Ideal) (given m c).p,
    fun c => val_main_v133 (F := Ideal) (given m c).p (given m c).w4 (given m c).m4 (given m c).v4,
    fun c => val_main_v114 (F := Ideal) (given m c).p (given m c).m4,
    fun c => val_main_v120 (F := Ideal) (given m c).p (given m c).v4,
    fun c => val_main_v13 (F := Ideal) (given m c).p,
    fun c => val_main_v157 (F := Ideal) (given m c).p (given m c).w5 (given m c).m5 (given m c).v5,
    fun c => val_main_v138 (F := Ideal) (given m c).p (given m c).m5,
    fun c => val_main_v144 (F := Ideal) (given m c).p (given m c).v5,
    fun c => val_main_v167 (F := Ideal) (given m c).p,
    fun c => val_main_v169 (F := Ideal) (given m c).p, ?_, ?_⟩
  · refine (θ_run _ _ _).mono (fun r h c => ?_) (kernel_run m g)
    obtain ⟨h0, h1, h2, h3, h4, h5, h6, h7, h8, h9, h10, h11, h12, h13, h14, h15, h16, h17, h18, h19, h20, h21, h22, h23, h24, h25, h⟩ := h c
    exact ⟨h0.trans (final19 m c),
      h1.trans (final20 m c),
      h2.trans (final21 m c),
      h3.trans (final22 m c),
      h4.trans (final23 m c),
      h5.trans (final24 m c),
      h6.trans (final25 m c),
      h7.trans (final26 m c),
      h8.trans (final27 m c),
      h9.trans (final28 m c),
      h10.trans (final29 m c),
      h11.trans (final30 m c),
      h12.trans (final31 m c),
      h13.trans (final32 m c),
      h14.trans (final33 m c),
      h15.trans (final34 m c),
      h16.trans (final35 m c),
      h17.trans (final36 m c),
      h18.trans (final37 m c),
      h19.trans (final38 m c),
      h20.trans (final39 m c),
      h21.trans (final40 m c),
      h22.trans (final41 m c),
      h23.trans (final42 m c),
      h24.trans (final43 m c),
      h25.trans (final44 m c), h⟩
  · refine (θ_run _ _ _).mono (fun r h c => ?_) (Cert.SmallIdeal.Value.run m' g')
    obtain ⟨h0, h1, h2, h3, h4, h5, h6, h7, h8, h9, h10, h11, h12, h13, h14, h15, h16, h17, h18, h19, h20, h21, h22, h23, h24, h25, h⟩ := h c
    obtain ⟨e0, e1, e2, e3, e4, e5, e6, e7, e8, e9, e10, e11, e12, e13, e14, e15, e16, e17, e18⟩ := agree c
    refine ⟨(h0.trans (val_main_v3_eq _)).trans ?_,
      (h1.trans (val_main_v37_eq _)).trans ?_,
      (h2.trans (val_main_v18_eq _)).trans ?_,
      (h3.trans (val_main_v24_eq _)).trans ?_,
      (h4.trans (val_main_v5_eq _)).trans ?_,
      (h5.trans (val_main_v61_eq _)).trans ?_,
      (h6.trans (val_main_v42_eq _)).trans ?_,
      (h7.trans (val_main_v48_eq _)).trans ?_,
      (h8.trans (val_main_v7_eq _)).trans ?_,
      (h9.trans (val_main_v85_eq _)).trans ?_,
      (h10.trans (val_main_v66_eq _)).trans ?_,
      (h11.trans (val_main_v72_eq _)).trans ?_,
      (h12.trans (val_main_v9_eq _)).trans ?_,
      (h13.trans (val_main_v109_eq _)).trans ?_,
      (h14.trans (val_main_v90_eq _)).trans ?_,
      (h15.trans (val_main_v96_eq _)).trans ?_,
      (h16.trans (val_main_v11_eq _)).trans ?_,
      (h17.trans (val_main_v133_eq _)).trans ?_,
      (h18.trans (val_main_v114_eq _)).trans ?_,
      (h19.trans (val_main_v120_eq _)).trans ?_,
      (h20.trans (val_main_v13_eq _)).trans ?_,
      (h21.trans (val_main_v157_eq _)).trans ?_,
      (h22.trans (val_main_v138_eq _)).trans ?_,
      (h23.trans (val_main_v144_eq _)).trans ?_,
      (h24.trans (val_main_v167_eq _)).trans ?_,
      (h25.trans (val_main_v169_eq _)).trans ?_, h⟩
    · exact congrArg (val_main_v3 (F := Ideal)) e0
    · exact congr (congr (congrArg₂ (val_main_v37 (F := Ideal)) e0 e1) e7) e13
    · exact congrArg₂ (val_main_v18 (F := Ideal)) e0 e7
    · exact congrArg₂ (val_main_v24 (F := Ideal)) e0 e13
    · exact congrArg (val_main_v5 (F := Ideal)) e0
    · exact congr (congr (congrArg₂ (val_main_v61 (F := Ideal)) e0 e2) e8) e14
    · exact congrArg₂ (val_main_v42 (F := Ideal)) e0 e8
    · exact congrArg₂ (val_main_v48 (F := Ideal)) e0 e14
    · exact congrArg (val_main_v7 (F := Ideal)) e0
    · exact congr (congr (congrArg₂ (val_main_v85 (F := Ideal)) e0 e3) e9) e15
    · exact congrArg₂ (val_main_v66 (F := Ideal)) e0 e9
    · exact congrArg₂ (val_main_v72 (F := Ideal)) e0 e15
    · exact congrArg (val_main_v9 (F := Ideal)) e0
    · exact congr (congr (congrArg₂ (val_main_v109 (F := Ideal)) e0 e4) e10) e16
    · exact congrArg₂ (val_main_v90 (F := Ideal)) e0 e10
    · exact congrArg₂ (val_main_v96 (F := Ideal)) e0 e16
    · exact congrArg (val_main_v11 (F := Ideal)) e0
    · exact congr (congr (congrArg₂ (val_main_v133 (F := Ideal)) e0 e5) e11) e17
    · exact congrArg₂ (val_main_v114 (F := Ideal)) e0 e11
    · exact congrArg₂ (val_main_v120 (F := Ideal)) e0 e17
    · exact congrArg (val_main_v13 (F := Ideal)) e0
    · exact congr (congr (congrArg₂ (val_main_v157 (F := Ideal)) e0 e6) e12) e18
    · exact congrArg₂ (val_main_v138 (F := Ideal)) e0 e12
    · exact congrArg₂ (val_main_v144 (F := Ideal)) e0 e18
    · exact congrArg (val_main_v167 (F := Ideal)) e0
    · exact congrArg (val_main_v169 (F := Ideal)) e0
end Reference

end Cert.SmallClaim

end
-- ==== Proof.lean ====
module

public import proofs.«01_k».proof.Defs
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnBwdIdeal.Value
public import proofs.«01_k».proof.Proof.Gen.FfnGradIdeal
public import proofs.«01_k».proof.Proof.Gen.FfnGradIdeal.Run
public import proofs.«01_k».proof.Proof.Gen.FfnGradIdeal.Read
public import proofs.«01_k».proof.Proof.FfnClaim
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdIdeal.Value
public import proofs.«01_k».proof.Proof.Gen.FfnLossIdeal
public import proofs.«01_k».proof.Proof.Gen.FfnLossIdeal.Run
public import proofs.«01_k».proof.Proof.Gen.FfnLossIdeal.Read
public import proofs.«01_k».proof.Proof.FfnFwdClaim
public import proofs.«01_k».proof.Proof.Gen.FfnMid
public import proofs.«01_k».proof.Proof.Gen.FfnMid.Frame
public import proofs.«01_k».proof.Proof.Gen.FfnMidIdeal
public import proofs.«01_k».proof.Proof.Gen.FfnMidIdeal.Frame
public import proofs.«01_k».proof.Proof.Gen.FfnMidIdeal.Value
public import proofs.«01_k».proof.Proof.Gen.FfnIdeal
public import proofs.«01_k».proof.Proof.Gen.FfnIdeal.Run
public import proofs.«01_k».proof.Proof.Gen.FfnIdeal.Read
public import proofs.«01_k».proof.Proof.FfnMidClaim
public import proofs.«01_k».proof.Proof.Gen.WinBwd
public import proofs.«01_k».proof.Proof.Gen.WinBwd.Frame
public import proofs.«01_k».proof.Proof.Gen.WinBwdIdeal
public import proofs.«01_k».proof.Proof.Gen.WinBwdIdeal.Frame
public import proofs.«01_k».proof.Proof.Gen.WinBwdIdeal.Value
public import proofs.«01_k».proof.Proof.Gen.WinGradIdeal
public import proofs.«01_k».proof.Proof.Gen.WinGradIdeal.Run
public import proofs.«01_k».proof.Proof.Gen.WinGradIdeal.Read
public import proofs.«01_k».proof.Proof.WinClaim
public import proofs.«01_k».proof.Proof.Gen.WoutBwd
public import proofs.«01_k».proof.Proof.Gen.WoutBwd.Frame
public import proofs.«01_k».proof.Proof.Gen.WoutBwdIdeal
public import proofs.«01_k».proof.Proof.Gen.WoutBwdIdeal.Frame
public import proofs.«01_k».proof.Proof.Gen.WoutBwdIdeal.Value
public import proofs.«01_k».proof.Proof.Gen.WoutGradIdeal
public import proofs.«01_k».proof.Proof.Gen.WoutGradIdeal.Run
public import proofs.«01_k».proof.Proof.Gen.WoutGradIdeal.Read
public import proofs.«01_k».proof.Proof.WoutClaim
public import proofs.«01_k».proof.Proof.Gen.InprojFwd
public import proofs.«01_k».proof.Proof.Gen.InprojFwd.Frame
public import proofs.«01_k».proof.Proof.Gen.InprojFwdIdeal
public import proofs.«01_k».proof.Proof.Gen.InprojFwdIdeal.Frame
public import proofs.«01_k».proof.Proof.Gen.InprojFwdIdeal.Value
public import proofs.«01_k».proof.Proof.Gen.InprojIdeal
public import proofs.«01_k».proof.Proof.Gen.InprojIdeal.Run
public import proofs.«01_k».proof.Proof.Gen.InprojIdeal.Read
public import proofs.«01_k».proof.Proof.InprojFwdClaim
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Frame
public import proofs.«01_k».proof.Proof.Gen.MixFwdIdeal.Value
public import proofs.«01_k».proof.Proof.Gen.MixIdeal
public import proofs.«01_k».proof.Proof.Gen.MixIdeal.Run
public import proofs.«01_k».proof.Proof.Gen.MixIdeal.Read
public import proofs.«01_k».proof.Proof.MixFwdClaim
public import proofs.«01_k».proof.Proof.Gen.MixBwd
public import proofs.«01_k».proof.Proof.Gen.MixBwdIdeal
public import proofs.«01_k».proof.Proof.Gen.MixGradIdeal
public import proofs.«01_k».proof.Proof.Gen.MixGradIdeal.Run
public import proofs.«01_k».proof.Proof.Gen.MixGradIdeal.Read
public import proofs.«01_k».proof.Proof.MixBwdBits
public import proofs.«01_k».proof.Proof.MixBwdClaim
public import proofs.«01_k».proof.Proof.TapsClaim
public import proofs.«01_k».proof.Proof.WoutStepClaim
public import proofs.«01_k».proof.Proof.WinStepClaim
public import proofs.«01_k».proof.Proof.WdownStepClaim
public import proofs.«01_k».proof.Proof.WguStepClaim
public import proofs.«01_k».proof.Proof.Gen.SmallStep
public import proofs.«01_k».proof.Proof.Gen.SmallStepIdeal
public import proofs.«01_k».proof.Proof.Gen.SmallIdeal
public import proofs.«01_k».proof.Proof.SmallBits
public import proofs.«01_k».proof.Proof.SmallClaim
public import proofs.«01_k».proof.Proof.Gen.TapsStep
public import proofs.«01_k».proof.Proof.Gen.TapsStep.Frame
public import proofs.«01_k».proof.Proof.Gen.TapsStepIdeal
public import proofs.«01_k».proof.Proof.Gen.TapsStepIdeal.Frame
public import proofs.«01_k».proof.Proof.Gen.TapsStepIdeal.Value
public import proofs.«01_k».proof.Proof.Gen.TapsIdeal
public import proofs.«01_k».proof.Proof.Gen.TapsIdeal.Run
public import proofs.«01_k».proof.Proof.Gen.TapsIdeal.Read
public import proofs.«01_k».proof.Proof.Gen.WoutStep
public import proofs.«01_k».proof.Proof.Gen.WoutStep.Frame
public import proofs.«01_k».proof.Proof.Gen.WoutStepIdeal
public import proofs.«01_k».proof.Proof.Gen.WoutStepIdeal.Frame
public import proofs.«01_k».proof.Proof.Gen.WoutStepIdeal.Value
public import proofs.«01_k».proof.Proof.Gen.WoutIdeal
public import proofs.«01_k».proof.Proof.Gen.WoutIdeal.Run
public import proofs.«01_k».proof.Proof.Gen.WoutIdeal.Read
public import proofs.«01_k».proof.Proof.Gen.WinStep
public import proofs.«01_k».proof.Proof.Gen.WinStep.Frame
public import proofs.«01_k».proof.Proof.Gen.WinStepIdeal
public import proofs.«01_k».proof.Proof.Gen.WinStepIdeal.Frame
public import proofs.«01_k».proof.Proof.Gen.WinStepIdeal.Value
public import proofs.«01_k».proof.Proof.Gen.WinIdeal
public import proofs.«01_k».proof.Proof.Gen.WinIdeal.Run
public import proofs.«01_k».proof.Proof.Gen.WinIdeal.Read
public import proofs.«01_k».proof.Proof.Gen.WdownStep
public import proofs.«01_k».proof.Proof.Gen.WdownStep.Frame
public import proofs.«01_k».proof.Proof.Gen.WdownStepIdeal
public import proofs.«01_k».proof.Proof.Gen.WdownStepIdeal.Frame
public import proofs.«01_k».proof.Proof.Gen.WdownStepIdeal.Value
public import proofs.«01_k».proof.Proof.Gen.WdownIdeal
public import proofs.«01_k».proof.Proof.Gen.WdownIdeal.Run
public import proofs.«01_k».proof.Proof.Gen.WdownIdeal.Read
public import proofs.«01_k».proof.Proof.Gen.WguStep
public import proofs.«01_k».proof.Proof.Gen.WguStep.Frame
public import proofs.«01_k».proof.Proof.Gen.WguStepIdeal
public import proofs.«01_k».proof.Proof.Gen.WguStepIdeal.Frame
public import proofs.«01_k».proof.Proof.Gen.WguStepIdeal.Value
public import proofs.«01_k».proof.Proof.Gen.WguIdeal
public import proofs.«01_k».proof.Proof.Gen.WguIdeal.Run
public import proofs.«01_k».proof.Proof.Gen.WguIdeal.Read

@[expose] public section

noncomputable section

namespace Cert.Proof

open Idealize.ShloMosaic Idealize.SL.Sem

theorem claim : Cert.Claim := ⟨Cert.FfnBwd.Gen.facts, Cert.FfnBwdIdeal.Gen.facts, Cert.FfnGradIdeal.Gen.facts,
  Cert.FfnFwd.Gen.facts, Cert.FfnFwdIdeal.Gen.facts, Cert.FfnLossIdeal.Gen.facts,
  Cert.FfnMid.Gen.facts, Cert.FfnMidIdeal.Gen.facts, Cert.FfnIdeal.Gen.facts,
  Cert.WinBwd.Gen.facts, Cert.WinBwdIdeal.Gen.facts, Cert.WinGradIdeal.Gen.facts,
  Cert.WoutBwd.Gen.facts, Cert.WoutBwdIdeal.Gen.facts, Cert.WoutGradIdeal.Gen.facts,
  Cert.InprojFwd.Gen.facts, Cert.InprojFwdIdeal.Gen.facts, Cert.InprojIdeal.Gen.facts,
  Cert.MixFwd.Gen.facts, Cert.MixFwdIdeal.Gen.facts, Cert.MixIdeal.Gen.facts,
  Cert.MixBwd.Gen.facts, Cert.MixBwdIdeal.Gen.facts, Cert.MixGradIdeal.Gen.facts,
  Cert.TapsStep.Gen.facts, Cert.TapsStepIdeal.Gen.facts, Cert.TapsIdeal.Gen.facts,
  Cert.WoutStep.Gen.facts, Cert.WoutStepIdeal.Gen.facts, Cert.WoutIdeal.Gen.facts,
  Cert.WinStep.Gen.facts, Cert.WinStepIdeal.Gen.facts, Cert.WinIdeal.Gen.facts,
  Cert.WdownStep.Gen.facts, Cert.WdownStepIdeal.Gen.facts, Cert.WdownIdeal.Gen.facts,
  Cert.WguStep.Gen.facts, Cert.WguStepIdeal.Gen.facts, Cert.WguIdeal.Gen.facts,
  Cert.SmallStep.Gen.facts, Cert.SmallStepIdeal.Gen.facts, Cert.SmallIdeal.Gen.facts,
  Cert.FfnPre.facts, Cert.MixPre.facts,
  fun m ρ _ => Cert.FfnBwd.Gen.frame m ρ,
  fun m ρ _ => Cert.FfnBwdIdeal.Gen.frame m ρ,
  fun m ρ _ => Cert.FfnBwdIdeal.Gen.frame m ρ,
  fun m ρ _ => Cert.FfnClaim.reference_frame m ρ,
  fun m ρ _ => Cert.FfnClaim.reference_frame m ρ,
  fun m ρ _ => Cert.FfnFwd.Gen.frame m ρ,
  fun m ρ _ => Cert.FfnFwdIdeal.Gen.frame m ρ,
  fun m ρ _ => Cert.FfnFwdClaim.reference_frame m ρ,
  fun m ρ _ => Cert.FfnMid.Gen.frame m ρ,
  fun m ρ _ => Cert.FfnMidIdeal.Gen.frame m ρ,
  fun m ρ _ => Cert.FfnMidClaim.reference_frame m ρ,
  fun m ρ _ => Cert.WinBwd.Gen.frame m ρ,
  fun m ρ _ => Cert.WinBwdIdeal.Gen.frame m ρ,
  fun m ρ _ => Cert.WinClaim.reference_frame m ρ,
  fun m ρ _ => Cert.WoutBwd.Gen.frame m ρ,
  fun m ρ _ => Cert.WoutBwdIdeal.Gen.frame m ρ,
  fun m ρ _ => Cert.WoutClaim.reference_frame m ρ,
  fun m ρ _ => Cert.InprojFwd.Gen.frame m ρ,
  fun m ρ _ => Cert.InprojFwdIdeal.Gen.frame m ρ,
  fun m ρ _ => Cert.InprojFwdClaim.reference_frame m ρ,
  fun m ρ _ => Cert.MixFwd.Gen.frame m ρ,
  fun m ρ _ => Cert.MixFwdIdeal.Gen.frame m ρ,
  fun m ρ _ => Cert.MixFwdClaim.reference_frame m ρ,
  Cert.MixBwdBits.frame,
  fun m ρ _ => Cert.MixBwdRun.frame (F := Ideal) m ρ,
  fun m ρ _ => Cert.MixBwdRun.frame (F := Ideal) m ρ,
  fun m ρ _ => Cert.MixBwdClaim.reference_frame m ρ,
  fun m ρ _ => Cert.MixBwdClaim.reference_frame m ρ,
  fun m ρ _ => Cert.TapsStep.Gen.frame m ρ,
  fun m ρ _ => Cert.TapsStepIdeal.Gen.frame m ρ,
  fun m ρ _ => Cert.TapsClaim.reference_frame m ρ,
  fun m ρ _ => Cert.WoutStep.Gen.frame m ρ,
  fun m ρ _ => Cert.WoutStepIdeal.Gen.frame m ρ,
  fun m ρ _ => Cert.WoutStepClaim.reference_frame m ρ,
  fun m ρ _ => Cert.WinStep.Gen.frame m ρ,
  fun m ρ _ => Cert.WinStepIdeal.Gen.frame m ρ,
  fun m ρ _ => Cert.WinStepClaim.reference_frame m ρ,
  fun m ρ _ => Cert.WdownStep.Gen.frame m ρ,
  fun m ρ _ => Cert.WdownStepIdeal.Gen.frame m ρ,
  fun m ρ _ => Cert.WdownStepClaim.reference_frame m ρ,
  fun m ρ _ => Cert.WguStep.Gen.frame m ρ,
  fun m ρ _ => Cert.WguStepIdeal.Gen.frame m ρ,
  fun m ρ _ => Cert.WguStepClaim.reference_frame m ρ,
  Cert.SmallBits.frame,
  fun m ρ _ => Cert.SmallRun.frame (F := Ideal) m ρ,
  fun m ρ _ => Cert.SmallClaim.reference_frame m ρ,
  trivial,
  Cert.FfnClaim.algebraic,
  trivial,
  Cert.FfnFwdClaim.algebraic,
  trivial,
  Cert.FfnMidClaim.algebraic,
  trivial,
  Cert.WinClaim.algebraic,
  trivial,
  Cert.WoutClaim.algebraic,
  trivial,
  Cert.InprojFwdClaim.algebraic,
  trivial,
  Cert.MixFwdClaim.algebraic,
  trivial,
  Cert.MixBwdClaim.algebraic,
  trivial,
  Cert.TapsClaim.algebraic,
  trivial,
  Cert.WoutStepClaim.algebraic,
  trivial,
  Cert.WinStepClaim.algebraic,
  trivial,
  Cert.WdownStepClaim.algebraic,
  trivial,
  Cert.WguStepClaim.algebraic,
  trivial,
  Cert.SmallClaim.algebraic⟩

end Cert.Proof

end
